-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutReferenceIdeal (m : (ℓ : Loc Cert.RwkvOutReferenceIdeal.nD Cert.RwkvOutReferenceIdeal.τ Cert.RwkvOutReferenceIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutReferenceIdeal (m : (ℓ : Loc Cert.GdnOutReferenceIdeal.nD Cert.GdnOutReferenceIdeal.τ Cert.GdnOutReferenceIdeal.sig) → Buf (Elt Ideal) ℓ) : Prop :=
  True

def Pre_GdnProj (m : (ℓ : Loc Cert.GdnProj.nD Cert.GdnProj.τ Cert.GdnProj.sig) → Buf (Elt Bits) ℓ) : Prop :=
  True

def Pre_GdnProjIdeal (m : (ℓ : Loc Cert.GdnProjIdeal.nD Cert.GdnProjIdeal.τ Cert.GdnProjIdeal.sig) → Buf (Elt Ideal) ℓ) : Prop :=
  True

def Pre_GdnProjReferenceIdeal (m : (ℓ : Loc Cert.GdnProjReferenceIdeal.nD Cert.GdnProjReferenceIdeal.τ Cert.GdnProjReferenceIdeal.sig) → Buf (Elt Ideal) ℓ) : Prop :=
  True

def Pre_RwkvFirst (m : (ℓ : Loc Cert.RwkvFirst.nD Cert.RwkvFirst.τ Cert.RwkvFirst.sig) → Buf (Elt Bits) ℓ) : Prop :=
  True

def Pre_RwkvFirstIdeal (m : (ℓ : Loc Cert.RwkvFirstIdeal.nD Cert.RwkvFirstIdeal.τ Cert.RwkvFirstIdeal.sig) → Buf (Elt Ideal) ℓ) : Prop :=
  True

def Pre_RwkvFirstReferenceIdeal (m : (ℓ : Loc Cert.RwkvFirstReferenceIdeal.nD Cert.RwkvFirstReferenceIdeal.τ Cert.RwkvFirstReferenceIdeal.sig) → Buf (Elt Ideal) ℓ) : Prop :=
  True

def Pre_RwkvNext (m : (ℓ : Loc Cert.RwkvNext.nD Cert.RwkvNext.τ Cert.RwkvNext.sig) → Buf (Elt Bits) ℓ) : Prop :=
  True

def Pre_RwkvNextIdeal (m : (ℓ : Loc Cert.RwkvNextIdeal.nD Cert.RwkvNextIdeal.τ Cert.RwkvNextIdeal.sig) → Buf (Elt Ideal) ℓ) : Prop :=
  True

def Pre_RwkvNextReferenceIdeal (m : (ℓ : Loc Cert.RwkvNextReferenceIdeal.nD Cert.RwkvNextReferenceIdeal.τ Cert.RwkvNextReferenceIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2)
      ∧ r.2.mem ((c.tc : Thread Cert.RwkvOut.nD Cert.RwkvOut.τ).loc Cert.RwkvOut.main_arg3) = m ((c.tc : Thread Cert.RwkvOut.nD Cert.RwkvOut.τ).loc Cert.RwkvOut.main_arg3)
      ∧ r.2.mem ((c.tc : Thread Cert.RwkvOut.nD Cert.RwkvOut.τ).loc Cert.RwkvOut.main_arg4) = m ((c.tc : Thread Cert.RwkvOut.nD Cert.RwkvOut.τ).loc Cert.RwkvOut.main_arg4))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
      ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ r.2.sem = fun _ => 0)

def quiescent_RwkvOutReferenceIdeal [hRwkvOutReferenceIdeal : Cert.RwkvOutReferenceIdeal.Facts] : Prop :=
  ∀ (m : (ℓ : Loc Cert.RwkvOutReferenceIdeal.nD Cert.RwkvOutReferenceIdeal.τ Cert.RwkvOutReferenceIdeal.sig) → Buf (Elt Ideal) ℓ) (g : Dev Cert.RwkvOutReferenceIdeal.nD → PrngReg), Pre_RwkvOutReferenceIdeal m →
    θ_run (Cert.RwkvOutReferenceIdeal.defs (F := Ideal)) (onTc (τ := Cert.RwkvOutReferenceIdeal.τ) (Cert.RwkvOutReferenceIdeal.main (F := Ideal))) ⟨m, fun _ => 0, g⟩ (fun r => (∀ c : Dev Cert.RwkvOutReferenceIdeal.nD,
      r.2.mem ((c.tc : Thread Cert.RwkvOutReferenceIdeal.nD Cert.RwkvOutReferenceIdeal.τ).loc Cert.RwkvOutReferenceIdeal.main_arg0) = m ((c.tc : Thread Cert.RwkvOutReferenceIdeal.nD Cert.RwkvOutReferenceIdeal.τ).loc Cert.RwkvOutReferenceIdeal.main_arg0)
      ∧ r.2.mem ((c.tc : Thread Cert.RwkvOutReferenceIdeal.nD Cert.RwkvOutReferenceIdeal.τ).loc Cert.RwkvOutReferenceIdeal.main_arg1) = m ((c.tc : Thread Cert.RwkvOutReferenceIdeal.nD Cert.RwkvOutReferenceIdeal.τ).loc Cert.RwkvOutReferenceIdeal.main_arg1)
      ∧ r.2.mem ((c.tc : Thread Cert.RwkvOutReferenceIdeal.nD Cert.RwkvOutReferenceIdeal.τ).loc Cert.RwkvOutReferenceIdeal.main_arg2) = m ((c.tc : Thread Cert.RwkvOutReferenceIdeal.nD Cert.RwkvOutReferenceIdeal.τ).loc Cert.RwkvOutReferenceIdeal.main_arg2)
      ∧ r.2.mem ((c.tc : Thread Cert.RwkvOutReferenceIdeal.nD Cert.RwkvOutReferenceIdeal.τ).loc Cert.RwkvOutReferenceIdeal.main_arg3) = m ((c.tc : Thread Cert.RwkvOutReferenceIdeal.nD Cert.RwkvOutReferenceIdeal.τ).loc Cert.RwkvOutReferenceIdeal.main_arg3)
      ∧ r.2.mem ((c.tc : Thread Cert.RwkvOutReferenceIdeal.nD Cert.RwkvOutReferenceIdeal.τ).loc Cert.RwkvOutReferenceIdeal.main_arg4) = m ((c.tc : Thread Cert.RwkvOutReferenceIdeal.nD Cert.RwkvOutReferenceIdeal.τ).loc Cert.RwkvOutReferenceIdeal.main_arg4))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ r.2.sem = fun _ => 0)

def quiescent_GdnOutReferenceIdeal [hGdnOutReferenceIdeal : Cert.GdnOutReferenceIdeal.Facts] : Prop :=
  ∀ (m : (ℓ : Loc Cert.GdnOutReferenceIdeal.nD Cert.GdnOutReferenceIdeal.τ Cert.GdnOutReferenceIdeal.sig) → Buf (Elt Ideal) ℓ) (g : Dev Cert.GdnOutReferenceIdeal.nD → PrngReg), Pre_GdnOutReferenceIdeal m →
    θ_run (Cert.GdnOutReferenceIdeal.defs (F := Ideal)) (onTc (τ := Cert.GdnOutReferenceIdeal.τ) (Cert.GdnOutReferenceIdeal.main (F := Ideal))) ⟨m, fun _ => 0, g⟩ (fun r => (∀ c : Dev Cert.GdnOutReferenceIdeal.nD,
      r.2.mem ((c.tc : Thread Cert.GdnOutReferenceIdeal.nD Cert.GdnOutReferenceIdeal.τ).loc Cert.GdnOutReferenceIdeal.main_arg0) = m ((c.tc : Thread Cert.GdnOutReferenceIdeal.nD Cert.GdnOutReferenceIdeal.τ).loc Cert.GdnOutReferenceIdeal.main_arg0)
      ∧ r.2.mem ((c.tc : Thread Cert.GdnOutReferenceIdeal.nD Cert.GdnOutReferenceIdeal.τ).loc Cert.GdnOutReferenceIdeal.main_arg1) = m ((c.tc : Thread Cert.GdnOutReferenceIdeal.nD Cert.GdnOutReferenceIdeal.τ).loc Cert.GdnOutReferenceIdeal.main_arg1)
      ∧ r.2.mem ((c.tc : Thread Cert.GdnOutReferenceIdeal.nD Cert.GdnOutReferenceIdeal.τ).loc Cert.GdnOutReferenceIdeal.main_arg2) = m ((c.tc : Thread Cert.GdnOutReferenceIdeal.nD Cert.GdnOutReferenceIdeal.τ).loc Cert.GdnOutReferenceIdeal.main_arg2)
      ∧ r.2.mem ((c.tc : Thread Cert.GdnOutReferenceIdeal.nD Cert.GdnOutReferenceIdeal.τ).loc Cert.GdnOutReferenceIdeal.main_arg3) = m ((c.tc : Thread Cert.GdnOutReferenceIdeal.nD Cert.GdnOutReferenceIdeal.τ).loc Cert.GdnOutReferenceIdeal.main_arg3))
      ∧ r.2.sem = fun _ => 0)

def quiescent_GdnProj [hGdnProj : Cert.GdnProj.Facts] : Prop :=
  ∀ (m : (ℓ : Loc Cert.GdnProj.nD Cert.GdnProj.τ Cert.GdnProj.sig) → Buf (Elt Bits) ℓ) (g : Dev Cert.GdnProj.nD → PrngReg), Pre_GdnProj m →
    θ_run (Cert.GdnProj.defs (F := Bits)) (onTc (τ := Cert.GdnProj.τ) (Cert.GdnProj.main (F := Bits))) ⟨m, fun _ => 0, g⟩ (fun r => (∀ c : Dev Cert.GdnProj.nD,
      r.2.mem ((c.tc : Thread Cert.GdnProj.nD Cert.GdnProj.τ).loc Cert.GdnProj.main_arg0) = m ((c.tc : Thread Cert.GdnProj.nD Cert.GdnProj.τ).loc Cert.GdnProj.main_arg0)
      ∧ r.2.mem ((c.tc : Thread Cert.GdnProj.nD Cert.GdnProj.τ).loc Cert.GdnProj.main_arg1) = m ((c.tc : Thread Cert.GdnProj.nD Cert.GdnProj.τ).loc Cert.GdnProj.main_arg1)
      ∧ r.2.mem ((c.tc : Thread Cert.GdnProj.nD Cert.GdnProj.τ).loc Cert.GdnProj.main_arg2) = m ((c.tc : Thread Cert.GdnProj.nD Cert.GdnProj.τ).loc Cert.GdnProj.main_arg2)
      ∧ r.2.mem ((c.tc : Thread Cert.GdnProj.nD Cert.GdnProj.τ).loc Cert.GdnProj.main_arg3) = m ((c.tc : Thread Cert.GdnProj.nD Cert.GdnProj.τ).loc Cert.GdnProj.main_arg3)
      ∧ r.2.mem ((c.tc : Thread Cert.GdnProj.nD Cert.GdnProj.τ).loc Cert.GdnProj.main_arg4) = m ((c.tc : Thread Cert.GdnProj.nD Cert.GdnProj.τ).loc Cert.GdnProj.main_arg4)
      ∧ r.2.mem ((c.tc : Thread Cert.GdnProj.nD Cert.GdnProj.τ).loc Cert.GdnProj.main_arg5) = m ((c.tc : Thread Cert.GdnProj.nD Cert.GdnProj.τ).loc Cert.GdnProj.main_arg5)
      ∧ r.2.mem ((c.tc : Thread Cert.GdnProj.nD Cert.GdnProj.τ).loc Cert.GdnProj.main_arg6) = m ((c.tc : Thread Cert.GdnProj.nD Cert.GdnProj.τ).loc Cert.GdnProj.main_arg6)
      ∧ r.2.mem ((c.tc : Thread Cert.GdnProj.nD Cert.GdnProj.τ).loc Cert.GdnProj.main_arg7) = m ((c.tc : Thread Cert.GdnProj.nD Cert.GdnProj.τ).loc Cert.GdnProj.main_arg7))
      ∧ r.2.sem = fun _ => 0)

def quiescent_GdnProjIdeal [hGdnProjIdeal : Cert.GdnProjIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg), Pre_GdnProjIdeal m →
    θ_run (Cert.GdnProjIdeal.defs (F := Ideal)) (onTc (τ := Cert.GdnProjIdeal.τ) (Cert.GdnProjIdeal.main (F := Ideal))) ⟨m, fun _ => 0, g⟩ (fun r => (∀ c : Dev Cert.GdnProjIdeal.nD,
      r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
      ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
      ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2)
      ∧ r.2.mem ((c.tc : Thread Cert.GdnProjIdeal.nD Cert.GdnProjIdeal.τ).loc Cert.GdnProjIdeal.main_arg3) = m ((c.tc : Thread Cert.GdnProjIdeal.nD Cert.GdnProjIdeal.τ).loc Cert.GdnProjIdeal.main_arg3)
      ∧ r.2.mem ((c.tc : Thread Cert.GdnProjIdeal.nD Cert.GdnProjIdeal.τ).loc Cert.GdnProjIdeal.main_arg4) = m ((c.tc : Thread Cert.GdnProjIdeal.nD Cert.GdnProjIdeal.τ).loc Cert.GdnProjIdeal.main_arg4)
      ∧ r.2.mem ((c.tc : Thread Cert.GdnProjIdeal.nD Cert.GdnProjIdeal.τ).loc Cert.GdnProjIdeal.main_arg5) = m ((c.tc : Thread Cert.GdnProjIdeal.nD Cert.GdnProjIdeal.τ).loc Cert.GdnProjIdeal.main_arg5)
      ∧ r.2.mem ((c.tc : Thread Cert.GdnProjIdeal.nD Cert.GdnProjIdeal.τ).loc Cert.GdnProjIdeal.main_arg6) = m ((c.tc : Thread Cert.GdnProjIdeal.nD Cert.GdnProjIdeal.τ).loc Cert.GdnProjIdeal.main_arg6)
      ∧ r.2.mem ((c.tc : Thread Cert.GdnProjIdeal.nD Cert.GdnProjIdeal.τ).loc Cert.GdnProjIdeal.main_arg7) = m ((c.tc : Thread Cert.GdnProjIdeal.nD Cert.GdnProjIdeal.τ).loc Cert.GdnProjIdeal.main_arg7))
      ∧ r.2.sem = fun _ => 0)

def quiescent_GdnProjReferenceIdeal [hGdnProjReferenceIdeal : Cert.GdnProjReferenceIdeal.Facts] : Prop :=
  ∀ (m : (ℓ : Loc Cert.GdnProjReferenceIdeal.nD Cert.GdnProjReferenceIdeal.τ Cert.GdnProjReferenceIdeal.sig) → Buf (Elt Ideal) ℓ) (g : Dev Cert.GdnProjReferenceIdeal.nD → PrngReg), Pre_GdnProjReferenceIdeal m →
    θ_run (Cert.GdnProjReferenceIdeal.defs (F := Ideal)) (onTc (τ := Cert.GdnProjReferenceIdeal.τ) (Cert.GdnProjReferenceIdeal.main (F := Ideal))) ⟨m, fun _ => 0, g⟩ (fun r => (∀ c : Dev Cert.GdnProjReferenceIdeal.nD,
      r.2.mem ((c.tc : Thread Cert.GdnProjReferenceIdeal.nD Cert.GdnProjReferenceIdeal.τ).loc Cert.GdnProjReferenceIdeal.main_arg0) = m ((c.tc : Thread Cert.GdnProjReferenceIdeal.nD Cert.GdnProjReferenceIdeal.τ).loc Cert.GdnProjReferenceIdeal.main_arg0)
      ∧ r.2.mem ((c.tc : Thread Cert.GdnProjReferenceIdeal.nD Cert.GdnProjReferenceIdeal.τ).loc Cert.GdnProjReferenceIdeal.main_arg1) = m ((c.tc : Thread Cert.GdnProjReferenceIdeal.nD Cert.GdnProjReferenceIdeal.τ).loc Cert.GdnProjReferenceIdeal.main_arg1)
      ∧ r.2.mem ((c.tc : Thread Cert.GdnProjReferenceIdeal.nD Cert.GdnProjReferenceIdeal.τ).loc Cert.GdnProjReferenceIdeal.main_arg2) = m ((c.tc : Thread Cert.GdnProjReferenceIdeal.nD Cert.GdnProjReferenceIdeal.τ).loc Cert.GdnProjReferenceIdeal.main_arg2)
      ∧ r.2.mem ((c.tc : Thread Cert.GdnProjReferenceIdeal.nD Cert.GdnProjReferenceIdeal.τ).loc Cert.GdnProjReferenceIdeal.main_arg3) = m ((c.tc : Thread Cert.GdnProjReferenceIdeal.nD Cert.GdnProjReferenceIdeal.τ).loc Cert.GdnProjReferenceIdeal.main_arg3)
      ∧ r.2.mem ((c.tc : Thread Cert.GdnProjReferenceIdeal.nD Cert.GdnProjReferenceIdeal.τ).loc Cert.GdnProjReferenceIdeal.main_arg4) = m ((c.tc : Thread Cert.GdnProjReferenceIdeal.nD Cert.GdnProjReferenceIdeal.τ).loc Cert.GdnProjReferenceIdeal.main_arg4)
      ∧ r.2.mem ((c.tc : Thread Cert.GdnProjReferenceIdeal.nD Cert.GdnProjReferenceIdeal.τ).loc Cert.GdnProjReferenceIdeal.main_arg5) = m ((c.tc : Thread Cert.GdnProjReferenceIdeal.nD Cert.GdnProjReferenceIdeal.τ).loc Cert.GdnProjReferenceIdeal.main_arg5)
      ∧ r.2.mem ((c.tc : Thread Cert.GdnProjReferenceIdeal.nD Cert.GdnProjReferenceIdeal.τ).loc Cert.GdnProjReferenceIdeal.main_arg6) = m ((c.tc : Thread Cert.GdnProjReferenceIdeal.nD Cert.GdnProjReferenceIdeal.τ).loc Cert.GdnProjReferenceIdeal.main_arg6)
      ∧ r.2.mem ((c.tc : Thread Cert.GdnProjReferenceIdeal.nD Cert.GdnProjReferenceIdeal.τ).loc Cert.GdnProjReferenceIdeal.main_arg7) = m ((c.tc : Thread Cert.GdnProjReferenceIdeal.nD Cert.GdnProjReferenceIdeal.τ).loc Cert.GdnProjReferenceIdeal.main_arg7))
      ∧ r.2.sem = fun _ => 0)

def quiescent_RwkvFirst [hRwkvFirst : Cert.RwkvFirst.Facts] : Prop :=
  ∀ (m : (ℓ : Loc Cert.RwkvFirst.nD Cert.RwkvFirst.τ Cert.RwkvFirst.sig) → Buf (Elt Bits) ℓ) (g : Dev Cert.RwkvFirst.nD → PrngReg), Pre_RwkvFirst m →
    θ_run (Cert.RwkvFirst.defs (F := Bits)) (onTc (τ := Cert.RwkvFirst.τ) (Cert.RwkvFirst.main (F := Bits))) ⟨m, fun _ => 0, g⟩ (fun r => (∀ c : Dev Cert.RwkvFirst.nD,
      r.2.mem ((c.tc : Thread Cert.RwkvFirst.nD Cert.RwkvFirst.τ).loc Cert.RwkvFirst.main_arg0) = m ((c.tc : Thread Cert.RwkvFirst.nD Cert.RwkvFirst.τ).loc Cert.RwkvFirst.main_arg0)
      ∧ r.2.mem ((c.tc : Thread Cert.RwkvFirst.nD Cert.RwkvFirst.τ).loc Cert.RwkvFirst.main_arg1) = m ((c.tc : Thread Cert.RwkvFirst.nD Cert.RwkvFirst.τ).loc Cert.RwkvFirst.main_arg1)
      ∧ r.2.mem ((c.tc : Thread Cert.RwkvFirst.nD Cert.RwkvFirst.τ).loc Cert.RwkvFirst.main_arg2) = m ((c.tc : Thread Cert.RwkvFirst.nD Cert.RwkvFirst.τ).loc Cert.RwkvFirst.main_arg2)
      ∧ r.2.mem ((c.tc : Thread Cert.RwkvFirst.nD Cert.RwkvFirst.τ).loc Cert.RwkvFirst.main_arg3) = m ((c.tc : Thread Cert.RwkvFirst.nD Cert.RwkvFirst.τ).loc Cert.RwkvFirst.main_arg3)
      ∧ r.2.mem ((c.tc : Thread Cert.RwkvFirst.nD Cert.RwkvFirst.τ).loc Cert.RwkvFirst.main_arg4) = m ((c.tc : Thread Cert.RwkvFirst.nD Cert.RwkvFirst.τ).loc Cert.RwkvFirst.main_arg4)
      ∧ r.2.mem ((c.tc : Thread Cert.RwkvFirst.nD Cert.RwkvFirst.τ).loc Cert.RwkvFirst.main_arg5) = m ((c.tc : Thread Cert.RwkvFirst.nD Cert.RwkvFirst.τ).loc Cert.RwkvFirst.main_arg5)
      ∧ r.2.mem ((c.tc : Thread Cert.RwkvFirst.nD Cert.RwkvFirst.τ).loc Cert.RwkvFirst.main_arg6) = m ((c.tc : Thread Cert.RwkvFirst.nD Cert.RwkvFirst.τ).loc Cert.RwkvFirst.main_arg6)
      ∧ r.2.mem ((c.tc : Thread Cert.RwkvFirst.nD Cert.RwkvFirst.τ).loc Cert.RwkvFirst.main_arg7) = m ((c.tc : Thread Cert.RwkvFirst.nD Cert.RwkvFirst.τ).loc Cert.RwkvFirst.main_arg7)
      ∧ r.2.mem ((c.tc : Thread Cert.RwkvFirst.nD Cert.RwkvFirst.τ).loc Cert.RwkvFirst.main_arg8) = m ((c.tc : Thread Cert.RwkvFirst.nD Cert.RwkvFirst.τ).loc Cert.RwkvFirst.main_arg8)
      ∧ r.2.mem ((c.tc : Thread Cert.RwkvFirst.nD Cert.RwkvFirst.τ).loc Cert.RwkvFirst.main_arg9) = m ((c.tc : Thread Cert.RwkvFirst.nD Cert.RwkvFirst.τ).loc Cert.RwkvFirst.main_arg9))
      ∧ r.2.sem = fun _ => 0)

def quiescent_RwkvFirstIdeal [hRwkvFirstIdeal : Cert.RwkvFirstIdeal.Facts] : Prop :=
  ∀ (m : (ℓ : Loc Cert.RwkvFirstIdeal.nD Cert.RwkvFirstIdeal.τ Cert.RwkvFirstIdeal.sig) → Buf (Elt Ideal) ℓ) (g : Dev Cert.RwkvFirstIdeal.nD → PrngReg), Pre_RwkvFirstIdeal m →
    θ_run (Cert.RwkvFirstIdeal.defs (F := Ideal)) (onTc (τ := Cert.RwkvFirstIdeal.τ) (Cert.RwkvFirstIdeal.main (F := Ideal))) ⟨m, fun _ => 0, g⟩ (fun r => (∀ c : Dev Cert.RwkvFirstIdeal.nD,
      r.2.mem ((c.tc : Thread Cert.RwkvFirstIdeal.nD Cert.RwkvFirstIdeal.τ).loc Cert.RwkvFirstIdeal.main_arg0) = m ((c.tc : Thread Cert.RwkvFirstIdeal.nD Cert.RwkvFirstIdeal.τ).loc Cert.RwkvFirstIdeal.main_arg0)
      ∧ r.2.mem ((c.tc : Thread Cert.RwkvFirstIdeal.nD Cert.RwkvFirstIdeal.τ).loc Cert.RwkvFirstIdeal.main_arg1) = m ((c.tc : Thread Cert.RwkvFirstIdeal.nD Cert.RwkvFirstIdeal.τ).loc Cert.RwkvFirstIdeal.main_arg1)
      ∧ r.2.mem ((c.tc : Thread Cert.RwkvFirstIdeal.nD Cert.RwkvFirstIdeal.τ).loc Cert.RwkvFirstIdeal.main_arg2) = m ((c.tc : Thread Cert.RwkvFirstIdeal.nD Cert.RwkvFirstIdeal.τ).loc Cert.RwkvFirstIdeal.main_arg2)
      ∧ r.2.mem ((c.tc : Thread Cert.RwkvFirstIdeal.nD Cert.RwkvFirstIdeal.τ).loc Cert.RwkvFirstIdeal.main_arg3) = m ((c.tc : Thread Cert.RwkvFirstIdeal.nD Cert.RwkvFirstIdeal.τ).loc Cert.RwkvFirstIdeal.main_arg3)
      ∧ r.2.mem ((c.tc : Thread Cert.RwkvFirstIdeal.nD Cert.RwkvFirstIdeal.τ).loc Cert.RwkvFirstIdeal.main_arg4) = m ((c.tc : Thread Cert.RwkvFirstIdeal.nD Cert.RwkvFirstIdeal.τ).loc Cert.RwkvFirstIdeal.main_arg4)
      ∧ r.2.mem ((c.tc : Thread Cert.RwkvFirstIdeal.nD Cert.RwkvFirstIdeal.τ).loc Cert.RwkvFirstIdeal.main_arg5) = m ((c.tc : Thread Cert.RwkvFirstIdeal.nD Cert.RwkvFirstIdeal.τ).loc Cert.RwkvFirstIdeal.main_arg5)
      ∧ r.2.mem ((c.tc : Thread Cert.RwkvFirstIdeal.nD Cert.RwkvFirstIdeal.τ).loc Cert.RwkvFirstIdeal.main_arg6) = m ((c.tc : Thread Cert.RwkvFirstIdeal.nD Cert.RwkvFirstIdeal.τ).loc Cert.RwkvFirstIdeal.main_arg6)
      ∧ r.2.mem ((c.tc : Thread Cert.RwkvFirstIdeal.nD Cert.RwkvFirstIdeal.τ).loc Cert.RwkvFirstIdeal.main_arg7) = m ((c.tc : Thread Cert.RwkvFirstIdeal.nD Cert.RwkvFirstIdeal.τ).loc Cert.RwkvFirstIdeal.main_arg7)
      ∧ r.2.mem ((c.tc : Thread Cert.RwkvFirstIdeal.nD Cert.RwkvFirstIdeal.τ).loc Cert.RwkvFirstIdeal.main_arg8) = m ((c.tc : Thread Cert.RwkvFirstIdeal.nD Cert.RwkvFirstIdeal.τ).loc Cert.RwkvFirstIdeal.main_arg8)
      ∧ r.2.mem ((c.tc : Thread Cert.RwkvFirstIdeal.nD Cert.RwkvFirstIdeal.τ).loc Cert.RwkvFirstIdeal.main_arg9) = m ((c.tc : Thread Cert.RwkvFirstIdeal.nD Cert.RwkvFirstIdeal.τ).loc Cert.RwkvFirstIdeal.main_arg9))
      ∧ r.2.sem = fun _ => 0)

def quiescent_RwkvFirstReferenceIdeal [hRwkvFirstReferenceIdeal : Cert.RwkvFirstReferenceIdeal.Facts] : Prop :=
  ∀ (m : (ℓ : Loc Cert.RwkvFirstReferenceIdeal.nD Cert.RwkvFirstReferenceIdeal.τ Cert.RwkvFirstReferenceIdeal.sig) → Buf (Elt Ideal) ℓ) (g : Dev Cert.RwkvFirstReferenceIdeal.nD → PrngReg), Pre_RwkvFirstReferenceIdeal m →
    θ_run (Cert.RwkvFirstReferenceIdeal.defs (F := Ideal)) (onTc (τ := Cert.RwkvFirstReferenceIdeal.τ) (Cert.RwkvFirstReferenceIdeal.main (F := Ideal))) ⟨m, fun _ => 0, g⟩ (fun r => (∀ c : Dev Cert.RwkvFirstReferenceIdeal.nD,
      r.2.mem ((c.tc : Thread Cert.RwkvFirstReferenceIdeal.nD Cert.RwkvFirstReferenceIdeal.τ).loc Cert.RwkvFirstReferenceIdeal.main_arg0) = m ((c.tc : Thread Cert.RwkvFirstReferenceIdeal.nD Cert.RwkvFirstReferenceIdeal.τ).loc Cert.RwkvFirstReferenceIdeal.main_arg0)
      ∧ r.2.mem ((c.tc : Thread Cert.RwkvFirstReferenceIdeal.nD Cert.RwkvFirstReferenceIdeal.τ).loc Cert.RwkvFirstReferenceIdeal.main_arg1) = m ((c.tc : Thread Cert.RwkvFirstReferenceIdeal.nD Cert.RwkvFirstReferenceIdeal.τ).loc Cert.RwkvFirstReferenceIdeal.main_arg1)
      ∧ r.2.mem ((c.tc : Thread Cert.RwkvFirstReferenceIdeal.nD Cert.RwkvFirstReferenceIdeal.τ).loc Cert.RwkvFirstReferenceIdeal.main_arg2) = m ((c.tc : Thread Cert.RwkvFirstReferenceIdeal.nD Cert.RwkvFirstReferenceIdeal.τ).loc Cert.RwkvFirstReferenceIdeal.main_arg2)
      ∧ r.2.mem ((c.tc : Thread Cert.RwkvFirstReferenceIdeal.nD Cert.RwkvFirstReferenceIdeal.τ).loc Cert.RwkvFirstReferenceIdeal.main_arg3) = m ((c.tc : Thread Cert.RwkvFirstReferenceIdeal.nD Cert.RwkvFirstReferenceIdeal.τ).loc Cert.RwkvFirstReferenceIdeal.main_arg3)
      ∧ r.2.mem ((c.tc : Thread Cert.RwkvFirstReferenceIdeal.nD Cert.RwkvFirstReferenceIdeal.τ).loc Cert.RwkvFirstReferenceIdeal.main_arg4) = m ((c.tc : Thread Cert.RwkvFirstReferenceIdeal.nD Cert.RwkvFirstReferenceIdeal.τ).loc Cert.RwkvFirstReferenceIdeal.main_arg4)
      ∧ r.2.mem ((c.tc : Thread Cert.RwkvFirstReferenceIdeal.nD Cert.RwkvFirstReferenceIdeal.τ).loc Cert.RwkvFirstReferenceIdeal.main_arg5) = m ((c.tc : Thread Cert.RwkvFirstReferenceIdeal.nD Cert.RwkvFirstReferenceIdeal.τ).loc Cert.RwkvFirstReferenceIdeal.main_arg5)
      ∧ r.2.mem ((c.tc : Thread Cert.RwkvFirstReferenceIdeal.nD Cert.RwkvFirstReferenceIdeal.τ).loc Cert.RwkvFirstReferenceIdeal.main_arg6) = m ((c.tc : Thread Cert.RwkvFirstReferenceIdeal.nD Cert.RwkvFirstReferenceIdeal.τ).loc Cert.RwkvFirstReferenceIdeal.main_arg6)
      ∧ r.2.mem ((c.tc : Thread Cert.RwkvFirstReferenceIdeal.nD Cert.RwkvFirstReferenceIdeal.τ).loc Cert.RwkvFirstReferenceIdeal.main_arg7) = m ((c.tc : Thread Cert.RwkvFirstReferenceIdeal.nD Cert.RwkvFirstReferenceIdeal.τ).loc Cert.RwkvFirstReferenceIdeal.main_arg7)
      ∧ r.2.mem ((c.tc : Thread Cert.RwkvFirstReferenceIdeal.nD Cert.RwkvFirstReferenceIdeal.τ).loc Cert.RwkvFirstReferenceIdeal.main_arg8) = m ((c.tc : Thread Cert.RwkvFirstReferenceIdeal.nD Cert.RwkvFirstReferenceIdeal.τ).loc Cert.RwkvFirstReferenceIdeal.main_arg8)
      ∧ r.2.mem ((c.tc : Thread Cert.RwkvFirstReferenceIdeal.nD Cert.RwkvFirstReferenceIdeal.τ).loc Cert.RwkvFirstReferenceIdeal.main_arg9) = m ((c.tc : Thread Cert.RwkvFirstReferenceIdeal.nD Cert.RwkvFirstReferenceIdeal.τ).loc Cert.RwkvFirstReferenceIdeal.main_arg9))
      ∧ r.2.sem = fun _ => 0)

def quiescent_RwkvNext [hRwkvNext : Cert.RwkvNext.Facts] : Prop :=
  ∀ (m : (ℓ : Loc Cert.RwkvNext.nD Cert.RwkvNext.τ Cert.RwkvNext.sig) → Buf (Elt Bits) ℓ) (g : Dev Cert.RwkvNext.nD → PrngReg), Pre_RwkvNext m →
    θ_run (Cert.RwkvNext.defs (F := Bits)) (onTc (τ := Cert.RwkvNext.τ) (Cert.RwkvNext.main (F := Bits))) ⟨m, fun _ => 0, g⟩ (fun r => (∀ c : Dev Cert.RwkvNext.nD,
      r.2.mem ((c.tc : Thread Cert.RwkvNext.nD Cert.RwkvNext.τ).loc Cert.RwkvNext.main_arg0) = m ((c.tc : Thread Cert.RwkvNext.nD Cert.RwkvNext.τ).loc Cert.RwkvNext.main_arg0)
      ∧ r.2.mem ((c.tc : Thread Cert.RwkvNext.nD Cert.RwkvNext.τ).loc Cert.RwkvNext.main_arg1) = m ((c.tc : Thread Cert.RwkvNext.nD Cert.RwkvNext.τ).loc Cert.RwkvNext.main_arg1)
      ∧ r.2.mem ((c.tc : Thread Cert.RwkvNext.nD Cert.RwkvNext.τ).loc Cert.RwkvNext.main_arg2) = m ((c.tc : Thread Cert.RwkvNext.nD Cert.RwkvNext.τ).loc Cert.RwkvNext.main_arg2)
      ∧ r.2.mem ((c.tc : Thread Cert.RwkvNext.nD Cert.RwkvNext.τ).loc Cert.RwkvNext.main_arg3) = m ((c.tc : Thread Cert.RwkvNext.nD Cert.RwkvNext.τ).loc Cert.RwkvNext.main_arg3)
      ∧ r.2.mem ((c.tc : Thread Cert.RwkvNext.nD Cert.RwkvNext.τ).loc Cert.RwkvNext.main_arg4) = m ((c.tc : Thread Cert.RwkvNext.nD Cert.RwkvNext.τ).loc Cert.RwkvNext.main_arg4)
      ∧ r.2.mem ((c.tc : Thread Cert.RwkvNext.nD Cert.RwkvNext.τ).loc Cert.RwkvNext.main_arg5) = m ((c.tc : Thread Cert.RwkvNext.nD Cert.RwkvNext.τ).loc Cert.RwkvNext.main_arg5)
      ∧ r.2.mem ((c.tc : Thread Cert.RwkvNext.nD Cert.RwkvNext.τ).loc Cert.RwkvNext.main_arg6) = m ((c.tc : Thread Cert.RwkvNext.nD Cert.RwkvNext.τ).loc Cert.RwkvNext.main_arg6)
      ∧ r.2.mem ((c.tc : Thread Cert.RwkvNext.nD Cert.RwkvNext.τ).loc Cert.RwkvNext.main_arg7) = m ((c.tc : Thread Cert.RwkvNext.nD Cert.RwkvNext.τ).loc Cert.RwkvNext.main_arg7)
      ∧ r.2.mem ((c.tc : Thread Cert.RwkvNext.nD Cert.RwkvNext.τ).loc Cert.RwkvNext.main_arg8) = m ((c.tc : Thread Cert.RwkvNext.nD Cert.RwkvNext.τ).loc Cert.RwkvNext.main_arg8)
      ∧ r.2.mem ((c.tc : Thread Cert.RwkvNext.nD Cert.RwkvNext.τ).loc Cert.RwkvNext.main_arg9) = m ((c.tc : Thread Cert.RwkvNext.nD Cert.RwkvNext.τ).loc Cert.RwkvNext.main_arg9)
      ∧ r.2.mem ((c.tc : Thread Cert.RwkvNext.nD Cert.RwkvNext.τ).loc Cert.RwkvNext.main_arg10) = m ((c.tc : Thread Cert.RwkvNext.nD Cert.RwkvNext.τ).loc Cert.RwkvNext.main_arg10)
      ∧ r.2.mem ((c.tc : Thread Cert.RwkvNext.nD Cert.RwkvNext.τ).loc Cert.RwkvNext.main_arg11) = m ((c.tc : Thread Cert.RwkvNext.nD Cert.RwkvNext.τ).loc Cert.RwkvNext.main_arg11)
      ∧ r.2.mem ((c.tc : Thread Cert.RwkvNext.nD Cert.RwkvNext.τ).loc Cert.RwkvNext.main_arg12) = m ((c.tc : Thread Cert.RwkvNext.nD Cert.RwkvNext.τ).loc Cert.RwkvNext.main_arg12))
      ∧ r.2.sem = fun _ => 0)

def quiescent_RwkvNextIdeal [hRwkvNextIdeal : Cert.RwkvNextIdeal.Facts] : Prop :=
  ∀ (m : (ℓ : Loc Cert.RwkvNextIdeal.nD Cert.RwkvNextIdeal.τ Cert.RwkvNextIdeal.sig) → Buf (Elt Ideal) ℓ) (g : Dev Cert.RwkvNextIdeal.nD → PrngReg), Pre_RwkvNextIdeal m →
    θ_run (Cert.RwkvNextIdeal.defs (F := Ideal)) (onTc (τ := Cert.RwkvNextIdeal.τ) (Cert.RwkvNextIdeal.main (F := Ideal))) ⟨m, fun _ => 0, g⟩ (fun r => (∀ c : Dev Cert.RwkvNextIdeal.nD,
      r.2.mem ((c.tc : Thread Cert.RwkvNextIdeal.nD Cert.RwkvNextIdeal.τ).loc Cert.RwkvNextIdeal.main_arg0) = m ((c.tc : Thread Cert.RwkvNextIdeal.nD Cert.RwkvNextIdeal.τ).loc Cert.RwkvNextIdeal.main_arg0)
      ∧ r.2.mem ((c.tc : Thread Cert.RwkvNextIdeal.nD Cert.RwkvNextIdeal.τ).loc Cert.RwkvNextIdeal.main_arg1) = m ((c.tc : Thread Cert.RwkvNextIdeal.nD Cert.RwkvNextIdeal.τ).loc Cert.RwkvNextIdeal.main_arg1)
      ∧ r.2.mem ((c.tc : Thread Cert.RwkvNextIdeal.nD Cert.RwkvNextIdeal.τ).loc Cert.RwkvNextIdeal.main_arg2) = m ((c.tc : Thread Cert.RwkvNextIdeal.nD Cert.RwkvNextIdeal.τ).loc Cert.RwkvNextIdeal.main_arg2)
      ∧ r.2.mem ((c.tc : Thread Cert.RwkvNextIdeal.nD Cert.RwkvNextIdeal.τ).loc Cert.RwkvNextIdeal.main_arg3) = m ((c.tc : Thread Cert.RwkvNextIdeal.nD Cert.RwkvNextIdeal.τ).loc Cert.RwkvNextIdeal.main_arg3)
      ∧ r.2.mem ((c.tc : Thread Cert.RwkvNextIdeal.nD Cert.RwkvNextIdeal.τ).loc Cert.RwkvNextIdeal.main_arg4) = m ((c.tc : Thread Cert.RwkvNextIdeal.nD Cert.RwkvNextIdeal.τ).loc Cert.RwkvNextIdeal.main_arg4)
      ∧ r.2.mem ((c.tc : Thread Cert.RwkvNextIdeal.nD Cert.RwkvNextIdeal.τ).loc Cert.RwkvNextIdeal.main_arg5) = m ((c.tc : Thread Cert.RwkvNextIdeal.nD Cert.RwkvNextIdeal.τ).loc Cert.RwkvNextIdeal.main_arg5)
      ∧ r.2.mem ((c.tc : Thread Cert.RwkvNextIdeal.nD Cert.RwkvNextIdeal.τ).loc Cert.RwkvNextIdeal.main_arg6) = m ((c.tc : Thread Cert.RwkvNextIdeal.nD Cert.RwkvNextIdeal.τ).loc Cert.RwkvNextIdeal.main_arg6)
      ∧ r.2.mem ((c.tc : Thread Cert.RwkvNextIdeal.nD Cert.RwkvNextIdeal.τ).loc Cert.RwkvNextIdeal.main_arg7) = m ((c.tc : Thread Cert.RwkvNextIdeal.nD Cert.RwkvNextIdeal.τ).loc Cert.RwkvNextIdeal.main_arg7)
      ∧ r.2.mem ((c.tc : Thread Cert.RwkvNextIdeal.nD Cert.RwkvNextIdeal.τ).loc Cert.RwkvNextIdeal.main_arg8) = m ((c.tc : Thread Cert.RwkvNextIdeal.nD Cert.RwkvNextIdeal.τ).loc Cert.RwkvNextIdeal.main_arg8)
      ∧ r.2.mem ((c.tc : Thread Cert.RwkvNextIdeal.nD Cert.RwkvNextIdeal.τ).loc Cert.RwkvNextIdeal.main_arg9) = m ((c.tc : Thread Cert.RwkvNextIdeal.nD Cert.RwkvNextIdeal.τ).loc Cert.RwkvNextIdeal.main_arg9)
      ∧ r.2.mem ((c.tc : Thread Cert.RwkvNextIdeal.nD Cert.RwkvNextIdeal.τ).loc Cert.RwkvNextIdeal.main_arg10) = m ((c.tc : Thread Cert.RwkvNextIdeal.nD Cert.RwkvNextIdeal.τ).loc Cert.RwkvNextIdeal.main_arg10)
      ∧ r.2.mem ((c.tc : Thread Cert.RwkvNextIdeal.nD Cert.RwkvNextIdeal.τ).loc Cert.RwkvNextIdeal.main_arg11) = m ((c.tc : Thread Cert.RwkvNextIdeal.nD Cert.RwkvNextIdeal.τ).loc Cert.RwkvNextIdeal.main_arg11)
      ∧ r.2.mem ((c.tc : Thread Cert.RwkvNextIdeal.nD Cert.RwkvNextIdeal.τ).loc Cert.RwkvNextIdeal.main_arg12) = m ((c.tc : Thread Cert.RwkvNextIdeal.nD Cert.RwkvNextIdeal.τ).loc Cert.RwkvNextIdeal.main_arg12))
      ∧ r.2.sem = fun _ => 0)

def quiescent_RwkvNextReferenceIdeal [hRwkvNextReferenceIdeal : Cert.RwkvNextReferenceIdeal.Facts] : Prop :=
  ∀ (m : (ℓ : Loc Cert.RwkvNextReferenceIdeal.nD Cert.RwkvNextReferenceIdeal.τ Cert.RwkvNextReferenceIdeal.sig) → Buf (Elt Ideal) ℓ) (g : Dev Cert.RwkvNextReferenceIdeal.nD → PrngReg), Pre_RwkvNextReferenceIdeal m →
    θ_run (Cert.RwkvNextReferenceIdeal.defs (F := Ideal)) (onTc (τ := Cert.RwkvNextReferenceIdeal.τ) (Cert.RwkvNextReferenceIdeal.main (F := Ideal))) ⟨m, fun _ => 0, g⟩ (fun r => (∀ c : Dev Cert.RwkvNextReferenceIdeal.nD,
      r.2.mem ((c.tc : Thread Cert.RwkvNextReferenceIdeal.nD Cert.RwkvNextReferenceIdeal.τ).loc Cert.RwkvNextReferenceIdeal.main_arg0) = m ((c.tc : Thread Cert.RwkvNextReferenceIdeal.nD Cert.RwkvNextReferenceIdeal.τ).loc Cert.RwkvNextReferenceIdeal.main_arg0)
      ∧ r.2.mem ((c.tc : Thread Cert.RwkvNextReferenceIdeal.nD Cert.RwkvNextReferenceIdeal.τ).loc Cert.RwkvNextReferenceIdeal.main_arg1) = m ((c.tc : Thread Cert.RwkvNextReferenceIdeal.nD Cert.RwkvNextReferenceIdeal.τ).loc Cert.RwkvNextReferenceIdeal.main_arg1)
      ∧ r.2.mem ((c.tc : Thread Cert.RwkvNextReferenceIdeal.nD Cert.RwkvNextReferenceIdeal.τ).loc Cert.RwkvNextReferenceIdeal.main_arg2) = m ((c.tc : Thread Cert.RwkvNextReferenceIdeal.nD Cert.RwkvNextReferenceIdeal.τ).loc Cert.RwkvNextReferenceIdeal.main_arg2)
      ∧ r.2.mem ((c.tc : Thread Cert.RwkvNextReferenceIdeal.nD Cert.RwkvNextReferenceIdeal.τ).loc Cert.RwkvNextReferenceIdeal.main_arg3) = m ((c.tc : Thread Cert.RwkvNextReferenceIdeal.nD Cert.RwkvNextReferenceIdeal.τ).loc Cert.RwkvNextReferenceIdeal.main_arg3)
      ∧ r.2.mem ((c.tc : Thread Cert.RwkvNextReferenceIdeal.nD Cert.RwkvNextReferenceIdeal.τ).loc Cert.RwkvNextReferenceIdeal.main_arg4) = m ((c.tc : Thread Cert.RwkvNextReferenceIdeal.nD Cert.RwkvNextReferenceIdeal.τ).loc Cert.RwkvNextReferenceIdeal.main_arg4)
      ∧ r.2.mem ((c.tc : Thread Cert.RwkvNextReferenceIdeal.nD Cert.RwkvNextReferenceIdeal.τ).loc Cert.RwkvNextReferenceIdeal.main_arg5) = m ((c.tc : Thread Cert.RwkvNextReferenceIdeal.nD Cert.RwkvNextReferenceIdeal.τ).loc Cert.RwkvNextReferenceIdeal.main_arg5)
      ∧ r.2.mem ((c.tc : Thread Cert.RwkvNextReferenceIdeal.nD Cert.RwkvNextReferenceIdeal.τ).loc Cert.RwkvNextReferenceIdeal.main_arg6) = m ((c.tc : Thread Cert.RwkvNextReferenceIdeal.nD Cert.RwkvNextReferenceIdeal.τ).loc Cert.RwkvNextReferenceIdeal.main_arg6)
      ∧ r.2.mem ((c.tc : Thread Cert.RwkvNextReferenceIdeal.nD Cert.RwkvNextReferenceIdeal.τ).loc Cert.RwkvNextReferenceIdeal.main_arg7) = m ((c.tc : Thread Cert.RwkvNextReferenceIdeal.nD Cert.RwkvNextReferenceIdeal.τ).loc Cert.RwkvNextReferenceIdeal.main_arg7)
      ∧ r.2.mem ((c.tc : Thread Cert.RwkvNextReferenceIdeal.nD Cert.RwkvNextReferenceIdeal.τ).loc Cert.RwkvNextReferenceIdeal.main_arg8) = m ((c.tc : Thread Cert.RwkvNextReferenceIdeal.nD Cert.RwkvNextReferenceIdeal.τ).loc Cert.RwkvNextReferenceIdeal.main_arg8)
      ∧ r.2.mem ((c.tc : Thread Cert.RwkvNextReferenceIdeal.nD Cert.RwkvNextReferenceIdeal.τ).loc Cert.RwkvNextReferenceIdeal.main_arg9) = m ((c.tc : Thread Cert.RwkvNextReferenceIdeal.nD Cert.RwkvNextReferenceIdeal.τ).loc Cert.RwkvNextReferenceIdeal.main_arg9)
      ∧ r.2.mem ((c.tc : Thread Cert.RwkvNextReferenceIdeal.nD Cert.RwkvNextReferenceIdeal.τ).loc Cert.RwkvNextReferenceIdeal.main_arg10) = m ((c.tc : Thread Cert.RwkvNextReferenceIdeal.nD Cert.RwkvNextReferenceIdeal.τ).loc Cert.RwkvNextReferenceIdeal.main_arg10)
      ∧ r.2.mem ((c.tc : Thread Cert.RwkvNextReferenceIdeal.nD Cert.RwkvNextReferenceIdeal.τ).loc Cert.RwkvNextReferenceIdeal.main_arg11) = m ((c.tc : Thread Cert.RwkvNextReferenceIdeal.nD Cert.RwkvNextReferenceIdeal.τ).loc Cert.RwkvNextReferenceIdeal.main_arg11)
      ∧ r.2.mem ((c.tc : Thread Cert.RwkvNextReferenceIdeal.nD Cert.RwkvNextReferenceIdeal.τ).loc Cert.RwkvNextReferenceIdeal.main_arg12) = m ((c.tc : Thread Cert.RwkvNextReferenceIdeal.nD Cert.RwkvNextReferenceIdeal.τ).loc Cert.RwkvNextReferenceIdeal.main_arg12))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2)
      ∧ r.2.mem ((c.tc : Thread Cert.MlaOut.nD Cert.MlaOut.τ).loc Cert.MlaOut.main_arg3) = m ((c.tc : Thread Cert.MlaOut.nD Cert.MlaOut.τ).loc Cert.MlaOut.main_arg3)
      ∧ r.2.mem ((c.tc : Thread Cert.MlaOut.nD Cert.MlaOut.τ).loc Cert.MlaOut.main_arg4) = m ((c.tc : Thread Cert.MlaOut.nD Cert.MlaOut.τ).loc Cert.MlaOut.main_arg4))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
      ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3)
      ∧ r.2.mem ((c.tc : Thread Cert.MlaOutIdeal.nD Cert.MlaOutIdeal.τ).loc Cert.MlaOutIdeal.main_arg4) = m ((c.tc : Thread Cert.MlaOutIdeal.nD Cert.MlaOutIdeal.τ).loc Cert.MlaOutIdeal.main_arg4))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1)
      ∧ r.2.mem ((c.tc : Thread Cert.MlaOutReferenceIdeal.nD Cert.MlaOutReferenceIdeal.τ).loc Cert.MlaOutReferenceIdeal.main_arg2) = m ((c.tc : Thread Cert.MlaOutReferenceIdeal.nD Cert.MlaOutReferenceIdeal.τ).loc Cert.MlaOutReferenceIdeal.main_arg2)
      ∧ r.2.mem ((c.tc : Thread Cert.MlaOutReferenceIdeal.nD Cert.MlaOutReferenceIdeal.τ).loc Cert.MlaOutReferenceIdeal.main_arg3) = m ((c.tc : Thread Cert.MlaOutReferenceIdeal.nD Cert.MlaOutReferenceIdeal.τ).loc Cert.MlaOutReferenceIdeal.main_arg3)
      ∧ r.2.mem ((c.tc : Thread Cert.MlaOutReferenceIdeal.nD Cert.MlaOutReferenceIdeal.τ).loc Cert.MlaOutReferenceIdeal.main_arg4) = m ((c.tc : Thread Cert.MlaOutReferenceIdeal.nD Cert.MlaOutReferenceIdeal.τ).loc Cert.MlaOutReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v69) = v0 c
          ∧ r.2.mem ((c.tc : Thread Cert.FfnReferenceIdeal.nD Cert.FfnReferenceIdeal.τ).loc Cert.FfnReferenceIdeal.main_v71) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_RwkvOut_RwkvOutIdeal : Prop :=
  True

def algebraic_RwkvOutIdeal_RwkvOutReferenceIdeal [hRwkvOutIdeal : Cert.RwkvOutIdeal.Facts] [hRwkvOutReferenceIdeal : Cert.RwkvOutReferenceIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutReferenceIdeal.nD Cert.RwkvOutReferenceIdeal.τ Cert.RwkvOutReferenceIdeal.sig) → Buf (Elt Ideal) ℓ) (g' : Dev Cert.RwkvOutReferenceIdeal.nD → PrngReg), Pre_RwkvOutIdeal m →
    (∀ c : Dev Cert.RwkvOutIdeal.nD,
      m' ((c.tc : Thread Cert.RwkvOutReferenceIdeal.nD Cert.RwkvOutReferenceIdeal.τ).loc Cert.RwkvOutReferenceIdeal.main_arg0) = m ((c.tc : Thread Cert.RwkvOutIdeal.nD Cert.RwkvOutIdeal.τ).loc Cert.RwkvOutIdeal.main_arg0)
      ∧ m' ((c.tc : Thread Cert.RwkvOutReferenceIdeal.nD Cert.RwkvOutReferenceIdeal.τ).loc Cert.RwkvOutReferenceIdeal.main_arg1) = m ((c.tc : Thread Cert.RwkvOutIdeal.nD Cert.RwkvOutIdeal.τ).loc Cert.RwkvOutIdeal.main_arg1)
      ∧ m' ((c.tc : Thread Cert.RwkvOutReferenceIdeal.nD Cert.RwkvOutReferenceIdeal.τ).loc Cert.RwkvOutReferenceIdeal.main_arg2) = m ((c.tc : Thread Cert.RwkvOutIdeal.nD Cert.RwkvOutIdeal.τ).loc Cert.RwkvOutIdeal.main_arg2)
      ∧ m' ((c.tc : Thread Cert.RwkvOutReferenceIdeal.nD Cert.RwkvOutReferenceIdeal.τ).loc Cert.RwkvOutReferenceIdeal.main_arg3) = m ((c.tc : Thread Cert.RwkvOutIdeal.nD Cert.RwkvOutIdeal.τ).loc Cert.RwkvOutIdeal.main_arg3)
      ∧ m' ((c.tc : Thread Cert.RwkvOutReferenceIdeal.nD Cert.RwkvOutReferenceIdeal.τ).loc Cert.RwkvOutReferenceIdeal.main_arg4) = m ((c.tc : Thread Cert.RwkvOutIdeal.nD Cert.RwkvOutIdeal.τ).loc Cert.RwkvOutIdeal.main_arg4)) →
    ∃ (v0 : (c : Dev Cert.RwkvOutIdeal.nD) → Buf (Elt Ideal) ((c.tc : Thread Cert.RwkvOutIdeal.nD Cert.RwkvOutIdeal.τ).loc Cert.RwkvOutIdeal.main_v0)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v0) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
          ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
          ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ θ_run (Cert.RwkvOutReferenceIdeal.defs (F := Ideal)) (onTc (τ := Cert.RwkvOutReferenceIdeal.τ) (Cert.RwkvOutReferenceIdeal.main (F := Ideal))) ⟨m', fun _ => 0, g'⟩ (fun r => ∀ c : Dev Cert.RwkvOutReferenceIdeal.nD,
          r.2.mem ((c.tc : Thread Cert.RwkvOutReferenceIdeal.nD Cert.RwkvOutReferenceIdeal.τ).loc Cert.RwkvOutReferenceIdeal.main_v18) = v0 c
          ∧ r.2.mem ((c.tc : Thread Cert.RwkvOutReferenceIdeal.nD Cert.RwkvOutReferenceIdeal.τ).loc Cert.RwkvOutReferenceIdeal.main_arg0) = m' ((c.tc : Thread Cert.RwkvOutReferenceIdeal.nD Cert.RwkvOutReferenceIdeal.τ).loc Cert.RwkvOutReferenceIdeal.main_arg0)
          ∧ r.2.mem ((c.tc : Thread Cert.RwkvOutReferenceIdeal.nD Cert.RwkvOutReferenceIdeal.τ).loc Cert.RwkvOutReferenceIdeal.main_arg1) = m' ((c.tc : Thread Cert.RwkvOutReferenceIdeal.nD Cert.RwkvOutReferenceIdeal.τ).loc Cert.RwkvOutReferenceIdeal.main_arg1)
          ∧ r.2.mem ((c.tc : Thread Cert.RwkvOutReferenceIdeal.nD Cert.RwkvOutReferenceIdeal.τ).loc Cert.RwkvOutReferenceIdeal.main_arg2) = m' ((c.tc : Thread Cert.RwkvOutReferenceIdeal.nD Cert.RwkvOutReferenceIdeal.τ).loc Cert.RwkvOutReferenceIdeal.main_arg2)
          ∧ r.2.mem ((c.tc : Thread Cert.RwkvOutReferenceIdeal.nD Cert.RwkvOutReferenceIdeal.τ).loc Cert.RwkvOutReferenceIdeal.main_arg3) = m' ((c.tc : Thread Cert.RwkvOutReferenceIdeal.nD Cert.RwkvOutReferenceIdeal.τ).loc Cert.RwkvOutReferenceIdeal.main_arg3)
          ∧ r.2.mem ((c.tc : Thread Cert.RwkvOutReferenceIdeal.nD Cert.RwkvOutReferenceIdeal.τ).loc Cert.RwkvOutReferenceIdeal.main_arg4) = m' ((c.tc : Thread Cert.RwkvOutReferenceIdeal.nD Cert.RwkvOutReferenceIdeal.τ).loc Cert.RwkvOutReferenceIdeal.main_arg4))

def preserves_GdnOut_GdnOutIdeal : Prop :=
  True

def algebraic_GdnOutIdeal_GdnOutReferenceIdeal [hGdnOutIdeal : Cert.GdnOutIdeal.Facts] [hGdnOutReferenceIdeal : Cert.GdnOutReferenceIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutReferenceIdeal.nD Cert.GdnOutReferenceIdeal.τ Cert.GdnOutReferenceIdeal.sig) → Buf (Elt Ideal) ℓ) (g' : Dev Cert.GdnOutReferenceIdeal.nD → PrngReg), Pre_GdnOutIdeal m →
    (∀ c : Dev Cert.GdnOutIdeal.nD,
      m' ((c.tc : Thread Cert.GdnOutReferenceIdeal.nD Cert.GdnOutReferenceIdeal.τ).loc Cert.GdnOutReferenceIdeal.main_arg0) = m ((c.tc : Thread Cert.GdnOutIdeal.nD Cert.GdnOutIdeal.τ).loc Cert.GdnOutIdeal.main_arg0)
      ∧ m' ((c.tc : Thread Cert.GdnOutReferenceIdeal.nD Cert.GdnOutReferenceIdeal.τ).loc Cert.GdnOutReferenceIdeal.main_arg1) = m ((c.tc : Thread Cert.GdnOutIdeal.nD Cert.GdnOutIdeal.τ).loc Cert.GdnOutIdeal.main_arg1)
      ∧ m' ((c.tc : Thread Cert.GdnOutReferenceIdeal.nD Cert.GdnOutReferenceIdeal.τ).loc Cert.GdnOutReferenceIdeal.main_arg2) = m ((c.tc : Thread Cert.GdnOutIdeal.nD Cert.GdnOutIdeal.τ).loc Cert.GdnOutIdeal.main_arg2)
      ∧ m' ((c.tc : Thread Cert.GdnOutReferenceIdeal.nD Cert.GdnOutReferenceIdeal.τ).loc Cert.GdnOutReferenceIdeal.main_arg3) = m ((c.tc : Thread Cert.GdnOutIdeal.nD Cert.GdnOutIdeal.τ).loc Cert.GdnOutIdeal.main_arg3)) →
    ∃ (v0 : (c : Dev Cert.GdnOutIdeal.nD) → Buf (Elt Ideal) ((c.tc : Thread Cert.GdnOutIdeal.nD Cert.GdnOutIdeal.τ).loc Cert.GdnOutIdeal.main_v0)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v0) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ θ_run (Cert.GdnOutReferenceIdeal.defs (F := Ideal)) (onTc (τ := Cert.GdnOutReferenceIdeal.τ) (Cert.GdnOutReferenceIdeal.main (F := Ideal))) ⟨m', fun _ => 0, g'⟩ (fun r => ∀ c : Dev Cert.GdnOutReferenceIdeal.nD,
          r.2.mem ((c.tc : Thread Cert.GdnOutReferenceIdeal.nD Cert.GdnOutReferenceIdeal.τ).loc Cert.GdnOutReferenceIdeal.main_v17) = v0 c
          ∧ r.2.mem ((c.tc : Thread Cert.GdnOutReferenceIdeal.nD Cert.GdnOutReferenceIdeal.τ).loc Cert.GdnOutReferenceIdeal.main_arg0) = m' ((c.tc : Thread Cert.GdnOutReferenceIdeal.nD Cert.GdnOutReferenceIdeal.τ).loc Cert.GdnOutReferenceIdeal.main_arg0)
          ∧ r.2.mem ((c.tc : Thread Cert.GdnOutReferenceIdeal.nD Cert.GdnOutReferenceIdeal.τ).loc Cert.GdnOutReferenceIdeal.main_arg1) = m' ((c.tc : Thread Cert.GdnOutReferenceIdeal.nD Cert.GdnOutReferenceIdeal.τ).loc Cert.GdnOutReferenceIdeal.main_arg1)
          ∧ r.2.mem ((c.tc : Thread Cert.GdnOutReferenceIdeal.nD Cert.GdnOutReferenceIdeal.τ).loc Cert.GdnOutReferenceIdeal.main_arg2) = m' ((c.tc : Thread Cert.GdnOutReferenceIdeal.nD Cert.GdnOutReferenceIdeal.τ).loc Cert.GdnOutReferenceIdeal.main_arg2)
          ∧ r.2.mem ((c.tc : Thread Cert.GdnOutReferenceIdeal.nD Cert.GdnOutReferenceIdeal.τ).loc Cert.GdnOutReferenceIdeal.main_arg3) = m' ((c.tc : Thread Cert.GdnOutReferenceIdeal.nD Cert.GdnOutReferenceIdeal.τ).loc Cert.GdnOutReferenceIdeal.main_arg3))

def preserves_GdnProj_GdnProjIdeal : Prop :=
  True

def algebraic_GdnProjIdeal_GdnProjReferenceIdeal [hGdnProjIdeal : Cert.GdnProjIdeal.Facts] [hGdnProjReferenceIdeal : Cert.GdnProjReferenceIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg)
    (m' : (ℓ : Loc Cert.GdnProjReferenceIdeal.nD Cert.GdnProjReferenceIdeal.τ Cert.GdnProjReferenceIdeal.sig) → Buf (Elt Ideal) ℓ) (g' : Dev Cert.GdnProjReferenceIdeal.nD → PrngReg), Pre_GdnProjIdeal m →
    (∀ c : Dev Cert.GdnProjIdeal.nD,
      m' ((c.tc : Thread Cert.GdnProjReferenceIdeal.nD Cert.GdnProjReferenceIdeal.τ).loc Cert.GdnProjReferenceIdeal.main_arg0) = m ((c.tc : Thread Cert.GdnProjIdeal.nD Cert.GdnProjIdeal.τ).loc Cert.GdnProjIdeal.main_arg0)
      ∧ m' ((c.tc : Thread Cert.GdnProjReferenceIdeal.nD Cert.GdnProjReferenceIdeal.τ).loc Cert.GdnProjReferenceIdeal.main_arg1) = m ((c.tc : Thread Cert.GdnProjIdeal.nD Cert.GdnProjIdeal.τ).loc Cert.GdnProjIdeal.main_arg1)
      ∧ m' ((c.tc : Thread Cert.GdnProjReferenceIdeal.nD Cert.GdnProjReferenceIdeal.τ).loc Cert.GdnProjReferenceIdeal.main_arg2) = m ((c.tc : Thread Cert.GdnProjIdeal.nD Cert.GdnProjIdeal.τ).loc Cert.GdnProjIdeal.main_arg2)
      ∧ m' ((c.tc : Thread Cert.GdnProjReferenceIdeal.nD Cert.GdnProjReferenceIdeal.τ).loc Cert.GdnProjReferenceIdeal.main_arg3) = m ((c.tc : Thread Cert.GdnProjIdeal.nD Cert.GdnProjIdeal.τ).loc Cert.GdnProjIdeal.main_arg3)
      ∧ m' ((c.tc : Thread Cert.GdnProjReferenceIdeal.nD Cert.GdnProjReferenceIdeal.τ).loc Cert.GdnProjReferenceIdeal.main_arg4) = m ((c.tc : Thread Cert.GdnProjIdeal.nD Cert.GdnProjIdeal.τ).loc Cert.GdnProjIdeal.main_arg4)
      ∧ m' ((c.tc : Thread Cert.GdnProjReferenceIdeal.nD Cert.GdnProjReferenceIdeal.τ).loc Cert.GdnProjReferenceIdeal.main_arg5) = m ((c.tc : Thread Cert.GdnProjIdeal.nD Cert.GdnProjIdeal.τ).loc Cert.GdnProjIdeal.main_arg5)
      ∧ m' ((c.tc : Thread Cert.GdnProjReferenceIdeal.nD Cert.GdnProjReferenceIdeal.τ).loc Cert.GdnProjReferenceIdeal.main_arg6) = m ((c.tc : Thread Cert.GdnProjIdeal.nD Cert.GdnProjIdeal.τ).loc Cert.GdnProjIdeal.main_arg6)
      ∧ m' ((c.tc : Thread Cert.GdnProjReferenceIdeal.nD Cert.GdnProjReferenceIdeal.τ).loc Cert.GdnProjReferenceIdeal.main_arg7) = m ((c.tc : Thread Cert.GdnProjIdeal.nD Cert.GdnProjIdeal.τ).loc Cert.GdnProjIdeal.main_arg7)) →
    ∃ (v0 : (c : Dev Cert.GdnProjIdeal.nD) → Buf (Elt Ideal) ((c.tc : Thread Cert.GdnProjIdeal.nD Cert.GdnProjIdeal.τ).loc Cert.GdnProjIdeal.main_v17_0)) (v1 : (c : Dev Cert.GdnProjIdeal.nD) → Buf (Elt Ideal) ((c.tc : Thread Cert.GdnProjIdeal.nD Cert.GdnProjIdeal.τ).loc Cert.GdnProjIdeal.main_v17_1)) (v2 : (c : Dev Cert.GdnProjIdeal.nD) → Buf (Elt Ideal) ((c.tc : Thread Cert.GdnProjIdeal.nD Cert.GdnProjIdeal.τ).loc Cert.GdnProjIdeal.main_v17_2)) (v3 : (c : Dev Cert.GdnProjIdeal.nD) → Buf (Elt Ideal) ((c.tc : Thread Cert.GdnProjIdeal.nD Cert.GdnProjIdeal.τ).loc Cert.GdnProjIdeal.main_v17_3)) (v4 : (c : Dev Cert.GdnProjIdeal.nD) → Buf (Elt Ideal) ((c.tc : Thread Cert.GdnProjIdeal.nD Cert.GdnProjIdeal.τ).loc Cert.GdnProjIdeal.main_v17_4)) (v5 : (c : Dev Cert.GdnProjIdeal.nD) → Buf (Elt Ideal) ((c.tc : Thread Cert.GdnProjIdeal.nD Cert.GdnProjIdeal.τ).loc Cert.GdnProjIdeal.main_v17_5)) (v6 : (c : Dev Cert.GdnProjIdeal.nD) → Buf (Elt Ideal) ((c.tc : Thread Cert.GdnProjIdeal.nD Cert.GdnProjIdeal.τ).loc Cert.GdnProjIdeal.main_v17_6)),
      θ_run (Cert.GdnProjIdeal.defs (F := Ideal)) (onTc (τ := Cert.GdnProjIdeal.τ) (Cert.GdnProjIdeal.main (F := Ideal))) ⟨m, fun _ => 0, g⟩ (fun r => ∀ c : Dev Cert.GdnProjIdeal.nD,
          r.2.mem ((c.tc : Thread Cert.GdnProjIdeal.nD Cert.GdnProjIdeal.τ).loc Cert.GdnProjIdeal.main_v17_0) = v0 c
          ∧ r.2.mem ((c.tc : Thread Cert.GdnProjIdeal.nD Cert.GdnProjIdeal.τ).loc Cert.GdnProjIdeal.main_v17_1) = v1 c
          ∧ r.2.mem ((c.tc : Thread Cert.GdnProjIdeal.nD Cert.GdnProjIdeal.τ).loc Cert.GdnProjIdeal.main_v17_2) = v2 c
          ∧ r.2.mem ((c.tc : Thread Cert.GdnProjIdeal.nD Cert.GdnProjIdeal.τ).loc Cert.GdnProjIdeal.main_v17_3) = v3 c
          ∧ r.2.mem ((c.tc : Thread Cert.GdnProjIdeal.nD Cert.GdnProjIdeal.τ).loc Cert.GdnProjIdeal.main_v17_4) = v4 c
          ∧ r.2.mem ((c.tc : Thread Cert.GdnProjIdeal.nD Cert.GdnProjIdeal.τ).loc Cert.GdnProjIdeal.main_v17_5) = v5 c
          ∧ r.2.mem ((c.tc : Thread Cert.GdnProjIdeal.nD Cert.GdnProjIdeal.τ).loc Cert.GdnProjIdeal.main_v17_6) = v6 c
          ∧ r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
          ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
          ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2)
          ∧ r.2.mem ((c.tc : Thread Cert.GdnProjIdeal.nD Cert.GdnProjIdeal.τ).loc Cert.GdnProjIdeal.main_arg3) = m ((c.tc : Thread Cert.GdnProjIdeal.nD Cert.GdnProjIdeal.τ).loc Cert.GdnProjIdeal.main_arg3)
          ∧ r.2.mem ((c.tc : Thread Cert.GdnProjIdeal.nD Cert.GdnProjIdeal.τ).loc Cert.GdnProjIdeal.main_arg4) = m ((c.tc : Thread Cert.GdnProjIdeal.nD Cert.GdnProjIdeal.τ).loc Cert.GdnProjIdeal.main_arg4)
          ∧ r.2.mem ((c.tc : Thread Cert.GdnProjIdeal.nD Cert.GdnProjIdeal.τ).loc Cert.GdnProjIdeal.main_arg5) = m ((c.tc : Thread Cert.GdnProjIdeal.nD Cert.GdnProjIdeal.τ).loc Cert.GdnProjIdeal.main_arg5)
          ∧ r.2.mem ((c.tc : Thread Cert.GdnProjIdeal.nD Cert.GdnProjIdeal.τ).loc Cert.GdnProjIdeal.main_arg6) = m ((c.tc : Thread Cert.GdnProjIdeal.nD Cert.GdnProjIdeal.τ).loc Cert.GdnProjIdeal.main_arg6)
          ∧ r.2.mem ((c.tc : Thread Cert.GdnProjIdeal.nD Cert.GdnProjIdeal.τ).loc Cert.GdnProjIdeal.main_arg7) = m ((c.tc : Thread Cert.GdnProjIdeal.nD Cert.GdnProjIdeal.τ).loc Cert.GdnProjIdeal.main_arg7))
      ∧ θ_run (Cert.GdnProjReferenceIdeal.defs (F := Ideal)) (onTc (τ := Cert.GdnProjReferenceIdeal.τ) (Cert.GdnProjReferenceIdeal.main (F := Ideal))) ⟨m', fun _ => 0, g'⟩ (fun r => ∀ c : Dev Cert.GdnProjReferenceIdeal.nD,
          r.2.mem ((c.tc : Thread Cert.GdnProjReferenceIdeal.nD Cert.GdnProjReferenceIdeal.τ).loc Cert.GdnProjReferenceIdeal.main_v98) = v0 c
          ∧ r.2.mem ((c.tc : Thread Cert.GdnProjReferenceIdeal.nD Cert.GdnProjReferenceIdeal.τ).loc Cert.GdnProjReferenceIdeal.main_v99) = v1 c
          ∧ r.2.mem ((c.tc : Thread Cert.GdnProjReferenceIdeal.nD Cert.GdnProjReferenceIdeal.τ).loc Cert.GdnProjReferenceIdeal.main_v100) = v2 c
          ∧ r.2.mem ((c.tc : Thread Cert.GdnProjReferenceIdeal.nD Cert.GdnProjReferenceIdeal.τ).loc Cert.GdnProjReferenceIdeal.main_v101) = v3 c
          ∧ r.2.mem ((c.tc : Thread Cert.GdnProjReferenceIdeal.nD Cert.GdnProjReferenceIdeal.τ).loc Cert.GdnProjReferenceIdeal.main_v102) = v4 c
          ∧ r.2.mem ((c.tc : Thread Cert.GdnProjReferenceIdeal.nD Cert.GdnProjReferenceIdeal.τ).loc Cert.GdnProjReferenceIdeal.main_v103) = v5 c
          ∧ r.2.mem ((c.tc : Thread Cert.GdnProjReferenceIdeal.nD Cert.GdnProjReferenceIdeal.τ).loc Cert.GdnProjReferenceIdeal.main_v105) = v6 c
          ∧ r.2.mem ((c.tc : Thread Cert.GdnProjReferenceIdeal.nD Cert.GdnProjReferenceIdeal.τ).loc Cert.GdnProjReferenceIdeal.main_arg0) = m' ((c.tc : Thread Cert.GdnProjReferenceIdeal.nD Cert.GdnProjReferenceIdeal.τ).loc Cert.GdnProjReferenceIdeal.main_arg0)
          ∧ r.2.mem ((c.tc : Thread Cert.GdnProjReferenceIdeal.nD Cert.GdnProjReferenceIdeal.τ).loc Cert.GdnProjReferenceIdeal.main_arg1) = m' ((c.tc : Thread Cert.GdnProjReferenceIdeal.nD Cert.GdnProjReferenceIdeal.τ).loc Cert.GdnProjReferenceIdeal.main_arg1)
          ∧ r.2.mem ((c.tc : Thread Cert.GdnProjReferenceIdeal.nD Cert.GdnProjReferenceIdeal.τ).loc Cert.GdnProjReferenceIdeal.main_arg2) = m' ((c.tc : Thread Cert.GdnProjReferenceIdeal.nD Cert.GdnProjReferenceIdeal.τ).loc Cert.GdnProjReferenceIdeal.main_arg2)
          ∧ r.2.mem ((c.tc : Thread Cert.GdnProjReferenceIdeal.nD Cert.GdnProjReferenceIdeal.τ).loc Cert.GdnProjReferenceIdeal.main_arg3) = m' ((c.tc : Thread Cert.GdnProjReferenceIdeal.nD Cert.GdnProjReferenceIdeal.τ).loc Cert.GdnProjReferenceIdeal.main_arg3)
          ∧ r.2.mem ((c.tc : Thread Cert.GdnProjReferenceIdeal.nD Cert.GdnProjReferenceIdeal.τ).loc Cert.GdnProjReferenceIdeal.main_arg4) = m' ((c.tc : Thread Cert.GdnProjReferenceIdeal.nD Cert.GdnProjReferenceIdeal.τ).loc Cert.GdnProjReferenceIdeal.main_arg4)
          ∧ r.2.mem ((c.tc : Thread Cert.GdnProjReferenceIdeal.nD Cert.GdnProjReferenceIdeal.τ).loc Cert.GdnProjReferenceIdeal.main_arg5) = m' ((c.tc : Thread Cert.GdnProjReferenceIdeal.nD Cert.GdnProjReferenceIdeal.τ).loc Cert.GdnProjReferenceIdeal.main_arg5)
          ∧ r.2.mem ((c.tc : Thread Cert.GdnProjReferenceIdeal.nD Cert.GdnProjReferenceIdeal.τ).loc Cert.GdnProjReferenceIdeal.main_arg6) = m' ((c.tc : Thread Cert.GdnProjReferenceIdeal.nD Cert.GdnProjReferenceIdeal.τ).loc Cert.GdnProjReferenceIdeal.main_arg6)
          ∧ r.2.mem ((c.tc : Thread Cert.GdnProjReferenceIdeal.nD Cert.GdnProjReferenceIdeal.τ).loc Cert.GdnProjReferenceIdeal.main_arg7) = m' ((c.tc : Thread Cert.GdnProjReferenceIdeal.nD Cert.GdnProjReferenceIdeal.τ).loc Cert.GdnProjReferenceIdeal.main_arg7))

def preserves_RwkvFirst_RwkvFirstIdeal : Prop :=
  True

def algebraic_RwkvFirstIdeal_RwkvFirstReferenceIdeal [hRwkvFirstIdeal : Cert.RwkvFirstIdeal.Facts] [hRwkvFirstReferenceIdeal : Cert.RwkvFirstReferenceIdeal.Facts] : Prop :=
  ∀ (m : (ℓ : Loc Cert.RwkvFirstIdeal.nD Cert.RwkvFirstIdeal.τ Cert.RwkvFirstIdeal.sig) → Buf (Elt Ideal) ℓ) (g : Dev Cert.RwkvFirstIdeal.nD → PrngReg)
    (m' : (ℓ : Loc Cert.RwkvFirstReferenceIdeal.nD Cert.RwkvFirstReferenceIdeal.τ Cert.RwkvFirstReferenceIdeal.sig) → Buf (Elt Ideal) ℓ) (g' : Dev Cert.RwkvFirstReferenceIdeal.nD → PrngReg), Pre_RwkvFirstIdeal m →
    (∀ c : Dev Cert.RwkvFirstIdeal.nD,
      m' ((c.tc : Thread Cert.RwkvFirstReferenceIdeal.nD Cert.RwkvFirstReferenceIdeal.τ).loc Cert.RwkvFirstReferenceIdeal.main_arg0) = m ((c.tc : Thread Cert.RwkvFirstIdeal.nD Cert.RwkvFirstIdeal.τ).loc Cert.RwkvFirstIdeal.main_arg0)
      ∧ m' ((c.tc : Thread Cert.RwkvFirstReferenceIdeal.nD Cert.RwkvFirstReferenceIdeal.τ).loc Cert.RwkvFirstReferenceIdeal.main_arg1) = m ((c.tc : Thread Cert.RwkvFirstIdeal.nD Cert.RwkvFirstIdeal.τ).loc Cert.RwkvFirstIdeal.main_arg1)
      ∧ m' ((c.tc : Thread Cert.RwkvFirstReferenceIdeal.nD Cert.RwkvFirstReferenceIdeal.τ).loc Cert.RwkvFirstReferenceIdeal.main_arg2) = m ((c.tc : Thread Cert.RwkvFirstIdeal.nD Cert.RwkvFirstIdeal.τ).loc Cert.RwkvFirstIdeal.main_arg2)
      ∧ m' ((c.tc : Thread Cert.RwkvFirstReferenceIdeal.nD Cert.RwkvFirstReferenceIdeal.τ).loc Cert.RwkvFirstReferenceIdeal.main_arg3) = m ((c.tc : Thread Cert.RwkvFirstIdeal.nD Cert.RwkvFirstIdeal.τ).loc Cert.RwkvFirstIdeal.main_arg3)
      ∧ m' ((c.tc : Thread Cert.RwkvFirstReferenceIdeal.nD Cert.RwkvFirstReferenceIdeal.τ).loc Cert.RwkvFirstReferenceIdeal.main_arg4) = m ((c.tc : Thread Cert.RwkvFirstIdeal.nD Cert.RwkvFirstIdeal.τ).loc Cert.RwkvFirstIdeal.main_arg4)
      ∧ m' ((c.tc : Thread Cert.RwkvFirstReferenceIdeal.nD Cert.RwkvFirstReferenceIdeal.τ).loc Cert.RwkvFirstReferenceIdeal.main_arg5) = m ((c.tc : Thread Cert.RwkvFirstIdeal.nD Cert.RwkvFirstIdeal.τ).loc Cert.RwkvFirstIdeal.main_arg5)
      ∧ m' ((c.tc : Thread Cert.RwkvFirstReferenceIdeal.nD Cert.RwkvFirstReferenceIdeal.τ).loc Cert.RwkvFirstReferenceIdeal.main_arg6) = m ((c.tc : Thread Cert.RwkvFirstIdeal.nD Cert.RwkvFirstIdeal.τ).loc Cert.RwkvFirstIdeal.main_arg6)
      ∧ m' ((c.tc : Thread Cert.RwkvFirstReferenceIdeal.nD Cert.RwkvFirstReferenceIdeal.τ).loc Cert.RwkvFirstReferenceIdeal.main_arg7) = m ((c.tc : Thread Cert.RwkvFirstIdeal.nD Cert.RwkvFirstIdeal.τ).loc Cert.RwkvFirstIdeal.main_arg7)
      ∧ m' ((c.tc : Thread Cert.RwkvFirstReferenceIdeal.nD Cert.RwkvFirstReferenceIdeal.τ).loc Cert.RwkvFirstReferenceIdeal.main_arg8) = m ((c.tc : Thread Cert.RwkvFirstIdeal.nD Cert.RwkvFirstIdeal.τ).loc Cert.RwkvFirstIdeal.main_arg8)
      ∧ m' ((c.tc : Thread Cert.RwkvFirstReferenceIdeal.nD Cert.RwkvFirstReferenceIdeal.τ).loc Cert.RwkvFirstReferenceIdeal.main_arg9) = m ((c.tc : Thread Cert.RwkvFirstIdeal.nD Cert.RwkvFirstIdeal.τ).loc Cert.RwkvFirstIdeal.main_arg9)) →
    ∃ (v0 : (c : Dev Cert.RwkvFirstIdeal.nD) → Buf (Elt Ideal) ((c.tc : Thread Cert.RwkvFirstIdeal.nD Cert.RwkvFirstIdeal.τ).loc Cert.RwkvFirstIdeal.main_v26_0)) (v1 : (c : Dev Cert.RwkvFirstIdeal.nD) → Buf (Elt Ideal) ((c.tc : Thread Cert.RwkvFirstIdeal.nD Cert.RwkvFirstIdeal.τ).loc Cert.RwkvFirstIdeal.main_v26_1)) (v2 : (c : Dev Cert.RwkvFirstIdeal.nD) → Buf (Elt Ideal) ((c.tc : Thread Cert.RwkvFirstIdeal.nD Cert.RwkvFirstIdeal.τ).loc Cert.RwkvFirstIdeal.main_v26_2)) (v3 : (c : Dev Cert.RwkvFirstIdeal.nD) → Buf (Elt Ideal) ((c.tc : Thread Cert.RwkvFirstIdeal.nD Cert.RwkvFirstIdeal.τ).loc Cert.RwkvFirstIdeal.main_v26_3)) (v4 : (c : Dev Cert.RwkvFirstIdeal.nD) → Buf (Elt Ideal) ((c.tc : Thread Cert.RwkvFirstIdeal.nD Cert.RwkvFirstIdeal.τ).loc Cert.RwkvFirstIdeal.main_v26_4)) (v5 : (c : Dev Cert.RwkvFirstIdeal.nD) → Buf (Elt Ideal) ((c.tc : Thread Cert.RwkvFirstIdeal.nD Cert.RwkvFirstIdeal.τ).loc Cert.RwkvFirstIdeal.main_v26_5)) (v6 : (c : Dev Cert.RwkvFirstIdeal.nD) → Buf (Elt Ideal) ((c.tc : Thread Cert.RwkvFirstIdeal.nD Cert.RwkvFirstIdeal.τ).loc Cert.RwkvFirstIdeal.main_v26_6)) (v7 : (c : Dev Cert.RwkvFirstIdeal.nD) → Buf (Elt Ideal) ((c.tc : Thread Cert.RwkvFirstIdeal.nD Cert.RwkvFirstIdeal.τ).loc Cert.RwkvFirstIdeal.main_v26_7)),
      θ_run (Cert.RwkvFirstIdeal.defs (F := Ideal)) (onTc (τ := Cert.RwkvFirstIdeal.τ) (Cert.RwkvFirstIdeal.main (F := Ideal))) ⟨m, fun _ => 0, g⟩ (fun r => ∀ c : Dev Cert.RwkvFirstIdeal.nD,
          r.2.mem ((c.tc : Thread Cert.RwkvFirstIdeal.nD Cert.RwkvFirstIdeal.τ).loc Cert.RwkvFirstIdeal.main_v26_0) = v0 c
          ∧ r.2.mem ((c.tc : Thread Cert.RwkvFirstIdeal.nD Cert.RwkvFirstIdeal.τ).loc Cert.RwkvFirstIdeal.main_v26_1) = v1 c
          ∧ r.2.mem ((c.tc : Thread Cert.RwkvFirstIdeal.nD Cert.RwkvFirstIdeal.τ).loc Cert.RwkvFirstIdeal.main_v26_2) = v2 c
          ∧ r.2.mem ((c.tc : Thread Cert.RwkvFirstIdeal.nD Cert.RwkvFirstIdeal.τ).loc Cert.RwkvFirstIdeal.main_v26_3) = v3 c
          ∧ r.2.mem ((c.tc : Thread Cert.RwkvFirstIdeal.nD Cert.RwkvFirstIdeal.τ).loc Cert.RwkvFirstIdeal.main_v26_4) = v4 c
          ∧ r.2.mem ((c.tc : Thread Cert.RwkvFirstIdeal.nD Cert.RwkvFirstIdeal.τ).loc Cert.RwkvFirstIdeal.main_v26_5) = v5 c
          ∧ r.2.mem ((c.tc : Thread Cert.RwkvFirstIdeal.nD Cert.RwkvFirstIdeal.τ).loc Cert.RwkvFirstIdeal.main_v26_6) = v6 c
          ∧ r.2.mem ((c.tc : Thread Cert.RwkvFirstIdeal.nD Cert.RwkvFirstIdeal.τ).loc Cert.RwkvFirstIdeal.main_v26_7) = v7 c
          ∧ r.2.mem ((c.tc : Thread Cert.RwkvFirstIdeal.nD Cert.RwkvFirstIdeal.τ).loc Cert.RwkvFirstIdeal.main_arg0) = m ((c.tc : Thread Cert.RwkvFirstIdeal.nD Cert.RwkvFirstIdeal.τ).loc Cert.RwkvFirstIdeal.main_arg0)
          ∧ r.2.mem ((c.tc : Thread Cert.RwkvFirstIdeal.nD Cert.RwkvFirstIdeal.τ).loc Cert.RwkvFirstIdeal.main_arg1) = m ((c.tc : Thread Cert.RwkvFirstIdeal.nD Cert.RwkvFirstIdeal.τ).loc Cert.RwkvFirstIdeal.main_arg1)
          ∧ r.2.mem ((c.tc : Thread Cert.RwkvFirstIdeal.nD Cert.RwkvFirstIdeal.τ).loc Cert.RwkvFirstIdeal.main_arg2) = m ((c.tc : Thread Cert.RwkvFirstIdeal.nD Cert.RwkvFirstIdeal.τ).loc Cert.RwkvFirstIdeal.main_arg2)
          ∧ r.2.mem ((c.tc : Thread Cert.RwkvFirstIdeal.nD Cert.RwkvFirstIdeal.τ).loc Cert.RwkvFirstIdeal.main_arg3) = m ((c.tc : Thread Cert.RwkvFirstIdeal.nD Cert.RwkvFirstIdeal.τ).loc Cert.RwkvFirstIdeal.main_arg3)
          ∧ r.2.mem ((c.tc : Thread Cert.RwkvFirstIdeal.nD Cert.RwkvFirstIdeal.τ).loc Cert.RwkvFirstIdeal.main_arg4) = m ((c.tc : Thread Cert.RwkvFirstIdeal.nD Cert.RwkvFirstIdeal.τ).loc Cert.RwkvFirstIdeal.main_arg4)
          ∧ r.2.mem ((c.tc : Thread Cert.RwkvFirstIdeal.nD Cert.RwkvFirstIdeal.τ).loc Cert.RwkvFirstIdeal.main_arg5) = m ((c.tc : Thread Cert.RwkvFirstIdeal.nD Cert.RwkvFirstIdeal.τ).loc Cert.RwkvFirstIdeal.main_arg5)
          ∧ r.2.mem ((c.tc : Thread Cert.RwkvFirstIdeal.nD Cert.RwkvFirstIdeal.τ).loc Cert.RwkvFirstIdeal.main_arg6) = m ((c.tc : Thread Cert.RwkvFirstIdeal.nD Cert.RwkvFirstIdeal.τ).loc Cert.RwkvFirstIdeal.main_arg6)
          ∧ r.2.mem ((c.tc : Thread Cert.RwkvFirstIdeal.nD Cert.RwkvFirstIdeal.τ).loc Cert.RwkvFirstIdeal.main_arg7) = m ((c.tc : Thread Cert.RwkvFirstIdeal.nD Cert.RwkvFirstIdeal.τ).loc Cert.RwkvFirstIdeal.main_arg7)
          ∧ r.2.mem ((c.tc : Thread Cert.RwkvFirstIdeal.nD Cert.RwkvFirstIdeal.τ).loc Cert.RwkvFirstIdeal.main_arg8) = m ((c.tc : Thread Cert.RwkvFirstIdeal.nD Cert.RwkvFirstIdeal.τ).loc Cert.RwkvFirstIdeal.main_arg8)
          ∧ r.2.mem ((c.tc : Thread Cert.RwkvFirstIdeal.nD Cert.RwkvFirstIdeal.τ).loc Cert.RwkvFirstIdeal.main_arg9) = m ((c.tc : Thread Cert.RwkvFirstIdeal.nD Cert.RwkvFirstIdeal.τ).loc Cert.RwkvFirstIdeal.main_arg9))
      ∧ θ_run (Cert.RwkvFirstReferenceIdeal.defs (F := Ideal)) (onTc (τ := Cert.RwkvFirstReferenceIdeal.τ) (Cert.RwkvFirstReferenceIdeal.main (F := Ideal))) ⟨m', fun _ => 0, g'⟩ (fun r => ∀ c : Dev Cert.RwkvFirstReferenceIdeal.nD,
          r.2.mem ((c.tc : Thread Cert.RwkvFirstReferenceIdeal.nD Cert.RwkvFirstReferenceIdeal.τ).loc Cert.RwkvFirstReferenceIdeal.main_v160) = v0 c
          ∧ r.2.mem ((c.tc : Thread Cert.RwkvFirstReferenceIdeal.nD Cert.RwkvFirstReferenceIdeal.τ).loc Cert.RwkvFirstReferenceIdeal.main_v161) = v1 c
          ∧ r.2.mem ((c.tc : Thread Cert.RwkvFirstReferenceIdeal.nD Cert.RwkvFirstReferenceIdeal.τ).loc Cert.RwkvFirstReferenceIdeal.main_v162) = v2 c
          ∧ r.2.mem ((c.tc : Thread Cert.RwkvFirstReferenceIdeal.nD Cert.RwkvFirstReferenceIdeal.τ).loc Cert.RwkvFirstReferenceIdeal.main_v163) = v3 c
          ∧ r.2.mem ((c.tc : Thread Cert.RwkvFirstReferenceIdeal.nD Cert.RwkvFirstReferenceIdeal.τ).loc Cert.RwkvFirstReferenceIdeal.main_v164) = v4 c
          ∧ r.2.mem ((c.tc : Thread Cert.RwkvFirstReferenceIdeal.nD Cert.RwkvFirstReferenceIdeal.τ).loc Cert.RwkvFirstReferenceIdeal.main_v165) = v5 c
          ∧ r.2.mem ((c.tc : Thread Cert.RwkvFirstReferenceIdeal.nD Cert.RwkvFirstReferenceIdeal.τ).loc Cert.RwkvFirstReferenceIdeal.main_v166) = v6 c
          ∧ r.2.mem ((c.tc : Thread Cert.RwkvFirstReferenceIdeal.nD Cert.RwkvFirstReferenceIdeal.τ).loc Cert.RwkvFirstReferenceIdeal.main_v168) = v7 c
          ∧ r.2.mem ((c.tc : Thread Cert.RwkvFirstReferenceIdeal.nD Cert.RwkvFirstReferenceIdeal.τ).loc Cert.RwkvFirstReferenceIdeal.main_arg0) = m' ((c.tc : Thread Cert.RwkvFirstReferenceIdeal.nD Cert.RwkvFirstReferenceIdeal.τ).loc Cert.RwkvFirstReferenceIdeal.main_arg0)
          ∧ r.2.mem ((c.tc : Thread Cert.RwkvFirstReferenceIdeal.nD Cert.RwkvFirstReferenceIdeal.τ).loc Cert.RwkvFirstReferenceIdeal.main_arg1) = m' ((c.tc : Thread Cert.RwkvFirstReferenceIdeal.nD Cert.RwkvFirstReferenceIdeal.τ).loc Cert.RwkvFirstReferenceIdeal.main_arg1)
          ∧ r.2.mem ((c.tc : Thread Cert.RwkvFirstReferenceIdeal.nD Cert.RwkvFirstReferenceIdeal.τ).loc Cert.RwkvFirstReferenceIdeal.main_arg2) = m' ((c.tc : Thread Cert.RwkvFirstReferenceIdeal.nD Cert.RwkvFirstReferenceIdeal.τ).loc Cert.RwkvFirstReferenceIdeal.main_arg2)
          ∧ r.2.mem ((c.tc : Thread Cert.RwkvFirstReferenceIdeal.nD Cert.RwkvFirstReferenceIdeal.τ).loc Cert.RwkvFirstReferenceIdeal.main_arg3) = m' ((c.tc : Thread Cert.RwkvFirstReferenceIdeal.nD Cert.RwkvFirstReferenceIdeal.τ).loc Cert.RwkvFirstReferenceIdeal.main_arg3)
          ∧ r.2.mem ((c.tc : Thread Cert.RwkvFirstReferenceIdeal.nD Cert.RwkvFirstReferenceIdeal.τ).loc Cert.RwkvFirstReferenceIdeal.main_arg4) = m' ((c.tc : Thread Cert.RwkvFirstReferenceIdeal.nD Cert.RwkvFirstReferenceIdeal.τ).loc Cert.RwkvFirstReferenceIdeal.main_arg4)
          ∧ r.2.mem ((c.tc : Thread Cert.RwkvFirstReferenceIdeal.nD Cert.RwkvFirstReferenceIdeal.τ).loc Cert.RwkvFirstReferenceIdeal.main_arg5) = m' ((c.tc : Thread Cert.RwkvFirstReferenceIdeal.nD Cert.RwkvFirstReferenceIdeal.τ).loc Cert.RwkvFirstReferenceIdeal.main_arg5)
          ∧ r.2.mem ((c.tc : Thread Cert.RwkvFirstReferenceIdeal.nD Cert.RwkvFirstReferenceIdeal.τ).loc Cert.RwkvFirstReferenceIdeal.main_arg6) = m' ((c.tc : Thread Cert.RwkvFirstReferenceIdeal.nD Cert.RwkvFirstReferenceIdeal.τ).loc Cert.RwkvFirstReferenceIdeal.main_arg6)
          ∧ r.2.mem ((c.tc : Thread Cert.RwkvFirstReferenceIdeal.nD Cert.RwkvFirstReferenceIdeal.τ).loc Cert.RwkvFirstReferenceIdeal.main_arg7) = m' ((c.tc : Thread Cert.RwkvFirstReferenceIdeal.nD Cert.RwkvFirstReferenceIdeal.τ).loc Cert.RwkvFirstReferenceIdeal.main_arg7)
          ∧ r.2.mem ((c.tc : Thread Cert.RwkvFirstReferenceIdeal.nD Cert.RwkvFirstReferenceIdeal.τ).loc Cert.RwkvFirstReferenceIdeal.main_arg8) = m' ((c.tc : Thread Cert.RwkvFirstReferenceIdeal.nD Cert.RwkvFirstReferenceIdeal.τ).loc Cert.RwkvFirstReferenceIdeal.main_arg8)
          ∧ r.2.mem ((c.tc : Thread Cert.RwkvFirstReferenceIdeal.nD Cert.RwkvFirstReferenceIdeal.τ).loc Cert.RwkvFirstReferenceIdeal.main_arg9) = m' ((c.tc : Thread Cert.RwkvFirstReferenceIdeal.nD Cert.RwkvFirstReferenceIdeal.τ).loc Cert.RwkvFirstReferenceIdeal.main_arg9))

def preserves_RwkvNext_RwkvNextIdeal : Prop :=
  True

def algebraic_RwkvNextIdeal_RwkvNextReferenceIdeal [hRwkvNextIdeal : Cert.RwkvNextIdeal.Facts] [hRwkvNextReferenceIdeal : Cert.RwkvNextReferenceIdeal.Facts] : Prop :=
  ∀ (m : (ℓ : Loc Cert.RwkvNextIdeal.nD Cert.RwkvNextIdeal.τ Cert.RwkvNextIdeal.sig) → Buf (Elt Ideal) ℓ) (g : Dev Cert.RwkvNextIdeal.nD → PrngReg)
    (m' : (ℓ : Loc Cert.RwkvNextReferenceIdeal.nD Cert.RwkvNextReferenceIdeal.τ Cert.RwkvNextReferenceIdeal.sig) → Buf (Elt Ideal) ℓ) (g' : Dev Cert.RwkvNextReferenceIdeal.nD → PrngReg), Pre_RwkvNextIdeal m →
    (∀ c : Dev Cert.RwkvNextIdeal.nD,
      m' ((c.tc : Thread Cert.RwkvNextReferenceIdeal.nD Cert.RwkvNextReferenceIdeal.τ).loc Cert.RwkvNextReferenceIdeal.main_arg0) = m ((c.tc : Thread Cert.RwkvNextIdeal.nD Cert.RwkvNextIdeal.τ).loc Cert.RwkvNextIdeal.main_arg0)
      ∧ m' ((c.tc : Thread Cert.RwkvNextReferenceIdeal.nD Cert.RwkvNextReferenceIdeal.τ).loc Cert.RwkvNextReferenceIdeal.main_arg1) = m ((c.tc : Thread Cert.RwkvNextIdeal.nD Cert.RwkvNextIdeal.τ).loc Cert.RwkvNextIdeal.main_arg1)
      ∧ m' ((c.tc : Thread Cert.RwkvNextReferenceIdeal.nD Cert.RwkvNextReferenceIdeal.τ).loc Cert.RwkvNextReferenceIdeal.main_arg2) = m ((c.tc : Thread Cert.RwkvNextIdeal.nD Cert.RwkvNextIdeal.τ).loc Cert.RwkvNextIdeal.main_arg2)
      ∧ m' ((c.tc : Thread Cert.RwkvNextReferenceIdeal.nD Cert.RwkvNextReferenceIdeal.τ).loc Cert.RwkvNextReferenceIdeal.main_arg3) = m ((c.tc : Thread Cert.RwkvNextIdeal.nD Cert.RwkvNextIdeal.τ).loc Cert.RwkvNextIdeal.main_arg3)
      ∧ m' ((c.tc : Thread Cert.RwkvNextReferenceIdeal.nD Cert.RwkvNextReferenceIdeal.τ).loc Cert.RwkvNextReferenceIdeal.main_arg4) = m ((c.tc : Thread Cert.RwkvNextIdeal.nD Cert.RwkvNextIdeal.τ).loc Cert.RwkvNextIdeal.main_arg4)
      ∧ m' ((c.tc : Thread Cert.RwkvNextReferenceIdeal.nD Cert.RwkvNextReferenceIdeal.τ).loc Cert.RwkvNextReferenceIdeal.main_arg5) = m ((c.tc : Thread Cert.RwkvNextIdeal.nD Cert.RwkvNextIdeal.τ).loc Cert.RwkvNextIdeal.main_arg5)
      ∧ m' ((c.tc : Thread Cert.RwkvNextReferenceIdeal.nD Cert.RwkvNextReferenceIdeal.τ).loc Cert.RwkvNextReferenceIdeal.main_arg6) = m ((c.tc : Thread Cert.RwkvNextIdeal.nD Cert.RwkvNextIdeal.τ).loc Cert.RwkvNextIdeal.main_arg6)
      ∧ m' ((c.tc : Thread Cert.RwkvNextReferenceIdeal.nD Cert.RwkvNextReferenceIdeal.τ).loc Cert.RwkvNextReferenceIdeal.main_arg7) = m ((c.tc : Thread Cert.RwkvNextIdeal.nD Cert.RwkvNextIdeal.τ).loc Cert.RwkvNextIdeal.main_arg7)
      ∧ m' ((c.tc : Thread Cert.RwkvNextReferenceIdeal.nD Cert.RwkvNextReferenceIdeal.τ).loc Cert.RwkvNextReferenceIdeal.main_arg8) = m ((c.tc : Thread Cert.RwkvNextIdeal.nD Cert.RwkvNextIdeal.τ).loc Cert.RwkvNextIdeal.main_arg8)
      ∧ m' ((c.tc : Thread Cert.RwkvNextReferenceIdeal.nD Cert.RwkvNextReferenceIdeal.τ).loc Cert.RwkvNextReferenceIdeal.main_arg9) = m ((c.tc : Thread Cert.RwkvNextIdeal.nD Cert.RwkvNextIdeal.τ).loc Cert.RwkvNextIdeal.main_arg9)
      ∧ m' ((c.tc : Thread Cert.RwkvNextReferenceIdeal.nD Cert.RwkvNextReferenceIdeal.τ).loc Cert.RwkvNextReferenceIdeal.main_arg10) = m ((c.tc : Thread Cert.RwkvNextIdeal.nD Cert.RwkvNextIdeal.τ).loc Cert.RwkvNextIdeal.main_arg10)
      ∧ m' ((c.tc : Thread Cert.RwkvNextReferenceIdeal.nD Cert.RwkvNextReferenceIdeal.τ).loc Cert.RwkvNextReferenceIdeal.main_arg11) = m ((c.tc : Thread Cert.RwkvNextIdeal.nD Cert.RwkvNextIdeal.τ).loc Cert.RwkvNextIdeal.main_arg11)
      ∧ m' ((c.tc : Thread Cert.RwkvNextReferenceIdeal.nD Cert.RwkvNextReferenceIdeal.τ).loc Cert.RwkvNextReferenceIdeal.main_arg12) = m ((c.tc : Thread Cert.RwkvNextIdeal.nD Cert.RwkvNextIdeal.τ).loc Cert.RwkvNextIdeal.main_arg12)) →
    ∃ (v0 : (c : Dev Cert.RwkvNextIdeal.nD) → Buf (Elt Ideal) ((c.tc : Thread Cert.RwkvNextIdeal.nD Cert.RwkvNextIdeal.τ).loc Cert.RwkvNextIdeal.main_v26_0)) (v1 : (c : Dev Cert.RwkvNextIdeal.nD) → Buf (Elt Ideal) ((c.tc : Thread Cert.RwkvNextIdeal.nD Cert.RwkvNextIdeal.τ).loc Cert.RwkvNextIdeal.main_v26_1)) (v2 : (c : Dev Cert.RwkvNextIdeal.nD) → Buf (Elt Ideal) ((c.tc : Thread Cert.RwkvNextIdeal.nD Cert.RwkvNextIdeal.τ).loc Cert.RwkvNextIdeal.main_v26_2)) (v3 : (c : Dev Cert.RwkvNextIdeal.nD) → Buf (Elt Ideal) ((c.tc : Thread Cert.RwkvNextIdeal.nD Cert.RwkvNextIdeal.τ).loc Cert.RwkvNextIdeal.main_v26_3)) (v4 : (c : Dev Cert.RwkvNextIdeal.nD) → Buf (Elt Ideal) ((c.tc : Thread Cert.RwkvNextIdeal.nD Cert.RwkvNextIdeal.τ).loc Cert.RwkvNextIdeal.main_v26_4)) (v5 : (c : Dev Cert.RwkvNextIdeal.nD) → Buf (Elt Ideal) ((c.tc : Thread Cert.RwkvNextIdeal.nD Cert.RwkvNextIdeal.τ).loc Cert.RwkvNextIdeal.main_v26_5)) (v6 : (c : Dev Cert.RwkvNextIdeal.nD) → Buf (Elt Ideal) ((c.tc : Thread Cert.RwkvNextIdeal.nD Cert.RwkvNextIdeal.τ).loc Cert.RwkvNextIdeal.main_v26_6)) (v7 : (c : Dev Cert.RwkvNextIdeal.nD) → Buf (Elt Ideal) ((c.tc : Thread Cert.RwkvNextIdeal.nD Cert.RwkvNextIdeal.τ).loc Cert.RwkvNextIdeal.main_v26_7)),
      θ_run (Cert.RwkvNextIdeal.defs (F := Ideal)) (onTc (τ := Cert.RwkvNextIdeal.τ) (Cert.RwkvNextIdeal.main (F := Ideal))) ⟨m, fun _ => 0, g⟩ (fun r => ∀ c : Dev Cert.RwkvNextIdeal.nD,
          r.2.mem ((c.tc : Thread Cert.RwkvNextIdeal.nD Cert.RwkvNextIdeal.τ).loc Cert.RwkvNextIdeal.main_v26_0) = v0 c
          ∧ r.2.mem ((c.tc : Thread Cert.RwkvNextIdeal.nD Cert.RwkvNextIdeal.τ).loc Cert.RwkvNextIdeal.main_v26_1) = v1 c
          ∧ r.2.mem ((c.tc : Thread Cert.RwkvNextIdeal.nD Cert.RwkvNextIdeal.τ).loc Cert.RwkvNextIdeal.main_v26_2) = v2 c
          ∧ r.2.mem ((c.tc : Thread Cert.RwkvNextIdeal.nD Cert.RwkvNextIdeal.τ).loc Cert.RwkvNextIdeal.main_v26_3) = v3 c
          ∧ r.2.mem ((c.tc : Thread Cert.RwkvNextIdeal.nD Cert.RwkvNextIdeal.τ).loc Cert.RwkvNextIdeal.main_v26_4) = v4 c
          ∧ r.2.mem ((c.tc : Thread Cert.RwkvNextIdeal.nD Cert.RwkvNextIdeal.τ).loc Cert.RwkvNextIdeal.main_v26_5) = v5 c
          ∧ r.2.mem ((c.tc : Thread Cert.RwkvNextIdeal.nD Cert.RwkvNextIdeal.τ).loc Cert.RwkvNextIdeal.main_v26_6) = v6 c
          ∧ r.2.mem ((c.tc : Thread Cert.RwkvNextIdeal.nD Cert.RwkvNextIdeal.τ).loc Cert.RwkvNextIdeal.main_v26_7) = v7 c
          ∧ r.2.mem ((c.tc : Thread Cert.RwkvNextIdeal.nD Cert.RwkvNextIdeal.τ).loc Cert.RwkvNextIdeal.main_arg0) = m ((c.tc : Thread Cert.RwkvNextIdeal.nD Cert.RwkvNextIdeal.τ).loc Cert.RwkvNextIdeal.main_arg0)
          ∧ r.2.mem ((c.tc : Thread Cert.RwkvNextIdeal.nD Cert.RwkvNextIdeal.τ).loc Cert.RwkvNextIdeal.main_arg1) = m ((c.tc : Thread Cert.RwkvNextIdeal.nD Cert.RwkvNextIdeal.τ).loc Cert.RwkvNextIdeal.main_arg1)
          ∧ r.2.mem ((c.tc : Thread Cert.RwkvNextIdeal.nD Cert.RwkvNextIdeal.τ).loc Cert.RwkvNextIdeal.main_arg2) = m ((c.tc : Thread Cert.RwkvNextIdeal.nD Cert.RwkvNextIdeal.τ).loc Cert.RwkvNextIdeal.main_arg2)
          ∧ r.2.mem ((c.tc : Thread Cert.RwkvNextIdeal.nD Cert.RwkvNextIdeal.τ).loc Cert.RwkvNextIdeal.main_arg3) = m ((c.tc : Thread Cert.RwkvNextIdeal.nD Cert.RwkvNextIdeal.τ).loc Cert.RwkvNextIdeal.main_arg3)
          ∧ r.2.mem ((c.tc : Thread Cert.RwkvNextIdeal.nD Cert.RwkvNextIdeal.τ).loc Cert.RwkvNextIdeal.main_arg4) = m ((c.tc : Thread Cert.RwkvNextIdeal.nD Cert.RwkvNextIdeal.τ).loc Cert.RwkvNextIdeal.main_arg4)
          ∧ r.2.mem ((c.tc : Thread Cert.RwkvNextIdeal.nD Cert.RwkvNextIdeal.τ).loc Cert.RwkvNextIdeal.main_arg5) = m ((c.tc : Thread Cert.RwkvNextIdeal.nD Cert.RwkvNextIdeal.τ).loc Cert.RwkvNextIdeal.main_arg5)
          ∧ r.2.mem ((c.tc : Thread Cert.RwkvNextIdeal.nD Cert.RwkvNextIdeal.τ).loc Cert.RwkvNextIdeal.main_arg6) = m ((c.tc : Thread Cert.RwkvNextIdeal.nD Cert.RwkvNextIdeal.τ).loc Cert.RwkvNextIdeal.main_arg6)
          ∧ r.2.mem ((c.tc : Thread Cert.RwkvNextIdeal.nD Cert.RwkvNextIdeal.τ).loc Cert.RwkvNextIdeal.main_arg7) = m ((c.tc : Thread Cert.RwkvNextIdeal.nD Cert.RwkvNextIdeal.τ).loc Cert.RwkvNextIdeal.main_arg7)
          ∧ r.2.mem ((c.tc : Thread Cert.RwkvNextIdeal.nD Cert.RwkvNextIdeal.τ).loc Cert.RwkvNextIdeal.main_arg8) = m ((c.tc : Thread Cert.RwkvNextIdeal.nD Cert.RwkvNextIdeal.τ).loc Cert.RwkvNextIdeal.main_arg8)
          ∧ r.2.mem ((c.tc : Thread Cert.RwkvNextIdeal.nD Cert.RwkvNextIdeal.τ).loc Cert.RwkvNextIdeal.main_arg9) = m ((c.tc : Thread Cert.RwkvNextIdeal.nD Cert.RwkvNextIdeal.τ).loc Cert.RwkvNextIdeal.main_arg9)
          ∧ r.2.mem ((c.tc : Thread Cert.RwkvNextIdeal.nD Cert.RwkvNextIdeal.τ).loc Cert.RwkvNextIdeal.main_arg10) = m ((c.tc : Thread Cert.RwkvNextIdeal.nD Cert.RwkvNextIdeal.τ).loc Cert.RwkvNextIdeal.main_arg10)
          ∧ r.2.mem ((c.tc : Thread Cert.RwkvNextIdeal.nD Cert.RwkvNextIdeal.τ).loc Cert.RwkvNextIdeal.main_arg11) = m ((c.tc : Thread Cert.RwkvNextIdeal.nD Cert.RwkvNextIdeal.τ).loc Cert.RwkvNextIdeal.main_arg11)
          ∧ r.2.mem ((c.tc : Thread Cert.RwkvNextIdeal.nD Cert.RwkvNextIdeal.τ).loc Cert.RwkvNextIdeal.main_arg12) = m ((c.tc : Thread Cert.RwkvNextIdeal.nD Cert.RwkvNextIdeal.τ).loc Cert.RwkvNextIdeal.main_arg12))
      ∧ θ_run (Cert.RwkvNextReferenceIdeal.defs (F := Ideal)) (onTc (τ := Cert.RwkvNextReferenceIdeal.τ) (Cert.RwkvNextReferenceIdeal.main (F := Ideal))) ⟨m', fun _ => 0, g'⟩ (fun r => ∀ c : Dev Cert.RwkvNextReferenceIdeal.nD,
          r.2.mem ((c.tc : Thread Cert.RwkvNextReferenceIdeal.nD Cert.RwkvNextReferenceIdeal.τ).loc Cert.RwkvNextReferenceIdeal.main_v179) = v0 c
          ∧ r.2.mem ((c.tc : Thread Cert.RwkvNextReferenceIdeal.nD Cert.RwkvNextReferenceIdeal.τ).loc Cert.RwkvNextReferenceIdeal.main_v180) = v1 c
          ∧ r.2.mem ((c.tc : Thread Cert.RwkvNextReferenceIdeal.nD Cert.RwkvNextReferenceIdeal.τ).loc Cert.RwkvNextReferenceIdeal.main_v181) = v2 c
          ∧ r.2.mem ((c.tc : Thread Cert.RwkvNextReferenceIdeal.nD Cert.RwkvNextReferenceIdeal.τ).loc Cert.RwkvNextReferenceIdeal.main_v182) = v3 c
          ∧ r.2.mem ((c.tc : Thread Cert.RwkvNextReferenceIdeal.nD Cert.RwkvNextReferenceIdeal.τ).loc Cert.RwkvNextReferenceIdeal.main_v183) = v4 c
          ∧ r.2.mem ((c.tc : Thread Cert.RwkvNextReferenceIdeal.nD Cert.RwkvNextReferenceIdeal.τ).loc Cert.RwkvNextReferenceIdeal.main_v184) = v5 c
          ∧ r.2.mem ((c.tc : Thread Cert.RwkvNextReferenceIdeal.nD Cert.RwkvNextReferenceIdeal.τ).loc Cert.RwkvNextReferenceIdeal.main_v185) = v6 c
          ∧ r.2.mem ((c.tc : Thread Cert.RwkvNextReferenceIdeal.nD Cert.RwkvNextReferenceIdeal.τ).loc Cert.RwkvNextReferenceIdeal.main_v187) = v7 c
          ∧ r.2.mem ((c.tc : Thread Cert.RwkvNextReferenceIdeal.nD Cert.RwkvNextReferenceIdeal.τ).loc Cert.RwkvNextReferenceIdeal.main_arg0) = m' ((c.tc : Thread Cert.RwkvNextReferenceIdeal.nD Cert.RwkvNextReferenceIdeal.τ).loc Cert.RwkvNextReferenceIdeal.main_arg0)
          ∧ r.2.mem ((c.tc : Thread Cert.RwkvNextReferenceIdeal.nD Cert.RwkvNextReferenceIdeal.τ).loc Cert.RwkvNextReferenceIdeal.main_arg1) = m' ((c.tc : Thread Cert.RwkvNextReferenceIdeal.nD Cert.RwkvNextReferenceIdeal.τ).loc Cert.RwkvNextReferenceIdeal.main_arg1)
          ∧ r.2.mem ((c.tc : Thread Cert.RwkvNextReferenceIdeal.nD Cert.RwkvNextReferenceIdeal.τ).loc Cert.RwkvNextReferenceIdeal.main_arg2) = m' ((c.tc : Thread Cert.RwkvNextReferenceIdeal.nD Cert.RwkvNextReferenceIdeal.τ).loc Cert.RwkvNextReferenceIdeal.main_arg2)
          ∧ r.2.mem ((c.tc : Thread Cert.RwkvNextReferenceIdeal.nD Cert.RwkvNextReferenceIdeal.τ).loc Cert.RwkvNextReferenceIdeal.main_arg3) = m' ((c.tc : Thread Cert.RwkvNextReferenceIdeal.nD Cert.RwkvNextReferenceIdeal.τ).loc Cert.RwkvNextReferenceIdeal.main_arg3)
          ∧ r.2.mem ((c.tc : Thread Cert.RwkvNextReferenceIdeal.nD Cert.RwkvNextReferenceIdeal.τ).loc Cert.RwkvNextReferenceIdeal.main_arg4) = m' ((c.tc : Thread Cert.RwkvNextReferenceIdeal.nD Cert.RwkvNextReferenceIdeal.τ).loc Cert.RwkvNextReferenceIdeal.main_arg4)
          ∧ r.2.mem ((c.tc : Thread Cert.RwkvNextReferenceIdeal.nD Cert.RwkvNextReferenceIdeal.τ).loc Cert.RwkvNextReferenceIdeal.main_arg5) = m' ((c.tc : Thread Cert.RwkvNextReferenceIdeal.nD Cert.RwkvNextReferenceIdeal.τ).loc Cert.RwkvNextReferenceIdeal.main_arg5)
          ∧ r.2.mem ((c.tc : Thread Cert.RwkvNextReferenceIdeal.nD Cert.RwkvNextReferenceIdeal.τ).loc Cert.RwkvNextReferenceIdeal.main_arg6) = m' ((c.tc : Thread Cert.RwkvNextReferenceIdeal.nD Cert.RwkvNextReferenceIdeal.τ).loc Cert.RwkvNextReferenceIdeal.main_arg6)
          ∧ r.2.mem ((c.tc : Thread Cert.RwkvNextReferenceIdeal.nD Cert.RwkvNextReferenceIdeal.τ).loc Cert.RwkvNextReferenceIdeal.main_arg7) = m' ((c.tc : Thread Cert.RwkvNextReferenceIdeal.nD Cert.RwkvNextReferenceIdeal.τ).loc Cert.RwkvNextReferenceIdeal.main_arg7)
          ∧ r.2.mem ((c.tc : Thread Cert.RwkvNextReferenceIdeal.nD Cert.RwkvNextReferenceIdeal.τ).loc Cert.RwkvNextReferenceIdeal.main_arg8) = m' ((c.tc : Thread Cert.RwkvNextReferenceIdeal.nD Cert.RwkvNextReferenceIdeal.τ).loc Cert.RwkvNextReferenceIdeal.main_arg8)
          ∧ r.2.mem ((c.tc : Thread Cert.RwkvNextReferenceIdeal.nD Cert.RwkvNextReferenceIdeal.τ).loc Cert.RwkvNextReferenceIdeal.main_arg9) = m' ((c.tc : Thread Cert.RwkvNextReferenceIdeal.nD Cert.RwkvNextReferenceIdeal.τ).loc Cert.RwkvNextReferenceIdeal.main_arg9)
          ∧ r.2.mem ((c.tc : Thread Cert.RwkvNextReferenceIdeal.nD Cert.RwkvNextReferenceIdeal.τ).loc Cert.RwkvNextReferenceIdeal.main_arg10) = m' ((c.tc : Thread Cert.RwkvNextReferenceIdeal.nD Cert.RwkvNextReferenceIdeal.τ).loc Cert.RwkvNextReferenceIdeal.main_arg10)
          ∧ r.2.mem ((c.tc : Thread Cert.RwkvNextReferenceIdeal.nD Cert.RwkvNextReferenceIdeal.τ).loc Cert.RwkvNextReferenceIdeal.main_arg11) = m' ((c.tc : Thread Cert.RwkvNextReferenceIdeal.nD Cert.RwkvNextReferenceIdeal.τ).loc Cert.RwkvNextReferenceIdeal.main_arg11)
          ∧ r.2.mem ((c.tc : Thread Cert.RwkvNextReferenceIdeal.nD Cert.RwkvNextReferenceIdeal.τ).loc Cert.RwkvNextReferenceIdeal.main_arg12) = m' ((c.tc : Thread Cert.RwkvNextReferenceIdeal.nD Cert.RwkvNextReferenceIdeal.τ).loc Cert.RwkvNextReferenceIdeal.main_arg12))

def preserves_MlaOut_MlaOutIdeal : Prop :=
  True

def algebraic_MlaOutIdeal_MlaOutReferenceIdeal [hMlaOutIdeal : Cert.MlaOutIdeal.Facts] [hMlaOutReferenceIdeal : Cert.MlaOutReferenceIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutIdeal m →
    (∀ c : Dev Cert.MlaOutIdeal.nD,
      m' ((c.tc : Thread Cert.MlaOutReferenceIdeal.nD Cert.MlaOutReferenceIdeal.τ).loc Cert.MlaOutReferenceIdeal.main_arg0) = m ((c.tc : Thread Cert.MlaOutIdeal.nD Cert.MlaOutIdeal.τ).loc Cert.MlaOutIdeal.main_arg0)
      ∧ m' ((c.tc : Thread Cert.MlaOutReferenceIdeal.nD Cert.MlaOutReferenceIdeal.τ).loc Cert.MlaOutReferenceIdeal.main_arg1) = m ((c.tc : Thread Cert.MlaOutIdeal.nD Cert.MlaOutIdeal.τ).loc Cert.MlaOutIdeal.main_arg1)
      ∧ m' ((c.tc : Thread Cert.MlaOutReferenceIdeal.nD Cert.MlaOutReferenceIdeal.τ).loc Cert.MlaOutReferenceIdeal.main_arg2) = m ((c.tc : Thread Cert.MlaOutIdeal.nD Cert.MlaOutIdeal.τ).loc Cert.MlaOutIdeal.main_arg2)
      ∧ m' ((c.tc : Thread Cert.MlaOutReferenceIdeal.nD Cert.MlaOutReferenceIdeal.τ).loc Cert.MlaOutReferenceIdeal.main_arg3) = m ((c.tc : Thread Cert.MlaOutIdeal.nD Cert.MlaOutIdeal.τ).loc Cert.MlaOutIdeal.main_arg3)
      ∧ m' ((c.tc : Thread Cert.MlaOutReferenceIdeal.nD Cert.MlaOutReferenceIdeal.τ).loc Cert.MlaOutReferenceIdeal.main_arg4) = m ((c.tc : Thread Cert.MlaOutIdeal.nD Cert.MlaOutIdeal.τ).loc Cert.MlaOutIdeal.main_arg4)) →
    ∃ (v0 : (c : Dev Cert.MlaOutIdeal.nD) → Buf (Elt Ideal) ((c.tc : Thread Cert.MlaOutIdeal.nD Cert.MlaOutIdeal.τ).loc Cert.MlaOutIdeal.main_v15)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v15) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
          ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3)
          ∧ r.2.mem ((c.tc : Thread Cert.MlaOutIdeal.nD Cert.MlaOutIdeal.τ).loc Cert.MlaOutIdeal.main_arg4) = m ((c.tc : Thread Cert.MlaOutIdeal.nD Cert.MlaOutIdeal.τ).loc Cert.MlaOutIdeal.main_arg4))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v21) = v0 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1)
          ∧ r.2.mem ((c.tc : Thread Cert.MlaOutReferenceIdeal.nD Cert.MlaOutReferenceIdeal.τ).loc Cert.MlaOutReferenceIdeal.main_arg2) = m' ((c.tc : Thread Cert.MlaOutReferenceIdeal.nD Cert.MlaOutReferenceIdeal.τ).loc Cert.MlaOutReferenceIdeal.main_arg2)
          ∧ r.2.mem ((c.tc : Thread Cert.MlaOutReferenceIdeal.nD Cert.MlaOutReferenceIdeal.τ).loc Cert.MlaOutReferenceIdeal.main_arg3) = m' ((c.tc : Thread Cert.MlaOutReferenceIdeal.nD Cert.MlaOutReferenceIdeal.τ).loc Cert.MlaOutReferenceIdeal.main_arg3)
          ∧ r.2.mem ((c.tc : Thread Cert.MlaOutReferenceIdeal.nD Cert.MlaOutReferenceIdeal.τ).loc Cert.MlaOutReferenceIdeal.main_arg4) = m' ((c.tc : Thread Cert.MlaOutReferenceIdeal.nD Cert.MlaOutReferenceIdeal.τ).loc Cert.MlaOutReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hRwkvOut : Cert.RwkvOut.Facts) (hRwkvOutIdeal : Cert.RwkvOutIdeal.Facts) (hRwkvOutReferenceIdeal : Cert.RwkvOutReferenceIdeal.Facts) (hGdnOut : Cert.GdnOut.Facts) (hGdnOutIdeal : Cert.GdnOutIdeal.Facts) (hGdnOutReferenceIdeal : Cert.GdnOutReferenceIdeal.Facts) (hGdnProj : Cert.GdnProj.Facts) (hGdnProjIdeal : Cert.GdnProjIdeal.Facts) (hGdnProjReferenceIdeal : Cert.GdnProjReferenceIdeal.Facts) (hRwkvFirst : Cert.RwkvFirst.Facts) (hRwkvFirstIdeal : Cert.RwkvFirstIdeal.Facts) (hRwkvFirstReferenceIdeal : Cert.RwkvFirstReferenceIdeal.Facts) (hRwkvNext : Cert.RwkvNext.Facts) (hRwkvNextIdeal : Cert.RwkvNextIdeal.Facts) (hRwkvNextReferenceIdeal : Cert.RwkvNextReferenceIdeal.Facts) (hMlaOut : Cert.MlaOut.Facts) (hMlaOutIdeal : Cert.MlaOutIdeal.Facts) (hMlaOutReferenceIdeal : Cert.MlaOutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_RwkvOut (hRwkvOut := hRwkvOut)
    ∧ quiescent_RwkvOutIdeal (hRwkvOutIdeal := hRwkvOutIdeal)
    ∧ quiescent_RwkvOutReferenceIdeal (hRwkvOutReferenceIdeal := hRwkvOutReferenceIdeal)
    ∧ quiescent_GdnOut (hGdnOut := hGdnOut)
    ∧ quiescent_GdnOutIdeal (hGdnOutIdeal := hGdnOutIdeal)
    ∧ quiescent_GdnOutReferenceIdeal (hGdnOutReferenceIdeal := hGdnOutReferenceIdeal)
    ∧ quiescent_GdnProj (hGdnProj := hGdnProj)
    ∧ quiescent_GdnProjIdeal (hGdnProjIdeal := hGdnProjIdeal)
    ∧ quiescent_GdnProjReferenceIdeal (hGdnProjReferenceIdeal := hGdnProjReferenceIdeal)
    ∧ quiescent_RwkvFirst (hRwkvFirst := hRwkvFirst)
    ∧ quiescent_RwkvFirstIdeal (hRwkvFirstIdeal := hRwkvFirstIdeal)
    ∧ quiescent_RwkvFirstReferenceIdeal (hRwkvFirstReferenceIdeal := hRwkvFirstReferenceIdeal)
    ∧ quiescent_RwkvNext (hRwkvNext := hRwkvNext)
    ∧ quiescent_RwkvNextIdeal (hRwkvNextIdeal := hRwkvNextIdeal)
    ∧ quiescent_RwkvNextReferenceIdeal (hRwkvNextReferenceIdeal := hRwkvNextReferenceIdeal)
    ∧ quiescent_MlaOut (hMlaOut := hMlaOut)
    ∧ quiescent_MlaOutIdeal (hMlaOutIdeal := hMlaOutIdeal)
    ∧ quiescent_MlaOutReferenceIdeal (hMlaOutReferenceIdeal := hMlaOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_RwkvOut_RwkvOutIdeal
    ∧ algebraic_RwkvOutIdeal_RwkvOutReferenceIdeal (hRwkvOutIdeal := hRwkvOutIdeal) (hRwkvOutReferenceIdeal := hRwkvOutReferenceIdeal)
    ∧ preserves_GdnOut_GdnOutIdeal
    ∧ algebraic_GdnOutIdeal_GdnOutReferenceIdeal (hGdnOutIdeal := hGdnOutIdeal) (hGdnOutReferenceIdeal := hGdnOutReferenceIdeal)
    ∧ preserves_GdnProj_GdnProjIdeal
    ∧ algebraic_GdnProjIdeal_GdnProjReferenceIdeal (hGdnProjIdeal := hGdnProjIdeal) (hGdnProjReferenceIdeal := hGdnProjReferenceIdeal)
    ∧ preserves_RwkvFirst_RwkvFirstIdeal
    ∧ algebraic_RwkvFirstIdeal_RwkvFirstReferenceIdeal (hRwkvFirstIdeal := hRwkvFirstIdeal) (hRwkvFirstReferenceIdeal := hRwkvFirstReferenceIdeal)
    ∧ preserves_RwkvNext_RwkvNextIdeal
    ∧ algebraic_RwkvNextIdeal_RwkvNextReferenceIdeal (hRwkvNextIdeal := hRwkvNextIdeal) (hRwkvNextReferenceIdeal := hRwkvNextReferenceIdeal)
    ∧ preserves_MlaOut_MlaOutIdeal
    ∧ algebraic_MlaOutIdeal_MlaOutReferenceIdeal (hMlaOutIdeal := hMlaOutIdeal) (hMlaOutReferenceIdeal := hMlaOutReferenceIdeal)
-- ==== Pre_finite.lean ====
abbrev S16x16384x384 : Shape := ⟨3, ![16, 16384, 384]⟩
abbrev S16384x384 : Shape := ⟨2, ![16384, 384]⟩
abbrev S_ : Shape := ⟨0, ![]⟩

class Facts : Prop where
  bcast_S_S16x16384x384 : S_.BroadcastsInDim S16x16384x384 (![] : Fin 0 → Fin S16x16384x384.rank)
  bcast_S_S16384x384 : S_.BroadcastsInDim S16384x384 (![] : Fin 0 → Fin S16384x384.rank)

variable [Facts]

def fn {F : FTy → Type} [FloatOps F] (main_arg0 : FVec F S16x16384x384 .bf16) (main_arg1 : FVec F S16384x384 .bf16) : IVec S16x16384x384 1 × IVec S16384x384 1 :=
  let main_v0 : FVec F S16x16384x384 .bf16 := Host.absf main_arg0
  let main_cst : FVec F S_ .bf16 := constant S_ .bf16 0x7F80#16
  let main_v1 : FVec F S16x16384x384 .bf16 := broadcastInDim S16x16384x384 ![] bcast_S_S16x16384x384 main_cst
  let main_v2 : IVec S16x16384x384 1 := cmpf .olt main_v0 main_v1
  let main_v3 : FVec F S16384x384 .bf16 := Host.absf main_arg1
  let main_cst_0 : FVec F S_ .bf16 := constant S_ .bf16 0x7F80#16
  let main_v4 : FVec F S16384x384 .bf16 := broadcastInDim S16384x384 ![] bcast_S_S16384x384 main_cst_0
  let main_v5 : IVec S16384x384 1 := cmpf .olt main_v3 main_v4
  (main_v2, main_v5)
-- ==== Kernel.lean ====
abbrev S16x16384x384 : Shape := ⟨3, ![16, 16384, 384]⟩
abbrev S16384x384 : Shape := ⟨2, ![16384, 384]⟩
abbrev S16x16384x256 : Shape := ⟨3, ![16, 16384, 256]⟩
abbrev S16x64x384 : Shape := ⟨3, ![16, 64, 384]⟩
abbrev S2048x384 : Shape := ⟨2, ![2048, 384]⟩
abbrev S16x64x256 : Shape := ⟨3, ![16, 64, 256]⟩
abbrev S1024x1 : Shape := ⟨2, ![1024, 1]⟩
abbrev S1024x256 : Shape := ⟨2, ![1024, 256]⟩
abbrev S1024x384 : Shape := ⟨2, ![1024, 384]⟩
abbrev S256x384 : Shape := ⟨2, ![256, 384]⟩
abbrev S1024 : Shape := ⟨1, ![1024]⟩
abbrev S256x256 : Shape := ⟨2, ![256, 256]⟩

abbrev nBuf : Space → Nat
  | .hbm => 3
  | .vmem => 9
  | .smem => 0
  | _ => 0

abbrev bufTy : (tb : Table) → Fin (tcTables nBuf tb) → BufTy
  | .hbm, ⟨0, _⟩ => ⟨S16x16384x384, .bf16⟩
  | .hbm, ⟨1, _⟩ => ⟨S16384x384, .bf16⟩
  | .hbm, ⟨2, _⟩ => ⟨S16x16384x256, .bf16⟩
  | .local _ .vmem, ⟨0, _⟩ => ⟨S16x64x384, .bf16⟩
  | .local _ .vmem, ⟨1, _⟩ => ⟨S16x64x384, .bf16⟩
  | .local _ .vmem, ⟨2, _⟩ => ⟨S2048x384, .bf16⟩
  | .local _ .vmem, ⟨3, _⟩ => ⟨S2048x384, .bf16⟩
  | .local _ .vmem, ⟨4, _⟩ => ⟨S16x64x256, .bf16⟩
  | .local _ .vmem, ⟨5, _⟩ => ⟨S16x64x256, .bf16⟩
  | .local _ .vmem, ⟨6, _⟩ => ⟨S1024x1, .f32⟩
  | .local _ .vmem, ⟨7, _⟩ => ⟨S1024x1, .f32⟩
  | .local _ .vmem, ⟨8, _⟩ => ⟨S1024x256, .f32⟩
  | _, _ => ⟨S16x16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_25 : BitVec 32 := 0#32
  let arg1 : BitVec 32 := BitVec.ofNat 32 (i 1).val
  let c64_i32_14 : BitVec 32 := 64#32
  let v35 : BitVec 32 := Scalar.muli arg1 c64_i32_14
  let c64_i32_15 : BitVec 32 := 64#32
  let v36 : BitVec 32 := Scalar.addi v35 c64_i32_15
  let c256_i32 : BitVec 32 := 256#32
  let v37 : BitVec 32 := Scalar.addi v36 c256_i32
  let c1_i32_16 : BitVec 32 := 1#32
  let v38 : BitVec 32 := Scalar.subi v37 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c256_i32_17 : BitVec 32 := 256#32
  let c0_i32_20 : BitVec 32 := 0#32
  let v45 : BitVec 1 := Scalar.cmpi .sgt c256_i32_17 c0_i32_20
  let v46 : BitVec 32 := Scalar.extui v45
  let c0_i32_21 : BitVec 32 := 0#32
  let v47 : BitVec 1 := Scalar.cmpi .slt c256_i32_17 c0_i32_21
  let v48 : BitVec 32 := Scalar.extui v47
  let v49 : BitVec 32 := Scalar.subi v46 v48
  let v50 : BitVec 1 := Scalar.cmpi .ne v44 v49
  let v51 : BitVec 32 := Scalar.remsi v38 c256_i32_17
  let c0_i32_22 : BitVec 32 := 0#32
  let v52 : BitVec 1 := Scalar.cmpi .ne v51 c0_i32_22
  let v53 : BitVec 1 := Scalar.andi v50 v52
  let v39 : BitVec 32 := Scalar.divsi v38 c256_i32_17
  let c1_i32_23 : BitVec 32 := 1#32
  let v54 : BitVec 32 := Scalar.subi v39 c1_i32_23
  let v55 : BitVec 32 := Scalar.select v53 v54 v39
  let v56 : BitVec 32 := Scalar.subi v55 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_27 : BitVec 32 := 1#32
  ⟨c0_i32_25, v60, c1_i32_27⟩
def k0_mult1 (i : grid0.Coords) (k0_t1 : Fin (k0_t1_loop i).trips) : BitVec 32 :=
  let c0_i32_25 : BitVec 32 := 0#32
  let c1_i32_27 : BitVec 32 := 1#32
  let arg8 : BitVec 32 := Scf.iv c0_i32_25 c1_i32_27 k0_t1
  let c256_i32_36 : BitVec 32 := 256#32
  let v68 : BitVec 32 := Scalar.muli arg8 c256_i32_36
  v68
def k0_off1 (i : grid0.Coords) (k0_t1 : Fin (k0_t1_loop i).trips) : Fin 2 → Nat :=
  let c0_i32_25 : BitVec 32 := 0#32
  let c1_i32_27 : BitVec 32 := 1#32
  let arg8 : BitVec 32 := Scf.iv c0_i32_25 c1_i32_27 k0_t1
  let c256_i32_36 : BitVec 32 := 256#32
  let v68 : BitVec 32 := Scalar.muli arg8 c256_i32_36
  let v69 : BitVec 32 := v68
  let v70 : Index := Scalar.indexCast v69
  let c0_37 : Index := 0#32
  ![v70.toNat, 0]
@[reducible] def k0_t2_loop (i : grid0.Coords) : Scf.Loop 32 :=
  let c0_i32_25 : BitVec 32 := 0#32
  let arg1 : BitVec 32 := BitVec.ofNat 32 (i 1).val
  let c64_i32_14 : BitVec 32 := 64#32
  let v35 : BitVec 32 := Scalar.muli arg1 c64_i32_14
  let c64_i32_15 : BitVec 32 := 64#32
  let v36 : BitVec 32 := Scalar.addi v35 c64_i32_15
  let c256_i32 : BitVec 32 := 256#32
  let v37 : BitVec 32 := Scalar.addi v36 c256_i32
  let c1_i32_16 : BitVec 32 := 1#32
  let v38 : BitVec 32 := Scalar.subi v37 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c256_i32_17 : BitVec 32 := 256#32
  let c0_i32_20 : BitVec 32 := 0#32
  let v45 : BitVec 1 := Scalar.cmpi .sgt c256_i32_17 c0_i32_20
  let v46 : BitVec 32 := Scalar.extui v45
  let c0_i32_21 : BitVec 32 := 0#32
  let v47 : BitVec 1 := Scalar.cmpi .slt c256_i32_17 c0_i32_21
  let v48 : BitVec 32 := Scalar.extui v47
  let v49 : BitVec 32 := Scalar.subi v46 v48
  let v50 : BitVec 1 := Scalar.cmpi .ne v44 v49
  let v51 : BitVec 32 := Scalar.remsi v38 c256_i32_17
  let c0_i32_22 : BitVec 32 := 0#32
  let v52 : BitVec 1 := Scalar.cmpi .ne v51 c0_i32_22
  let v53 : BitVec 1 := Scalar.andi v50 v52
  let v39 : BitVec 32 := Scalar.divsi v38 c256_i32_17
  let c1_i32_23 : BitVec 32 := 1#32
  let v54 : BitVec 32 := Scalar.subi v39 c1_i32_23
  let v55 : BitVec 32 := Scalar.select v53 v54 v39
  let v56 : BitVec 32 := Scalar.subi v55 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let v57 : BitVec 32 := Scalar.addi c0_i32_25 v56
  let c1_i32_28 : BitVec 32 := 1#32
  ⟨v60, v57, c1_i32_28⟩
def k0_mult2 (i : grid0.Coords) (k0_t2 : Fin (k0_t2_loop i).trips) : BitVec 32 :=
  let c0_i32_25 : BitVec 32 := 0#32
  let arg1 : BitVec 32 := BitVec.ofNat 32 (i 1).val
  let c64_i32_14 : BitVec 32 := 64#32
  let v35 : BitVec 32 := Scalar.muli arg1 c64_i32_14
  let c64_i32_15 : BitVec 32 := 64#32
  let v36 : BitVec 32 := Scalar.addi v35 c64_i32_15
  let c256_i32 : BitVec 32 := 256#32
  let v37 : BitVec 32 := Scalar.addi v36 c256_i32
  let c1_i32_16 : BitVec 32 := 1#32
  let v38 : BitVec 32 := Scalar.subi v37 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c256_i32_17 : BitVec 32 := 256#32
  let c0_i32_20 : BitVec 32 := 0#32
  let v45 : BitVec 1 := Scalar.cmpi .sgt c256_i32_17 c0_i32_20
  let v46 : BitVec 32 := Scalar.extui v45
  let c0_i32_21 : BitVec 32 := 0#32
  let v47 : BitVec 1 := Scalar.cmpi .slt c256_i32_17 c0_i32_21
  let v48 : BitVec 32 := Scalar.extui v47
  let v49 : BitVec 32 := Scalar.subi v46 v48
  let v50 : BitVec 1 := Scalar.cmpi .ne v44 v49
  let v51 : BitVec 32 := Scalar.remsi v38 c256_i32_17
  let c0_i32_22 : BitVec 32 := 0#32
  let v52 : BitVec 1 := Scalar.cmpi .ne v51 c0_i32_22
  let v53 : BitVec 1 := Scalar.andi v50 v52
  let v39 : BitVec 32 := Scalar.divsi v38 c256_i32_17
  let c1_i32_23 : BitVec 32 := 1#32
  let v54 : BitVec 32 := Scalar.subi v39 c1_i32_23
  let v55 : BitVec 32 := Scalar.select v53 v54 v39
  let v56 : BitVec 32 := Scalar.subi v55 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_28 : BitVec 32 := 1#32
  let arg8 : BitVec 32 := Scf.iv v60 c1_i32_28 k0_t2
  let c256_i32_36 : BitVec 32 := 256#32
  let v68 : BitVec 32 := Scalar.muli arg8 c256_i32_36
  v68
def k0_off2 (i : grid0.Coords) (k0_t2 : Fin (k0_t2_loop i).trips) : Fin 2 → Nat :=
  let c0_i32_25 : BitVec 32 := 0#32
  let arg1 : BitVec 32 := BitVec.ofNat 32 (i 1).val
  let c64_i32_14 : BitVec 32 := 64#32
  let v35 : BitVec 32 := Scalar.muli arg1 c64_i32_14
  let c64_i32_15 : BitVec 32 := 64#32
  let v36 : BitVec 32 := Scalar.addi v35 c64_i32_15
  let c256_i32 : BitVec 32 := 256#32
  let v37 : BitVec 32 := Scalar.addi v36 c256_i32
  let c1_i32_16 : BitVec 32 := 1#32
  let v38 : BitVec 32 := Scalar.subi v37 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c256_i32_17 : BitVec 32 := 256#32
  let c0_i32_20 : BitVec 32 := 0#32
  let v45 : BitVec 1 := Scalar.cmpi .sgt c256_i32_17 c0_i32_20
  let v46 : BitVec 32 := Scalar.extui v45
  let c0_i32_21 : BitVec 32 := 0#32
  let v47 : BitVec 1 := Scalar.cmpi .slt c256_i32_17 c0_i32_21
  let v48 : BitVec 32 := Scalar.extui v47
  let v49 : BitVec 32 := Scalar.subi v46 v48
  let v50 : BitVec 1 := Scalar.cmpi .ne v44 v49
  let v51 : BitVec 32 := Scalar.remsi v38 c256_i32_17
  let c0_i32_22 : BitVec 32 := 0#32
  let v52 : BitVec 1 := Scalar.cmpi .ne v51 c0_i32_22
  let v53 : BitVec 1 := Scalar.andi v50 v52
  let v39 : BitVec 32 := Scalar.divsi v38 c256_i32_17
  let c1_i32_23 : BitVec 32 := 1#32
  let v54 : BitVec 32 := Scalar.subi v39 c1_i32_23
  let v55 : BitVec 32 := Scalar.select v53 v54 v39
  let v56 : BitVec 32 := Scalar.subi v55 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_28 : BitVec 32 := 1#32
  let arg8 : BitVec 32 := Scf.iv v60 c1_i32_28 k0_t2
  let c256_i32_36 : BitVec 32 := 256#32
  let v68 : BitVec 32 := Scalar.muli arg8 c256_i32_36
  let v69 : BitVec 32 := v68
  let v70 : Index := Scalar.indexCast v69
  let c0_37 : Index := 0#32
  ![v70.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S16x64x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16x16384x384 : Shape := ⟨3, ![16, 16384, 384]⟩
abbrev S16384x384 : Shape := ⟨2, ![16384, 384]⟩
abbrev S16384x16x384 : Shape := ⟨3, ![16384, 16, 384]⟩
abbrev S8x2048x16x384 : Shape := ⟨4, ![8, 2048, 16, 384]⟩
abbrev S8x2048x384 : Shape := ⟨3, ![8, 2048, 384]⟩
abbrev S8x2048x16x256 : Shape := ⟨4, ![8, 2048, 16, 256]⟩
abbrev S8x2048x16x128 : Shape := ⟨4, ![8, 2048, 16, 128]⟩
abbrev S8x2048x256 : Shape := ⟨3, ![8, 2048, 256]⟩
abbrev S8x2048x128 : Shape := ⟨3, ![8, 2048, 128]⟩
abbrev S8x2048x2048x16 : Shape := ⟨4, ![8, 2048, 2048, 16]⟩
abbrev S8x16x2048x2048 : Shape := ⟨4, ![8, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x16x2048 : Shape := ⟨3, ![8, 16, 2048]⟩
abbrev S8x16x2048x1 : Shape := ⟨4, ![8, 16, 2048, 1]⟩
abbrev S8x256x16x2048 : Shape := ⟨4, ![8, 256, 16, 2048]⟩
abbrev S16x8x2048x256 : Shape := ⟨4, ![16, 8, 2048, 256]⟩
abbrev S16x16384x256 : Shape := ⟨3, ![16, 16384, 256]⟩

abbrev nBuf : Space → Nat
  | .hbm => 49
  | .vmem => 0
  | .smem => 0
  | _ => 0

abbrev bufTy : (tb : Table) → Fin (tcTables nBuf tb) → BufTy
  | .hbm, ⟨0, _⟩ => ⟨S16x16384x384, .bf16⟩
  | .hbm, ⟨1, _⟩ => ⟨S16384x384, .bf16⟩
  | .hbm, ⟨2, _⟩ => ⟨S16x16384x384, .f32⟩
  | .hbm, ⟨3, _⟩ => ⟨S16384x16x384, .f32⟩
  | .hbm, ⟨4, _⟩ => ⟨S8x2048x16x384, .f32⟩
  | .hbm, ⟨5, _⟩ => ⟨S16384x384, .f32⟩
  | .hbm, ⟨6, _⟩ => ⟨S8x2048x384, .f32⟩
  | .hbm, ⟨7, _⟩ => ⟨S8x2048x16x256, .f32⟩
  | .hbm, ⟨8, _⟩ => ⟨S8x2048x16x128, .f32⟩
  | .hbm, ⟨9, _⟩ => ⟨S8x2048x256, .f32⟩
  | .hbm, ⟨10, _⟩ => ⟨S8x2048x128, .f32⟩
  | .hbm, ⟨11, _⟩ => ⟨S8x2048x2048x16, .f32⟩
  | .hbm, ⟨12, _⟩ => ⟨S8x16x2048x2048, .f32⟩
  | .hbm, ⟨13, _⟩ => ⟨S8x2048x2048x16, .f32⟩
  | .hbm, ⟨14, _⟩ => ⟨S8x16x2048x2048, .f32⟩
  | .hbm, ⟨15, _⟩ => ⟨S8x16x2048x2048, .f32⟩
  | .hbm, ⟨16, _⟩ => ⟨S_, .f32⟩
  | .hbm, ⟨17, _⟩ => ⟨S8x16x2048x2048, .f32⟩
  | .hbm, ⟨18, _⟩ => ⟨S8x16x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x16x2048x2048, .i1⟩
  | .hbm, ⟨28, _⟩ => ⟨S8x16x2048x2048, .f32⟩
  | .hbm, ⟨29, _⟩ => ⟨S8x16x2048x2048, .f32⟩
  | .hbm, ⟨30, _⟩ => ⟨S_, .f32⟩
  | .hbm, ⟨31, _⟩ => ⟨S8x16x2048, .f32⟩
  | .hbm, ⟨32, _⟩ => ⟨S_, .f32⟩
  | .hbm, ⟨33, _⟩ => ⟨S8x16x2048, .f32⟩
  | .hbm, ⟨34, _⟩ => ⟨S8x16x2048, .f32⟩
  | .hbm, ⟨35, _⟩ => ⟨S8x16x2048x1, .f32⟩
  | .hbm, ⟨36, _⟩ => ⟨S8x16x2048x2048, .f32⟩
  | .hbm, ⟨37, _⟩ => ⟨S8x16x2048x2048, .f32⟩
  | .hbm, ⟨38, _⟩ => ⟨S8x16x2048x2048, .f32⟩
  | .hbm, ⟨39, _⟩ => ⟨S_, .f32⟩
  | .hbm, ⟨40, _⟩ => ⟨S8x16x2048, .f32⟩
  | .hbm, ⟨41, _⟩ => ⟨S8x16x2048x1, .f32⟩
  | .hbm, ⟨42, _⟩ => ⟨S8x16x2048x2048, .f32⟩
  | .hbm, ⟨43, _⟩ => ⟨S8x16x2048x2048, .f32⟩
  | .hbm, ⟨44, _⟩ => ⟨S8x256x16x2048, .f32⟩
  | .hbm, ⟨45, _⟩ => ⟨S8x2048x16x256, .f32⟩
  | .hbm, ⟨46, _⟩ => ⟨S16x8x2048x256, .f32⟩
  | .hbm, ⟨47, _⟩ => ⟨S16x16384x256, .f32⟩
  | .hbm, ⟨48, _⟩ => ⟨S16x16384x256, .bf16⟩
  | _, _ => ⟨S16x16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Ffn.lean ====
abbrev S16384x1024 : Shape := ⟨2, ![16384, 1024]⟩
abbrev S64x5632 : Shape := ⟨2, ![64, 5632]⟩
abbrev S8x1024 : Shape := ⟨2, ![8, 1024]⟩
abbrev S1024x5632 : Shape := ⟨2, ![1024, 5632]⟩
abbrev S8x5632 : Shape := ⟨2, ![8, 5632]⟩
abbrev S2816x1024 : Shape := ⟨2, ![2816, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩
abbrev S504x256 : Shape := ⟨2, ![504, 256]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S64x5632, .f32⟩
  | .hbm, ⟨2, _⟩ => ⟨S8x1024, .f32⟩
  | .hbm, ⟨3, _⟩ => ⟨S1024x5632, .bf16⟩
  | .hbm, ⟨4, _⟩ => ⟨S8x5632, .f32⟩
  | .hbm, ⟨5, _⟩ => ⟨S2816x1024, .bf16⟩
  | .hbm, ⟨6, _⟩ => ⟨S16384x1024, .f32⟩
  | .hbm, ⟨7, _⟩ => ⟨S64x5632, .f32⟩
  | .local _ .vmem, ⟨0, _⟩ => ⟨S512x1024, .f32⟩
  | .local _ .vmem, ⟨1, _⟩ => ⟨S512x1024, .f32⟩
  | .local _ .vmem, ⟨2, _⟩ => ⟨S8x5632, .f32⟩
  | .local _ .vmem, ⟨3, _⟩ => ⟨S8x5632, .f32⟩
  | .local _ .vmem, ⟨4, _⟩ => ⟨S8x1024, .f32⟩
  | .local _ .vmem, ⟨5, _⟩ => ⟨S1024x5632, .bf16⟩
  | .local _ .vmem, ⟨6, _⟩ => ⟨S8x5632, .f32⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S8x5632, .f32⟩
  | .local _ .vmem, ⟨11, _⟩ => ⟨S8x5632, .f32⟩
  | .local _ .vmem, ⟨12, _⟩ => ⟨S8x5632, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S16384x1024 : Shape := ⟨2, ![16384, 1024]⟩
abbrev S64x5632 : Shape := ⟨2, ![64, 5632]⟩
abbrev S8x1024 : Shape := ⟨2, ![8, 1024]⟩
abbrev S1024x5632 : Shape := ⟨2, ![1024, 5632]⟩
abbrev S8x5632 : Shape := ⟨2, ![8, 5632]⟩
abbrev S2816x1024 : Shape := ⟨2, ![2816, 1024]⟩
abbrev S8x2048x1024 : Shape := ⟨3, ![8, 2048, 1024]⟩
abbrev S8x8x5632 : Shape := ⟨3, ![8, 8, 5632]⟩
abbrev S8x2x5632 : Shape := ⟨3, ![8, 2, 5632]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S3x5632 : Shape := ⟨2, ![3, 5632]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S64x5632, .f32⟩
  | .hbm, ⟨2, _⟩ => ⟨S8x1024, .f32⟩
  | .hbm, ⟨3, _⟩ => ⟨S1024x5632, .bf16⟩
  | .hbm, ⟨4, _⟩ => ⟨S8x5632, .f32⟩
  | .hbm, ⟨5, _⟩ => ⟨S2816x1024, .bf16⟩
  | .hbm, ⟨6, _⟩ => ⟨S8x2048x1024, .f32⟩
  | .hbm, ⟨7, _⟩ => ⟨S8x8x5632, .f32⟩
  | .hbm, ⟨8, _⟩ => ⟨S8x2x5632, .f32⟩
  | .hbm, ⟨9, _⟩ => ⟨S1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1024x5632, .f32⟩
  | .hbm, ⟨28, _⟩ => ⟨S8x2048x5632, .f32⟩
  | .hbm, ⟨29, _⟩ => ⟨S3x5632, .f32⟩
  | .hbm, ⟨30, _⟩ => ⟨S8x2050x5632, .f32⟩
  | .hbm, ⟨31, _⟩ => ⟨S8x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S8x2048x5632, .f32⟩
  | .hbm, ⟨49, _⟩ => ⟨S8x2048x5632, .f32⟩
  | .hbm, ⟨50, _⟩ => ⟨S8x2048x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S8x2048x5632, .f32⟩
  | .hbm, ⟨55, _⟩ => ⟨S8x2048x5632, .f32⟩
  | .hbm, ⟨56, _⟩ => ⟨S8x2048x2816, .f32⟩
  | .hbm, ⟨57, _⟩ => ⟨S8x2048x2816, .f32⟩
  | .hbm, ⟨58, _⟩ => ⟨S8x2048x2816, .f32⟩
  | .hbm, ⟨59, _⟩ => ⟨S_, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S8x2048x2816, .f32⟩
  | .hbm, ⟨66, _⟩ => ⟨S8x2048x2816, .f32⟩
  | .hbm, ⟨67, _⟩ => ⟨S8x2048x2816, .f32⟩
  | .hbm, ⟨68, _⟩ => ⟨S2816x1024, .f32⟩
  | .hbm, ⟨69, _⟩ => ⟨S8x2048x1024, .f32⟩
  | .hbm, ⟨70, _⟩ => ⟨S1x1024, .f32⟩
  | .hbm, ⟨71, _⟩ => ⟨S1024, .f32⟩
  | .hbm, ⟨72, _⟩ => ⟨S8x2048x1024, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S1x1x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S16384x1024, .f32⟩
  | .hbm, ⟨90, _⟩ => ⟨S8x8x5632, .f32⟩
  | .hbm, ⟨91, _⟩ => ⟨S64x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== RwkvOut.lean ====
abbrev S16384x1024 : Shape := ⟨2, ![16384, 1024]⟩
abbrev S1024x1024 : Shape := ⟨2, ![1024, 1024]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .bf16⟩
  | .hbm, ⟨4, _⟩ => ⟨S8x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RwkvOutReferenceIdeal.lean ====
abbrev S16384x1024 : Shape := ⟨2, ![16384, 1024]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .bf16⟩
  | .hbm, ⟨4, _⟩ => ⟨S8x1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S1x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== GdnOut.lean ====
abbrev S16384x1024 : Shape := ⟨2, ![16384, 1024]⟩
abbrev S16384x2048 : Shape := ⟨2, ![16384, 2048]⟩
abbrev S2048x1024 : Shape := ⟨2, ![2048, 1024]⟩
abbrev S8x1024 : Shape := ⟨2, ![8, 1024]⟩
abbrev S512x1024 : Shape := ⟨2, ![512, 1024]⟩
abbrev S512x2048 : Shape := ⟨2, ![512, 2048]⟩
abbrev S1x1024 : Shape := ⟨2, ![1, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S2048x1024, .bf16⟩
  | .hbm, ⟨3, _⟩ => ⟨S8x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnOutReferenceIdeal.lean ====
abbrev S16384x1024 : Shape := ⟨2, ![16384, 1024]⟩
abbrev S16384x2048 : Shape := ⟨2, ![16384, 2048]⟩
abbrev S2048x1024 : Shape := ⟨2, ![2048, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S2048x1024, .bf16⟩
  | .hbm, ⟨3, _⟩ => ⟨S8x1024, .f32⟩
  | .hbm, ⟨4, _⟩ => ⟨S2048x1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GdnProj.lean ====
abbrev S16384x1024 : Shape := ⟨2, ![16384, 1024]⟩
abbrev S64x4096 : Shape := ⟨2, ![64, 4096]⟩
abbrev S8x1024 : Shape := ⟨2, ![8, 1024]⟩
abbrev S1024x4096 : Shape := ⟨2, ![1024, 4096]⟩
abbrev S1024x2048 : Shape := ⟨2, ![1024, 2048]⟩
abbrev S1024x128 : Shape := ⟨2, ![1024, 128]⟩
abbrev S8x4096 : Shape := ⟨2, ![8, 4096]⟩
abbrev S8x128 : Shape := ⟨2, ![8, 128]⟩
abbrev S64 : Shape := ⟨1, ![64]⟩
abbrev S64x1 : Shape := ⟨2, ![64, 1]⟩
abbrev S_ : Shape := ⟨0, ![]⟩
abbrev S1x64 : Shape := ⟨2, ![1, 64]⟩
abbrev S64x64 : Shape := ⟨2, ![64, 64]⟩
abbrev S16384x2048 : Shape := ⟨2, ![16384, 2048]⟩
abbrev S16384x128 : Shape := ⟨2, ![16384, 128]⟩
abbrev S256x1024 : Shape := ⟨2, ![256, 1024]⟩
abbrev S256x2048 : Shape := ⟨2, ![256, 2048]⟩
abbrev S256x128 : Shape := ⟨2, ![256, 128]⟩
abbrev S1x1024 : Shape := ⟨2, ![1, 1024]⟩
abbrev S256 : Shape := ⟨1, ![256]⟩
abbrev S256x1 : Shape := ⟨2, ![256, 1]⟩
abbrev S1x128 : Shape := ⟨2, ![1, 128]⟩
abbrev S64x128 : Shape := ⟨2, ![64, 128]⟩
abbrev S1024x512 : Shape := ⟨2, ![1024, 512]⟩
abbrev S256x512 : Shape := ⟨2, ![256, 512]⟩
abbrev S8x512 : Shape := ⟨2, ![8, 512]⟩
abbrev S1x512 : Shape := ⟨2, ![1, 512]⟩
abbrev S248x512 : Shape := ⟨2, ![248, 512]⟩

abbrev nBuf : Space → Nat
  | .hbm => 108
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S64x4096, .f32⟩
  | .hbm, ⟨2, _⟩ => ⟨S8x1024, .f32⟩
  | .hbm, ⟨3, _⟩ => ⟨S1024x4096, .bf16⟩
  | .hbm, ⟨4, _⟩ => ⟨S1024x2048, .bf16⟩
  | .hbm, ⟨5, _⟩ => ⟨S1024x128, .bf16⟩
  | .hbm, ⟨6, _⟩ => ⟨S8x4096, .f32⟩
  | .hbm, ⟨7, _⟩ => ⟨S8x128, .f32⟩
  | .hbm, ⟨8, _⟩ => ⟨S64, .i32⟩
  | .hbm, ⟨9, _⟩ => ⟨S64x1, .i32⟩
  | .hbm, ⟨10, _⟩ => ⟨S_, .i32⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i1⟩
  | .hbm, ⟨18, _⟩ => ⟨S64x1, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i1⟩
  | .hbm, ⟨23, _⟩ => ⟨S64x1, .i1⟩
  | .hbm, ⟨24, _⟩ => ⟨S_, .i32⟩
  | .hbm, ⟨25, _⟩ => ⟨S64x1, .i32⟩
  | .hbm, ⟨26, _⟩ => ⟨S64x1, .i32⟩
  | .hbm, ⟨27, _⟩ => ⟨S64x1, .i32⟩
  | .hbm, ⟨28, _⟩ => ⟨S1x64, .i32⟩
  | .hbm, ⟨29, _⟩ => ⟨S_, .i32⟩
  | .hbm, ⟨30, _⟩ => ⟨S_, .i32⟩
  | .hbm, ⟨31, _⟩ => ⟨S1x64, .i32⟩
  | .hbm, ⟨32, _⟩ => ⟨S1x64, .i32⟩
  | .hbm, ⟨33, _⟩ => ⟨S1x64, .i32⟩
  | .hbm, ⟨34, _⟩ => ⟨S_, .i32⟩
  | .hbm, ⟨35, _⟩ => ⟨S1x64, .i32⟩
  | .hbm, ⟨36, _⟩ => ⟨S1x64, .i1⟩
  | .hbm, ⟨37, _⟩ => ⟨S1x64, .i32⟩
  | .hbm, ⟨38, _⟩ => ⟨S1x64, .i32⟩
  | .hbm, ⟨39, _⟩ => ⟨S_, .i32⟩
  | .hbm, ⟨40, _⟩ => ⟨S1x64, .i32⟩
  | .hbm, ⟨41, _⟩ => ⟨S1x64, .i1⟩
  | .hbm, ⟨42, _⟩ => ⟨S1x64, .i1⟩
  | .hbm, ⟨43, _⟩ => ⟨S_, .i32⟩
  | .hbm, ⟨44, _⟩ => ⟨S1x64, .i32⟩
  | .hbm, ⟨45, _⟩ => ⟨S1x64, .i32⟩
  | .hbm, ⟨46, _⟩ => ⟨S1x64, .i32⟩
  | .hbm, ⟨47, _⟩ => ⟨S64x64, .i32⟩
  | .hbm, ⟨48, _⟩ => ⟨S64x64, .i32⟩
  | .hbm, ⟨49, _⟩ => ⟨S64x64, .i1⟩
  | .hbm, ⟨50, _⟩ => ⟨S1x64, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S1x64, .i32⟩
  | .hbm, ⟨58, _⟩ => ⟨S1x64, .i32⟩
  | .hbm, ⟨59, _⟩ => ⟨S_, .i32⟩
  | .hbm, ⟨60, _⟩ => ⟨S1x64, .i32⟩
  | .hbm, ⟨61, _⟩ => ⟨S1x64, .i1⟩
  | .hbm, ⟨62, _⟩ => ⟨S_, .i32⟩
  | .hbm, ⟨63, _⟩ => ⟨S1x64, .i32⟩
  | .hbm, ⟨64, _⟩ => ⟨S1x64, .i1⟩
  | .hbm, ⟨65, _⟩ => ⟨S_, .i32⟩
  | .hbm, ⟨66, _⟩ => ⟨S_, .i1⟩
  | .hbm, ⟨67, _⟩ => ⟨S1x64, .i1⟩
  | .hbm, ⟨68, _⟩ => ⟨S1x64, .i1⟩
  | .hbm, ⟨69, _⟩ => ⟨S1x64, .i1⟩
  | .hbm, ⟨70, _⟩ => ⟨S1x64, .i32⟩
  | .hbm, ⟨71, _⟩ => ⟨S1x64, .i32⟩
  | .hbm, ⟨72, _⟩ => ⟨S1x64, .i32⟩
  | .hbm, ⟨73, _⟩ => ⟨S64x1, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S64x1, .i32⟩
  | .hbm, ⟨81, _⟩ => ⟨S64x1, .i32⟩
  | .hbm, ⟨82, _⟩ => ⟨S_, .i32⟩
  | .hbm, ⟨83, _⟩ => ⟨S64x1, .i32⟩
  | .hbm, ⟨84, _⟩ => ⟨S64x1, .i1⟩
  | .hbm, ⟨85, _⟩ => ⟨S_, .i32⟩
  | .hbm, ⟨86, _⟩ => ⟨S64x1, .i32⟩
  | .hbm, ⟨87, _⟩ => ⟨S64x1, .i1⟩
  | .hbm, ⟨88, _⟩ => ⟨S_, .i32⟩
  | .hbm, ⟨89, _⟩ => ⟨S_, .i1⟩
  | .hbm, ⟨90, _⟩ => ⟨S64x1, .i1⟩
  | .hbm, ⟨91, _⟩ => ⟨S64x1, .i1⟩
  | .hbm, ⟨92, _⟩ => ⟨S64x1, .i1⟩
  | .hbm, ⟨93, _⟩ => ⟨S64x1, .i32⟩
  | .hbm, ⟨94, _⟩ => ⟨S64x1, .i32⟩
  | .hbm, ⟨95, _⟩ => ⟨S64x1, .i32⟩
  | .hbm, ⟨96, _⟩ => ⟨S64x64, .i32⟩
  | .hbm, ⟨97, _⟩ => ⟨S64x64, .i32⟩
  | .hbm, ⟨98, _⟩ => ⟨S64x64, .i1⟩
  | .hbm, ⟨99, _⟩ => ⟨S64x64, .i1⟩
  | .hbm, ⟨100, _⟩ => ⟨S64x64, .f32⟩
  | .hbm, ⟨101, _⟩ => ⟨S16384x1024, .f32⟩
  | .hbm, ⟨102, _⟩ => ⟨S16384x1024, .f32⟩
  | .hbm, ⟨103, _⟩ => ⟨S16384x2048, .f32⟩
  | .hbm, ⟨104, _⟩ => ⟨S16384x2048, .f32⟩
  | .hbm, ⟨105, _⟩ => ⟨S16384x128, .f32⟩
  | .hbm, ⟨106, _⟩ => ⟨S16384x128, .f32⟩
  | .hbm, ⟨107, _⟩ => ⟨S64x4096, .f32⟩
  | .local _ .vmem, ⟨0, _⟩ => ⟨S256x1024, .f32⟩
  | .local _ .vmem, ⟨1, _⟩ => ⟨S256x1024, .f32⟩
  | .local _ .vmem, ⟨2, _⟩ => ⟨S8x4096, .f32⟩
  | .local _ .vmem, ⟨3, _⟩ => ⟨S8x4096, .f32⟩
  | .local _ .vmem, ⟨4, _⟩ => ⟨S8x1024, .f32⟩
  | .local _ .vmem, ⟨5, _⟩ => ⟨S1024x4096, .bf16⟩
  | .local _ .vmem, ⟨6, _⟩ => ⟨S1024x2048, .bf16⟩
  | .local _ .vmem, ⟨7, _⟩ => ⟨S1024x128, .bf16⟩
  | .local _ .vmem, ⟨8, _⟩ => ⟨S8x4096, .f32⟩
  | .local _ .vmem, ⟨9, _⟩ => ⟨S8x128, .f32⟩
  | .local _ .vmem, ⟨10, _⟩ => ⟨S64x64, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S8x4096, .f32⟩
  | .local _ .vmem, ⟨24, _⟩ => ⟨S8x4096, .f32⟩
  | .local _ .vmem, ⟨25, _⟩ => ⟨S8x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v9 : Ref sig .tc := ⟨.hbm, 72, rfl⟩
abbrev main_v10 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17_0 : Ref sig .tc := ⟨.hbm, 101, rfl⟩
abbrev main_v17_1 : Ref sig .tc := ⟨.hbm, 102, rfl⟩
abbrev main_v17_2 : Ref sig .tc := ⟨.hbm, 103, rfl⟩
abbrev main_v17_3 : Ref sig .tc := ⟨.hbm, 104, rfl⟩
abbrev main_v17_4 : Ref sig .tc := ⟨.hbm, 105, rfl⟩
abbrev main_v17_5 : Ref sig .tc := ⟨.hbm, 106, rfl⟩
abbrev main_v17_6 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== GdnProjReferenceIdeal.lean ====
abbrev S16384x1024 : Shape := ⟨2, ![16384, 1024]⟩
abbrev S64x4096 : Shape := ⟨2, ![64, 4096]⟩
abbrev S8x1024 : Shape := ⟨2, ![8, 1024]⟩
abbrev S1024x4096 : Shape := ⟨2, ![1024, 4096]⟩
abbrev S1024x2048 : Shape := ⟨2, ![1024, 2048]⟩
abbrev S1024x128 : Shape := ⟨2, ![1024, 128]⟩
abbrev S8x4096 : Shape := ⟨2, ![8, 4096]⟩
abbrev S8x128 : Shape := ⟨2, ![8, 128]⟩
abbrev S8x2048x1024 : Shape := ⟨3, ![8, 2048, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S8x8x4096 : Shape := ⟨3, ![8, 8, 4096]⟩
abbrev S8x3x4096 : Shape := ⟨3, ![8, 3, 4096]⟩
abbrev S4x4096 : Shape := ⟨2, ![4, 4096]⟩
abbrev S8x2051x4096 : Shape := ⟨3, ![8, 2051, 4096]⟩
abbrev S1x4096 : Shape := ⟨2, ![1, 4096]⟩
abbrev S4096 : Shape := ⟨1, ![4096]⟩
abbrev S1x1x4096 : Shape := ⟨3, ![1, 1, 4096]⟩
abbrev S8x2048x2048 : Shape := ⟨3, ![8, 2048, 2048]⟩
abbrev S8x2048x128 : Shape := ⟨3, ![8, 2048, 128]⟩
abbrev S1x128 : Shape := ⟨2, ![1, 128]⟩
abbrev S128 : Shape := ⟨1, ![128]⟩
abbrev S1x1x128 : Shape := ⟨3, ![1, 1, 128]⟩
abbrev S8x32x64x128 : Shape := ⟨4, ![8, 32, 64, 128]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S16384x2048 : Shape := ⟨2, ![16384, 2048]⟩
abbrev S16384x128 : Shape := ⟨2, ![16384, 128]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S64x4096, .f32⟩
  | 2 => ⟨S8x1024, .f32⟩
  | 3 => ⟨S1024x4096, .bf16⟩
  | 4 => ⟨S1024x2048, .bf16⟩
  | 5 => ⟨S1024x128, .bf16⟩
  | 6 => ⟨S8x4096, .f32⟩
  | 7 => ⟨S8x128, .f32⟩
  | 8 => ⟨S8x2048x1024, .f32⟩
  | 9 => ⟨S1x1024, .f32⟩
  | 10 => ⟨S1024, .f32⟩
  | 11 => ⟨S8x2048x1024, .f32⟩
  | 12 => ⟨S_, .f32⟩
  | 13 => ⟨S8x2048, .f32⟩
  | 14 => ⟨S8x2048x1, .f32⟩
  | 15 => ⟨S_, .f32⟩
  | 16 => ⟨S8x2048x1, .f32⟩
  | 17 => ⟨S8x2048x1, .f32⟩
  | 18 => ⟨S_, .f32⟩
  | 19 => ⟨S8x2048x1, .f32⟩
  | 20 => ⟨S8x2048x1, .f32⟩
  | 21 => ⟨S8x2048x1, .f32⟩
  | 22 => ⟨S8x2048x1024, .f32⟩
  | 23 => ⟨S8x2048x1024, .f32⟩
  | 24 => ⟨S1x1x1024, .f32⟩
  | 25 => ⟨S8x2048x1024, .f32⟩
  | 26 => ⟨S8x2048x1024, .f32⟩
  | 27 => ⟨S1024x4096, .f32⟩
  | 28 => ⟨S8x2048x4096, .f32⟩
  | 29 => ⟨S8x8x4096, .f32⟩
  | 30 => ⟨S8x3x4096, .f32⟩
  | 31 => ⟨S4x4096, .f32⟩
  | 32 => ⟨S8x2051x4096, .f32⟩
  | 33 => ⟨S8x2048x4096, .f32⟩
  | 34 => ⟨S1x4096, .f32⟩
  | 35 => ⟨S4096, .f32⟩
  | 36 => ⟨S1x1x4096, .f32⟩
  | 37 => ⟨S8x2048x4096, .f32⟩
  | 38 => ⟨S8x2048x4096, .f32⟩
  | 39 => ⟨S8x2048x4096, .f32⟩
  | 40 => ⟨S1x4096, .f32⟩
  | 41 => ⟨S4096, .f32⟩
  | 42 => ⟨S1x1x4096, .f32⟩
  | 43 => ⟨S8x2048x4096, .f32⟩
  | 44 => ⟨S8x2048x4096, .f32⟩
  | 45 => ⟨S8x2048x4096, .f32⟩
  | 46 => ⟨S8x2048x4096, .f32⟩
  | 47 => ⟨S1x4096, .f32⟩
  | 48 => ⟨S4096, .f32⟩
  | 49 => ⟨S1x1x4096, .f32⟩
  | 50 => ⟨S8x2048x4096, .f32⟩
  | 51 => ⟨S8x2048x4096, .f32⟩
  | 52 => ⟨S8x2048x4096, .f32⟩
  | 53 => ⟨S8x2048x4096, .f32⟩
  | 54 => ⟨S1x4096, .f32⟩
  | 55 => ⟨S4096, .f32⟩
  | 56 => ⟨S1x1x4096, .f32⟩
  | 57 => ⟨S8x2048x4096, .f32⟩
  | 58 => ⟨S8x2048x4096, .f32⟩
  | 59 => ⟨S8x2048x4096, .f32⟩
  | 60 => ⟨S8x2048x4096, .f32⟩
  | 61 => ⟨S8x2048x4096, .f32⟩
  | 62 => ⟨S_, .f32⟩
  | 63 => ⟨S8x2048x4096, .f32⟩
  | 64 => ⟨S8x2048x4096, .f32⟩
  | 65 => ⟨S_, .f32⟩
  | 66 => ⟨S8x2048x4096, .f32⟩
  | 67 => ⟨S8x2048x4096, .f32⟩
  | 68 => ⟨S8x2048x4096, .f32⟩
  | 69 => ⟨S1024x2048, .f32⟩
  | 70 => ⟨S8x2048x2048, .f32⟩
  | 71 => ⟨S1024x128, .f32⟩
  | 72 => ⟨S8x2048x128, .f32⟩
  | 73 => ⟨S8x2048x128, .f32⟩
  | 74 => ⟨S8x2048x128, .f32⟩
  | 75 => ⟨S_, .f32⟩
  | 76 => ⟨S8x2048x128, .f32⟩
  | 77 => ⟨S8x2048x128, .f32⟩
  | 78 => ⟨S_, .f32⟩
  | 79 => ⟨S8x2048x128, .f32⟩
  | 80 => ⟨S8x2048x128, .f32⟩
  | 81 => ⟨S1x128, .f32⟩
  | 82 => ⟨S128, .f32⟩
  | 83 => ⟨S128, .f32⟩
  | 84 => ⟨S128, .f32⟩
  | 85 => ⟨S1x128, .f32⟩
  | 86 => ⟨S128, .f32⟩
  | 87 => ⟨S1x1x128, .f32⟩
  | 88 => ⟨S8x2048x128, .f32⟩
  | 89 => ⟨S8x2048x128, .f32⟩
  | 90 => ⟨S_, .f32⟩
  | 91 => ⟨S8x2048x128, .f32⟩
  | 92 => ⟨S8x2048x128, .f32⟩
  | 93 => ⟨S8x2048x128, .f32⟩
  | 94 => ⟨S8x2048x128, .f32⟩
  | 95 => ⟨S8x2048x128, .i1⟩
  | 96 => ⟨S8x2048x128, .f32⟩
  | 97 => ⟨S8x2048x128, .f32⟩
  | 98 => ⟨S8x2048x128, .f32⟩
  | 99 => ⟨S8x2048x128, .f32⟩
  | 100 => ⟨S8x2048x128, .f32⟩
  | 101 => ⟨S8x2048x128, .f32⟩
  | 102 => ⟨S8x2048x128, .f32⟩
  | 103 => ⟨S8x2048x128, .f32⟩
  | 104 => ⟨S1x1x128, .f32⟩
  | 105 => ⟨S8x2048x128, .f32⟩
  | 106 => ⟨S8x2048x128, .f32⟩
  | 107 => ⟨S8x32x64x128, .f32⟩
  | 108 => ⟨S_, .f32⟩
  | 109 => ⟨S_, .f32⟩
  | 110 => ⟨S8x32x64x128, .f32⟩
  | 111 => ⟨S8x2048x1024, .f32⟩
  | 112 => ⟨S8x2048x8x128, .f32⟩
  | 113 => ⟨S8x2048x8x128, .f32⟩
  | 114 => ⟨S_, .f32⟩
  | 115 => ⟨S8x2048x8, .f32⟩
  | 116 => ⟨S8x2048x8x1, .f32⟩
  | 117 => ⟨S_, .f32⟩
  | 118 => ⟨S8x2048x8x1, .f32⟩
  | 119 => ⟨S8x2048x8x1, .f32⟩
  | 120 => ⟨S8x2048x8x1, .f32⟩
  | 121 => ⟨S8x2048x8x128, .f32⟩
  | 122 => ⟨S8x2048x8x128, .f32⟩
  | 123 => ⟨S_, .f32⟩
  | 124 => ⟨S8x2048x8x128, .f32⟩
  | 125 => ⟨S8x2048x8x128, .f32⟩
  | 126 => ⟨S8x2048x1024, .f32⟩
  | 127 => ⟨S8x2048x8x128, .f32⟩
  | _ => ⟨S16384x1024, .f32⟩

abbrev hbmTy0_1 (i : Nat) : BufTy := match i % 128 with
  | 0 => ⟨S8x2048x8x128, .f32⟩
  | 1 => ⟨S_, .f32⟩
  | 2 => ⟨S8x2048x8, .f32⟩
  | 3 => ⟨S8x2048x8x1, .f32⟩
  | 4 => ⟨S_, .f32⟩
  | 5 => ⟨S8x2048x8x1, .f32⟩
  | 6 => ⟨S8x2048x8x1, .f32⟩
  | 7 => ⟨S8x2048x8x1, .f32⟩
  | 8 => ⟨S8x2048x8x128, .f32⟩
  | 9 => ⟨S8x2048x8x128, .f32⟩
  | 10 => ⟨S8x2048x2048, .f32⟩
  | 11 => ⟨S16384x1024, .f32⟩
  | 12 => ⟨S16384x1024, .f32⟩
  | 13 => ⟨S16384x2048, .f32⟩
  | 14 => ⟨S16384x2048, .f32⟩
  | 15 => ⟨S16384x128, .f32⟩
  | 16 => ⟨S16384x128, .f32⟩
  | 17 => ⟨S8x8x4096, .f32⟩
  | 18 => ⟨S64x4096, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_2 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call2_call0_cst : Ref sig .tc := ⟨.hbm, 108, rfl⟩
abbrev main_call2_call0_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_4 : Ref sig .tc := ⟨.hbm, 114, rfl⟩
abbrev main_v78 : Ref sig .tc := ⟨.hbm, 115, rfl⟩
abbrev main_v79 : Ref sig .tc := ⟨.hbm, 116, rfl⟩
abbrev main_cst_5 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_6 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_7 : Ref sig .tc := ⟨.hbm, 129, rfl⟩
abbrev main_v90 : Ref sig .tc := ⟨.hbm, 130, rfl⟩
abbrev main_v91 : Ref sig .tc := ⟨.hbm, 131, rfl⟩
abbrev main_cst_8 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩

abbrev nD : Nat := 1
abbrev τ : Topo := Topo.v7x

variable {F : FTy → Type} [FloatOps F]
-- ==== RwkvFirst.lean ====
abbrev S16384x1024 : Shape := ⟨2, ![16384, 1024]⟩
abbrev S64x1024 : Shape := ⟨2, ![64, 1024]⟩
abbrev S16x1024 : Shape := ⟨2, ![16, 1024]⟩
abbrev S3x1024x1024 : Shape := ⟨3, ![3, 1024, 1024]⟩
abbrev S1024x64 : Shape := ⟨2, ![1024, 64]⟩
abbrev S1024x160 : Shape := ⟨2, ![1024, 160]⟩
abbrev S160x1024 : Shape := ⟨2, ![160, 1024]⟩
abbrev S64 : Shape := ⟨1, ![64]⟩
abbrev S64x1 : Shape := ⟨2, ![64, 1]⟩
abbrev S_ : Shape := ⟨0, ![]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x1x1024 : Shape := ⟨3, ![256, 1, 1024]⟩
abbrev S256x1024 : Shape := ⟨2, ![256, 1024]⟩
abbrev S8x1024 : Shape := ⟨2, ![8, 1024]⟩
abbrev S4x1x1024 : Shape := ⟨3, ![4, 1, 1024]⟩
abbrev S1x1024 : Shape := ⟨2, ![1, 1024]⟩
abbrev S256 : Shape := ⟨1, ![256]⟩
abbrev S256x1 : Shape := ⟨2, ![256, 1]⟩
abbrev S248x1024 : Shape := ⟨2, ![248, 1024]⟩
abbrev S1x1024x1024 : Shape := ⟨3, ![1, 1024, 1024]⟩
abbrev S1024x1024 : Shape := ⟨2, ![1024, 1024]⟩
abbrev S256x64 : Shape := ⟨2, ![256, 64]⟩
abbrev S256x160 : Shape := ⟨2, ![256, 160]⟩
abbrev S256x128 : Shape := ⟨2, ![256, 128]⟩
abbrev S1x1x1024 : Shape := ⟨3, ![1, 1, 1024]⟩

abbrev nBuf : Space → Nat
  | .hbm => 154
  | .vmem => 31
  | .smem => 0
  | _ => 0

abbrev hbmTy0_0 (i : Nat) : BufTy := match i % 128 with
  | 0 => ⟨S16384x1024, .f32⟩
  | 1 => ⟨S64x1024, .f32⟩
  | 2 => ⟨S16x1024, .f32⟩
  | 3 => ⟨S3x1024x1024, .bf16⟩
  | 4 => ⟨S1024x64, .bf16⟩
  | 5 => ⟨S64x1024, .bf16⟩
  | 6 => ⟨S1024x64, .bf16⟩
  | 7 => ⟨S64x1024, .bf16⟩
  | 8 => ⟨S1024x160, .bf16⟩
  | 9 => ⟨S160x1024, .bf16⟩
  | 10 => ⟨S64, .i32⟩
  | 11 => ⟨S64x1, .i32⟩
  | 12 => ⟨S_, .i32⟩
  | 13 => ⟨S_, .i32⟩
  | 14 => ⟨S64x1, .i32⟩
  | 15 => ⟨S64x1, .i32⟩
  | 16 => ⟨S64x1, .i32⟩
  | 17 => ⟨S_, .i32⟩
  | 18 => ⟨S64x1, .i32⟩
  | 19 => ⟨S64x1, .i1⟩
  | 20 => ⟨S64x1, .i32⟩
  | 21 => ⟨S64x1, .i32⟩
  | 22 => ⟨S_, .i32⟩
  | 23 => ⟨S64x1, .i32⟩
  | 24 => ⟨S64x1, .i1⟩
  | 25 => ⟨S64x1, .i1⟩
  | 26 => ⟨S_, .i32⟩
  | 27 => ⟨S64x1, .i32⟩
  | 28 => ⟨S64x1, .i32⟩
  | 29 => ⟨S64x1, .i32⟩
  | 30 => ⟨S1x64, .i32⟩
  | 31 => ⟨S_, .i32⟩
  | 32 => ⟨S_, .i32⟩
  | 33 => ⟨S1x64, .i32⟩
  | 34 => ⟨S1x64, .i32⟩
  | 35 => ⟨S1x64, .i32⟩
  | 36 => ⟨S_, .i32⟩
  | 37 => ⟨S1x64, .i32⟩
  | 38 => ⟨S1x64, .i1⟩
  | 39 => ⟨S1x64, .i32⟩
  | 40 => ⟨S1x64, .i32⟩
  | 41 => ⟨S_, .i32⟩
  | 42 => ⟨S1x64, .i32⟩
  | 43 => ⟨S1x64, .i1⟩
  | 44 => ⟨S1x64, .i1⟩
  | 45 => ⟨S_, .i32⟩
  | 46 => ⟨S1x64, .i32⟩
  | 47 => ⟨S1x64, .i32⟩
  | 48 => ⟨S1x64, .i32⟩
  | 49 => ⟨S64x64, .i32⟩
  | 50 => ⟨S64x64, .i32⟩
  | 51 => ⟨S64x64, .i1⟩
  | 52 => ⟨S1x64, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x64, .i32⟩
  | 60 => ⟨S1x64, .i32⟩
  | 61 => ⟨S_, .i32⟩
  | 62 => ⟨S1x64, .i32⟩
  | 63 => ⟨S1x64, .i1⟩
  | 64 => ⟨S_, .i32⟩
  | 65 => ⟨S1x64, .i32⟩
  | 66 => ⟨S1x64, .i1⟩
  | 67 => ⟨S_, .i32⟩
  | 68 => ⟨S_, .i1⟩
  | 69 => ⟨S1x64, .i1⟩
  | 70 => ⟨S1x64, .i1⟩
  | 71 => ⟨S1x64, .i1⟩
  | 72 => ⟨S1x64, .i32⟩
  | 73 => ⟨S1x64, .i32⟩
  | 74 => ⟨S1x64, .i32⟩
  | 75 => ⟨S64x1, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S64x1, .i32⟩
  | 83 => ⟨S64x1, .i32⟩
  | 84 => ⟨S_, .i32⟩
  | 85 => ⟨S64x1, .i32⟩
  | 86 => ⟨S64x1, .i1⟩
  | 87 => ⟨S_, .i32⟩
  | 88 => ⟨S64x1, .i32⟩
  | 89 => ⟨S64x1, .i1⟩
  | 90 => ⟨S_, .i32⟩
  | 91 => ⟨S_, .i1⟩
  | 92 => ⟨S64x1, .i1⟩
  | 93 => ⟨S64x1, .i1⟩
  | 94 => ⟨S64x1, .i1⟩
  | 95 => ⟨S64x1, .i32⟩
  | 96 => ⟨S64x1, .i32⟩
  | 97 => ⟨S64x1, .i32⟩
  | 98 => ⟨S64x64, .i32⟩
  | 99 => ⟨S64x64, .i32⟩
  | 100 => ⟨S64x64, .i1⟩
  | 101 => ⟨S64x64, .i1⟩
  | 102 => ⟨S64x64, .f32⟩
  | 103 => ⟨S128, .i32⟩
  | 104 => ⟨S128x1, .i32⟩
  | 105 => ⟨S_, .i32⟩
  | 106 => ⟨S_, .i32⟩
  | 107 => ⟨S128x1, .i32⟩
  | 108 => ⟨S128x1, .i32⟩
  | 109 => ⟨S128x1, .i32⟩
  | 110 => ⟨S_, .i32⟩
  | 111 => ⟨S128x1, .i32⟩
  | 112 => ⟨S128x1, .i1⟩
  | 113 => ⟨S128x1, .i32⟩
  | 114 => ⟨S128x1, .i32⟩
  | 115 => ⟨S_, .i32⟩
  | 116 => ⟨S128x1, .i32⟩
  | 117 => ⟨S128x1, .i1⟩
  | 118 => ⟨S128x1, .i1⟩
  | 119 => ⟨S_, .i32⟩
  | 120 => ⟨S128x1, .i32⟩
  | 121 => ⟨S128x1, .i32⟩
  | 122 => ⟨S128x1, .i32⟩
  | 123 => ⟨S1x128, .i32⟩
  | 124 => ⟨S_, .i32⟩
  | 125 => ⟨S_, .i32⟩
  | 126 => ⟨S1x128, .i32⟩
  | 127 => ⟨S1x128, .i32⟩
  | _ => ⟨S16384x1024, .f32⟩

abbrev hbmTy0_1 (i : Nat) : BufTy := match i % 128 with
  | 0 => ⟨S1x128, .i32⟩
  | 1 => ⟨S_, .i32⟩
  | 2 => ⟨S1x128, .i32⟩
  | 3 => ⟨S1x128, .i1⟩
  | 4 => ⟨S1x128, .i32⟩
  | 5 => ⟨S1x128, .i32⟩
  | 6 => ⟨S_, .i32⟩
  | 7 => ⟨S1x128, .i32⟩
  | 8 => ⟨S1x128, .i1⟩
  | 9 => ⟨S1x128, .i1⟩
  | 10 => ⟨S_, .i32⟩
  | 11 => ⟨S1x128, .i32⟩
  | 12 => ⟨S1x128, .i32⟩
  | 13 => ⟨S1x128, .i32⟩
  | 14 => ⟨S128x128, .i32⟩
  | 15 => ⟨S128x128, .i32⟩
  | 16 => ⟨S128x128, .i1⟩
  | 17 => ⟨S128x128, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S256x1x1024, .f32⟩
  | 25 => ⟨S64x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S16x1024, .f32⟩
  | .local _ .vmem, ⟨5, _⟩ => ⟨S3x1024x1024, .bf16⟩
  | .local _ .vmem, ⟨6, _⟩ => ⟨S1024x64, .bf16⟩
  | .local _ .vmem, ⟨7, _⟩ => ⟨S64x1024, .bf16⟩
  | .local _ .vmem, ⟨8, _⟩ => ⟨S1024x64, .bf16⟩
  | .local _ .vmem, ⟨9, _⟩ => ⟨S64x1024, .bf16⟩
  | .local _ .vmem, ⟨10, _⟩ => ⟨S1024x160, .bf16⟩
  | .local _ .vmem, ⟨11, _⟩ => ⟨S160x1024, .bf16⟩
  | .local _ .vmem, ⟨12, _⟩ => ⟨S64x64, .f32⟩
  | .local _ .vmem, ⟨13, _⟩ => ⟨S128x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S4x1x1024, .f32⟩
  | .local _ .vmem, ⟨27, _⟩ => ⟨S4x1x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v9 : Ref sig .tc := ⟨.hbm, 74, rfl⟩
abbrev main_v10 : Ref sig .tc := ⟨.hbm, 75, rfl⟩
abbrev main_c_2 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_c_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_c : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_0 : Ref sig .tc := ⟨.hbm, 119, rfl⟩
abbrev main_call4_v12 : Ref sig .tc := ⟨.hbm, 120, rfl⟩
abbrev main_call4_v13 : Ref sig .tc := ⟨.hbm, 121, rfl⟩
abbrev main_v19 : Ref sig .tc := ⟨.hbm, 122, rfl⟩
abbrev main_v20 : Ref sig .tc := ⟨.hbm, 123, rfl⟩
abbrev main_c_4 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_v6 : Ref sig .tc := ⟨.hbm, 131, rfl⟩
abbrev main_call5_v7 : Ref sig .tc := ⟨.hbm, 132, rfl⟩
abbrev main_call5_v8 : Ref sig .tc := ⟨.hbm, 133, rfl⟩
abbrev main_call5_c : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_0 : Ref sig .tc := ⟨.hbm, 138, rfl⟩
abbrev main_call5_v12 : Ref sig .tc := ⟨.hbm, 139, rfl⟩
abbrev main_call5_v13 : Ref sig .tc := ⟨.hbm, 140, rfl⟩
abbrev main_v21 : Ref sig .tc := ⟨.hbm, 141, rfl⟩
abbrev main_v22 : Ref sig .tc := ⟨.hbm, 142, rfl⟩
abbrev main_v23 : Ref sig .tc := ⟨.hbm, 143, rfl⟩
abbrev main_v24 : Ref sig .tc := ⟨.hbm, 144, rfl⟩
abbrev main_v25 : Ref sig .tc := ⟨.hbm, 145, rfl⟩
abbrev main_v26_0 : Ref sig .tc := ⟨.hbm, 146, rfl⟩
abbrev main_v26_1 : Ref sig .tc := ⟨.hbm, 147, rfl⟩
abbrev main_v26_2 : Ref sig .tc := ⟨.hbm, 148, rfl⟩
abbrev main_v26_3 : Ref sig .tc := ⟨.hbm, 149, rfl⟩
abbrev main_v26_4 : Ref sig .tc := ⟨.hbm, 150, rfl⟩
abbrev main_v26_5 : Ref sig .tc := ⟨.hbm, 151, rfl⟩
abbrev main_v26_6 : Ref sig .tc := ⟨.hbm, 152, rfl⟩
abbrev main_v26_7 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x160 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S160x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== RwkvFirstReferenceIdeal.lean ====
abbrev S16384x1024 : Shape := ⟨2, ![16384, 1024]⟩
abbrev S64x1024 : Shape := ⟨2, ![64, 1024]⟩
abbrev S16x1024 : Shape := ⟨2, ![16, 1024]⟩
abbrev S3x1024x1024 : Shape := ⟨3, ![3, 1024, 1024]⟩
abbrev S1024x64 : Shape := ⟨2, ![1024, 64]⟩
abbrev S1024x160 : Shape := ⟨2, ![1024, 160]⟩
abbrev S160x1024 : Shape := ⟨2, ![160, 1024]⟩
abbrev S8x2048x1024 : Shape := ⟨3, ![8, 2048, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x8x1024 : Shape := ⟨3, ![8, 8, 1024]⟩
abbrev S8x1x1024 : Shape := ⟨3, ![8, 1, 1024]⟩
abbrev S8x2047x1024 : Shape := ⟨3, ![8, 2047, 1024]⟩
abbrev S1x1024x1024 : Shape := ⟨3, ![1, 1024, 1024]⟩
abbrev S1024x1024 : Shape := ⟨2, ![1024, 1024]⟩
abbrev S8x2048x64 : Shape := ⟨3, ![8, 2048, 64]⟩
abbrev S8x2048x160 : Shape := ⟨3, ![8, 2048, 160]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S8x32x64x1024 : Shape := ⟨4, ![8, 32, 64, 1024]⟩
abbrev S8x32x1x1024 : Shape := ⟨4, ![8, 32, 1, 1024]⟩
abbrev S8x32x1024 : Shape := ⟨3, ![8, 32, 1024]⟩
abbrev S256x1x1024 : Shape := ⟨3, ![256, 1, 1024]⟩

abbrev nBuf : Space → Nat
  | .hbm => 206
  | .vmem => 0
  | .smem => 0
  | _ => 0

abbrev hbmTy0_0 (i : Nat) : BufTy := match i % 128 with
  | 0 => ⟨S16384x1024, .f32⟩
  | 1 => ⟨S64x1024, .f32⟩
  | 2 => ⟨S16x1024, .f32⟩
  | 3 => ⟨S3x1024x1024, .bf16⟩
  | 4 => ⟨S1024x64, .bf16⟩
  | 5 => ⟨S64x1024, .bf16⟩
  | 6 => ⟨S1024x64, .bf16⟩
  | 7 => ⟨S64x1024, .bf16⟩
  | 8 => ⟨S1024x160, .bf16⟩
  | 9 => ⟨S160x1024, .bf16⟩
  | 10 => ⟨S8x2048x1024, .f32⟩
  | 11 => ⟨S1x1024, .f32⟩
  | 12 => ⟨S1024, .f32⟩
  | 13 => ⟨S8x2048x1024, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S_, .f32⟩
  | 21 => ⟨S8x2048x1, .f32⟩
  | 22 => ⟨S8x2048x1, .f32⟩
  | 23 => ⟨S8x2048x1, .f32⟩
  | 24 => ⟨S8x2048x1024, .f32⟩
  | 25 => ⟨S8x2048x1024, .f32⟩
  | 26 => ⟨S1x1x1024, .f32⟩
  | 27 => ⟨S8x2048x1024, .f32⟩
  | 28 => ⟨S8x2048x1024, .f32⟩
  | 29 => ⟨S8x8x1024, .f32⟩
  | 30 => ⟨S8x1x1024, .f32⟩
  | 31 => ⟨S8x2047x1024, .f32⟩
  | 32 => ⟨S8x2048x1024, .f32⟩
  | 33 => ⟨S8x2048x1024, .f32⟩
  | 34 => ⟨S1x1024, .f32⟩
  | 35 => ⟨S1024, .f32⟩
  | 36 => ⟨S1x1x1024, .f32⟩
  | 37 => ⟨S8x2048x1024, .f32⟩
  | 38 => ⟨S8x2048x1024, .f32⟩
  | 39 => ⟨S8x2048x1024, .f32⟩
  | 40 => ⟨S8x2048x1024, .f32⟩
  | 41 => ⟨S1x1024, .f32⟩
  | 42 => ⟨S1024, .f32⟩
  | 43 => ⟨S1x1x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S1x1024, .f32⟩
  | 49 => ⟨S1024, .f32⟩
  | 50 => ⟨S1x1x1024, .f32⟩
  | 51 => ⟨S8x2048x1024, .f32⟩
  | 52 => ⟨S8x2048x1024, .f32⟩
  | 53 => ⟨S8x2048x1024, .f32⟩
  | 54 => ⟨S8x2048x1024, .f32⟩
  | 55 => ⟨S1x1024, .f32⟩
  | 56 => ⟨S1024, .f32⟩
  | 57 => ⟨S1x1x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S1x1024, .f32⟩
  | 63 => ⟨S1024, .f32⟩
  | 64 => ⟨S1x1x1024, .f32⟩
  | 65 => ⟨S8x2048x1024, .f32⟩
  | 66 => ⟨S8x2048x1024, .f32⟩
  | 67 => ⟨S8x2048x1024, .f32⟩
  | 68 => ⟨S8x2048x1024, .f32⟩
  | 69 => ⟨S1x1024, .f32⟩
  | 70 => ⟨S1024, .f32⟩
  | 71 => ⟨S1x1x1024, .f32⟩
  | 72 => ⟨S8x2048x1024, .f32⟩
  | 73 => ⟨S8x2048x1024, .f32⟩
  | 74 => ⟨S8x2048x1024, .f32⟩
  | 75 => ⟨S1x1024x1024, .bf16⟩
  | 76 => ⟨S1024x1024, .bf16⟩
  | 77 => ⟨S1024x1024, .f32⟩
  | 78 => ⟨S8x2048x1024, .f32⟩
  | 79 => ⟨S1x1024x1024, .bf16⟩
  | 80 => ⟨S1024x1024, .bf16⟩
  | 81 => ⟨S1024x1024, .f32⟩
  | 82 => ⟨S8x2048x1024, .f32⟩
  | 83 => ⟨S1x1024x1024, .bf16⟩
  | 84 => ⟨S1024x1024, .bf16⟩
  | 85 => ⟨S1024x1024, .f32⟩
  | 86 => ⟨S8x2048x1024, .f32⟩
  | 87 => ⟨S1x1024, .f32⟩
  | 88 => ⟨S1024, .f32⟩
  | 89 => ⟨S1024x64, .f32⟩
  | 90 => ⟨S8x2048x64, .f32⟩
  | 91 => ⟨S8x2048x64, .f32⟩
  | 92 => ⟨S64x1024, .f32⟩
  | 93 => ⟨S8x2048x1024, .f32⟩
  | 94 => ⟨S1x1x1024, .f32⟩
  | 95 => ⟨S8x2048x1024, .f32⟩
  | 96 => ⟨S8x2048x1024, .f32⟩
  | 97 => ⟨S8x2048x1024, .f32⟩
  | 98 => ⟨S_, .f32⟩
  | 99 => ⟨S8x2048x1024, .f32⟩
  | 100 => ⟨S8x2048x1024, .f32⟩
  | 101 => ⟨S8x2048x1024, .f32⟩
  | 102 => ⟨S8x2048x1024, .f32⟩
  | 103 => ⟨S8x2048x1024, .i1⟩
  | 104 => ⟨S8x2048x1024, .f32⟩
  | 105 => ⟨S8x2048x1024, .f32⟩
  | 106 => ⟨S8x2048x1024, .f32⟩
  | 107 => ⟨S8x2048x1024, .f32⟩
  | 108 => ⟨S8x2048x1024, .f32⟩
  | 109 => ⟨S8x2048x1024, .f32⟩
  | 110 => ⟨S8x2048x1024, .f32⟩
  | 111 => ⟨S8x2048x1024, .f32⟩
  | 112 => ⟨S8x2048x1024, .f32⟩
  | 113 => ⟨S_, .f32⟩
  | 114 => ⟨S8x2048x1024, .f32⟩
  | 115 => ⟨S8x2048x1024, .f32⟩
  | 116 => ⟨S1x1024, .f32⟩
  | 117 => ⟨S1024, .f32⟩
  | 118 => ⟨S1024x64, .f32⟩
  | 119 => ⟨S8x2048x64, .f32⟩
  | 120 => ⟨S64x1024, .f32⟩
  | 121 => ⟨S8x2048x1024, .f32⟩
  | 122 => ⟨S1x1x1024, .f32⟩
  | 123 => ⟨S8x2048x1024, .f32⟩
  | 124 => ⟨S8x2048x1024, .f32⟩
  | 125 => ⟨S8x2048x1024, .f32⟩
  | 126 => ⟨S8x2048x1024, .f32⟩
  | 127 => ⟨S_, .f32⟩
  | _ => ⟨S16384x1024, .f32⟩

abbrev hbmTy0_1 (i : Nat) : BufTy := match i % 128 with
  | 0 => ⟨S8x2048x1024, .f32⟩
  | 1 => ⟨S8x2048x1024, .f32⟩
  | 2 => ⟨S_, .f32⟩
  | 3 => ⟨S8x2048x1024, .f32⟩
  | 4 => ⟨S8x2048x1024, .f32⟩
  | 5 => ⟨S1024x160, .f32⟩
  | 6 => ⟨S8x2048x160, .f32⟩
  | 7 => ⟨S8x2048x160, .f32⟩
  | 8 => ⟨S8x2048x160, .f32⟩
  | 9 => ⟨S_, .f32⟩
  | 10 => ⟨S8x2048x160, .f32⟩
  | 11 => ⟨S8x2048x160, .f32⟩
  | 12 => ⟨S_, .f32⟩
  | 13 => ⟨S8x2048x160, .f32⟩
  | 14 => ⟨S8x2048x160, .f32⟩
  | 15 => ⟨S160x1024, .f32⟩
  | 16 => ⟨S8x2048x1024, .f32⟩
  | 17 => ⟨S1x1024, .f32⟩
  | 18 => ⟨S1024, .f32⟩
  | 19 => ⟨S1x1x1024, .f32⟩
  | 20 => ⟨S8x2048x1024, .f32⟩
  | 21 => ⟨S8x2048x1024, .f32⟩
  | 22 => ⟨S8x2048x16x64, .f32⟩
  | 23 => ⟨S8x2048x16x64, .f32⟩
  | 24 => ⟨S_, .f32⟩
  | 25 => ⟨S8x2048x16, .f32⟩
  | 26 => ⟨S8x2048x16x1, .f32⟩
  | 27 => ⟨S_, .f32⟩
  | 28 => ⟨S8x2048x16x1, .f32⟩
  | 29 => ⟨S8x2048x16x1, .f32⟩
  | 30 => ⟨S8x2048x16x1, .f32⟩
  | 31 => ⟨S8x2048x16x64, .f32⟩
  | 32 => ⟨S8x2048x16x64, .f32⟩
  | 33 => ⟨S8x2048x1024, .f32⟩
  | 34 => ⟨S_, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S_, .f32⟩
  | 43 => ⟨S8x2048x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x32x64x1024, .f32⟩
  | 49 => ⟨S_, .f32⟩
  | 50 => ⟨S_, .f32⟩
  | 51 => ⟨S8x32x64x1024, .f32⟩
  | 52 => ⟨S8x32x1x1024, .f32⟩
  | 53 => ⟨S8x32x1024, .f32⟩
  | 54 => ⟨S8x32x1024, .f32⟩
  | 55 => ⟨S8x2048x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S8x2048x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S256x1x1024, .f32⟩
  | 76 => ⟨S8x8x1024, .f32⟩
  | 77 => ⟨S64x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_v85 : Ref sig .tc := ⟨.hbm, 111, rfl⟩
abbrev main_v86 : Ref sig .tc := ⟨.hbm, 112, rfl⟩
abbrev main_cst_2 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_3 : Ref sig .tc := ⟨.hbm, 127, rfl⟩
abbrev main_v100 : Ref sig .tc := ⟨.hbm, 128, rfl⟩
abbrev main_v101 : Ref sig .tc := ⟨.hbm, 129, rfl⟩
abbrev main_cst_4 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_5 : Ref sig .tc := ⟨.hbm, 137, rfl⟩
abbrev main_v108 : Ref sig .tc := ⟨.hbm, 138, rfl⟩
abbrev main_v109 : Ref sig .tc := ⟨.hbm, 139, rfl⟩
abbrev main_cst_6 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_7 : Ref sig .tc := ⟨.hbm, 152, rfl⟩
abbrev main_v121 : Ref sig .tc := ⟨.hbm, 153, rfl⟩
abbrev main_v122 : Ref sig .tc := ⟨.hbm, 154, rfl⟩
abbrev main_cst_8 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_9 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_10 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_call1_call0_cst : Ref sig .tc := ⟨.hbm, 177, rfl⟩
abbrev main_call1_call0_v0 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩

abbrev nD : Nat := 1
abbrev τ : Topo := Topo.v7x

variable {F : FTy → Type} [FloatOps F]
-- ==== RwkvNext.lean ====
abbrev S16384x1024 : Shape := ⟨2, ![16384, 1024]⟩
abbrev S64x1024 : Shape := ⟨2, ![64, 1024]⟩
abbrev S16x1024 : Shape := ⟨2, ![16, 1024]⟩
abbrev S3x1024x1024 : Shape := ⟨3, ![3, 1024, 1024]⟩
abbrev S1024x64 : Shape := ⟨2, ![1024, 64]⟩
abbrev S1024x32 : Shape := ⟨2, ![1024, 32]⟩
abbrev S32x1024 : Shape := ⟨2, ![32, 1024]⟩
abbrev S1024x160 : Shape := ⟨2, ![1024, 160]⟩
abbrev S160x1024 : Shape := ⟨2, ![160, 1024]⟩
abbrev S64 : Shape := ⟨1, ![64]⟩
abbrev S64x1 : Shape := ⟨2, ![64, 1]⟩
abbrev S_ : Shape := ⟨0, ![]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x1x1024 : Shape := ⟨3, ![256, 1, 1024]⟩
abbrev S256x1024 : Shape := ⟨2, ![256, 1024]⟩
abbrev S8x1024 : Shape := ⟨2, ![8, 1024]⟩
abbrev S4x1x1024 : Shape := ⟨3, ![4, 1, 1024]⟩
abbrev S1x1024 : Shape := ⟨2, ![1, 1024]⟩
abbrev S256 : Shape := ⟨1, ![256]⟩
abbrev S256x1 : Shape := ⟨2, ![256, 1]⟩
abbrev S248x1024 : Shape := ⟨2, ![248, 1024]⟩
abbrev S1x1024x1024 : Shape := ⟨3, ![1, 1024, 1024]⟩
abbrev S1024x1024 : Shape := ⟨2, ![1024, 1024]⟩
abbrev S256x64 : Shape := ⟨2, ![256, 64]⟩
abbrev S256x32 : Shape := ⟨2, ![256, 32]⟩
abbrev S256x160 : Shape := ⟨2, ![256, 160]⟩
abbrev S256x128 : Shape := ⟨2, ![256, 128]⟩
abbrev S1x1x1024 : Shape := ⟨3, ![1, 1, 1024]⟩

abbrev nBuf : Space → Nat
  | .hbm => 157
  | .vmem => 35
  | .smem => 0
  | _ => 0

abbrev hbmTy0_0 (i : Nat) : BufTy := match i % 128 with
  | 0 => ⟨S16384x1024, .f32⟩
  | 1 => ⟨S64x1024, .f32⟩
  | 2 => ⟨S16384x1024, .f32⟩
  | 3 => ⟨S16x1024, .f32⟩
  | 4 => ⟨S3x1024x1024, .bf16⟩
  | 5 => ⟨S1024x64, .bf16⟩
  | 6 => ⟨S64x1024, .bf16⟩
  | 7 => ⟨S1024x64, .bf16⟩
  | 8 => ⟨S64x1024, .bf16⟩
  | 9 => ⟨S1024x32, .bf16⟩
  | 10 => ⟨S32x1024, .bf16⟩
  | 11 => ⟨S1024x160, .bf16⟩
  | 12 => ⟨S160x1024, .bf16⟩
  | 13 => ⟨S64, .i32⟩
  | 14 => ⟨S64x1, .i32⟩
  | 15 => ⟨S_, .i32⟩
  | 16 => ⟨S_, .i32⟩
  | 17 => ⟨S64x1, .i32⟩
  | 18 => ⟨S64x1, .i32⟩
  | 19 => ⟨S64x1, .i32⟩
  | 20 => ⟨S_, .i32⟩
  | 21 => ⟨S64x1, .i32⟩
  | 22 => ⟨S64x1, .i1⟩
  | 23 => ⟨S64x1, .i32⟩
  | 24 => ⟨S64x1, .i32⟩
  | 25 => ⟨S_, .i32⟩
  | 26 => ⟨S64x1, .i32⟩
  | 27 => ⟨S64x1, .i1⟩
  | 28 => ⟨S64x1, .i1⟩
  | 29 => ⟨S_, .i32⟩
  | 30 => ⟨S64x1, .i32⟩
  | 31 => ⟨S64x1, .i32⟩
  | 32 => ⟨S64x1, .i32⟩
  | 33 => ⟨S1x64, .i32⟩
  | 34 => ⟨S_, .i32⟩
  | 35 => ⟨S_, .i32⟩
  | 36 => ⟨S1x64, .i32⟩
  | 37 => ⟨S1x64, .i32⟩
  | 38 => ⟨S1x64, .i32⟩
  | 39 => ⟨S_, .i32⟩
  | 40 => ⟨S1x64, .i32⟩
  | 41 => ⟨S1x64, .i1⟩
  | 42 => ⟨S1x64, .i32⟩
  | 43 => ⟨S1x64, .i32⟩
  | 44 => ⟨S_, .i32⟩
  | 45 => ⟨S1x64, .i32⟩
  | 46 => ⟨S1x64, .i1⟩
  | 47 => ⟨S1x64, .i1⟩
  | 48 => ⟨S_, .i32⟩
  | 49 => ⟨S1x64, .i32⟩
  | 50 => ⟨S1x64, .i32⟩
  | 51 => ⟨S1x64, .i32⟩
  | 52 => ⟨S64x64, .i32⟩
  | 53 => ⟨S64x64, .i32⟩
  | 54 => ⟨S64x64, .i1⟩
  | 55 => ⟨S1x64, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S1x64, .i32⟩
  | 63 => ⟨S1x64, .i32⟩
  | 64 => ⟨S_, .i32⟩
  | 65 => ⟨S1x64, .i32⟩
  | 66 => ⟨S1x64, .i1⟩
  | 67 => ⟨S_, .i32⟩
  | 68 => ⟨S1x64, .i32⟩
  | 69 => ⟨S1x64, .i1⟩
  | 70 => ⟨S_, .i32⟩
  | 71 => ⟨S_, .i1⟩
  | 72 => ⟨S1x64, .i1⟩
  | 73 => ⟨S1x64, .i1⟩
  | 74 => ⟨S1x64, .i1⟩
  | 75 => ⟨S1x64, .i32⟩
  | 76 => ⟨S1x64, .i32⟩
  | 77 => ⟨S1x64, .i32⟩
  | 78 => ⟨S64x1, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S64x1, .i32⟩
  | 86 => ⟨S64x1, .i32⟩
  | 87 => ⟨S_, .i32⟩
  | 88 => ⟨S64x1, .i32⟩
  | 89 => ⟨S64x1, .i1⟩
  | 90 => ⟨S_, .i32⟩
  | 91 => ⟨S64x1, .i32⟩
  | 92 => ⟨S64x1, .i1⟩
  | 93 => ⟨S_, .i32⟩
  | 94 => ⟨S_, .i1⟩
  | 95 => ⟨S64x1, .i1⟩
  | 96 => ⟨S64x1, .i1⟩
  | 97 => ⟨S64x1, .i1⟩
  | 98 => ⟨S64x1, .i32⟩
  | 99 => ⟨S64x1, .i32⟩
  | 100 => ⟨S64x1, .i32⟩
  | 101 => ⟨S64x64, .i32⟩
  | 102 => ⟨S64x64, .i32⟩
  | 103 => ⟨S64x64, .i1⟩
  | 104 => ⟨S64x64, .i1⟩
  | 105 => ⟨S64x64, .f32⟩
  | 106 => ⟨S128, .i32⟩
  | 107 => ⟨S128x1, .i32⟩
  | 108 => ⟨S_, .i32⟩
  | 109 => ⟨S_, .i32⟩
  | 110 => ⟨S128x1, .i32⟩
  | 111 => ⟨S128x1, .i32⟩
  | 112 => ⟨S128x1, .i32⟩
  | 113 => ⟨S_, .i32⟩
  | 114 => ⟨S128x1, .i32⟩
  | 115 => ⟨S128x1, .i1⟩
  | 116 => ⟨S128x1, .i32⟩
  | 117 => ⟨S128x1, .i32⟩
  | 118 => ⟨S_, .i32⟩
  | 119 => ⟨S128x1, .i32⟩
  | 120 => ⟨S128x1, .i1⟩
  | 121 => ⟨S128x1, .i1⟩
  | 122 => ⟨S_, .i32⟩
  | 123 => ⟨S128x1, .i32⟩
  | 124 => ⟨S128x1, .i32⟩
  | 125 => ⟨S128x1, .i32⟩
  | 126 => ⟨S1x128, .i32⟩
  | 127 => ⟨S_, .i32⟩
  | _ => ⟨S16384x1024, .f32⟩

abbrev hbmTy0_1 (i : Nat) : BufTy := match i % 128 with
  | 0 => ⟨S_, .i32⟩
  | 1 => ⟨S1x128, .i32⟩
  | 2 => ⟨S1x128, .i32⟩
  | 3 => ⟨S1x128, .i32⟩
  | 4 => ⟨S_, .i32⟩
  | 5 => ⟨S1x128, .i32⟩
  | 6 => ⟨S1x128, .i1⟩
  | 7 => ⟨S1x128, .i32⟩
  | 8 => ⟨S1x128, .i32⟩
  | 9 => ⟨S_, .i32⟩
  | 10 => ⟨S1x128, .i32⟩
  | 11 => ⟨S1x128, .i1⟩
  | 12 => ⟨S1x128, .i1⟩
  | 13 => ⟨S_, .i32⟩
  | 14 => ⟨S1x128, .i32⟩
  | 15 => ⟨S1x128, .i32⟩
  | 16 => ⟨S1x128, .i32⟩
  | 17 => ⟨S128x128, .i32⟩
  | 18 => ⟨S128x128, .i32⟩
  | 19 => ⟨S128x128, .i1⟩
  | 20 => ⟨S128x128, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S256x1x1024, .f32⟩
  | 28 => ⟨S64x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S16x1024, .f32⟩
  | .local _ .vmem, ⟨7, _⟩ => ⟨S3x1024x1024, .bf16⟩
  | .local _ .vmem, ⟨8, _⟩ => ⟨S1024x64, .bf16⟩
  | .local _ .vmem, ⟨9, _⟩ => ⟨S64x1024, .bf16⟩
  | .local _ .vmem, ⟨10, _⟩ => ⟨S1024x64, .bf16⟩
  | .local _ .vmem, ⟨11, _⟩ => ⟨S64x1024, .bf16⟩
  | .local _ .vmem, ⟨12, _⟩ => ⟨S1024x32, .bf16⟩
  | .local _ .vmem, ⟨13, _⟩ => ⟨S32x1024, .bf16⟩
  | .local _ .vmem, ⟨14, _⟩ => ⟨S1024x160, .bf16⟩
  | .local _ .vmem, ⟨15, _⟩ => ⟨S160x1024, .bf16⟩
  | .local _ .vmem, ⟨16, _⟩ => ⟨S64x64, .f32⟩
  | .local _ .vmem, ⟨17, _⟩ => ⟨S128x128, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S4x1x1024, .f32⟩
  | .local _ .vmem, ⟨31, _⟩ => ⟨S4x1x1024, .f32⟩
  | .local _ .vmem, ⟨32, _⟩ => ⟨S8x1024, .f32⟩
  | .local _ .vmem, ⟨33, _⟩ => ⟨S8x1024, .f32⟩
  | .local _ .vmem, ⟨34, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c_1 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v9 : Ref sig .tc := ⟨.hbm, 77, rfl⟩
abbrev main_v10 : Ref sig .tc := ⟨.hbm, 78, rfl⟩
abbrev main_c_2 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_1 : Ref sig .tc := ⟨.hbm, 87, rfl⟩
abbrev main_call3_v5 : Ref sig .tc := ⟨.hbm, 88, rfl⟩
abbrev main_call3_v6 : Ref sig .tc := ⟨.hbm, 89, rfl⟩
abbrev main_call3_c_2 : Ref sig .tc := ⟨.hbm, 90, rfl⟩
abbrev main_call3_v7 : Ref sig .tc := ⟨.hbm, 91, rfl⟩
abbrev main_call3_v8 : Ref sig .tc := ⟨.hbm, 92, rfl⟩
abbrev main_call3_c_3 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_v11 : Ref sig .tc := ⟨.hbm, 100, rfl⟩
abbrev main_v12 : Ref sig .tc := ⟨.hbm, 101, rfl⟩
abbrev main_v13 : Ref sig .tc := ⟨.hbm, 102, rfl⟩
abbrev main_v14 : Ref sig .tc := ⟨.hbm, 103, rfl⟩
abbrev main_v15 : Ref sig .tc := ⟨.hbm, 104, rfl⟩
abbrev main_v16 : Ref sig .tc := ⟨.hbm, 105, rfl⟩
abbrev main_v17 : Ref sig .tc := ⟨.hbm, 106, rfl⟩
abbrev main_v18 : Ref sig .tc := ⟨.hbm, 107, rfl⟩
abbrev main_c_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_c : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_0 : Ref sig .tc := ⟨.hbm, 122, rfl⟩
abbrev main_call4_v12 : Ref sig .tc := ⟨.hbm, 123, rfl⟩
abbrev main_call4_v13 : Ref sig .tc := ⟨.hbm, 124, rfl⟩
abbrev main_v19 : Ref sig .tc := ⟨.hbm, 125, rfl⟩
abbrev main_v20 : Ref sig .tc := ⟨.hbm, 126, rfl⟩
abbrev main_c_4 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_c : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_0 : Ref sig .tc := ⟨.hbm, 141, rfl⟩
abbrev main_call5_v12 : Ref sig .tc := ⟨.hbm, 142, rfl⟩
abbrev main_call5_v13 : Ref sig .tc := ⟨.hbm, 143, rfl⟩
abbrev main_v21 : Ref sig .tc := ⟨.hbm, 144, rfl⟩
abbrev main_v22 : Ref sig .tc := ⟨.hbm, 145, rfl⟩
abbrev main_v23 : Ref sig .tc := ⟨.hbm, 146, rfl⟩
abbrev main_v24 : Ref sig .tc := ⟨.hbm, 147, rfl⟩
abbrev main_v25 : Ref sig .tc := ⟨.hbm, 148, rfl⟩
abbrev main_v26_0 : Ref sig .tc := ⟨.hbm, 149, rfl⟩
abbrev main_v26_1 : Ref sig .tc := ⟨.hbm, 150, rfl⟩
abbrev main_v26_2 : Ref sig .tc := ⟨.hbm, 151, rfl⟩
abbrev main_v26_3 : Ref sig .tc := ⟨.hbm, 152, rfl⟩
abbrev main_v26_4 : Ref sig .tc := ⟨.hbm, 153, rfl⟩
abbrev main_v26_5 : Ref sig .tc := ⟨.hbm, 154, rfl⟩
abbrev main_v26_6 : Ref sig .tc := ⟨.hbm, 155, rfl⟩
abbrev main_v26_7 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x160 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S160x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S4x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S8x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== RwkvNextReferenceIdeal.lean ====
abbrev S16384x1024 : Shape := ⟨2, ![16384, 1024]⟩
abbrev S64x1024 : Shape := ⟨2, ![64, 1024]⟩
abbrev S16x1024 : Shape := ⟨2, ![16, 1024]⟩
abbrev S3x1024x1024 : Shape := ⟨3, ![3, 1024, 1024]⟩
abbrev S1024x64 : Shape := ⟨2, ![1024, 64]⟩
abbrev S1024x32 : Shape := ⟨2, ![1024, 32]⟩
abbrev S32x1024 : Shape := ⟨2, ![32, 1024]⟩
abbrev S1024x160 : Shape := ⟨2, ![1024, 160]⟩
abbrev S160x1024 : Shape := ⟨2, ![160, 1024]⟩
abbrev S8x2048x1024 : Shape := ⟨3, ![8, 2048, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x8x1024 : Shape := ⟨3, ![8, 8, 1024]⟩
abbrev S8x1x1024 : Shape := ⟨3, ![8, 1, 1024]⟩
abbrev S8x2047x1024 : Shape := ⟨3, ![8, 2047, 1024]⟩
abbrev S1x1024x1024 : Shape := ⟨3, ![1, 1024, 1024]⟩
abbrev S1024x1024 : Shape := ⟨2, ![1024, 1024]⟩
abbrev S8x2048x64 : Shape := ⟨3, ![8, 2048, 64]⟩
abbrev S8x2048x32 : Shape := ⟨3, ![8, 2048, 32]⟩
abbrev S8x2048x160 : Shape := ⟨3, ![8, 2048, 160]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S8x32x64x1024 : Shape := ⟨4, ![8, 32, 64, 1024]⟩
abbrev S8x32x1x1024 : Shape := ⟨4, ![8, 32, 1, 1024]⟩
abbrev S8x32x1024 : Shape := ⟨3, ![8, 32, 1024]⟩
abbrev S256x1x1024 : Shape := ⟨3, ![256, 1, 1024]⟩

abbrev nBuf : Space → Nat
  | .hbm => 230
  | .vmem => 0
  | .smem => 0
  | _ => 0

abbrev hbmTy0_0 (i : Nat) : BufTy := match i % 128 with
  | 0 => ⟨S16384x1024, .f32⟩
  | 1 => ⟨S64x1024, .f32⟩
  | 2 => ⟨S16384x1024, .f32⟩
  | 3 => ⟨S16x1024, .f32⟩
  | 4 => ⟨S3x1024x1024, .bf16⟩
  | 5 => ⟨S1024x64, .bf16⟩
  | 6 => ⟨S64x1024, .bf16⟩
  | 7 => ⟨S1024x64, .bf16⟩
  | 8 => ⟨S64x1024, .bf16⟩
  | 9 => ⟨S1024x32, .bf16⟩
  | 10 => ⟨S32x1024, .bf16⟩
  | 11 => ⟨S1024x160, .bf16⟩
  | 12 => ⟨S160x1024, .bf16⟩
  | 13 => ⟨S8x2048x1024, .f32⟩
  | 14 => ⟨S1x1024, .f32⟩
  | 15 => ⟨S1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S8x8x1024, .f32⟩
  | 33 => ⟨S8x1x1024, .f32⟩
  | 34 => ⟨S8x2047x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S1x1024, .f32⟩
  | 59 => ⟨S1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S1x1024x1024, .bf16⟩
  | 79 => ⟨S1024x1024, .bf16⟩
  | 80 => ⟨S1024x1024, .f32⟩
  | 81 => ⟨S8x2048x1024, .f32⟩
  | 82 => ⟨S1x1024x1024, .bf16⟩
  | 83 => ⟨S1024x1024, .bf16⟩
  | 84 => ⟨S1024x1024, .f32⟩
  | 85 => ⟨S8x2048x1024, .f32⟩
  | 86 => ⟨S1x1024x1024, .bf16⟩
  | 87 => ⟨S1024x1024, .bf16⟩
  | 88 => ⟨S1024x1024, .f32⟩
  | 89 => ⟨S8x2048x1024, .f32⟩
  | 90 => ⟨S1x1024, .f32⟩
  | 91 => ⟨S1024, .f32⟩
  | 92 => ⟨S1024x64, .f32⟩
  | 93 => ⟨S8x2048x64, .f32⟩
  | 94 => ⟨S8x2048x64, .f32⟩
  | 95 => ⟨S64x1024, .f32⟩
  | 96 => ⟨S8x2048x1024, .f32⟩
  | 97 => ⟨S1x1x1024, .f32⟩
  | 98 => ⟨S8x2048x1024, .f32⟩
  | 99 => ⟨S8x2048x1024, .f32⟩
  | 100 => ⟨S8x2048x1024, .f32⟩
  | 101 => ⟨S_, .f32⟩
  | 102 => ⟨S8x2048x1024, .f32⟩
  | 103 => ⟨S8x2048x1024, .f32⟩
  | 104 => ⟨S8x2048x1024, .f32⟩
  | 105 => ⟨S8x2048x1024, .f32⟩
  | 106 => ⟨S8x2048x1024, .i1⟩
  | 107 => ⟨S8x2048x1024, .f32⟩
  | 108 => ⟨S8x2048x1024, .f32⟩
  | 109 => ⟨S8x2048x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S8x2048x1024, .f32⟩
  | 115 => ⟨S8x2048x1024, .f32⟩
  | 116 => ⟨S_, .f32⟩
  | 117 => ⟨S8x2048x1024, .f32⟩
  | 118 => ⟨S8x2048x1024, .f32⟩
  | 119 => ⟨S8x2048x1024, .f32⟩
  | 120 => ⟨S8x2048x1024, .f32⟩
  | 121 => ⟨S1x1024, .f32⟩
  | 122 => ⟨S1024, .f32⟩
  | 123 => ⟨S1024x32, .f32⟩
  | 124 => ⟨S8x2048x32, .f32⟩
  | 125 => ⟨S32x1024, .f32⟩
  | 126 => ⟨S8x2048x1024, .f32⟩
  | 127 => ⟨S1x1x1024, .f32⟩
  | _ => ⟨S16384x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S_, .f32⟩
  | 5 => ⟨S8x2048x1024, .f32⟩
  | 6 => ⟨S8x2048x1024, .f32⟩
  | 7 => ⟨S_, .f32⟩
  | 8 => ⟨S8x2048x1024, .f32⟩
  | 9 => ⟨S8x2048x1024, .f32⟩
  | 10 => ⟨S8x2048x1024, .f32⟩
  | 11 => ⟨S8x2048x1024, .f32⟩
  | 12 => ⟨S1x1024, .f32⟩
  | 13 => ⟨S1024, .f32⟩
  | 14 => ⟨S1024x64, .f32⟩
  | 15 => ⟨S8x2048x64, .f32⟩
  | 16 => ⟨S64x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S8x2048x1024, .f32⟩
  | 22 => ⟨S8x2048x1024, .f32⟩
  | 23 => ⟨S_, .f32⟩
  | 24 => ⟨S8x2048x1024, .f32⟩
  | 25 => ⟨S8x2048x1024, .f32⟩
  | 26 => ⟨S_, .f32⟩
  | 27 => ⟨S8x2048x1024, .f32⟩
  | 28 => ⟨S8x2048x1024, .f32⟩
  | 29 => ⟨S1024x160, .f32⟩
  | 30 => ⟨S8x2048x160, .f32⟩
  | 31 => ⟨S8x2048x160, .f32⟩
  | 32 => ⟨S8x2048x160, .f32⟩
  | 33 => ⟨S_, .f32⟩
  | 34 => ⟨S8x2048x160, .f32⟩
  | 35 => ⟨S8x2048x160, .f32⟩
  | 36 => ⟨S_, .f32⟩
  | 37 => ⟨S8x2048x160, .f32⟩
  | 38 => ⟨S8x2048x160, .f32⟩
  | 39 => ⟨S160x1024, .f32⟩
  | 40 => ⟨S8x2048x1024, .f32⟩
  | 41 => ⟨S1x1024, .f32⟩
  | 42 => ⟨S1024, .f32⟩
  | 43 => ⟨S1x1x1024, .f32⟩
  | 44 => ⟨S8x2048x1024, .f32⟩
  | 45 => ⟨S8x2048x1024, .f32⟩
  | 46 => ⟨S8x2048x16x64, .f32⟩
  | 47 => ⟨S8x2048x16x64, .f32⟩
  | 48 => ⟨S_, .f32⟩
  | 49 => ⟨S8x2048x16, .f32⟩
  | 50 => ⟨S8x2048x16x1, .f32⟩
  | 51 => ⟨S_, .f32⟩
  | 52 => ⟨S8x2048x16x1, .f32⟩
  | 53 => ⟨S8x2048x16x1, .f32⟩
  | 54 => ⟨S8x2048x16x1, .f32⟩
  | 55 => ⟨S8x2048x16x64, .f32⟩
  | 56 => ⟨S8x2048x16x64, .f32⟩
  | 57 => ⟨S8x2048x1024, .f32⟩
  | 58 => ⟨S_, .f32⟩
  | 59 => ⟨S8x2048x1024, .f32⟩
  | 60 => ⟨S8x2048x1024, .f32⟩
  | 61 => ⟨S1x1024, .f32⟩
  | 62 => ⟨S1024, .f32⟩
  | 63 => ⟨S1x1x1024, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S8x32x64x1024, .f32⟩
  | 73 => ⟨S_, .f32⟩
  | 74 => ⟨S_, .f32⟩
  | 75 => ⟨S8x32x64x1024, .f32⟩
  | 76 => ⟨S8x32x1x1024, .f32⟩
  | 77 => ⟨S8x32x1024, .f32⟩
  | 78 => ⟨S8x32x1024, .f32⟩
  | 79 => ⟨S8x2048x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S256x1x1024, .f32⟩
  | 100 => ⟨S8x8x1024, .f32⟩
  | 101 => ⟨S64x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_call0_cst : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_v8 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_v85 : Ref sig .tc := ⟨.hbm, 114, rfl⟩
abbrev main_v86 : Ref sig .tc := ⟨.hbm, 115, rfl⟩
abbrev main_cst_2 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_3 : Ref sig .tc := ⟨.hbm, 132, rfl⟩
abbrev main_v102 : Ref sig .tc := ⟨.hbm, 133, rfl⟩
abbrev main_v103 : Ref sig .tc := ⟨.hbm, 134, rfl⟩
abbrev main_cst_4 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_5 : Ref sig .tc := ⟨.hbm, 151, rfl⟩
abbrev main_v119 : Ref sig .tc := ⟨.hbm, 152, rfl⟩
abbrev main_v120 : Ref sig .tc := ⟨.hbm, 153, rfl⟩
abbrev main_cst_6 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_7 : Ref sig .tc := ⟨.hbm, 161, rfl⟩
abbrev main_v127 : Ref sig .tc := ⟨.hbm, 162, rfl⟩
abbrev main_v128 : Ref sig .tc := ⟨.hbm, 163, rfl⟩
abbrev main_cst_8 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_9 : Ref sig .tc := ⟨.hbm, 176, rfl⟩
abbrev main_v140 : Ref sig .tc := ⟨.hbm, 177, rfl⟩
abbrev main_v141 : Ref sig .tc := ⟨.hbm, 178, rfl⟩
abbrev main_cst_10 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_11 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_12 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_call1_call0_cst : Ref sig .tc := ⟨.hbm, 201, rfl⟩
abbrev main_call1_call0_v0 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩

abbrev nD : Nat := 1
abbrev τ : Topo := Topo.v7x

variable {F : FTy → Type} [FloatOps F]
-- ==== MlaOut.lean ====
abbrev S16384x1024 : Shape := ⟨2, ![16384, 1024]⟩
abbrev S16x16384x256 : Shape := ⟨3, ![16, 16384, 256]⟩
abbrev S256x16x64 : Shape := ⟨3, ![256, 16, 64]⟩
abbrev S1024x1024 : Shape := ⟨2, ![1024, 1024]⟩
abbrev S8x1024 : Shape := ⟨2, ![8, 1024]⟩
abbrev S16x256x64 : Shape := ⟨3, ![16, 256, 64]⟩
abbrev S8x2x256x64 : Shape := ⟨4, ![8, 2, 256, 64]⟩
abbrev S8x2x256x1x64 : Shape := ⟨5, ![8, 2, 256, 1, 64]⟩
abbrev S2x2 : Shape := ⟨2, ![2, 2]⟩
abbrev S_ : Shape := ⟨0, ![]⟩
abbrev S1x2x1x2x1 : Shape := ⟨5, ![1, 2, 1, 2, 1]⟩
abbrev S8x2x256x2x64 : Shape := ⟨5, ![8, 2, 256, 2, 64]⟩
abbrev S8x512x128 : Shape := ⟨3, ![8, 512, 128]⟩
abbrev S512x1024 : Shape := ⟨2, ![512, 1024]⟩
abbrev S16x512x256 : Shape := ⟨3, ![16, 512, 256]⟩
abbrev S1x512x128 : Shape := ⟨3, ![1, 512, 128]⟩
abbrev S512x128 : Shape := ⟨2, ![512, 128]⟩
abbrev S1x512x256 : Shape := ⟨3, ![1, 512, 256]⟩
abbrev S512x256 : Shape := ⟨2, ![512, 256]⟩
abbrev S256x128 : Shape := ⟨2, ![256, 128]⟩
abbrev S1x1024 : Shape := ⟨2, ![1, 1024]⟩
abbrev S512 : Shape := ⟨1, ![512]⟩
abbrev S512x1 : Shape := ⟨2, ![512, 1]⟩

abbrev nBuf : Space → Nat
  | .hbm => 22
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16x16384x256, .bf16⟩
  | .hbm, ⟨2, _⟩ => ⟨S256x16x64, .f32⟩
  | .hbm, ⟨3, _⟩ => ⟨S1024x1024, .bf16⟩
  | .hbm, ⟨4, _⟩ => ⟨S8x1024, .f32⟩
  | .hbm, ⟨5, _⟩ => ⟨S16x256x64, .f32⟩
  | .hbm, ⟨6, _⟩ => ⟨S8x2x256x64, .f32⟩
  | .hbm, ⟨7, _⟩ => ⟨S8x2x256x1x64, .f32⟩
  | .hbm, ⟨8, _⟩ => ⟨S2x2, .i32⟩
  | .hbm, ⟨9, _⟩ => ⟨S2x2, .i32⟩
  | .hbm, ⟨10, _⟩ => ⟨S_, .i32⟩
  | .hbm, ⟨11, _⟩ => ⟨S2x2, .i32⟩
  | .hbm, ⟨12, _⟩ => ⟨S2x2, .i32⟩
  | .hbm, ⟨13, _⟩ => ⟨S2x2, .i1⟩
  | .hbm, ⟨14, _⟩ => ⟨S2x2, .f32⟩
  | .hbm, ⟨15, _⟩ => ⟨S1x2x1x2x1, .f32⟩
  | .hbm, ⟨16, _⟩ => ⟨S8x2x256x2x64, .f32⟩
  | .hbm, ⟨17, _⟩ => ⟨S8x2x256x2x64, .f32⟩
  | .hbm, ⟨18, _⟩ => ⟨S8x2x256x2x64, .f32⟩
  | .hbm, ⟨19, _⟩ => ⟨S8x512x128, .f32⟩
  | .hbm, ⟨20, _⟩ => ⟨S8x512x128, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x512x256, .bf16⟩
  | .local _ .vmem, ⟨3, _⟩ => ⟨S16x512x256, .bf16⟩
  | .local _ .vmem, ⟨4, _⟩ => ⟨S8x512x128, .bf16⟩
  | .local _ .vmem, ⟨5, _⟩ => ⟨S1024x1024, .bf16⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlaOutReferenceIdeal.lean ====
abbrev S16384x1024 : Shape := ⟨2, ![16384, 1024]⟩
abbrev S16x16384x256 : Shape := ⟨3, ![16, 16384, 256]⟩
abbrev S256x16x64 : Shape := ⟨3, ![256, 16, 64]⟩
abbrev S1024x1024 : Shape := ⟨2, ![1024, 1024]⟩
abbrev S8x1024 : Shape := ⟨2, ![8, 1024]⟩
abbrev S16x64x16384 : Shape := ⟨3, ![16, 64, 16384]⟩
abbrev S16384x16x64 : Shape := ⟨3, ![16384, 16, 64]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x16384x256, .bf16⟩
  | .hbm, ⟨2, _⟩ => ⟨S256x16x64, .f32⟩
  | .hbm, ⟨3, _⟩ => ⟨S1024x1024, .bf16⟩
  | .hbm, ⟨4, _⟩ => ⟨S8x1024, .f32⟩
  | .hbm, ⟨5, _⟩ => ⟨S16x16384x256, .f32⟩
  | .hbm, ⟨6, _⟩ => ⟨S16x64x16384, .f32⟩
  | .hbm, ⟨7, _⟩ => ⟨S16384x16x64, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.BlockState.lean ====
/-
  What one grid point of the attention kernel leaves in its output block, as a recursion over the trips of its loop:
  the three scratch buffers (running maximum, running sum, accumulator) are each overwritten whole by every trip, so
  the loop is a function of the triple of vectors they hold.
-/
module

public import proofs.«01_k».proof.Proof.Gen.KernelIdeal.Value
public import Idealize.ShloMosaic.Lib.Tactic

@[expose] public section

set_option maxRecDepth 16384

noncomputable section

namespace Cert.KernelIdeal.Attend

open Cert.KernelIdeal Cert.KernelIdeal.Gen Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- What the scratch buffers hold: the running maximum, the running sum and the accumulator. -/
abbrev State (F : FTy → Type) : Type := FVec F S1024x1 .f32 × FVec F S1024x1 .f32 × FVec F S1024x256 .f32

/-- The 256 keys of trip `k`. -/
def keys (i : grid0.Coords) (x1 : Vec F S2048x384 .bf16) (k : Fin (k0_t1_loop i).trips) : Vec F S256x384 .bf16 :=
  View.ld x1 (Rect.unit (s := S2048x384) (k0_off1 i k) S256x384.size (k0_off1_inb i k))

/-- One trip. -/
def next (i : grid0.Coords) (x0 : Vec F S16x64x384 .bf16) (x1 : Vec F S2048x384 .bf16) (k : Fin (k0_t1_loop i).trips)
    (s : State F) : State F :=
  let q := k0_pay16 x0
  let col := iota Kind.tc S1024x256 32 [1] iota_S1024x256_d1_w32
  (k0_pay1 (k0_pay5 i q (k0_pay20 i) col 0#32 1#32 k (keys i x1 k) s.1),
    k0_pay8 i q (k0_pay20 i) col 0#32 1#32 k (keys i x1 k) s.1 s.2.1,
    k0_pay9 i q (k0_pay20 i) col 0#32 1#32 k (keys i x1 k) s.1 s.2.2)

/-- The state before trip `n`. -/
def states (i : grid0.Coords) (x0 : Vec F S16x64x384 .bf16) (x1 : Vec F S2048x384 .bf16) : ℕ → State F
  | 0 => (k0_pay17, k0_pay18, k0_pay19)
  | n + 1 => if h : n < (k0_t1_loop i).trips then next i x0 x1 ⟨n, h⟩ (states i x0 x1 n) else states i x0 x1 n

variable (c : Dev nD) (i : grid0.Coords) (arg2 : Memref sig .tc .vmem S16x64x384 .bf16) (harg2 : arg2.IsWhole)
  (arg3 : Memref sig .tc .vmem S2048x384 .bf16) (harg3 : arg3.IsWhole) (arg4 : Memref sig .tc .vmem S16x64x256 .bf16)
  (harg4 : arg4.IsWhole) (arg5 : Memref sig .tc .vmem S1024x1 .f32) (harg5 : arg5.IsWhole)
  (arg6 : Memref sig .tc .vmem S1024x1 .f32) (harg6 : arg6.IsWhole) (arg7 : Memref sig .tc .vmem S1024x256 .f32)
  (harg7 : arg7.IsWhole) (x0 : Vec F S16x64x384 .bf16) (x1 : Vec F S2048x384 .bf16)

/-- The pieces of one trip: one store over the whole of each scratch buffer. -/
theorem trip_pieces (k : Fin (k0_t1_loop i).trips) (f5 : BufTy.Contents (Elt F) arg5.view.ty)
    (f6 : BufTy.Contents (Elt F) arg6.view.ty) (f7 : BufTy.Contents (Elt F) arg7.view.ty) (s : State F)
    (h5 : arg5.view.read (Elt F) f5 = s.1) (h6 : arg6.view.read (Elt F) f6 = s.2.1) (h7 : arg7.view.read (Elt F) f7 = s.2.2) :
    tripL_k0_t1 Variants.none c none i arg2 harg2 arg3 harg3 arg4 harg4 arg5 harg5 arg6 harg6 arg7 harg7 (k0_pay16 x0)
        (k0_pay20 i) (iota Kind.tc S1024x256 32 [1] iota_S1024x256_d1_w32) (harg3.unread x1) k f5 f6 f7
      = ([⟨Rect.unit ![0, 0] S1024x1.size inb_S1024x1_S1024x1_0_0, (next i x0 x1 k s).1⟩],
        [⟨Rect.unit ![0, 0] S1024x1.size inb_S1024x1_S1024x1_0_0, (next i x0 x1 k s).2.1⟩],
        [⟨Rect.unit ![0, 0] S1024x256.size inb_S1024x256_S1024x256_0_0, (next i x0 x1 k s).2.2⟩]) := by
  have e3 : View.readAt (Elt F) arg3.view (Rect.unit (s := S2048x384) (k0_off1 i k) S256x384.size (k0_off1_inb i k)).toLoadRect (harg3.unread x1)
      = keys i x1 k := by
    rw [View.readAt_eq_ld, harg3.read_unread]; rfl
  have e5 : View.readAt (Elt F) arg5.view (Rect.unit ![0, 0] S1024x1.size inb_S1024x1_S1024x1_0_0).toLoadRect f5 = s.1 := by
    rw [View.readAt_eq_ld, h5, View.ld_unit_zero (S := S1024x1) zero2]
  have e6 : View.readAt (Elt F) arg6.view (Rect.unit ![0, 0] S1024x1.size inb_S1024x1_S1024x1_0_0).toLoadRect f6 = s.2.1 := by
    rw [View.readAt_eq_ld, h6, View.ld_unit_zero (S := S1024x1) zero2]
  have e7 : View.readAt (Elt F) arg7.view (Rect.unit ![0, 0] S1024x256.size inb_S1024x256_S1024x256_0_0).toLoadRect f7 = s.2.2 := by
    rw [View.readAt_eq_ld, h7, View.ld_unit_zero (S := S1024x256) zero2]
  unfold next
  dsimp only
  rw [← e3, ← e5, ← e6, ← e7]
  unfold tripL_k0_t1 trip_k0_t1
  dsimp only
  sl_unfold_words
  rfl

/-- The pieces the loop has written before trip `n`. -/
abbrev written (n : ℕ) :=
  pb_k0_t1 (F := F) Variants.none c none i arg2 harg2 arg3 harg3 arg4 harg4 arg5 harg5 arg6 harg6 arg7 harg7 (k0_pay16 x0)
    (k0_pay20 i) (iota Kind.tc S1024x256 32 [1] iota_S1024x256_d1_w32) (harg3.unread x1)
    (arg5.view.writes (Elt F) arg5.view.junk [⟨Rect.unit ![0, 0] S1024x1.size inb_S1024x1_S1024x1_0_0, k0_pay17⟩])
    (arg6.view.writes (Elt F) arg6.view.junk [⟨Rect.unit ![0, 0] S1024x1.size inb_S1024x1_S1024x1_0_0, k0_pay18⟩])
    (arg7.view.writes (Elt F) arg7.view.junk [⟨Rect.unit ![0, 0] S1024x256.size inb_S1024x256_S1024x256_0_0, k0_pay19⟩]) n

/-- On top of the stores that initialise the three buffers they leave the recursion's state. -/
theorem canon_trips (n : ℕ) (h : n ≤ (k0_t1_loop i).trips) :
    View.canon (Val := Elt F) ((written c i arg2 harg2 arg3 harg3 arg4 harg4 arg5 harg5 arg6 harg6 arg7 harg7 x0 x1 n).1
        ++ [⟨Rect.unit ![0, 0] S1024x1.size inb_S1024x1_S1024x1_0_0, k0_pay17⟩]) = (states i x0 x1 n).1
    ∧ View.canon (Val := Elt F) ((written c i arg2 harg2 arg3 harg3 arg4 harg4 arg5 harg5 arg6 harg6 arg7 harg7 x0 x1 n).2.1
        ++ [⟨Rect.unit ![0, 0] S1024x1.size inb_S1024x1_S1024x1_0_0, k0_pay18⟩]) = (states i x0 x1 n).2.1
    ∧ View.canon (Val := Elt F) ((written c i arg2 harg2 arg3 harg3 arg4 harg4 arg5 harg5 arg6 harg6 arg7 harg7 x0 x1 n).2.2
        ++ [⟨Rect.unit ![0, 0] S1024x256.size inb_S1024x256_S1024x256_0_0, k0_pay19⟩]) = (states i x0 x1 n).2.2 := by
  induction n with
  | zero =>
    exact ⟨View.canon_unit_zero (S := S1024x1) zero2 _ _, View.canon_unit_zero (S := S1024x1) zero2 _ _,
      View.canon_unit_zero (S := S1024x256) zero2 _ _⟩
  | succ n ih =>
    have hn : n < (k0_t1_loop i).trips := h
    obtain ⟨h1, h2, h3⟩ := ih (Nat.le_of_succ_le h)
    have hs : states i x0 x1 (n + 1) = next i x0 x1 ⟨n, hn⟩ (states i x0 x1 n) := by rw [states, dif_pos hn]
    have hP : written c i arg2 harg2 arg3 harg3 arg4 harg4 arg5 harg5 arg6 harg6 arg7 harg7 x0 x1 (n + 1) = _ :=
      pb_k0_t1_succ (F := F) Variants.none c none i arg2 harg2 arg3 harg3 arg4 harg4 arg5 harg5 arg6 harg6 arg7 harg7 (k0_pay16 x0)
        (k0_pay20 i) (iota Kind.tc S1024x256 32 [1] iota_S1024x256_d1_w32) (harg3.unread x1) _ _ _ ⟨n, hn⟩
    rw [trip_pieces c i arg2 harg2 arg3 harg3 arg4 harg4 arg5 harg5 arg6 harg6 arg7 harg7 x0 x1 ⟨n, hn⟩ _ _ _ (states i x0 x1 n)
      (by rw [← View.writes_append, View.read_writes_junk_eq_canon]; exact h1)
      (by rw [← View.writes_append, View.read_writes_junk_eq_canon]; exact h2)
      (by rw [← View.writes_append, View.read_writes_junk_eq_canon]; exact h3), ← hs] at hP
    rw [hP]
    exact ⟨View.canon_cons_unit_zero (S := S1024x1) zero2 _ _ _, View.canon_cons_unit_zero (S := S1024x1) zero2 _ _ _,
      View.canon_cons_unit_zero (S := S1024x256) zero2 _ _ _⟩

/-- The state after the loop. -/
def last : State F := states i x0 x1 (k0_t1_loop i).trips

/-- The output block of a grid point: the accumulator over the running sum, after the loop (the remainder loop printed
    after it has no trips). -/
theorem out_eq : out0_A_2 c i arg2 harg2 arg3 harg3 arg4 harg4 arg5 harg5 arg6 harg6 arg7 harg7 x0 x1
    = k0_pay3 (last i x0 x1).2.2 (last i x0 x1).2.1 := by
  have e0 : View.readAt (Elt F) arg2.view (Rect.unit ![0, 0, 0] S16x64x384.size inb_S16x64x384_S16x64x384_0_0_0).toLoadRect (harg2.unread x0) = x0 := by
    rw [View.readAt_eq_ld, harg2.read_unread, View.ld_unit_zero (S := S16x64x384) zero3]
  have hz : Scf.trips (k0_t2_loop i).lb (k0_t2_loop i).ub (k0_t2_loop i).st = 0 := Nat.le_zero.mp (k0_t2_abs i).2.1
  have ht := canon_trips c i arg2 harg2 arg3 harg3 arg4 harg4 arg5 harg5 arg6 harg6 arg7 harg7 x0 x1 _ (Nat.le_refl _)
  unfold written at ht
  unfold out0_A_2
  rw [View.read_writes_junk_eq_canon]
  unfold kernelRun0_A
  dsimp only
  sl_unfold_words
  rw [View.canon_unit_zero (S := S16x64x256) zero3, hz, e0, View.readCov_eq_canon', View.readCov_eq_canon']
  generalize pb_k0_t1 (F := F) Variants.none c none i _ _ _ _ _ _ _ _ _ _ _ _ _ _ _ _ _ _ _ _ = P at ht ⊢
  obtain ⟨-, h2, h3⟩ := ht
  refine congrArg₂ k0_pay3 ?_ ?_
  · exact (View.ld_unit_zero (S := S1024x256) zero2 _ _).trans h3
  · exact (View.ld_unit_zero (S := S1024x1) zero2 _ _).trans h2

end Cert.KernelIdeal.Attend

end
-- ==== Proof.OnlineSoftmax.lean ====
/-
  The running form of a softmax average, over the extended reals: the weights of the keys read so far relative to their
  running maximum, their sum and their weighted sum of values, and what one more block of keys does to the three.
  Nothing here mentions a program: the kernel's loop and the reference's rows are both read through these lemmas.
-/
module

public import Idealize.ShloMosaic.PureOps.Ideal

@[expose] public section

noncomputable section

namespace Cert.Softmax

open Idealize.ShloMosaic

/-- A finite sum of reals is the sum of their extended reals. -/
theorem coe_sum {ι : Type} (s : Finset ι) (f : ι → ℝ) : ((∑ x ∈ s, f x : ℝ) : EReal) = ∑ x ∈ s, (f x : EReal) := by
  classical
  induction s using Finset.induction with
  | empty => simp
  | insert a s ha ih => rw [Finset.sum_insert ha, Finset.sum_insert ha, EReal.coe_add, ih]

/-- The weight of a score `s` relative to a maximum `m`: the real number `exp (s - m)` (zero for a masked score). -/
def wt (s m : EReal) : ℝ := (Ideal.exp (s - m)).toReal

/-- Below its maximum, a score that is not `+∞` has an exponential that is a real number, its weight. -/
theorem exp_sub_eq {s m : EReal} (hs : s ≠ ⊤) (hsm : s ≤ m) : Ideal.exp (s - m) = (wt s m : EReal) := by
  unfold wt
  induction s with
  | bot => simp [EReal.bot_sub]
  | top => exact absurd rfl hs
  | coe a =>
    induction m with
    | bot => simp at hsm
    | top => rw [sub_eq_add_neg, EReal.neg_top, EReal.add_bot]; simp
    | coe b => rw [← EReal.coe_sub, Ideal.exp_coe, EReal.toReal_coe]

theorem wt_bot (m : EReal) : wt ⊥ m = 0 := by simp [wt, EReal.bot_sub]

theorem wt_nonneg (s m : EReal) : 0 ≤ wt s m := by
  unfold wt
  induction s - m with
  | bot => simp
  | top => simp
  | coe a => simpa using (Real.exp_pos a).le

theorem wt_coe_pos (a b : ℝ) : 0 < wt a b := by
  unfold wt
  rw [← EReal.coe_sub, Ideal.exp_coe, EReal.toReal_coe]
  exact Real.exp_pos _

/-- Moving the maximum up rescales every weight by one common factor. -/
theorem wt_mul {s m m' : EReal} (h : s ≤ m) (h' : m ≤ m') (hm : m' ≠ ⊤) : wt m m' * wt s m = wt s m' := by
  induction s with
  | bot => simp [wt_bot]
  | top => exact absurd (top_le_iff.mp (h.trans h')) hm
  | coe a =>
    induction m with
    | bot => simp at h
    | top => exact absurd (top_le_iff.mp h') hm
    | coe b =>
      induction m' with
      | bot => simp at h'
      | top => exact absurd rfl hm
      | coe c =>
        unfold wt
        simp only [← EReal.coe_sub, Ideal.exp_coe, EReal.toReal_coe]
        rw [← Real.exp_add]
        congr 1; ring

variable (S : ℕ → EReal) (v : ℕ → ℝ)

/-- The maximum of the first `n` scores, -/
def runMax (n : ℕ) : EReal := (Finset.range n).sup S
/-- the sum of their weights relative to it, -/
def runSum (n : ℕ) : ℝ := ∑ k ∈ Finset.range n, wt (S k) (runMax S n)
/-- and the weighted sum of their values. -/
def runAcc (n : ℕ) : ℝ := ∑ k ∈ Finset.range n, wt (S k) (runMax S n) * v k

/-- The softmax average of the values at the first `n` scores. -/
def average (n : ℕ) : EReal := ((runAcc S v n / runSum S n : ℝ) : EReal)

theorem runMax_zero : runMax S 0 = ⊥ := by simp [runMax]
theorem runSum_zero : runSum S 0 = 0 := by simp [runSum]
theorem runAcc_zero : runAcc S v 0 = 0 := by simp [runAcc]

theorem le_runMax {k n : ℕ} (h : k < n) : S k ≤ runMax S n := Finset.le_sup (f := S) (Finset.mem_range.mpr h)

variable {S}

theorem runMax_ne_top (hS : ∀ k, S k ≠ ⊤) (n : ℕ) : runMax S n ≠ ⊤ := by
  rw [← lt_top_iff_ne_top]
  exact (Finset.sup_lt_iff (f := S) (by simp)).mpr fun k _ => lt_top_iff_ne_top.mpr (hS k)

variable (S)

/-- The maximum of `n + b` scores, from that of the first `n` and that of the next block. -/
theorem runMax_add (n b : ℕ) : runMax S (n + b) = max (runMax S n) (Finset.univ.sup fun c : Fin b => S (n + c)) := by
  unfold runMax
  apply le_antisymm
  · refine Finset.sup_le fun k hk => ?_
    by_cases h : k < n
    · exact le_max_of_le_left (Finset.le_sup (f := S) (Finset.mem_range.mpr h))
    · have hb : k - n < b := by have := Finset.mem_range.mp hk; omega
      refine le_max_of_le_right ?_
      have := Finset.le_sup (f := fun c : Fin b => S (n + c)) (Finset.mem_univ (⟨k - n, hb⟩ : Fin b))
      simpa [Nat.add_sub_cancel' (not_lt.mp h)] using this
  · refine max_le (Finset.sup_mono (Finset.range_mono (Nat.le_add_right n b))) (Finset.sup_le fun c _ => ?_)
    exact Finset.le_sup (f := S) (Finset.mem_range.mpr (by omega))

theorem runMax_mono {n n' : ℕ} (h : n ≤ n') : runMax S n ≤ runMax S n' := Finset.sup_mono (Finset.range_mono h)

variable {S}

/-- The sum of weights after a block: the old sum rescaled, plus the block's weights. -/
theorem runSum_add (hS : ∀ k, S k ≠ ⊤) (n b : ℕ) :
    (runSum S n : EReal) * Ideal.exp (runMax S n - runMax S (n + b))
        + ∑ c : Fin b, Ideal.exp (S (n + c) - runMax S (n + b)) = (runSum S (n + b) : EReal) := by
  have hm := runMax_mono S (Nat.le_add_right n b)
  have e1 : ∀ c : Fin b, Ideal.exp (S (n + c) - runMax S (n + b)) = (wt (S (n + c)) (runMax S (n + b)) : EReal) :=
    fun c => exp_sub_eq (hS _) (le_runMax S (by omega))
  rw [exp_sub_eq (runMax_ne_top hS n) hm, Finset.sum_congr rfl fun c _ => e1 c, ← coe_sum, ← EReal.coe_mul,
    ← EReal.coe_add]
  congr 1
  unfold runSum
  rw [Finset.sum_range_add, Finset.sum_mul, Finset.sum_range fun x => wt (S (n + x)) (runMax S (n + b))]
  congr 1
  refine Finset.sum_congr rfl fun k hk => ?_
  rw [mul_comm, wt_mul (le_runMax S (Finset.mem_range.mp hk)) hm (runMax_ne_top hS _)]

/-- The weighted sum of values after a block: the old one rescaled, plus the block's. -/
theorem runAcc_add (hS : ∀ k, S k ≠ ⊤) (n b : ℕ) :
    (runAcc S v n : EReal) * Ideal.exp (runMax S n - runMax S (n + b))
        + ∑ c : Fin b, Ideal.exp (S (n + c) - runMax S (n + b)) * (v (n + c) : EReal) = (runAcc S v (n + b) : EReal) := by
  have hm := runMax_mono S (Nat.le_add_right n b)
  have e1 : ∀ c : Fin b, Ideal.exp (S (n + c) - runMax S (n + b)) * (v (n + c) : EReal)
      = ((wt (S (n + c)) (runMax S (n + b)) * v (n + c) : ℝ) : EReal) :=
    fun c => by rw [exp_sub_eq (hS _) (le_runMax S (by omega)), EReal.coe_mul]
  rw [exp_sub_eq (runMax_ne_top hS n) hm, Finset.sum_congr rfl fun c _ => e1 c, ← coe_sum, ← EReal.coe_mul,
    ← EReal.coe_add]
  congr 1
  unfold runAcc
  rw [Finset.sum_range_add, Finset.sum_mul, Finset.sum_range fun x => wt (S (n + x)) (runMax S (n + b)) * v (n + x)]
  congr 1
  refine Finset.sum_congr rfl fun k hk => ?_
  rw [mul_right_comm, mul_comm (wt _ _), wt_mul (le_runMax S (Finset.mem_range.mp hk)) hm (runMax_ne_top hS _)]

/-- With one finite score among the first `n` the sum of weights is positive. -/
theorem runSum_pos (hS : ∀ k, S k ≠ ⊤) {n k : ℕ} (hk : k < n) (hb : S k ≠ ⊥) : 0 < runSum S n := by
  refine Finset.sum_pos' (fun i _ => wt_nonneg _ _) ⟨k, Finset.mem_range.mpr hk, ?_⟩
  have hle := le_runMax S hk
  have hbot : runMax S n ≠ ⊥ := fun h => hb (le_bot_iff.mp (h ▸ hle))
  obtain ⟨a, ha⟩ : ∃ a : ℝ, (a : EReal) = S k := ⟨_, EReal.coe_toReal (hS k) hb⟩
  obtain ⟨m, hm⟩ : ∃ m : ℝ, (m : EReal) = runMax S n := ⟨_, EReal.coe_toReal (runMax_ne_top hS n) hbot⟩
  rw [← ha, ← hm]; exact wt_coe_pos a m

/-- Dividing the weighted sum by the sum of weights gives the average. -/
theorem div_runSum (hS : ∀ k, S k ≠ ⊤) {n k : ℕ} (hk : k < n) (hb : S k ≠ ⊥) :
    Ideal.div (runAcc S v n) (runSum S n) = average S v n := by
  rw [Ideal.div_coe (runSum_pos hS hk hb).ne', ← EReal.coe_mul, average, mul_one_div]

/-- So does normalising the weights first. -/
theorem sum_div (hS : ∀ k, S k ≠ ⊤) {n k : ℕ} (hk : k < n) (hb : S k ≠ ⊥) :
    ∑ c : Fin n, Ideal.div (Ideal.exp (S c - runMax S n)) (∑ c' : Fin n, Ideal.exp (S c' - runMax S n)) * (v c : EReal)
      = average S v n := by
  have e1 : ∀ c : Fin n, Ideal.exp (S c - runMax S n) = (wt (S c) (runMax S n) : EReal) :=
    fun c => exp_sub_eq (hS _) (le_runMax S c.isLt)
  have e2 : ∑ c' : Fin n, Ideal.exp (S c' - runMax S n) = (runSum S n : EReal) := by
    rw [Finset.sum_congr rfl fun c _ => e1 c, ← coe_sum, runSum, Finset.sum_range]
  have hp := (runSum_pos hS hk hb).ne'
  have e3 : ∀ c : Fin n, Ideal.div (Ideal.exp (S c - runMax S n)) (runSum S n : EReal) * (v c : EReal)
      = ((wt (S c) (runMax S n) * v c / runSum S n : ℝ) : EReal) := fun c => by
    rw [e1, Ideal.div_coe hp, ← EReal.coe_mul, ← EReal.coe_mul]; congr 1; ring
  rw [e2, Finset.sum_congr rfl fun c _ => e3 c, ← coe_sum, average, runAcc, Finset.sum_range, Finset.sum_div]

/-- Masked scores past `n` change nothing. -/
theorem average_eq_of_masked {n N : ℕ} (h : n ≤ N) (hb : ∀ k, n ≤ k → k < N → S k = ⊥) : average S v N = average S v n := by
  obtain ⟨d, rfl⟩ := Nat.exists_eq_add_of_le h
  have hm : runMax S (n + d) = runMax S n := by
    rw [runMax_add]
    refine max_eq_left (Finset.sup_le fun c _ => ?_)
    rw [hb _ (by omega) (by omega)]; exact bot_le
  have hz : ∀ x ∈ Finset.range d, wt (S (n + x)) (runMax S n) = 0 := fun x hx => by
    rw [hb _ (by omega) (by have := Finset.mem_range.mp hx; omega), wt_bot]
  unfold average runAcc runSum
  rw [hm, Finset.sum_range_add, Finset.sum_range_add, Finset.sum_eq_zero hz,
    Finset.sum_eq_zero (s := Finset.range d) fun x hx => by rw [hz x hx, zero_mul], add_zero, add_zero]

end Cert.Softmax

end
-- ==== Proof.CausalScore.lean ====
/-
  One row of the causal latent attention over the extended reals: the scaled score of a query against each key up to its
  own position, the softmax average of the keys' latent lanes, and what is a real number in it when the query and the
  keys are.
-/
module

public import proofs.«01_k».proof.Proof.OnlineSoftmax

@[expose] public section

noncomputable section

namespace Cert.Softmax

open Idealize.ShloMosaic

/-- An extended real that is neither infinity. -/
def Finite (x : EReal) : Prop := x ≠ ⊤ ∧ x ≠ ⊥

theorem Finite.coe_toReal {x : EReal} (h : Finite x) : (x.toReal : EReal) = x := EReal.coe_toReal h.1 h.2
theorem finite_coe (a : ℝ) : Finite (a : EReal) := ⟨EReal.coe_ne_top a, EReal.coe_ne_bot a⟩
theorem finite_zero : Finite 0 := finite_coe 0

theorem Finite.mul {x y : EReal} (hx : Finite x) (hy : Finite y) : Finite (x * y) := by
  rw [← hx.coe_toReal, ← hy.coe_toReal, ← EReal.coe_mul]; exact finite_coe _

theorem Finite.sum {n : ℕ} {f : Fin n → EReal} (h : ∀ l, Finite (f l)) : Finite (∑ l, f l) := by
  have : (∑ l, f l) = ((∑ l, (f l).toReal : ℝ) : EReal) := by
    rw [coe_sum]; exact Finset.sum_congr rfl fun l _ => (h l).coe_toReal.symm
  rw [this]; exact finite_coe _

/-- The scale of the scores, the number its f32 word denotes. -/
def scale : EReal := Ideal.ofBits .f32 0x3DD105EC#32

theorem finite_scale : Finite scale := by
  unfold scale Ideal.ofBits Ideal.ieee
  dsimp only
  rw [if_neg (by decide), if_neg (by decide)]
  exact finite_coe _

/-- The pattern of the mask's filler is `-∞`. -/
theorem mask_word : Ideal.ofBits .f32 0xFF800000#32 = ⊥ := by
  unfold Ideal.ofBits Ideal.ieee
  dsimp only
  rw [if_pos (by decide), if_pos (by decide), if_pos (by decide)]

variable (q : Fin 384 → EReal) (key : ℕ → Fin 384 → EReal) (p : ℕ)

/-- The score of the query at position `p` against key `n`: masked (`-∞`) beyond `p`. -/
def score (n : ℕ) : EReal := if n ≤ p then (∑ l, q l * key n l) * scale else ⊥

/-- Lane `j` of the keys' latent part, as reals. -/
def lane (j : Fin 256) (n : ℕ) : ℝ := (key n ⟨j.val, by omega⟩).toReal

/-- One entry of the attention: the softmax average of lane `j` over 2048 keys. -/
def attend (j : Fin 256) : EReal := average (score q key p) (lane key j) 2048

variable {q key}

theorem score_of_gt {n : ℕ} (h : p < n) : score q key p n = ⊥ := if_neg (by omega)

theorem finite_score (hq : ∀ l, Finite (q l)) (hk : ∀ n l, Finite (key n l)) {n : ℕ} (h : n ≤ p) : Finite (score q key p n) := by
  unfold score
  rw [if_pos h]
  exact (Finite.sum fun l => (hq l).mul (hk n l)).mul finite_scale

theorem score_ne_top (hq : ∀ l, Finite (q l)) (hk : ∀ n l, Finite (key n l)) (n : ℕ) : score q key p n ≠ ⊤ := by
  by_cases h : n ≤ p
  · exact (finite_score p hq hk h).1
  · rw [score_of_gt p (by omega)]; exact bot_ne_top

theorem lane_coe (hk : ∀ n l, Finite (key n l)) (j : Fin 256) (n : ℕ) : ((lane key j n : ℝ) : EReal) = key n ⟨j.val, by omega⟩ :=
  (hk n _).coe_toReal

end Cert.Softmax

end
-- ==== Proof.BlockValue.lean ====
/-
  The value of the attention kernel's output block at one grid point: entry (head, query, lane) is the softmax average of
  that lane over the keys, for the query's causal scores.
-/
module

public import proofs.«01_k».proof.Proof.BlockState
public import proofs.«01_k».proof.Proof.CausalScore
public import Idealize.ShloMosaic.Lib.Pointwise

@[expose] public section

set_option maxRecDepth 16384

noncomputable section

namespace Cert.KernelIdeal.Attend

open Cert.KernelIdeal Cert.KernelIdeal.Gen Idealize.ShloMosaic Idealize.ShloMosaic.TcCoe Idealize.SL.Sem
open Cert.Softmax

/-- The loop runs over the key blocks up to the last query's own. -/
theorem trips_eq : ∀ i : grid0.Coords, (k0_t1_loop i).trips = (64 * (i 1).val + 319) / 256 := by decide +kernel

/-- The query position of row `r` relative to its block of queries, as the kernel computes it. -/
theorem row_word : ∀ r : Fin 1024, Scalar.select
        (IntOp.andi
          (IntOp.xori
            (IntOp.cmpi CmpIPredicate.slt
              (IntOp.remsi ArithUnit.vector (BitVec.ofNat 32 ↑r)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 ↑r)
              (Scalar.select (Scalar.cmpi CmpIPredicate.eq 64#32 0#32) 1#32 64#32))
            0#32))
        (IntOp.addi
          (IntOp.remsi ArithUnit.vector (BitVec.ofNat 32 ↑r)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 ↑r)
          (Scalar.select (Scalar.cmpi CmpIPredicate.eq 64#32 0#32) 1#32 64#32)) = BitVec.ofNat 32 (r.val % 64) := by
  decide +kernel

variable (i : grid0.Coords)

/-- The query position of row `r`, within its sequence. -/
def pos (r : Fin 1024) : ℕ := 64 * (i 1).val + r.val % 64

theorem lt_i1 : (i 1).val < 32 := (i 1).isLt

theorem pos_lt (r : Fin 1024) : pos i r < 2048 := by
  have := lt_i1 i; unfold pos; omega

theorem pay20_apply (r : Fin 1024) (c : Fin 256) : k0_pay20 i (ix2 r c) = BitVec.ofNat 32 (pos i r) := by
  pointwise [k0_pay20]
  rw [row_word r]
  unfold pos Scalar.muli IntOp.muli IntOp.addi
  rw [show (64#32 : BitVec 32) = BitVec.ofNat 32 64 from rfl, ← BitVec.ofNat_mul, ← BitVec.ofNat_add, Nat.mul_comm]

variable (x0 : Vec Ideal S16x64x384 .bf16) (x1 : Vec Ideal S2048x384 .bf16)

/-- The query of row `r` of the block. -/
def query (r : Fin 1024) (l : Fin 384) : EReal := x0 (ix3 ⟨r.val / 64, by omega⟩ ⟨r.val % 64, by omega⟩ l)

/-- Key `n` of the sequence. -/
def keyAt (n : ℕ) (l : Fin 384) : EReal := if h : n < 2048 then x1 (ix2 ⟨n, h⟩ l) else 0

/-- The scores of row `r`. -/
abbrev rowScore (r : Fin 1024) : ℕ → EReal := score (query x0 r) (keyAt x1) (pos i r)

theorem key_lt (k : Fin (k0_t1_loop i).trips) (c : Fin 256) : 256 * k.val + c.val < 2048 := by
  have h := k.isLt
  have := trips_eq i
  have := lt_i1 i
  omega

theorem keys_apply (k : Fin (k0_t1_loop i).trips) (c : Fin 256) (l : Fin 384) :
    keys i x1 k (ix2 c l) = keyAt x1 (256 * k.val + c.val) l := by
  unfold keys
  pointwise
  unfold keyAt
  rw [dif_pos (key_lt i k c)]
  congr 1
  have h := k0_off1_eq i k
  refine congrArg₂ ix2 (Fin.ext ?_) (Fin.ext ?_)
  · show k0_off1 i k 0 + c.val = 256 * k.val + c.val
    rw [h]; rfl
  · show k0_off1 i k 1 + l.val = l.val
    rw [h]; exact Nat.zero_add _

theorem pay16_apply (r : Fin 1024) (l : Fin 384) : k0_pay16 x0 (ix2 r l) = query x0 r l := by
  pointwise [k0_pay16]
  rfl

theorem pay4_apply (k : Fin (k0_t1_loop i).trips) (r : Fin 1024) (c : Fin 256) :
    k0_pay4 i (k0_pay16 x0) (k0_pay20 i) (iota Kind.tc S1024x256 32 [1] iota_S1024x256_d1_w32) 0#32 1#32 k (keys i x1 k) (ix2 r c)
      = rowScore i x0 x1 r (256 * k.val + c.val) := by
  have hc := key_lt i k c
  have hp := pos_lt i r
  pointwise [k0_pay4]
  rw [pay20_apply]
  have hw : IntOp.addi (BitVec.ofNat 32 c.val) (Scalar.muli (Scf.iv 0#32 1#32 k.val) 256#32) = BitVec.ofNat 32 (256 * k.val + c.val) := by
    unfold IntOp.addi Scalar.muli IntOp.muli Scf.iv
    rw [BitVec.zero_add, BitVec.mul_one, show (256#32 : BitVec 32) = BitVec.ofNat 32 256 from rfl, ← BitVec.ofNat_mul, ← BitVec.ofNat_add,
      Nat.mul_comm, Nat.add_comm]
  rw [hw, WordCmp.cmpi_sle_ofNat (by omega) (by omega)]
  unfold rowScore score
  by_cases h : 256 * k.val + c.val ≤ pos i r
  · rw [decide_eq_true h, if_pos h]
    show _ * _ = _
    unfold scale
    congr 1
    refine Finset.sum_congr rfl fun l _ => ?_
    rw [pay16_apply, keys_apply]
  · rw [decide_eq_false h, if_neg h]
    exact mask_word

/-- The state before trip `n`, row by row: maximum, sum and weighted sums over the first `256 n` keys. -/
structure Reads (n : ℕ) (s : State Ideal) : Prop where
  mx : ∀ r : Fin 1024, s.1 (ix2 r 0) = runMax (rowScore i x0 x1 r) (256 * n)
  sm : ∀ r : Fin 1024, s.2.1 (ix2 r 0) = (runSum (rowScore i x0 x1 r) (256 * n) : ℝ)
  ac : ∀ (r : Fin 1024) (j : Fin 256), s.2.2 (ix2 r j) = (runAcc (rowScore i x0 x1 r) (lane (keyAt x1) j) (256 * n) : ℝ)

variable {x0 x1}

theorem finite_query (h0 : ∀ j, Finite (x0 j)) (r : Fin 1024) (l : Fin 384) : Finite (query x0 r l) := h0 _

theorem finite_key (h1 : ∀ j, Finite (x1 j)) (n : ℕ) (l : Fin 384) : Finite (keyAt x1 n l) := by
  unfold keyAt
  split
  · exact h1 _
  · exact finite_zero

theorem rowScore_ne_top (h0 : ∀ j, Finite (x0 j)) (h1 : ∀ j, Finite (x1 j)) (r : Fin 1024) (n : ℕ) : rowScore i x0 x1 r n ≠ ⊤ :=
  score_ne_top _ (finite_query h0 r) (finite_key h1) n

theorem reads_zero : Reads i x0 x1 0 (k0_pay17, k0_pay18, k0_pay19) where
  mx r := by
    rw [Nat.mul_zero, runMax_zero]
    pointwise [k0_pay17]
    exact mask_word
  sm r := by
    rw [Nat.mul_zero, runSum_zero]
    pointwise [k0_pay18]
    rfl
  ac r j := by
    rw [Nat.mul_zero, runAcc_zero]
    pointwise [k0_pay19]
    rfl

theorem reads_next (h0 : ∀ j, Finite (x0 j)) (h1 : ∀ j, Finite (x1 j)) (k : Fin (k0_t1_loop i).trips) (s : State Ideal)
    (hs : Reads i x0 x1 k.val s) : Reads i x0 x1 (k.val + 1) (next i x0 x1 k s) := by
  have hmax : ∀ r : Fin 1024, k0_pay5 i (k0_pay16 x0) (k0_pay20 i) (iota Kind.tc S1024x256 32 [1] iota_S1024x256_d1_w32) 0#32 1#32 k
      (keys i x1 k) s.1 (ix2 r 0) = runMax (rowScore i x0 x1 r) (256 * k.val + 256) := by
    intro r
    pointwise [k0_pay5]
    rw [hs.mx r, runMax_add, mask_word]
    congr 1
    refine congrArg (fun f => Finset.fold max ⊥ f Finset.univ) (funext fun c => ?_)
    exact pay4_apply i x0 x1 k r c
  refine ⟨fun r => ?_, fun r => ?_, fun r j => ?_⟩
  · unfold next
    dsimp only
    pointwise [k0_pay1]
    rw [Nat.mul_succ]
    exact hmax r
  · show k0_pay8 (F := Ideal) i _ _ _ _ _ _ _ _ _ (ix2 r 0) = _
    pointwise [k0_pay8, k0_pay7, k0_pay6]
    rw [hmax r, hs.mx r, hs.sm r, Nat.mul_succ, ← runSum_add (rowScore_ne_top i h0 h1 r)]
    congr 1
    refine Finset.sum_congr rfl fun c _ => ?_
    rw [pay4_apply]
  · show k0_pay9 (F := Ideal) i _ _ _ _ _ _ _ _ _ (ix2 r j) = _
    pointwise [k0_pay9, k0_pay7, k0_pay6]
    rw [hmax r, hs.mx r, hs.ac r j, Nat.mul_succ, ← runAcc_add _ (rowScore_ne_top i h0 h1 r)]
    congr 1
    refine Finset.sum_congr rfl fun c _ => ?_
    rw [pay4_apply, keys_apply, lane_coe (finite_key h1)]

theorem reads_states (h0 : ∀ j, Finite (x0 j)) (h1 : ∀ j, Finite (x1 j)) (n : ℕ) (hn : n ≤ (k0_t1_loop i).trips) :
    Reads i x0 x1 n (states i x0 x1 n) := by
  induction n with
  | zero => exact reads_zero i
  | succ n ih =>
    have h : n < (k0_t1_loop i).trips := hn
    rw [states, dif_pos h]
    exact reads_next i h0 h1 ⟨n, h⟩ _ (ih (Nat.le_of_succ_le hn))

/-- The output block, entry by entry. -/
theorem block_apply (h0 : ∀ j, Finite (x0 j)) (h1 : ∀ j, Finite (x1 j)) (h : Fin 16) (t : Fin 64) (j : Fin 256) :
    (k0_pay3 (F := Ideal) (last i x0 x1).2.2 (last i x0 x1).2.1 (ix3 h t j) : EReal)
      = attend (fun l => x0 (ix3 h t l)) (keyAt x1) (64 * (i 1).val + t.val) j := by
  pointwise [k0_pay3]
  have hr := reads_states i h0 h1 _ (Nat.le_refl _)
  have hlt : h.val * 64 + t.val < 1024 := by omega
  have hq : query x0 ⟨h.val * 64 + t.val, hlt⟩ = fun l => x0 (ix3 h t l) := by
    funext l
    unfold query
    congr 1
    refine congrArg₂ (fun a b => ix3 a b l) (Fin.ext ?_) (Fin.ext ?_)
    · show (h.val * 64 + t.val) / 64 = h.val
      omega
    · show (h.val * 64 + t.val) % 64 = t.val
      omega
  have hp : pos i ⟨h.val * 64 + t.val, hlt⟩ = 64 * (i 1).val + t.val := by
    unfold pos
    show 64 * (i 1).val + (h.val * 64 + t.val) % 64 = _
    omega
  have ht := trips_eq i
  have hi := lt_i1 i
  unfold last
  refine (congrArg₂ Ideal.div (hr.ac ⟨h.val * 64 + t.val, hlt⟩ j) (hr.sm ⟨h.val * 64 + t.val, hlt⟩)).trans ?_
  rw [div_runSum _ (k := pos i ⟨h.val * 64 + t.val, hlt⟩) (rowScore_ne_top i h0 h1 _)]
  · unfold attend
    rw [← hq, ← hp]
    have hle : 256 * (k0_t1_loop i).trips ≤ 2048 := by omega
    exact (average_eq_of_masked _ hle fun n hn _ => score_of_gt _ (by omega)).symm
  · omega
  · exact (finite_score _ (finite_query h0 _) (finite_key h1) (Nat.le_refl _)).2

end Cert.KernelIdeal.Attend

end
-- ==== Proof.RefValue.lean ====
/-
  The value of the reference's result at an index: the softmax average, as the reference takes it (the row's maximum, the
  exponentials over their sum, times the latent lanes), is the row's causal attention.
-/
module

public import proofs.«01_k».proof.Proof.Gen.ReferenceIdeal.Read
public import proofs.«01_k».proof.Proof.CausalScore
public import Idealize.ShloMosaic.Lib.Pointwise
public import Idealize.ShloMosaic.Lib.WordCmp

@[expose] public section

set_option maxRecDepth 16384

noncomputable section

namespace Cert.ReferenceIdeal.Attend

open Cert.ReferenceIdeal Cert.ReferenceIdeal.Gen Cert.ReferenceIdeal.Read Idealize.ShloMosaic Idealize.ShloMosaic.TcCoe Idealize.SL.Sem
open Cert.Softmax

variable (x0 : (⟨S16x16384x384, .bf16⟩ : BufTy).Contents (Elt Ideal)) (x1 : (⟨S16384x384, .bf16⟩ : BufTy).Contents (Elt Ideal))

/-- The row of the argument arrays that holds position `p` of sequence `b`. -/
abbrev row (b : Fin 8) (p : Fin 2048) : Fin 16384 := ⟨b.val * 2048 + p.val, by omega⟩

/-- The query of head `h` at position `p` of sequence `b`. -/
def query (b : Fin 8) (h : Fin 16) (p : Fin 2048) (l : Fin 384) : EReal := x0 (ix3 h (row b p) l)

/-- Key `n` of sequence `b`. -/
def keyAt (b : Fin 8) (n : ℕ) (l : Fin 384) : EReal := if h : n < 2048 then x1 (ix2 (row b ⟨n, h⟩) l) else 0

abbrev rowScore (b : Fin 8) (h : Fin 16) (p : Fin 2048) : ℕ → EReal := score (query x0 b h p) (keyAt x1 b) p.val

theorem keyAt_fin (b : Fin 8) (k : Fin 2048) (l : Fin 384) : keyAt x1 b k.val l = x1 (ix2 (row b k) l) := dif_pos k.isLt

/-- The masked scores. -/
theorem v22_apply (b : Fin 8) (h : Fin 16) (p k : Fin 2048) :
    val_main_v22 x0 x1 (ix4 b h p k) = rowScore x0 x1 b h p k.val := by
  pointwise [val_main_v22, val_main_call0_v0, val_main_call0_v1, val_main_call0_v2, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0]
  rw [WordCmp.cmpi_sle_ofNat (by omega) (by omega)]
  unfold rowScore score
  by_cases hk : k.val ≤ p.val
  · rw [decide_eq_true hk, if_pos hk]
    show _ * _ = _
    unfold scale
    refine congrArg (· * _) ?_
    rw [Fin.sum_univ_add (a := 256) (b := 128) (fun l : Fin (256 + 128) => query x0 b h p l * keyAt x1 b k.val l)]
    refine congrArg₂ (· + ·) ?_ ?_
    · refine Finset.sum_congr rfl fun l _ => ?_
      rw [keyAt_fin, mul_comm]
      rfl
    · refine Finset.sum_congr rfl fun l _ => ?_
      rw [keyAt_fin, mul_comm]
      rfl
  · rw [decide_eq_false hk, if_neg hk]
    exact mask_word

/-- The row's maximum. -/
theorem v23_apply (b : Fin 8) (h : Fin 16) (p : Fin 2048) :
    val_main_v23 x0 x1 (ix3 b h p) = runMax (rowScore x0 x1 b h p) 2048 := by
  have hr : S8x16x2048x2048.Reduces [3] S8x16x2048 := by decide
  unfold val_main_v23
  rw [Host.reduce_eq_fold_single FloatOps.maximumf _ _ reducesTo_S8x16x2048x2048_S8x16x2048_d3 hr h_S_]
  have hf : (val_main_v22 x0 x1 ∘ hr.lift (ix3 b h p)) = fun k : Fin 2048 => rowScore x0 x1 b h p k.val := by
    refine funext fun (k : Fin 2048) => Eq.trans ?_ (v22_apply x0 x1 b h p k)
    refine congrArg (val_main_v22 x0 x1) (funext fun a => Fin.ext ?_)
    match a with | ⟨0, _⟩ => rfl | ⟨1, _⟩ => rfl | ⟨2, _⟩ => rfl | ⟨3, _⟩ => rfl
  have hi : val_main_cst_1 (F := Ideal) (Shape.Idx.first h_S_) = ⊥ := mask_word
  refine (congrArg₂ (fun z f => Finset.fold max z f (Finset.univ : Finset (Fin 2048))) hi hf).trans ?_
  have h0 := runMax_add (rowScore x0 x1 b h p) 0 2048
  rw [Nat.zero_add, runMax_zero, max_eq_right bot_le] at h0
  rw [h0]
  refine congrArg (fun f => Finset.fold max ⊥ f Finset.univ) (funext fun k => ?_)
  rw [Nat.zero_add]

/-- The exponentials relative to it. -/
theorem v29_apply (b : Fin 8) (h : Fin 16) (p k : Fin 2048) :
    val_main_v29 x0 x1 (ix4 b h p k) = Ideal.exp (rowScore x0 x1 b h p k.val - runMax (rowScore x0 x1 b h p) 2048) := by
  rw [val_main_v29_apply, val_main_v28_apply, v22_apply, val_main_v27_apply, val_main_v26_apply, val_main_v25_apply, val_main_v24_apply]
  have hi : idx_main_v26 (idx_main_v27 (ix4 b h p k)) = ix3 b h p := by
    refine funext fun a => Fin.ext ?_
    match a with | ⟨0, _⟩ => rfl | ⟨1, _⟩ => rfl | ⟨2, _⟩ => rfl
  rw [hi, v23_apply]
  have hm : FloatOps.maximumf (F := Ideal) (φ := .f32) (val_main_cst_2 (F := Ideal) (idx_main_v24 (ix3 b h p))) (runMax (rowScore x0 x1 b h p) 2048)
      = runMax (rowScore x0 x1 b h p) 2048 := by
    show max (Ideal.ofBits .f32 0xFF800000#32) _ = _
    rw [mask_word, max_eq_right bot_le]
  rw [hm]
  rfl

/-- Their sum. -/
theorem v32_apply (b : Fin 8) (h : Fin 16) (p k : Fin 2048) :
    val_main_v32 x0 x1 (ix4 b h p k)
      = ∑ c : Fin 2048, Ideal.exp (rowScore x0 x1 b h p c.val - runMax (rowScore x0 x1 b h p) 2048) := by
  rw [val_main_v32_apply, val_main_v31_apply, val_main_v30_apply]
  have hz : val_main_cst_3 (F := Ideal) (Shape.Idx.first h_S_) = (0 : EReal) := Ideal.ofBits_zero_f32
  rw [hz]
  refine (zero_add _).trans (Finset.sum_congr rfl fun c _ => ?_)
  rw [← v29_apply]
  refine congrArg (val_main_v29 x0 x1) (funext fun a => Fin.ext ?_)
  match a with | ⟨0, _⟩ => rfl | ⟨1, _⟩ => rfl | ⟨2, _⟩ => rfl | ⟨3, _⟩ => rfl

variable {x0 x1}

/-- The reference's result, entry by entry. -/
theorem v38_apply (h0 : ∀ j, Finite (x0 j)) (h1 : ∀ j, Finite (x1 j)) (b : Fin 8) (h : Fin 16) (p : Fin 2048) (j : Fin 256) :
    val_main_v38 x0 x1 (ix3 h (row b p) j) = attend (query x0 b h p) (keyAt x1 b) p.val j := by
  have hq : ∀ l, Finite (query x0 b h p l) := fun l => h0 _
  have hk : ∀ n l, Finite (keyAt x1 b n l) := fun n l => by
    unfold keyAt
    split
    · exact h1 _
    · exact finite_zero
  pointwise [val_main_v38, val_main_v37, val_main_v36, val_main_v35, val_main_v34, val_main_v33, val_main_v7, val_main_v4, val_main_v3]
  have hb : (b.val * 2048 + p.val) / 2048 = b.val := by omega
  have hp : (b.val * 2048 + p.val) % 2048 = p.val := by omega
  simp only [hb, hp, Fin.eta]
  unfold attend
  rw [← sum_div _ (score_ne_top p.val hq hk) p.isLt (finite_score p.val hq hk (Nat.le_refl _)).2]
  refine Finset.sum_congr rfl fun c _ => ?_
  rw [v29_apply, v32_apply, lane_coe hk, keyAt_fin, mul_comm]

end Cert.ReferenceIdeal.Attend

end
-- ==== Proof.AttendClaim.lean ====
/-
  The attention kernel against its reference over whole arrays: the blocks the grid points read and write, entry by entry,
  what the precondition gives, and the two runs with the same result.
-/
module

public import proofs.«01_k».proof.Defs
public import proofs.«01_k».proof.Proof.BlockValue
public import proofs.«01_k».proof.Proof.RefValue
public import proofs.«01_k».proof.Proof.Gen.ReferenceIdeal.Run

@[expose] public section

set_option maxRecDepth 16384

noncomputable section

namespace Cert.KernelIdeal.Attend

open Cert.KernelIdeal Cert.KernelIdeal.Gen Idealize.ShloMosaic Idealize.ShloMosaic.TcCoe Idealize.SL.Sem
open Idealize.ShloMosaic.Pipeline (Dat)
open Cert.Softmax

/-- The block of queries of point `t`. -/
theorem ix_q : ∀ t : Fin cfg0.N, win0_0.index t ⟨0, by decide⟩ = 0 ∧ win0_0.index t ⟨1, by decide⟩ = t.val ∧ win0_0.index t ⟨2, by decide⟩ = 0 :=
  (by decide +kernel : ∀ t : Fin grid0.N, win0_0.index t ⟨0, by decide⟩ = 0 ∧ win0_0.index t ⟨1, by decide⟩ = t.val ∧ win0_0.index t ⟨2, by decide⟩ = 0)
/-- The keys of point `t`. -/
theorem ix_k : ∀ t : Fin cfg0.N, win0_1.index t ⟨0, by decide⟩ = t.val / 32 ∧ win0_1.index t ⟨1, by decide⟩ = 0 :=
  (by decide +kernel : ∀ t : Fin grid0.N, win0_1.index t ⟨0, by decide⟩ = t.val / 32 ∧ win0_1.index t ⟨1, by decide⟩ = 0)
/-- The output block of point `t`. -/
theorem ix_o : ∀ t : Fin cfg0.N, win0_2.index t ⟨0, by decide⟩ = 0 ∧ win0_2.index t ⟨1, by decide⟩ = t.val ∧ win0_2.index t ⟨2, by decide⟩ = 0 :=
  (by decide +kernel : ∀ t : Fin grid0.N, win0_2.index t ⟨0, by decide⟩ = 0 ∧ win0_2.index t ⟨1, by decide⟩ = t.val ∧ win0_2.index t ⟨2, by decide⟩ = 0)
/-- The query-block coordinate of point `t`. -/
theorem coord1 : ∀ t : Fin cfg0.N, (grid0.coords t 1).val = t.val % 32 :=
  (by decide +kernel : ∀ t : Fin grid0.N, (grid0.coords t 1).val = t.val % 32)
theorem lt_N : ∀ t : Fin cfg0.N, t.val < 256 := (by decide +kernel : ∀ t : Fin grid0.N, t.val < 256)

variable (m : (ℓ : Loc nD τ sig) → Buf (Elt Ideal) ℓ) (c : Dev nD)

/-- The queries point `t` reads, entry by entry. -/
theorem iblk_q (t : Fin cfg0.N) (h : Fin 16) (p : Fin 64) (l : Fin 384) :
    iblk m c 0 t (ix3 h p l) = m ((c.tc : Thread nD τ).loc main_arg0) (ix3 h ⟨64 * t.val + p.val, by have := lt_N t; omega⟩ l) := by
  have e := ix_q t
  show m ((c.tc : Thread nD τ).loc main_arg0) _ = _
  refine congrArg (m ((c.tc : Thread nD τ).loc main_arg0)) (funext fun a => Fin.ext ?_)
  match a with
  | ⟨0, _⟩ =>
    show win0_0.index t ⟨0, by decide⟩ * 16 + 1 * h.val = h.val
    rw [e.1]; omega
  | ⟨1, _⟩ =>
    show win0_0.index t ⟨1, by decide⟩ * 64 + 1 * p.val = 64 * t.val + p.val
    rw [e.2.1]; omega
  | ⟨2, _⟩ =>
    show win0_0.index t ⟨2, by decide⟩ * 384 + 1 * l.val = l.val
    rw [e.2.2]; omega

/-- The keys point `t` reads, entry by entry. -/
theorem iblk_k (t : Fin cfg0.N) (n : Fin 2048) (l : Fin 384) :
    iblk m c 1 t (ix2 n l) = m ((c.tc : Thread nD τ).loc main_arg1) (ix2 ⟨2048 * (t.val / 32) + n.val, by have := lt_N t; omega⟩ l) := by
  have e := ix_k t
  show m ((c.tc : Thread nD τ).loc main_arg1) _ = _
  refine congrArg (m ((c.tc : Thread nD τ).loc main_arg1)) (funext fun a => Fin.ext ?_)
  match a with
  | ⟨0, _⟩ =>
    show win0_1.index t ⟨0, by decide⟩ * 2048 + 1 * n.val = 2048 * (t.val / 32) + n.val
    rw [e.1]; omega
  | ⟨1, _⟩ =>
    show win0_1.index t ⟨1, by decide⟩ * 384 + 1 * l.val = l.val
    rw [e.2]; omega

/-- The block of an output array that point `t` writes, entry by entry. -/
theorem read_o (G : Buf (Elt Ideal) ((c.tc : Thread nD τ).loc main_v0)) (t : Fin cfg0.N) (h : Fin 16) (p : Fin 64) (l : Fin 256) :
    ((cfg0.win 2).blk t).view.read (Elt Ideal) G (ix3 h p l) = G (ix3 h ⟨64 * t.val + p.val, by have := lt_N t; omega⟩ l) := by
  have e := ix_o t
  show G _ = _
  refine congrArg G (funext fun a => Fin.ext ?_)
  match a with
  | ⟨0, _⟩ =>
    show win0_2.index t ⟨0, by decide⟩ * 16 + 1 * h.val = h.val
    rw [e.1]; omega
  | ⟨1, _⟩ =>
    show win0_2.index t ⟨1, by decide⟩ * 64 + 1 * p.val = 64 * t.val + p.val
    rw [e.2.1]; omega
  | ⟨2, _⟩ =>
    show win0_2.index t ⟨2, by decide⟩ * 256 + 1 * l.val = l.val
    rw [e.2.2]; omega

/-- The reference's result on the kernel's arguments. -/
abbrev expected : Buf (Elt Ideal) ((c.tc : Thread nD τ).loc main_v0) :=
  Cert.ReferenceIdeal.Read.val_main_v38 (F := Ideal) (m ((c.tc : Thread nD τ).loc main_arg0)) (m ((c.tc : Thread nD τ).loc main_arg1))

/-- Point `t` writes back its block of the reference's result. -/
theorem flushed_eq (h0 : ∀ j, Finite (m ((c.tc : Thread nD τ).loc main_arg0) j)) (h1 : ∀ j, Finite (m ((c.tc : Thread nD τ).loc main_arg1) j))
    (t : Fin cfg0.N) : (dats m 0 c).flushed 2 t = ((cfg0.win 2).blk t).view.read (Elt Ideal) (expected m c) := by
  have hN := lt_N t
  have hc := coord1 t
  rw [Cert.KernelIdeal.Value.flushed2_A, out_eq]
  have hx0 : ∀ j, Finite (iblk m c 0 t j) := fun j => h0 _
  have hx1 : ∀ j, Finite (iblk m c 1 t j) := fun j => h1 _
  funext x
  obtain ⟨h, p, l, rfl⟩ : ∃ (h : Fin 16) (p : Fin 64) (l : Fin 256), x = ix3 h p l := ⟨x 0, x 1, x 2, eq_ix3 x⟩
  rw [read_o]
  refine (block_apply (grid0.coords t) hx0 hx1 h p l).trans ?_
  have hb : t.val / 32 < 8 := by omega
  have hp : 64 * (t.val % 32) + p.val < 2048 := by omega
  have hrow : (⟨64 * t.val + p.val, by omega⟩ : Fin 16384) = Cert.ReferenceIdeal.Attend.row ⟨t.val / 32, hb⟩ ⟨64 * (t.val % 32) + p.val, hp⟩ :=
    Fin.ext (show 64 * t.val + p.val = t.val / 32 * 2048 + (64 * (t.val % 32) + p.val) by omega)
  have hq : (fun l => iblk m c 0 t (ix3 h p l))
      = Cert.ReferenceIdeal.Attend.query (m ((c.tc : Thread nD τ).loc main_arg0)) ⟨t.val / 32, hb⟩ h ⟨64 * (t.val % 32) + p.val, hp⟩ := by
    funext l
    rw [iblk_q, hrow]
    rfl
  have hk : keyAt (iblk m c 1 t) = Cert.ReferenceIdeal.Attend.keyAt (m ((c.tc : Thread nD τ).loc main_arg1)) ⟨t.val / 32, hb⟩ := by
    funext n l
    unfold keyAt Cert.ReferenceIdeal.Attend.keyAt
    by_cases hn : n < 2048
    · rw [dif_pos hn, dif_pos hn, iblk_k]
      refine congrArg (fun r => m ((c.tc : Thread nD τ).loc main_arg1) (ix2 r l)) (Fin.ext ?_)
      show 2048 * (t.val / 32) + n = t.val / 32 * 2048 + n
      omega
    · rw [dif_neg hn, dif_neg hn]
  rw [hq, hk, hc, hrow]
  exact (Cert.ReferenceIdeal.Attend.v38_apply (x0 := m ((c.tc : Thread nD τ).loc main_arg0)) (x1 := m ((c.tc : Thread nD τ).loc main_arg1))
    h0 h1 ⟨t.val / 32, hb⟩ h ⟨64 * (t.val % 32) + p.val, hp⟩ l).symm

/-- Every index of the output array lies in the block of some point. -/
theorem cover (i : S16x16384x256.Idx) : ∃ t : Fin cfg0.N, (cfg0.win 2).flush t = true ∧ i ∈ ((cfg0.win 2).blk t).view.set := by
  obtain ⟨h, n, l, rfl⟩ : ∃ (h : Fin 16) (n : Fin 16384) (l : Fin 256), i = ix3 h n l := ⟨i 0, i 1, i 2, eq_ix3 i⟩
  have hlt : n.val / 64 < cfg0.N := lt_of_lt_of_eq (show n.val / 64 < 256 by omega) (by decide +kernel : 256 = grid0.N)
  have e := ix_o ⟨n.val / 64, hlt⟩
  refine ⟨⟨n.val / 64, hlt⟩, flush0_2 _, ?_⟩
  refine Finset.mem_map.mpr ⟨ix3 h (⟨n.val % 64, by omega⟩ : Fin 64) l, Finset.mem_univ _, funext fun a => Fin.ext ?_⟩
  match a with
  | ⟨0, _⟩ =>
    show win0_2.index ⟨n.val / 64, hlt⟩ ⟨0, by decide⟩ * 16 + 1 * h.val = h.val
    rw [e.1]; omega
  | ⟨1, _⟩ =>
    show win0_2.index ⟨n.val / 64, hlt⟩ ⟨1, by decide⟩ * 64 + 1 * (n.val % 64) = n.val
    rw [e.2.1]; show n.val / 64 * 64 + 1 * (n.val % 64) = n.val; omega
  | ⟨2, _⟩ =>
    show win0_2.index ⟨n.val / 64, hlt⟩ ⟨2, by decide⟩ * 256 + 1 * l.val = l.val
    rw [e.2.2]; omega

/-- The kernel's output array after its run is the reference's result. -/
theorem result_eq (h0 : ∀ j, Finite (m ((c.tc : Thread nD τ).loc main_arg0) j)) (h1 : ∀ j, Finite (m ((c.tc : Thread nD τ).loc main_arg1) j)) :
    (dats m 0 c).arrAt 2 cfg0.N = expected m c :=
  (dats m 0 c).arrAt_eq_of_cover 2 (expected m c) (fun t _ => flushed_eq m c h0 h1 t) (fun i => cover i)

/-- The bf16 word of the precondition's bound is `+∞`. -/
theorem inf_word : Ideal.ofBits .bf16 0x7F80#16 = ⊤ := by
  unfold Ideal.ofBits Ideal.ieee
  dsimp only
  rw [if_pos (by decide), if_pos (by decide), if_neg (by decide)]

/-- What the precondition says of one entry. -/
theorem finite_of_lt {x : EReal} (h : BitVec.ofBool (decide (max x (-x) < Ideal.ofBits .bf16 0x7F80#16)) = 1#1) : Finite x := by
  rw [inf_word] at h
  have hlt : max x (-x) < ⊤ := by
    by_contra hc
    rw [decide_eq_false hc] at h
    exact absurd h (by decide)
  refine ⟨fun e => ?_, fun e => ?_⟩
  · rw [e] at hlt; simp at hlt
  · rw [e] at hlt; simp at hlt

/-- The side conditions of the precondition's operations. -/
theorem pre_facts : Cert.Pre_finite.Facts := ⟨by decide, by decide⟩

theorem finite_args (hpre : Cert.Pre_KernelIdeal_finite (hPre_finite := pre_facts) m) :
    (∀ j, Finite (m ((c.tc : Thread nD τ).loc main_arg0) j)) ∧ ∀ j, Finite (m ((c.tc : Thread nD τ).loc main_arg1) j) :=
  ⟨fun j => finite_of_lt (congrFun (hpre c).1 j), fun j => finite_of_lt (congrFun (hpre c).2 j)⟩

/-- The value claim: from finite queries and keys, kernel and reference both run and end with the same attention. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  refine ⟨fun c => expected m c, ?_, ?_⟩
  · refine (θ_run _ _ _).mono (fun r h c => ?_) (Cert.KernelIdeal.Value.run_blocks m g)
    obtain ⟨hr, k0, k1⟩ := h c
    obtain ⟨f0, f1⟩ := finite_args m c hpre
    exact ⟨hr.trans (result_eq m c f0 f1), k0, k1⟩
  · refine (θ_run _ _ _).mono (fun r h c => ?_) (Cert.ReferenceIdeal.Value.run m' g')
    obtain ⟨hr, k0, k1⟩ := h c
    refine ⟨hr.trans ?_, k0, k1⟩
    rw [Cert.ReferenceIdeal.Read.val_main_v38_eq, (hargs c).1, (hargs c).2]

end Cert.KernelIdeal.Attend

end
-- ==== Proof.FfnBlock.lean ====
/-
  What one grid point of the feed-forward kernel leaves: its body, written out 22 times over column tiles of width 256
  (tile `k` of the gate half is followed by tile `k + 11` of the other half), as functions of the tile's number.
-/
module

public import proofs.«01_k».proof.Proof.Gen.FfnIdeal.Value
public import Idealize.ShloMosaic.Lib.Tactic
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Ffn

open Cert.FfnIdeal Cert.FfnIdeal.Gen Idealize.ShloMosaic Idealize.ShloMosaic.TcCoe Idealize.SL.Sem

variable {F : FTy → Type} [FloatOps F]

theorem inb_up (k : Fin 22) : ∀ a, (![0, 256 * k.val] : Fin 2 → ℕ) a + S1024x256.size a ≤ S1024x5632.size a := by
  revert k; decide +kernel
theorem inb_row (r : Fin 4) (k : Fin 22) : ∀ a, (![r.val, 256 * k.val] : Fin 2 → ℕ) a + S1x256.size a ≤ S8x5632.size a := by
  revert r k; decide +kernel
theorem inb_prev (k : Fin 22) : ∀ a, (![0, 256 * k.val] : Fin 2 → ℕ) a + S8x256.size a ≤ S8x5632.size a := by
  revert k; decide +kernel
theorem inb_dn (k : Fin 11) : ∀ a, (![256 * k.val, 0] : Fin 2 → ℕ) a + S256x1024.size a ≤ S2816x1024.size a := by
  revert k; decide +kernel

/-- Tile `k` of the up projection of a block's rows. -/
def up (h : FVec F S512x1024 .bf16) (x3 : Vec F S1024x5632 .bf16) (k : Fin 22) : FVec F S512x256 .f32 :=
  k0_pay15 h (View.ld x3 (Rect.unit (s := S1024x5632) ![0, 256 * k.val] S1024x256.size (inb_up k)))

/-- Row `r` of the convolution's parameters, in tile `k`. -/
def row (x4 : Vec F S8x5632 .f32) (r : Fin 4) (k : Fin 22) : Vec F S1x256 .f32 :=
  View.ld x4 (Rect.unit (s := S8x5632) ![r.val, 256 * k.val] S1x256.size (inb_row r k))

/-- Tile `k` of the eight rows before the block. -/
def before (prev : Vec F S8x5632 .f32) (k : Fin 22) : Vec F S8x256 .f32 :=
  View.ld prev (Rect.unit (s := S8x5632) ![0, 256 * k.val] S8x256.size (inb_prev k))

/-- The convolution of one tile. -/
def conv (u : FVec F S512x256 .f32) (p : Vec F S8x256 .f32) (w0 w1 w2 b : Vec F S1x256 .f32) : FVec F S512x256 .f32 :=
  k0_pay19 u p w0 (dynamicRotate 0 2#32 none u rotates_S512x256_d0) (k0_pay17 p) k0_pay18 w1 w2 b

/-- Tile `k` of the convolved projection. -/
def mix (h : FVec F S512x1024 .bf16) (prev : Vec F S8x5632 .f32) (x3 : Vec F S1024x5632 .bf16) (x4 : Vec F S8x5632 .f32)
    (k : Fin 22) : FVec F S512x256 .f32 :=
  conv (up h x3 k) (before prev k) (row x4 0 k) (row x4 1 k) (row x4 2 k) (row x4 3 k)

/-- The gated product of two tiles. -/
def gate (a b : FVec F S512x256 .f32) : FVec F S512x256 .bf16 :=
  truncf .bf16 (mulf (mulf a (divf (broadcast S512x256 (Scalar.ofBits .f32 0x3F800000#32))
    (addf (broadcast S512x256 (Scalar.ofBits .f32 0x3F800000#32))
      (exp (subf (broadcast S512x256 (Scalar.ofBits .f32 0x00000000#32)) a))))) b) bitsLt_bf16_f32

/-- What chunk `k` adds to the down projection. -/
def contrib (h : FVec F S512x1024 .bf16) (prev : Vec F S8x5632 .f32) (x3 : Vec F S1024x5632 .bf16)
    (x4 : Vec F S8x5632 .f32) (x5 : Vec F S2816x1024 .bf16) (k : Fin 11) : FVec F S512x1024 .f32 :=
  matmul dot_S512x256_S256x1024_S512x1024_1_0_0_1_n_n none
    (gate (mix h prev x3 x4 ⟨k.val, by omega⟩) (mix h prev x3 x4 ⟨k.val + 11, by omega⟩))
    (View.ld x5 (Rect.unit (s := S2816x1024) ![256 * k.val, 0] S256x1024.size (inb_dn k)))
    (constant S512x1024 .f32 0x00000000#32)

def first (h : FVec F S512x1024 .bf16) (prev : Vec F S8x5632 .f32) (x3 : Vec F S1024x5632 .bf16)
    (x4 : Vec F S8x5632 .f32) (x5 : Vec F S2816x1024 .bf16) : FVec F S512x1024 .f32 :=
  shapeCast S512x1024 (contrib h prev x3 x4 x5 0) shapeCasts_S512x1024_S512x1024

def step (h : FVec F S512x1024 .bf16) (prev : Vec F S8x5632 .f32) (x3 : Vec F S1024x5632 .bf16)
    (x4 : Vec F S8x5632 .f32) (x5 : Vec F S2816x1024 .bf16) (k : Fin 11) (s : FVec F S512x1024 .f32) :
    FVec F S512x1024 .f32 :=
  shapeCast S512x1024 (addf s (contrib h prev x3 x4 x5 k)) shapeCasts_S512x1024_S512x1024

/-- The accumulator after the eleven chunks. -/
def acc (h : FVec F S512x1024 .bf16) (prev : Vec F S8x5632 .f32) (x3 : Vec F S1024x5632 .bf16)
    (x4 : Vec F S8x5632 .f32) (x5 : Vec F S2816x1024 .bf16) : FVec F S512x1024 .f32 :=
  step h prev x3 x4 x5 10 (step h prev x3 x4 x5 9 (step h prev x3 x4 x5 8 (step h prev x3 x4 x5 7 (step h prev x3 x4 x5 6 (step h prev x3 x4 x5 5 (step h prev x3 x4 x5 4 (step h prev x3 x4 x5 3 (step h prev x3 x4 x5 2 (step h prev x3 x4 x5 1 (first h prev x3 x4 x5))))))))))

/-- The normalised rows of a block, times the norm's weight. -/
def hid (x0 : Vec F S512x1024 .f32) (x2 : Vec F S8x1024 .f32) : FVec F S512x1024 .bf16 :=
  k0_pay4 x0 (View.ld x2 (Rect.unit (s := S8x1024) ![0, 0] S1x1024.size inb_S8x1024_S1x1024_0_0))

/-- A block of the kernel's first result. -/
def out (x0 : Vec F S512x1024 .f32) (prev : Vec F S8x5632 .f32) (x2 : Vec F S8x1024 .f32) (x3 : Vec F S1024x5632 .bf16)
    (x4 : Vec F S8x5632 .f32) (x5 : Vec F S2816x1024 .bf16) : FVec F S512x1024 .f32 :=
  k0_pay2 x0 (acc (hid x0 x2) prev x3 x4 x5)
    (View.ld x2 (Rect.unit (s := S8x1024) ![1, 0] S1x1024.size inb_S8x1024_S1x1024_1_0))

/-- The last eight rows of a block's up projection: what the block after it finds as the rows before it. -/
def tails (h : FVec F S512x1024 .bf16) (x3 : Vec F S1024x5632 .bf16) : Vec F S8x5632 .f32 := fun y =>
  up h x3 ⟨(y 1).val / 256, Nat.div_lt_of_lt_mul (y 1).isLt⟩
    (ix2 ⟨504 + (y 0).val, Nat.add_lt_add_left (y 0).isLt 504⟩ ⟨(y 1).val % 256, Nat.mod_lt _ (by omega)⟩)

theorem tail_at (h : FVec F S512x1024 .bf16) (x3 : Vec F S1024x5632 .bf16) (k : Fin 22) (x : S8x256.Idx) (y : S8x5632.Idx)
    (h0 : (y 0 : ℕ) = (x 0 : ℕ)) (h1 : (y 1 : ℕ) = 256 * k.val + (x 1 : ℕ)) :
    k0_pay21 (k0_pay20 (up h x3 k)) x = tails h x3 y := by
  have hx : (x 1 : ℕ) < 256 := (x 1).isLt
  have e : k = ⟨(y 1).val / 256, Nat.div_lt_of_lt_mul (y 1).isLt⟩ := Fin.ext (by show k.val = (y 1 : ℕ) / 256; omega)
  unfold tails
  rw [← e]
  generalize up h x3 k = u
  unfold k0_pay21 k0_pay20
  pointwise
  refine congrArg u (funext fun a => Fin.ext ?_)
  fin_cases a
  · show 504 + (x 0 : ℕ) = 504 + (y 0 : ℕ); omega
  · show (x 1 : ℕ) = (y 1 : ℕ) % 256; omega

theorem tail_raw (h : FVec F S512x1024 .bf16) (x3 : Vec F S1024x5632 .bf16) (k : Fin 22) (x : S8x256.Idx) (y : S8x5632.Idx)
    (h0 : (y 0 : ℕ) = (x 0 : ℕ)) (h1 : (y 1 : ℕ) = 256 * k.val + (x 1 : ℕ)) : k0_pay20 (up h x3 k) x = tails h x3 y := by
  rw [← tail_at h x3 k x y h0 h1]
  unfold k0_pay21
  pointwise

variable (c : Dev nD) (i : grid0.Coords) (arg2 : Memref sig .tc .vmem S512x1024 .f32) (harg2 : arg2.IsWhole)
  (arg3 : Memref sig .tc .vmem S8x5632 .f32) (harg3 : arg3.IsWhole) (arg4 : Memref sig .tc .vmem S8x1024 .f32)
  (harg4 : arg4.IsWhole) (arg5 : Memref sig .tc .vmem S1024x5632 .bf16) (harg5 : arg5.IsWhole)
  (arg6 : Memref sig .tc .vmem S8x5632 .f32) (harg6 : arg6.IsWhole) (arg7 : Memref sig .tc .vmem S2816x1024 .bf16)
  (harg7 : arg7.IsWhole) (arg8 : Memref sig .tc .vmem S512x1024 .f32) (harg8 : arg8.IsWhole)
  (arg9 : Memref sig .tc .vmem S8x5632 .f32) (harg9 : arg9.IsWhole) (arg10 : Memref sig .tc .vmem S8x5632 .f32)
  (harg10 : arg10.IsWhole) (arg11 : Memref sig .tc .vmem S512x1024 .f32) (harg11 : arg11.IsWhole)
  (x0 : Vec F S512x1024 .f32) (x1 : Vec F S8x5632 .f32) (x2 : Vec F S8x1024 .f32) (x3 : Vec F S1024x5632 .bf16)
  (x4 : Vec F S8x5632 .f32) (x5 : Vec F S2816x1024 .bf16) (xs0 : Vec F S8x5632 .f32)

theorem out_B (hc0) : out0_B_6 c i arg2 harg2 arg3 harg3 arg4 harg4 arg5 harg5 arg6 harg6 arg7 harg7 arg8 harg8 arg9 harg9 arg10 harg10 arg11 harg11 hc0 x0 x1 x2 x3 x4 x5 xs0
    = out x0 xs0 x2 x3 x4 x5 := by
  frame_out
  rfl

theorem out_A (hc0) : out0_A_6 c i arg2 harg2 arg3 harg3 arg4 harg4 arg5 harg5 arg6 harg6 arg7 harg7 arg8 harg8 arg9 harg9 arg10 harg10 arg11 harg11 hc0 x0 x1 x2 x3 x4 x5
    = out x0 (k0_pay3 x1) x2 x3 x4 x5 := by
  frame_out
  simp (disch := decide) only [↓View.readCov_skip, ↓View.readCov_fill]
  rfl

theorem st_B (hc0) : out0_B_7 c i arg2 harg2 arg3 harg3 arg4 harg4 arg5 harg5 arg6 harg6 arg7 harg7 arg8 harg8 arg9 harg9 arg10 harg10 arg11 harg11 hc0 x0 x1 x2 x3 x4 x5 xs0
    = tails (hid x0 x2) x3 := by
  funext y
  frame_out
  canon_tiles x h
  · first | exact tail_at (hid x0 x2) x3 21 x y (by omega) (by show (y 1 : ℕ) = 5376 + (x 1 : ℕ); omega) | exact tail_raw (hid x0 x2) x3 21 x y (by omega) (by show (y 1 : ℕ) = 5376 + (x 1 : ℕ); omega)
  · first | exact tail_at (hid x0 x2) x3 10 x y (by omega) (by show (y 1 : ℕ) = 2560 + (x 1 : ℕ); omega) | exact tail_raw (hid x0 x2) x3 10 x y (by omega) (by show (y 1 : ℕ) = 2560 + (x 1 : ℕ); omega)
  · first | exact tail_at (hid x0 x2) x3 20 x y (by omega) (by show (y 1 : ℕ) = 5120 + (x 1 : ℕ); omega) | exact tail_raw (hid x0 x2) x3 20 x y (by omega) (by show (y 1 : ℕ) = 5120 + (x 1 : ℕ); omega)
  · first | exact tail_at (hid x0 x2) x3 9 x y (by omega) (by show (y 1 : ℕ) = 2304 + (x 1 : ℕ); omega) | exact tail_raw (hid x0 x2) x3 9 x y (by omega) (by show (y 1 : ℕ) = 2304 + (x 1 : ℕ); omega)
  · first | exact tail_at (hid x0 x2) x3 19 x y (by omega) (by show (y 1 : ℕ) = 4864 + (x 1 : ℕ); omega) | exact tail_raw (hid x0 x2) x3 19 x y (by omega) (by show (y 1 : ℕ) = 4864 + (x 1 : ℕ); omega)
  · first | exact tail_at (hid x0 x2) x3 8 x y (by omega) (by show (y 1 : ℕ) = 2048 + (x 1 : ℕ); omega) | exact tail_raw (hid x0 x2) x3 8 x y (by omega) (by show (y 1 : ℕ) = 2048 + (x 1 : ℕ); omega)
  · first | exact tail_at (hid x0 x2) x3 18 x y (by omega) (by show (y 1 : ℕ) = 4608 + (x 1 : ℕ); omega) | exact tail_raw (hid x0 x2) x3 18 x y (by omega) (by show (y 1 : ℕ) = 4608 + (x 1 : ℕ); omega)
  · first | exact tail_at (hid x0 x2) x3 7 x y (by omega) (by show (y 1 : ℕ) = 1792 + (x 1 : ℕ); omega) | exact tail_raw (hid x0 x2) x3 7 x y (by omega) (by show (y 1 : ℕ) = 1792 + (x 1 : ℕ); omega)
  · first | exact tail_at (hid x0 x2) x3 17 x y (by omega) (by show (y 1 : ℕ) = 4352 + (x 1 : ℕ); omega) | exact tail_raw (hid x0 x2) x3 17 x y (by omega) (by show (y 1 : ℕ) = 4352 + (x 1 : ℕ); omega)
  · first | exact tail_at (hid x0 x2) x3 6 x y (by omega) (by show (y 1 : ℕ) = 1536 + (x 1 : ℕ); omega) | exact tail_raw (hid x0 x2) x3 6 x y (by omega) (by show (y 1 : ℕ) = 1536 + (x 1 : ℕ); omega)
  · first | exact tail_at (hid x0 x2) x3 16 x y (by omega) (by show (y 1 : ℕ) = 4096 + (x 1 : ℕ); omega) | exact tail_raw (hid x0 x2) x3 16 x y (by omega) (by show (y 1 : ℕ) = 4096 + (x 1 : ℕ); omega)
  · first | exact tail_at (hid x0 x2) x3 5 x y (by omega) (by show (y 1 : ℕ) = 1280 + (x 1 : ℕ); omega) | exact tail_raw (hid x0 x2) x3 5 x y (by omega) (by show (y 1 : ℕ) = 1280 + (x 1 : ℕ); omega)
  · first | exact tail_at (hid x0 x2) x3 15 x y (by omega) (by show (y 1 : ℕ) = 3840 + (x 1 : ℕ); omega) | exact tail_raw (hid x0 x2) x3 15 x y (by omega) (by show (y 1 : ℕ) = 3840 + (x 1 : ℕ); omega)
  · first | exact tail_at (hid x0 x2) x3 4 x y (by omega) (by show (y 1 : ℕ) = 1024 + (x 1 : ℕ); omega) | exact tail_raw (hid x0 x2) x3 4 x y (by omega) (by show (y 1 : ℕ) = 1024 + (x 1 : ℕ); omega)
  · first | exact tail_at (hid x0 x2) x3 14 x y (by omega) (by show (y 1 : ℕ) = 3584 + (x 1 : ℕ); omega) | exact tail_raw (hid x0 x2) x3 14 x y (by omega) (by show (y 1 : ℕ) = 3584 + (x 1 : ℕ); omega)
  · first | exact tail_at (hid x0 x2) x3 3 x y (by omega) (by show (y 1 : ℕ) = 768 + (x 1 : ℕ); omega) | exact tail_raw (hid x0 x2) x3 3 x y (by omega) (by show (y 1 : ℕ) = 768 + (x 1 : ℕ); omega)
  · first | exact tail_at (hid x0 x2) x3 13 x y (by omega) (by show (y 1 : ℕ) = 3328 + (x 1 : ℕ); omega) | exact tail_raw (hid x0 x2) x3 13 x y (by omega) (by show (y 1 : ℕ) = 3328 + (x 1 : ℕ); omega)
  · first | exact tail_at (hid x0 x2) x3 2 x y (by omega) (by show (y 1 : ℕ) = 512 + (x 1 : ℕ); omega) | exact tail_raw (hid x0 x2) x3 2 x y (by omega) (by show (y 1 : ℕ) = 512 + (x 1 : ℕ); omega)
  · first | exact tail_at (hid x0 x2) x3 12 x y (by omega) (by show (y 1 : ℕ) = 3072 + (x 1 : ℕ); omega) | exact tail_raw (hid x0 x2) x3 12 x y (by omega) (by show (y 1 : ℕ) = 3072 + (x 1 : ℕ); omega)
  · first | exact tail_at (hid x0 x2) x3 1 x y (by omega) (by show (y 1 : ℕ) = 256 + (x 1 : ℕ); omega) | exact tail_raw (hid x0 x2) x3 1 x y (by omega) (by show (y 1 : ℕ) = 256 + (x 1 : ℕ); omega)
  · first | exact tail_at (hid x0 x2) x3 11 x y (by omega) (by show (y 1 : ℕ) = 2816 + (x 1 : ℕ); omega) | exact tail_raw (hid x0 x2) x3 11 x y (by omega) (by show (y 1 : ℕ) = 2816 + (x 1 : ℕ); omega)
  · first | exact tail_at (hid x0 x2) x3 0 x y (by omega) (by show (y 1 : ℕ) = 0 + (x 1 : ℕ); omega) | exact tail_raw (hid x0 x2) x3 0 x y (by omega) (by show (y 1 : ℕ) = 0 + (x 1 : ℕ); omega)

theorem st_A (hc0) : out0_A_7 c i arg2 harg2 arg3 harg3 arg4 harg4 arg5 harg5 arg6 harg6 arg7 harg7 arg8 harg8 arg9 harg9 arg10 harg10 arg11 harg11 hc0 x0 x1 x2 x3 x4 x5
    = tails (hid x0 x2) x3 := by
  funext y
  frame_out
  canon_tiles x h
  · first | exact tail_at (hid x0 x2) x3 21 x y (by omega) (by show (y 1 : ℕ) = 5376 + (x 1 : ℕ); omega) | exact tail_raw (hid x0 x2) x3 21 x y (by omega) (by show (y 1 : ℕ) = 5376 + (x 1 : ℕ); omega)
  · first | exact tail_at (hid x0 x2) x3 10 x y (by omega) (by show (y 1 : ℕ) = 2560 + (x 1 : ℕ); omega) | exact tail_raw (hid x0 x2) x3 10 x y (by omega) (by show (y 1 : ℕ) = 2560 + (x 1 : ℕ); omega)
  · first | exact tail_at (hid x0 x2) x3 20 x y (by omega) (by show (y 1 : ℕ) = 5120 + (x 1 : ℕ); omega) | exact tail_raw (hid x0 x2) x3 20 x y (by omega) (by show (y 1 : ℕ) = 5120 + (x 1 : ℕ); omega)
  · first | exact tail_at (hid x0 x2) x3 9 x y (by omega) (by show (y 1 : ℕ) = 2304 + (x 1 : ℕ); omega) | exact tail_raw (hid x0 x2) x3 9 x y (by omega) (by show (y 1 : ℕ) = 2304 + (x 1 : ℕ); omega)
  · first | exact tail_at (hid x0 x2) x3 19 x y (by omega) (by show (y 1 : ℕ) = 4864 + (x 1 : ℕ); omega) | exact tail_raw (hid x0 x2) x3 19 x y (by omega) (by show (y 1 : ℕ) = 4864 + (x 1 : ℕ); omega)
  · first | exact tail_at (hid x0 x2) x3 8 x y (by omega) (by show (y 1 : ℕ) = 2048 + (x 1 : ℕ); omega) | exact tail_raw (hid x0 x2) x3 8 x y (by omega) (by show (y 1 : ℕ) = 2048 + (x 1 : ℕ); omega)
  · first | exact tail_at (hid x0 x2) x3 18 x y (by omega) (by show (y 1 : ℕ) = 4608 + (x 1 : ℕ); omega) | exact tail_raw (hid x0 x2) x3 18 x y (by omega) (by show (y 1 : ℕ) = 4608 + (x 1 : ℕ); omega)
  · first | exact tail_at (hid x0 x2) x3 7 x y (by omega) (by show (y 1 : ℕ) = 1792 + (x 1 : ℕ); omega) | exact tail_raw (hid x0 x2) x3 7 x y (by omega) (by show (y 1 : ℕ) = 1792 + (x 1 : ℕ); omega)
  · first | exact tail_at (hid x0 x2) x3 17 x y (by omega) (by show (y 1 : ℕ) = 4352 + (x 1 : ℕ); omega) | exact tail_raw (hid x0 x2) x3 17 x y (by omega) (by show (y 1 : ℕ) = 4352 + (x 1 : ℕ); omega)
  · first | exact tail_at (hid x0 x2) x3 6 x y (by omega) (by show (y 1 : ℕ) = 1536 + (x 1 : ℕ); omega) | exact tail_raw (hid x0 x2) x3 6 x y (by omega) (by show (y 1 : ℕ) = 1536 + (x 1 : ℕ); omega)
  · first | exact tail_at (hid x0 x2) x3 16 x y (by omega) (by show (y 1 : ℕ) = 4096 + (x 1 : ℕ); omega) | exact tail_raw (hid x0 x2) x3 16 x y (by omega) (by show (y 1 : ℕ) = 4096 + (x 1 : ℕ); omega)
  · first | exact tail_at (hid x0 x2) x3 5 x y (by omega) (by show (y 1 : ℕ) = 1280 + (x 1 : ℕ); omega) | exact tail_raw (hid x0 x2) x3 5 x y (by omega) (by show (y 1 : ℕ) = 1280 + (x 1 : ℕ); omega)
  · first | exact tail_at (hid x0 x2) x3 15 x y (by omega) (by show (y 1 : ℕ) = 3840 + (x 1 : ℕ); omega) | exact tail_raw (hid x0 x2) x3 15 x y (by omega) (by show (y 1 : ℕ) = 3840 + (x 1 : ℕ); omega)
  · first | exact tail_at (hid x0 x2) x3 4 x y (by omega) (by show (y 1 : ℕ) = 1024 + (x 1 : ℕ); omega) | exact tail_raw (hid x0 x2) x3 4 x y (by omega) (by show (y 1 : ℕ) = 1024 + (x 1 : ℕ); omega)
  · first | exact tail_at (hid x0 x2) x3 14 x y (by omega) (by show (y 1 : ℕ) = 3584 + (x 1 : ℕ); omega) | exact tail_raw (hid x0 x2) x3 14 x y (by omega) (by show (y 1 : ℕ) = 3584 + (x 1 : ℕ); omega)
  · first | exact tail_at (hid x0 x2) x3 3 x y (by omega) (by show (y 1 : ℕ) = 768 + (x 1 : ℕ); omega) | exact tail_raw (hid x0 x2) x3 3 x y (by omega) (by show (y 1 : ℕ) = 768 + (x 1 : ℕ); omega)
  · first | exact tail_at (hid x0 x2) x3 13 x y (by omega) (by show (y 1 : ℕ) = 3328 + (x 1 : ℕ); omega) | exact tail_raw (hid x0 x2) x3 13 x y (by omega) (by show (y 1 : ℕ) = 3328 + (x 1 : ℕ); omega)
  · first | exact tail_at (hid x0 x2) x3 2 x y (by omega) (by show (y 1 : ℕ) = 512 + (x 1 : ℕ); omega) | exact tail_raw (hid x0 x2) x3 2 x y (by omega) (by show (y 1 : ℕ) = 512 + (x 1 : ℕ); omega)
  · first | exact tail_at (hid x0 x2) x3 12 x y (by omega) (by show (y 1 : ℕ) = 3072 + (x 1 : ℕ); omega) | exact tail_raw (hid x0 x2) x3 12 x y (by omega) (by show (y 1 : ℕ) = 3072 + (x 1 : ℕ); omega)
  · first | exact tail_at (hid x0 x2) x3 1 x y (by omega) (by show (y 1 : ℕ) = 256 + (x 1 : ℕ); omega) | exact tail_raw (hid x0 x2) x3 1 x y (by omega) (by show (y 1 : ℕ) = 256 + (x 1 : ℕ); omega)
  · first | exact tail_at (hid x0 x2) x3 11 x y (by omega) (by show (y 1 : ℕ) = 2816 + (x 1 : ℕ); omega) | exact tail_raw (hid x0 x2) x3 11 x y (by omega) (by show (y 1 : ℕ) = 2816 + (x 1 : ℕ); omega)
  · first | exact tail_at (hid x0 x2) x3 0 x y (by omega) (by show (y 1 : ℕ) = 0 + (x 1 : ℕ); omega) | exact tail_raw (hid x0 x2) x3 0 x y (by omega) (by show (y 1 : ℕ) = 0 + (x 1 : ℕ); omega)

theorem carry_B (hc0) : sout0_B_0 c i arg2 harg2 arg3 harg3 arg4 harg4 arg5 harg5 arg6 harg6 arg7 harg7 arg8 harg8 arg9 harg9 arg10 harg10 arg11 harg11 hc0 x0 x1 x2 x3 x4 x5 xs0
    = tails (hid x0 x2) x3 := by
  funext y
  frame_out
  canon_tiles x h
  · first | exact tail_at (hid x0 x2) x3 21 x y (by omega) (by show (y 1 : ℕ) = 5376 + (x 1 : ℕ); omega) | exact tail_raw (hid x0 x2) x3 21 x y (by omega) (by show (y 1 : ℕ) = 5376 + (x 1 : ℕ); omega)
  · first | exact tail_at (hid x0 x2) x3 10 x y (by omega) (by show (y 1 : ℕ) = 2560 + (x 1 : ℕ); omega) | exact tail_raw (hid x0 x2) x3 10 x y (by omega) (by show (y 1 : ℕ) = 2560 + (x 1 : ℕ); omega)
  · first | exact tail_at (hid x0 x2) x3 20 x y (by omega) (by show (y 1 : ℕ) = 5120 + (x 1 : ℕ); omega) | exact tail_raw (hid x0 x2) x3 20 x y (by omega) (by show (y 1 : ℕ) = 5120 + (x 1 : ℕ); omega)
  · first | exact tail_at (hid x0 x2) x3 9 x y (by omega) (by show (y 1 : ℕ) = 2304 + (x 1 : ℕ); omega) | exact tail_raw (hid x0 x2) x3 9 x y (by omega) (by show (y 1 : ℕ) = 2304 + (x 1 : ℕ); omega)
  · first | exact tail_at (hid x0 x2) x3 19 x y (by omega) (by show (y 1 : ℕ) = 4864 + (x 1 : ℕ); omega) | exact tail_raw (hid x0 x2) x3 19 x y (by omega) (by show (y 1 : ℕ) = 4864 + (x 1 : ℕ); omega)
  · first | exact tail_at (hid x0 x2) x3 8 x y (by omega) (by show (y 1 : ℕ) = 2048 + (x 1 : ℕ); omega) | exact tail_raw (hid x0 x2) x3 8 x y (by omega) (by show (y 1 : ℕ) = 2048 + (x 1 : ℕ); omega)
  · first | exact tail_at (hid x0 x2) x3 18 x y (by omega) (by show (y 1 : ℕ) = 4608 + (x 1 : ℕ); omega) | exact tail_raw (hid x0 x2) x3 18 x y (by omega) (by show (y 1 : ℕ) = 4608 + (x 1 : ℕ); omega)
  · first | exact tail_at (hid x0 x2) x3 7 x y (by omega) (by show (y 1 : ℕ) = 1792 + (x 1 : ℕ); omega) | exact tail_raw (hid x0 x2) x3 7 x y (by omega) (by show (y 1 : ℕ) = 1792 + (x 1 : ℕ); omega)
  · first | exact tail_at (hid x0 x2) x3 17 x y (by omega) (by show (y 1 : ℕ) = 4352 + (x 1 : ℕ); omega) | exact tail_raw (hid x0 x2) x3 17 x y (by omega) (by show (y 1 : ℕ) = 4352 + (x 1 : ℕ); omega)
  · first | exact tail_at (hid x0 x2) x3 6 x y (by omega) (by show (y 1 : ℕ) = 1536 + (x 1 : ℕ); omega) | exact tail_raw (hid x0 x2) x3 6 x y (by omega) (by show (y 1 : ℕ) = 1536 + (x 1 : ℕ); omega)
  · first | exact tail_at (hid x0 x2) x3 16 x y (by omega) (by show (y 1 : ℕ) = 4096 + (x 1 : ℕ); omega) | exact tail_raw (hid x0 x2) x3 16 x y (by omega) (by show (y 1 : ℕ) = 4096 + (x 1 : ℕ); omega)
  · first | exact tail_at (hid x0 x2) x3 5 x y (by omega) (by show (y 1 : ℕ) = 1280 + (x 1 : ℕ); omega) | exact tail_raw (hid x0 x2) x3 5 x y (by omega) (by show (y 1 : ℕ) = 1280 + (x 1 : ℕ); omega)
  · first | exact tail_at (hid x0 x2) x3 15 x y (by omega) (by show (y 1 : ℕ) = 3840 + (x 1 : ℕ); omega) | exact tail_raw (hid x0 x2) x3 15 x y (by omega) (by show (y 1 : ℕ) = 3840 + (x 1 : ℕ); omega)
  · first | exact tail_at (hid x0 x2) x3 4 x y (by omega) (by show (y 1 : ℕ) = 1024 + (x 1 : ℕ); omega) | exact tail_raw (hid x0 x2) x3 4 x y (by omega) (by show (y 1 : ℕ) = 1024 + (x 1 : ℕ); omega)
  · first | exact tail_at (hid x0 x2) x3 14 x y (by omega) (by show (y 1 : ℕ) = 3584 + (x 1 : ℕ); omega) | exact tail_raw (hid x0 x2) x3 14 x y (by omega) (by show (y 1 : ℕ) = 3584 + (x 1 : ℕ); omega)
  · first | exact tail_at (hid x0 x2) x3 3 x y (by omega) (by show (y 1 : ℕ) = 768 + (x 1 : ℕ); omega) | exact tail_raw (hid x0 x2) x3 3 x y (by omega) (by show (y 1 : ℕ) = 768 + (x 1 : ℕ); omega)
  · first | exact tail_at (hid x0 x2) x3 13 x y (by omega) (by show (y 1 : ℕ) = 3328 + (x 1 : ℕ); omega) | exact tail_raw (hid x0 x2) x3 13 x y (by omega) (by show (y 1 : ℕ) = 3328 + (x 1 : ℕ); omega)
  · first | exact tail_at (hid x0 x2) x3 2 x y (by omega) (by show (y 1 : ℕ) = 512 + (x 1 : ℕ); omega) | exact tail_raw (hid x0 x2) x3 2 x y (by omega) (by show (y 1 : ℕ) = 512 + (x 1 : ℕ); omega)
  · first | exact tail_at (hid x0 x2) x3 12 x y (by omega) (by show (y 1 : ℕ) = 3072 + (x 1 : ℕ); omega) | exact tail_raw (hid x0 x2) x3 12 x y (by omega) (by show (y 1 : ℕ) = 3072 + (x 1 : ℕ); omega)
  · first | exact tail_at (hid x0 x2) x3 1 x y (by omega) (by show (y 1 : ℕ) = 256 + (x 1 : ℕ); omega) | exact tail_raw (hid x0 x2) x3 1 x y (by omega) (by show (y 1 : ℕ) = 256 + (x 1 : ℕ); omega)
  · first | exact tail_at (hid x0 x2) x3 11 x y (by omega) (by show (y 1 : ℕ) = 2816 + (x 1 : ℕ); omega) | exact tail_raw (hid x0 x2) x3 11 x y (by omega) (by show (y 1 : ℕ) = 2816 + (x 1 : ℕ); omega)
  · first | exact tail_at (hid x0 x2) x3 0 x y (by omega) (by show (y 1 : ℕ) = 0 + (x 1 : ℕ); omega) | exact tail_raw (hid x0 x2) x3 0 x y (by omega) (by show (y 1 : ℕ) = 0 + (x 1 : ℕ); omega)

theorem carry_A (hc0) : sout0_A_0 c i arg2 harg2 arg3 harg3 arg4 harg4 arg5 harg5 arg6 harg6 arg7 harg7 arg8 harg8 arg9 harg9 arg10 harg10 arg11 harg11 hc0 x0 x1 x2 x3 x4 x5
    = tails (hid x0 x2) x3 := by
  funext y
  frame_out
  refine View.canon_append_of_piecesOf (tails (hid x0 x2) x3) [_] [_, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, trivial⟩ y ?_
  · exact fun x => tail_at (hid x0 x2) x3 21 x _ (by show 0 + 1 * (x 0 : ℕ) = (x 0 : ℕ); omega) (by show 5376 + 1 * (x 1 : ℕ) = 5376 + (x 1 : ℕ); omega)
  · exact fun x => tail_at (hid x0 x2) x3 10 x _ (by show 0 + 1 * (x 0 : ℕ) = (x 0 : ℕ); omega) (by show 2560 + 1 * (x 1 : ℕ) = 2560 + (x 1 : ℕ); omega)
  · exact fun x => tail_at (hid x0 x2) x3 20 x _ (by show 0 + 1 * (x 0 : ℕ) = (x 0 : ℕ); omega) (by show 5120 + 1 * (x 1 : ℕ) = 5120 + (x 1 : ℕ); omega)
  · exact fun x => tail_at (hid x0 x2) x3 9 x _ (by show 0 + 1 * (x 0 : ℕ) = (x 0 : ℕ); omega) (by show 2304 + 1 * (x 1 : ℕ) = 2304 + (x 1 : ℕ); omega)
  · exact fun x => tail_at (hid x0 x2) x3 19 x _ (by show 0 + 1 * (x 0 : ℕ) = (x 0 : ℕ); omega) (by show 4864 + 1 * (x 1 : ℕ) = 4864 + (x 1 : ℕ); omega)
  · exact fun x => tail_at (hid x0 x2) x3 8 x _ (by show 0 + 1 * (x 0 : ℕ) = (x 0 : ℕ); omega) (by show 2048 + 1 * (x 1 : ℕ) = 2048 + (x 1 : ℕ); omega)
  · exact fun x => tail_at (hid x0 x2) x3 18 x _ (by show 0 + 1 * (x 0 : ℕ) = (x 0 : ℕ); omega) (by show 4608 + 1 * (x 1 : ℕ) = 4608 + (x 1 : ℕ); omega)
  · exact fun x => tail_at (hid x0 x2) x3 7 x _ (by show 0 + 1 * (x 0 : ℕ) = (x 0 : ℕ); omega) (by show 1792 + 1 * (x 1 : ℕ) = 1792 + (x 1 : ℕ); omega)
  · exact fun x => tail_at (hid x0 x2) x3 17 x _ (by show 0 + 1 * (x 0 : ℕ) = (x 0 : ℕ); omega) (by show 4352 + 1 * (x 1 : ℕ) = 4352 + (x 1 : ℕ); omega)
  · exact fun x => tail_at (hid x0 x2) x3 6 x _ (by show 0 + 1 * (x 0 : ℕ) = (x 0 : ℕ); omega) (by show 1536 + 1 * (x 1 : ℕ) = 1536 + (x 1 : ℕ); omega)
  · exact fun x => tail_at (hid x0 x2) x3 16 x _ (by show 0 + 1 * (x 0 : ℕ) = (x 0 : ℕ); omega) (by show 4096 + 1 * (x 1 : ℕ) = 4096 + (x 1 : ℕ); omega)
  · exact fun x => tail_at (hid x0 x2) x3 5 x _ (by show 0 + 1 * (x 0 : ℕ) = (x 0 : ℕ); omega) (by show 1280 + 1 * (x 1 : ℕ) = 1280 + (x 1 : ℕ); omega)
  · exact fun x => tail_at (hid x0 x2) x3 15 x _ (by show 0 + 1 * (x 0 : ℕ) = (x 0 : ℕ); omega) (by show 3840 + 1 * (x 1 : ℕ) = 3840 + (x 1 : ℕ); omega)
  · exact fun x => tail_at (hid x0 x2) x3 4 x _ (by show 0 + 1 * (x 0 : ℕ) = (x 0 : ℕ); omega) (by show 1024 + 1 * (x 1 : ℕ) = 1024 + (x 1 : ℕ); omega)
  · exact fun x => tail_at (hid x0 x2) x3 14 x _ (by show 0 + 1 * (x 0 : ℕ) = (x 0 : ℕ); omega) (by show 3584 + 1 * (x 1 : ℕ) = 3584 + (x 1 : ℕ); omega)
  · exact fun x => tail_at (hid x0 x2) x3 3 x _ (by show 0 + 1 * (x 0 : ℕ) = (x 0 : ℕ); omega) (by show 768 + 1 * (x 1 : ℕ) = 768 + (x 1 : ℕ); omega)
  · exact fun x => tail_at (hid x0 x2) x3 13 x _ (by show 0 + 1 * (x 0 : ℕ) = (x 0 : ℕ); omega) (by show 3328 + 1 * (x 1 : ℕ) = 3328 + (x 1 : ℕ); omega)
  · exact fun x => tail_at (hid x0 x2) x3 2 x _ (by show 0 + 1 * (x 0 : ℕ) = (x 0 : ℕ); omega) (by show 512 + 1 * (x 1 : ℕ) = 512 + (x 1 : ℕ); omega)
  · exact fun x => tail_at (hid x0 x2) x3 12 x _ (by show 0 + 1 * (x 0 : ℕ) = (x 0 : ℕ); omega) (by show 3072 + 1 * (x 1 : ℕ) = 3072 + (x 1 : ℕ); omega)
  · exact fun x => tail_at (hid x0 x2) x3 1 x _ (by show 0 + 1 * (x 0 : ℕ) = (x 0 : ℕ); omega) (by show 256 + 1 * (x 1 : ℕ) = 256 + (x 1 : ℕ); omega)
  · exact fun x => tail_at (hid x0 x2) x3 11 x _ (by show 0 + 1 * (x 0 : ℕ) = (x 0 : ℕ); omega) (by show 2816 + 1 * (x 1 : ℕ) = 2816 + (x 1 : ℕ); omega)
  · exact fun x => tail_at (hid x0 x2) x3 0 x _ (by show 0 + 1 * (x 0 : ℕ) = (x 0 : ℕ); omega) (by show 0 + 1 * (x 1 : ℕ) = 0 + (x 1 : ℕ); omega)
  · refine View.cover_of_tiledL (s := S8x5632) _ ![8, 256] ?_ y
    rfl

end Cert.FfnIdeal.Ffn
-- ==== Proof.FfnRow.lean ====
/-
  The two scalar formulas of the feed-forward block: one entry of a row normalised by its root mean square, and one
  gated product.
-/
module

public import Idealize.ShloMosaic.Lib.Pointwise

@[expose] public section

noncomputable section

namespace Cert.Row

open Idealize.ShloMosaic

/-- Entry `d` of the row `x` over its root mean square, times a weight. -/
def normed (x : Fin 1024 → EReal) (w : EReal) (d : Fin 1024) : EReal :=
  x d * Ideal.rsqrt (Ideal.div (∑ e, x e * x e) (Ideal.ofBits .f32 0x44800000#32) + Ideal.ofBits .f32 0x358637BD#32) * w

/-- `silu a * b`. -/
def gated (a b : EReal) : EReal := a * Ideal.div 1 (1 + Ideal.exp (0 - a)) * b

end Cert.Row

end
-- ==== Proof.FfnValue.lean ====
/-
  The blocks of the feed-forward kernel read entry by entry, on the extended reals.
-/
module

public import proofs.«01_k».proof.Proof.FfnBlock
public import proofs.«01_k».proof.Proof.FfnRow

@[expose] public section

set_option maxRecDepth 16384

noncomputable section

namespace Cert.FfnIdeal.Ffn

open Cert.FfnIdeal Cert.FfnIdeal.Gen Idealize.ShloMosaic Idealize.ShloMosaic.TcCoe Idealize.SL.Sem
open Cert.Row

theorem hid_apply (x0 : Vec Ideal S512x1024 .f32) (x2 : Vec Ideal S8x1024 .f32) (r : Fin 512) (d : Fin 1024) :
    hid x0 x2 (ix2 r d) = normed (fun e => x0 (ix2 r e)) (x2 (ix2 0 d)) d := by
  pointwise [hid, k0_pay4]
  rfl

/-- Column `j` of tile `k`. -/
def col (k : Fin 22) (j : Fin 256) : Fin 5632 := ⟨256 * k.val + j.val, by omega⟩

theorem up_apply (h : FVec Ideal S512x1024 .bf16) (x3 : Vec Ideal S1024x5632 .bf16) (k : Fin 22) (r : Fin 512) (j : Fin 256) :
    up h x3 k (ix2 r j) = ∑ d : Fin 1024, h (ix2 r d) * x3 (ix2 d (col k j)) := by
  pointwise [up, k0_pay15]
  rfl

/-- Which of the first eight rows take the rows before the block: those less than the shift. -/
theorem pick2 (r : Fin 8) : IntOp.cmpi CmpIPredicate.slt
    (Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)))
    2#32 = BitVec.ofBool (decide (r.val < 2)) := by
  revert r; decide +kernel

theorem pick1 (r : Fin 8) : IntOp.cmpi CmpIPredicate.slt
    (Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)))
    1#32 = BitVec.ofBool (decide (r.val < 1)) := by
  revert r; decide +kernel

theorem select_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

/-- The row `s` above row `r` of a tile: the block's own, or one of the rows before it. -/
def above (u : FVec Ideal S512x256 .f32) (prev : Vec Ideal S8x5632 .f32) (k : Fin 22) (s : ℕ) (r : Fin 512) (j : Fin 256) : EReal :=
  if h : r.val < s ∧ s ≤ 8 then prev (ix2 ⟨r.val + 8 - s, by omega⟩ (col k j)) else u (ix2 ⟨r.val - s, by omega⟩ j)

theorem mix_apply (h : FVec Ideal S512x1024 .bf16) (prev : Vec Ideal S8x5632 .f32) (x3 : Vec Ideal S1024x5632 .bf16)
    (x4 : Vec Ideal S8x5632 .f32) (k : Fin 22) (r : Fin 512) (j : Fin 256) :
    mix h prev x3 x4 k (ix2 r j)
      = x4 (ix2 0 (col k j)) * above (up h x3 k) prev k 2 r j + x4 (ix2 1 (col k j)) * above (up h x3 k) prev k 1 r j
        + x4 (ix2 2 (col k j)) * up h x3 k (ix2 r j) + x4 (ix2 3 (col k j)) := by
  unfold mix
  generalize up h x3 k = u
  pointwise [conv, k0_pay19, k0_pay18, k0_pay17, row, before]
  unfold col above
  by_cases hr : r.val < 8
  · rw [dif_pos hr, dif_pos hr]
    have p2 := pick2 ⟨r.val, hr⟩
    have p1 := pick1 ⟨r.val, hr⟩
    dsimp only at p2 p1
    rw [p2, p1, select_ofBool, select_ofBool]
    congr 3
    · congr 1
      by_cases h2 : r.val < 2
      · rw [if_pos h2, dif_pos ⟨h2, by omega⟩]
        refine congrArg prev (congrArg₂ ix2 (Fin.ext ?_) rfl)
        show (r.val + 8 - 2) % 8 = r.val + 8 - 2
        omega
      · rw [if_neg h2, dif_neg (fun e => h2 e.1)]
        refine congrArg u (congrArg₂ ix2 (Fin.ext ?_) rfl)
        show (r.val + 512 - 2) % 512 = r.val - 2
        omega
    · congr 1
      by_cases h1 : r.val < 1
      · rw [if_pos h1, dif_pos ⟨h1, by omega⟩]
        refine congrArg prev (congrArg₂ ix2 (Fin.ext ?_) rfl)
        show (r.val + 8 - 1) % 8 = r.val + 8 - 1
        omega
      · rw [if_neg h1, dif_neg (fun e => h1 e.1)]
        refine congrArg u (congrArg₂ ix2 (Fin.ext ?_) rfl)
        show (r.val + 512 - 1) % 512 = r.val - 1
        omega
  · rw [dif_neg hr, dif_neg hr, dif_neg (by omega), dif_neg (by omega)]
    congr 3
    · congr 1
      refine congrArg u (congrArg₂ ix2 (Fin.ext ?_) rfl)
      show (8 + (r.val - 8) + 512 - 2) % 512 = r.val - 2
      omega
    · congr 1
      refine congrArg u (congrArg₂ ix2 (Fin.ext ?_) rfl)
      show (8 + (r.val - 8) + 512 - 1) % 512 = r.val - 1
      omega

theorem gate_apply (a b : FVec Ideal S512x256 .f32) (r : Fin 512) (j : Fin 256) :
    gate a b (ix2 r j) = gated (a (ix2 r j)) (b (ix2 r j)) := by
  pointwise [gate]
  rfl

theorem contrib_apply (h : FVec Ideal S512x1024 .bf16) (prev : Vec Ideal S8x5632 .f32) (x3 : Vec Ideal S1024x5632 .bf16)
    (x4 : Vec Ideal S8x5632 .f32) (x5 : Vec Ideal S2816x1024 .bf16) (k : Fin 11) (r : Fin 512) (d : Fin 1024) :
    contrib h prev x3 x4 x5 k (ix2 r d)
      = ∑ j : Fin 256, gated (mix h prev x3 x4 ⟨k.val, by omega⟩ (ix2 r j)) (mix h prev x3 x4 ⟨k.val + 11, by omega⟩ (ix2 r j))
          * x5 (ix2 ⟨256 * k.val + j.val, by omega⟩ d) := by
  simp only [← gate_apply]
  unfold contrib
  generalize gate (mix h prev x3 x4 ⟨k.val, by omega⟩) (mix h prev x3 x4 ⟨k.val + 11, by omega⟩) = g
  pointwise

theorem acc_apply (h : FVec Ideal S512x1024 .bf16) (prev : Vec Ideal S8x5632 .f32) (x3 : Vec Ideal S1024x5632 .bf16)
    (x4 : Vec Ideal S8x5632 .f32) (x5 : Vec Ideal S2816x1024 .bf16) (r : Fin 512) (d : Fin 1024) :
    acc h prev x3 x4 x5 (ix2 r d) = ∑ k : Fin 11, contrib h prev x3 x4 x5 k (ix2 r d) := by
  have e1 : ∀ (k : Fin 11) (s : FVec Ideal S512x1024 .f32), step h prev x3 x4 x5 k s (ix2 r d) = s (ix2 r d) + contrib h prev x3 x4 x5 k (ix2 r d) := by
    intro k s; unfold step; generalize contrib h prev x3 x4 x5 k = g; pointwise
  have e0 : first h prev x3 x4 x5 (ix2 r d) = contrib h prev x3 x4 x5 0 (ix2 r d) := by
    unfold first; generalize contrib h prev x3 x4 x5 0 = g; pointwise
  unfold acc
  rw [e1, e1, e1, e1, e1, e1, e1, e1, e1, e1, e0]
  simp only [Fin.sum_univ_castSucc, Finset.univ_eq_empty, Finset.sum_empty, zero_add]
  rfl

theorem out_apply (x0 : Vec Ideal S512x1024 .f32) (prev : Vec Ideal S8x5632 .f32) (x2 : Vec Ideal S8x1024 .f32)
    (x3 : Vec Ideal S1024x5632 .bf16) (x4 : Vec Ideal S8x5632 .f32) (x5 : Vec Ideal S2816x1024 .bf16)
    (r : Fin 512) (d : Fin 1024) : out x0 prev x2 x3 x4 x5 (ix2 r d)
      = x0 (ix2 r d) + normed (fun e => acc (hid x0 x2) prev x3 x4 x5 (ix2 r e)) (x2 (ix2 1 d)) d := by
  unfold out
  generalize acc (hid x0 x2) prev x3 x4 x5 = a
  pointwise [k0_pay2]
  rfl

theorem tails_apply (h : FVec Ideal S512x1024 .bf16) (x3 : Vec Ideal S1024x5632 .bf16) (q : Fin 8) (K : Fin 5632) :
    tails h x3 (ix2 q K) = ∑ d : Fin 1024, h (ix2 ⟨504 + q.val, by omega⟩ d) * x3 (ix2 d K) := by
  unfold tails
  refine (up_apply h x3 _ _ _).trans (Finset.sum_congr rfl fun d _ => congrArg _ (congrArg x3 (congrArg (ix2 d) (Fin.ext ?_))))
  show 256 * (K.val / 256) + K.val % 256 = K.val
  omega

theorem pay3_apply (x1 : Vec Ideal S8x5632 .f32) (q : Fin 8) (K : Fin 5632) : k0_pay3 x1 (ix2 q K) = x1 (ix2 q K) := by
  pointwise [k0_pay3]

end Cert.FfnIdeal.Ffn
-- ==== Proof.FfnRef.lean ====
/-
  The feed-forward reference read entry by entry, on the extended reals.
-/
module

public import proofs.«01_k».proof.Proof.Gen.FfnReferenceIdeal.Read
public import proofs.«01_k».proof.Proof.FfnRow

@[expose] public section

set_option maxRecDepth 16384

noncomputable section

namespace Cert.FfnReferenceIdeal.Ffn

open Cert.Row
open Cert.FfnReferenceIdeal Cert.FfnReferenceIdeal.Gen Cert.FfnReferenceIdeal.Read Idealize.ShloMosaic Idealize.ShloMosaic.TcCoe Idealize.SL.Sem

variable (x0 : (⟨S16384x1024, .f32⟩ : BufTy).Contents (Elt Ideal)) (x1 : (⟨S64x5632, .f32⟩ : BufTy).Contents (Elt Ideal))
  (x2 : (⟨S8x1024, .f32⟩ : BufTy).Contents (Elt Ideal)) (x3 : (⟨S1024x5632, .bf16⟩ : BufTy).Contents (Elt Ideal))
  (x4 : (⟨S8x5632, .f32⟩ : BufTy).Contents (Elt Ideal)) (x5 : (⟨S2816x1024, .bf16⟩ : BufTy).Contents (Elt Ideal))

/-- Row `p` of sequence `b`. -/
def at_ (b : Fin 8) (p : Fin 2048) : Fin 16384 := ⟨b.val * 2048 + p.val, by omega⟩

theorem v17_apply (b : Fin 8) (p : Fin 2048) (d : Fin 1024) :
    val_main_v17 (F := Ideal) x0 x2 (ix3 b p d) = normed (fun e => x0 (ix2 (at_ b p) e)) (x2 (ix2 0 d)) d := by
  pointwise [val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0, val_main_cst_1]
  rfl

theorem v19_apply (b : Fin 8) (p : Fin 2048) (K : Fin 5632) :
    val_main_v19 (F := Ideal) x0 x2 x3 (ix3 b p K) = ∑ d : Fin 1024, val_main_v17 (F := Ideal) x0 x2 (ix3 b p d) * x3 (ix2 d K) := by
  unfold val_main_v19
  generalize val_main_v17 (F := Ideal) x0 x2 = g
  pointwise [val_main_v18]

/-- The row `s` above row `p` of sequence `b`: the sequence's own, or one of the eight before it. -/
def above (g : FVec Ideal S8x2048x5632 .f32) (b : Fin 8) (s : ℕ) (p : Fin 2048) (K : Fin 5632) : EReal :=
  if h : p.val < s ∧ s ≤ 8 then x1 (ix2 ⟨b.val * 8 + (p.val + 8 - s), by omega⟩ K) else g (ix3 b ⟨p.val - s, by omega⟩ K)

theorem v46_apply (b : Fin 8) (p : Fin 2048) (K : Fin 5632) :
    val_main_v46 (F := Ideal) x0 x1 x2 x3 x4 (ix3 b p K)
      = x4 (ix2 0 K) * above x1 (val_main_v19 (F := Ideal) x0 x2 x3) b 2 p K
        + x4 (ix2 1 K) * above x1 (val_main_v19 (F := Ideal) x0 x2 x3) b 1 p K
        + x4 (ix2 2 K) * val_main_v19 (F := Ideal) x0 x2 x3 (ix3 b p K) + x4 (ix2 3 K) := by
  unfold val_main_v46 val_main_v41 val_main_v34 val_main_v27 val_main_v33 val_main_v40 val_main_v35 val_main_v28 val_main_v22 val_main_v21
  generalize val_main_v19 (F := Ideal) x0 x2 x3 = g
  pointwise [val_main_v45, val_main_v44, val_main_v43, val_main_v42, val_main_v39, val_main_v38, val_main_v37, val_main_v36, val_main_v32, val_main_v31, val_main_v30, val_main_v29, val_main_v26, val_main_v25, val_main_v24, val_main_v23, val_main_v20, val_main_v2, val_main_v1]
  unfold above
  refine congrArg₂ (· + ·) (congrArg₂ (· + ·) (congrArg₂ (· + ·) ?_ ?_) ?_) rfl
  · refine (mul_comm (_ : EReal) _).trans (congrArg _ ?_)
    by_cases h2 : p.val < 2
    · rw [dif_pos h2, dif_pos ⟨h2, by omega⟩]
      refine congrArg x1 (congrArg₂ ix2 (Fin.ext ?_) rfl)
      show b.val * 8 + (6 + p.val) = b.val * 8 + (p.val + 8 - 2)
      omega
    · rw [dif_neg h2, dif_neg (fun e => h2 e.1)]
  · refine (mul_comm (_ : EReal) _).trans (congrArg _ ?_)
    by_cases h1 : p.val < 1
    · rw [dif_pos (by omega), dif_pos ⟨h1, by omega⟩]
      refine congrArg x1 (congrArg₂ ix2 (Fin.ext ?_) rfl)
      show b.val * 8 + (6 + (1 + p.val)) = b.val * 8 + (p.val + 8 - 1)
      omega
    · rw [dif_neg (by omega), dif_neg (fun e => h1 e.1)]
      refine congrArg g (congrArg (fun q => ix3 b q K) (Fin.ext ?_))
      show 1 + p.val - 2 = p.val - 1
      omega
  · exact mul_comm (_ : EReal) _

theorem v50_apply (b : Fin 8) (p : Fin 2048) (K : Fin 2816) :
    val_main_v50 (F := Ideal) x0 x1 x2 x3 x4 (ix3 b p K)
      = gated (val_main_v46 (F := Ideal) x0 x1 x2 x3 x4 (ix3 b p ⟨K.val, by omega⟩))
          (val_main_v46 (F := Ideal) x0 x1 x2 x3 x4 (ix3 b p ⟨2816 + K.val, by omega⟩)) := by
  unfold val_main_v50 val_main_v49 val_main_v48 val_main_call0_v5 val_main_call0_v3 val_main_call0_v1 val_main_call0_v0 val_main_v47
  generalize val_main_v46 (F := Ideal) x0 x1 x2 x3 x4 = g
  pointwise [val_main_call0_v2, val_main_call0_v4, val_main_call0_cst, val_main_call0_cst_0]
  unfold gated
  rw [sub_eq_add_neg, zero_add]

theorem v52_apply (b : Fin 8) (p : Fin 2048) (d : Fin 1024) :
    val_main_v52 (F := Ideal) x0 x1 x2 x3 x4 x5 (ix3 b p d)
      = ∑ K : Fin 2816, val_main_v50 (F := Ideal) x0 x1 x2 x3 x4 (ix3 b p K) * x5 (ix2 K d) := by
  unfold val_main_v52
  generalize val_main_v50 (F := Ideal) x0 x1 x2 x3 x4 = g
  pointwise [val_main_v51]

theorem v69_apply (n : Fin 16384) (d : Fin 1024) :
    val_main_v69 (F := Ideal) x0 x1 x2 x3 x4 x5 (ix2 n d)
      = x0 (ix2 n d) + normed (fun e => val_main_v52 (F := Ideal) x0 x1 x2 x3 x4 x5
          (ix3 ⟨n.val / 2048, by omega⟩ ⟨n.val % 2048, by omega⟩ e)) (x2 (ix2 1 d)) d := by
  unfold val_main_v69 val_main_v68 val_main_v67 val_main_v64 val_main_v63 val_main_v62 val_main_v61 val_main_v59 val_main_v57 val_main_v56 val_main_v55
  generalize val_main_v52 (F := Ideal) x0 x1 x2 x3 x4 x5 = g
  pointwise [val_main_v66, val_main_v65, val_main_v54, val_main_v53, val_main_v60, val_main_v58, val_main_cst_2, val_main_cst_3, val_main_cst_4, val_main_v0]
  rfl

theorem v71_apply (n : Fin 64) (K : Fin 5632) :
    val_main_v71 (F := Ideal) x0 x2 x3 (ix2 n K)
      = val_main_v19 (F := Ideal) x0 x2 x3 (ix3 ⟨n.val / 8, by omega⟩ ⟨2040 + n.val % 8, by omega⟩ K) := by
  unfold val_main_v71 val_main_v70
  generalize val_main_v19 (F := Ideal) x0 x2 x3 = g
  pointwise

end Cert.FfnReferenceIdeal.Ffn

end
-- ==== Proof.FfnClaim.lean ====
/-
  The feed-forward kernel against its reference over whole arrays: the blocks the grid points read and write, what a point
  leaves for the next, and the two runs with the same results.
-/
module

public import proofs.«01_k».proof.Defs
public import proofs.«01_k».proof.Proof.FfnValue
public import proofs.«01_k».proof.Proof.FfnRef
public import proofs.«01_k».proof.Proof.Gen.Ffn.Frame
public import proofs.«01_k».proof.Proof.Gen.FfnIdeal.Value
public import proofs.«01_k».proof.Proof.Gen.FfnReferenceIdeal.Run
public import Idealize.ShloMosaic.Lib.Pipeline.ValueKit

@[expose] public section

set_option maxRecDepth 16384

noncomputable section

namespace Cert.FfnIdeal.Ffn

open Cert.FfnIdeal Cert.FfnIdeal.Gen Idealize.ShloMosaic Idealize.ShloMosaic.TcCoe Idealize.SL.Sem
open Idealize.ShloMosaic.Pipeline (Dat)
open Cert.FfnReferenceIdeal.Ffn (at_)
open Cert.FfnReferenceIdeal.Read

/-- Where point `t` finds its rows. -/
theorem where0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- Where point `t` finds its rows before. -/
theorem where1 : ∀ t : Fin cfg0.N, win0_1.index t ⟨0, by decide⟩ = t.val / 4 ∧ win0_1.index t ⟨1, by decide⟩ = 0 :=
  (by decide +kernel : ∀ t : Fin grid0.N, win0_1.index t ⟨0, by decide⟩ = t.val / 4 ∧ win0_1.index t ⟨1, by decide⟩ = 0)
/-- Where point `t` finds its norm weights. -/
theorem where2 : ∀ t : Fin cfg0.N, win0_2.index t ⟨0, by decide⟩ = 0 ∧ win0_2.index t ⟨1, by decide⟩ = 0 :=
  (by decide +kernel : ∀ t : Fin grid0.N, win0_2.index t ⟨0, by decide⟩ = 0 ∧ win0_2.index t ⟨1, by decide⟩ = 0)
/-- Where point `t` finds its up weights. -/
theorem where3 : ∀ t : Fin cfg0.N, win0_3.index t ⟨0, by decide⟩ = 0 ∧ win0_3.index t ⟨1, by decide⟩ = 0 :=
  (by decide +kernel : ∀ t : Fin grid0.N, win0_3.index t ⟨0, by decide⟩ = 0 ∧ win0_3.index t ⟨1, by decide⟩ = 0)
/-- Where point `t` finds its convolution weights. -/
theorem where4 : ∀ t : Fin cfg0.N, win0_4.index t ⟨0, by decide⟩ = 0 ∧ win0_4.index t ⟨1, by decide⟩ = 0 :=
  (by decide +kernel : ∀ t : Fin grid0.N, win0_4.index t ⟨0, by decide⟩ = 0 ∧ win0_4.index t ⟨1, by decide⟩ = 0)
/-- Where point `t` finds its down weights. -/
theorem where5 : ∀ t : Fin cfg0.N, win0_5.index t ⟨0, by decide⟩ = 0 ∧ win0_5.index t ⟨1, by decide⟩ = 0 :=
  (by decide +kernel : ∀ t : Fin grid0.N, win0_5.index t ⟨0, by decide⟩ = 0 ∧ win0_5.index t ⟨1, by decide⟩ = 0)
/-- Where point `t` finds its output rows. -/
theorem where6 : ∀ t : Fin cfg0.N, win0_6.index t ⟨0, by decide⟩ = t.val ∧ win0_6.index t ⟨1, by decide⟩ = 0 :=
  (by decide +kernel : ∀ t : Fin grid0.N, win0_6.index t ⟨0, by decide⟩ = t.val ∧ win0_6.index t ⟨1, by decide⟩ = 0)
/-- Where point `t` finds its last rows. -/
theorem where7 : ∀ t : Fin cfg0.N, win0_7.index t ⟨0, by decide⟩ = t.val / 4 ∧ win0_7.index t ⟨1, by decide⟩ = 0 :=
  (by decide +kernel : ∀ t : Fin grid0.N, win0_7.index t ⟨0, by decide⟩ = t.val / 4 ∧ win0_7.index t ⟨1, by decide⟩ = 0)
theorem lt_N : ∀ t : Fin cfg0.N, t.val < 32 := (by decide +kernel : ∀ t : Fin grid0.N, t.val < 32)

/-- The sequence of point `t`. -/
def seq (t : Fin cfg0.N) : Fin 8 := ⟨t.val / 4, by have := lt_N t; omega⟩
/-- The position in its sequence of row `r` of point `t`. -/
def pos (t : Fin cfg0.N) (r : Fin 512) : Fin 2048 := ⟨512 * (t.val % 4) + r.val, by omega⟩

variable (m : (ℓ : Loc nD τ sig) → Buf (Elt Ideal) ℓ) (c : Dev nD)

/-- The rows, as an array. -/
abbrev a0 := m ((c.tc : Thread nD τ).loc main_arg0)
/-- The rows before, as an array. -/
abbrev a1 := m ((c.tc : Thread nD τ).loc main_arg1)
/-- The norm weights, as an array. -/
abbrev a2 := m ((c.tc : Thread nD τ).loc main_arg2)
/-- The up weights, as an array. -/
abbrev a3 := m ((c.tc : Thread nD τ).loc main_arg3)
/-- The convolution weights, as an array. -/
abbrev a4 := m ((c.tc : Thread nD τ).loc main_arg4)
/-- The down weights, as an array. -/
abbrev a5 := m ((c.tc : Thread nD τ).loc main_arg5)

theorem iblk_0 (t : Fin cfg0.N) (r : Fin 512) (l : Fin 1024) : iblk m c 0 t (ix2 r l) = a0 m c (ix2 (at_ (seq t) (pos t r)) l) := by
  have e := where0 t
  refine congrArg (a0 m c) (funext fun a => Fin.ext ?_)
  match a with
  | ⟨0, _⟩ =>
    show win0_0.index t ⟨0, by decide⟩ * 512 + 1 * r.val = t.val / 4 * 2048 + (512 * (t.val % 4) + r.val)
    rw [e.1]; omega
  | ⟨1, _⟩ =>
    show win0_0.index t ⟨1, by decide⟩ * 1024 + 1 * l.val = l.val
    rw [e.2]; omega

theorem iblk_1 (t : Fin cfg0.N) (r : Fin 8) (l : Fin 5632) : iblk m c 1 t (ix2 r l) = a1 m c (ix2 ⟨8 * (t.val / 4) + r.val, by have := lt_N t; omega⟩ l) := by
  have e := where1 t
  refine congrArg (a1 m c) (funext fun a => Fin.ext ?_)
  match a with
  | ⟨0, _⟩ =>
    show win0_1.index t ⟨0, by decide⟩ * 8 + 1 * r.val = 8 * (t.val / 4) + r.val
    rw [e.1]; omega
  | ⟨1, _⟩ =>
    show win0_1.index t ⟨1, by decide⟩ * 5632 + 1 * l.val = l.val
    rw [e.2]; omega

theorem iblk_2 (t : Fin cfg0.N) (r : Fin 8) (l : Fin 1024) : iblk m c 2 t (ix2 r l) = a2 m c (ix2 r l) := by
  have e := where2 t
  refine congrArg (a2 m c) (funext fun a => Fin.ext ?_)
  match a with
  | ⟨0, _⟩ =>
    show win0_2.index t ⟨0, by decide⟩ * 8 + 1 * r.val = r.val
    rw [e.1]; omega
  | ⟨1, _⟩ =>
    show win0_2.index t ⟨1, by decide⟩ * 1024 + 1 * l.val = l.val
    rw [e.2]; omega

theorem iblk_3 (t : Fin cfg0.N) (r : Fin 1024) (l : Fin 5632) : iblk m c 3 t (ix2 r l) = a3 m c (ix2 r l) := by
  have e := where3 t
  refine congrArg (a3 m c) (funext fun a => Fin.ext ?_)
  match a with
  | ⟨0, _⟩ =>
    show win0_3.index t ⟨0, by decide⟩ * 1024 + 1 * r.val = r.val
    rw [e.1]; omega
  | ⟨1, _⟩ =>
    show win0_3.index t ⟨1, by decide⟩ * 5632 + 1 * l.val = l.val
    rw [e.2]; omega

theorem iblk_4 (t : Fin cfg0.N) (r : Fin 8) (l : Fin 5632) : iblk m c 4 t (ix2 r l) = a4 m c (ix2 r l) := by
  have e := where4 t
  refine congrArg (a4 m c) (funext fun a => Fin.ext ?_)
  match a with
  | ⟨0, _⟩ =>
    show win0_4.index t ⟨0, by decide⟩ * 8 + 1 * r.val = r.val
    rw [e.1]; omega
  | ⟨1, _⟩ =>
    show win0_4.index t ⟨1, by decide⟩ * 5632 + 1 * l.val = l.val
    rw [e.2]; omega

theorem iblk_5 (t : Fin cfg0.N) (r : Fin 2816) (l : Fin 1024) : iblk m c 5 t (ix2 r l) = a5 m c (ix2 r l) := by
  have e := where5 t
  refine congrArg (a5 m c) (funext fun a => Fin.ext ?_)
  match a with
  | ⟨0, _⟩ =>
    show win0_5.index t ⟨0, by decide⟩ * 2816 + 1 * r.val = r.val
    rw [e.1]; omega
  | ⟨1, _⟩ =>
    show win0_5.index t ⟨1, by decide⟩ * 1024 + 1 * l.val = l.val
    rw [e.2]; omega

/-- The block of an array of output rows that point `t` writes, entry by entry. -/
theorem read_6 (G : Buf (Elt Ideal) ((c.tc : Thread nD τ).loc main_v0_0)) (t : Fin cfg0.N) (r : Fin 512) (l : Fin 1024) :
    ((cfg0.win 6).blk t).view.read (Elt Ideal) G (ix2 r l) = G (ix2 (at_ (seq t) (pos t r)) l) := by
  have e := where6 t
  show G _ = _
  refine congrArg G (funext fun a => Fin.ext ?_)
  match a with
  | ⟨0, _⟩ =>
    show win0_6.index t ⟨0, by decide⟩ * 512 + 1 * r.val = t.val / 4 * 2048 + (512 * (t.val % 4) + r.val)
    rw [e.1]; omega
  | ⟨1, _⟩ =>
    show win0_6.index t ⟨1, by decide⟩ * 1024 + 1 * l.val = l.val
    rw [e.2]; omega

/-- The block of an array of last rows that point `t` writes, entry by entry. -/
theorem read_7 (G : Buf (Elt Ideal) ((c.tc : Thread nD τ).loc main_v0_1)) (t : Fin cfg0.N) (r : Fin 8) (l : Fin 5632) :
    ((cfg0.win 7).blk t).view.read (Elt Ideal) G (ix2 r l) = G (ix2 ⟨8 * (t.val / 4) + r.val, by have := lt_N t; omega⟩ l) := by
  have e := where7 t
  show G _ = _
  refine congrArg G (funext fun a => Fin.ext ?_)
  match a with
  | ⟨0, _⟩ =>
    show win0_7.index t ⟨0, by decide⟩ * 8 + 1 * r.val = 8 * (t.val / 4) + r.val
    rw [e.1]; omega
  | ⟨1, _⟩ =>
    show win0_7.index t ⟨1, by decide⟩ * 5632 + 1 * l.val = l.val
    rw [e.2]; omega

/-- The normalised rows of point `t`. -/
abbrev hidden (t : Fin cfg0.N) : FVec Ideal S512x1024 .bf16 := hid (F := Ideal) (iblk m c 0 t) (iblk m c 2 t)

theorem hidden_eq (t : Fin cfg0.N) (r : Fin 512) (d : Fin 1024) :
    hidden m c t (ix2 r d) = val_main_v17 (F := Ideal) (a0 m c) (a2 m c) (ix3 (seq t) (pos t r) d) := by
  rw [Cert.FfnReferenceIdeal.Ffn.v17_apply]
  refine (hid_apply (iblk m c 0 t) (iblk m c 2 t) r d).trans ?_
  simp only [iblk_0, iblk_2]

theorem up_eq (t : Fin cfg0.N) (k : Fin 22) (r : Fin 512) (j : Fin 256) :
    up (hidden m c t) (iblk m c 3 t) k (ix2 r j)
      = val_main_v19 (F := Ideal) (a0 m c) (a2 m c) (a3 m c) (ix3 (seq t) (pos t r) (col k j)) := by
  rw [Cert.FfnReferenceIdeal.Ffn.v19_apply]
  refine (up_apply (hidden m c t) (iblk m c 3 t) k r j).trans (Finset.sum_congr rfl fun d _ => ?_)
  rw [hidden_eq, iblk_3]

theorem tails_eq (t : Fin cfg0.N) (q : Fin 8) (K : Fin 5632) :
    tails (hidden m c t) (iblk m c 3 t) (ix2 q K)
      = val_main_v19 (F := Ideal) (a0 m c) (a2 m c) (a3 m c) (ix3 (seq t) (pos t ⟨504 + q.val, by omega⟩) K) := by
  rw [Cert.FfnReferenceIdeal.Ffn.v19_apply]
  refine (tails_apply (hidden m c t) (iblk m c 3 t) q K).trans (Finset.sum_congr rfl fun d _ => ?_)
  rw [hidden_eq, iblk_3]

/-- What point `t` leaves for the next: the last eight rows of its up projection. -/
theorem carried_eq (t : Fin cfg0.N) : (outsAt0 m c t.val t.isLt).2.2 = tails (hidden m c t) (iblk m c 3 t) := by
  by_cases h0 : t.val % 4 = 0
  · rw [outsAt0_A m c t h0]
    dsimp only
    rw [carry_A]
  · rw [outsAt0_B m c t h0]
    dsimp only
    rw [carry_B]

/-- What point `t` writes back of the last rows. -/
theorem last_eq (t : Fin cfg0.N) : (outsAt0 m c t.val t.isLt).2.1 = tails (hidden m c t) (iblk m c 3 t) := by
  by_cases h0 : t.val % 4 = 0
  · rw [outsAt0_A m c t h0]
    dsimp only
    rw [st_A]
  · rw [outsAt0_B m c t h0]
    dsimp only
    rw [st_B]

/-- The eight rows before point `t`: the caller's at the first point of a sequence, else what the point before left. -/
def prior (t : Fin cfg0.N) : Vec Ideal S8x5632 .f32 :=
  if t.val % 4 = 0 then k0_pay3 (F := Ideal) (iblk m c 1 t)
  else (outsAt0 m c (t.val - 1) (Nat.lt_of_le_of_lt (Nat.sub_le _ _) t.isLt)).2.2

theorem out_eq (t : Fin cfg0.N) : (outsAt0 m c t.val t.isLt).1
    = out (F := Ideal) (iblk m c 0 t) (prior m c t) (iblk m c 2 t) (iblk m c 3 t) (iblk m c 4 t) (iblk m c 5 t) := by
  unfold prior
  by_cases h0 : t.val % 4 = 0
  · rw [outsAt0_A m c t h0, if_pos h0]
    dsimp only
    rw [out_A]
  · rw [outsAt0_B m c t h0, if_neg h0]
    dsimp only
    rw [out_B]

/-- The row `s` above a row of point `t` is the row `s` above it in its sequence. -/
theorem above_eq (t : Fin cfg0.N) (k : Fin 22) (s : ℕ) (hs : s ≤ 8) (r : Fin 512) (j : Fin 256) :
    above (up (hidden m c t) (iblk m c 3 t) k) (prior m c t) k s r j
      = Cert.FfnReferenceIdeal.Ffn.above (a1 m c) (val_main_v19 (F := Ideal) (a0 m c) (a2 m c) (a3 m c)) (seq t) s (pos t r) (col k j) := by
  have hN := lt_N t
  unfold above Cert.FfnReferenceIdeal.Ffn.above
  by_cases hr : r.val < s
  · rw [dif_pos ⟨hr, hs⟩]
    unfold prior
    by_cases h0 : t.val % 4 = 0
    · have hp : (pos t r).val < s := by show 512 * (t.val % 4) + r.val < s; omega
      rw [if_pos h0, dif_pos ⟨hp, hs⟩]
      refine (pay3_apply (iblk m c 1 t) _ _).trans ((iblk_1 m c t _ _).trans ?_)
      refine congrArg (a1 m c) (congrArg₂ ix2 (Fin.ext ?_) rfl)
      show 8 * (t.val / 4) + (r.val + 8 - s) = t.val / 4 * 8 + (512 * (t.val % 4) + r.val + 8 - s)
      omega
    · have hp : ¬ (pos t r).val < s := by show ¬ 512 * (t.val % 4) + r.val < s; omega
      rw [if_neg h0, dif_neg (fun e => hp e.1)]
      have ht : t.val - 1 < cfg0.N := Nat.lt_of_le_of_lt (Nat.sub_le _ _) t.isLt
      refine (congrFun (carried_eq m c ⟨t.val - 1, ht⟩) _).trans ((tails_eq m c ⟨t.val - 1, ht⟩ _ _).trans ?_)
      refine congrArg _ ?_
      have e1 : seq ⟨t.val - 1, ht⟩ = seq t := Fin.ext (by show (t.val - 1) / 4 = t.val / 4; omega)
      rw [e1]
      refine congrArg (fun q => ix3 (seq t) q (col k j)) (Fin.ext ?_)
      show 512 * ((t.val - 1) % 4) + (504 + (r.val + 8 - s)) = 512 * (t.val % 4) + r.val - s
      omega
  · have hp : ¬ (pos t r).val < s := by show ¬ 512 * (t.val % 4) + r.val < s; omega
    rw [dif_neg (fun e => hr e.1), dif_neg (fun e => hp e.1), up_eq]
    refine congrArg _ (congrArg (fun q => ix3 (seq t) q (col k j)) (Fin.ext ?_))
    show 512 * (t.val % 4) + (r.val - s) = 512 * (t.val % 4) + r.val - s
    omega

theorem mix_eq (t : Fin cfg0.N) (k : Fin 22) (r : Fin 512) (j : Fin 256) :
    mix (hidden m c t) (prior m c t) (iblk m c 3 t) (iblk m c 4 t) k (ix2 r j)
      = val_main_v46 (F := Ideal) (a0 m c) (a1 m c) (a2 m c) (a3 m c) (a4 m c) (ix3 (seq t) (pos t r) (col k j)) := by
  rw [Cert.FfnReferenceIdeal.Ffn.v46_apply]
  refine (mix_apply (hidden m c t) (prior m c t) (iblk m c 3 t) (iblk m c 4 t) k r j).trans ?_
  rw [above_eq m c t k 2 (by decide), above_eq m c t k 1 (by decide), up_eq, iblk_4, iblk_4, iblk_4, iblk_4]

theorem acc_eq (t : Fin cfg0.N) (r : Fin 512) (d : Fin 1024) :
    acc (hidden m c t) (prior m c t) (iblk m c 3 t) (iblk m c 4 t) (iblk m c 5 t) (ix2 r d)
      = val_main_v52 (F := Ideal) (a0 m c) (a1 m c) (a2 m c) (a3 m c) (a4 m c) (a5 m c) (ix3 (seq t) (pos t r) d) := by
  rw [Cert.FfnReferenceIdeal.Ffn.v52_apply]
  refine (acc_apply (hidden m c t) (prior m c t) (iblk m c 3 t) (iblk m c 4 t) (iblk m c 5 t) r d).trans ?_
  refine (Finset.sum_congr rfl fun k _ =>
    contrib_apply (hidden m c t) (prior m c t) (iblk m c 3 t) (iblk m c 4 t) (iblk m c 5 t) k r d).trans ?_
  refine Fin.sum_mul_add_congr (f := fun K : Fin 2816 =>
    val_main_v50 (F := Ideal) (a0 m c) (a1 m c) (a2 m c) (a3 m c) (a4 m c) (ix3 (seq t) (pos t r) K) * a5 m c (ix2 K d)) (fun k j hl => ?_)
  dsimp only
  rw [Cert.FfnReferenceIdeal.Ffn.v50_apply, mix_eq, mix_eq, iblk_5]
  have e1 : col ⟨k.val, by omega⟩ j = ⟨k.val * 256 + j.val, by omega⟩ := Fin.ext (by show 256 * k.val + j.val = k.val * 256 + j.val; omega)
  have e2 : col ⟨k.val + 11, by omega⟩ j = ⟨2816 + (k.val * 256 + j.val), by omega⟩ :=
    Fin.ext (by show 256 * (k.val + 11) + j.val = 2816 + (k.val * 256 + j.val); omega)
  have e3 : (⟨256 * k.val + j.val, by omega⟩ : Fin 2816) = ⟨k.val * 256 + j.val, hl⟩ :=
    Fin.ext (by show 256 * k.val + j.val = k.val * 256 + j.val; omega)
  rw [e1, e2, e3]

/-- The reference's results on the kernel's arguments. -/
abbrev expected : Buf (Elt Ideal) ((c.tc : Thread nD τ).loc main_v0_0) :=
  val_main_v69 (F := Ideal) (a0 m c) (a1 m c) (a2 m c) (a3 m c) (a4 m c) (a5 m c)
abbrev expectedLast : Buf (Elt Ideal) ((c.tc : Thread nD τ).loc main_v0_1) :=
  val_main_v71 (F := Ideal) (a0 m c) (a2 m c) (a3 m c)

/-- Point `t` writes back its block of the reference's first result. -/
theorem flushed_eq (t : Fin cfg0.N) : (dats m 0 c).flushed 6 t = ((cfg0.win 6).blk t).view.read (Elt Ideal) (expected m c) := by
  have hN := lt_N t
  rw [Cert.FfnIdeal.Value.flushed6, out_eq]
  funext x
  obtain ⟨r, d, rfl⟩ : ∃ (r : Fin 512) (d : Fin 1024), x = ix2 r d := ⟨x 0, x 1, eq_ix2 x⟩
  rw [read_6]
  unfold expected
  rw [Cert.FfnReferenceIdeal.Ffn.v69_apply]
  refine (out_apply (iblk m c 0 t) (prior m c t) (iblk m c 2 t) (iblk m c 3 t) (iblk m c 4 t) (iblk m c 5 t) r d).trans ?_
  have e1 : (⟨(at_ (seq t) (pos t r)).val / 2048, by omega⟩ : Fin 8) = seq t :=
    Fin.ext (by show (t.val / 4 * 2048 + (512 * (t.val % 4) + r.val)) / 2048 = t.val / 4; omega)
  have e2 : (⟨(at_ (seq t) (pos t r)).val % 2048, by omega⟩ : Fin 2048) = pos t r :=
    Fin.ext (by show (t.val / 4 * 2048 + (512 * (t.val % 4) + r.val)) % 2048 = 512 * (t.val % 4) + r.val; omega)
  rw [e1, e2, iblk_0, iblk_2]
  refine congrArg (fun f => _ + Cert.Row.normed f _ d) (funext fun e => acc_eq m c t r e)

/-- The last point of a sequence writes back its block of the reference's second result. -/
theorem flushedLast_eq (t : Fin cfg0.N) (ht : t.val % 4 = 3) :
    (dats m 0 c).flushed 7 t = ((cfg0.win 7).blk t).view.read (Elt Ideal) (expectedLast m c) := by
  have hN := lt_N t
  rw [Cert.FfnIdeal.Value.flushed7, last_eq]
  funext x
  obtain ⟨q, K, rfl⟩ : ∃ (q : Fin 8) (K : Fin 5632), x = ix2 q K := ⟨x 0, x 1, eq_ix2 x⟩
  rw [read_7]
  unfold expectedLast
  rw [Cert.FfnReferenceIdeal.Ffn.v71_apply]
  refine (tails_eq m c t q K).trans ?_
  have e1 : (⟨(8 * (t.val / 4) + q.val) / 8, by omega⟩ : Fin 8) = seq t :=
    Fin.ext (by show (8 * (t.val / 4) + q.val) / 8 = t.val / 4; omega)
  have e2 : (⟨2040 + (8 * (t.val / 4) + q.val) % 8, by omega⟩ : Fin 2048) = pos t ⟨504 + q.val, by omega⟩ :=
    Fin.ext (by show 2040 + (8 * (t.val / 4) + q.val) % 8 = 512 * (t.val % 4) + (504 + q.val); omega)
  dsimp only
  rw [e1, e2]

theorem cover (i : S16384x1024.Idx) : ∃ t : Fin cfg0.N, (cfg0.win 6).flush t = true ∧ i ∈ ((cfg0.win 6).blk t).view.set := by
  obtain ⟨n, l, rfl⟩ : ∃ (n : Fin 16384) (l : Fin 1024), i = ix2 n l := ⟨i 0, i 1, eq_ix2 i⟩
  have hlt : n.val / 512 < cfg0.N := lt_of_lt_of_eq (show n.val / 512 < 32 by omega) (by decide +kernel : 32 = grid0.N)
  have e := where6 ⟨n.val / 512, hlt⟩
  refine ⟨⟨n.val / 512, hlt⟩, flush0_6 _, ?_⟩
  refine Finset.mem_map.mpr ⟨ix2 (⟨n.val % 512, by omega⟩ : Fin 512) l, Finset.mem_univ _, funext fun a => Fin.ext ?_⟩
  match a with
  | ⟨0, _⟩ =>
    show win0_6.index ⟨n.val / 512, hlt⟩ ⟨0, by decide⟩ * 512 + 1 * (n.val % 512) = n.val
    rw [e.1]; show n.val / 512 * 512 + 1 * (n.val % 512) = n.val; omega
  | ⟨1, _⟩ =>
    show win0_6.index ⟨n.val / 512, hlt⟩ ⟨1, by decide⟩ * 1024 + 1 * l.val = l.val
    rw [e.2]; omega

theorem coverLast (i : S64x5632.Idx) : ∃ t : Fin cfg0.N, (cfg0.win 7).flush t = true ∧ i ∈ ((cfg0.win 7).blk t).view.set := by
  obtain ⟨n, l, rfl⟩ : ∃ (n : Fin 64) (l : Fin 5632), i = ix2 n l := ⟨i 0, i 1, eq_ix2 i⟩
  have hlt : 4 * (n.val / 8) + 3 < cfg0.N := lt_of_lt_of_eq (show 4 * (n.val / 8) + 3 < 32 by omega) (by decide +kernel : 32 = grid0.N)
  have e := where7 ⟨4 * (n.val / 8) + 3, hlt⟩
  refine ⟨⟨4 * (n.val / 8) + 3, hlt⟩, (flush0_7 _).mpr (by show (4 * (n.val / 8) + 3) % 4 = 3; omega), ?_⟩
  refine Finset.mem_map.mpr ⟨ix2 (⟨n.val % 8, by omega⟩ : Fin 8) l, Finset.mem_univ _, funext fun a => Fin.ext ?_⟩
  match a with
  | ⟨0, _⟩ =>
    show win0_7.index ⟨4 * (n.val / 8) + 3, hlt⟩ ⟨0, by decide⟩ * 8 + 1 * (n.val % 8) = n.val
    rw [e.1]; show (4 * (n.val / 8) + 3) / 4 * 8 + 1 * (n.val % 8) = n.val; omega
  | ⟨1, _⟩ =>
    show win0_7.index ⟨4 * (n.val / 8) + 3, hlt⟩ ⟨1, by decide⟩ * 5632 + 1 * l.val = l.val
    rw [e.2]; omega

/-- The kernel's output arrays after its run are the reference's results. -/
theorem result_eq : (dats m 0 c).arrAt 6 cfg0.N = expected m c :=
  (dats m 0 c).arrAt_eq_of_cover 6 (expected m c) (fun t _ => flushed_eq m c t) (fun i => cover i)
theorem resultLast_eq : (dats m 0 c).arrAt 7 cfg0.N = expectedLast m c :=
  (dats m 0 c).arrAt_eq_of_cover 7 (expectedLast m c) (fun t ht => flushedLast_eq m c t ((flush0_7 t).mp ht)) (fun i => coverLast i)

/-- The value claim: at every argument, kernel and reference both run and end with the same two results. -/
theorem algebraic : Cert.algebraic_FfnIdeal_FfnReferenceIdeal (hFfnIdeal := Cert.FfnIdeal.Gen.facts)
    (hFfnReferenceIdeal := Cert.FfnReferenceIdeal.Gen.facts) := by
  intro m g m' g' _ hargs
  refine ⟨fun c => expected m c, fun c => expectedLast m c, ?_, ?_⟩
  · refine (θ_run _ _ _).mono (fun r h c => ?_) (Cert.FfnIdeal.Value.run_blocks m g)
    obtain ⟨h6, h7, hk⟩ := h c
    exact ⟨h6.trans (result_eq m c), h7.trans (resultLast_eq m c), hk⟩
  · refine (θ_run _ _ _).mono (fun r h c => ?_) (Cert.FfnReferenceIdeal.Value.run m' g')
    obtain ⟨h6, h7, hk⟩ := h c
    obtain ⟨e0, e1, e2, e3, e4, e5⟩ := hargs c
    refine ⟨h6.trans ?_, h7.trans ?_, hk⟩
    · rw [val_main_v69_eq, e0, e1, e2, e3, e4, e5]
    · rw [val_main_v71_eq, e0, e2, e3]

end Cert.FfnIdeal.Ffn

end
-- ==== Proof.OutClaim.lean ====
/-
  The output projections of the recurrent layers against their references.
-/
module

public import proofs.«01_k».proof.Defs
public import proofs.«01_k».proof.Proof.FfnRow
public import proofs.«01_k».proof.Proof.Gen.RwkvOut.Frame
public import proofs.«01_k».proof.Proof.Gen.RwkvOutIdeal.Value
public import proofs.«01_k».proof.Proof.Gen.RwkvOutReferenceIdeal.Run
public import proofs.«01_k».proof.Proof.Gen.RwkvOutReferenceIdeal.Read
public import proofs.«01_k».proof.Proof.Gen.GdnOut.Frame
public import proofs.«01_k».proof.Proof.Gen.GdnOutIdeal.Value
public import proofs.«01_k».proof.Proof.Gen.GdnOutReferenceIdeal.Run
public import proofs.«01_k».proof.Proof.Gen.GdnOutReferenceIdeal.Read
public import Idealize.ShloMosaic.Lib.Pipeline.ValueKit

@[expose] public section

set_option maxRecDepth 16384

noncomputable section

namespace Cert.RwkvOutReferenceIdeal.Out

open Cert.RwkvOutReferenceIdeal Cert.RwkvOutReferenceIdeal.Gen Cert.RwkvOutReferenceIdeal.Read Idealize.ShloMosaic Idealize.ShloMosaic.TcCoe Idealize.SL.Sem
open Cert.Row

theorem ref_apply (x0 : (⟨S16384x1024, .f32⟩ : BufTy).Contents (Elt Ideal))
  (x1 : (⟨S16384x1024, .f32⟩ : BufTy).Contents (Elt Ideal))
  (x2 : (⟨S16384x1024, .f32⟩ : BufTy).Contents (Elt Ideal))
  (x3 : (⟨S1024x1024, .bf16⟩ : BufTy).Contents (Elt Ideal))
  (x4 : (⟨S8x1024, .f32⟩ : BufTy).Contents (Elt Ideal)) (r : Fin 16384) (d : Fin 1024) :
    val_main_v18 (F := Ideal) x0 x1 x2 x3 x4 (ix2 r d)
      = x0 (ix2 r d) + normed (fun e => ∑ k : Fin 1024, x1 (ix2 r k) * x2 (ix2 r k) * x3 (ix2 k e)) (x4 (ix2 0 d)) d := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.RwkvOutReferenceIdeal.Out

namespace Cert.RwkvOutIdeal.Out

open Cert.RwkvOutIdeal Cert.RwkvOutIdeal.Gen Idealize.ShloMosaic Idealize.ShloMosaic.TcCoe Idealize.SL.Sem
open Idealize.ShloMosaic.Pipeline (Dat)
open Cert.Row Cert.RwkvOutReferenceIdeal.Read

theorem block_apply (x0 : Vec Ideal S512x1024 .f32)
  (x1 : Vec Ideal S512x1024 .f32)
  (x2 : Vec Ideal S512x1024 .f32)
  (x3 : Vec Ideal S1024x1024 .bf16)
  (x4 : Vec Ideal S8x1024 .f32) (r : Fin 512) (d : Fin 1024) :
    out0_5 (F := Ideal) x0 x1 x2 x3 x4 (ix2 r d)
      = x0 (ix2 r d) + normed (fun e => ∑ k : Fin 1024, x1 (ix2 r k) * x2 (ix2 r k) * x3 (ix2 k e)) (x4 (ix2 0 d)) d := by
  frame_out
  pointwise [k0_pay1]
  rfl

theorem where0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
theorem where1 : ∀ t : Fin cfg0.N, win0_1.index t ⟨0, by decide⟩ = t.val ∧ win0_1.index t ⟨1, by decide⟩ = 0 :=
  (by decide +kernel : ∀ t : Fin grid0.N, win0_1.index t ⟨0, by decide⟩ = t.val ∧ win0_1.index t ⟨1, by decide⟩ = 0)
theorem where2 : ∀ t : Fin cfg0.N, win0_2.index t ⟨0, by decide⟩ = t.val ∧ win0_2.index t ⟨1, by decide⟩ = 0 :=
  (by decide +kernel : ∀ t : Fin grid0.N, win0_2.index t ⟨0, by decide⟩ = t.val ∧ win0_2.index t ⟨1, by decide⟩ = 0)
theorem where3 : ∀ t : Fin cfg0.N, win0_3.index t ⟨0, by decide⟩ = 0 ∧ win0_3.index t ⟨1, by decide⟩ = 0 :=
  (by decide +kernel : ∀ t : Fin grid0.N, win0_3.index t ⟨0, by decide⟩ = 0 ∧ win0_3.index t ⟨1, by decide⟩ = 0)
theorem where4 : ∀ t : Fin cfg0.N, win0_4.index t ⟨0, by decide⟩ = 0 ∧ win0_4.index t ⟨1, by decide⟩ = 0 :=
  (by decide +kernel : ∀ t : Fin grid0.N, win0_4.index t ⟨0, by decide⟩ = 0 ∧ win0_4.index t ⟨1, by decide⟩ = 0)
theorem where5 : ∀ t : Fin cfg0.N, win0_5.index t ⟨0, by decide⟩ = t.val ∧ win0_5.index t ⟨1, by decide⟩ = 0 :=
  (by decide +kernel : ∀ t : Fin grid0.N, win0_5.index t ⟨0, by decide⟩ = t.val ∧ win0_5.index t ⟨1, by decide⟩ = 0)
theorem lt_N : ∀ t : Fin cfg0.N, t.val < 32 := (by decide +kernel : ∀ t : Fin grid0.N, t.val < 32)

/-- Row `r` of point `t`. -/
def row (t : Fin cfg0.N) (r : Fin 512) : Fin 16384 := ⟨512 * t.val + r.val, by have := lt_N t; omega⟩

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)

theorem iblk_0 (t : Fin cfg0.N) (r : Fin 512) (l : Fin 1024) : iblk m c 0 t (ix2 r l) = a0 m c (ix2 (row t r) l) := by
  have e := where0 t
  refine congrArg (a0 m c) (funext fun a => Fin.ext ?_)
  match a with
  | ⟨0, _⟩ =>
    show win0_0.index t ⟨0, by decide⟩ * 512 + 1 * r.val = 512 * t.val + r.val
    rw [e.1]; omega
  | ⟨1, _⟩ =>
    show win0_0.index t ⟨1, by decide⟩ * 1024 + 1 * l.val = l.val
    rw [e.2]; omega

theorem iblk_1 (t : Fin cfg0.N) (r : Fin 512) (l : Fin 1024) : iblk m c 1 t (ix2 r l) = a1 m c (ix2 (row t r) l) := by
  have e := where1 t
  refine congrArg (a1 m c) (funext fun a => Fin.ext ?_)
  match a with
  | ⟨0, _⟩ =>
    show win0_1.index t ⟨0, by decide⟩ * 512 + 1 * r.val = 512 * t.val + r.val
    rw [e.1]; omega
  | ⟨1, _⟩ =>
    show win0_1.index t ⟨1, by decide⟩ * 1024 + 1 * l.val = l.val
    rw [e.2]; omega

theorem iblk_2 (t : Fin cfg0.N) (r : Fin 512) (l : Fin 1024) : iblk m c 2 t (ix2 r l) = a2 m c (ix2 (row t r) l) := by
  have e := where2 t
  refine congrArg (a2 m c) (funext fun a => Fin.ext ?_)
  match a with
  | ⟨0, _⟩ =>
    show win0_2.index t ⟨0, by decide⟩ * 512 + 1 * r.val = 512 * t.val + r.val
    rw [e.1]; omega
  | ⟨1, _⟩ =>
    show win0_2.index t ⟨1, by decide⟩ * 1024 + 1 * l.val = l.val
    rw [e.2]; omega

theorem iblk_3 (t : Fin cfg0.N) (r : Fin 1024) (l : Fin 1024) : iblk m c 3 t (ix2 r l) = a3 m c (ix2 r l) := by
  have e := where3 t
  refine congrArg (a3 m c) (funext fun a => Fin.ext ?_)
  match a with
  | ⟨0, _⟩ =>
    show win0_3.index t ⟨0, by decide⟩ * 1024 + 1 * r.val = r.val
    rw [e.1]; omega
  | ⟨1, _⟩ =>
    show win0_3.index t ⟨1, by decide⟩ * 1024 + 1 * l.val = l.val
    rw [e.2]; omega

theorem iblk_4 (t : Fin cfg0.N) (r : Fin 8) (l : Fin 1024) : iblk m c 4 t (ix2 r l) = a4 m c (ix2 r l) := by
  have e := where4 t
  refine congrArg (a4 m c) (funext fun a => Fin.ext ?_)
  match a with
  | ⟨0, _⟩ =>
    show win0_4.index t ⟨0, by decide⟩ * 8 + 1 * r.val = r.val
    rw [e.1]; omega
  | ⟨1, _⟩ =>
    show win0_4.index t ⟨1, by decide⟩ * 1024 + 1 * l.val = l.val
    rw [e.2]; omega

theorem read_o (G : Buf (Elt Ideal) ((c.tc : Thread nD τ).loc main_v0)) (t : Fin cfg0.N) (r : Fin 512) (l : Fin 1024) :
    ((cfg0.win 5).blk t).view.read (Elt Ideal) G (ix2 r l) = G (ix2 (row t r) l) := by
  have e := where5 t
  show G _ = _
  refine congrArg G (funext fun a => Fin.ext ?_)
  match a with
  | ⟨0, _⟩ =>
    show win0_5.index t ⟨0, by decide⟩ * 512 + 1 * r.val = 512 * t.val + r.val
    rw [e.1]; omega
  | ⟨1, _⟩ =>
    show win0_5.index t ⟨1, by decide⟩ * 1024 + 1 * l.val = l.val
    rw [e.2]; omega

/-- The reference's result on the kernel's arguments. -/
abbrev expected : Buf (Elt Ideal) ((c.tc : Thread nD τ).loc main_v0) := val_main_v18 (F := Ideal) (a0 m c) (a1 m c) (a2 m c) (a3 m c) (a4 m c)

/-- Point `t` writes back its block of the reference's result. -/
theorem flushed_eq (t : Fin cfg0.N) : (dats m 0 c).flushed 5 t = ((cfg0.win 5).blk t).view.read (Elt Ideal) (expected m c) := by
  rw [Cert.RwkvOutIdeal.Value.flushed5]
  funext x
  obtain ⟨r, d, rfl⟩ : ∃ (r : Fin 512) (d : Fin 1024), x = ix2 r d := ⟨x 0, x 1, eq_ix2 x⟩
  rw [read_o]
  unfold expected
  rw [Cert.RwkvOutReferenceIdeal.Out.ref_apply]
  refine (block_apply (iblk m c 0 t) (iblk m c 1 t) (iblk m c 2 t) (iblk m c 3 t) (iblk m c 4 t) r d).trans ?_
  simp only [iblk_0, iblk_1, iblk_2, iblk_3, iblk_4]

theorem cover (i : S16384x1024.Idx) : ∃ t : Fin cfg0.N, (cfg0.win 5).flush t = true ∧ i ∈ ((cfg0.win 5).blk t).view.set := by
  obtain ⟨n, l, rfl⟩ : ∃ (n : Fin 16384) (l : Fin 1024), i = ix2 n l := ⟨i 0, i 1, eq_ix2 i⟩
  have hlt : n.val / 512 < cfg0.N := lt_of_lt_of_eq (show n.val / 512 < 32 by omega) (by decide +kernel : 32 = grid0.N)
  have e := where5 ⟨n.val / 512, hlt⟩
  refine ⟨⟨n.val / 512, hlt⟩, flush0_5 _, ?_⟩
  refine Finset.mem_map.mpr ⟨ix2 (⟨n.val % 512, by omega⟩ : Fin 512) l, Finset.mem_univ _, funext fun a => Fin.ext ?_⟩
  match a with
  | ⟨0, _⟩ =>
    show win0_5.index ⟨n.val / 512, hlt⟩ ⟨0, by decide⟩ * 512 + 1 * (n.val % 512) = n.val
    rw [e.1]; show n.val / 512 * 512 + 1 * (n.val % 512) = n.val; omega
  | ⟨1, _⟩ =>
    show win0_5.index ⟨n.val / 512, hlt⟩ ⟨1, by decide⟩ * 1024 + 1 * l.val = l.val
    rw [e.2]; omega

theorem result_eq : (dats m 0 c).arrAt 5 cfg0.N = expected m c :=
  (dats m 0 c).arrAt_eq_of_cover 5 (expected m c) (fun t _ => flushed_eq m c t) (fun i => cover i)

/-- The value claim: at every argument, kernel and reference both run and end with the same result. -/
theorem algebraic : Cert.algebraic_RwkvOutIdeal_RwkvOutReferenceIdeal (hRwkvOutIdeal := Cert.RwkvOutIdeal.Gen.facts)
    (hRwkvOutReferenceIdeal := Cert.RwkvOutReferenceIdeal.Gen.facts) := by
  intro m g m' g' _ hargs
  refine ⟨fun c => expected m c, ?_, ?_⟩
  · refine (θ_run _ _ _).mono (fun r h c => ?_) (Cert.RwkvOutIdeal.Value.run_blocks m g)
    obtain ⟨h0, hk⟩ := h c
    exact ⟨h0.trans (result_eq m c), hk⟩
  · refine (θ_run _ _ _).mono (fun r h c => ?_) (Cert.RwkvOutReferenceIdeal.Value.run m' g')
    obtain ⟨h0, hk⟩ := h c
    obtain ⟨e0, e1, e2, e3, e4⟩ := hargs c
    refine ⟨h0.trans ?_, hk⟩
    rw [val_main_v18_eq, e0, e1, e2, e3, e4]

end Cert.RwkvOutIdeal.Out

namespace Cert.GdnOutReferenceIdeal.Out

open Cert.GdnOutReferenceIdeal Cert.GdnOutReferenceIdeal.Gen Cert.GdnOutReferenceIdeal.Read Idealize.ShloMosaic Idealize.ShloMosaic.TcCoe Idealize.SL.Sem
open Cert.Row

theorem ref_apply (x0 : (⟨S16384x1024, .f32⟩ : BufTy).Contents (Elt Ideal))
  (x1 : (⟨S16384x2048, .f32⟩ : BufTy).Contents (Elt Ideal))
  (x2 : (⟨S2048x1024, .bf16⟩ : BufTy).Contents (Elt Ideal))
  (x3 : (⟨S8x1024, .f32⟩ : BufTy).Contents (Elt Ideal)) (r : Fin 16384) (d : Fin 1024) :
    val_main_v17 (F := Ideal) x0 x1 x2 x3 (ix2 r d)
      = x0 (ix2 r d) + normed (fun e => ∑ k : Fin 2048, x1 (ix2 r k) * x2 (ix2 k e)) (x3 (ix2 0 d)) d := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.GdnOutReferenceIdeal.Out

namespace Cert.GdnOutIdeal.Out

open Cert.GdnOutIdeal Cert.GdnOutIdeal.Gen Idealize.ShloMosaic Idealize.ShloMosaic.TcCoe Idealize.SL.Sem
open Idealize.ShloMosaic.Pipeline (Dat)
open Cert.Row Cert.GdnOutReferenceIdeal.Read

theorem block_apply (x0 : Vec Ideal S512x1024 .f32)
  (x1 : Vec Ideal S512x2048 .f32)
  (x2 : Vec Ideal S2048x1024 .bf16)
  (x3 : Vec Ideal S8x1024 .f32) (r : Fin 512) (d : Fin 1024) :
    out0_4 (F := Ideal) x0 x1 x2 x3 (ix2 r d)
      = x0 (ix2 r d) + normed (fun e => ∑ k : Fin 2048, x1 (ix2 r k) * x2 (ix2 k e)) (x3 (ix2 0 d)) d := by
  frame_out
  pointwise [k0_pay1]
  rfl

theorem where0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
theorem where1 : ∀ t : Fin cfg0.N, win0_1.index t ⟨0, by decide⟩ = t.val ∧ win0_1.index t ⟨1, by decide⟩ = 0 :=
  (by decide +kernel : ∀ t : Fin grid0.N, win0_1.index t ⟨0, by decide⟩ = t.val ∧ win0_1.index t ⟨1, by decide⟩ = 0)
theorem where2 : ∀ t : Fin cfg0.N, win0_2.index t ⟨0, by decide⟩ = 0 ∧ win0_2.index t ⟨1, by decide⟩ = 0 :=
  (by decide +kernel : ∀ t : Fin grid0.N, win0_2.index t ⟨0, by decide⟩ = 0 ∧ win0_2.index t ⟨1, by decide⟩ = 0)
theorem where3 : ∀ t : Fin cfg0.N, win0_3.index t ⟨0, by decide⟩ = 0 ∧ win0_3.index t ⟨1, by decide⟩ = 0 :=
  (by decide +kernel : ∀ t : Fin grid0.N, win0_3.index t ⟨0, by decide⟩ = 0 ∧ win0_3.index t ⟨1, by decide⟩ = 0)
theorem where4 : ∀ t : Fin cfg0.N, win0_4.index t ⟨0, by decide⟩ = t.val ∧ win0_4.index t ⟨1, by decide⟩ = 0 :=
  (by decide +kernel : ∀ t : Fin grid0.N, win0_4.index t ⟨0, by decide⟩ = t.val ∧ win0_4.index t ⟨1, by decide⟩ = 0)
theorem lt_N : ∀ t : Fin cfg0.N, t.val < 32 := (by decide +kernel : ∀ t : Fin grid0.N, t.val < 32)

/-- Row `r` of point `t`. -/
def row (t : Fin cfg0.N) (r : Fin 512) : Fin 16384 := ⟨512 * t.val + r.val, by have := lt_N t; omega⟩

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)

theorem iblk_0 (t : Fin cfg0.N) (r : Fin 512) (l : Fin 1024) : iblk m c 0 t (ix2 r l) = a0 m c (ix2 (row t r) l) := by
  have e := where0 t
  refine congrArg (a0 m c) (funext fun a => Fin.ext ?_)
  match a with
  | ⟨0, _⟩ =>
    show win0_0.index t ⟨0, by decide⟩ * 512 + 1 * r.val = 512 * t.val + r.val
    rw [e.1]; omega
  | ⟨1, _⟩ =>
    show win0_0.index t ⟨1, by decide⟩ * 1024 + 1 * l.val = l.val
    rw [e.2]; omega

theorem iblk_1 (t : Fin cfg0.N) (r : Fin 512) (l : Fin 2048) : iblk m c 1 t (ix2 r l) = a1 m c (ix2 (row t r) l) := by
  have e := where1 t
  refine congrArg (a1 m c) (funext fun a => Fin.ext ?_)
  match a with
  | ⟨0, _⟩ =>
    show win0_1.index t ⟨0, by decide⟩ * 512 + 1 * r.val = 512 * t.val + r.val
    rw [e.1]; omega
  | ⟨1, _⟩ =>
    show win0_1.index t ⟨1, by decide⟩ * 2048 + 1 * l.val = l.val
    rw [e.2]; omega

theorem iblk_2 (t : Fin cfg0.N) (r : Fin 2048) (l : Fin 1024) : iblk m c 2 t (ix2 r l) = a2 m c (ix2 r l) := by
  have e := where2 t
  refine congrArg (a2 m c) (funext fun a => Fin.ext ?_)
  match a with
  | ⟨0, _⟩ =>
    show win0_2.index t ⟨0, by decide⟩ * 2048 + 1 * r.val = r.val
    rw [e.1]; omega
  | ⟨1, _⟩ =>
    show win0_2.index t ⟨1, by decide⟩ * 1024 + 1 * l.val = l.val
    rw [e.2]; omega

theorem iblk_3 (t : Fin cfg0.N) (r : Fin 8) (l : Fin 1024) : iblk m c 3 t (ix2 r l) = a3 m c (ix2 r l) := by
  have e := where3 t
  refine congrArg (a3 m c) (funext fun a => Fin.ext ?_)
  match a with
  | ⟨0, _⟩ =>
    show win0_3.index t ⟨0, by decide⟩ * 8 + 1 * r.val = r.val
    rw [e.1]; omega
  | ⟨1, _⟩ =>
    show win0_3.index t ⟨1, by decide⟩ * 1024 + 1 * l.val = l.val
    rw [e.2]; omega

theorem read_o (G : Buf (Elt Ideal) ((c.tc : Thread nD τ).loc main_v0)) (t : Fin cfg0.N) (r : Fin 512) (l : Fin 1024) :
    ((cfg0.win 4).blk t).view.read (Elt Ideal) G (ix2 r l) = G (ix2 (row t r) l) := by
  have e := where4 t
  show G _ = _
  refine congrArg G (funext fun a => Fin.ext ?_)
  match a with
  | ⟨0, _⟩ =>
    show win0_4.index t ⟨0, by decide⟩ * 512 + 1 * r.val = 512 * t.val + r.val
    rw [e.1]; omega
  | ⟨1, _⟩ =>
    show win0_4.index t ⟨1, by decide⟩ * 1024 + 1 * l.val = l.val
    rw [e.2]; omega

/-- The reference's result on the kernel's arguments. -/
abbrev expected : Buf (Elt Ideal) ((c.tc : Thread nD τ).loc main_v0) := val_main_v17 (F := Ideal) (a0 m c) (a1 m c) (a2 m c) (a3 m c)

/-- Point `t` writes back its block of the reference's result. -/
theorem flushed_eq (t : Fin cfg0.N) : (dats m 0 c).flushed 4 t = ((cfg0.win 4).blk t).view.read (Elt Ideal) (expected m c) := by
  rw [Cert.GdnOutIdeal.Value.flushed4]
  funext x
  obtain ⟨r, d, rfl⟩ : ∃ (r : Fin 512) (d : Fin 1024), x = ix2 r d := ⟨x 0, x 1, eq_ix2 x⟩
  rw [read_o]
  unfold expected
  rw [Cert.GdnOutReferenceIdeal.Out.ref_apply]
  refine (block_apply (iblk m c 0 t) (iblk m c 1 t) (iblk m c 2 t) (iblk m c 3 t) r d).trans ?_
  simp only [iblk_0, iblk_1, iblk_2, iblk_3]

theorem cover (i : S16384x1024.Idx) : ∃ t : Fin cfg0.N, (cfg0.win 4).flush t = true ∧ i ∈ ((cfg0.win 4).blk t).view.set := by
  obtain ⟨n, l, rfl⟩ : ∃ (n : Fin 16384) (l : Fin 1024), i = ix2 n l := ⟨i 0, i 1, eq_ix2 i⟩
  have hlt : n.val / 512 < cfg0.N := lt_of_lt_of_eq (show n.val / 512 < 32 by omega) (by decide +kernel : 32 = grid0.N)
  have e := where4 ⟨n.val / 512, hlt⟩
  refine ⟨⟨n.val / 512, hlt⟩, flush0_4 _, ?_⟩
  refine Finset.mem_map.mpr ⟨ix2 (⟨n.val % 512, by omega⟩ : Fin 512) l, Finset.mem_univ _, funext fun a => Fin.ext ?_⟩
  match a with
  | ⟨0, _⟩ =>
    show win0_4.index ⟨n.val / 512, hlt⟩ ⟨0, by decide⟩ * 512 + 1 * (n.val % 512) = n.val
    rw [e.1]; show n.val / 512 * 512 + 1 * (n.val % 512) = n.val; omega
  | ⟨1, _⟩ =>
    show win0_4.index ⟨n.val / 512, hlt⟩ ⟨1, by decide⟩ * 1024 + 1 * l.val = l.val
    rw [e.2]; omega

theorem result_eq : (dats m 0 c).arrAt 4 cfg0.N = expected m c :=
  (dats m 0 c).arrAt_eq_of_cover 4 (expected m c) (fun t _ => flushed_eq m c t) (fun i => cover i)

/-- The value claim: at every argument, kernel and reference both run and end with the same result. -/
theorem algebraic : Cert.algebraic_GdnOutIdeal_GdnOutReferenceIdeal (hGdnOutIdeal := Cert.GdnOutIdeal.Gen.facts)
    (hGdnOutReferenceIdeal := Cert.GdnOutReferenceIdeal.Gen.facts) := by
  intro m g m' g' _ hargs
  refine ⟨fun c => expected m c, ?_, ?_⟩
  · refine (θ_run _ _ _).mono (fun r h c => ?_) (Cert.GdnOutIdeal.Value.run_blocks m g)
    obtain ⟨h0, hk⟩ := h c
    exact ⟨h0.trans (result_eq m c), hk⟩
  · refine (θ_run _ _ _).mono (fun r h c => ?_) (Cert.GdnOutReferenceIdeal.Value.run m' g')
    obtain ⟨h0, hk⟩ := h c
    obtain ⟨e0, e1, e2, e3⟩ := hargs c
    refine ⟨h0.trans ?_, hk⟩
    rw [val_main_v17_eq, e0, e1, e2, e3]

end Cert.GdnOutIdeal.Out

end
-- ==== Proof.GdnProjBlock.lean ====
/-
  What one grid point of the `gdn` input projection leaves: its body, written out eight times over column tiles of width 512,
  as functions of the tile's number.
-/
module

public import proofs.«01_k».proof.Proof.Gen.GdnProjIdeal.Value
public import Idealize.ShloMosaic.Lib.Tactic
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GdnProjIdeal.Proj

open Cert.GdnProjIdeal Cert.GdnProjIdeal.Gen Idealize.ShloMosaic Idealize.ShloMosaic.TcCoe Idealize.SL.Sem

variable {F : FTy → Type} [FloatOps F]

theorem inb_up (k : Fin 8) : ∀ a, (![0, 512 * k.val] : Fin 2 → ℕ) a + S1024x512.size a ≤ S1024x4096.size a := by
  revert k; decide +kernel
theorem inb_row (r : Fin 4) (k : Fin 8) : ∀ a, (![r.val, 512 * k.val] : Fin 2 → ℕ) a + S1x512.size a ≤ S8x4096.size a := by
  revert r k; decide +kernel
theorem inb_prev (k : Fin 8) : ∀ a, (![0, 512 * k.val] : Fin 2 → ℕ) a + S8x512.size a ≤ S8x4096.size a := by
  revert k; decide +kernel
theorem inb_head (j : Fin 4) : S256x512.Slices ![0, 128 * j.val] S256x128 := by
  revert j; decide +kernel

/-- Tile `k` of the projection of a block's rows. -/
def up (h : FVec F S256x1024 .bf16) (x3 : Vec F S1024x4096 .bf16) (k : Fin 8) : FVec F S256x512 .f32 :=
  k0_pay8 h (View.ld x3 (Rect.unit (s := S1024x4096) ![0, 512 * k.val] S1024x512.size (inb_up k)))

/-- Row `r` of the convolution's taps, in tile `k`. -/
def row (x6 : Vec F S8x4096 .f32) (r : Fin 4) (k : Fin 8) : Vec F S1x512 .f32 :=
  View.ld x6 (Rect.unit (s := S8x4096) ![r.val, 512 * k.val] S1x512.size (inb_row r k))

/-- Tile `k` of the eight rows before the block. -/
def before (prev : Vec F S8x4096 .f32) (k : Fin 8) : Vec F S8x512 .f32 :=
  View.ld prev (Rect.unit (s := S8x4096) ![0, 512 * k.val] S8x512.size (inb_prev k))

/-- The convolution of one tile. -/
def conv (u : FVec F S256x512 .f32) (p : Vec F S8x512 .f32) (w3 w2 w1 w0 : Vec F S1x512 .f32) : FVec F S256x512 .f32 :=
  k0_pay16 u p (k0_pay10 u p (mulf (broadcastTo S256x512 w3 broadcasts_S1x512_S256x512) u) w2) w1 (k0_pay11 u) (k0_pay12 p)
    (Scalar.select (Scalar.cmpi .eq 8#32 0#32) 1#32 8#32) k0_pay13 k0_pay14 k0_pay15 w0

/-- Tile `k` of the convolved projection, through silu. -/
def mix (h : FVec F S256x1024 .bf16) (prev : Vec F S8x4096 .f32) (x3 : Vec F S1024x4096 .bf16) (x6 : Vec F S8x4096 .f32)
    (k : Fin 8) : FVec F S256x512 .f32 :=
  k0_pay19 (conv (up h x3 k) (before prev k) (row x6 3 k) (row x6 2 k) (row x6 1 k) (row x6 0 k))

/-- Head `j` of a tile. -/
def head (a : FVec F S256x512 .f32) (j : Fin 4) : FVec F S256x128 .f32 :=
  extractStridedSlice S256x128 ![0, 128 * j.val] a (inb_head j)

/-- A head over its length. -/
def unit (s : FVec F S256x128 .f32) : FVec F S256x128 .f32 :=
  mulf s (broadcastTo S256x128 (rsqrt (addf (shapeCast S256x1
    (multiReduction .add [1] S256 (mulf s s) 0x00000000#32 reduces_S256x128_S256 (.inl rfl) rfl) shapeCasts_S256_S256x1)
    (broadcast S256x1 (Scalar.ofBits .f32 0x358637BD#32)))) broadcasts_S256x1_S256x128)

/-- … and scaled. -/
def scaled (s : FVec F S256x128 .f32) : FVec F S256x128 .f32 :=
  mulf (unit s) (broadcast S256x128 (Scalar.ofBits .f32 0x3DB504F3#32))

/-- The normalised rows of a block, times the norm's weight. -/
def hid (x0 : Vec F S256x1024 .f32) (x2 : Vec F S8x1024 .f32) : FVec F S256x1024 .bf16 :=
  k0_pay3 x0 (View.ld x2 (Rect.unit (s := S8x1024) ![0, 0] S1x1024.size inb_S8x1024_S1x1024_0_0))

section parts

variable (h : FVec F S256x1024 .bf16) (prev : Vec F S8x4096 .f32) (x3 : Vec F S1024x4096 .bf16) (x6 : Vec F S8x4096 .f32)

/-- A block of the queries. -/
def outQ : Vec F S256x1024 .f32 := fun y =>
  scaled (head (mix h prev x3 x6 ⟨(y 1).val / 512, by have : (y 1).val < 1024 := (y 1).isLt; omega⟩) ⟨(y 1).val % 512 / 128, by omega⟩)
    (ix2 (y 0) ⟨(y 1).val % 128, by omega⟩)
/-- A block of the keys. -/
def outK : Vec F S256x1024 .f32 := fun y =>
  unit (head (mix h prev x3 x6 ⟨2 + (y 1).val / 512, by have : (y 1).val < 1024 := (y 1).isLt; omega⟩) ⟨(y 1).val % 512 / 128, by omega⟩)
    (ix2 (y 0) ⟨(y 1).val % 128, by omega⟩)
/-- A block of the values. -/
def outV : Vec F S256x2048 .f32 := fun y =>
  mix h prev x3 x6 ⟨4 + (y 1).val / 512, by have : (y 1).val < 2048 := (y 1).isLt; omega⟩ (ix2 (y 0) ⟨(y 1).val % 512, by omega⟩)

/-- The last eight rows of a block's projection: what the block after it finds as the rows before it. -/
def tails : Vec F S8x4096 .f32 := fun y =>
  up h x3 ⟨(y 1).val / 512, Nat.div_lt_of_lt_mul (y 1).isLt⟩
    (ix2 ⟨248 + (y 0).val, Nat.add_lt_add_left (y 0).isLt 248⟩ ⟨(y 1).val % 512, Nat.mod_lt _ (by omega)⟩)

theorem q_at (k : Fin 2) (j : Fin 4) (x : S256x128.Idx) (y : S256x1024.Idx) (h0 : (y 0 : ℕ) = (x 0 : ℕ))
    (h1 : (y 1 : ℕ) = 512 * k.val + 128 * j.val + (x 1 : ℕ)) :
    scaled (head (mix h prev x3 x6 ⟨k.val, by omega⟩) j) x = outQ h prev x3 x6 y := by
  have hx : (x 1 : ℕ) < 128 := (x 1).isLt
  unfold outQ
  have e : (⟨k.val, by omega⟩ : Fin 8) = ⟨(y 1).val / 512, by have : (y 1).val < 1024 := (y 1).isLt; omega⟩ :=
    Fin.ext (by show k.val = (y 1 : ℕ) / 512; omega)
  have ej : j = ⟨(y 1).val % 512 / 128, by omega⟩ := Fin.ext (by show j.val = (y 1 : ℕ) % 512 / 128; omega)
  rw [← e, ← ej]
  refine congrArg _ (funext fun a => Fin.ext ?_)
  match a with
  | ⟨0, _⟩ => exact h0.symm
  | ⟨1, _⟩ => show (x 1 : ℕ) = (y 1 : ℕ) % 128; omega

theorem k_at (k : Fin 2) (j : Fin 4) (x : S256x128.Idx) (y : S256x1024.Idx) (h0 : (y 0 : ℕ) = (x 0 : ℕ))
    (h1 : (y 1 : ℕ) = 512 * k.val + 128 * j.val + (x 1 : ℕ)) :
    unit (head (mix h prev x3 x6 ⟨2 + k.val, by omega⟩) j) x = outK h prev x3 x6 y := by
  have hx : (x 1 : ℕ) < 128 := (x 1).isLt
  unfold outK
  have e : (⟨2 + k.val, by omega⟩ : Fin 8) = ⟨2 + (y 1).val / 512, by have : (y 1).val < 1024 := (y 1).isLt; omega⟩ :=
    Fin.ext (by show 2 + k.val = 2 + (y 1 : ℕ) / 512; omega)
  have ej : j = ⟨(y 1).val % 512 / 128, by omega⟩ := Fin.ext (by show j.val = (y 1 : ℕ) % 512 / 128; omega)
  rw [← e, ← ej]
  refine congrArg _ (funext fun a => Fin.ext ?_)
  match a with
  | ⟨0, _⟩ => exact h0.symm
  | ⟨1, _⟩ => show (x 1 : ℕ) = (y 1 : ℕ) % 128; omega

theorem v_at (k : Fin 4) (x : S256x512.Idx) (y : S256x2048.Idx) (h0 : (y 0 : ℕ) = (x 0 : ℕ))
    (h1 : (y 1 : ℕ) = 512 * k.val + (x 1 : ℕ)) :
    mix h prev x3 x6 ⟨4 + k.val, by omega⟩ x = outV h prev x3 x6 y := by
  have hx : (x 1 : ℕ) < 512 := (x 1).isLt
  unfold outV
  have e : (⟨4 + k.val, by omega⟩ : Fin 8) = ⟨4 + (y 1).val / 512, by have : (y 1).val < 2048 := (y 1).isLt; omega⟩ :=
    Fin.ext (by show 4 + k.val = 4 + (y 1 : ℕ) / 512; omega)
  rw [← e]
  refine congrArg _ (funext fun a => Fin.ext ?_)
  match a with
  | ⟨0, _⟩ => exact h0.symm
  | ⟨1, _⟩ => show (x 1 : ℕ) = (y 1 : ℕ) % 512; omega

theorem tail_at (k : Fin 8) (x : S8x512.Idx) (y : S8x4096.Idx)
    (h0 : (y 0 : ℕ) = (x 0 : ℕ)) (h1 : (y 1 : ℕ) = 512 * k.val + (x 1 : ℕ)) :
    k0_pay18 (k0_pay17 (up h x3 k)) x = tails h x3 y := by
  have hx : (x 1 : ℕ) < 512 := (x 1).isLt
  have e : k = ⟨(y 1).val / 512, Nat.div_lt_of_lt_mul (y 1).isLt⟩ := Fin.ext (by show k.val = (y 1 : ℕ) / 512; omega)
  unfold tails
  rw [← e]
  generalize up h x3 k = u
  unfold k0_pay18 k0_pay17
  pointwise
  refine congrArg u (funext fun a => Fin.ext ?_)
  fin_cases a
  · show 248 + (x 0 : ℕ) = 248 + (y 0 : ℕ); omega
  · show (x 1 : ℕ) = (y 1 : ℕ) % 512; omega

theorem tail_raw (k : Fin 8) (x : S8x512.Idx) (y : S8x4096.Idx)
    (h0 : (y 0 : ℕ) = (x 0 : ℕ)) (h1 : (y 1 : ℕ) = 512 * k.val + (x 1 : ℕ)) : k0_pay17 (up h x3 k) x = tails h x3 y := by
  rw [← tail_at h x3 k x y h0 h1]
  unfold k0_pay18
  pointwise

end parts

variable (c : Dev nD) (i : grid0.Coords)
  (arg2 : Memref sig .tc .vmem S256x1024 .f32) (harg2 : arg2.IsWhole)
  (arg3 : Memref sig .tc .vmem S8x4096 .f32) (harg3 : arg3.IsWhole)
  (arg4 : Memref sig .tc .vmem S8x1024 .f32) (harg4 : arg4.IsWhole)
  (arg5 : Memref sig .tc .vmem S1024x4096 .bf16) (harg5 : arg5.IsWhole)
  (arg6 : Memref sig .tc .vmem S1024x2048 .bf16) (harg6 : arg6.IsWhole)
  (arg7 : Memref sig .tc .vmem S1024x128 .bf16) (harg7 : arg7.IsWhole)
  (arg8 : Memref sig .tc .vmem S8x4096 .f32) (harg8 : arg8.IsWhole)
  (arg9 : Memref sig .tc .vmem S8x128 .f32) (harg9 : arg9.IsWhole)
  (arg10 : Memref sig .tc .vmem S64x64 .f32) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S8x4096 .f32) (harg17 : arg17.IsWhole)
  (arg18 : Memref sig .tc .vmem S8x4096 .f32) (harg18 : arg18.IsWhole)
  (x0 : Vec F S256x1024 .f32)
  (x1 : Vec F S8x4096 .f32)
  (x2 : Vec F S8x1024 .f32)
  (x3 : Vec F S1024x4096 .bf16)
  (x4 : Vec F S1024x2048 .bf16)
  (x5 : Vec F S1024x128 .bf16)
  (x6 : Vec F S8x4096 .f32)
  (x7 : Vec F S8x128 .f32)
  (x8 : Vec F S64x64 .f32) (xs0 : Vec F S8x4096 .f32)

theorem q_B (hc0) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = outQ (hid x0 x2) xs0 x3 x6 := by
  funext y
  frame_out
  canon_tiles x h
  · exact q_at (hid x0 x2) xs0 x3 x6 1 3 x y (by omega) (by show (y 1 : ℕ) = 896 + (x 1 : ℕ); omega)
  · exact q_at (hid x0 x2) xs0 x3 x6 1 2 x y (by omega) (by show (y 1 : ℕ) = 768 + (x 1 : ℕ); omega)
  · exact q_at (hid x0 x2) xs0 x3 x6 1 1 x y (by omega) (by show (y 1 : ℕ) = 640 + (x 1 : ℕ); omega)
  · exact q_at (hid x0 x2) xs0 x3 x6 1 0 x y (by omega) (by show (y 1 : ℕ) = 512 + (x 1 : ℕ); omega)
  · exact q_at (hid x0 x2) xs0 x3 x6 0 3 x y (by omega) (by show (y 1 : ℕ) = 384 + (x 1 : ℕ); omega)
  · exact q_at (hid x0 x2) xs0 x3 x6 0 2 x y (by omega) (by show (y 1 : ℕ) = 256 + (x 1 : ℕ); omega)
  · exact q_at (hid x0 x2) xs0 x3 x6 0 1 x y (by omega) (by show (y 1 : ℕ) = 128 + (x 1 : ℕ); omega)
  · exact q_at (hid x0 x2) xs0 x3 x6 0 0 x y (by omega) (by show (y 1 : ℕ) = 0 + (x 1 : ℕ); omega)

theorem k_B (hc0) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = outK (hid x0 x2) xs0 x3 x6 := by
  funext y
  frame_out
  canon_tiles x h
  · exact k_at (hid x0 x2) xs0 x3 x6 1 3 x y (by omega) (by show (y 1 : ℕ) = 896 + (x 1 : ℕ); omega)
  · exact k_at (hid x0 x2) xs0 x3 x6 1 2 x y (by omega) (by show (y 1 : ℕ) = 768 + (x 1 : ℕ); omega)
  · exact k_at (hid x0 x2) xs0 x3 x6 1 1 x y (by omega) (by show (y 1 : ℕ) = 640 + (x 1 : ℕ); omega)
  · exact k_at (hid x0 x2) xs0 x3 x6 1 0 x y (by omega) (by show (y 1 : ℕ) = 512 + (x 1 : ℕ); omega)
  · exact k_at (hid x0 x2) xs0 x3 x6 0 3 x y (by omega) (by show (y 1 : ℕ) = 384 + (x 1 : ℕ); omega)
  · exact k_at (hid x0 x2) xs0 x3 x6 0 2 x y (by omega) (by show (y 1 : ℕ) = 256 + (x 1 : ℕ); omega)
  · exact k_at (hid x0 x2) xs0 x3 x6 0 1 x y (by omega) (by show (y 1 : ℕ) = 128 + (x 1 : ℕ); omega)
  · exact k_at (hid x0 x2) xs0 x3 x6 0 0 x y (by omega) (by show (y 1 : ℕ) = 0 + (x 1 : ℕ); omega)

theorem v_B (hc0) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = outV (hid x0 x2) xs0 x3 x6 := by
  funext y
  frame_out
  canon_tiles x h
  · exact v_at (hid x0 x2) xs0 x3 x6 3 x y (by omega) (by show (y 1 : ℕ) = 1536 + (x 1 : ℕ); omega)
  · exact v_at (hid x0 x2) xs0 x3 x6 2 x y (by omega) (by show (y 1 : ℕ) = 1024 + (x 1 : ℕ); omega)
  · exact v_at (hid x0 x2) xs0 x3 x6 1 x y (by omega) (by show (y 1 : ℕ) = 512 + (x 1 : ℕ); omega)
  · exact v_at (hid x0 x2) xs0 x3 x6 0 x y (by omega) (by show (y 1 : ℕ) = 0 + (x 1 : ℕ); omega)

theorem z_B (hc0) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = k0_pay4 x0 (View.ld x2 (Rect.unit (s := S8x1024) ![0, 0] S1x1024.size inb_S8x1024_S1x1024_0_0)) x4 := by
  frame_out

theorem beta_B (hc0) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = k0_pay6 x0 (View.ld x2 (Rect.unit (s := S8x1024) ![0, 0] S1x1024.size inb_S8x1024_S1x1024_0_0)) x5 := by
  frame_out

theorem gc_B (hc0) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = k0_pay7 (k0_pay5 x0 (View.ld x2 (Rect.unit (s := S8x1024) ![0, 0] S1x1024.size inb_S8x1024_S1x1024_0_0)) x5)
        (View.ld x7 (Rect.unit (s := S8x128) ![0, 0] S1x128.size inb_S8x128_S1x128_0_0))
        (View.ld x7 (Rect.unit (s := S8x128) ![1, 0] S1x128.size inb_S8x128_S1x128_1_0)) x8 := by
  frame_out

theorem st_B (hc0) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = tails (hid x0 x2) x3 := by
  funext y
  frame_out
  canon_tiles x h
  · first | exact tail_at (hid x0 x2) x3 7 x y (by omega) (by show (y 1 : ℕ) = 3584 + (x 1 : ℕ); omega) | exact tail_raw (hid x0 x2) x3 7 x y (by omega) (by show (y 1 : ℕ) = 3584 + (x 1 : ℕ); omega)
  · first | exact tail_at (hid x0 x2) x3 6 x y (by omega) (by show (y 1 : ℕ) = 3072 + (x 1 : ℕ); omega) | exact tail_raw (hid x0 x2) x3 6 x y (by omega) (by show (y 1 : ℕ) = 3072 + (x 1 : ℕ); omega)
  · first | exact tail_at (hid x0 x2) x3 5 x y (by omega) (by show (y 1 : ℕ) = 2560 + (x 1 : ℕ); omega) | exact tail_raw (hid x0 x2) x3 5 x y (by omega) (by show (y 1 : ℕ) = 2560 + (x 1 : ℕ); omega)
  · first | exact tail_at (hid x0 x2) x3 4 x y (by omega) (by show (y 1 : ℕ) = 2048 + (x 1 : ℕ); omega) | exact tail_raw (hid x0 x2) x3 4 x y (by omega) (by show (y 1 : ℕ) = 2048 + (x 1 : ℕ); omega)
  · first | exact tail_at (hid x0 x2) x3 3 x y (by omega) (by show (y 1 : ℕ) = 1536 + (x 1 : ℕ); omega) | exact tail_raw (hid x0 x2) x3 3 x y (by omega) (by show (y 1 : ℕ) = 1536 + (x 1 : ℕ); omega)
  · first | exact tail_at (hid x0 x2) x3 2 x y (by omega) (by show (y 1 : ℕ) = 1024 + (x 1 : ℕ); omega) | exact tail_raw (hid x0 x2) x3 2 x y (by omega) (by show (y 1 : ℕ) = 1024 + (x 1 : ℕ); omega)
  · first | exact tail_at (hid x0 x2) x3 1 x y (by omega) (by show (y 1 : ℕ) = 512 + (x 1 : ℕ); omega) | exact tail_raw (hid x0 x2) x3 1 x y (by omega) (by show (y 1 : ℕ) = 512 + (x 1 : ℕ); omega)
  · first | exact tail_at (hid x0 x2) x3 0 x y (by omega) (by show (y 1 : ℕ) = 0 + (x 1 : ℕ); omega) | exact tail_raw (hid x0 x2) x3 0 x y (by omega) (by show (y 1 : ℕ) = 0 + (x 1 : ℕ); omega)

theorem carry_B (hc0) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0
    = tails (hid x0 x2) x3 := by
  funext y
  frame_out
  canon_tiles x h
  · first | exact tail_at (hid x0 x2) x3 7 x y (by omega) (by show (y 1 : ℕ) = 3584 + (x 1 : ℕ); omega) | exact tail_raw (hid x0 x2) x3 7 x y (by omega) (by show (y 1 : ℕ) = 3584 + (x 1 : ℕ); omega)
  · first | exact tail_at (hid x0 x2) x3 6 x y (by omega) (by show (y 1 : ℕ) = 3072 + (x 1 : ℕ); omega) | exact tail_raw (hid x0 x2) x3 6 x y (by omega) (by show (y 1 : ℕ) = 3072 + (x 1 : ℕ); omega)
  · first | exact tail_at (hid x0 x2) x3 5 x y (by omega) (by show (y 1 : ℕ) = 2560 + (x 1 : ℕ); omega) | exact tail_raw (hid x0 x2) x3 5 x y (by omega) (by show (y 1 : ℕ) = 2560 + (x 1 : ℕ); omega)
  · first | exact tail_at (hid x0 x2) x3 4 x y (by omega) (by show (y 1 : ℕ) = 2048 + (x 1 : ℕ); omega) | exact tail_raw (hid x0 x2) x3 4 x y (by omega) (by show (y 1 : ℕ) = 2048 + (x 1 : ℕ); omega)
  · first | exact tail_at (hid x0 x2) x3 3 x y (by omega) (by show (y 1 : ℕ) = 1536 + (x 1 : ℕ); omega) | exact tail_raw (hid x0 x2) x3 3 x y (by omega) (by show (y 1 : ℕ) = 1536 + (x 1 : ℕ); omega)
  · first | exact tail_at (hid x0 x2) x3 2 x y (by omega) (by show (y 1 : ℕ) = 1024 + (x 1 : ℕ); omega) | exact tail_raw (hid x0 x2) x3 2 x y (by omega) (by show (y 1 : ℕ) = 1024 + (x 1 : ℕ); omega)
  · first | exact tail_at (hid x0 x2) x3 1 x y (by omega) (by show (y 1 : ℕ) = 512 + (x 1 : ℕ); omega) | exact tail_raw (hid x0 x2) x3 1 x y (by omega) (by show (y 1 : ℕ) = 512 + (x 1 : ℕ); omega)
  · first | exact tail_at (hid x0 x2) x3 0 x y (by omega) (by show (y 1 : ℕ) = 0 + (x 1 : ℕ); omega) | exact tail_raw (hid x0 x2) x3 0 x y (by omega) (by show (y 1 : ℕ) = 0 + (x 1 : ℕ); omega)

theorem q_A (hc0) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = outQ (hid x0 x2) (k0_pay2 x1) x3 x6 := by
  funext y
  frame_out
  simp (disch := decide) only [↓View.readCov_skip, ↓View.readCov_fill]
  canon_tiles x h
  · exact q_at (hid x0 x2) (k0_pay2 x1) x3 x6 1 3 x y (by omega) (by show (y 1 : ℕ) = 896 + (x 1 : ℕ); omega)
  · exact q_at (hid x0 x2) (k0_pay2 x1) x3 x6 1 2 x y (by omega) (by show (y 1 : ℕ) = 768 + (x 1 : ℕ); omega)
  · exact q_at (hid x0 x2) (k0_pay2 x1) x3 x6 1 1 x y (by omega) (by show (y 1 : ℕ) = 640 + (x 1 : ℕ); omega)
  · exact q_at (hid x0 x2) (k0_pay2 x1) x3 x6 1 0 x y (by omega) (by show (y 1 : ℕ) = 512 + (x 1 : ℕ); omega)
  · exact q_at (hid x0 x2) (k0_pay2 x1) x3 x6 0 3 x y (by omega) (by show (y 1 : ℕ) = 384 + (x 1 : ℕ); omega)
  · exact q_at (hid x0 x2) (k0_pay2 x1) x3 x6 0 2 x y (by omega) (by show (y 1 : ℕ) = 256 + (x 1 : ℕ); omega)
  · exact q_at (hid x0 x2) (k0_pay2 x1) x3 x6 0 1 x y (by omega) (by show (y 1 : ℕ) = 128 + (x 1 : ℕ); omega)
  · exact q_at (hid x0 x2) (k0_pay2 x1) x3 x6 0 0 x y (by omega) (by show (y 1 : ℕ) = 0 + (x 1 : ℕ); omega)

theorem k_A (hc0) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = outK (hid x0 x2) (k0_pay2 x1) x3 x6 := by
  funext y
  frame_out
  simp (disch := decide) only [↓View.readCov_skip, ↓View.readCov_fill]
  canon_tiles x h
  · exact k_at (hid x0 x2) (k0_pay2 x1) x3 x6 1 3 x y (by omega) (by show (y 1 : ℕ) = 896 + (x 1 : ℕ); omega)
  · exact k_at (hid x0 x2) (k0_pay2 x1) x3 x6 1 2 x y (by omega) (by show (y 1 : ℕ) = 768 + (x 1 : ℕ); omega)
  · exact k_at (hid x0 x2) (k0_pay2 x1) x3 x6 1 1 x y (by omega) (by show (y 1 : ℕ) = 640 + (x 1 : ℕ); omega)
  · exact k_at (hid x0 x2) (k0_pay2 x1) x3 x6 1 0 x y (by omega) (by show (y 1 : ℕ) = 512 + (x 1 : ℕ); omega)
  · exact k_at (hid x0 x2) (k0_pay2 x1) x3 x6 0 3 x y (by omega) (by show (y 1 : ℕ) = 384 + (x 1 : ℕ); omega)
  · exact k_at (hid x0 x2) (k0_pay2 x1) x3 x6 0 2 x y (by omega) (by show (y 1 : ℕ) = 256 + (x 1 : ℕ); omega)
  · exact k_at (hid x0 x2) (k0_pay2 x1) x3 x6 0 1 x y (by omega) (by show (y 1 : ℕ) = 128 + (x 1 : ℕ); omega)
  · exact k_at (hid x0 x2) (k0_pay2 x1) x3 x6 0 0 x y (by omega) (by show (y 1 : ℕ) = 0 + (x 1 : ℕ); omega)

theorem v_A (hc0) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = outV (hid x0 x2) (k0_pay2 x1) x3 x6 := by
  funext y
  frame_out
  simp (disch := decide) only [↓View.readCov_skip, ↓View.readCov_fill]
  canon_tiles x h
  · exact v_at (hid x0 x2) (k0_pay2 x1) x3 x6 3 x y (by omega) (by show (y 1 : ℕ) = 1536 + (x 1 : ℕ); omega)
  · exact v_at (hid x0 x2) (k0_pay2 x1) x3 x6 2 x y (by omega) (by show (y 1 : ℕ) = 1024 + (x 1 : ℕ); omega)
  · exact v_at (hid x0 x2) (k0_pay2 x1) x3 x6 1 x y (by omega) (by show (y 1 : ℕ) = 512 + (x 1 : ℕ); omega)
  · exact v_at (hid x0 x2) (k0_pay2 x1) x3 x6 0 x y (by omega) (by show (y 1 : ℕ) = 0 + (x 1 : ℕ); omega)

theorem z_A (hc0) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = k0_pay4 x0 (View.ld x2 (Rect.unit (s := S8x1024) ![0, 0] S1x1024.size inb_S8x1024_S1x1024_0_0)) x4 := by
  frame_out

theorem beta_A (hc0) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = k0_pay6 x0 (View.ld x2 (Rect.unit (s := S8x1024) ![0, 0] S1x1024.size inb_S8x1024_S1x1024_0_0)) x5 := by
  frame_out

theorem gc_A (hc0) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = k0_pay7 (k0_pay5 x0 (View.ld x2 (Rect.unit (s := S8x1024) ![0, 0] S1x1024.size inb_S8x1024_S1x1024_0_0)) x5)
        (View.ld x7 (Rect.unit (s := S8x128) ![0, 0] S1x128.size inb_S8x128_S1x128_0_0))
        (View.ld x7 (Rect.unit (s := S8x128) ![1, 0] S1x128.size inb_S8x128_S1x128_1_0)) x8 := by
  frame_out

theorem st_A (hc0) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = tails (hid x0 x2) x3 := by
  funext y
  frame_out
  canon_tiles x h
  · first | exact tail_at (hid x0 x2) x3 7 x y (by omega) (by show (y 1 : ℕ) = 3584 + (x 1 : ℕ); omega) | exact tail_raw (hid x0 x2) x3 7 x y (by omega) (by show (y 1 : ℕ) = 3584 + (x 1 : ℕ); omega)
  · first | exact tail_at (hid x0 x2) x3 6 x y (by omega) (by show (y 1 : ℕ) = 3072 + (x 1 : ℕ); omega) | exact tail_raw (hid x0 x2) x3 6 x y (by omega) (by show (y 1 : ℕ) = 3072 + (x 1 : ℕ); omega)
  · first | exact tail_at (hid x0 x2) x3 5 x y (by omega) (by show (y 1 : ℕ) = 2560 + (x 1 : ℕ); omega) | exact tail_raw (hid x0 x2) x3 5 x y (by omega) (by show (y 1 : ℕ) = 2560 + (x 1 : ℕ); omega)
  · first | exact tail_at (hid x0 x2) x3 4 x y (by omega) (by show (y 1 : ℕ) = 2048 + (x 1 : ℕ); omega) | exact tail_raw (hid x0 x2) x3 4 x y (by omega) (by show (y 1 : ℕ) = 2048 + (x 1 : ℕ); omega)
  · first | exact tail_at (hid x0 x2) x3 3 x y (by omega) (by show (y 1 : ℕ) = 1536 + (x 1 : ℕ); omega) | exact tail_raw (hid x0 x2) x3 3 x y (by omega) (by show (y 1 : ℕ) = 1536 + (x 1 : ℕ); omega)
  · first | exact tail_at (hid x0 x2) x3 2 x y (by omega) (by show (y 1 : ℕ) = 1024 + (x 1 : ℕ); omega) | exact tail_raw (hid x0 x2) x3 2 x y (by omega) (by show (y 1 : ℕ) = 1024 + (x 1 : ℕ); omega)
  · first | exact tail_at (hid x0 x2) x3 1 x y (by omega) (by show (y 1 : ℕ) = 512 + (x 1 : ℕ); omega) | exact tail_raw (hid x0 x2) x3 1 x y (by omega) (by show (y 1 : ℕ) = 512 + (x 1 : ℕ); omega)
  · first | exact tail_at (hid x0 x2) x3 0 x y (by omega) (by show (y 1 : ℕ) = 0 + (x 1 : ℕ); omega) | exact tail_raw (hid x0 x2) x3 0 x y (by omega) (by show (y 1 : ℕ) = 0 + (x 1 : ℕ); omega)

theorem carry_A (hc0) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8
    = tails (hid x0 x2) x3 := by
  funext y
  frame_out
  refine View.canon_append_of_piecesOf (tails (hid x0 x2) x3) [_] [_, _, _, _, _, _, _, _] ⟨?_, ?_, ?_, ?_, ?_, ?_, ?_, ?_, trivial⟩ y ?_
  · exact fun x => tail_at (hid x0 x2) x3 7 x _ (by show 0 + 1 * (x 0 : ℕ) = (x 0 : ℕ); omega) (by show 3584 + 1 * (x 1 : ℕ) = 3584 + (x 1 : ℕ); omega)
  · exact fun x => tail_at (hid x0 x2) x3 6 x _ (by show 0 + 1 * (x 0 : ℕ) = (x 0 : ℕ); omega) (by show 3072 + 1 * (x 1 : ℕ) = 3072 + (x 1 : ℕ); omega)
  · exact fun x => tail_at (hid x0 x2) x3 5 x _ (by show 0 + 1 * (x 0 : ℕ) = (x 0 : ℕ); omega) (by show 2560 + 1 * (x 1 : ℕ) = 2560 + (x 1 : ℕ); omega)
  · exact fun x => tail_at (hid x0 x2) x3 4 x _ (by show 0 + 1 * (x 0 : ℕ) = (x 0 : ℕ); omega) (by show 2048 + 1 * (x 1 : ℕ) = 2048 + (x 1 : ℕ); omega)
  · exact fun x => tail_at (hid x0 x2) x3 3 x _ (by show 0 + 1 * (x 0 : ℕ) = (x 0 : ℕ); omega) (by show 1536 + 1 * (x 1 : ℕ) = 1536 + (x 1 : ℕ); omega)
  · exact fun x => tail_at (hid x0 x2) x3 2 x _ (by show 0 + 1 * (x 0 : ℕ) = (x 0 : ℕ); omega) (by show 1024 + 1 * (x 1 : ℕ) = 1024 + (x 1 : ℕ); omega)
  · exact fun x => tail_at (hid x0 x2) x3 1 x _ (by show 0 + 1 * (x 0 : ℕ) = (x 0 : ℕ); omega) (by show 512 + 1 * (x 1 : ℕ) = 512 + (x 1 : ℕ); omega)
  · exact fun x => tail_at (hid x0 x2) x3 0 x _ (by show 0 + 1 * (x 0 : ℕ) = (x 0 : ℕ); omega) (by show 0 + 1 * (x 1 : ℕ) = 0 + (x 1 : ℕ); omega)
  · refine View.cover_of_tiledL (s := S8x4096) _ ![8, 512] ?_ y
    rfl

end Cert.GdnProjIdeal.Proj

end
-- ==== Proof.GdnRow.lean ====
/-
  The scalar formulas of the `gdn` input projection, and a window sum that runs down a chunk's rows.
-/
module

public import Idealize.ShloMosaic.Lib.Pointwise

@[expose] public section

noncomputable section

namespace Cert.Row

open Idealize.ShloMosaic

/-- `a` times its logistic. -/
def silu (a : EReal) : EReal := a * Ideal.div 1 (1 + Ideal.exp (0 - a))

/-- The logistic of `a`. -/
def sigm (a : EReal) : EReal := Ideal.div 1 (1 + Ideal.exp (0 - a))

/-- Entry `d` of `x` over its length. -/
def unitf (x : Fin 128 → EReal) (d : Fin 128) : EReal :=
  x d * Ideal.rsqrt (∑ e, x e * x e + Ideal.ofBits .f32 0x358637BD#32)

/-- The log decay of a row: minus the rate's exponential times the softplus of `a`. -/
def decay (w a : EReal) : EReal := (0 - Ideal.exp w) * (max a 0 + Ideal.log (1 + Ideal.exp (0 - max a (-a))))

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The sum of the rows of a chunk down to row `i`, as a sum over the chunk with the rows after `i` left out. -/
theorem window_sum (i : Fin 64) (g : Fin 64 → EReal) :
    ∑ k : Fin 64, (if h : 63 ≤ i.val + k.val ∧ i.val + k.val - 63 < 64 then g ⟨i.val + k.val - 63, h.2⟩ else 0)
      = ∑ n : Fin 64, if n ≤ i then g n else 0 := by
  have e : ∀ n : Fin 64, (if n ≤ i then g n else 0)
      = ∑ k : Fin 64, if h : 63 ≤ i.val + k.val ∧ i.val + k.val - 63 < 64 then (if n.val = i.val + k.val - 63 then g n else 0) else 0 := by
    intro n
    by_cases hn : n ≤ i
    · have hn' : n.val ≤ i.val := hn
      rw [if_pos hn, Finset.sum_eq_single (⟨n.val + 63 - i.val, by omega⟩ : Fin 64)]
      · rw [dif_pos (by dsimp only; omega), if_pos (by dsimp only; omega)]
      · intro k _ hk
        have hk' : k.val ≠ n.val + 63 - i.val := fun e => hk (Fin.ext e)
        split
        · rw [if_neg (by omega)]
        · rfl
      · intro h; exact absurd (Finset.mem_univ _) h
    · have hn' : ¬ n.val ≤ i.val := hn
      rw [if_neg hn]
      symm
      refine Finset.sum_eq_zero fun k _ => ?_
      split
      · rw [if_neg (by omega)]
      · rfl
  rw [Finset.sum_congr rfl fun n _ => e n, Finset.sum_comm]
  refine Finset.sum_congr rfl fun k _ => ?_
  by_cases h : 63 ≤ i.val + k.val ∧ i.val + k.val - 63 < 64
  · simp only [dif_pos h]
    rw [Finset.sum_eq_single (⟨i.val + k.val - 63, h.2⟩ : Fin 64)]
    · rw [if_pos rfl]
    · intro n _ hn
      rw [if_neg (fun e => hn (Fin.ext e))]
    · intro hh; exact absurd (Finset.mem_univ _) hh
  · simp only [dif_neg h]
    exact Finset.sum_const_zero.symm

/-- A window sum of 64 rows padded above is the running sum down a chunk's rows. -/
theorem cumsum_apply {L : ℕ} (x : (⟨4, ![8, 32, 64, L]⟩ : Shape).Idx → EReal)
    (hw : (⟨4, ![8, 32, 64, L]⟩ : Shape).ReduceWindows ![1, 1, 64, 1] ![1, 1, 1, 1] ![0, 0, 63, 0] ![0, 0, 0, 0] ⟨4, ![8, 32, 64, L]⟩)
    (v : EReal) (hv : v = 0) (b : Fin 8) (n : Fin 32) (i : Fin 64) (l : Fin L) :
    Ideal.hostReduceWindowAdd ![1, 1, 64, 1] ![1, 1, 1, 1] ![0, 0, 63, 0] ![0, 0, 0, 0] hw x v (ix4 b n i l)
      = ∑ q : Fin 64, if q ≤ i then x (ix4 b n q l) else 0 := by
  subst hv
  rw [← window_sum i (fun q => x (ix4 b n q l))]
  unfold Ideal.hostReduceWindowAdd Host.reduceWindow
  dsimp only
  rw [foldl_add, zero_add, ← Fin.sum_univ_def]
  rw [← Equiv.sum_comp (Shape.rowMajor ⟨4, ![1, 1, 64, 1]⟩)]
  refine (Fintype.sum_bijective (fun k : Fin 64 => (ix4 (0 : Fin 1) (0 : Fin 1) k (0 : Fin 1) : (⟨4, ![1, 1, 64, 1]⟩ : Shape).Idx)) ⟨?_, ?_⟩ _ _ ?_).symm
  · intro a a' h
    exact congrFun h 2
  · intro y
    refine ⟨y 2, funext fun a => Fin.ext ?_⟩
    match a with
    | ⟨0, _⟩ => exact (Nat.lt_one_iff.mp (y 0).isLt).symm
    | ⟨1, _⟩ => exact (Nat.lt_one_iff.mp (y 1).isLt).symm
    | ⟨2, _⟩ => rfl
    | ⟨3, _⟩ => exact (Nat.lt_one_iff.mp (y 3).isLt).symm
  · intro k
    simp only [Equiv.symm_apply_apply]
    by_cases h : 63 ≤ i.val + k.val ∧ i.val + k.val - 63 < 64
    · rw [dif_pos h, dif_pos]
      · refine congrArg x (funext fun a => Fin.ext ?_)
        match a with
        | ⟨0, _⟩ => show b.val = b.val * 1 + 0 - 0; omega
        | ⟨1, _⟩ => show n.val = n.val * 1 + 0 - 0; omega
        | ⟨2, _⟩ => show i.val + k.val - 63 = i.val * 1 + k.val - 63; omega
        | ⟨3, _⟩ => show l.val = l.val * 1 + 0 - 0; omega
      · intro a
        match a with
        | ⟨0, _⟩ => show 0 ≤ b.val * 1 + 0 ∧ b.val * 1 + 0 - 0 < 8; omega
        | ⟨1, _⟩ => show 0 ≤ n.val * 1 + 0 ∧ n.val * 1 + 0 - 0 < 32; omega
        | ⟨2, _⟩ => show 63 ≤ i.val * 1 + k.val ∧ i.val * 1 + k.val - 63 < 64; omega
        | ⟨3, _⟩ => show 0 ≤ l.val * 1 + 0 ∧ l.val * 1 + 0 - 0 < L; omega
    · rw [dif_neg h, dif_neg]
      intro hh
      have h2 : 63 ≤ i.val * 1 + k.val ∧ i.val * 1 + k.val - 63 < 64 := hh 2
      exact h (by omega)

end Cert.Row

end
-- ==== Proof.GdnProjValue.lean ====
/-
  The blocks of the `gdn` input projection read entry by entry, on the extended reals.
-/
module

public import proofs.«01_k».proof.Proof.GdnProjBlock
public import proofs.«01_k».proof.Proof.FfnRow
public import proofs.«01_k».proof.Proof.GdnRow

@[expose] public section

set_option maxRecDepth 16384

noncomputable section

namespace Cert.GdnProjIdeal.Proj

open Cert.GdnProjIdeal Cert.GdnProjIdeal.Gen Idealize.ShloMosaic Idealize.ShloMosaic.TcCoe Idealize.SL.Sem
open Cert.Row

theorem hid_apply (x0 : Vec Ideal S256x1024 .f32) (x2 : Vec Ideal S8x1024 .f32) (r : Fin 256) (d : Fin 1024) :
    hid x0 x2 (ix2 r d) = normed (fun e => x0 (ix2 r e)) (x2 (ix2 0 d)) d := by
  pointwise [hid, k0_pay3]
  rfl

/-- Column `j` of tile `k`. -/
def col (k : Fin 8) (j : Fin 512) : Fin 4096 := ⟨512 * k.val + j.val, by omega⟩

theorem up_apply (h : FVec Ideal S256x1024 .bf16) (x3 : Vec Ideal S1024x4096 .bf16) (k : Fin 8) (r : Fin 256) (j : Fin 512) :
    up h x3 k (ix2 r j) = ∑ d : Fin 1024, h (ix2 r d) * x3 (ix2 d (col k j)) := by
  pointwise [up, k0_pay8]
  rfl

/-! Which of the first eight rows take the rows before the block: those less than the shift. -/

theorem pick1 (r : Fin 8) : IntOp.cmpi CmpIPredicate.slt
    (Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)))
    1#32 = BitVec.ofBool (decide (r.val < 1)) := by
  revert r; decide +kernel

theorem pick2 (r : Fin 8) : IntOp.cmpi CmpIPredicate.slt
    (Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)))
    2#32 = BitVec.ofBool (decide (r.val < 2)) := by
  revert r; decide +kernel

theorem pick3 (r : Fin 8) : IntOp.cmpi CmpIPredicate.slt
    (Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)))
    3#32 = BitVec.ofBool (decide (r.val < 3)) := by
  revert r; decide +kernel

theorem select_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

/-- The row `s` above row `r` of a tile: the block's own, or one of the rows before it. -/
def above (u : FVec Ideal S256x512 .f32) (prev : Vec Ideal S8x4096 .f32) (k : Fin 8) (s : ℕ) (r : Fin 256) (j : Fin 512) : EReal :=
  if h : r.val < s ∧ s ≤ 8 then prev (ix2 ⟨r.val + 8 - s, by omega⟩ (col k j)) else u (ix2 ⟨r.val - s, by omega⟩ j)

theorem conv_apply (u : FVec Ideal S256x512 .f32) (prev : Vec Ideal S8x4096 .f32)
    (x6 : Vec Ideal S8x4096 .f32) (k : Fin 8) (r : Fin 256) (j : Fin 512) :
    conv u (before prev k) (row x6 3 k) (row x6 2 k) (row x6 1 k) (row x6 0 k) (ix2 r j)
      = x6 (ix2 3 (col k j)) * u (ix2 r j) + x6 (ix2 2 (col k j)) * above u prev k 1 r j
        + x6 (ix2 1 (col k j)) * above u prev k 2 r j + x6 (ix2 0 (col k j)) * above u prev k 3 r j := by
  pointwise [conv, k0_pay16, k0_pay15, k0_pay14, k0_pay13, k0_pay12, k0_pay11, k0_pay10, row, before]
  unfold col above
  by_cases hr : r.val < 8
  · simp only [dif_pos hr]
    have p3 := pick3 ⟨r.val, hr⟩
    have p2 := pick2 ⟨r.val, hr⟩
    have p1 := pick1 ⟨r.val, hr⟩
    dsimp only at p3 p2 p1
    rw [p3, p2, p1, select_ofBool, select_ofBool, select_ofBool]
    refine congrArg₂ (· + ·) (congrArg₂ (· + ·) (congrArg₂ (· + ·) rfl ?_) ?_) ?_
    · congr 1
      by_cases h1 : r.val < 1
      · rw [if_pos h1, dif_pos ⟨h1, by omega⟩]
        refine congrArg prev (congrArg₂ ix2 (Fin.ext ?_) rfl)
        show (r.val + 8 - 1) % 8 = r.val + 8 - 1
        omega
      · rw [if_neg h1, dif_neg (fun e => h1 e.1)]
        refine congrArg u (congrArg₂ ix2 (Fin.ext ?_) rfl)
        show (r.val + 256 - 1) % 256 = r.val - 1
        omega
    · congr 1
      by_cases h2 : r.val < 2
      · rw [if_pos h2, dif_pos ⟨h2, by omega⟩]
        refine congrArg prev (congrArg₂ ix2 (Fin.ext ?_) rfl)
        show (r.val + 8 - 2) % 8 = r.val + 8 - 2
        omega
      · rw [if_neg h2, dif_neg (fun e => h2 e.1)]
        refine congrArg u (congrArg₂ ix2 (Fin.ext ?_) rfl)
        show (r.val + 256 - 2) % 256 = r.val - 2
        omega
    · congr 1
      by_cases h3 : r.val < 3
      · rw [if_pos h3, dif_pos ⟨h3, by omega⟩]
        refine congrArg prev (congrArg₂ ix2 (Fin.ext ?_) rfl)
        show (r.val + 8 - 3) % 8 = r.val + 8 - 3
        omega
      · rw [if_neg h3, dif_neg (fun e => h3 e.1)]
        refine congrArg u (congrArg₂ ix2 (Fin.ext ?_) rfl)
        show (r.val + 256 - 3) % 256 = r.val - 3
        omega
  · simp only [dif_neg hr]
    rw [dif_neg (by omega), dif_neg (by omega), dif_neg (by omega)]
    refine congrArg₂ (· + ·) (congrArg₂ (· + ·) (congrArg₂ (· + ·) rfl ?_) ?_) ?_
    · congr 1
      refine congrArg u (congrArg₂ ix2 (Fin.ext ?_) rfl)
      show (8 + (r.val - 8) + 256 - 1) % 256 = r.val - 1
      omega
    · congr 1
      refine congrArg u (congrArg₂ ix2 (Fin.ext ?_) rfl)
      show (8 + (r.val - 8) + 256 - 2) % 256 = r.val - 2
      omega
    · congr 1
      refine congrArg u (congrArg₂ ix2 (Fin.ext ?_) rfl)
      show (8 + (r.val - 8) + 256 - 3) % 256 = r.val - 3
      omega

theorem mix_apply (h : FVec Ideal S256x1024 .bf16) (prev : Vec Ideal S8x4096 .f32) (x3 : Vec Ideal S1024x4096 .bf16)
    (x6 : Vec Ideal S8x4096 .f32) (k : Fin 8) (r : Fin 256) (j : Fin 512) :
    mix h prev x3 x6 k (ix2 r j)
      = silu (x6 (ix2 3 (col k j)) * up h x3 k (ix2 r j) + x6 (ix2 2 (col k j)) * above (up h x3 k) prev k 1 r j
        + x6 (ix2 1 (col k j)) * above (up h x3 k) prev k 2 r j + x6 (ix2 0 (col k j)) * above (up h x3 k) prev k 3 r j) := by
  unfold mix
  rw [← conv_apply]
  generalize conv (up h x3 k) (before prev k) (row x6 3 k) (row x6 2 k) (row x6 1 k) (row x6 0 k) = u
  pointwise [k0_pay19]
  rfl

theorem head_apply (a : FVec Ideal S256x512 .f32) (j : Fin 4) (r : Fin 256) (l : Fin 128) :
    head a j (ix2 r l) = a (ix2 r ⟨128 * j.val + l.val, by omega⟩) := by
  pointwise [head]

theorem unit_apply (s : FVec Ideal S256x128 .f32) (r : Fin 256) (l : Fin 128) :
    unit s (ix2 r l) = unitf (fun e => s (ix2 r e)) l := by
  pointwise [unit]
  rfl

theorem scaled_apply (s : FVec Ideal S256x128 .f32) (r : Fin 256) (l : Fin 128) :
    scaled s (ix2 r l) = unitf (fun e => s (ix2 r e)) l * Ideal.ofBits .f32 0x3DB504F3#32 := by
  unfold scaled
  rw [← unit_apply]
  generalize unit s = u
  pointwise

/-- The normalised rows as the narrow projections read them. -/
abbrev nw0 (x2 : Vec Ideal S8x1024 .f32) : Vec Ideal S1x1024 .f32 :=
  View.ld x2 (Rect.unit (s := S8x1024) ![0, 0] S1x1024.size inb_S8x1024_S1x1024_0_0)

theorem z_apply (x0 : Vec Ideal S256x1024 .f32) (x2 : Vec Ideal S8x1024 .f32) (x4 : Vec Ideal S1024x2048 .bf16)
    (r : Fin 256) (l : Fin 2048) : k0_pay4 x0 (nw0 x2) x4 (ix2 r l) = ∑ d : Fin 1024, hid x0 x2 (ix2 r d) * x4 (ix2 d l) := by
  unfold k0_pay4 hid
  generalize k0_pay3 x0 _ = g
  pointwise

theorem bg_apply (x0 : Vec Ideal S256x1024 .f32) (x2 : Vec Ideal S8x1024 .f32) (x5 : Vec Ideal S1024x128 .bf16)
    (r : Fin 256) (l : Fin 128) : k0_pay5 x0 (nw0 x2) x5 (ix2 r l) = ∑ d : Fin 1024, hid x0 x2 (ix2 r d) * x5 (ix2 d l) := by
  unfold k0_pay5 hid
  generalize k0_pay3 x0 _ = g
  pointwise

theorem beta_apply (x0 : Vec Ideal S256x1024 .f32) (x2 : Vec Ideal S8x1024 .f32) (x5 : Vec Ideal S1024x128 .bf16)
    (r : Fin 256) (l : Fin 128) : k0_pay6 x0 (nw0 x2) x5 (ix2 r l) = sigm (k0_pay5 x0 (nw0 x2) x5 (ix2 r l)) := by
  unfold k0_pay6
  generalize k0_pay5 x0 _ x5 = g
  pointwise
  rfl

/-- A block of the decays summed down each chunk's rows, at a triangle of ones. -/
theorem gc_apply (g : FVec Ideal S256x128 .f32) (x7 : Vec Ideal S8x128 .f32) (x8 : Vec Ideal S64x64 .f32)
    (h8 : ∀ i j : Fin 64, x8 (ix2 i j) = if j ≤ i then (1 : EReal) else 0) (r : Fin 256) (l : Fin 128) :
    k0_pay7 g (View.ld x7 (Rect.unit (s := S8x128) ![0, 0] S1x128.size inb_S8x128_S1x128_0_0))
        (View.ld x7 (Rect.unit (s := S8x128) ![1, 0] S1x128.size inb_S8x128_S1x128_1_0)) x8 (ix2 r l)
      = ∑ q : Fin 64, if q.val ≤ r.val % 64 then decay (x7 (ix2 0 l)) (g (ix2 ⟨64 * (r.val / 64) + q.val, by omega⟩ l) + x7 (ix2 1 l)) else 0 := by
  have key : ∀ (i : Fin 64) (n : Fin 64 → Fin 256), i.val = r.val % 64 → (∀ q, (n q).val = 64 * (r.val / 64) + q.val) →
      ∑ q : Fin 64, x8 (ix2 i q) * decay (x7 (ix2 0 l)) (g (ix2 (n q) l) + x7 (ix2 1 l))
        = ∑ q : Fin 64, if q.val ≤ r.val % 64 then decay (x7 (ix2 0 l)) (g (ix2 ⟨64 * (r.val / 64) + q.val, by omega⟩ l) + x7 (ix2 1 l)) else 0 := by
    intro i n hi hn
    refine Finset.sum_congr rfl fun q _ => ?_
    have e : n q = ⟨64 * (r.val / 64) + q.val, by omega⟩ := Fin.ext (hn q)
    rw [h8, e]
    by_cases hq : q.val ≤ r.val % 64
    · have hq' : q ≤ i := by show q.val ≤ i.val; omega
      rw [if_pos hq, if_pos hq', one_mul]
    · have hq' : ¬ q ≤ i := by show ¬ q.val ≤ i.val; omega
      rw [if_neg hq, if_neg hq', zero_mul]
  pointwise [k0_pay7]
  split
  · exact key ⟨r.val, by omega⟩ (fun q => ⟨q.val, by omega⟩) (by dsimp only; omega) (fun q => by dsimp only; omega)
  · split
    · exact key ⟨r.val - 64, by omega⟩ (fun q => ⟨64 + q.val, by omega⟩) (by dsimp only; omega) (fun q => by dsimp only; omega)
    · split
      · exact key ⟨r.val - 64 - 64, by omega⟩ (fun q => ⟨128 + q.val, by omega⟩) (by dsimp only; omega) (fun q => by dsimp only; omega)
      · exact key ⟨r.val - 64 - 64 - 64, by omega⟩ (fun q => ⟨192 + q.val, by omega⟩) (by dsimp only; omega) (fun q => by dsimp only; omega)

theorem tails_apply (h : FVec Ideal S256x1024 .bf16) (x3 : Vec Ideal S1024x4096 .bf16) (q : Fin 8) (K : Fin 4096) :
    tails h x3 (ix2 q K) = ∑ d : Fin 1024, h (ix2 ⟨248 + q.val, by omega⟩ d) * x3 (ix2 d K) := by
  unfold tails
  refine (up_apply h x3 _ _ _).trans (Finset.sum_congr rfl fun d _ => congrArg _ (congrArg x3 (congrArg (ix2 d) (Fin.ext ?_))))
  show 512 * (K.val / 512) + K.val % 512 = K.val
  omega

theorem pay2_apply (x1 : Vec Ideal S8x4096 .f32) (q : Fin 8) (K : Fin 4096) : k0_pay2 x1 (ix2 q K) = x1 (ix2 q K) := by
  pointwise [k0_pay2]

end Cert.GdnProjIdeal.Proj

end
-- ==== Proof.GdnProjMask.lean ====
module

public import proofs.«01_k».proof.Proof.Gen.GdnProjIdeal.Value
public import Idealize.ShloMosaic.Lib.Pointwise

/-! The mask of ones the projection kernel's host builds for its sums over a chunk's rows: one on
and below the diagonal, zero above it. -/

@[expose] public section

set_option maxRecDepth 16384

noncomputable section

namespace Cert.GdnProjIdeal.Proj

open Cert.GdnProjIdeal Cert.GdnProjIdeal.Gen Idealize.ShloMosaic Idealize.ShloMosaic.TcCoe Idealize.SL.Sem Idealize.ShloMosaic.StableHlo

set_option maxHeartbeats 4000000 in
theorem mask_eq (m : (ℓ : Loc nD τ sig) → Buf (Elt Ideal) ℓ) (c : Dev nD) (i j : Fin 64) :
    (V m c main_v16 : S64x64.Idx → EReal) (ix2 i j) = if j ≤ i then (1 : EReal) else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append, TRef.binary, TRef.nullary, TRef.ternary, TRef.unary, TRef.toBuf, TRef.ofBuf, cast_eq]
  after_results_simp
  generalize hX : andi _ _ = X
  have key : ∀ i j : Fin 64, (X (ix2 i j) : BitVec 1) = BitVec.ofBool (decide (j ≤ i)) := by
    subst hX
    decide +kernel
  show (((X (ix2 i j) : BitVec 1).toNat : ℝ) : EReal) = _
  rw [key]
  by_cases h : j ≤ i
  · simp [h]
  · simp [h]

end Cert.GdnProjIdeal.Proj
-- ==== Proof.GdnProjRef.lean ====
/-
  The reference of the `gdn` input projection read entry by entry, on the extended reals.
-/
module

public import proofs.«01_k».proof.Proof.Gen.GdnProjReferenceIdeal.Read
public import proofs.«01_k».proof.Proof.FfnRow
public import proofs.«01_k».proof.Proof.GdnRow

@[expose] public section

set_option maxRecDepth 16384

noncomputable section

namespace Cert.GdnProjReferenceIdeal.Proj

open Cert.Row
open Cert.GdnProjReferenceIdeal Cert.GdnProjReferenceIdeal.Gen Cert.GdnProjReferenceIdeal.Read Idealize.ShloMosaic Idealize.ShloMosaic.TcCoe Idealize.SL.Sem

variable (x0 : (⟨S16384x1024, .f32⟩ : BufTy).Contents (Elt Ideal)) (x1 : (⟨S64x4096, .f32⟩ : BufTy).Contents (Elt Ideal))
  (x2 : (⟨S8x1024, .f32⟩ : BufTy).Contents (Elt Ideal)) (x3 : (⟨S1024x4096, .bf16⟩ : BufTy).Contents (Elt Ideal))
  (x4 : (⟨S1024x2048, .bf16⟩ : BufTy).Contents (Elt Ideal)) (x5 : (⟨S1024x128, .bf16⟩ : BufTy).Contents (Elt Ideal))
  (x6 : (⟨S8x4096, .f32⟩ : BufTy).Contents (Elt Ideal)) (x7 : (⟨S8x128, .f32⟩ : BufTy).Contents (Elt Ideal))

/-- Row `p` of sequence `b`. -/
def at_ (b : Fin 8) (p : Fin 2048) : Fin 16384 := ⟨b.val * 2048 + p.val, by omega⟩

theorem v15_apply (b : Fin 8) (p : Fin 2048) (d : Fin 1024) :
    val_main_v15 (F := Ideal) x0 x2 (ix3 b p d) = normed (fun e => x0 (ix2 (at_ b p) e)) (x2 (ix2 0 d)) d := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v17_apply (b : Fin 8) (p : Fin 2048) (K : Fin 4096) :
    val_main_v17 (F := Ideal) x0 x2 x3 (ix3 b p K) = ∑ d : Fin 1024, val_main_v15 (F := Ideal) x0 x2 (ix3 b p d) * x3 (ix2 d K) := by
  unfold val_main_v17
  generalize val_main_v15 (F := Ideal) x0 x2 = g
  pointwise [val_main_v16]

theorem v51_apply (b : Fin 8) (p : Fin 2048) (K : Fin 2048) :
    val_main_v51 (F := Ideal) x0 x2 x4 (ix3 b p K) = ∑ d : Fin 1024, val_main_v15 (F := Ideal) x0 x2 (ix3 b p d) * x4 (ix2 d K) := by
  unfold val_main_v51
  generalize val_main_v15 (F := Ideal) x0 x2 = g
  pointwise [val_main_v50]

theorem v53_apply (b : Fin 8) (p : Fin 2048) (K : Fin 128) :
    val_main_v53 (F := Ideal) x0 x2 x5 (ix3 b p K) = ∑ d : Fin 1024, val_main_v15 (F := Ideal) x0 x2 (ix3 b p d) * x5 (ix2 d K) := by
  unfold val_main_v53
  generalize val_main_v15 (F := Ideal) x0 x2 = g
  pointwise [val_main_v52]

/-- The row `s` above row `p` of sequence `b`: the sequence's own, or one of the eight before it. -/
def above (g : FVec Ideal S8x2048x4096 .f32) (b : Fin 8) (s : ℕ) (p : Fin 2048) (K : Fin 4096) : EReal :=
  if h : p.val < s ∧ s ≤ 8 then x1 (ix2 ⟨b.val * 8 + (p.val + 8 - s), by omega⟩ K) else g (ix3 b ⟨p.val - s, by omega⟩ K)

theorem v48_apply (b : Fin 8) (p : Fin 2048) (K : Fin 4096) :
    val_main_v48 (F := Ideal) x0 x1 x2 x3 x6 (ix3 b p K)
      = x6 (ix2 0 K) * above x1 (val_main_v17 (F := Ideal) x0 x2 x3) b 3 p K
        + x6 (ix2 1 K) * above x1 (val_main_v17 (F := Ideal) x0 x2 x3) b 2 p K
        + x6 (ix2 2 K) * above x1 (val_main_v17 (F := Ideal) x0 x2 x3) b 1 p K
        + x6 (ix2 3 K) * val_main_v17 (F := Ideal) x0 x2 x3 (ix3 b p K) := by
  unfold val_main_v48 val_main_v41 val_main_v34 val_main_v27 val_main_v33 val_main_v40 val_main_v47 val_main_v22 val_main_v28 val_main_v35 val_main_v42 val_main_v21
  generalize val_main_v17 (F := Ideal) x0 x2 x3 = g
  pointwise [val_main_v18, val_main_v19, val_main_v20, val_main_v23, val_main_v24, val_main_v25, val_main_v26, val_main_v29, val_main_v30, val_main_v31, val_main_v32, val_main_v36, val_main_v37, val_main_v38, val_main_v39, val_main_v43, val_main_v44, val_main_v45, val_main_v46]
  unfold above
  refine congrArg₂ (· + ·) (congrArg₂ (· + ·) (congrArg₂ (· + ·) ?_ ?_) ?_) ?_
  · refine (mul_comm (_ : EReal) _).trans (congrArg _ ?_)
    by_cases h3 : p.val < 3
    · rw [dif_pos (by omega), dif_pos ⟨h3, by omega⟩]
      refine congrArg x1 (congrArg₂ ix2 (Fin.ext ?_) rfl)
      dsimp only; omega
    · rw [dif_neg (by omega), dif_neg (fun e => h3 e.1)]
  · refine (mul_comm (_ : EReal) _).trans (congrArg _ ?_)
    by_cases h2 : p.val < 2
    · rw [dif_pos (by omega), dif_pos ⟨h2, by omega⟩]
      refine congrArg x1 (congrArg₂ ix2 (Fin.ext ?_) rfl)
      dsimp only; omega
    · rw [dif_neg (by omega), dif_neg (fun e => h2 e.1)]
      refine congrArg g (congrArg (fun q => ix3 b q K) (Fin.ext ?_))
      dsimp only; omega
  · refine (mul_comm (_ : EReal) _).trans (congrArg _ ?_)
    by_cases h1 : p.val < 1
    · rw [dif_pos (by omega), dif_pos ⟨h1, by omega⟩]
      refine congrArg x1 (congrArg₂ ix2 (Fin.ext ?_) rfl)
      dsimp only; omega
    · rw [dif_neg (by omega), dif_neg (fun e => h1 e.1)]
      refine congrArg g (congrArg (fun q => ix3 b q K) (Fin.ext ?_))
      dsimp only; omega
  · exact mul_comm (_ : EReal) _

theorem v49_apply (b : Fin 8) (p : Fin 2048) (K : Fin 4096) :
    val_main_v49 (F := Ideal) x0 x1 x2 x3 x6 (ix3 b p K) = silu (val_main_v48 (F := Ideal) x0 x1 x2 x3 x6 (ix3 b p K)) := by
  unfold val_main_v49 val_main_call0_v5 val_main_call0_v3 val_main_call0_v1 val_main_call0_v0
  generalize val_main_v48 (F := Ideal) x0 x1 x2 x3 x6 = g
  pointwise [val_main_call0_v2, val_main_call0_v4, val_main_call0_cst, val_main_call0_cst_0]
  unfold silu
  rw [sub_eq_add_neg, zero_add]

theorem v76_apply (b : Fin 8) (p : Fin 2048) (h : Fin 8) (d : Fin 128) :
    val_main_v76 (F := Ideal) x0 x1 x2 x3 x6 (ix4 b p h d)
      = val_main_v49 (F := Ideal) x0 x1 x2 x3 x6 (ix3 b p ⟨0 + (128 * h.val + d.val), by omega⟩) := by
  unfold val_main_v76 val_main_v75
  generalize val_main_v49 (F := Ideal) x0 x1 x2 x3 x6 = g
  pointwise
  refine congrArg g (congrArg (ix3 b p) (Fin.ext ?_))
  dsimp only
  omega

theorem v84_apply (b : Fin 8) (p : Fin 2048) (h : Fin 8) (d : Fin 128) :
    val_main_v84 (F := Ideal) x0 x1 x2 x3 x6 (ix4 b p h d)
      = unitf (fun e => val_main_v76 (F := Ideal) x0 x1 x2 x3 x6 (ix4 b p h e)) d := by
  have e : ∀ k : Fin 128, idx_main_v78 (idx_main_v79 (idx_main_v83 (ix4 b p h d))) k = ix4 b p h k := by
    intro k
    refine funext fun a => Fin.ext ?_
    match a with
    | ⟨0, _⟩ => rfl
    | ⟨1, _⟩ => rfl
    | ⟨2, _⟩ => rfl
    | ⟨3, _⟩ => rfl
  have s : ∑ k : Fin 128, val_main_v77 (F := Ideal) x0 x1 x2 x3 x6 (idx_main_v78 (idx_main_v79 (idx_main_v83 (ix4 b p h d))) k)
      = ∑ k : Fin 128, val_main_v76 (F := Ideal) x0 x1 x2 x3 x6 (ix4 b p h k) * val_main_v76 (F := Ideal) x0 x1 x2 x3 x6 (ix4 b p h k) :=
    Finset.sum_congr rfl fun k _ => by rw [val_main_v77_apply, e k]; rfl
  have z : (val_main_cst_4 (F := Ideal)) (Shape.Idx.first h_S_) = (0 : EReal) := by
    pointwise [val_main_cst_4]
  rw [val_main_v84_apply, val_main_v83_apply, val_main_v82_apply, val_main_v81_apply, val_main_v79_apply, val_main_v78_apply, val_main_v80_apply, s, z, zero_add]
  generalize val_main_v76 (F := Ideal) x0 x1 x2 x3 x6 = g
  rfl

theorem v88_apply (b : Fin 8) (p : Fin 2048) (h : Fin 8) (d : Fin 128) :
    val_main_v88 (F := Ideal) x0 x1 x2 x3 x6 (ix4 b p h d)
      = val_main_v49 (F := Ideal) x0 x1 x2 x3 x6 (ix3 b p ⟨1024 + (128 * h.val + d.val), by omega⟩) := by
  unfold val_main_v88 val_main_v87
  generalize val_main_v49 (F := Ideal) x0 x1 x2 x3 x6 = g
  pointwise
  refine congrArg g (congrArg (ix3 b p) (Fin.ext ?_))
  dsimp only
  omega

theorem v96_apply (b : Fin 8) (p : Fin 2048) (h : Fin 8) (d : Fin 128) :
    val_main_v96 (F := Ideal) x0 x1 x2 x3 x6 (ix4 b p h d)
      = unitf (fun e => val_main_v88 (F := Ideal) x0 x1 x2 x3 x6 (ix4 b p h e)) d := by
  have e : ∀ k : Fin 128, idx_main_v90 (idx_main_v91 (idx_main_v95 (ix4 b p h d))) k = ix4 b p h k := by
    intro k
    refine funext fun a => Fin.ext ?_
    match a with
    | ⟨0, _⟩ => rfl
    | ⟨1, _⟩ => rfl
    | ⟨2, _⟩ => rfl
    | ⟨3, _⟩ => rfl
  have s : ∑ k : Fin 128, val_main_v89 (F := Ideal) x0 x1 x2 x3 x6 (idx_main_v90 (idx_main_v91 (idx_main_v95 (ix4 b p h d))) k)
      = ∑ k : Fin 128, val_main_v88 (F := Ideal) x0 x1 x2 x3 x6 (ix4 b p h k) * val_main_v88 (F := Ideal) x0 x1 x2 x3 x6 (ix4 b p h k) :=
    Finset.sum_congr rfl fun k _ => by rw [val_main_v89_apply, e k]; rfl
  have z : (val_main_cst_7 (F := Ideal)) (Shape.Idx.first h_S_) = (0 : EReal) := by
    pointwise [val_main_cst_7]
  rw [val_main_v96_apply, val_main_v95_apply, val_main_v94_apply, val_main_v93_apply, val_main_v91_apply, val_main_v90_apply, val_main_v92_apply, s, z, zero_add]
  generalize val_main_v88 (F := Ideal) x0 x1 x2 x3 x6 = g
  rfl

theorem at_div (b : Fin 8) (p : Fin 2048) : (at_ b p).val / 2048 = b.val := by
  show (b.val * 2048 + p.val) / 2048 = b.val
  omega

theorem at_mod (b : Fin 8) (p : Fin 2048) : (at_ b p).val % 2048 = p.val := by
  show (b.val * 2048 + p.val) % 2048 = p.val
  omega

theorem v98_apply (b : Fin 8) (p : Fin 2048) (K : Fin 1024) :
    val_main_v98 (F := Ideal) x0 x1 x2 x3 x6 (ix2 (at_ b p) K)
      = val_main_v84 (F := Ideal) x0 x1 x2 x3 x6 (ix4 b p ⟨K.val / 128, by omega⟩ ⟨K.val % 128, by omega⟩)
        * Ideal.ofBits .f32 0x3DB504F3#32 := by
  have e : idx_main_v98 (ix2 (at_ b p) K) = ix4 b p ⟨K.val / 128, by omega⟩ ⟨K.val % 128, by omega⟩ := by
    refine funext fun a => Fin.ext ?_
    match a with
    | ⟨0, _⟩ =>
      show ((b.val * 2048 + p.val) * 1024 + K.val) / 2097152 = b.val
      omega
    | ⟨1, _⟩ =>
      show ((b.val * 2048 + p.val) * 1024 + K.val) / 1024 % 2048 = p.val
      omega
    | ⟨2, _⟩ =>
      show ((b.val * 2048 + p.val) * 1024 + K.val) / 128 % 8 = K.val / 128
      omega
    | ⟨3, _⟩ =>
      show ((b.val * 2048 + p.val) * 1024 + K.val) % 128 = K.val % 128
      omega
  rw [val_main_v98_apply, val_main_v86_apply, val_main_v85_apply, e]
  generalize val_main_v84 (F := Ideal) x0 x1 x2 x3 x6 = g
  rfl

theorem v99_apply (b : Fin 8) (p : Fin 2048) (K : Fin 1024) :
    val_main_v99 (F := Ideal) x0 x1 x2 x3 x6 (ix2 (at_ b p) K)
      = val_main_v96 (F := Ideal) x0 x1 x2 x3 x6 (ix4 b p ⟨K.val / 128, by omega⟩ ⟨K.val % 128, by omega⟩) := by
  have e : idx_main_v99 (ix2 (at_ b p) K) = ix4 b p ⟨K.val / 128, by omega⟩ ⟨K.val % 128, by omega⟩ := by
    refine funext fun a => Fin.ext ?_
    match a with
    | ⟨0, _⟩ =>
      show ((b.val * 2048 + p.val) * 1024 + K.val) / 2097152 = b.val
      omega
    | ⟨1, _⟩ =>
      show ((b.val * 2048 + p.val) * 1024 + K.val) / 1024 % 2048 = p.val
      omega
    | ⟨2, _⟩ =>
      show ((b.val * 2048 + p.val) * 1024 + K.val) / 128 % 8 = K.val / 128
      omega
    | ⟨3, _⟩ =>
      show ((b.val * 2048 + p.val) * 1024 + K.val) % 128 = K.val % 128
      omega
  rw [val_main_v99_apply, e]

theorem v100_apply (b : Fin 8) (p : Fin 2048) (K : Fin 2048) :
    val_main_v100 (F := Ideal) x0 x1 x2 x3 x6 (ix2 (at_ b p) K) = val_main_v49 (F := Ideal) x0 x1 x2 x3 x6 (ix3 b p ⟨2048 + K.val, by omega⟩) := by
  unfold val_main_v100 val_main_v97
  generalize val_main_v49 (F := Ideal) x0 x1 x2 x3 x6 = g
  pointwise
  simp only [at_div, at_mod]

theorem v101_apply (b : Fin 8) (p : Fin 2048) (K : Fin 2048) :
    val_main_v101 (F := Ideal) x0 x2 x4 (ix2 (at_ b p) K) = val_main_v51 (F := Ideal) x0 x2 x4 (ix3 b p K) := by
  unfold val_main_v101
  generalize val_main_v51 (F := Ideal) x0 x2 x4 = g
  pointwise
  simp only [at_div, at_mod]

theorem v102_apply (b : Fin 8) (p : Fin 2048) (K : Fin 128) :
    val_main_v102 (F := Ideal) x0 x2 x5 (ix2 (at_ b p) K) = sigm (val_main_v53 (F := Ideal) x0 x2 x5 (ix3 b p K)) := by
  unfold val_main_v102 val_main_v59 val_main_v57 val_main_v55 val_main_v54
  generalize val_main_v53 (F := Ideal) x0 x2 x5 = g
  pointwise [val_main_cst_2, val_main_v56, val_main_cst_3, val_main_v58]
  have z : ∀ a : EReal, 0 - a = -a := fun a => by rw [sub_eq_add_neg, zero_add]
  unfold sigm
  simp only [z, at_div, at_mod]

theorem v72_apply (b : Fin 8) (p : Fin 2048) (l : Fin 128) :
    val_main_v72 (F := Ideal) x0 x2 x5 x7 (ix3 b p l)
      = decay (x7 (ix2 0 l)) (val_main_v53 (F := Ideal) x0 x2 x5 (ix3 b p l) + x7 (ix2 1 l)) := by
  unfold val_main_v72 val_main_v69 val_main_call1_v4 val_main_call1_v6 val_main_call1_v11 val_main_call1_v1 val_main_call1_v10 val_main_call1_v9 val_main_call1_v8 val_main_call1_v7 val_main_call1_v3 val_main_v68
  generalize val_main_v53 (F := Ideal) x0 x2 x5 = g
  pointwise [val_main_v71, val_main_v70, val_main_v63, val_main_v62, val_main_v61, val_main_v60, val_main_call1_v5, val_main_call1_v2, val_main_call1_v0, val_main_call1_cst, val_main_v67, val_main_v66, val_main_v65, val_main_v64]
  rw [if_neg (fun e => e rfl)]
  unfold decay Ideal.log1p
  rw [sub_eq_add_neg, zero_add, sub_eq_add_neg, zero_add]
  rfl

theorem v74_apply (b : Fin 8) (n : Fin 32) (i : Fin 64) (l : Fin 128) :
    val_main_v74 (F := Ideal) x0 x2 x5 x7 (ix4 b n i l)
      = ∑ q : Fin 64, if q ≤ i then val_main_v72 (F := Ideal) x0 x2 x5 x7 (ix3 b ⟨64 * n.val + q.val, by omega⟩ l) else 0 := by
  have e : ∀ q : Fin 64, val_main_v73 (F := Ideal) x0 x2 x5 x7 (ix4 b n q l)
      = val_main_v72 (F := Ideal) x0 x2 x5 x7 (ix3 b ⟨64 * n.val + q.val, by omega⟩ l) := by
    intro q
    unfold val_main_v73
    generalize val_main_v72 (F := Ideal) x0 x2 x5 x7 = g
    pointwise
    refine congrArg g (congrArg (fun r => ix3 b r l) (Fin.ext ?_))
    dsimp only
    omega
  simp only [← e]
  unfold val_main_v74 Host.reduceWindowAdd
  exact cumsum_apply _ _ _ (by pointwise [val_main_call2_call0_v0, val_main_call2_call0_cst]) b n i l

theorem v103_apply (b : Fin 8) (p : Fin 2048) (l : Fin 128) :
    val_main_v103 (F := Ideal) x0 x2 x5 x7 (ix2 (at_ b p) l)
      = val_main_v74 (F := Ideal) x0 x2 x5 x7 (ix4 b ⟨p.val / 64, by omega⟩ ⟨p.val % 64, by omega⟩ l) := by
  unfold val_main_v103
  generalize val_main_v74 (F := Ideal) x0 x2 x5 x7 = g
  pointwise
  have e1 : (at_ b p).val / 64 % 32 = p.val / 64 := by
    show (b.val * 2048 + p.val) / 64 % 32 = p.val / 64
    omega
  have e2 : (at_ b p).val % 64 = p.val % 64 := by
    show (b.val * 2048 + p.val) % 64 = p.val % 64
    omega
  simp only [at_div, e1, e2]

theorem v105_apply (n : Fin 64) (K : Fin 4096) :
    val_main_v105 (F := Ideal) x0 x2 x3 (ix2 n K)
      = val_main_v17 (F := Ideal) x0 x2 x3 (ix3 ⟨n.val / 8, by omega⟩ ⟨2040 + n.val % 8, by omega⟩ K) := by
  unfold val_main_v105 val_main_v104
  generalize val_main_v17 (F := Ideal) x0 x2 x3 = g
  pointwise

end Cert.GdnProjReferenceIdeal.Proj

end
-- ==== Proof.GdnProjClaim.lean ====
/-
  The input projection of the `gdn` layer against its reference over whole arrays: the blocks the grid points read and write,
  what a point leaves for the next, and the two runs with the same seven results.
-/
module

public import proofs.«01_k».proof.Defs
public import proofs.«01_k».proof.Proof.GdnProjBlock
public import proofs.«01_k».proof.Proof.GdnProjValue
public import proofs.«01_k».proof.Proof.GdnProjMask
public import proofs.«01_k».proof.Proof.GdnProjRef
public import proofs.«01_k».proof.Proof.Gen.GdnProj.Frame
public import proofs.«01_k».proof.Proof.Gen.GdnProjIdeal.Value
public import proofs.«01_k».proof.Proof.Gen.GdnProjReferenceIdeal.Run
public import Idealize.ShloMosaic.Lib.Pipeline.ValueKit

@[expose] public section

set_option maxRecDepth 16384

noncomputable section

namespace Cert.GdnProjIdeal.Proj

open Cert.GdnProjIdeal Cert.GdnProjIdeal.Gen Idealize.ShloMosaic Idealize.ShloMosaic.TcCoe Idealize.SL.Sem
open Idealize.ShloMosaic.Pipeline (Dat)
open Cert.GdnProjReferenceIdeal.Proj (at_)
open Cert.GdnProjReferenceIdeal.Read
open Cert.Row

/-- Where point `t` finds its rows. -/
theorem where0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- Where point `t` finds its rows before. -/
theorem where1 : ∀ t : Fin cfg0.N, win0_1.index t ⟨0, by decide⟩ = t.val / 8 ∧ win0_1.index t ⟨1, by decide⟩ = 0 :=
  (by decide +kernel : ∀ t : Fin grid0.N, win0_1.index t ⟨0, by decide⟩ = t.val / 8 ∧ win0_1.index t ⟨1, by decide⟩ = 0)
/-- Where point `t` finds its norm weights. -/
theorem where2 : ∀ t : Fin cfg0.N, win0_2.index t ⟨0, by decide⟩ = 0 ∧ win0_2.index t ⟨1, by decide⟩ = 0 :=
  (by decide +kernel : ∀ t : Fin grid0.N, win0_2.index t ⟨0, by decide⟩ = 0 ∧ win0_2.index t ⟨1, by decide⟩ = 0)
/-- Where point `t` finds its projection weights. -/
theorem where3 : ∀ t : Fin cfg0.N, win0_3.index t ⟨0, by decide⟩ = 0 ∧ win0_3.index t ⟨1, by decide⟩ = 0 :=
  (by decide +kernel : ∀ t : Fin grid0.N, win0_3.index t ⟨0, by decide⟩ = 0 ∧ win0_3.index t ⟨1, by decide⟩ = 0)
/-- Where point `t` finds its gate weights. -/
theorem where4 : ∀ t : Fin cfg0.N, win0_4.index t ⟨0, by decide⟩ = 0 ∧ win0_4.index t ⟨1, by decide⟩ = 0 :=
  (by decide +kernel : ∀ t : Fin grid0.N, win0_4.index t ⟨0, by decide⟩ = 0 ∧ win0_4.index t ⟨1, by decide⟩ = 0)
/-- Where point `t` finds its rate weights. -/
theorem where5 : ∀ t : Fin cfg0.N, win0_5.index t ⟨0, by decide⟩ = 0 ∧ win0_5.index t ⟨1, by decide⟩ = 0 :=
  (by decide +kernel : ∀ t : Fin grid0.N, win0_5.index t ⟨0, by decide⟩ = 0 ∧ win0_5.index t ⟨1, by decide⟩ = 0)
/-- Where point `t` finds its convolution weights. -/
theorem where6 : ∀ t : Fin cfg0.N, win0_6.index t ⟨0, by decide⟩ = 0 ∧ win0_6.index t ⟨1, by decide⟩ = 0 :=
  (by decide +kernel : ∀ t : Fin grid0.N, win0_6.index t ⟨0, by decide⟩ = 0 ∧ win0_6.index t ⟨1, by decide⟩ = 0)
/-- Where point `t` finds its decay parameters. -/
theorem where7 : ∀ t : Fin cfg0.N, win0_7.index t ⟨0, by decide⟩ = 0 ∧ win0_7.index t ⟨1, by decide⟩ = 0 :=
  (by decide +kernel : ∀ t : Fin grid0.N, win0_7.index t ⟨0, by decide⟩ = 0 ∧ win0_7.index t ⟨1, by decide⟩ = 0)
/-- Where point `t` finds its triangle. -/
theorem where8 : ∀ t : Fin cfg0.N, win0_8.index t ⟨0, by decide⟩ = 0 ∧ win0_8.index t ⟨1, by decide⟩ = 0 :=
  (by decide +kernel : ∀ t : Fin grid0.N, win0_8.index t ⟨0, by decide⟩ = 0 ∧ win0_8.index t ⟨1, by decide⟩ = 0)
/-- Where point `t` finds its queries. -/
theorem where9 : ∀ t : Fin cfg0.N, win0_9.index t ⟨0, by decide⟩ = t.val ∧ win0_9.index t ⟨1, by decide⟩ = 0 :=
  (by decide +kernel : ∀ t : Fin grid0.N, win0_9.index t ⟨0, by decide⟩ = t.val ∧ win0_9.index t ⟨1, by decide⟩ = 0)
/-- Where point `t` finds its keys. -/
theorem where10 : ∀ t : Fin cfg0.N, win0_10.index t ⟨0, by decide⟩ = t.val ∧ win0_10.index t ⟨1, by decide⟩ = 0 :=
  (by decide +kernel : ∀ t : Fin grid0.N, win0_10.index t ⟨0, by decide⟩ = t.val ∧ win0_10.index t ⟨1, by decide⟩ = 0)
/-- Where point `t` finds its values. -/
theorem where11 : ∀ t : Fin cfg0.N, win0_11.index t ⟨0, by decide⟩ = t.val ∧ win0_11.index t ⟨1, by decide⟩ = 0 :=
  (by decide +kernel : ∀ t : Fin grid0.N, win0_11.index t ⟨0, by decide⟩ = t.val ∧ win0_11.index t ⟨1, by decide⟩ = 0)
/-- Where point `t` finds its gates. -/
theorem where12 : ∀ t : Fin cfg0.N, win0_12.index t ⟨0, by decide⟩ = t.val ∧ win0_12.index t ⟨1, by decide⟩ = 0 :=
  (by decide +kernel : ∀ t : Fin grid0.N, win0_12.index t ⟨0, by decide⟩ = t.val ∧ win0_12.index t ⟨1, by decide⟩ = 0)
/-- Where point `t` finds its rates. -/
theorem where13 : ∀ t : Fin cfg0.N, win0_13.index t ⟨0, by decide⟩ = t.val ∧ win0_13.index t ⟨1, by decide⟩ = 0 :=
  (by decide +kernel : ∀ t : Fin grid0.N, win0_13.index t ⟨0, by decide⟩ = t.val ∧ win0_13.index t ⟨1, by decide⟩ = 0)
/-- Where point `t` finds its summed decays. -/
theorem where14 : ∀ t : Fin cfg0.N, win0_14.index t ⟨0, by decide⟩ = t.val ∧ win0_14.index t ⟨1, by decide⟩ = 0 :=
  (by decide +kernel : ∀ t : Fin grid0.N, win0_14.index t ⟨0, by decide⟩ = t.val ∧ win0_14.index t ⟨1, by decide⟩ = 0)
/-- Where point `t` finds its last rows. -/
theorem where15 : ∀ t : Fin cfg0.N, win0_15.index t ⟨0, by decide⟩ = t.val / 8 ∧ win0_15.index t ⟨1, by decide⟩ = 0 :=
  (by decide +kernel : ∀ t : Fin grid0.N, win0_15.index t ⟨0, by decide⟩ = t.val / 8 ∧ win0_15.index t ⟨1, by decide⟩ = 0)
theorem lt_N : ∀ t : Fin cfg0.N, t.val < 64 := (by decide +kernel : ∀ t : Fin grid0.N, t.val < 64)

/-- The sequence of point `t`. -/
def seq (t : Fin cfg0.N) : Fin 8 := ⟨t.val / 8, by have := lt_N t; omega⟩
/-- The position in its sequence of row `r` of point `t`. -/
def pos (t : Fin cfg0.N) (r : Fin 256) : Fin 2048 := ⟨256 * (t.val % 8) + r.val, by omega⟩

variable (m : (ℓ : Loc nD τ sig) → Buf (Elt Ideal) ℓ) (c : Dev nD)

/-- The rows, as an array. -/
abbrev a0 := m ((c.tc : Thread nD τ).loc main_arg0)
/-- The rows before, as an array. -/
abbrev a1 := m ((c.tc : Thread nD τ).loc main_arg1)
/-- The norm weights, as an array. -/
abbrev a2 := m ((c.tc : Thread nD τ).loc main_arg2)
/-- The projection weights, as an array. -/
abbrev a3 := m ((c.tc : Thread nD τ).loc main_arg3)
/-- The gate weights, as an array. -/
abbrev a4 := m ((c.tc : Thread nD τ).loc main_arg4)
/-- The rate weights, as an array. -/
abbrev a5 := m ((c.tc : Thread nD τ).loc main_arg5)
/-- The convolution weights, as an array. -/
abbrev a6 := m ((c.tc : Thread nD τ).loc main_arg6)
/-- The decay parameters, as an array. -/
abbrev a7 := m ((c.tc : Thread nD τ).loc main_arg7)

theorem iblk_0 (t : Fin cfg0.N) (r : Fin 256) (l : Fin 1024) : iblk m c 0 t (ix2 r l) = a0 m c (ix2 (at_ (seq t) (pos t r)) l) := by
  have e := where0 t
  refine (congrArg (V m c main_arg0) (funext fun a => Fin.ext ?_)).trans (congrFun (V_main_arg0 m c) _)
  match a with
  | ⟨0, _⟩ =>
    show win0_0.index t ⟨0, by decide⟩ * 256 + 1 * r.val = t.val / 8 * 2048 + (256 * (t.val % 8) + r.val)
    rw [e.1]; omega
  | ⟨1, _⟩ =>
    show win0_0.index t ⟨1, by decide⟩ * 1024 + 1 * l.val = l.val
    rw [e.2]; omega

theorem iblk_1 (t : Fin cfg0.N) (r : Fin 8) (l : Fin 4096) : iblk m c 1 t (ix2 r l) = a1 m c (ix2 (⟨8 * (t.val / 8) + r.val, by have := lt_N t; omega⟩) l) := by
  have e := where1 t
  refine (congrArg (V m c main_arg1) (funext fun a => Fin.ext ?_)).trans (congrFun (V_main_arg1 m c) _)
  match a with
  | ⟨0, _⟩ =>
    show win0_1.index t ⟨0, by decide⟩ * 8 + 1 * r.val = 8 * (t.val / 8) + r.val
    rw [e.1]; omega
  | ⟨1, _⟩ =>
    show win0_1.index t ⟨1, by decide⟩ * 4096 + 1 * l.val = l.val
    rw [e.2]; omega

theorem iblk_2 (t : Fin cfg0.N) (r : Fin 8) (l : Fin 1024) : iblk m c 2 t (ix2 r l) = a2 m c (ix2 r l) := by
  have e := where2 t
  refine (congrArg (V m c main_arg2) (funext fun a => Fin.ext ?_)).trans (congrFun (V_main_arg2 m c) _)
  match a with
  | ⟨0, _⟩ =>
    show win0_2.index t ⟨0, by decide⟩ * 8 + 1 * r.val = r.val
    rw [e.1]; omega
  | ⟨1, _⟩ =>
    show win0_2.index t ⟨1, by decide⟩ * 1024 + 1 * l.val = l.val
    rw [e.2]; omega

theorem iblk_3 (t : Fin cfg0.N) (r : Fin 1024) (l : Fin 4096) : iblk m c 3 t (ix2 r l) = a3 m c (ix2 r l) := by
  have e := where3 t
  refine (congrArg (V m c main_arg3) (funext fun a => Fin.ext ?_)).trans (congrFun (V_main_arg3 m c) _)
  match a with
  | ⟨0, _⟩ =>
    show win0_3.index t ⟨0, by decide⟩ * 1024 + 1 * r.val = r.val
    rw [e.1]; omega
  | ⟨1, _⟩ =>
    show win0_3.index t ⟨1, by decide⟩ * 4096 + 1 * l.val = l.val
    rw [e.2]; omega

theorem iblk_4 (t : Fin cfg0.N) (r : Fin 1024) (l : Fin 2048) : iblk m c 4 t (ix2 r l) = a4 m c (ix2 r l) := by
  have e := where4 t
  refine (congrArg (V m c main_arg4) (funext fun a => Fin.ext ?_)).trans (congrFun (V_main_arg4 m c) _)
  match a with
  | ⟨0, _⟩ =>
    show win0_4.index t ⟨0, by decide⟩ * 1024 + 1 * r.val = r.val
    rw [e.1]; omega
  | ⟨1, _⟩ =>
    show win0_4.index t ⟨1, by decide⟩ * 2048 + 1 * l.val = l.val
    rw [e.2]; omega

theorem iblk_5 (t : Fin cfg0.N) (r : Fin 1024) (l : Fin 128) : iblk m c 5 t (ix2 r l) = a5 m c (ix2 r l) := by
  have e := where5 t
  refine (congrArg (V m c main_arg5) (funext fun a => Fin.ext ?_)).trans (congrFun (V_main_arg5 m c) _)
  match a with
  | ⟨0, _⟩ =>
    show win0_5.index t ⟨0, by decide⟩ * 1024 + 1 * r.val = r.val
    rw [e.1]; omega
  | ⟨1, _⟩ =>
    show win0_5.index t ⟨1, by decide⟩ * 128 + 1 * l.val = l.val
    rw [e.2]; omega

theorem iblk_6 (t : Fin cfg0.N) (r : Fin 8) (l : Fin 4096) : iblk m c 6 t (ix2 r l) = a6 m c (ix2 r l) := by
  have e := where6 t
  refine (congrArg (V m c main_arg6) (funext fun a => Fin.ext ?_)).trans (congrFun (V_main_arg6 m c) _)
  match a with
  | ⟨0, _⟩ =>
    show win0_6.index t ⟨0, by decide⟩ * 8 + 1 * r.val = r.val
    rw [e.1]; omega
  | ⟨1, _⟩ =>
    show win0_6.index t ⟨1, by decide⟩ * 4096 + 1 * l.val = l.val
    rw [e.2]; omega

theorem iblk_7 (t : Fin cfg0.N) (r : Fin 8) (l : Fin 128) : iblk m c 7 t (ix2 r l) = a7 m c (ix2 r l) := by
  have e := where7 t
  refine (congrArg (V m c main_arg7) (funext fun a => Fin.ext ?_)).trans (congrFun (V_main_arg7 m c) _)
  match a with
  | ⟨0, _⟩ =>
    show win0_7.index t ⟨0, by decide⟩ * 8 + 1 * r.val = r.val
    rw [e.1]; omega
  | ⟨1, _⟩ =>
    show win0_7.index t ⟨1, by decide⟩ * 128 + 1 * l.val = l.val
    rw [e.2]; omega

theorem iblk_8 (t : Fin cfg0.N) (r : Fin 64) (l : Fin 64) : iblk m c 8 t (ix2 r l) = V m c main_v16 (ix2 r l) := by
  have e := where8 t
  refine congrArg (V m c main_v16) (funext fun a => Fin.ext ?_)
  match a with
  | ⟨0, _⟩ =>
    show win0_8.index t ⟨0, by decide⟩ * 64 + 1 * r.val = r.val
    rw [e.1]; omega
  | ⟨1, _⟩ =>
    show win0_8.index t ⟨1, by decide⟩ * 64 + 1 * l.val = l.val
    rw [e.2]; omega

/-- The block of an array of queries that point `t` writes, entry by entry. -/
theorem read_9 (G : Buf (Elt Ideal) ((c.tc : Thread nD τ).loc main_v17_0)) (t : Fin cfg0.N) (r : Fin 256) (l : Fin 1024) :
    ((cfg0.win 9).blk t).view.read (Elt Ideal) G (ix2 r l) = G (ix2 (at_ (seq t) (pos t r)) l) := by
  have e := where9 t
  show G _ = _
  refine congrArg G (funext fun a => Fin.ext ?_)
  match a with
  | ⟨0, _⟩ =>
    show win0_9.index t ⟨0, by decide⟩ * 256 + 1 * r.val = t.val / 8 * 2048 + (256 * (t.val % 8) + r.val)
    rw [e.1]; omega
  | ⟨1, _⟩ =>
    show win0_9.index t ⟨1, by decide⟩ * 1024 + 1 * l.val = l.val
    rw [e.2]; omega

/-- The block of an array of keys that point `t` writes, entry by entry. -/
theorem read_10 (G : Buf (Elt Ideal) ((c.tc : Thread nD τ).loc main_v17_1)) (t : Fin cfg0.N) (r : Fin 256) (l : Fin 1024) :
    ((cfg0.win 10).blk t).view.read (Elt Ideal) G (ix2 r l) = G (ix2 (at_ (seq t) (pos t r)) l) := by
  have e := where10 t
  show G _ = _
  refine congrArg G (funext fun a => Fin.ext ?_)
  match a with
  | ⟨0, _⟩ =>
    show win0_10.index t ⟨0, by decide⟩ * 256 + 1 * r.val = t.val / 8 * 2048 + (256 * (t.val % 8) + r.val)
    rw [e.1]; omega
  | ⟨1, _⟩ =>
    show win0_10.index t ⟨1, by decide⟩ * 1024 + 1 * l.val = l.val
    rw [e.2]; omega

/-- The block of an array of values that point `t` writes, entry by entry. -/
theorem read_11 (G : Buf (Elt Ideal) ((c.tc : Thread nD τ).loc main_v17_2)) (t : Fin cfg0.N) (r : Fin 256) (l : Fin 2048) :
    ((cfg0.win 11).blk t).view.read (Elt Ideal) G (ix2 r l) = G (ix2 (at_ (seq t) (pos t r)) l) := by
  have e := where11 t
  show G _ = _
  refine congrArg G (funext fun a => Fin.ext ?_)
  match a with
  | ⟨0, _⟩ =>
    show win0_11.index t ⟨0, by decide⟩ * 256 + 1 * r.val = t.val / 8 * 2048 + (256 * (t.val % 8) + r.val)
    rw [e.1]; omega
  | ⟨1, _⟩ =>
    show win0_11.index t ⟨1, by decide⟩ * 2048 + 1 * l.val = l.val
    rw [e.2]; omega

/-- The block of an array of gates that point `t` writes, entry by entry. -/
theorem read_12 (G : Buf (Elt Ideal) ((c.tc : Thread nD τ).loc main_v17_3)) (t : Fin cfg0.N) (r : Fin 256) (l : Fin 2048) :
    ((cfg0.win 12).blk t).view.read (Elt Ideal) G (ix2 r l) = G (ix2 (at_ (seq t) (pos t r)) l) := by
  have e := where12 t
  show G _ = _
  refine congrArg G (funext fun a => Fin.ext ?_)
  match a with
  | ⟨0, _⟩ =>
    show win0_12.index t ⟨0, by decide⟩ * 256 + 1 * r.val = t.val / 8 * 2048 + (256 * (t.val % 8) + r.val)
    rw [e.1]; omega
  | ⟨1, _⟩ =>
    show win0_12.index t ⟨1, by decide⟩ * 2048 + 1 * l.val = l.val
    rw [e.2]; omega

/-- The block of an array of rates that point `t` writes, entry by entry. -/
theorem read_13 (G : Buf (Elt Ideal) ((c.tc : Thread nD τ).loc main_v17_4)) (t : Fin cfg0.N) (r : Fin 256) (l : Fin 128) :
    ((cfg0.win 13).blk t).view.read (Elt Ideal) G (ix2 r l) = G (ix2 (at_ (seq t) (pos t r)) l) := by
  have e := where13 t
  show G _ = _
  refine congrArg G (funext fun a => Fin.ext ?_)
  match a with
  | ⟨0, _⟩ =>
    show win0_13.index t ⟨0, by decide⟩ * 256 + 1 * r.val = t.val / 8 * 2048 + (256 * (t.val % 8) + r.val)
    rw [e.1]; omega
  | ⟨1, _⟩ =>
    show win0_13.index t ⟨1, by decide⟩ * 128 + 1 * l.val = l.val
    rw [e.2]; omega

/-- The block of an array of summed decays that point `t` writes, entry by entry. -/
theorem read_14 (G : Buf (Elt Ideal) ((c.tc : Thread nD τ).loc main_v17_5)) (t : Fin cfg0.N) (r : Fin 256) (l : Fin 128) :
    ((cfg0.win 14).blk t).view.read (Elt Ideal) G (ix2 r l) = G (ix2 (at_ (seq t) (pos t r)) l) := by
  have e := where14 t
  show G _ = _
  refine congrArg G (funext fun a => Fin.ext ?_)
  match a with
  | ⟨0, _⟩ =>
    show win0_14.index t ⟨0, by decide⟩ * 256 + 1 * r.val = t.val / 8 * 2048 + (256 * (t.val % 8) + r.val)
    rw [e.1]; omega
  | ⟨1, _⟩ =>
    show win0_14.index t ⟨1, by decide⟩ * 128 + 1 * l.val = l.val
    rw [e.2]; omega

/-- The block of an array of last rows that point `t` writes, entry by entry. -/
theorem read_15 (G : Buf (Elt Ideal) ((c.tc : Thread nD τ).loc main_v17_6)) (t : Fin cfg0.N) (r : Fin 8) (l : Fin 4096) :
    ((cfg0.win 15).blk t).view.read (Elt Ideal) G (ix2 r l) = G (ix2 (⟨8 * (t.val / 8) + r.val, by have := lt_N t; omega⟩) l) := by
  have e := where15 t
  show G _ = _
  refine congrArg G (funext fun a => Fin.ext ?_)
  match a with
  | ⟨0, _⟩ =>
    show win0_15.index t ⟨0, by decide⟩ * 8 + 1 * r.val = 8 * (t.val / 8) + r.val
    rw [e.1]; omega
  | ⟨1, _⟩ =>
    show win0_15.index t ⟨1, by decide⟩ * 4096 + 1 * l.val = l.val
    rw [e.2]; omega

theorem tri_eq (t : Fin cfg0.N) (i j : Fin 64) : iblk m c 8 t (ix2 i j) = if j ≤ i then (1 : EReal) else 0 :=
  (iblk_8 m c t i j).trans (mask_eq m c i j)

/-- The normalised rows of point `t`. -/
abbrev hidden (t : Fin cfg0.N) : FVec Ideal S256x1024 .bf16 := hid (F := Ideal) (iblk m c 0 t) (iblk m c 2 t)

theorem hidden_eq (t : Fin cfg0.N) (r : Fin 256) (d : Fin 1024) :
    hidden m c t (ix2 r d) = val_main_v15 (F := Ideal) (a0 m c) (a2 m c) (ix3 (seq t) (pos t r) d) := by
  rw [Cert.GdnProjReferenceIdeal.Proj.v15_apply]
  refine (hid_apply (iblk m c 0 t) (iblk m c 2 t) r d).trans ?_
  simp only [iblk_0, iblk_2]

theorem up_eq (t : Fin cfg0.N) (k : Fin 8) (r : Fin 256) (j : Fin 512) :
    up (hidden m c t) (iblk m c 3 t) k (ix2 r j)
      = val_main_v17 (F := Ideal) (a0 m c) (a2 m c) (a3 m c) (ix3 (seq t) (pos t r) (col k j)) := by
  rw [Cert.GdnProjReferenceIdeal.Proj.v17_apply]
  refine (up_apply (hidden m c t) (iblk m c 3 t) k r j).trans (Finset.sum_congr rfl fun d _ => ?_)
  rw [hidden_eq, iblk_3]

theorem tails_eq (t : Fin cfg0.N) (q : Fin 8) (K : Fin 4096) :
    tails (hidden m c t) (iblk m c 3 t) (ix2 q K)
      = val_main_v17 (F := Ideal) (a0 m c) (a2 m c) (a3 m c) (ix3 (seq t) (pos t ⟨248 + q.val, by omega⟩) K) := by
  rw [Cert.GdnProjReferenceIdeal.Proj.v17_apply]
  refine (tails_apply (hidden m c t) (iblk m c 3 t) q K).trans (Finset.sum_congr rfl fun d _ => ?_)
  rw [hidden_eq, iblk_3]

/-- What point `t` leaves for the next: the last eight rows of its projection. -/
theorem carried_eq (t : Fin cfg0.N) : (outsAt0 m c t.val t.isLt).2.2.2.2.2.2.2 = tails (hidden m c t) (iblk m c 3 t) := by
  by_cases h0 : t.val % 8 = 0
  · rw [outsAt0_A m c t h0]
    dsimp only
    rw [carry_A]
  · rw [outsAt0_B m c t h0]
    dsimp only
    rw [carry_B]

/-- The eight rows before point `t`: the caller's at the first point of a sequence, else what the point before left. -/
def prior (t : Fin cfg0.N) : Vec Ideal S8x4096 .f32 :=
  if t.val % 8 = 0 then k0_pay2 (F := Ideal) (iblk m c 1 t)
  else (outsAt0 m c (t.val - 1) (Nat.lt_of_le_of_lt (Nat.sub_le _ _) t.isLt)).2.2.2.2.2.2.2

theorem outQ_eq (t : Fin cfg0.N) : (outsAt0 m c t.val t.isLt).1
    = outQ (F := Ideal) (hidden m c t) (prior m c t) (iblk m c 3 t) (iblk m c 6 t) := by
  unfold prior
  by_cases h0 : t.val % 8 = 0
  · rw [outsAt0_A m c t h0, if_pos h0]
    dsimp only
    rw [q_A]
  · rw [outsAt0_B m c t h0, if_neg h0]
    dsimp only
    rw [q_B]

theorem outK_eq (t : Fin cfg0.N) : (outsAt0 m c t.val t.isLt).2.1
    = outK (F := Ideal) (hidden m c t) (prior m c t) (iblk m c 3 t) (iblk m c 6 t) := by
  unfold prior
  by_cases h0 : t.val % 8 = 0
  · rw [outsAt0_A m c t h0, if_pos h0]
    dsimp only
    rw [k_A]
  · rw [outsAt0_B m c t h0, if_neg h0]
    dsimp only
    rw [k_B]

theorem outV_eq (t : Fin cfg0.N) : (outsAt0 m c t.val t.isLt).2.2.1
    = outV (F := Ideal) (hidden m c t) (prior m c t) (iblk m c 3 t) (iblk m c 6 t) := by
  unfold prior
  by_cases h0 : t.val % 8 = 0
  · rw [outsAt0_A m c t h0, if_pos h0]
    dsimp only
    rw [v_A]
  · rw [outsAt0_B m c t h0, if_neg h0]
    dsimp only
    rw [v_B]

theorem outZ_eq (t : Fin cfg0.N) : (outsAt0 m c t.val t.isLt).2.2.2.1
    = k0_pay4 (F := Ideal) (iblk m c 0 t) (nw0 (iblk m c 2 t)) (iblk m c 4 t) := by
  by_cases h0 : t.val % 8 = 0
  · rw [outsAt0_A m c t h0]
    dsimp only
    rw [z_A]
  · rw [outsAt0_B m c t h0]
    dsimp only
    rw [z_B]

theorem outBeta_eq (t : Fin cfg0.N) : (outsAt0 m c t.val t.isLt).2.2.2.2.1
    = k0_pay6 (F := Ideal) (iblk m c 0 t) (nw0 (iblk m c 2 t)) (iblk m c 5 t) := by
  by_cases h0 : t.val % 8 = 0
  · rw [outsAt0_A m c t h0]
    dsimp only
    rw [beta_A]
  · rw [outsAt0_B m c t h0]
    dsimp only
    rw [beta_B]

theorem outGc_eq (t : Fin cfg0.N) : (outsAt0 m c t.val t.isLt).2.2.2.2.2.1
    = k0_pay7 (F := Ideal) (k0_pay5 (F := Ideal) (iblk m c 0 t) (nw0 (iblk m c 2 t)) (iblk m c 5 t))
        (View.ld (iblk m c 7 t) (Rect.unit (s := S8x128) ![0, 0] S1x128.size inb_S8x128_S1x128_0_0))
        (View.ld (iblk m c 7 t) (Rect.unit (s := S8x128) ![1, 0] S1x128.size inb_S8x128_S1x128_1_0)) (iblk m c 8 t) := by
  by_cases h0 : t.val % 8 = 0
  · rw [outsAt0_A m c t h0]
    dsimp only
    rw [gc_A]
    rfl
  · rw [outsAt0_B m c t h0]
    dsimp only
    rw [gc_B]
    rfl

theorem outLast_eq (t : Fin cfg0.N) : (outsAt0 m c t.val t.isLt).2.2.2.2.2.2.1
    = tails (hidden m c t) (iblk m c 3 t) := by
  by_cases h0 : t.val % 8 = 0
  · rw [outsAt0_A m c t h0]
    dsimp only
    rw [st_A]
  · rw [outsAt0_B m c t h0]
    dsimp only
    rw [st_B]

/-- The row `s` above a row of point `t` is the row `s` above it in its sequence. -/
theorem above_eq (t : Fin cfg0.N) (k : Fin 8) (s : ℕ) (hs : s ≤ 8) (r : Fin 256) (j : Fin 512) :
    above (up (hidden m c t) (iblk m c 3 t) k) (prior m c t) k s r j
      = Cert.GdnProjReferenceIdeal.Proj.above (a1 m c) (val_main_v17 (F := Ideal) (a0 m c) (a2 m c) (a3 m c)) (seq t) s (pos t r) (col k j) := by
  have hN := lt_N t
  unfold above Cert.GdnProjReferenceIdeal.Proj.above
  by_cases hr : r.val < s
  · rw [dif_pos ⟨hr, hs⟩]
    unfold prior
    by_cases h0 : t.val % 8 = 0
    · have hp : (pos t r).val < s := by show 256 * (t.val % 8) + r.val < s; omega
      rw [if_pos h0, dif_pos ⟨hp, hs⟩]
      refine (pay2_apply (iblk m c 1 t) _ _).trans ((iblk_1 m c t _ _).trans ?_)
      refine congrArg (a1 m c) (congrArg₂ ix2 (Fin.ext ?_) rfl)
      show 8 * (t.val / 8) + (r.val + 8 - s) = t.val / 8 * 8 + (256 * (t.val % 8) + r.val + 8 - s)
      omega
    · have hp : ¬ (pos t r).val < s := by show ¬ 256 * (t.val % 8) + r.val < s; omega
      rw [if_neg h0, dif_neg (fun e => hp e.1)]
      have ht : t.val - 1 < cfg0.N := Nat.lt_of_le_of_lt (Nat.sub_le _ _) t.isLt
      refine (congrFun (carried_eq m c ⟨t.val - 1, ht⟩) _).trans ((tails_eq m c ⟨t.val - 1, ht⟩ _ _).trans ?_)
      refine congrArg _ ?_
      have e1 : seq ⟨t.val - 1, ht⟩ = seq t := Fin.ext (by show (t.val - 1) / 8 = t.val / 8; omega)
      rw [e1]
      refine congrArg (fun q => ix3 (seq t) q (col k j)) (Fin.ext ?_)
      show 256 * ((t.val - 1) % 8) + (248 + (r.val + 8 - s)) = 256 * (t.val % 8) + r.val - s
      omega
  · have hp : ¬ (pos t r).val < s := by show ¬ 256 * (t.val % 8) + r.val < s; omega
    rw [dif_neg (fun e => hr e.1), dif_neg (fun e => hp e.1), up_eq]
    refine congrArg _ (congrArg (fun q => ix3 (seq t) q (col k j)) (Fin.ext ?_))
    show 256 * (t.val % 8) + (r.val - s) = 256 * (t.val % 8) + r.val - s
    omega

/-- The kernel adds its four taps in the opposite order. -/
theorem taps (a b d e : EReal) : a + b + d + e = e + d + b + a := by
  rw [add_comm (a + b + d) e, add_comm (a + b) d, add_comm a b, ← add_assoc, ← add_assoc]

theorem mix_eq (t : Fin cfg0.N) (k : Fin 8) (r : Fin 256) (j : Fin 512) :
    mix (hidden m c t) (prior m c t) (iblk m c 3 t) (iblk m c 6 t) k (ix2 r j)
      = val_main_v49 (F := Ideal) (a0 m c) (a1 m c) (a2 m c) (a3 m c) (a6 m c) (ix3 (seq t) (pos t r) (col k j)) := by
  rw [Cert.GdnProjReferenceIdeal.Proj.v49_apply, Cert.GdnProjReferenceIdeal.Proj.v48_apply]
  refine (mix_apply (hidden m c t) (prior m c t) (iblk m c 3 t) (iblk m c 6 t) k r j).trans (congrArg silu ?_)
  rw [above_eq m c t k 3 (by decide), above_eq m c t k 2 (by decide), above_eq m c t k 1 (by decide), up_eq, iblk_6, iblk_6, iblk_6, iblk_6, taps]

theorem outQ_apply (h : FVec Ideal S256x1024 .bf16) (prev : Vec Ideal S8x4096 .f32) (x3 : Vec Ideal S1024x4096 .bf16) (x6 : Vec Ideal S8x4096 .f32) (r : Fin 256) (K : Fin 1024) :
    outQ h prev x3 x6 (ix2 r K) = unitf (fun e => mix h prev x3 x6 ⟨K.val / 512, by omega⟩
      (ix2 r ⟨128 * (K.val % 512 / 128) + e.val, by omega⟩)) ⟨K.val % 128, by omega⟩ * Ideal.ofBits .f32 0x3DB504F3#32 := by
  refine (scaled_apply (head (mix h prev x3 x6 ⟨K.val / 512, by omega⟩) ⟨K.val % 512 / 128, by omega⟩) r ⟨K.val % 128, by omega⟩).trans ?_
  simp only [head_apply]

theorem outK_apply (h : FVec Ideal S256x1024 .bf16) (prev : Vec Ideal S8x4096 .f32) (x3 : Vec Ideal S1024x4096 .bf16) (x6 : Vec Ideal S8x4096 .f32) (r : Fin 256) (K : Fin 1024) :
    outK h prev x3 x6 (ix2 r K) = unitf (fun e => mix h prev x3 x6 ⟨2 + K.val / 512, by omega⟩
      (ix2 r ⟨128 * (K.val % 512 / 128) + e.val, by omega⟩)) ⟨K.val % 128, by omega⟩ := by
  refine (unit_apply (head (mix h prev x3 x6 ⟨2 + K.val / 512, by omega⟩) ⟨K.val % 512 / 128, by omega⟩) r ⟨K.val % 128, by omega⟩).trans ?_
  simp only [head_apply]

theorem outV_apply (h : FVec Ideal S256x1024 .bf16) (prev : Vec Ideal S8x4096 .f32) (x3 : Vec Ideal S1024x4096 .bf16) (x6 : Vec Ideal S8x4096 .f32) (r : Fin 256) (K : Fin 2048) :
    outV h prev x3 x6 (ix2 r K) = mix h prev x3 x6 ⟨4 + K.val / 512, by omega⟩ (ix2 r ⟨K.val % 512, by omega⟩) := rfl

/-! The reference's results on the kernel's arguments. -/

/-- The queries of the reference. -/
abbrev expectedQ : Buf (Elt Ideal) ((c.tc : Thread nD τ).loc main_v17_0) :=
  val_main_v98 (F := Ideal) (a0 m c) (a1 m c) (a2 m c) (a3 m c) (a6 m c)
/-- The keys of the reference. -/
abbrev expectedK : Buf (Elt Ideal) ((c.tc : Thread nD τ).loc main_v17_1) :=
  val_main_v99 (F := Ideal) (a0 m c) (a1 m c) (a2 m c) (a3 m c) (a6 m c)
/-- The values of the reference. -/
abbrev expectedV : Buf (Elt Ideal) ((c.tc : Thread nD τ).loc main_v17_2) :=
  val_main_v100 (F := Ideal) (a0 m c) (a1 m c) (a2 m c) (a3 m c) (a6 m c)
/-- The gates of the reference. -/
abbrev expectedZ : Buf (Elt Ideal) ((c.tc : Thread nD τ).loc main_v17_3) :=
  val_main_v101 (F := Ideal) (a0 m c) (a2 m c) (a4 m c)
/-- The rates of the reference. -/
abbrev expectedBeta : Buf (Elt Ideal) ((c.tc : Thread nD τ).loc main_v17_4) :=
  val_main_v102 (F := Ideal) (a0 m c) (a2 m c) (a5 m c)
/-- The summed decays of the reference. -/
abbrev expectedGc : Buf (Elt Ideal) ((c.tc : Thread nD τ).loc main_v17_5) :=
  val_main_v103 (F := Ideal) (a0 m c) (a2 m c) (a5 m c) (a7 m c)
/-- The last rows of the reference. -/
abbrev expectedLast : Buf (Elt Ideal) ((c.tc : Thread nD τ).loc main_v17_6) :=
  val_main_v105 (F := Ideal) (a0 m c) (a2 m c) (a3 m c)

theorem rate_eq (t : Fin cfg0.N) (r : Fin 256) (l : Fin 128) :
    k0_pay5 (F := Ideal) (iblk m c 0 t) (nw0 (iblk m c 2 t)) (iblk m c 5 t) (ix2 r l)
      = val_main_v53 (F := Ideal) (a0 m c) (a2 m c) (a5 m c) (ix3 (seq t) (pos t r) l) := by
  rw [Cert.GdnProjReferenceIdeal.Proj.v53_apply]
  refine (bg_apply (iblk m c 0 t) (iblk m c 2 t) (iblk m c 5 t) r l).trans (Finset.sum_congr rfl fun d _ => ?_)
  exact congrArg₂ (· * ·) (hidden_eq m c t r d) (iblk_5 m c t d l)

/-- Point `t` writes back its block of the reference's queries. -/
theorem flushedQ_eq (t : Fin cfg0.N) :
    (dats m 0 c).flushed 9 t = ((cfg0.win 9).blk t).view.read (Elt Ideal) (expectedQ m c) := by
  have hN := lt_N t
  rw [Cert.GdnProjIdeal.Value.flushed9, outQ_eq]
  funext x
  obtain ⟨r, K, rfl⟩ : ∃ (r : Fin 256) (K : Fin 1024), x = ix2 r K := ⟨x 0, x 1, eq_ix2 x⟩
  rw [read_9]
  unfold expectedQ
  rw [Cert.GdnProjReferenceIdeal.Proj.v98_apply, Cert.GdnProjReferenceIdeal.Proj.v84_apply]
  refine (outQ_apply (hidden m c t) (prior m c t) (iblk m c 3 t) (iblk m c 6 t) r K).trans ?_
  refine congrArg (fun f => unitf f _ * _) (funext fun e => ?_)
  rw [mix_eq, Cert.GdnProjReferenceIdeal.Proj.v76_apply]
  refine congrArg _ (congrArg (ix3 (seq t) (pos t r)) (Fin.ext ?_))
  show 512 * (K.val / 512) + (128 * (K.val % 512 / 128) + e.val) = 0 + (128 * (K.val / 128) + e.val)
  omega

/-- Point `t` writes back its block of the reference's keys. -/
theorem flushedK_eq (t : Fin cfg0.N) :
    (dats m 0 c).flushed 10 t = ((cfg0.win 10).blk t).view.read (Elt Ideal) (expectedK m c) := by
  have hN := lt_N t
  rw [Cert.GdnProjIdeal.Value.flushed10, outK_eq]
  funext x
  obtain ⟨r, K, rfl⟩ : ∃ (r : Fin 256) (K : Fin 1024), x = ix2 r K := ⟨x 0, x 1, eq_ix2 x⟩
  rw [read_10]
  unfold expectedK
  rw [Cert.GdnProjReferenceIdeal.Proj.v99_apply, Cert.GdnProjReferenceIdeal.Proj.v96_apply]
  refine (outK_apply (hidden m c t) (prior m c t) (iblk m c 3 t) (iblk m c 6 t) r K).trans ?_
  refine congrArg (fun f => unitf f _) (funext fun e => ?_)
  rw [mix_eq, Cert.GdnProjReferenceIdeal.Proj.v88_apply]
  refine congrArg _ (congrArg (ix3 (seq t) (pos t r)) (Fin.ext ?_))
  show 512 * (2 + K.val / 512) + (128 * (K.val % 512 / 128) + e.val) = 1024 + (128 * (K.val / 128) + e.val)
  omega

/-- Point `t` writes back its block of the reference's values. -/
theorem flushedV_eq (t : Fin cfg0.N) :
    (dats m 0 c).flushed 11 t = ((cfg0.win 11).blk t).view.read (Elt Ideal) (expectedV m c) := by
  have hN := lt_N t
  rw [Cert.GdnProjIdeal.Value.flushed11, outV_eq]
  funext x
  obtain ⟨r, K, rfl⟩ : ∃ (r : Fin 256) (K : Fin 2048), x = ix2 r K := ⟨x 0, x 1, eq_ix2 x⟩
  rw [read_11]
  unfold expectedV
  rw [Cert.GdnProjReferenceIdeal.Proj.v100_apply]
  refine (outV_apply (hidden m c t) (prior m c t) (iblk m c 3 t) (iblk m c 6 t) r K).trans ?_
  rw [mix_eq]
  refine congrArg _ (congrArg (ix3 (seq t) (pos t r)) (Fin.ext ?_))
  show 512 * (4 + K.val / 512) + K.val % 512 = 2048 + K.val
  omega

/-- Point `t` writes back its block of the reference's gates. -/
theorem flushedZ_eq (t : Fin cfg0.N) :
    (dats m 0 c).flushed 12 t = ((cfg0.win 12).blk t).view.read (Elt Ideal) (expectedZ m c) := by
  have hN := lt_N t
  rw [Cert.GdnProjIdeal.Value.flushed12, outZ_eq]
  funext x
  obtain ⟨r, K, rfl⟩ : ∃ (r : Fin 256) (K : Fin 2048), x = ix2 r K := ⟨x 0, x 1, eq_ix2 x⟩
  rw [read_12]
  unfold expectedZ
  rw [Cert.GdnProjReferenceIdeal.Proj.v101_apply, Cert.GdnProjReferenceIdeal.Proj.v51_apply]
  refine (z_apply (iblk m c 0 t) (iblk m c 2 t) (iblk m c 4 t) r K).trans (Finset.sum_congr rfl fun d _ => ?_)
  exact congrArg₂ (· * ·) (hidden_eq m c t r d) (iblk_4 m c t d K)

/-- Point `t` writes back its block of the reference's rates. -/
theorem flushedBeta_eq (t : Fin cfg0.N) :
    (dats m 0 c).flushed 13 t = ((cfg0.win 13).blk t).view.read (Elt Ideal) (expectedBeta m c) := by
  have hN := lt_N t
  rw [Cert.GdnProjIdeal.Value.flushed13, outBeta_eq]
  funext x
  obtain ⟨r, K, rfl⟩ : ∃ (r : Fin 256) (K : Fin 128), x = ix2 r K := ⟨x 0, x 1, eq_ix2 x⟩
  rw [read_13]
  unfold expectedBeta
  rw [Cert.GdnProjReferenceIdeal.Proj.v102_apply]
  refine (beta_apply (iblk m c 0 t) (iblk m c 2 t) (iblk m c 5 t) r K).trans ?_
  exact congrArg sigm (rate_eq m c t r K)

/-- Point `t` writes back its block of the reference's summed decays. -/
theorem flushedGc_eq (t : Fin cfg0.N) :
    (dats m 0 c).flushed 14 t = ((cfg0.win 14).blk t).view.read (Elt Ideal) (expectedGc m c) := by
  have hN := lt_N t
  rw [Cert.GdnProjIdeal.Value.flushed14, outGc_eq]
  funext x
  obtain ⟨r, K, rfl⟩ : ∃ (r : Fin 256) (K : Fin 128), x = ix2 r K := ⟨x 0, x 1, eq_ix2 x⟩
  rw [read_14]
  unfold expectedGc
  rw [Cert.GdnProjReferenceIdeal.Proj.v103_apply, Cert.GdnProjReferenceIdeal.Proj.v74_apply]
  refine (gc_apply (k0_pay5 (F := Ideal) (iblk m c 0 t) (nw0 (iblk m c 2 t)) (iblk m c 5 t)) (iblk m c 7 t) (iblk m c 8 t) (tri_eq m c t) r K).trans ?_
  refine Finset.sum_congr rfl fun q _ => ?_
  have hc : (q ≤ (⟨(pos t r).val % 64, by omega⟩ : Fin 64)) ↔ q.val ≤ r.val % 64 := by
    show q.val ≤ (256 * (t.val % 8) + r.val) % 64 ↔ q.val ≤ r.val % 64
    omega
  have e1 : (⟨64 * ((pos t r).val / 64) + q.val, by omega⟩ : Fin 2048) = pos t ⟨64 * (r.val / 64) + q.val, by omega⟩ :=
    Fin.ext (by show 64 * ((256 * (t.val % 8) + r.val) / 64) + q.val = 256 * (t.val % 8) + (64 * (r.val / 64) + q.val); omega)
  by_cases hq : q.val ≤ r.val % 64
  · rw [if_pos hq, if_pos (hc.mpr hq), Cert.GdnProjReferenceIdeal.Proj.v72_apply]
    dsimp only
    rw [e1, rate_eq, iblk_7, iblk_7]
  · rw [if_neg hq, if_neg (fun e => hq (hc.mp e))]

/-- The last point of a sequence writes back its block of the reference's last rows. -/
theorem flushedLast_eq (t : Fin cfg0.N) (ht : t.val % 8 = 7) :
    (dats m 0 c).flushed 15 t = ((cfg0.win 15).blk t).view.read (Elt Ideal) (expectedLast m c) := by
  have hN := lt_N t
  rw [Cert.GdnProjIdeal.Value.flushed15, outLast_eq]
  funext x
  obtain ⟨r, K, rfl⟩ : ∃ (r : Fin 8) (K : Fin 4096), x = ix2 r K := ⟨x 0, x 1, eq_ix2 x⟩
  rw [read_15]
  unfold expectedLast
  rw [Cert.GdnProjReferenceIdeal.Proj.v105_apply]
  refine (tails_eq m c t r K).trans ?_
  have e1 : (⟨(8 * (t.val / 8) + r.val) / 8, by omega⟩ : Fin 8) = seq t :=
    Fin.ext (by show (8 * (t.val / 8) + r.val) / 8 = t.val / 8; omega)
  have e2 : (⟨2040 + (8 * (t.val / 8) + r.val) % 8, by omega⟩ : Fin 2048) = pos t ⟨248 + r.val, by omega⟩ :=
    Fin.ext (by show 2040 + (8 * (t.val / 8) + r.val) % 8 = 256 * (t.val % 8) + (248 + r.val); omega)
  dsimp only
  rw [e1, e2]

theorem coverQ (i : S16384x1024.Idx) : ∃ t : Fin cfg0.N, (cfg0.win 9).flush t = true ∧ i ∈ ((cfg0.win 9).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where9 ⟨n.val / 256, hlt⟩
  refine ⟨⟨n.val / 256, hlt⟩, flush0_9 _, ?_⟩
  refine Finset.mem_map.mpr ⟨ix2 (⟨n.val % 256, by omega⟩ : Fin 256) l, Finset.mem_univ _, funext fun a => Fin.ext ?_⟩
  match a with
  | ⟨0, _⟩ =>
    show win0_9.index ⟨n.val / 256, hlt⟩ ⟨0, by decide⟩ * 256 + 1 * (n.val % 256) = n.val
    rw [e.1]; show n.val / 256 * 256 + 1 * (n.val % 256) = n.val; omega
  | ⟨1, _⟩ =>
    show win0_9.index ⟨n.val / 256, hlt⟩ ⟨1, by decide⟩ * 1024 + 1 * l.val = l.val
    rw [e.2]; omega

theorem coverK (i : S16384x1024.Idx) : ∃ t : Fin cfg0.N, (cfg0.win 10).flush t = true ∧ i ∈ ((cfg0.win 10).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where10 ⟨n.val / 256, hlt⟩
  refine ⟨⟨n.val / 256, hlt⟩, flush0_10 _, ?_⟩
  refine Finset.mem_map.mpr ⟨ix2 (⟨n.val % 256, by omega⟩ : Fin 256) l, Finset.mem_univ _, funext fun a => Fin.ext ?_⟩
  match a with
  | ⟨0, _⟩ =>
    show win0_10.index ⟨n.val / 256, hlt⟩ ⟨0, by decide⟩ * 256 + 1 * (n.val % 256) = n.val
    rw [e.1]; show n.val / 256 * 256 + 1 * (n.val % 256) = n.val; omega
  | ⟨1, _⟩ =>
    show win0_10.index ⟨n.val / 256, hlt⟩ ⟨1, by decide⟩ * 1024 + 1 * l.val = l.val
    rw [e.2]; omega

theorem coverV (i : S16384x2048.Idx) : ∃ t : Fin cfg0.N, (cfg0.win 11).flush t = true ∧ i ∈ ((cfg0.win 11).blk t).view.set := by
  obtain ⟨n, l, rfl⟩ : ∃ (n : Fin 16384) (l : Fin 2048), i = ix2 n l := ⟨i 0, i 1, eq_ix2 i⟩
  have hlt : n.val / 256 < cfg0.N := lt_of_lt_of_eq (show n.val / 256 < 64 by omega) (by decide +kernel : 64 = grid0.N)
  have e := where11 ⟨n.val / 256, hlt⟩
  refine ⟨⟨n.val / 256, hlt⟩, flush0_11 _, ?_⟩
  refine Finset.mem_map.mpr ⟨ix2 (⟨n.val % 256, by omega⟩ : Fin 256) l, Finset.mem_univ _, funext fun a => Fin.ext ?_⟩
  match a with
  | ⟨0, _⟩ =>
    show win0_11.index ⟨n.val / 256, hlt⟩ ⟨0, by decide⟩ * 256 + 1 * (n.val % 256) = n.val
    rw [e.1]; show n.val / 256 * 256 + 1 * (n.val % 256) = n.val; omega
  | ⟨1, _⟩ =>
    show win0_11.index ⟨n.val / 256, hlt⟩ ⟨1, by decide⟩ * 2048 + 1 * l.val = l.val
    rw [e.2]; omega

theorem coverZ (i : S16384x2048.Idx) : ∃ t : Fin cfg0.N, (cfg0.win 12).flush t = true ∧ i ∈ ((cfg0.win 12).blk t).view.set := by
  obtain ⟨n, l, rfl⟩ : ∃ (n : Fin 16384) (l : Fin 2048), i = ix2 n l := ⟨i 0, i 1, eq_ix2 i⟩
  have hlt : n.val / 256 < cfg0.N := lt_of_lt_of_eq (show n.val / 256 < 64 by omega) (by decide +kernel : 64 = grid0.N)
  have e := where12 ⟨n.val / 256, hlt⟩
  refine ⟨⟨n.val / 256, hlt⟩, flush0_12 _, ?_⟩
  refine Finset.mem_map.mpr ⟨ix2 (⟨n.val % 256, by omega⟩ : Fin 256) l, Finset.mem_univ _, funext fun a => Fin.ext ?_⟩
  match a with
  | ⟨0, _⟩ =>
    show win0_12.index ⟨n.val / 256, hlt⟩ ⟨0, by decide⟩ * 256 + 1 * (n.val % 256) = n.val
    rw [e.1]; show n.val / 256 * 256 + 1 * (n.val % 256) = n.val; omega
  | ⟨1, _⟩ =>
    show win0_12.index ⟨n.val / 256, hlt⟩ ⟨1, by decide⟩ * 2048 + 1 * l.val = l.val
    rw [e.2]; omega

theorem coverBeta (i : S16384x128.Idx) : ∃ t : Fin cfg0.N, (cfg0.win 13).flush t = true ∧ i ∈ ((cfg0.win 13).blk t).view.set := by
  obtain ⟨n, l, rfl⟩ : ∃ (n : Fin 16384) (l : Fin 128), i = ix2 n l := ⟨i 0, i 1, eq_ix2 i⟩
  have hlt : n.val / 256 < cfg0.N := lt_of_lt_of_eq (show n.val / 256 < 64 by omega) (by decide +kernel : 64 = grid0.N)
  have e := where13 ⟨n.val / 256, hlt⟩
  refine ⟨⟨n.val / 256, hlt⟩, flush0_13 _, ?_⟩
  refine Finset.mem_map.mpr ⟨ix2 (⟨n.val % 256, by omega⟩ : Fin 256) l, Finset.mem_univ _, funext fun a => Fin.ext ?_⟩
  match a with
  | ⟨0, _⟩ =>
    show win0_13.index ⟨n.val / 256, hlt⟩ ⟨0, by decide⟩ * 256 + 1 * (n.val % 256) = n.val
    rw [e.1]; show n.val / 256 * 256 + 1 * (n.val % 256) = n.val; omega
  | ⟨1, _⟩ =>
    show win0_13.index ⟨n.val / 256, hlt⟩ ⟨1, by decide⟩ * 128 + 1 * l.val = l.val
    rw [e.2]; omega

theorem coverGc (i : S16384x128.Idx) : ∃ t : Fin cfg0.N, (cfg0.win 14).flush t = true ∧ i ∈ ((cfg0.win 14).blk t).view.set := by
  obtain ⟨n, l, rfl⟩ : ∃ (n : Fin 16384) (l : Fin 128), i = ix2 n l := ⟨i 0, i 1, eq_ix2 i⟩
  have hlt : n.val / 256 < cfg0.N := lt_of_lt_of_eq (show n.val / 256 < 64 by omega) (by decide +kernel : 64 = grid0.N)
  have e := where14 ⟨n.val / 256, hlt⟩
  refine ⟨⟨n.val / 256, hlt⟩, flush0_14 _, ?_⟩
  refine Finset.mem_map.mpr ⟨ix2 (⟨n.val % 256, by omega⟩ : Fin 256) l, Finset.mem_univ _, funext fun a => Fin.ext ?_⟩
  match a with
  | ⟨0, _⟩ =>
    show win0_14.index ⟨n.val / 256, hlt⟩ ⟨0, by decide⟩ * 256 + 1 * (n.val % 256) = n.val
    rw [e.1]; show n.val / 256 * 256 + 1 * (n.val % 256) = n.val; omega
  | ⟨1, _⟩ =>
    show win0_14.index ⟨n.val / 256, hlt⟩ ⟨1, by decide⟩ * 128 + 1 * l.val = l.val
    rw [e.2]; omega

theorem coverLast (i : S64x4096.Idx) : ∃ t : Fin cfg0.N, (cfg0.win 15).flush t = true ∧ i ∈ ((cfg0.win 15).blk t).view.set := by
  obtain ⟨n, l, rfl⟩ : ∃ (n : Fin 64) (l : Fin 4096), i = ix2 n l := ⟨i 0, i 1, eq_ix2 i⟩
  have hlt : 8 * (n.val / 8) + 7 < cfg0.N := lt_of_lt_of_eq (show 8 * (n.val / 8) + 7 < 64 by omega) (by decide +kernel : 64 = grid0.N)
  have e := where15 ⟨8 * (n.val / 8) + 7, hlt⟩
  refine ⟨⟨8 * (n.val / 8) + 7, hlt⟩, (flush0_15 _).mpr (by show (8 * (n.val / 8) + 7) % 8 = 7; omega), ?_⟩
  refine Finset.mem_map.mpr ⟨ix2 (⟨n.val % 8, by omega⟩ : Fin 8) l, Finset.mem_univ _, funext fun a => Fin.ext ?_⟩
  match a with
  | ⟨0, _⟩ =>
    show win0_15.index ⟨8 * (n.val / 8) + 7, hlt⟩ ⟨0, by decide⟩ * 8 + 1 * (n.val % 8) = n.val
    rw [e.1]; show (8 * (n.val / 8) + 7) / 8 * 8 + 1 * (n.val % 8) = n.val; omega
  | ⟨1, _⟩ =>
    show win0_15.index ⟨8 * (n.val / 8) + 7, hlt⟩ ⟨1, by decide⟩ * 4096 + 1 * l.val = l.val
    rw [e.2]; omega

/-! The kernel's output arrays after its run are the reference's results. -/

theorem resultQ_eq : (dats m 0 c).arrAt 9 cfg0.N = expectedQ m c :=
  (dats m 0 c).arrAt_eq_of_cover 9 (expectedQ m c) (fun t _ => flushedQ_eq m c t) (fun i => coverQ i)
theorem resultK_eq : (dats m 0 c).arrAt 10 cfg0.N = expectedK m c :=
  (dats m 0 c).arrAt_eq_of_cover 10 (expectedK m c) (fun t _ => flushedK_eq m c t) (fun i => coverK i)
theorem resultV_eq : (dats m 0 c).arrAt 11 cfg0.N = expectedV m c :=
  (dats m 0 c).arrAt_eq_of_cover 11 (expectedV m c) (fun t _ => flushedV_eq m c t) (fun i => coverV i)
theorem resultZ_eq : (dats m 0 c).arrAt 12 cfg0.N = expectedZ m c :=
  (dats m 0 c).arrAt_eq_of_cover 12 (expectedZ m c) (fun t _ => flushedZ_eq m c t) (fun i => coverZ i)
theorem resultBeta_eq : (dats m 0 c).arrAt 13 cfg0.N = expectedBeta m c :=
  (dats m 0 c).arrAt_eq_of_cover 13 (expectedBeta m c) (fun t _ => flushedBeta_eq m c t) (fun i => coverBeta i)
theorem resultGc_eq : (dats m 0 c).arrAt 14 cfg0.N = expectedGc m c :=
  (dats m 0 c).arrAt_eq_of_cover 14 (expectedGc m c) (fun t _ => flushedGc_eq m c t) (fun i => coverGc i)
theorem resultLast_eq : (dats m 0 c).arrAt 15 cfg0.N = expectedLast m c :=
  (dats m 0 c).arrAt_eq_of_cover 15 (expectedLast m c) (fun t ht => flushedLast_eq m c t ((flush0_15 t).mp ht)) (fun i => coverLast i)

/-- The value claim: at every argument, kernel and reference both run and end with the same seven results. -/
theorem algebraic : Cert.algebraic_GdnProjIdeal_GdnProjReferenceIdeal (hGdnProjIdeal := Cert.GdnProjIdeal.Gen.facts)
    (hGdnProjReferenceIdeal := Cert.GdnProjReferenceIdeal.Gen.facts) := by
  intro m g m' g' _ hargs
  refine ⟨fun c => expectedQ m c, fun c => expectedK m c, fun c => expectedV m c, fun c => expectedZ m c, fun c => expectedBeta m c, fun c => expectedGc m c, fun c => expectedLast m c, ?_, ?_⟩
  · refine (θ_run _ _ _).mono (fun r h c => ?_) (Cert.GdnProjIdeal.Value.run_blocks m g)
    obtain ⟨h9, h10, h11, h12, h13, h14, h15, hk⟩ := h c
    exact ⟨h9.trans (resultQ_eq m c), h10.trans (resultK_eq m c), h11.trans (resultV_eq m c), h12.trans (resultZ_eq m c), h13.trans (resultBeta_eq m c), h14.trans (resultGc_eq m c), h15.trans (resultLast_eq m c), hk⟩
  · refine (θ_run _ _ _).mono (fun r h c => ?_) (Cert.GdnProjReferenceIdeal.Value.run m' g')
    obtain ⟨h9, h10, h11, h12, h13, h14, h15, hk⟩ := h c
    obtain ⟨e0, e1, e2, e3, e4, e5, e6, e7⟩ := hargs c
    refine ⟨h9.trans ?_, h10.trans ?_, h11.trans ?_, h12.trans ?_, h13.trans ?_, h14.trans ?_, h15.trans ?_, hk⟩
    · rw [val_main_v98_eq, e0, e1, e2, e3, e6]
    · rw [val_main_v99_eq, e0, e1, e2, e3, e6]
    · rw [val_main_v100_eq, e0, e1, e2, e3, e6]
    · rw [val_main_v101_eq, e0, e2, e4]
    · rw [val_main_v102_eq, e0, e2, e5]
    · rw [val_main_v103_eq, e0, e2, e5, e7]
    · rw [val_main_v105_eq, e0, e2, e3]

end Cert.GdnProjIdeal.Proj

end
-- ==== Proof.RwkvFirstBlock.lean ====
/-
  What one grid point of the `rwkv` input projection leaves, stage by stage.
-/
module

public import proofs.«01_k».proof.Proof.Gen.RwkvFirstIdeal.Value
public import Idealize.ShloMosaic.Lib.Tactic
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RwkvFirstIdeal.Proj

open Cert.RwkvFirstIdeal Cert.RwkvFirstIdeal.Gen Idealize.ShloMosaic Idealize.ShloMosaic.TcCoe Idealize.SL.Sem

variable {F : FTy → Type} [FloatOps F]

/-- The normalised rows of a block. -/
def hid (x0 : Vec F S256x1024 .f32) (x2 : Vec F S16x1024 .f32) : FVec F S256x1024 .f32 :=
  k0_pay4 x0 (View.ld x2 (Rect.unit (s := S16x1024) ![10, 0] S1x1024.size inb_S16x1024_S1x1024_10_0))

/-- Each row's neighbour above, less the row. -/
def dif (x0 : Vec F S256x1024 .f32) (prev : Vec F S8x1024 .f32) (x2 : Vec F S16x1024 .f32) : FVec F S256x1024 .f32 :=
  k0_pay8 (hid x0 x2) (k0_pay5 x0 (View.ld x2 (Rect.unit (s := S16x1024) ![10, 0] S1x1024.size inb_S16x1024_S1x1024_10_0))) (k0_pay6 prev) k0_pay7 1#32

/-- The receptances. -/
def rr (x0 : Vec F S256x1024 .f32) (prev : Vec F S8x1024 .f32) (x2 : Vec F S16x1024 .f32) (x3 : Vec F S3x1024x1024 .bf16) : FVec F S256x1024 .f32 :=
  k0_pay11 (hid x0 x2) (k0_pay5 x0 (View.ld x2 (Rect.unit (s := S16x1024) ![10, 0] S1x1024.size inb_S16x1024_S1x1024_10_0))) (k0_pay6 prev) k0_pay7 1#32 (View.ld x2 (Rect.unit (s := S16x1024) ![0, 0] S1x1024.size inb_S16x1024_S1x1024_0_0)) (View.ld x3 (Rect.unit (s := S3x1024x1024) ![0, 0, 0] S1x1024x1024.size inb_S3x1024x1024_S1x1024x1024_0_0_0))

/-- The keys before their changes. -/
def kr (x0 : Vec F S256x1024 .f32) (prev : Vec F S8x1024 .f32) (x2 : Vec F S16x1024 .f32) (x3 : Vec F S3x1024x1024 .bf16) : FVec F S256x1024 .f32 :=
  k0_pay12 (hid x0 x2) (k0_pay5 x0 (View.ld x2 (Rect.unit (s := S16x1024) ![10, 0] S1x1024.size inb_S16x1024_S1x1024_10_0))) (k0_pay6 prev) k0_pay7 1#32 (View.ld x2 (Rect.unit (s := S16x1024) ![1, 0] S1x1024.size inb_S16x1024_S1x1024_1_0)) (View.ld x3 (Rect.unit (s := S3x1024x1024) ![1, 0, 0] S1x1024x1024.size inb_S3x1024x1024_S1x1024x1024_1_0_0))

/-- The values. -/
def va (x0 : Vec F S256x1024 .f32) (prev : Vec F S8x1024 .f32) (x2 : Vec F S16x1024 .f32) (x3 : Vec F S3x1024x1024 .bf16) : FVec F S256x1024 .f32 :=
  k0_pay13 (hid x0 x2) (k0_pay5 x0 (View.ld x2 (Rect.unit (s := S16x1024) ![10, 0] S1x1024.size inb_S16x1024_S1x1024_10_0))) (k0_pay6 prev) k0_pay7 1#32 (View.ld x2 (Rect.unit (s := S16x1024) ![2, 0] S1x1024.size inb_S16x1024_S1x1024_2_0)) (View.ld x3 (Rect.unit (s := S3x1024x1024) ![2, 0, 0] S1x1024x1024.size inb_S3x1024x1024_S1x1024x1024_2_0_0))

/-- The decays' exponents. -/
def dec (x0 : Vec F S256x1024 .f32) (prev : Vec F S8x1024 .f32) (x2 : Vec F S16x1024 .f32) (x4 : Vec F S1024x64 .bf16) (x5 : Vec F S64x1024 .bf16) : FVec F S256x1024 .f32 :=
  k0_pay14 (hid x0 x2) (dif x0 prev x2) (View.ld x2 (Rect.unit (s := S16x1024) ![6, 0] S1x1024.size inb_S16x1024_S1x1024_6_0)) (View.ld x2 (Rect.unit (s := S16x1024) ![3, 0] S1x1024.size inb_S16x1024_S1x1024_3_0)) x4 x5

/-- The rates in context. -/
def ai (x0 : Vec F S256x1024 .f32) (prev : Vec F S8x1024 .f32) (x2 : Vec F S16x1024 .f32) (x6 : Vec F S1024x64 .bf16) (x7 : Vec F S64x1024 .bf16) : FVec F S256x1024 .f32 :=
  k0_pay16 (View.ld x2 (Rect.unit (s := S16x1024) ![7, 0] S1x1024.size inb_S16x1024_S1x1024_7_0)) (k0_pay15 (hid x0 x2) (dif x0 prev x2) (View.ld x2 (Rect.unit (s := S16x1024) ![4, 0] S1x1024.size inb_S16x1024_S1x1024_4_0))) x6 (constant S256x64 .f32 0x00000000#32) x7

/-- The gates. -/
def ga (x0 : Vec F S256x1024 .f32) (prev : Vec F S8x1024 .f32) (x2 : Vec F S16x1024 .f32) (x8 : Vec F S1024x160 .bf16) (x9 : Vec F S160x1024 .bf16) : FVec F S256x1024 .f32 :=
  k0_pay17 (hid x0 x2) (dif x0 prev x2) (View.ld x2 (Rect.unit (s := S16x1024) ![5, 0] S1x1024.size inb_S16x1024_S1x1024_5_0)) x8 x9

/-- The keys over their heads' lengths. -/
def kk (k : FVec F S256x1024 .f32) (x2 : Vec F S16x1024 .f32) (x11 : Vec F S128x128 .f32) : FVec F S256x1024 .f32 :=
  k0_pay19 (k0_pay18 k (View.ld x2 (Rect.unit (s := S16x1024) ![8, 0] S1x1024.size inb_S16x1024_S1x1024_8_0))) x11

/-- The log decays. -/
def lw (w : FVec F S256x1024 .f32) : FVec F S256x1024 .f32 :=
  k0_pay21 w

/-- The log decays summed down each chunk. -/
def cu (w : FVec F S256x1024 .f32) (x10 : Vec F S64x64 .f32) : FVec F S256x1024 .f32 :=
  k0_pay25 (lw w) (k0_pay22 x10) (k0_pay23 w x10) (k0_pay24 w) (constant S64x1024 .f32 0x00000000#32)

/-- The receptances from a chunk's start. -/
def outR (r w : FVec F S256x1024 .f32) (x10 : Vec F S64x64 .f32) : FVec F S256x1024 .f32 :=
  k0_pay27 r (lw w) (k0_pay22 x10) (k0_pay23 w x10) (k0_pay24 w) (constant S64x1024 .f32 0x00000000#32)

/-- The keys back to a chunk's start. -/
def outK (k a w : FVec F S256x1024 .f32) (x2 : Vec F S16x1024 .f32) (x10 : Vec F S64x64 .f32) : FVec F S256x1024 .f32 :=
  k0_pay28 (k0_pay20 k a (View.ld x2 (Rect.unit (s := S16x1024) ![9, 0] S1x1024.size inb_S16x1024_S1x1024_9_0))) (lw w) (k0_pay22 x10) (k0_pay23 w x10) (k0_pay24 w) (constant S64x1024 .f32 0x00000000#32)

/-- The removal keys. -/
def outA (kn w : FVec F S256x1024 .f32) (x10 : Vec F S64x64 .f32) : FVec F S256x1024 .f32 :=
  k0_pay29 kn (lw w) (k0_pay22 x10) (k0_pay23 w x10) (k0_pay24 w) (constant S64x1024 .f32 0x00000000#32)

/-- The replacement keys. -/
def outB (kn a w : FVec F S256x1024 .f32) (x10 : Vec F S64x64 .f32) : FVec F S256x1024 .f32 :=
  k0_pay30 a kn (lw w) (k0_pay22 x10) (k0_pay23 w x10) (k0_pay24 w) (constant S64x1024 .f32 0x00000000#32)

/-- The last eight rows of a block. -/
def tails (h : FVec F S256x1024 .f32) : Vec F S8x1024 .f32 :=
  k0_pay9 h

/-- The rows kept for the next block. -/
def keep (h : FVec F S256x1024 .f32) : Vec F S8x1024 .f32 :=
  k0_pay10 h

/-- The decay over each chunk of a block. -/
def outL (u : FVec F S256x1024 .f32) : Vec F S4x1x1024 .f32 := fun y =>
  (exp u : FVec F S256x1024 .f32) (ix2 ⟨64 * (y 0).val + 63, by have : (y 0).val < 4 := (y 0).isLt; omega⟩ (y 2))

theorem l_at0 (w : FVec F S256x1024 .f32) (x10 : Vec F S64x64 .f32) (x : S1x1x1024.Idx) (y : S4x1x1024.Idx) (h0 : (y 0 : ℕ) = 0)
    (h2 : (y 2 : ℕ) = (x 2 : ℕ)) : k0_pay31 (lw w) (k0_pay22 x10) (k0_pay23 w x10) (k0_pay24 w) (constant S64x1024 .f32 0x00000000#32) x = outL (cu w x10) y := by
  have e : (⟨64 * (y 0).val + 63, by have : (y 0).val < 4 := (y 0).isLt; omega⟩ : Fin 256) = ⟨63, by omega⟩ := Fin.ext (by show 64 * (y 0 : ℕ) + 63 = 63; omega)
  unfold outL
  rw [e]
  unfold k0_pay31 cu
  generalize k0_pay25 (F := F) _ _ _ _ _ = g
  pointwise
  refine congrArg _ (congrArg g (funext fun a => Fin.ext ?_))
  match a with
  | ⟨0, _⟩ => rfl
  | ⟨1, _⟩ => exact h2.symm

theorem l_at1 (w : FVec F S256x1024 .f32) (x10 : Vec F S64x64 .f32) (x : S1x1x1024.Idx) (y : S4x1x1024.Idx) (h0 : (y 0 : ℕ) = 1)
    (h2 : (y 2 : ℕ) = (x 2 : ℕ)) : k0_pay32 (lw w) (k0_pay22 x10) (k0_pay23 w x10) (k0_pay24 w) (constant S64x1024 .f32 0x00000000#32) x = outL (cu w x10) y := by
  have e : (⟨64 * (y 0).val + 63, by have : (y 0).val < 4 := (y 0).isLt; omega⟩ : Fin 256) = ⟨127, by omega⟩ := Fin.ext (by show 64 * (y 0 : ℕ) + 63 = 127; omega)
  unfold outL
  rw [e]
  unfold k0_pay32 cu
  generalize k0_pay25 (F := F) _ _ _ _ _ = g
  pointwise
  refine congrArg _ (congrArg g (funext fun a => Fin.ext ?_))
  match a with
  | ⟨0, _⟩ => rfl
  | ⟨1, _⟩ => exact h2.symm

theorem l_at2 (w : FVec F S256x1024 .f32) (x10 : Vec F S64x64 .f32) (x : S1x1x1024.Idx) (y : S4x1x1024.Idx) (h0 : (y 0 : ℕ) = 2)
    (h2 : (y 2 : ℕ) = (x 2 : ℕ)) : k0_pay1 (k0_pay33 (lw w) (k0_pay22 x10) (k0_pay23 w x10) (k0_pay24 w) (constant S64x1024 .f32 0x00000000#32)) x = outL (cu w x10) y := by
  have e : (⟨64 * (y 0).val + 63, by have : (y 0).val < 4 := (y 0).isLt; omega⟩ : Fin 256) = ⟨191, by omega⟩ := Fin.ext (by show 64 * (y 0 : ℕ) + 63 = 191; omega)
  unfold outL
  rw [e]
  unfold k0_pay1 k0_pay33 cu
  generalize k0_pay25 (F := F) _ _ _ _ _ = g
  pointwise
  refine congrArg _ (congrArg g (funext fun a => Fin.ext ?_))
  match a with
  | ⟨0, _⟩ => rfl
  | ⟨1, _⟩ => exact h2.symm

theorem l_at3 (w : FVec F S256x1024 .f32) (x10 : Vec F S64x64 .f32) (x : S1x1x1024.Idx) (y : S4x1x1024.Idx) (h0 : (y 0 : ℕ) = 3)
    (h2 : (y 2 : ℕ) = (x 2 : ℕ)) : k0_pay2 (cu w x10) x = outL (cu w x10) y := by
  have e : (⟨64 * (y 0).val + 63, by have : (y 0).val < 4 := (y 0).isLt; omega⟩ : Fin 256) = ⟨255, by omega⟩ := Fin.ext (by show 64 * (y 0 : ℕ) + 63 = 255; omega)
  unfold outL
  rw [e]
  unfold k0_pay2 cu
  generalize k0_pay25 (F := F) _ _ _ _ _ = g
  pointwise
  refine congrArg _ (congrArg g (funext fun a => Fin.ext ?_))
  match a with
  | ⟨0, _⟩ => rfl
  | ⟨1, _⟩ => exact h2.symm

variable (c : Dev nD) (i : grid0.Coords)
  (arg2 : Memref sig .tc .vmem S256x1024 .f32) (harg2 : arg2.IsWhole) (arg3 : Memref sig .tc .vmem S8x1024 .f32) (harg3 : arg3.IsWhole) (arg4 : Memref sig .tc .vmem S16x1024 .f32) (harg4 : arg4.IsWhole) (arg5 : Memref sig .tc .vmem S3x1024x1024 .bf16) (harg5 : arg5.IsWhole) (arg6 : Memref sig .tc .vmem S1024x64 .bf16) (harg6 : arg6.IsWhole) (arg7 : Memref sig .tc .vmem S64x1024 .bf16) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1024x160 .bf16) (harg10 : arg10.IsWhole) (arg11 : Memref sig .tc .vmem S160x1024 .bf16) (harg11 : arg11.IsWhole) (arg12 : Memref sig .tc .vmem S64x64 .f32) (harg12 : arg12.IsWhole) (arg13 : Memref sig .tc .vmem S128x128 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S4x1x1024 .f32) (harg20 : arg20.IsWhole) (arg21 : Memref sig .tc .vmem S8x1024 .f32) (harg21 : arg21.IsWhole) (arg22 : Memref sig .tc .vmem S8x1024 .f32) (harg22 : arg22.IsWhole)
  (x0 : Vec F S256x1024 .f32) (x1 : Vec F S8x1024 .f32) (x2 : Vec F S16x1024 .f32) (x3 : Vec F S3x1024x1024 .bf16) (x4 : Vec F S1024x64 .bf16) (x5 : Vec F S64x1024 .bf16) (x6 : Vec F S1024x64 .bf16) (x7 : Vec F S64x1024 .bf16) (x8 : Vec F S1024x160 .bf16) (x9 : Vec F S160x1024 .bf16) (x10 : Vec F S64x64 .f32) (x11 : Vec F S128x128 .f32) (xs0 : Vec F S8x1024 .f32)

theorem rt_B (hc0) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = outR (rr x0 xs0 x2 x3) (dec x0 xs0 x2 x4 x5) x10 := by
  frame_out
  rfl

theorem kt_B (hc0) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = outK (kr x0 xs0 x2 x3) (ai x0 xs0 x2 x6 x7) (dec x0 xs0 x2 x4 x5) x2 x10 := by
  frame_out
  rfl

theorem at_B (hc0) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = outA (kk (kr x0 xs0 x2 x3) x2 x11) (dec x0 xs0 x2 x4 x5) x10 := by
  frame_out
  rfl

theorem bt_B (hc0) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = outB (kk (kr x0 xs0 x2 x3) x2 x11) (ai x0 xs0 x2 x6 x7) (dec x0 xs0 x2 x4 x5) x10 := by
  frame_out
  rfl

theorem v_B (hc0) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = va x0 xs0 x2 x3 := by
  frame_out
  rfl

theorem g_B (hc0) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = ga x0 xs0 x2 x8 x9 := by
  frame_out
  rfl

theorem gl_B (hc0) : out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = outL (cu (dec x0 xs0 x2 x4 x5) x10) := by
  funext y
  frame_out
  canon_tiles x h
  · exact l_at3 (dec x0 xs0 x2 x4 x5) x10 x y (by have hx : (x 0 : ℕ) < 1 := (x 0).isLt; omega) (by omega)
  · exact l_at2 (dec x0 xs0 x2 x4 x5) x10 x y (by have hx : (x 0 : ℕ) < 1 := (x 0).isLt; omega) (by omega)
  · exact l_at1 (dec x0 xs0 x2 x4 x5) x10 x y (by have hx : (x 0 : ℕ) < 1 := (x 0).isLt; omega) (by omega)
  · exact l_at0 (dec x0 xs0 x2 x4 x5) x10 x y (by have hx : (x 0 : ℕ) < 1 := (x 0).isLt; omega) (by omega)

theorem hl_B (hc0) : out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = tails (hid x0 x2) := by
  frame_out
  rfl

theorem carry_B (hc0) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0
    = keep (hid x0 x2) := by
  frame_out
  rfl

theorem rt_A (hc0) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = outR (rr x0 (k0_pay3 x1) x2 x3) (dec x0 (k0_pay3 x1) x2 x4 x5) x10 := by
  frame_out
  try simp (disch := decide) only [↓View.readCov_skip, ↓View.readCov_fill]
  rfl

theorem kt_A (hc0) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = outK (kr x0 (k0_pay3 x1) x2 x3) (ai x0 (k0_pay3 x1) x2 x6 x7) (dec x0 (k0_pay3 x1) x2 x4 x5) x2 x10 := by
  frame_out
  try simp (disch := decide) only [↓View.readCov_skip, ↓View.readCov_fill]
  rfl

theorem at_A (hc0) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = outA (kk (kr x0 (k0_pay3 x1) x2 x3) x2 x11) (dec x0 (k0_pay3 x1) x2 x4 x5) x10 := by
  frame_out
  try simp (disch := decide) only [↓View.readCov_skip, ↓View.readCov_fill]
  rfl

theorem bt_A (hc0) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = outB (kk (kr x0 (k0_pay3 x1) x2 x3) x2 x11) (ai x0 (k0_pay3 x1) x2 x6 x7) (dec x0 (k0_pay3 x1) x2 x4 x5) x10 := by
  frame_out
  try simp (disch := decide) only [↓View.readCov_skip, ↓View.readCov_fill]
  rfl

theorem v_A (hc0) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = va x0 (k0_pay3 x1) x2 x3 := by
  frame_out
  try simp (disch := decide) only [↓View.readCov_skip, ↓View.readCov_fill]
  rfl

theorem g_A (hc0) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = ga x0 (k0_pay3 x1) x2 x8 x9 := by
  frame_out
  try simp (disch := decide) only [↓View.readCov_skip, ↓View.readCov_fill]
  rfl

theorem gl_A (hc0) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = outL (cu (dec x0 (k0_pay3 x1) x2 x4 x5) x10) := by
  funext y
  frame_out
  try simp (disch := decide) only [↓View.readCov_skip, ↓View.readCov_fill]
  canon_tiles x h
  · exact l_at3 (dec x0 (k0_pay3 x1) x2 x4 x5) x10 x y (by have hx : (x 0 : ℕ) < 1 := (x 0).isLt; omega) (by omega)
  · exact l_at2 (dec x0 (k0_pay3 x1) x2 x4 x5) x10 x y (by have hx : (x 0 : ℕ) < 1 := (x 0).isLt; omega) (by omega)
  · exact l_at1 (dec x0 (k0_pay3 x1) x2 x4 x5) x10 x y (by have hx : (x 0 : ℕ) < 1 := (x 0).isLt; omega) (by omega)
  · exact l_at0 (dec x0 (k0_pay3 x1) x2 x4 x5) x10 x y (by have hx : (x 0 : ℕ) < 1 := (x 0).isLt; omega) (by omega)

theorem hl_A (hc0) : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = tails (hid x0 x2) := by
  frame_out
  rfl

theorem carry_A (hc0) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11
    = keep (hid x0 x2) := by
  frame_out
  rfl

end Cert.RwkvFirstIdeal.Proj

end
-- ==== Proof.RwkvRow.lean ====
/-
  The scalar formulas of the `rwkv` input projection.
-/
module

public import proofs.«01_k».proof.Proof.GdnRow

@[expose] public section

noncomputable section

namespace Cert.Row

open Idealize.ShloMosaic

/-- `u` moved towards `p` by the share `m`, times the column `w`, summed. -/
def mixdot (u p m w : Fin 1024 → EReal) : EReal := ∑ d, (u d + (p d - u d) * m d) * w d

/-- The log decay at the decay's exponent `a`. -/
def rate (a : EReal) : EReal :=
  0 - Ideal.exp (0 - (max (0 - a) 0 + Ideal.log (1 + Ideal.exp (0 - max (0 - a) (-(0 - a))))) - Ideal.ofBits .f32 0x3F000000#32)

/-- Column `d` of the head that holds column `j`. -/
def headCol (j : Fin 1024) (d : Fin 64) : Fin 1024 := ⟨64 * (j.val / 64) + d.val, by omega⟩

/-- Entry `j` of `x` over its head's length. -/
def headUnit (x : Fin 1024 → EReal) (j : Fin 1024) : EReal :=
  x j * Ideal.rsqrt (∑ d, x (headCol j d) * x (headCol j d) + Ideal.ofBits .f32 0x358637BD#32)

/-- A key at the rate in context `a` and its weight `m`. -/
def keyAt (k a m : EReal) : EReal := k * (1 + (a - 1) * m)

/-- A sum over 128 columns where a block of 64 has weight one and the other weight zero. -/
theorem half_sum (f : Fin 128 → EReal) (l : Fin 128) (w : Fin 128 → EReal)
    (hw : ∀ j : Fin 128, w j = if j.val / 64 = l.val / 64 then 1 else 0) :
    ∑ j, f j * w j = ∑ d : Fin 64, f ⟨64 * (l.val / 64) + d.val, by omega⟩ := by
  have e : ∀ j : Fin 128, f j * w j = ∑ d : Fin 64, if j.val = 64 * (l.val / 64) + d.val then f j else 0 := by
    intro j
    rw [hw]
    by_cases h : j.val / 64 = l.val / 64
    · rw [if_pos h, mul_one, Finset.sum_eq_single (⟨j.val % 64, by omega⟩ : Fin 64)]
      · rw [if_pos (by dsimp only; omega)]
      · intro d _ hd
        have hd' : d.val ≠ j.val % 64 := fun e => hd (Fin.ext e)
        rw [if_neg (by omega)]
      · intro hh; exact absurd (Finset.mem_univ _) hh
    · rw [if_neg h, mul_zero]
      symm
      refine Finset.sum_eq_zero fun d _ => ?_
      rw [if_neg (by omega)]
  rw [Finset.sum_congr rfl fun j _ => e j, Finset.sum_comm]
  refine Finset.sum_congr rfl fun d _ => ?_
  rw [Finset.sum_eq_single (⟨64 * (l.val / 64) + d.val, by omega⟩ : Fin 128)]
  · rw [if_pos rfl]
  · intro j _ hj
    rw [if_neg (fun e => hj (Fin.ext e))]
  · intro hh; exact absurd (Finset.mem_univ _) hh

end Cert.Row

end
-- ==== Proof.RwkvFirstValue.lean ====
/-
  The blocks of the `rwkv` input projection read entry by entry, on the extended reals.
-/
module

public import proofs.«01_k».proof.Proof.RwkvFirstBlock
public import proofs.«01_k».proof.Proof.FfnRow
public import proofs.«01_k».proof.Proof.RwkvRow

@[expose] public section

set_option maxRecDepth 16384

noncomputable section

namespace Cert.RwkvFirstIdeal.Proj

open Cert.RwkvFirstIdeal Cert.RwkvFirstIdeal.Gen Idealize.ShloMosaic Idealize.ShloMosaic.TcCoe Idealize.SL.Sem
open Cert.Row

theorem pick1 (r : Fin 8) : IntOp.cmpi CmpIPredicate.slt
    (Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)))
    1#32 = BitVec.ofBool (decide (r.val < 1)) := by
  revert r; decide +kernel

theorem select_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

theorem hid_apply (x0 : Vec Ideal S256x1024 .f32) (x2 : Vec Ideal S16x1024 .f32) (r : Fin 256) (d : Fin 1024) :
    hid x0 x2 (ix2 r d) = normed (fun e => x0 (ix2 r e)) (x2 (ix2 10 d)) d := by
  pointwise [hid, k0_pay4]
  rfl

/-- The row above row `r` of a block: the block's own, or the last of the rows before it. -/
def above (h : FVec Ideal S256x1024 .f32) (prev : Vec Ideal S8x1024 .f32) (r : Fin 256) (d : Fin 1024) : EReal :=
  if r.val = 0 then prev (ix2 7 d) else h (ix2 ⟨r.val - 1, by omega⟩ d)

theorem dif_apply (x0 : Vec Ideal S256x1024 .f32) (prev : Vec Ideal S8x1024 .f32) (x2 : Vec Ideal S16x1024 .f32) (r : Fin 256) (d : Fin 1024) :
    dif x0 prev x2 (ix2 r d) = above (hid x0 x2) prev r d - hid x0 x2 (ix2 r d) := by
  unfold dif k0_pay5
  show k0_pay8 (hid x0 x2) (dynamicRotate 0 1#32 none (hid x0 x2) rotates_S256x1024_d0) (k0_pay6 prev) k0_pay7 1#32 (ix2 r d) = _
  generalize hid x0 x2 = h
  pointwise [k0_pay8, k0_pay6, k0_pay7]
  unfold above
  refine congrArg₂ (· - ·) ?_ rfl
  by_cases hr : r.val < 8
  · simp only [dif_pos hr]
    have p := pick1 ⟨r.val, hr⟩
    dsimp only at p
    rw [p, select_ofBool]
    by_cases h1 : r.val < 1
    · rw [if_pos h1, if_pos (show r.val = 0 by omega)]
      refine congrArg prev (congrArg₂ ix2 (Fin.ext ?_) rfl)
      show (r.val + 8 - 1) % 8 = 7
      omega
    · rw [if_neg h1, if_neg (show ¬ r.val = 0 by omega)]
      refine congrArg h (congrArg₂ ix2 (Fin.ext ?_) rfl)
      show (r.val + 256 - 1) % 256 = r.val - 1
      omega
  · simp only [dif_neg hr]
    rw [if_neg (show ¬ r.val = 0 by omega)]
    refine congrArg h (congrArg₂ ix2 (Fin.ext ?_) rfl)
    show (8 + (r.val - 8) + 256 - 1) % 256 = r.val - 1
    omega

theorem rr_apply (x0 : Vec Ideal S256x1024 .f32) (prev : Vec Ideal S8x1024 .f32) (x2 : Vec Ideal S16x1024 .f32) (x3 : Vec Ideal S3x1024x1024 .bf16) (r : Fin 256) (j : Fin 1024) :
    rr x0 prev x2 x3 (ix2 r j) = mixdot (fun d => hid x0 x2 (ix2 r d)) (fun d => above (hid x0 x2) prev r d) (fun d => x2 (ix2 0 d)) (fun d => x3 (ix3 0 d j)) := by
  have hD := fun d => (dif_apply x0 prev x2 r d).symm
  unfold mixdot
  simp only [hD]
  unfold rr k0_pay11
  unfold dif
  generalize k0_pay8 (hid x0 x2) _ _ _ _ = D
  generalize hid x0 x2 = H
  pointwise
  try rfl

theorem kr_apply (x0 : Vec Ideal S256x1024 .f32) (prev : Vec Ideal S8x1024 .f32) (x2 : Vec Ideal S16x1024 .f32) (x3 : Vec Ideal S3x1024x1024 .bf16) (r : Fin 256) (j : Fin 1024) :
    kr x0 prev x2 x3 (ix2 r j) = mixdot (fun d => hid x0 x2 (ix2 r d)) (fun d => above (hid x0 x2) prev r d) (fun d => x2 (ix2 1 d)) (fun d => x3 (ix3 1 d j)) := by
  have hD := fun d => (dif_apply x0 prev x2 r d).symm
  unfold mixdot
  simp only [hD]
  unfold kr k0_pay12
  unfold dif
  generalize k0_pay8 (hid x0 x2) _ _ _ _ = D
  generalize hid x0 x2 = H
  pointwise
  try rfl

theorem va_apply (x0 : Vec Ideal S256x1024 .f32) (prev : Vec Ideal S8x1024 .f32) (x2 : Vec Ideal S16x1024 .f32) (x3 : Vec Ideal S3x1024x1024 .bf16) (r : Fin 256) (j : Fin 1024) :
    va x0 prev x2 x3 (ix2 r j) = mixdot (fun d => hid x0 x2 (ix2 r d)) (fun d => above (hid x0 x2) prev r d) (fun d => x2 (ix2 2 d)) (fun d => x3 (ix3 2 d j)) := by
  have hD := fun d => (dif_apply x0 prev x2 r d).symm
  unfold mixdot
  simp only [hD]
  unfold va k0_pay13
  unfold dif
  generalize k0_pay8 (hid x0 x2) _ _ _ _ = D
  generalize hid x0 x2 = H
  pointwise
  try rfl

theorem dec_apply (x0 : Vec Ideal S256x1024 .f32) (prev : Vec Ideal S8x1024 .f32) (x2 : Vec Ideal S16x1024 .f32) (x4 : Vec Ideal S1024x64 .bf16) (x5 : Vec Ideal S64x1024 .bf16) (r : Fin 256) (j : Fin 1024) :
    dec x0 prev x2 x4 x5 (ix2 r j) = 0 - (max (0 - (x2 (ix2 6 j) + ∑ e : Fin 64, Ideal.tanh (mixdot (fun d => hid x0 x2 (ix2 r d)) (fun d => above (hid x0 x2) prev r d) (fun d => x2 (ix2 3 d)) (fun d => x4 (ix2 d e))) * x5 (ix2 e j))) 0
      + Ideal.log (1 + Ideal.exp (0 - max (0 - (x2 (ix2 6 j) + ∑ e : Fin 64, Ideal.tanh (mixdot (fun d => hid x0 x2 (ix2 r d)) (fun d => above (hid x0 x2) prev r d) (fun d => x2 (ix2 3 d)) (fun d => x4 (ix2 d e))) * x5 (ix2 e j)))
        (-(0 - (x2 (ix2 6 j) + ∑ e : Fin 64, Ideal.tanh (mixdot (fun d => hid x0 x2 (ix2 r d)) (fun d => above (hid x0 x2) prev r d) (fun d => x2 (ix2 3 d)) (fun d => x4 (ix2 d e))) * x5 (ix2 e j))))))) - Ideal.ofBits .f32 0x3F000000#32 := by
  unfold dec
  have hD := fun d => (dif_apply x0 prev x2 r d).symm
  unfold mixdot
  simp only [hD]
  generalize dif x0 prev x2 = D
  generalize hid x0 x2 = H
  pointwise [k0_pay14]
  rfl

theorem ai_apply (x0 : Vec Ideal S256x1024 .f32) (prev : Vec Ideal S8x1024 .f32) (x2 : Vec Ideal S16x1024 .f32) (x6 : Vec Ideal S1024x64 .bf16) (x7 : Vec Ideal S64x1024 .bf16) (r : Fin 256) (j : Fin 1024) :
    ai x0 prev x2 x6 x7 (ix2 r j) = sigm (x2 (ix2 7 j) + ∑ e : Fin 64, mixdot (fun d => hid x0 x2 (ix2 r d)) (fun d => above (hid x0 x2) prev r d) (fun d => x2 (ix2 4 d)) (fun d => x6 (ix2 d e)) * x7 (ix2 e j)) := by
  unfold ai
  have hD := fun d => (dif_apply x0 prev x2 r d).symm
  unfold mixdot
  simp only [hD]
  generalize dif x0 prev x2 = D
  generalize hid x0 x2 = H
  pointwise [k0_pay16, k0_pay15]
  rfl

theorem ga_apply (x0 : Vec Ideal S256x1024 .f32) (prev : Vec Ideal S8x1024 .f32) (x2 : Vec Ideal S16x1024 .f32) (x8 : Vec Ideal S1024x160 .bf16) (x9 : Vec Ideal S160x1024 .bf16) (r : Fin 256) (j : Fin 1024) :
    ga x0 prev x2 x8 x9 (ix2 r j) = ∑ e : Fin 160, sigm (mixdot (fun d => hid x0 x2 (ix2 r d)) (fun d => above (hid x0 x2) prev r d) (fun d => x2 (ix2 5 d)) (fun d => x8 (ix2 d e))) * x9 (ix2 e j) := by
  unfold ga
  have hD := fun d => (dif_apply x0 prev x2 r d).symm
  unfold mixdot
  simp only [hD]
  generalize dif x0 prev x2 = D
  generalize hid x0 x2 = H
  pointwise [k0_pay17]
  rfl

theorem kk_apply (k : FVec Ideal S256x1024 .f32) (x2 : Vec Ideal S16x1024 .f32) (x11 : Vec Ideal S128x128 .f32)
    (hon : ∀ i j : Fin 128, x11 (ix2 i j) = if i.val / 64 = j.val / 64 then (1 : EReal) else 0) (r : Fin 256) (j : Fin 1024) :
    kk k x2 x11 (ix2 r j) = headUnit (fun e => k (ix2 r e) * x2 (ix2 8 e)) j := by
  have key : ∀ (l : Fin 128) (n : Fin 128 → Fin 1024), l.val = j.val % 128 → (∀ q, (n q).val = 128 * (j.val / 128) + q.val) →
      ∑ q : Fin 128, (k (ix2 r (n q)) * x2 (ix2 8 (n q))) * (k (ix2 r (n q)) * x2 (ix2 8 (n q))) * x11 (ix2 q l)
        = ∑ d : Fin 64, (k (ix2 r (headCol j d)) * x2 (ix2 8 (headCol j d))) * (k (ix2 r (headCol j d)) * x2 (ix2 8 (headCol j d))) := by
    intro l n hl hn
    rw [half_sum _ l (fun q => x11 (ix2 q l)) (fun q => hon q l)]
    refine Finset.sum_congr rfl fun d _ => ?_
    have e : n ⟨64 * (l.val / 64) + d.val, by omega⟩ = headCol j d := Fin.ext (by
      rw [hn]; show 128 * (j.val / 128) + (64 * (l.val / 64) + d.val) = 64 * (j.val / 64) + d.val; omega)
    rw [e]
  pointwise [kk, k0_pay19, k0_pay18]
  unfold headUnit
  refine congrArg (fun s => k (ix2 r j) * x2 (ix2 8 j) * Ideal.rsqrt (s + Ideal.ofBits .f32 0x358637BD#32)) ?_
  split
  · exact key (⟨j.val, by omega⟩) (fun q => ⟨q.val, by omega⟩) (by dsimp only; omega) (fun q => by dsimp only; omega)
  · skip
    split
    · exact key (⟨j.val - 128, by omega⟩) (fun q => ⟨128 + q.val, by omega⟩) (by dsimp only; omega) (fun q => by dsimp only; omega)
    · skip
      split
      · exact key (⟨j.val - 128 - 128, by omega⟩) (fun q => ⟨256 + q.val, by omega⟩) (by dsimp only; omega) (fun q => by dsimp only; omega)
      · skip
        split
        · exact key (⟨j.val - 128 - 128 - 128, by omega⟩) (fun q => ⟨384 + q.val, by omega⟩) (by dsimp only; omega) (fun q => by dsimp only; omega)
        · skip
          split
          · exact key (⟨j.val - 128 - 128 - 128 - 128, by omega⟩) (fun q => ⟨512 + q.val, by omega⟩) (by dsimp only; omega) (fun q => by dsimp only; omega)
          · skip
            split
            · exact key (⟨j.val - 128 - 128 - 128 - 128 - 128, by omega⟩) (fun q => ⟨640 + q.val, by omega⟩) (by dsimp only; omega) (fun q => by dsimp only; omega)
            · skip
              split
              · exact key (⟨j.val - 128 - 128 - 128 - 128 - 128 - 128, by omega⟩) (fun q => ⟨768 + q.val, by omega⟩) (by dsimp only; omega) (fun q => by dsimp only; omega)
              · skip
                exact key (⟨j.val - 128 - 128 - 128 - 128 - 128 - 128 - 128, by omega⟩) (fun q => ⟨896 + q.val, by omega⟩) (by dsimp only; omega) (fun q => by dsimp only; omega)

theorem lw_apply (w : FVec Ideal S256x1024 .f32) (r : Fin 256) (j : Fin 1024) : lw w (ix2 r j) = 0 - Ideal.exp (w (ix2 r j)) := by
  pointwise [lw, k0_pay21]
  try rfl

theorem cu_apply (w : FVec Ideal S256x1024 .f32) (x10 : Vec Ideal S64x64 .f32)
    (htri : ∀ i j : Fin 64, x10 (ix2 i j) = if j ≤ i then (1 : EReal) else 0) (r : Fin 256) (j : Fin 1024) :
    cu w x10 (ix2 r j) = ∑ q : Fin 64, if q.val ≤ r.val % 64 then lw w (ix2 ⟨64 * (r.val / 64) + q.val, by omega⟩ j) else 0 := by
  unfold cu k0_pay23 k0_pay24
  have hl : k0_pay21 w = lw w := rfl
  rw [hl]
  generalize lw w = g
  have key : ∀ (i : Fin 64) (n : Fin 64 → Fin 256), i.val = r.val % 64 → (∀ q, (n q).val = 64 * (r.val / 64) + q.val) →
      ∑ q : Fin 64, x10 (ix2 i q) * g (ix2 (n q) j)
        = ∑ q : Fin 64, if q.val ≤ r.val % 64 then g (ix2 ⟨64 * (r.val / 64) + q.val, by omega⟩ j) else 0 := by
    intro i n hi hn
    refine Finset.sum_congr rfl fun q _ => ?_
    have e : n q = ⟨64 * (r.val / 64) + q.val, by omega⟩ := Fin.ext (hn q)
    rw [htri, e]
    by_cases hq : q.val ≤ r.val % 64
    · have hq' : q ≤ i := by show q.val ≤ i.val; omega
      rw [if_pos hq, if_pos hq', one_mul]
    · have hq' : ¬ q ≤ i := by show ¬ q.val ≤ i.val; omega
      rw [if_neg hq, if_neg hq', zero_mul]
  pointwise [k0_pay25, k0_pay22]
  split
  · exact key ⟨r.val, by omega⟩ (fun q => ⟨q.val, by omega⟩) (by dsimp only; omega) (fun q => by dsimp only; omega)
  · split
    · exact key ⟨r.val - 64, by omega⟩ (fun q => ⟨64 + q.val, by omega⟩) (by dsimp only; omega) (fun q => by dsimp only; omega)
    · split
      · exact key ⟨r.val - 64 - 64, by omega⟩ (fun q => ⟨128 + q.val, by omega⟩) (by dsimp only; omega) (fun q => by dsimp only; omega)
      · exact key ⟨r.val - 64 - 64 - 64, by omega⟩ (fun q => ⟨192 + q.val, by omega⟩) (by dsimp only; omega) (fun q => by dsimp only; omega)

theorem outR_apply (f w : FVec Ideal S256x1024 .f32) (x10 : Vec Ideal S64x64 .f32) (r : Fin 256) (j : Fin 1024) :
    outR f w x10 (ix2 r j) = f (ix2 r j) * Ideal.exp (cu w x10 (ix2 r j)) := by
  unfold outR k0_pay27 cu
  generalize k0_pay25 (F := Ideal) _ _ _ _ _ = u
  pointwise
  try rfl

theorem outK_apply (k a w : FVec Ideal S256x1024 .f32) (x2 : Vec Ideal S16x1024 .f32) (x10 : Vec Ideal S64x64 .f32) (r : Fin 256) (j : Fin 1024) :
    outK k a w x2 x10 (ix2 r j) = keyAt (k (ix2 r j)) (a (ix2 r j)) (x2 (ix2 9 j)) * Ideal.exp (0 - cu w x10 (ix2 r j)) := by
  unfold outK k0_pay28 k0_pay26 cu
  generalize k0_pay25 (F := Ideal) _ _ _ _ _ = u
  pointwise [k0_pay20]
  try rfl

theorem outA_apply (kn w : FVec Ideal S256x1024 .f32) (x10 : Vec Ideal S64x64 .f32) (r : Fin 256) (j : Fin 1024) :
    outA kn w x10 (ix2 r j) = (0 - kn (ix2 r j)) * Ideal.exp (cu w x10 (ix2 r j) - lw w (ix2 r j)) := by
  unfold outA k0_pay29 cu
  generalize k0_pay25 (F := Ideal) _ _ _ _ _ = u
  generalize lw w = g
  pointwise
  try rfl

theorem outB_apply (kn a w : FVec Ideal S256x1024 .f32) (x10 : Vec Ideal S64x64 .f32) (r : Fin 256) (j : Fin 1024) :
    outB kn a w x10 (ix2 r j) = kn (ix2 r j) * a (ix2 r j) * Ideal.exp (0 - cu w x10 (ix2 r j)) := by
  unfold outB k0_pay30 k0_pay26 cu
  generalize k0_pay25 (F := Ideal) _ _ _ _ _ = u
  pointwise
  try rfl

theorem outL_apply (u : FVec Ideal S256x1024 .f32) (n : Fin 4) (z : Fin 1) (j : Fin 1024) :
    outL u (ix3 n z j) = Ideal.exp (u (ix2 ⟨64 * n.val + 63, by omega⟩ j)) := by
  unfold outL
  pointwise
  try rfl

theorem tails_apply (h : FVec Ideal S256x1024 .f32) (q : Fin 8) (d : Fin 1024) : tails h (ix2 q d) = h (ix2 ⟨248 + q.val, by omega⟩ d) := by
  pointwise [tails, k0_pay9]

theorem keep_apply (h : FVec Ideal S256x1024 .f32) (q : Fin 8) (d : Fin 1024) : keep h (ix2 q d) = h (ix2 ⟨248 + q.val, by omega⟩ d) := by
  pointwise [keep, k0_pay10, k0_pay9]

theorem carry_apply (x1 : Vec Ideal S8x1024 .f32) (q : Fin 8) (d : Fin 1024) : k0_pay3 x1 (ix2 q d) = x1 (ix2 q d) := by
  pointwise [k0_pay3]

end Cert.RwkvFirstIdeal.Proj

end
-- ==== Proof.RwkvFirstMask.lean ====
module

public import proofs.«01_k».proof.Proof.Gen.RwkvFirstIdeal.Value
public import Idealize.ShloMosaic.Lib.Pointwise

/-! The two masks of ones the projection kernel's host builds: for its sums over a chunk's rows, one on
and below the diagonal and zero above it; for its sums over a head, one where both columns are of the same half. -/

@[expose] public section

set_option maxRecDepth 16384

noncomputable section

namespace Cert.RwkvFirstIdeal.Proj

open Cert.RwkvFirstIdeal Cert.RwkvFirstIdeal.Gen Idealize.ShloMosaic Idealize.ShloMosaic.TcCoe Idealize.SL.Sem Idealize.ShloMosaic.StableHlo

set_option maxHeartbeats 4000000 in
theorem mask_eq (m : (ℓ : Loc nD τ sig) → Buf (Elt Ideal) ℓ) (c : Dev nD) (i j : Fin 64) :
    (V m c main_v16 : S64x64.Idx → EReal) (ix2 i j) = if j ≤ i then (1 : EReal) else 0 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp
  generalize hX : andi _ _ = X
  have key : ∀ i j : Fin 64, (X (ix2 i j) : BitVec 1) = BitVec.ofBool (decide (j ≤ i)) := by
    subst hX
    decide +kernel
  show (((X (ix2 i j) : BitVec 1).toNat : ℝ) : EReal) = _
  rw [key]
  by_cases h : j ≤ i
  · simp [h]
  · simp [h]

set_option maxHeartbeats 4000000 in
theorem ones_eq (m : (ℓ : Loc nD τ sig) → Buf (Elt Ideal) ℓ) (c : Dev nD) (i j : Fin 128) :
    (V m c main_v25 : S128x128.Idx → EReal) (ix2 i j) = if i.val / 64 = j.val / 64 then (1 : EReal) else 0 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp
  generalize hX : cmpi _ _ _ = X
  have key : ∀ i j : Fin 128, (X (ix2 i j) : BitVec 1) = BitVec.ofBool (decide (i.val / 64 = j.val / 64)) := by
    subst hX
    decide +kernel
  show (((X (ix2 i j) : BitVec 1).toNat : ℝ) : EReal) = _
  rw [key]
  by_cases h : i.val / 64 = j.val / 64
  · simp [h]
  · simp [h]

end Cert.RwkvFirstIdeal.Proj
-- ==== Proof.RwkvFirstRef.lean ====
/-
  The reference of the `rwkv` input projection read entry by entry, on the extended reals.
-/
module

public import proofs.«01_k».proof.Proof.Gen.RwkvFirstReferenceIdeal.Read
public import proofs.«01_k».proof.Proof.FfnRow
public import proofs.«01_k».proof.Proof.RwkvRow

@[expose] public section

set_option maxRecDepth 16384

noncomputable section

namespace Cert.RwkvFirstReferenceIdeal.Proj

open Cert.Row
open Cert.RwkvFirstReferenceIdeal Cert.RwkvFirstReferenceIdeal.Gen Cert.RwkvFirstReferenceIdeal.Read Idealize.ShloMosaic Idealize.ShloMosaic.TcCoe Idealize.SL.Sem

variable (x0 : (⟨S16384x1024, .f32⟩ : BufTy).Contents (Elt Ideal)) (x1 : (⟨S64x1024, .f32⟩ : BufTy).Contents (Elt Ideal)) (x2 : (⟨S16x1024, .f32⟩ : BufTy).Contents (Elt Ideal)) (x3 : (⟨S3x1024x1024, .bf16⟩ : BufTy).Contents (Elt Ideal)) (x4 : (⟨S1024x64, .bf16⟩ : BufTy).Contents (Elt Ideal)) (x5 : (⟨S64x1024, .bf16⟩ : BufTy).Contents (Elt Ideal)) (x6 : (⟨S1024x64, .bf16⟩ : BufTy).Contents (Elt Ideal)) (x7 : (⟨S64x1024, .bf16⟩ : BufTy).Contents (Elt Ideal)) (x8 : (⟨S1024x160, .bf16⟩ : BufTy).Contents (Elt Ideal)) (x9 : (⟨S160x1024, .bf16⟩ : BufTy).Contents (Elt Ideal))

/-- Row `p` of sequence `b`. -/
def at_ (b : Fin 8) (p : Fin 2048) : Fin 16384 := ⟨b.val * 2048 + p.val, by omega⟩

theorem at_div (b : Fin 8) (p : Fin 2048) (h : (at_ b p).val / 2048 < 8) : (⟨(at_ b p).val / 2048, h⟩ : Fin 8) = b :=
  Fin.ext (by show (b.val * 2048 + p.val) / 2048 = b.val; omega)

theorem at_mod (b : Fin 8) (p : Fin 2048) (h : (at_ b p).val % 2048 < 2048) : (⟨(at_ b p).val % 2048, h⟩ : Fin 2048) = p :=
  Fin.ext (by show (b.val * 2048 + p.val) % 2048 = p.val; omega)

theorem zneg (a : EReal) : -a = 0 - a := by rw [sub_eq_add_neg, zero_add]

theorem h_apply (b : Fin 8) (p : Fin 2048) (d : Fin 1024) :
    val_main_v15 (F := Ideal) x0 x2 (ix3 b p d) = normed (fun e => x0 (ix2 (at_ b p) e)) (x2 (ix2 10 d)) d := by
  pointwise [val_main_v15, val_main_v12, val_main_v14, val_main_v13, val_main_v2, val_main_v1, val_main_v0, val_main_v11, val_main_v10, val_main_v9, val_main_v7, val_main_v8, val_main_cst_1, val_main_v5, val_main_v6, val_main_cst_0, val_main_v4, val_main_v3, val_main_cst]
  rfl

/-- The row above row `p` of sequence `b`: the sequence's own, or the last one before it. -/
def above (g : FVec Ideal S8x2048x1024 .f32) (b : Fin 8) (p : Fin 2048) (d : Fin 1024) : EReal :=
  if p.val = 0 then x1 (ix2 ⟨b.val * 8 + 7, by omega⟩ d) else g (ix3 b ⟨p.val - 1, by omega⟩ d)

theorem s_apply (b : Fin 8) (p : Fin 2048) (d : Fin 1024) :
    val_main_v19 (F := Ideal) x0 x1 x2 (ix3 b p d) = above x1 (val_main_v15 (F := Ideal) x0 x2) b p d := by
  unfold val_main_v19 val_main_v18
  generalize val_main_v15 (F := Ideal) x0 x2 = g0
  pointwise [val_main_v17, val_main_v16]
  unfold above
  by_cases h : p.val = 0
  · first | rw [dif_pos (by omega), if_pos h] | rw [dif_neg (by omega), if_pos h]
    refine congrArg _ (congrArg₂ ix2 (Fin.ext ?_) rfl)
    dsimp only; omega
  · first | rw [dif_neg (by omega), if_neg h] | rw [dif_pos (by omega), if_neg h]
    try exact congrArg g0 (congrArg (fun q => ix3 b q d) (Fin.ext (by dsimp only; omega)))

theorem mix0_apply (b : Fin 8) (p : Fin 2048) (d : Fin 1024) :
    val_main_v26 (F := Ideal) x0 x1 x2 (ix3 b p d) = val_main_v15 (F := Ideal) x0 x2 (ix3 b p d) + (above x1 (val_main_v15 (F := Ideal) x0 x2) b p d - val_main_v15 (F := Ideal) x0 x2 (ix3 b p d)) * x2 (ix2 0 d) := by
  rw [← s_apply]
  unfold val_main_v26 val_main_v25 val_main_v20
  generalize val_main_v19 (F := Ideal) x0 x1 x2 = s
  generalize val_main_v15 (F := Ideal) x0 x2 = g
  pointwise [val_main_v24, val_main_v23, val_main_v22, val_main_v21]
  try rfl

theorem mix1_apply (b : Fin 8) (p : Fin 2048) (d : Fin 1024) :
    val_main_v33 (F := Ideal) x0 x1 x2 (ix3 b p d) = val_main_v15 (F := Ideal) x0 x2 (ix3 b p d) + (above x1 (val_main_v15 (F := Ideal) x0 x2) b p d - val_main_v15 (F := Ideal) x0 x2 (ix3 b p d)) * x2 (ix2 1 d) := by
  rw [← s_apply]
  unfold val_main_v33 val_main_v32 val_main_v27
  generalize val_main_v19 (F := Ideal) x0 x1 x2 = s
  generalize val_main_v15 (F := Ideal) x0 x2 = g
  pointwise [val_main_v31, val_main_v30, val_main_v29, val_main_v28]
  try rfl

theorem mix2_apply (b : Fin 8) (p : Fin 2048) (d : Fin 1024) :
    val_main_v40 (F := Ideal) x0 x1 x2 (ix3 b p d) = val_main_v15 (F := Ideal) x0 x2 (ix3 b p d) + (above x1 (val_main_v15 (F := Ideal) x0 x2) b p d - val_main_v15 (F := Ideal) x0 x2 (ix3 b p d)) * x2 (ix2 2 d) := by
  rw [← s_apply]
  unfold val_main_v40 val_main_v39 val_main_v34
  generalize val_main_v19 (F := Ideal) x0 x1 x2 = s
  generalize val_main_v15 (F := Ideal) x0 x2 = g
  pointwise [val_main_v38, val_main_v37, val_main_v36, val_main_v35]
  try rfl

theorem mix3_apply (b : Fin 8) (p : Fin 2048) (d : Fin 1024) :
    val_main_v47 (F := Ideal) x0 x1 x2 (ix3 b p d) = val_main_v15 (F := Ideal) x0 x2 (ix3 b p d) + (above x1 (val_main_v15 (F := Ideal) x0 x2) b p d - val_main_v15 (F := Ideal) x0 x2 (ix3 b p d)) * x2 (ix2 3 d) := by
  rw [← s_apply]
  unfold val_main_v47 val_main_v46 val_main_v41
  generalize val_main_v19 (F := Ideal) x0 x1 x2 = s
  generalize val_main_v15 (F := Ideal) x0 x2 = g
  pointwise [val_main_v45, val_main_v44, val_main_v43, val_main_v42]
  try rfl

theorem mix4_apply (b : Fin 8) (p : Fin 2048) (d : Fin 1024) :
    val_main_v54 (F := Ideal) x0 x1 x2 (ix3 b p d) = val_main_v15 (F := Ideal) x0 x2 (ix3 b p d) + (above x1 (val_main_v15 (F := Ideal) x0 x2) b p d - val_main_v15 (F := Ideal) x0 x2 (ix3 b p d)) * x2 (ix2 4 d) := by
  rw [← s_apply]
  unfold val_main_v54 val_main_v53 val_main_v48
  generalize val_main_v19 (F := Ideal) x0 x1 x2 = s
  generalize val_main_v15 (F := Ideal) x0 x2 = g
  pointwise [val_main_v52, val_main_v51, val_main_v50, val_main_v49]
  try rfl

theorem mix5_apply (b : Fin 8) (p : Fin 2048) (d : Fin 1024) :
    val_main_v61 (F := Ideal) x0 x1 x2 (ix3 b p d) = val_main_v15 (F := Ideal) x0 x2 (ix3 b p d) + (above x1 (val_main_v15 (F := Ideal) x0 x2) b p d - val_main_v15 (F := Ideal) x0 x2 (ix3 b p d)) * x2 (ix2 5 d) := by
  rw [← s_apply]
  unfold val_main_v61 val_main_v60 val_main_v55
  generalize val_main_v19 (F := Ideal) x0 x1 x2 = s
  generalize val_main_v15 (F := Ideal) x0 x2 = g
  pointwise [val_main_v59, val_main_v58, val_main_v57, val_main_v56]
  try rfl

theorem r_apply (b : Fin 8) (p : Fin 2048) (j : Fin 1024) :
    val_main_v65 (F := Ideal) x0 x1 x2 x3 (ix3 b p j) = mixdot (fun d => val_main_v15 (F := Ideal) x0 x2 (ix3 b p d)) (above x1 (val_main_v15 (F := Ideal) x0 x2) b p) (fun d => x2 (ix2 0 d)) (fun d => x3 (ix3 0 d j)) := by
  have hm := fun d => (mix0_apply x0 x1 x2 b p d).symm
  unfold mixdot
  simp only [hm]
  unfold val_main_v65
  generalize val_main_v26 (F := Ideal) x0 x1 x2 = g
  pointwise [val_main_v64, val_main_v63, val_main_v62]
  try rfl

theorem k_apply (b : Fin 8) (p : Fin 2048) (j : Fin 1024) :
    val_main_v69 (F := Ideal) x0 x1 x2 x3 (ix3 b p j) = mixdot (fun d => val_main_v15 (F := Ideal) x0 x2 (ix3 b p d)) (above x1 (val_main_v15 (F := Ideal) x0 x2) b p) (fun d => x2 (ix2 1 d)) (fun d => x3 (ix3 1 d j)) := by
  have hm := fun d => (mix1_apply x0 x1 x2 b p d).symm
  unfold mixdot
  simp only [hm]
  unfold val_main_v69
  generalize val_main_v33 (F := Ideal) x0 x1 x2 = g
  pointwise [val_main_v68, val_main_v67, val_main_v66]
  try rfl

theorem v_apply (b : Fin 8) (p : Fin 2048) (j : Fin 1024) :
    val_main_v73 (F := Ideal) x0 x1 x2 x3 (ix3 b p j) = mixdot (fun d => val_main_v15 (F := Ideal) x0 x2 (ix3 b p d)) (above x1 (val_main_v15 (F := Ideal) x0 x2) b p) (fun d => x2 (ix2 2 d)) (fun d => x3 (ix3 2 d j)) := by
  have hm := fun d => (mix2_apply x0 x1 x2 b p d).symm
  unfold mixdot
  simp only [hm]
  unfold val_main_v73
  generalize val_main_v40 (F := Ideal) x0 x1 x2 = g
  pointwise [val_main_v72, val_main_v71, val_main_v70]
  try rfl

theorem wl_apply (b : Fin 8) (p : Fin 2048) (j : Fin 64) :
    val_main_v77 (F := Ideal) x0 x1 x2 x4 (ix3 b p j) = mixdot (fun d => val_main_v15 (F := Ideal) x0 x2 (ix3 b p d)) (above x1 (val_main_v15 (F := Ideal) x0 x2) b p) (fun d => x2 (ix2 3 d)) (fun d => x4 (ix2 d j)) := by
  have hm := fun d => (mix3_apply x0 x1 x2 b p d).symm
  unfold mixdot
  simp only [hm]
  unfold val_main_v77
  generalize val_main_v47 (F := Ideal) x0 x1 x2 = g
  pointwise [val_main_v76]
  try rfl

theorem al_apply (b : Fin 8) (p : Fin 2048) (j : Fin 64) :
    val_main_v92 (F := Ideal) x0 x1 x2 x6 (ix3 b p j) = mixdot (fun d => val_main_v15 (F := Ideal) x0 x2 (ix3 b p d)) (above x1 (val_main_v15 (F := Ideal) x0 x2) b p) (fun d => x2 (ix2 4 d)) (fun d => x6 (ix2 d j)) := by
  have hm := fun d => (mix4_apply x0 x1 x2 b p d).symm
  unfold mixdot
  simp only [hm]
  unfold val_main_v92
  generalize val_main_v54 (F := Ideal) x0 x1 x2 = g
  pointwise [val_main_v91]
  try rfl

theorem gl_apply (b : Fin 8) (p : Fin 2048) (j : Fin 160) :
    val_main_v105 (F := Ideal) x0 x1 x2 x8 (ix3 b p j) = mixdot (fun d => val_main_v15 (F := Ideal) x0 x2 (ix3 b p d)) (above x1 (val_main_v15 (F := Ideal) x0 x2) b p) (fun d => x2 (ix2 5 d)) (fun d => x8 (ix2 d j)) := by
  have hm := fun d => (mix5_apply x0 x1 x2 b p d).symm
  unfold mixdot
  simp only [hm]
  unfold val_main_v105
  generalize val_main_v61 (F := Ideal) x0 x1 x2 = g
  pointwise [val_main_v104]
  try rfl

theorem w_apply (b : Fin 8) (p : Fin 2048) (j : Fin 1024) :
    val_main_v83 (F := Ideal) x0 x1 x2 x4 x5 (ix3 b p j) = x2 (ix2 6 j) + ∑ e : Fin 64, Ideal.tanh (val_main_v77 (F := Ideal) x0 x1 x2 x4 (ix3 b p e)) * x5 (ix2 e j) := by
  unfold val_main_v83 val_main_v80 val_main_v78
  generalize val_main_v77 (F := Ideal) x0 x1 x2 x4 = g0
  pointwise [val_main_v82, val_main_v79, val_main_v81, val_main_v75, val_main_v74]
  try rfl

theorem a_apply (b : Fin 8) (p : Fin 2048) (j : Fin 1024) :
    val_main_v103 (F := Ideal) x0 x1 x2 x6 x7 (ix3 b p j) = sigm (x2 (ix2 7 j) + ∑ e : Fin 64, val_main_v92 (F := Ideal) x0 x1 x2 x6 (ix3 b p e) * x7 (ix2 e j)) := by
  unfold val_main_v103 val_main_v101 val_main_v99 val_main_v98 val_main_v97 val_main_v94
  generalize val_main_v92 (F := Ideal) x0 x1 x2 x6 = g0
  pointwise [val_main_v102, val_main_v100, val_main_v96, val_main_v93, val_main_v95, val_main_v90, val_main_v89, val_main_cst_3, val_main_cst_4]
  unfold sigm
  simp only [← zneg]
  try rfl

theorem g_apply (b : Fin 8) (p : Fin 2048) (j : Fin 1024) :
    val_main_v113 (F := Ideal) x0 x1 x2 x8 x9 (ix3 b p j) = ∑ e : Fin 160, sigm (val_main_v105 (F := Ideal) x0 x1 x2 x8 (ix3 b p e)) * x9 (ix2 e j) := by
  unfold val_main_v113 val_main_v111 val_main_v109 val_main_v107 val_main_v106
  generalize val_main_v105 (F := Ideal) x0 x1 x2 x8 = g0
  pointwise [val_main_v112, val_main_v110, val_main_v108, val_main_cst_5, val_main_cst_6]
  unfold sigm
  simp only [← zneg]
  try rfl

theorem lw_apply (b : Fin 8) (p : Fin 2048) (j : Fin 1024) :
    val_main_v140 (F := Ideal) x0 x1 x2 x4 x5 (ix3 b p j) = rate (val_main_v83 (F := Ideal) x0 x1 x2 x4 x5 (ix3 b p j)) := by
  unfold val_main_v140 val_main_v139 val_main_v88 val_main_v86 val_main_v85 val_main_call0_v4 val_main_call0_v6 val_main_call0_v11 val_main_call0_v1 val_main_call0_v10 val_main_call0_v9 val_main_call0_v8 val_main_call0_v7 val_main_call0_v3 val_main_v84
  generalize val_main_v83 (F := Ideal) x0 x1 x2 x4 x5 = g
  pointwise [val_main_v87, val_main_cst_2, val_main_call0_v2, val_main_call0_cst, val_main_call0_v0, val_main_call0_v5]
  rw [if_neg (fun e => e rfl)]
  unfold rate Ideal.log1p
  simp only [sub_eq_add_neg, zero_add, sub_zero]
  try rfl

theorem kp_apply (b : Fin 8) (p : Fin 2048) (j : Fin 1024) :
    val_main_v118 (F := Ideal) x0 x1 x2 x3 (ix3 b p j) = val_main_v69 (F := Ideal) x0 x1 x2 x3 (ix3 b p j) * x2 (ix2 8 j) := by
  unfold val_main_v118
  generalize val_main_v69 (F := Ideal) x0 x1 x2 x3 = g0
  pointwise [val_main_v117, val_main_v116, val_main_v115, val_main_v114]
  try rfl

theorem kh_apply (b : Fin 8) (p : Fin 2048) (h : Fin 16) (d : Fin 64) :
    val_main_v119 (F := Ideal) x0 x1 x2 x3 (ix4 b p h d) = val_main_v118 (F := Ideal) x0 x1 x2 x3 (ix3 b p ⟨64 * h.val + d.val, by omega⟩) := by
  rw [val_main_v119_apply]
  refine congrArg _ (funext fun a => Fin.ext ?_)
  match a with
  | ⟨0, _⟩ => show (((b.val * 2048 + p.val) * 16 + h.val) * 64 + d.val) / 2097152 = b.val; omega
  | ⟨1, _⟩ => show (((b.val * 2048 + p.val) * 16 + h.val) * 64 + d.val) / 1024 % 2048 = p.val; omega
  | ⟨2, _⟩ => show (((b.val * 2048 + p.val) * 16 + h.val) * 64 + d.val) % 1024 = 64 * h.val + d.val; omega

theorem ke_apply (b : Fin 8) (p : Fin 2048) (h : Fin 16) (d : Fin 64) :
    val_main_v127 (F := Ideal) x0 x1 x2 x3 (ix4 b p h d) = headUnit (fun e => val_main_v118 (F := Ideal) x0 x1 x2 x3 (ix3 b p e)) ⟨64 * h.val + d.val, by omega⟩ := by
  have e : ∀ k : Fin 64, idx_main_v121 (idx_main_v122 (idx_main_v126 (ix4 b p h d))) k = ix4 b p h k := by
    intro k
    refine funext fun a => Fin.ext ?_
    match a with
    | ⟨0, _⟩ => rfl
    | ⟨1, _⟩ => rfl
    | ⟨2, _⟩ => rfl
    | ⟨3, _⟩ => rfl
  have s : ∑ k : Fin 64, val_main_v120 (F := Ideal) x0 x1 x2 x3 (idx_main_v121 (idx_main_v122 (idx_main_v126 (ix4 b p h d))) k)
      = ∑ k : Fin 64, val_main_v118 (F := Ideal) x0 x1 x2 x3 (ix3 b p (headCol ⟨64 * h.val + d.val, by omega⟩ k)) * val_main_v118 (F := Ideal) x0 x1 x2 x3 (ix3 b p (headCol ⟨64 * h.val + d.val, by omega⟩ k)) := by
    refine Finset.sum_congr rfl fun k _ => ?_
    have c : headCol ⟨64 * h.val + d.val, by omega⟩ k = ⟨64 * h.val + k.val, by omega⟩ := Fin.ext (by
      show 64 * ((64 * h.val + d.val) / 64) + k.val = 64 * h.val + k.val; omega)
    rw [val_main_v120_apply, e k, c, kh_apply]
    try rfl
  have z : (val_main_cst_7 (F := Ideal)) (Shape.Idx.first h_S_) = (0 : EReal) := by
    pointwise [val_main_cst_7]
  rw [val_main_v127_apply, val_main_v126_apply, val_main_v125_apply, val_main_v124_apply, val_main_v122_apply, val_main_v121_apply, val_main_v123_apply, s, z, zero_add, kh_apply]
  generalize val_main_v118 (F := Ideal) x0 x1 x2 x3 = g
  rfl

theorem kk_apply (b : Fin 8) (p : Fin 2048) (j : Fin 1024) :
    val_main_v128 (F := Ideal) x0 x1 x2 x3 (ix3 b p j) = headUnit (fun e => val_main_v69 (F := Ideal) x0 x1 x2 x3 (ix3 b p e) * x2 (ix2 8 e)) j := by
  have e : idx_main_v128 (ix3 b p j) = ix4 b p ⟨j.val / 64, by omega⟩ ⟨j.val % 64, by omega⟩ := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) / 64 % 16 = j.val / 64; omega
    | ⟨3, _⟩ => show ((b.val * 2048 + p.val) * 1024 + j.val) % 64 = j.val % 64; omega
  have c : (⟨64 * (j.val / 64) + j.val % 64, by omega⟩ : Fin 1024) = j := Fin.ext (by dsimp only; omega)
  have k := fun e => (kp_apply x0 x1 x2 x3 b p e).symm
  simp only [k]
  rw [val_main_v128_apply, e, ke_apply]
  exact congrArg _ c

theorem k2_apply (b : Fin 8) (p : Fin 2048) (j : Fin 1024) :
    val_main_v138 (F := Ideal) x0 x1 x2 x3 x6 x7 (ix3 b p j) = keyAt (val_main_v69 (F := Ideal) x0 x1 x2 x3 (ix3 b p j)) (val_main_v103 (F := Ideal) x0 x1 x2 x6 x7 (ix3 b p j)) (x2 (ix2 9 j)) := by
  unfold val_main_v138 val_main_v137 val_main_v135 val_main_v130
  generalize val_main_v69 (F := Ideal) x0 x1 x2 x3 = g0
  generalize val_main_v103 (F := Ideal) x0 x1 x2 x6 x7 = g1
  pointwise [val_main_v136, val_main_v134, val_main_v133, val_main_v132, val_main_v131, val_main_v129, val_main_cst_9, val_main_cst_10]
  try rfl

/-- Row `q` of the chunk of row `p`. -/
def chunkRow (p : Fin 2048) (q : Fin 64) : Fin 2048 := ⟨64 * (p.val / 64) + q.val, by omega⟩

theorem cs_apply (b : Fin 8) (n : Fin 32) (i : Fin 64) (j : Fin 1024) :
    val_main_v142 (F := Ideal) x0 x1 x2 x4 x5 (ix4 b n i j) = ∑ q : Fin 64, if q ≤ i then val_main_v140 (F := Ideal) x0 x1 x2 x4 x5 (ix3 b ⟨64 * n.val + q.val, by omega⟩ j) else 0 := by
  have e : ∀ q : Fin 64, val_main_v141 (F := Ideal) x0 x1 x2 x4 x5 (ix4 b n q j) = val_main_v140 (F := Ideal) x0 x1 x2 x4 x5 (ix3 b ⟨64 * n.val + q.val, by omega⟩ j) := by
    intro q
    rw [val_main_v141_apply]
    refine congrArg _ (funext fun a => Fin.ext ?_)
    match a with
    | ⟨0, _⟩ => show (((b.val * 32 + n.val) * 64 + q.val) * 1024 + j.val) / 2097152 = b.val; omega
    | ⟨1, _⟩ => show (((b.val * 32 + n.val) * 64 + q.val) * 1024 + j.val) / 1024 % 2048 = 64 * n.val + q.val; omega
    | ⟨2, _⟩ => show (((b.val * 32 + n.val) * 64 + q.val) * 1024 + j.val) % 1024 = j.val; omega
  simp only [← e]
  unfold val_main_v142 Host.reduceWindowAdd
  exact cumsum_apply _ _ _ (by pointwise [val_main_call1_call0_v0, val_main_call1_call0_cst]) b n i j

theorem cu_apply (b : Fin 8) (p : Fin 2048) (j : Fin 1024) :
    val_main_v146 (F := Ideal) x0 x1 x2 x4 x5 (ix3 b p j) = ∑ q : Fin 64, if q.val ≤ p.val % 64 then val_main_v140 (F := Ideal) x0 x1 x2 x4 x5 (ix3 b (chunkRow p q) j) else 0 := by
  have t : val_main_v146 (F := Ideal) x0 x1 x2 x4 x5 (ix3 b p j) = val_main_v142 (F := Ideal) x0 x1 x2 x4 x5 (ix4 b ⟨p.val / 64, by omega⟩ ⟨p.val % 64, by omega⟩ j) := by
    rw [val_main_v146_apply]
    refine congrArg _ (funext fun a => Fin.ext ?_)
    match a with
    | ⟨0, _⟩ => show ((b.val * 2048 + p.val) * 1024 + j.val) / 2097152 = b.val; omega
    | ⟨1, _⟩ => show ((b.val * 2048 + p.val) * 1024 + j.val) / 65536 % 32 = p.val / 64; omega
    | ⟨2, _⟩ => show ((b.val * 2048 + p.val) * 1024 + j.val) / 1024 % 64 = p.val % 64; omega
    | ⟨3, _⟩ => show ((b.val * 2048 + p.val) * 1024 + j.val) % 1024 = j.val; omega
  rw [t, cs_apply]
  rfl

theorem oR_apply (b : Fin 8) (p : Fin 2048) (j : Fin 1024) :
    val_main_v160 (F := Ideal) x0 x1 x2 x3 x4 x5 (ix2 (at_ b p) j) = val_main_v65 (F := Ideal) x0 x1 x2 x3 (ix3 b p j) * Ideal.exp (val_main_v146 (F := Ideal) x0 x1 x2 x4 x5 (ix3 b p j)) := by
  have e : idx_main_v160 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v160_apply, e]
  rw [val_main_v148_apply, val_main_v147_apply]
  rfl

theorem oK_apply (b : Fin 8) (p : Fin 2048) (j : Fin 1024) :
    val_main_v161 (F := Ideal) x0 x1 x2 x3 x4 x5 x6 x7 (ix2 (at_ b p) j) = val_main_v138 (F := Ideal) x0 x1 x2 x3 x6 x7 (ix3 b p j) * Ideal.exp (0 - val_main_v146 (F := Ideal) x0 x1 x2 x4 x5 (ix3 b p j)) := by
  have e : idx_main_v161 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v161_apply, e]
  rw [val_main_v151_apply, val_main_v150_apply, val_main_v149_apply]
  simp only [← zneg]
  rfl

theorem oA_apply (b : Fin 8) (p : Fin 2048) (j : Fin 1024) :
    val_main_v162 (F := Ideal) x0 x1 x2 x3 x4 x5 (ix2 (at_ b p) j) = (0 - val_main_v128 (F := Ideal) x0 x1 x2 x3 (ix3 b p j)) * Ideal.exp (val_main_v146 (F := Ideal) x0 x1 x2 x4 x5 (ix3 b p j) - val_main_v140 (F := Ideal) x0 x1 x2 x4 x5 (ix3 b p j)) := by
  have e : idx_main_v162 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v162_apply, e]
  rw [val_main_v155_apply, val_main_v152_apply, val_main_v154_apply, val_main_v153_apply]
  simp only [← zneg]
  rfl

theorem oB_apply (b : Fin 8) (p : Fin 2048) (j : Fin 1024) :
    val_main_v163 (F := Ideal) x0 x1 x2 x3 x4 x5 x6 x7 (ix2 (at_ b p) j) = val_main_v128 (F := Ideal) x0 x1 x2 x3 (ix3 b p j) * val_main_v103 (F := Ideal) x0 x1 x2 x6 x7 (ix3 b p j) * Ideal.exp (0 - val_main_v146 (F := Ideal) x0 x1 x2 x4 x5 (ix3 b p j)) := by
  have e : idx_main_v163 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v163_apply, e]
  rw [val_main_v159_apply, val_main_v156_apply, val_main_v158_apply, val_main_v157_apply]
  simp only [← zneg]
  rfl

theorem oV_apply (b : Fin 8) (p : Fin 2048) (j : Fin 1024) :
    val_main_v164 (F := Ideal) x0 x1 x2 x3 (ix2 (at_ b p) j) = val_main_v73 (F := Ideal) x0 x1 x2 x3 (ix3 b p j) := by
  have e : idx_main_v164 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v164_apply, e]

theorem oG_apply (b : Fin 8) (p : Fin 2048) (j : Fin 1024) :
    val_main_v165 (F := Ideal) x0 x1 x2 x8 x9 (ix2 (at_ b p) j) = val_main_v113 (F := Ideal) x0 x1 x2 x8 x9 (ix3 b p j) := by
  have e : idx_main_v165 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v165_apply, e]

theorem oL_apply (n : Fin 256) (z : Fin 1) (j : Fin 1024) :
    val_main_v166 (F := Ideal) x0 x1 x2 x4 x5 (ix3 n z j) = Ideal.exp (∑ q : Fin 64, val_main_v140 (F := Ideal) x0 x1 x2 x4 x5 (ix3 ⟨n.val / 32, by omega⟩ ⟨64 * (n.val % 32) + q.val, by omega⟩ j)) := by
  have t : val_main_v166 (F := Ideal) x0 x1 x2 x4 x5 (ix3 n z j) = Ideal.exp (val_main_v142 (F := Ideal) x0 x1 x2 x4 x5 (ix4 ⟨n.val / 32, by omega⟩ ⟨n.val % 32, by omega⟩ 63 j)) := by
    unfold val_main_v166 val_main_v145 val_main_v144 val_main_v143
    generalize val_main_v142 (F := Ideal) x0 x1 x2 x4 x5 = g
    pointwise []
    try rfl
  rw [t, cs_apply]
  refine congrArg Ideal.exp (Finset.sum_congr rfl fun q _ => ?_)
  rw [if_pos (by show q.val ≤ 63; omega)]

theorem oH_apply (n : Fin 64) (d : Fin 1024) :
    val_main_v168 (F := Ideal) x0 x2 (ix2 n d) = val_main_v15 (F := Ideal) x0 x2 (ix3 ⟨n.val / 8, by omega⟩ ⟨2040 + n.val % 8, by omega⟩ d) := by
  unfold val_main_v168 val_main_v167
  generalize val_main_v15 (F := Ideal) x0 x2 = g
  pointwise []
  try rfl

end Cert.RwkvFirstReferenceIdeal.Proj

end
-- ==== Proof.RwkvFirstClaim.lean ====
/-
  The input projection of the `rwkv` layer against its reference over whole arrays: the blocks the grid points read and write,
  what a point leaves for the next, and the two runs with the same eight results.
-/
module

public import proofs.«01_k».proof.Defs
public import proofs.«01_k».proof.Proof.RwkvFirstBlock
public import proofs.«01_k».proof.Proof.RwkvFirstValue
public import proofs.«01_k».proof.Proof.RwkvFirstMask
public import proofs.«01_k».proof.Proof.RwkvFirstRef
public import proofs.«01_k».proof.Proof.Gen.RwkvFirst.Frame
public import proofs.«01_k».proof.Proof.Gen.RwkvFirstIdeal.Value
public import proofs.«01_k».proof.Proof.Gen.RwkvFirstReferenceIdeal.Run
public import Idealize.ShloMosaic.Lib.Pipeline.ValueKit

@[expose] public section

set_option maxRecDepth 16384

noncomputable section

namespace Cert.RwkvFirstIdeal.Proj

open Cert.RwkvFirstIdeal Cert.RwkvFirstIdeal.Gen Idealize.ShloMosaic Idealize.ShloMosaic.TcCoe Idealize.SL.Sem
open Idealize.ShloMosaic.Pipeline (Dat)
open Cert.RwkvFirstReferenceIdeal.Proj (at_)
open Cert.RwkvFirstReferenceIdeal.Read
open Cert.Row

theorem mixdot_congr {u u' p p' m m' w w' : Fin 1024 → EReal} (hu : ∀ d, u d = u' d) (hp : ∀ d, p d = p' d) (hm : ∀ d, m d = m' d)
    (hw : ∀ d, w d = w' d) : mixdot u p m w = mixdot u' p' m' w' := by
  rw [funext hu, funext hp, funext hm, funext hw]

theorem keyAt_congr {k k' a a' m m' : EReal} (hk : k = k') (ha : a = a') (hm : m = m') : keyAt k a m = keyAt k' a' m' := by
  rw [hk, ha, hm]

/-- Where point `t` finds its rows. -/
theorem where0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- Where point `t` finds its rows before. -/
theorem where1 : ∀ t : Fin cfg0.N, win0_1.index t ⟨0, by decide⟩ = t.val / 8 ∧ win0_1.index t ⟨1, by decide⟩ = 0 :=
  (by decide +kernel : ∀ t : Fin grid0.N, win0_1.index t ⟨0, by decide⟩ = t.val / 8 ∧ win0_1.index t ⟨1, by decide⟩ = 0)
/-- Where point `t` finds its mixing weights. -/
theorem where2 : ∀ t : Fin cfg0.N, win0_2.index t ⟨0, by decide⟩ = 0 ∧ win0_2.index t ⟨1, by decide⟩ = 0 :=
  (by decide +kernel : ∀ t : Fin grid0.N, win0_2.index t ⟨0, by decide⟩ = 0 ∧ win0_2.index t ⟨1, by decide⟩ = 0)
/-- Where point `t` finds its square weights. -/
theorem where3 : ∀ t : Fin cfg0.N, win0_3.index t ⟨0, by decide⟩ = 0 ∧ win0_3.index t ⟨1, by decide⟩ = 0 ∧ win0_3.index t ⟨2, by decide⟩ = 0 :=
  (by decide +kernel : ∀ t : Fin grid0.N, win0_3.index t ⟨0, by decide⟩ = 0 ∧ win0_3.index t ⟨1, by decide⟩ = 0 ∧ win0_3.index t ⟨2, by decide⟩ = 0)
/-- Where point `t` finds its decay weights in. -/
theorem where4 : ∀ t : Fin cfg0.N, win0_4.index t ⟨0, by decide⟩ = 0 ∧ win0_4.index t ⟨1, by decide⟩ = 0 :=
  (by decide +kernel : ∀ t : Fin grid0.N, win0_4.index t ⟨0, by decide⟩ = 0 ∧ win0_4.index t ⟨1, by decide⟩ = 0)
/-- Where point `t` finds its decay weights out. -/
theorem where5 : ∀ t : Fin cfg0.N, win0_5.index t ⟨0, by decide⟩ = 0 ∧ win0_5.index t ⟨1, by decide⟩ = 0 :=
  (by decide +kernel : ∀ t : Fin grid0.N, win0_5.index t ⟨0, by decide⟩ = 0 ∧ win0_5.index t ⟨1, by decide⟩ = 0)
/-- Where point `t` finds its rate weights in. -/
theorem where6 : ∀ t : Fin cfg0.N, win0_6.index t ⟨0, by decide⟩ = 0 ∧ win0_6.index t ⟨1, by decide⟩ = 0 :=
  (by decide +kernel : ∀ t : Fin grid0.N, win0_6.index t ⟨0, by decide⟩ = 0 ∧ win0_6.index t ⟨1, by decide⟩ = 0)
/-- Where point `t` finds its rate weights out. -/
theorem where7 : ∀ t : Fin cfg0.N, win0_7.index t ⟨0, by decide⟩ = 0 ∧ win0_7.index t ⟨1, by decide⟩ = 0 :=
  (by decide +kernel : ∀ t : Fin grid0.N, win0_7.index t ⟨0, by decide⟩ = 0 ∧ win0_7.index t ⟨1, by decide⟩ = 0)
/-- Where point `t` finds its gate weights in. -/
theorem where8 : ∀ t : Fin cfg0.N, win0_8.index t ⟨0, by decide⟩ = 0 ∧ win0_8.index t ⟨1, by decide⟩ = 0 :=
  (by decide +kernel : ∀ t : Fin grid0.N, win0_8.index t ⟨0, by decide⟩ = 0 ∧ win0_8.index t ⟨1, by decide⟩ = 0)
/-- Where point `t` finds its gate weights out. -/
theorem where9 : ∀ t : Fin cfg0.N, win0_9.index t ⟨0, by decide⟩ = 0 ∧ win0_9.index t ⟨1, by decide⟩ = 0 :=
  (by decide +kernel : ∀ t : Fin grid0.N, win0_9.index t ⟨0, by decide⟩ = 0 ∧ win0_9.index t ⟨1, by decide⟩ = 0)
/-- Where point `t` finds its triangle. -/
theorem where10 : ∀ t : Fin cfg0.N, win0_10.index t ⟨0, by decide⟩ = 0 ∧ win0_10.index t ⟨1, by decide⟩ = 0 :=
  (by decide +kernel : ∀ t : Fin grid0.N, win0_10.index t ⟨0, by decide⟩ = 0 ∧ win0_10.index t ⟨1, by decide⟩ = 0)
/-- Where point `t` finds its head squares. -/
theorem where11 : ∀ t : Fin cfg0.N, win0_11.index t ⟨0, by decide⟩ = 0 ∧ win0_11.index t ⟨1, by decide⟩ = 0 :=
  (by decide +kernel : ∀ t : Fin grid0.N, win0_11.index t ⟨0, by decide⟩ = 0 ∧ win0_11.index t ⟨1, by decide⟩ = 0)
/-- Where point `t` finds its receptances. -/
theorem where12 : ∀ t : Fin cfg0.N, win0_12.index t ⟨0, by decide⟩ = t.val ∧ win0_12.index t ⟨1, by decide⟩ = 0 :=
  (by decide +kernel : ∀ t : Fin grid0.N, win0_12.index t ⟨0, by decide⟩ = t.val ∧ win0_12.index t ⟨1, by decide⟩ = 0)
/-- Where point `t` finds its keys. -/
theorem where13 : ∀ t : Fin cfg0.N, win0_13.index t ⟨0, by decide⟩ = t.val ∧ win0_13.index t ⟨1, by decide⟩ = 0 :=
  (by decide +kernel : ∀ t : Fin grid0.N, win0_13.index t ⟨0, by decide⟩ = t.val ∧ win0_13.index t ⟨1, by decide⟩ = 0)
/-- Where point `t` finds its removal keys. -/
theorem where14 : ∀ t : Fin cfg0.N, win0_14.index t ⟨0, by decide⟩ = t.val ∧ win0_14.index t ⟨1, by decide⟩ = 0 :=
  (by decide +kernel : ∀ t : Fin grid0.N, win0_14.index t ⟨0, by decide⟩ = t.val ∧ win0_14.index t ⟨1, by decide⟩ = 0)
/-- Where point `t` finds its replacement keys. -/
theorem where15 : ∀ t : Fin cfg0.N, win0_15.index t ⟨0, by decide⟩ = t.val ∧ win0_15.index t ⟨1, by decide⟩ = 0 :=
  (by decide +kernel : ∀ t : Fin grid0.N, win0_15.index t ⟨0, by decide⟩ = t.val ∧ win0_15.index t ⟨1, by decide⟩ = 0)
/-- Where point `t` finds its values. -/
theorem where16 : ∀ t : Fin cfg0.N, win0_16.index t ⟨0, by decide⟩ = t.val ∧ win0_16.index t ⟨1, by decide⟩ = 0 :=
  (by decide +kernel : ∀ t : Fin grid0.N, win0_16.index t ⟨0, by decide⟩ = t.val ∧ win0_16.index t ⟨1, by decide⟩ = 0)
/-- Where point `t` finds its gates. -/
theorem where17 : ∀ t : Fin cfg0.N, win0_17.index t ⟨0, by decide⟩ = t.val ∧ win0_17.index t ⟨1, by decide⟩ = 0 :=
  (by decide +kernel : ∀ t : Fin grid0.N, win0_17.index t ⟨0, by decide⟩ = t.val ∧ win0_17.index t ⟨1, by decide⟩ = 0)
/-- Where point `t` finds its chunk decays. -/
theorem where18 : ∀ t : Fin cfg0.N, win0_18.index t ⟨0, by decide⟩ = t.val ∧ win0_18.index t ⟨1, by decide⟩ = 0 ∧ win0_18.index t ⟨2, by decide⟩ = 0 :=
  (by decide +kernel : ∀ t : Fin grid0.N, win0_18.index t ⟨0, by decide⟩ = t.val ∧ win0_18.index t ⟨1, by decide⟩ = 0 ∧ win0_18.index t ⟨2, by decide⟩ = 0)
/-- Where point `t` finds its last rows. -/
theorem where19 : ∀ t : Fin cfg0.N, win0_19.index t ⟨0, by decide⟩ = t.val / 8 ∧ win0_19.index t ⟨1, by decide⟩ = 0 :=
  (by decide +kernel : ∀ t : Fin grid0.N, win0_19.index t ⟨0, by decide⟩ = t.val / 8 ∧ win0_19.index t ⟨1, by decide⟩ = 0)
theorem lt_N : ∀ t : Fin cfg0.N, t.val < 64 := (by decide +kernel : ∀ t : Fin grid0.N, t.val < 64)

/-- The sequence of point `t`. -/
def seq (t : Fin cfg0.N) : Fin 8 := ⟨t.val / 8, by have := lt_N t; omega⟩
/-- The position in its sequence of row `r` of point `t`. -/
def pos (t : Fin cfg0.N) (r : Fin 256) : Fin 2048 := ⟨256 * (t.val % 8) + r.val, by omega⟩

variable (m : (ℓ : Loc nD τ sig) → Buf (Elt Ideal) ℓ) (c : Dev nD)

/-- The rows, as an array. -/
abbrev a0 := m ((c.tc : Thread nD τ).loc main_arg0)
/-- The rows before, as an array. -/
abbrev a1 := m ((c.tc : Thread nD τ).loc main_arg1)
/-- The mixing weights, as an array. -/
abbrev a2 := m ((c.tc : Thread nD τ).loc main_arg2)
/-- The square weights, as an array. -/
abbrev a3 := m ((c.tc : Thread nD τ).loc main_arg3)
/-- The decay weights in, as an array. -/
abbrev a4 := m ((c.tc : Thread nD τ).loc main_arg4)
/-- The decay weights out, as an array. -/
abbrev a5 := m ((c.tc : Thread nD τ).loc main_arg5)
/-- The rate weights in, as an array. -/
abbrev a6 := m ((c.tc : Thread nD τ).loc main_arg6)
/-- The rate weights out, as an array. -/
abbrev a7 := m ((c.tc : Thread nD τ).loc main_arg7)
/-- The gate weights in, as an array. -/
abbrev a8 := m ((c.tc : Thread nD τ).loc main_arg8)
/-- The gate weights out, as an array. -/
abbrev a9 := m ((c.tc : Thread nD τ).loc main_arg9)

theorem iblk_0 (t : Fin cfg0.N) (r : Fin 256) (l : Fin 1024) : iblk m c 0 t (ix2 r l) = a0 m c (ix2 (at_ (seq t) (pos t r)) l) := by
  have e := where0 t
  refine (congrArg (V m c main_arg0) (funext fun a => Fin.ext ?_)).trans (congrFun (V_main_arg0 m c) _)
  match a with
  | ⟨0, _⟩ =>
    show win0_0.index t ⟨0, by decide⟩ * 256 + 1 * r.val = t.val / 8 * 2048 + (256 * (t.val % 8) + r.val)
    rw [e.1]; omega
  | ⟨1, _⟩ =>
    show win0_0.index t ⟨1, by decide⟩ * 1024 + 1 * l.val = l.val
    rw [e.2]; omega

theorem iblk_1 (t : Fin cfg0.N) (r : Fin 8) (l : Fin 1024) : iblk m c 1 t (ix2 r l) = a1 m c (ix2 (⟨8 * (t.val / 8) + r.val, by have := lt_N t; omega⟩) l) := by
  have e := where1 t
  refine (congrArg (V m c main_arg1) (funext fun a => Fin.ext ?_)).trans (congrFun (V_main_arg1 m c) _)
  match a with
  | ⟨0, _⟩ =>
    show win0_1.index t ⟨0, by decide⟩ * 8 + 1 * r.val = 8 * (t.val / 8) + r.val
    rw [e.1]; omega
  | ⟨1, _⟩ =>
    show win0_1.index t ⟨1, by decide⟩ * 1024 + 1 * l.val = l.val
    rw [e.2]; omega

theorem iblk_2 (t : Fin cfg0.N) (r : Fin 16) (l : Fin 1024) : iblk m c 2 t (ix2 r l) = a2 m c (ix2 r l) := by
  have e := where2 t
  refine (congrArg (V m c main_arg2) (funext fun a => Fin.ext ?_)).trans (congrFun (V_main_arg2 m c) _)
  match a with
  | ⟨0, _⟩ =>
    show win0_2.index t ⟨0, by decide⟩ * 16 + 1 * r.val = r.val
    rw [e.1]; omega
  | ⟨1, _⟩ =>
    show win0_2.index t ⟨1, by decide⟩ * 1024 + 1 * l.val = l.val
    rw [e.2]; omega

theorem iblk_3 (t : Fin cfg0.N) (g : Fin 3) (r l : Fin 1024) : iblk m c 3 t (ix3 g r l) = a3 m c (ix3 g r l) := by
  have e := where3 t
  refine (congrArg (V m c main_arg3) (funext fun a => Fin.ext ?_)).trans (congrFun (V_main_arg3 m c) _)
  match a with
  | ⟨0, _⟩ =>
    show win0_3.index t ⟨0, by decide⟩ * 3 + 1 * g.val = g.val
    rw [e.1]; omega
  | ⟨1, _⟩ =>
    show win0_3.index t ⟨1, by decide⟩ * 1024 + 1 * r.val = r.val
    rw [e.2.1]; omega
  | ⟨2, _⟩ =>
    show win0_3.index t ⟨2, by decide⟩ * 1024 + 1 * l.val = l.val
    rw [e.2.2]; omega

theorem iblk_4 (t : Fin cfg0.N) (r : Fin 1024) (l : Fin 64) : iblk m c 4 t (ix2 r l) = a4 m c (ix2 r l) := by
  have e := where4 t
  refine (congrArg (V m c main_arg4) (funext fun a => Fin.ext ?_)).trans (congrFun (V_main_arg4 m c) _)
  match a with
  | ⟨0, _⟩ =>
    show win0_4.index t ⟨0, by decide⟩ * 1024 + 1 * r.val = r.val
    rw [e.1]; omega
  | ⟨1, _⟩ =>
    show win0_4.index t ⟨1, by decide⟩ * 64 + 1 * l.val = l.val
    rw [e.2]; omega

theorem iblk_5 (t : Fin cfg0.N) (r : Fin 64) (l : Fin 1024) : iblk m c 5 t (ix2 r l) = a5 m c (ix2 r l) := by
  have e := where5 t
  refine (congrArg (V m c main_arg5) (funext fun a => Fin.ext ?_)).trans (congrFun (V_main_arg5 m c) _)
  match a with
  | ⟨0, _⟩ =>
    show win0_5.index t ⟨0, by decide⟩ * 64 + 1 * r.val = r.val
    rw [e.1]; omega
  | ⟨1, _⟩ =>
    show win0_5.index t ⟨1, by decide⟩ * 1024 + 1 * l.val = l.val
    rw [e.2]; omega

theorem iblk_6 (t : Fin cfg0.N) (r : Fin 1024) (l : Fin 64) : iblk m c 6 t (ix2 r l) = a6 m c (ix2 r l) := by
  have e := where6 t
  refine (congrArg (V m c main_arg6) (funext fun a => Fin.ext ?_)).trans (congrFun (V_main_arg6 m c) _)
  match a with
  | ⟨0, _⟩ =>
    show win0_6.index t ⟨0, by decide⟩ * 1024 + 1 * r.val = r.val
    rw [e.1]; omega
  | ⟨1, _⟩ =>
    show win0_6.index t ⟨1, by decide⟩ * 64 + 1 * l.val = l.val
    rw [e.2]; omega

theorem iblk_7 (t : Fin cfg0.N) (r : Fin 64) (l : Fin 1024) : iblk m c 7 t (ix2 r l) = a7 m c (ix2 r l) := by
  have e := where7 t
  refine (congrArg (V m c main_arg7) (funext fun a => Fin.ext ?_)).trans (congrFun (V_main_arg7 m c) _)
  match a with
  | ⟨0, _⟩ =>
    show win0_7.index t ⟨0, by decide⟩ * 64 + 1 * r.val = r.val
    rw [e.1]; omega
  | ⟨1, _⟩ =>
    show win0_7.index t ⟨1, by decide⟩ * 1024 + 1 * l.val = l.val
    rw [e.2]; omega

theorem iblk_8 (t : Fin cfg0.N) (r : Fin 1024) (l : Fin 160) : iblk m c 8 t (ix2 r l) = a8 m c (ix2 r l) := by
  have e := where8 t
  refine (congrArg (V m c main_arg8) (funext fun a => Fin.ext ?_)).trans (congrFun (V_main_arg8 m c) _)
  match a with
  | ⟨0, _⟩ =>
    show win0_8.index t ⟨0, by decide⟩ * 1024 + 1 * r.val = r.val
    rw [e.1]; omega
  | ⟨1, _⟩ =>
    show win0_8.index t ⟨1, by decide⟩ * 160 + 1 * l.val = l.val
    rw [e.2]; omega

theorem iblk_9 (t : Fin cfg0.N) (r : Fin 160) (l : Fin 1024) : iblk m c 9 t (ix2 r l) = a9 m c (ix2 r l) := by
  have e := where9 t
  refine (congrArg (V m c main_arg9) (funext fun a => Fin.ext ?_)).trans (congrFun (V_main_arg9 m c) _)
  match a with
  | ⟨0, _⟩ =>
    show win0_9.index t ⟨0, by decide⟩ * 160 + 1 * r.val = r.val
    rw [e.1]; omega
  | ⟨1, _⟩ =>
    show win0_9.index t ⟨1, by decide⟩ * 1024 + 1 * l.val = l.val
    rw [e.2]; omega

theorem iblk_10 (t : Fin cfg0.N) (r : Fin 64) (l : Fin 64) : iblk m c 10 t (ix2 r l) = V m c main_v16 (ix2 r l) := by
  have e := where10 t
  refine congrArg (V m c main_v16) (funext fun a => Fin.ext ?_)
  match a with
  | ⟨0, _⟩ =>
    show win0_10.index t ⟨0, by decide⟩ * 64 + 1 * r.val = r.val
    rw [e.1]; omega
  | ⟨1, _⟩ =>
    show win0_10.index t ⟨1, by decide⟩ * 64 + 1 * l.val = l.val
    rw [e.2]; omega

theorem iblk_11 (t : Fin cfg0.N) (r : Fin 128) (l : Fin 128) : iblk m c 11 t (ix2 r l) = V m c main_v25 (ix2 r l) := by
  have e := where11 t
  refine congrArg (V m c main_v25) (funext fun a => Fin.ext ?_)
  match a with
  | ⟨0, _⟩ =>
    show win0_11.index t ⟨0, by decide⟩ * 128 + 1 * r.val = r.val
    rw [e.1]; omega
  | ⟨1, _⟩ =>
    show win0_11.index t ⟨1, by decide⟩ * 128 + 1 * l.val = l.val
    rw [e.2]; omega

/-- The block of an array of receptances that point `t` writes, entry by entry. -/
theorem read_12 (G : Buf (Elt Ideal) ((c.tc : Thread nD τ).loc main_v26_0)) (t : Fin cfg0.N) (r : Fin 256) (l : Fin 1024) :
    ((cfg0.win 12).blk t).view.read (Elt Ideal) G (ix2 r l) = G (ix2 (at_ (seq t) (pos t r)) l) := by
  have e := where12 t
  show G _ = _
  refine congrArg G (funext fun a => Fin.ext ?_)
  match a with
  | ⟨0, _⟩ =>
    show win0_12.index t ⟨0, by decide⟩ * 256 + 1 * r.val = t.val / 8 * 2048 + (256 * (t.val % 8) + r.val)
    rw [e.1]; omega
  | ⟨1, _⟩ =>
    show win0_12.index t ⟨1, by decide⟩ * 1024 + 1 * l.val = l.val
    rw [e.2]; omega

/-- The block of an array of keys that point `t` writes, entry by entry. -/
theorem read_13 (G : Buf (Elt Ideal) ((c.tc : Thread nD τ).loc main_v26_1)) (t : Fin cfg0.N) (r : Fin 256) (l : Fin 1024) :
    ((cfg0.win 13).blk t).view.read (Elt Ideal) G (ix2 r l) = G (ix2 (at_ (seq t) (pos t r)) l) := by
  have e := where13 t
  show G _ = _
  refine congrArg G (funext fun a => Fin.ext ?_)
  match a with
  | ⟨0, _⟩ =>
    show win0_13.index t ⟨0, by decide⟩ * 256 + 1 * r.val = t.val / 8 * 2048 + (256 * (t.val % 8) + r.val)
    rw [e.1]; omega
  | ⟨1, _⟩ =>
    show win0_13.index t ⟨1, by decide⟩ * 1024 + 1 * l.val = l.val
    rw [e.2]; omega

/-- The block of an array of removal keys that point `t` writes, entry by entry. -/
theorem read_14 (G : Buf (Elt Ideal) ((c.tc : Thread nD τ).loc main_v26_2)) (t : Fin cfg0.N) (r : Fin 256) (l : Fin 1024) :
    ((cfg0.win 14).blk t).view.read (Elt Ideal) G (ix2 r l) = G (ix2 (at_ (seq t) (pos t r)) l) := by
  have e := where14 t
  show G _ = _
  refine congrArg G (funext fun a => Fin.ext ?_)
  match a with
  | ⟨0, _⟩ =>
    show win0_14.index t ⟨0, by decide⟩ * 256 + 1 * r.val = t.val / 8 * 2048 + (256 * (t.val % 8) + r.val)
    rw [e.1]; omega
  | ⟨1, _⟩ =>
    show win0_14.index t ⟨1, by decide⟩ * 1024 + 1 * l.val = l.val
    rw [e.2]; omega

/-- The block of an array of replacement keys that point `t` writes, entry by entry. -/
theorem read_15 (G : Buf (Elt Ideal) ((c.tc : Thread nD τ).loc main_v26_3)) (t : Fin cfg0.N) (r : Fin 256) (l : Fin 1024) :
    ((cfg0.win 15).blk t).view.read (Elt Ideal) G (ix2 r l) = G (ix2 (at_ (seq t) (pos t r)) l) := by
  have e := where15 t
  show G _ = _
  refine congrArg G (funext fun a => Fin.ext ?_)
  match a with
  | ⟨0, _⟩ =>
    show win0_15.index t ⟨0, by decide⟩ * 256 + 1 * r.val = t.val / 8 * 2048 + (256 * (t.val % 8) + r.val)
    rw [e.1]; omega
  | ⟨1, _⟩ =>
    show win0_15.index t ⟨1, by decide⟩ * 1024 + 1 * l.val = l.val
    rw [e.2]; omega

/-- The block of an array of values that point `t` writes, entry by entry. -/
theorem read_16 (G : Buf (Elt Ideal) ((c.tc : Thread nD τ).loc main_v26_4)) (t : Fin cfg0.N) (r : Fin 256) (l : Fin 1024) :
    ((cfg0.win 16).blk t).view.read (Elt Ideal) G (ix2 r l) = G (ix2 (at_ (seq t) (pos t r)) l) := by
  have e := where16 t
  show G _ = _
  refine congrArg G (funext fun a => Fin.ext ?_)
  match a with
  | ⟨0, _⟩ =>
    show win0_16.index t ⟨0, by decide⟩ * 256 + 1 * r.val = t.val / 8 * 2048 + (256 * (t.val % 8) + r.val)
    rw [e.1]; omega
  | ⟨1, _⟩ =>
    show win0_16.index t ⟨1, by decide⟩ * 1024 + 1 * l.val = l.val
    rw [e.2]; omega

/-- The block of an array of gates that point `t` writes, entry by entry. -/
theorem read_17 (G : Buf (Elt Ideal) ((c.tc : Thread nD τ).loc main_v26_5)) (t : Fin cfg0.N) (r : Fin 256) (l : Fin 1024) :
    ((cfg0.win 17).blk t).view.read (Elt Ideal) G (ix2 r l) = G (ix2 (at_ (seq t) (pos t r)) l) := by
  have e := where17 t
  show G _ = _
  refine congrArg G (funext fun a => Fin.ext ?_)
  match a with
  | ⟨0, _⟩ =>
    show win0_17.index t ⟨0, by decide⟩ * 256 + 1 * r.val = t.val / 8 * 2048 + (256 * (t.val % 8) + r.val)
    rw [e.1]; omega
  | ⟨1, _⟩ =>
    show win0_17.index t ⟨1, by decide⟩ * 1024 + 1 * l.val = l.val
    rw [e.2]; omega

/-- The block of an array of chunk decays that point `t` writes, entry by entry. -/
theorem read_18 (G : Buf (Elt Ideal) ((c.tc : Thread nD τ).loc main_v26_6)) (t : Fin cfg0.N) (r : Fin 4) (z : Fin 1) (l : Fin 1024) :
    ((cfg0.win 18).blk t).view.read (Elt Ideal) G (ix3 r z l) = G (ix3 (⟨4 * t.val + r.val, by have := lt_N t; omega⟩) z l) := by
  have e := where18 t
  show G _ = _
  refine congrArg G (funext fun a => Fin.ext ?_)
  match a with
  | ⟨0, _⟩ =>
    show win0_18.index t ⟨0, by decide⟩ * 4 + 1 * r.val = 4 * t.val + r.val
    rw [e.1]; omega
  | ⟨1, _⟩ =>
    show win0_18.index t ⟨1, by decide⟩ * 1 + 1 * z.val = z.val
    rw [e.2.1]; omega
  | ⟨2, _⟩ =>
    show win0_18.index t ⟨2, by decide⟩ * 1024 + 1 * l.val = l.val
    rw [e.2.2]; omega

/-- The block of an array of last rows that point `t` writes, entry by entry. -/
theorem read_19 (G : Buf (Elt Ideal) ((c.tc : Thread nD τ).loc main_v26_7)) (t : Fin cfg0.N) (r : Fin 8) (l : Fin 1024) :
    ((cfg0.win 19).blk t).view.read (Elt Ideal) G (ix2 r l) = G (ix2 (⟨8 * (t.val / 8) + r.val, by have := lt_N t; omega⟩) l) := by
  have e := where19 t
  show G _ = _
  refine congrArg G (funext fun a => Fin.ext ?_)
  match a with
  | ⟨0, _⟩ =>
    show win0_19.index t ⟨0, by decide⟩ * 8 + 1 * r.val = 8 * (t.val / 8) + r.val
    rw [e.1]; omega
  | ⟨1, _⟩ =>
    show win0_19.index t ⟨1, by decide⟩ * 1024 + 1 * l.val = l.val
    rw [e.2]; omega

theorem tri_eq (t : Fin cfg0.N) (i j : Fin 64) : iblk m c 10 t (ix2 i j) = if j ≤ i then (1 : EReal) else 0 :=
  (iblk_10 m c t i j).trans (mask_eq m c i j)

theorem head_eq (t : Fin cfg0.N) (i j : Fin 128) : iblk m c 11 t (ix2 i j) = if i.val / 64 = j.val / 64 then (1 : EReal) else 0 :=
  (iblk_11 m c t i j).trans (ones_eq m c i j)

theorem hidden_eq (t : Fin cfg0.N) (r : Fin 256) (d : Fin 1024) :
    (hid (F := Ideal) (iblk m c 0 t) (iblk m c 2 t)) (ix2 r d) = val_main_v15 (F := Ideal) (a0 m c) (a2 m c) (ix3 (seq t) (pos t r) d) := by
  rw [Cert.RwkvFirstReferenceIdeal.Proj.h_apply]
  refine (hid_apply (iblk m c 0 t) (iblk m c 2 t) r d).trans ?_
  simp only [iblk_0, iblk_2]

/-- What point `t` leaves for the next: its last eight normalised rows. -/
theorem carried_eq (t : Fin cfg0.N) : (outsAt0 m c t.val t.isLt).2.2.2.2.2.2.2.2 = keep (hid (F := Ideal) (iblk m c 0 t) (iblk m c 2 t)) := by
  by_cases h0 : t.val % 8 = 0
  · rw [outsAt0_A m c t h0]
    dsimp only
    rw [carry_A]
  · rw [outsAt0_B m c t h0]
    dsimp only
    rw [carry_B]

/-- The eight rows before point `t`: the caller's at the first point of a sequence, else what the point before left. -/
def prior (t : Fin cfg0.N) : Vec Ideal S8x1024 .f32 :=
  if t.val % 8 = 0 then k0_pay3 (F := Ideal) (iblk m c 1 t)
  else (outsAt0 m c (t.val - 1) (Nat.lt_of_le_of_lt (Nat.sub_le _ _) t.isLt)).2.2.2.2.2.2.2.2

theorem outR_eq (t : Fin cfg0.N) : (outsAt0 m c t.val t.isLt).1
    = outR (rr (F := Ideal) (iblk m c 0 t) (prior m c t) (iblk m c 2 t) (iblk m c 3 t)) (dec (F := Ideal) (iblk m c 0 t) (prior m c t) (iblk m c 2 t) (iblk m c 4 t) (iblk m c 5 t)) (iblk m c 10 t) := by
  unfold prior
  by_cases h0 : t.val % 8 = 0
  · rw [outsAt0_A m c t h0, if_pos h0]
    dsimp only
    rw [rt_A]
  · rw [outsAt0_B m c t h0, if_neg h0]
    dsimp only
    rw [rt_B]

theorem outK_eq (t : Fin cfg0.N) : (outsAt0 m c t.val t.isLt).2.1
    = outK (kr (F := Ideal) (iblk m c 0 t) (prior m c t) (iblk m c 2 t) (iblk m c 3 t)) (ai (F := Ideal) (iblk m c 0 t) (prior m c t) (iblk m c 2 t) (iblk m c 6 t) (iblk m c 7 t)) (dec (F := Ideal) (iblk m c 0 t) (prior m c t) (iblk m c 2 t) (iblk m c 4 t) (iblk m c 5 t)) (iblk m c 2 t) (iblk m c 10 t) := by
  unfold prior
  by_cases h0 : t.val % 8 = 0
  · rw [outsAt0_A m c t h0, if_pos h0]
    dsimp only
    rw [kt_A]
  · rw [outsAt0_B m c t h0, if_neg h0]
    dsimp only
    rw [kt_B]

theorem outA_eq (t : Fin cfg0.N) : (outsAt0 m c t.val t.isLt).2.2.1
    = outA (kk (F := Ideal) (kr (F := Ideal) (iblk m c 0 t) (prior m c t) (iblk m c 2 t) (iblk m c 3 t)) (iblk m c 2 t) (iblk m c 11 t)) (dec (F := Ideal) (iblk m c 0 t) (prior m c t) (iblk m c 2 t) (iblk m c 4 t) (iblk m c 5 t)) (iblk m c 10 t) := by
  unfold prior
  by_cases h0 : t.val % 8 = 0
  · rw [outsAt0_A m c t h0, if_pos h0]
    dsimp only
    rw [at_A]
  · rw [outsAt0_B m c t h0, if_neg h0]
    dsimp only
    rw [at_B]

theorem outB_eq (t : Fin cfg0.N) : (outsAt0 m c t.val t.isLt).2.2.2.1
    = outB (kk (F := Ideal) (kr (F := Ideal) (iblk m c 0 t) (prior m c t) (iblk m c 2 t) (iblk m c 3 t)) (iblk m c 2 t) (iblk m c 11 t)) (ai (F := Ideal) (iblk m c 0 t) (prior m c t) (iblk m c 2 t) (iblk m c 6 t) (iblk m c 7 t)) (dec (F := Ideal) (iblk m c 0 t) (prior m c t) (iblk m c 2 t) (iblk m c 4 t) (iblk m c 5 t)) (iblk m c 10 t) := by
  unfold prior
  by_cases h0 : t.val % 8 = 0
  · rw [outsAt0_A m c t h0, if_pos h0]
    dsimp only
    rw [bt_A]
  · rw [outsAt0_B m c t h0, if_neg h0]
    dsimp only
    rw [bt_B]

theorem outV_eq (t : Fin cfg0.N) : (outsAt0 m c t.val t.isLt).2.2.2.2.1
    = (va (F := Ideal) (iblk m c 0 t) (prior m c t) (iblk m c 2 t) (iblk m c 3 t)) := by
  unfold prior
  by_cases h0 : t.val % 8 = 0
  · rw [outsAt0_A m c t h0, if_pos h0]
    dsimp only
    rw [v_A]
  · rw [outsAt0_B m c t h0, if_neg h0]
    dsimp only
    rw [v_B]

theorem outG_eq (t : Fin cfg0.N) : (outsAt0 m c t.val t.isLt).2.2.2.2.2.1
    = (ga (F := Ideal) (iblk m c 0 t) (prior m c t) (iblk m c 2 t) (iblk m c 8 t) (iblk m c 9 t)) := by
  unfold prior
  by_cases h0 : t.val % 8 = 0
  · rw [outsAt0_A m c t h0, if_pos h0]
    dsimp only
    rw [g_A]
  · rw [outsAt0_B m c t h0, if_neg h0]
    dsimp only
    rw [g_B]

theorem outL_eq (t : Fin cfg0.N) : (outsAt0 m c t.val t.isLt).2.2.2.2.2.2.1
    = outL (cu (F := Ideal) (dec (F := Ideal) (iblk m c 0 t) (prior m c t) (iblk m c 2 t) (iblk m c 4 t) (iblk m c 5 t)) (iblk m c 10 t)) := by
  unfold prior
  by_cases h0 : t.val % 8 = 0
  · rw [outsAt0_A m c t h0, if_pos h0]
    dsimp only
    rw [gl_A]
  · rw [outsAt0_B m c t h0, if_neg h0]
    dsimp only
    rw [gl_B]

theorem outH_eq (t : Fin cfg0.N) : (outsAt0 m c t.val t.isLt).2.2.2.2.2.2.2.1
    = tails (hid (F := Ideal) (iblk m c 0 t) (iblk m c 2 t)) := by
  skip
  by_cases h0 : t.val % 8 = 0
  · rw [outsAt0_A m c t h0]
    dsimp only
    rw [hl_A]
  · rw [outsAt0_B m c t h0]
    dsimp only
    rw [hl_B]

/-- The row above a row of point `t` is the row above it in its sequence. -/
theorem above_eq (t : Fin cfg0.N) (r : Fin 256) (d : Fin 1024) :
    above (hid (F := Ideal) (iblk m c 0 t) (iblk m c 2 t)) (prior m c t) r d
      = Cert.RwkvFirstReferenceIdeal.Proj.above (a1 m c) (val_main_v15 (F := Ideal) (a0 m c) (a2 m c)) (seq t) (pos t r) d := by
  have hN := lt_N t
  unfold above Cert.RwkvFirstReferenceIdeal.Proj.above
  by_cases hr : r.val = 0
  · rw [if_pos hr]
    unfold prior
    by_cases h0 : t.val % 8 = 0
    · have hp : (pos t r).val = 0 := by show 256 * (t.val % 8) + r.val = 0; omega
      rw [if_pos h0, if_pos hp]
      refine (carry_apply (iblk m c 1 t) _ _).trans ((iblk_1 m c t _ _).trans ?_)
      refine congrArg (a1 m c) (congrArg₂ ix2 (Fin.ext ?_) rfl)
      show 8 * (t.val / 8) + 7 = t.val / 8 * 8 + 7
      omega
    · have hp : ¬ (pos t r).val = 0 := by show ¬ 256 * (t.val % 8) + r.val = 0; omega
      rw [if_neg h0, if_neg hp]
      have ht : t.val - 1 < cfg0.N := Nat.lt_of_le_of_lt (Nat.sub_le _ _) t.isLt
      refine (congrFun (carried_eq m c ⟨t.val - 1, ht⟩) _).trans ((keep_apply _ _ _).trans ((hidden_eq m c ⟨t.val - 1, ht⟩ _ _).trans ?_))
      have e1 : seq ⟨t.val - 1, ht⟩ = seq t := Fin.ext (by show (t.val - 1) / 8 = t.val / 8; omega)
      rw [e1]
      refine congrArg _ (congrArg (fun q => ix3 (seq t) q d) (Fin.ext ?_))
      show 256 * ((t.val - 1) % 8) + (248 + 7) = 256 * (t.val % 8) + r.val - 1
      omega
  · have hp : ¬ (pos t r).val = 0 := by show ¬ 256 * (t.val % 8) + r.val = 0; omega
    rw [if_neg hr, if_neg hp]
    refine (hidden_eq m c t _ _).trans (congrArg _ (congrArg (fun q => ix3 (seq t) q d) (Fin.ext ?_)))
    show 256 * (t.val % 8) + (r.val - 1) = 256 * (t.val % 8) + r.val - 1
    omega

theorem r_eq (t : Fin cfg0.N) (r : Fin 256) (j : Fin 1024) :
    (rr (F := Ideal) (iblk m c 0 t) (prior m c t) (iblk m c 2 t) (iblk m c 3 t)) (ix2 r j) = val_main_v65 (F := Ideal) (a0 m c) (a1 m c) (a2 m c) (a3 m c) (ix3 (seq t) (pos t r) j) := by
  rw [Cert.RwkvFirstReferenceIdeal.Proj.r_apply]
  exact (rr_apply (iblk m c 0 t) (prior m c t) (iblk m c 2 t) (iblk m c 3 t) r j).trans (mixdot_congr (hidden_eq m c t r) (above_eq m c t r) (iblk_2 m c t 0) (fun d => iblk_3 m c t 0 d j))

theorem k_eq (t : Fin cfg0.N) (r : Fin 256) (j : Fin 1024) :
    (kr (F := Ideal) (iblk m c 0 t) (prior m c t) (iblk m c 2 t) (iblk m c 3 t)) (ix2 r j) = val_main_v69 (F := Ideal) (a0 m c) (a1 m c) (a2 m c) (a3 m c) (ix3 (seq t) (pos t r) j) := by
  rw [Cert.RwkvFirstReferenceIdeal.Proj.k_apply]
  exact (kr_apply (iblk m c 0 t) (prior m c t) (iblk m c 2 t) (iblk m c 3 t) r j).trans (mixdot_congr (hidden_eq m c t r) (above_eq m c t r) (iblk_2 m c t 1) (fun d => iblk_3 m c t 1 d j))

theorem v_eq (t : Fin cfg0.N) (r : Fin 256) (j : Fin 1024) :
    (va (F := Ideal) (iblk m c 0 t) (prior m c t) (iblk m c 2 t) (iblk m c 3 t)) (ix2 r j) = val_main_v73 (F := Ideal) (a0 m c) (a1 m c) (a2 m c) (a3 m c) (ix3 (seq t) (pos t r) j) := by
  rw [Cert.RwkvFirstReferenceIdeal.Proj.v_apply]
  exact (va_apply (iblk m c 0 t) (prior m c t) (iblk m c 2 t) (iblk m c 3 t) r j).trans (mixdot_congr (hidden_eq m c t r) (above_eq m c t r) (iblk_2 m c t 2) (fun d => iblk_3 m c t 2 d j))

theorem rate_eq (t : Fin cfg0.N) (r : Fin 256) (j : Fin 1024) :
    (lw (F := Ideal) (dec (F := Ideal) (iblk m c 0 t) (prior m c t) (iblk m c 2 t) (iblk m c 4 t) (iblk m c 5 t))) (ix2 r j) = val_main_v140 (F := Ideal) (a0 m c) (a1 m c) (a2 m c) (a4 m c) (a5 m c) (ix3 (seq t) (pos t r) j) := by
  rw [Cert.RwkvFirstReferenceIdeal.Proj.lw_apply, Cert.RwkvFirstReferenceIdeal.Proj.w_apply]
  refine (lw_apply (dec (F := Ideal) (iblk m c 0 t) (prior m c t) (iblk m c 2 t) (iblk m c 4 t) (iblk m c 5 t)) r j).trans ((congrArg (fun z => 0 - Ideal.exp z) (dec_apply (iblk m c 0 t) (prior m c t) (iblk m c 2 t) (iblk m c 4 t) (iblk m c 5 t) r j)).trans ?_)
  show rate _ = rate _
  refine congrArg rate (congrArg₂ (· + ·) (iblk_2 m c t 6 j) (Finset.sum_congr rfl fun e _ => congrArg₂ (· * ·) (congrArg Ideal.tanh ?_) (iblk_5 m c t e j)))
  rw [Cert.RwkvFirstReferenceIdeal.Proj.wl_apply]
  exact mixdot_congr (hidden_eq m c t r) (above_eq m c t r) (iblk_2 m c t 3) (fun d => iblk_4 m c t d e)

theorem ai_eq (t : Fin cfg0.N) (r : Fin 256) (j : Fin 1024) :
    (ai (F := Ideal) (iblk m c 0 t) (prior m c t) (iblk m c 2 t) (iblk m c 6 t) (iblk m c 7 t)) (ix2 r j) = val_main_v103 (F := Ideal) (a0 m c) (a1 m c) (a2 m c) (a6 m c) (a7 m c) (ix3 (seq t) (pos t r) j) := by
  rw [Cert.RwkvFirstReferenceIdeal.Proj.a_apply]
  refine (ai_apply (iblk m c 0 t) (prior m c t) (iblk m c 2 t) (iblk m c 6 t) (iblk m c 7 t) r j).trans ?_
  refine congrArg sigm (congrArg₂ (· + ·) (iblk_2 m c t 7 j) (Finset.sum_congr rfl fun e _ => congrArg₂ (· * ·) ?_ (iblk_7 m c t e j)))
  rw [Cert.RwkvFirstReferenceIdeal.Proj.al_apply]
  exact mixdot_congr (hidden_eq m c t r) (above_eq m c t r) (iblk_2 m c t 4) (fun d => iblk_6 m c t d e)

theorem ga_eq (t : Fin cfg0.N) (r : Fin 256) (j : Fin 1024) :
    (ga (F := Ideal) (iblk m c 0 t) (prior m c t) (iblk m c 2 t) (iblk m c 8 t) (iblk m c 9 t)) (ix2 r j) = val_main_v113 (F := Ideal) (a0 m c) (a1 m c) (a2 m c) (a8 m c) (a9 m c) (ix3 (seq t) (pos t r) j) := by
  rw [Cert.RwkvFirstReferenceIdeal.Proj.g_apply]
  refine (ga_apply (iblk m c 0 t) (prior m c t) (iblk m c 2 t) (iblk m c 8 t) (iblk m c 9 t) r j).trans ?_
  refine Finset.sum_congr rfl fun e _ => congrArg₂ (· * ·) (congrArg sigm ?_) (iblk_9 m c t e j)
  rw [Cert.RwkvFirstReferenceIdeal.Proj.gl_apply]
  exact mixdot_congr (hidden_eq m c t r) (above_eq m c t r) (iblk_2 m c t 5) (fun d => iblk_8 m c t d e)

theorem kk_eq (t : Fin cfg0.N) (r : Fin 256) (j : Fin 1024) :
    (kk (F := Ideal) (kr (F := Ideal) (iblk m c 0 t) (prior m c t) (iblk m c 2 t) (iblk m c 3 t)) (iblk m c 2 t) (iblk m c 11 t)) (ix2 r j) = val_main_v128 (F := Ideal) (a0 m c) (a1 m c) (a2 m c) (a3 m c) (ix3 (seq t) (pos t r) j) := by
  rw [Cert.RwkvFirstReferenceIdeal.Proj.kk_apply]
  refine (kk_apply (kr (F := Ideal) (iblk m c 0 t) (prior m c t) (iblk m c 2 t) (iblk m c 3 t)) (iblk m c 2 t) (iblk m c 11 t) (head_eq m c t) r j).trans ?_
  exact congrArg (fun f => headUnit f j) (funext fun e => congrArg₂ (· * ·) (k_eq m c t r e) (iblk_2 m c t 8 e))

theorem cu_eq (t : Fin cfg0.N) (r : Fin 256) (j : Fin 1024) :
    (cu (F := Ideal) (dec (F := Ideal) (iblk m c 0 t) (prior m c t) (iblk m c 2 t) (iblk m c 4 t) (iblk m c 5 t)) (iblk m c 10 t)) (ix2 r j) = val_main_v146 (F := Ideal) (a0 m c) (a1 m c) (a2 m c) (a4 m c) (a5 m c) (ix3 (seq t) (pos t r) j) := by
  rw [Cert.RwkvFirstReferenceIdeal.Proj.cu_apply]
  refine (cu_apply (dec (F := Ideal) (iblk m c 0 t) (prior m c t) (iblk m c 2 t) (iblk m c 4 t) (iblk m c 5 t)) (iblk m c 10 t) (tri_eq m c t) r j).trans ?_
  refine Finset.sum_congr rfl fun q _ => ?_
  have hc : q.val ≤ (pos t r).val % 64 ↔ q.val ≤ r.val % 64 := by
    show q.val ≤ (256 * (t.val % 8) + r.val) % 64 ↔ q.val ≤ r.val % 64
    omega
  have e1 : Cert.RwkvFirstReferenceIdeal.Proj.chunkRow (pos t r) q = pos t ⟨64 * (r.val / 64) + q.val, by omega⟩ :=
    Fin.ext (by show 64 * ((256 * (t.val % 8) + r.val) / 64) + q.val = 256 * (t.val % 8) + (64 * (r.val / 64) + q.val); omega)
  by_cases hq : q.val ≤ r.val % 64
  · rw [if_pos hq, if_pos (hc.mpr hq), e1]
    exact rate_eq m c t _ j
  · rw [if_neg hq, if_neg (fun e => hq (hc.mp e))]

/-- The receptances of the reference. -/
abbrev expectedR : Buf (Elt Ideal) ((c.tc : Thread nD τ).loc main_v26_0) :=
  val_main_v160 (F := Ideal) (a0 m c) (a1 m c) (a2 m c) (a3 m c) (a4 m c) (a5 m c)
/-- The keys of the reference. -/
abbrev expectedK : Buf (Elt Ideal) ((c.tc : Thread nD τ).loc main_v26_1) :=
  val_main_v161 (F := Ideal) (a0 m c) (a1 m c) (a2 m c) (a3 m c) (a4 m c) (a5 m c) (a6 m c) (a7 m c)
/-- The removal keys of the reference. -/
abbrev expectedA : Buf (Elt Ideal) ((c.tc : Thread nD τ).loc main_v26_2) :=
  val_main_v162 (F := Ideal) (a0 m c) (a1 m c) (a2 m c) (a3 m c) (a4 m c) (a5 m c)
/-- The replacement keys of the reference. -/
abbrev expectedB : Buf (Elt Ideal) ((c.tc : Thread nD τ).loc main_v26_3) :=
  val_main_v163 (F := Ideal) (a0 m c) (a1 m c) (a2 m c) (a3 m c) (a4 m c) (a5 m c) (a6 m c) (a7 m c)
/-- The values of the reference. -/
abbrev expectedV : Buf (Elt Ideal) ((c.tc : Thread nD τ).loc main_v26_4) :=
  val_main_v164 (F := Ideal) (a0 m c) (a1 m c) (a2 m c) (a3 m c)
/-- The gates of the reference. -/
abbrev expectedG : Buf (Elt Ideal) ((c.tc : Thread nD τ).loc main_v26_5) :=
  val_main_v165 (F := Ideal) (a0 m c) (a1 m c) (a2 m c) (a8 m c) (a9 m c)
/-- The chunk decays of the reference. -/
abbrev expectedL : Buf (Elt Ideal) ((c.tc : Thread nD τ).loc main_v26_6) :=
  val_main_v166 (F := Ideal) (a0 m c) (a1 m c) (a2 m c) (a4 m c) (a5 m c)
/-- The last rows of the reference. -/
abbrev expectedH : Buf (Elt Ideal) ((c.tc : Thread nD τ).loc main_v26_7) :=
  val_main_v168 (F := Ideal) (a0 m c) (a2 m c)

/-- Point `t` writes back its block of the reference's receptances. -/
theorem flushedR_eq (t : Fin cfg0.N) :
    (dats m 0 c).flushed 12 t = ((cfg0.win 12).blk t).view.read (Elt Ideal) (expectedR m c) := by
  have hN := lt_N t
  rw [Cert.RwkvFirstIdeal.Value.flushed12, outR_eq]
  funext x
  obtain ⟨r, K, rfl⟩ : ∃ (r : Fin 256) (K : Fin 1024), x = ix2 r K := ⟨x 0, x 1, eq_ix2 x⟩
  rw [read_12]
  unfold expectedR
  rw [Cert.RwkvFirstReferenceIdeal.Proj.oR_apply]
  exact (outR_apply (rr (F := Ideal) (iblk m c 0 t) (prior m c t) (iblk m c 2 t) (iblk m c 3 t)) (dec (F := Ideal) (iblk m c 0 t) (prior m c t) (iblk m c 2 t) (iblk m c 4 t) (iblk m c 5 t)) (iblk m c 10 t) r K).trans (congrArg₂ (· * ·) (r_eq m c t r K) (congrArg Ideal.exp (cu_eq m c t r K)))

/-- Point `t` writes back its block of the reference's keys. -/
theorem flushedK_eq (t : Fin cfg0.N) :
    (dats m 0 c).flushed 13 t = ((cfg0.win 13).blk t).view.read (Elt Ideal) (expectedK m c) := by
  have hN := lt_N t
  rw [Cert.RwkvFirstIdeal.Value.flushed13, outK_eq]
  funext x
  obtain ⟨r, K, rfl⟩ : ∃ (r : Fin 256) (K : Fin 1024), x = ix2 r K := ⟨x 0, x 1, eq_ix2 x⟩
  rw [read_13]
  unfold expectedK
  rw [Cert.RwkvFirstReferenceIdeal.Proj.oK_apply]
  rw [Cert.RwkvFirstReferenceIdeal.Proj.k2_apply]
  exact (outK_apply (kr (F := Ideal) (iblk m c 0 t) (prior m c t) (iblk m c 2 t) (iblk m c 3 t)) (ai (F := Ideal) (iblk m c 0 t) (prior m c t) (iblk m c 2 t) (iblk m c 6 t) (iblk m c 7 t)) (dec (F := Ideal) (iblk m c 0 t) (prior m c t) (iblk m c 2 t) (iblk m c 4 t) (iblk m c 5 t)) (iblk m c 2 t) (iblk m c 10 t) r K).trans (congrArg₂ (· * ·) (keyAt_congr (k_eq m c t r K) (ai_eq m c t r K) (iblk_2 m c t 9 K)) (congrArg (fun a => Ideal.exp (0 - a)) (cu_eq m c t r K)))

/-- Point `t` writes back its block of the reference's removal keys. -/
theorem flushedA_eq (t : Fin cfg0.N) :
    (dats m 0 c).flushed 14 t = ((cfg0.win 14).blk t).view.read (Elt Ideal) (expectedA m c) := by
  have hN := lt_N t
  rw [Cert.RwkvFirstIdeal.Value.flushed14, outA_eq]
  funext x
  obtain ⟨r, K, rfl⟩ : ∃ (r : Fin 256) (K : Fin 1024), x = ix2 r K := ⟨x 0, x 1, eq_ix2 x⟩
  rw [read_14]
  unfold expectedA
  rw [Cert.RwkvFirstReferenceIdeal.Proj.oA_apply]
  refine (outA_apply (kk (F := Ideal) (kr (F := Ideal) (iblk m c 0 t) (prior m c t) (iblk m c 2 t) (iblk m c 3 t)) (iblk m c 2 t) (iblk m c 11 t)) (dec (F := Ideal) (iblk m c 0 t) (prior m c t) (iblk m c 2 t) (iblk m c 4 t) (iblk m c 5 t)) (iblk m c 10 t) r K).trans ?_
  exact congrArg₂ (fun a b => (0 - a) * Ideal.exp b) (kk_eq m c t r K) (congrArg₂ (· - ·) (cu_eq m c t r K) (rate_eq m c t r K))

/-- Point `t` writes back its block of the reference's replacement keys. -/
theorem flushedB_eq (t : Fin cfg0.N) :
    (dats m 0 c).flushed 15 t = ((cfg0.win 15).blk t).view.read (Elt Ideal) (expectedB m c) := by
  have hN := lt_N t
  rw [Cert.RwkvFirstIdeal.Value.flushed15, outB_eq]
  funext x
  obtain ⟨r, K, rfl⟩ : ∃ (r : Fin 256) (K : Fin 1024), x = ix2 r K := ⟨x 0, x 1, eq_ix2 x⟩
  rw [read_15]
  unfold expectedB
  rw [Cert.RwkvFirstReferenceIdeal.Proj.oB_apply]
  exact (outB_apply (kk (F := Ideal) (kr (F := Ideal) (iblk m c 0 t) (prior m c t) (iblk m c 2 t) (iblk m c 3 t)) (iblk m c 2 t) (iblk m c 11 t)) (ai (F := Ideal) (iblk m c 0 t) (prior m c t) (iblk m c 2 t) (iblk m c 6 t) (iblk m c 7 t)) (dec (F := Ideal) (iblk m c 0 t) (prior m c t) (iblk m c 2 t) (iblk m c 4 t) (iblk m c 5 t)) (iblk m c 10 t) r K).trans (congrArg₂ (· * ·) (congrArg₂ (· * ·) (kk_eq m c t r K) (ai_eq m c t r K)) (congrArg (fun a => Ideal.exp (0 - a)) (cu_eq m c t r K)))

/-- Point `t` writes back its block of the reference's values. -/
theorem flushedV_eq (t : Fin cfg0.N) :
    (dats m 0 c).flushed 16 t = ((cfg0.win 16).blk t).view.read (Elt Ideal) (expectedV m c) := by
  have hN := lt_N t
  rw [Cert.RwkvFirstIdeal.Value.flushed16, outV_eq]
  funext x
  obtain ⟨r, K, rfl⟩ : ∃ (r : Fin 256) (K : Fin 1024), x = ix2 r K := ⟨x 0, x 1, eq_ix2 x⟩
  rw [read_16]
  unfold expectedV
  rw [Cert.RwkvFirstReferenceIdeal.Proj.oV_apply]
  exact v_eq m c t r K

/-- Point `t` writes back its block of the reference's gates. -/
theorem flushedG_eq (t : Fin cfg0.N) :
    (dats m 0 c).flushed 17 t = ((cfg0.win 17).blk t).view.read (Elt Ideal) (expectedG m c) := by
  have hN := lt_N t
  rw [Cert.RwkvFirstIdeal.Value.flushed17, outG_eq]
  funext x
  obtain ⟨r, K, rfl⟩ : ∃ (r : Fin 256) (K : Fin 1024), x = ix2 r K := ⟨x 0, x 1, eq_ix2 x⟩
  rw [read_17]
  unfold expectedG
  rw [Cert.RwkvFirstReferenceIdeal.Proj.oG_apply]
  exact ga_eq m c t r K

/-- Point `t` writes back its block of the reference's chunk decays. -/
theorem flushedL_eq (t : Fin cfg0.N) :
    (dats m 0 c).flushed 18 t = ((cfg0.win 18).blk t).view.read (Elt Ideal) (expectedL m c) := by
  have hN := lt_N t
  rw [Cert.RwkvFirstIdeal.Value.flushed18, outL_eq]
  funext x
  obtain ⟨r, z, K, rfl⟩ : ∃ (r : Fin 4) (z : Fin 1) (K : Fin 1024), x = ix3 r z K := ⟨x 0, x 1, x 2, eq_ix3 x⟩
  rw [read_18]
  unfold expectedL
  rw [Cert.RwkvFirstReferenceIdeal.Proj.oL_apply]
  refine (outL_apply (cu (F := Ideal) (dec (F := Ideal) (iblk m c 0 t) (prior m c t) (iblk m c 2 t) (iblk m c 4 t) (iblk m c 5 t)) (iblk m c 10 t)) r z K).trans (congrArg Ideal.exp ?_)
  refine (cu_apply (dec (F := Ideal) (iblk m c 0 t) (prior m c t) (iblk m c 2 t) (iblk m c 4 t) (iblk m c 5 t)) (iblk m c 10 t) (tri_eq m c t) _ K).trans (Finset.sum_congr rfl fun q _ => ?_)
  rw [if_pos (show q.val ≤ (64 * r.val + 63) % 64 by omega)]
  refine (rate_eq m c t _ K).trans ?_
  refine congrArg _ ?_
  have e1 : (⟨(4 * t.val + r.val) / 32, by omega⟩ : Fin 8) = seq t := Fin.ext (by show (4 * t.val + r.val) / 32 = t.val / 8; omega)
  have e2 : pos t ⟨64 * ((64 * r.val + 63) / 64) + q.val, by omega⟩ = ⟨64 * ((4 * t.val + r.val) % 32) + q.val, by omega⟩ :=
    Fin.ext (by show 256 * (t.val % 8) + (64 * ((64 * r.val + 63) / 64) + q.val) = 64 * ((4 * t.val + r.val) % 32) + q.val; omega)
  dsimp only
  rw [e1, e2]

/-- The last point of a sequence writes back its block of the reference's last rows. -/
theorem flushedH_eq (t : Fin cfg0.N) (ht : t.val % 8 = 7) :
    (dats m 0 c).flushed 19 t = ((cfg0.win 19).blk t).view.read (Elt Ideal) (expectedH m c) := by
  have hN := lt_N t
  rw [Cert.RwkvFirstIdeal.Value.flushed19, outH_eq]
  funext x
  obtain ⟨r, K, rfl⟩ : ∃ (r : Fin 8) (K : Fin 1024), x = ix2 r K := ⟨x 0, x 1, eq_ix2 x⟩
  rw [read_19]
  unfold expectedH
  rw [Cert.RwkvFirstReferenceIdeal.Proj.oH_apply]
  refine (tails_apply (hid (F := Ideal) (iblk m c 0 t) (iblk m c 2 t)) r K).trans ((hidden_eq m c t _ K).trans ?_)
  have e1 : (⟨(8 * (t.val / 8) + r.val) / 8, by omega⟩ : Fin 8) = seq t :=
    Fin.ext (by show (8 * (t.val / 8) + r.val) / 8 = t.val / 8; omega)
  have e2 : (⟨2040 + (8 * (t.val / 8) + r.val) % 8, by omega⟩ : Fin 2048) = pos t ⟨248 + r.val, by omega⟩ :=
    Fin.ext (by show 2040 + (8 * (t.val / 8) + r.val) % 8 = 256 * (t.val % 8) + (248 + r.val); omega)
  dsimp only
  rw [e1, e2]

theorem coverR (i : S16384x1024.Idx) : ∃ t : Fin cfg0.N, (cfg0.win 12).flush t = true ∧ i ∈ ((cfg0.win 12).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where12 ⟨n.val / 256, hlt⟩
  refine ⟨⟨n.val / 256, hlt⟩, flush0_12 _, ?_⟩
  refine Finset.mem_map.mpr ⟨ix2 (⟨n.val % 256, by omega⟩ : Fin 256) l, Finset.mem_univ _, funext fun a => Fin.ext ?_⟩
  match a with
  | ⟨0, _⟩ =>
    show win0_12.index ⟨n.val / 256, hlt⟩ ⟨0, by decide⟩ * 256 + 1 * (n.val % 256) = n.val
    rw [e.1]; show n.val / 256 * 256 + 1 * (n.val % 256) = n.val; omega
  | ⟨1, _⟩ =>
    show win0_12.index ⟨n.val / 256, hlt⟩ ⟨1, by decide⟩ * 1024 + 1 * l.val = l.val
    rw [e.2]; omega

theorem coverK (i : S16384x1024.Idx) : ∃ t : Fin cfg0.N, (cfg0.win 13).flush t = true ∧ i ∈ ((cfg0.win 13).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where13 ⟨n.val / 256, hlt⟩
  refine ⟨⟨n.val / 256, hlt⟩, flush0_13 _, ?_⟩
  refine Finset.mem_map.mpr ⟨ix2 (⟨n.val % 256, by omega⟩ : Fin 256) l, Finset.mem_univ _, funext fun a => Fin.ext ?_⟩
  match a with
  | ⟨0, _⟩ =>
    show win0_13.index ⟨n.val / 256, hlt⟩ ⟨0, by decide⟩ * 256 + 1 * (n.val % 256) = n.val
    rw [e.1]; show n.val / 256 * 256 + 1 * (n.val % 256) = n.val; omega
  | ⟨1, _⟩ =>
    show win0_13.index ⟨n.val / 256, hlt⟩ ⟨1, by decide⟩ * 1024 + 1 * l.val = l.val
    rw [e.2]; omega

theorem coverA (i : S16384x1024.Idx) : ∃ t : Fin cfg0.N, (cfg0.win 14).flush t = true ∧ i ∈ ((cfg0.win 14).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where14 ⟨n.val / 256, hlt⟩
  refine ⟨⟨n.val / 256, hlt⟩, flush0_14 _, ?_⟩
  refine Finset.mem_map.mpr ⟨ix2 (⟨n.val % 256, by omega⟩ : Fin 256) l, Finset.mem_univ _, funext fun a => Fin.ext ?_⟩
  match a with
  | ⟨0, _⟩ =>
    show win0_14.index ⟨n.val / 256, hlt⟩ ⟨0, by decide⟩ * 256 + 1 * (n.val % 256) = n.val
    rw [e.1]; show n.val / 256 * 256 + 1 * (n.val % 256) = n.val; omega
  | ⟨1, _⟩ =>
    show win0_14.index ⟨n.val / 256, hlt⟩ ⟨1, by decide⟩ * 1024 + 1 * l.val = l.val
    rw [e.2]; omega

theorem coverB (i : S16384x1024.Idx) : ∃ t : Fin cfg0.N, (cfg0.win 15).flush t = true ∧ i ∈ ((cfg0.win 15).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where15 ⟨n.val / 256, hlt⟩
  refine ⟨⟨n.val / 256, hlt⟩, flush0_15 _, ?_⟩
  refine Finset.mem_map.mpr ⟨ix2 (⟨n.val % 256, by omega⟩ : Fin 256) l, Finset.mem_univ _, funext fun a => Fin.ext ?_⟩
  match a with
  | ⟨0, _⟩ =>
    show win0_15.index ⟨n.val / 256, hlt⟩ ⟨0, by decide⟩ * 256 + 1 * (n.val % 256) = n.val
    rw [e.1]; show n.val / 256 * 256 + 1 * (n.val % 256) = n.val; omega
  | ⟨1, _⟩ =>
    show win0_15.index ⟨n.val / 256, hlt⟩ ⟨1, by decide⟩ * 1024 + 1 * l.val = l.val
    rw [e.2]; omega

theorem coverV (i : S16384x1024.Idx) : ∃ t : Fin cfg0.N, (cfg0.win 16).flush t = true ∧ i ∈ ((cfg0.win 16).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where16 ⟨n.val / 256, hlt⟩
  refine ⟨⟨n.val / 256, hlt⟩, flush0_16 _, ?_⟩
  refine Finset.mem_map.mpr ⟨ix2 (⟨n.val % 256, by omega⟩ : Fin 256) l, Finset.mem_univ _, funext fun a => Fin.ext ?_⟩
  match a with
  | ⟨0, _⟩ =>
    show win0_16.index ⟨n.val / 256, hlt⟩ ⟨0, by decide⟩ * 256 + 1 * (n.val % 256) = n.val
    rw [e.1]; show n.val / 256 * 256 + 1 * (n.val % 256) = n.val; omega
  | ⟨1, _⟩ =>
    show win0_16.index ⟨n.val / 256, hlt⟩ ⟨1, by decide⟩ * 1024 + 1 * l.val = l.val
    rw [e.2]; omega

theorem coverG (i : S16384x1024.Idx) : ∃ t : Fin cfg0.N, (cfg0.win 17).flush t = true ∧ i ∈ ((cfg0.win 17).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where17 ⟨n.val / 256, hlt⟩
  refine ⟨⟨n.val / 256, hlt⟩, flush0_17 _, ?_⟩
  refine Finset.mem_map.mpr ⟨ix2 (⟨n.val % 256, by omega⟩ : Fin 256) l, Finset.mem_univ _, funext fun a => Fin.ext ?_⟩
  match a with
  | ⟨0, _⟩ =>
    show win0_17.index ⟨n.val / 256, hlt⟩ ⟨0, by decide⟩ * 256 + 1 * (n.val % 256) = n.val
    rw [e.1]; show n.val / 256 * 256 + 1 * (n.val % 256) = n.val; omega
  | ⟨1, _⟩ =>
    show win0_17.index ⟨n.val / 256, hlt⟩ ⟨1, by decide⟩ * 1024 + 1 * l.val = l.val
    rw [e.2]; omega

theorem coverL (i : S256x1x1024.Idx) : ∃ t : Fin cfg0.N, (cfg0.win 18).flush t = true ∧ i ∈ ((cfg0.win 18).blk t).view.set := by
  obtain ⟨n, z, l, rfl⟩ : ∃ (n : Fin 256) (z : Fin 1) (l : Fin 1024), i = ix3 n z l := ⟨i 0, i 1, i 2, eq_ix3 i⟩
  have hlt : n.val / 4 < cfg0.N := lt_of_lt_of_eq (show n.val / 4 < 64 by omega) (by decide +kernel : 64 = grid0.N)
  have e := where18 ⟨n.val / 4, hlt⟩
  refine ⟨⟨n.val / 4, hlt⟩, flush0_18 _, ?_⟩
  refine Finset.mem_map.mpr ⟨ix3 (⟨n.val % 4, by omega⟩ : Fin 4) z l, Finset.mem_univ _, funext fun a => Fin.ext ?_⟩
  match a with
  | ⟨0, _⟩ =>
    show win0_18.index ⟨n.val / 4, hlt⟩ ⟨0, by decide⟩ * 4 + 1 * (n.val % 4) = n.val
    rw [e.1]; show n.val / 4 * 4 + 1 * (n.val % 4) = n.val; omega
  | ⟨1, _⟩ =>
    show win0_18.index ⟨n.val / 4, hlt⟩ ⟨1, by decide⟩ * 1 + 1 * z.val = z.val
    rw [e.2.1]; omega
  | ⟨2, _⟩ =>
    show win0_18.index ⟨n.val / 4, hlt⟩ ⟨2, by decide⟩ * 1024 + 1 * l.val = l.val
    rw [e.2.2]; omega

theorem coverH (i : S64x1024.Idx) : ∃ t : Fin cfg0.N, (cfg0.win 19).flush t = true ∧ i ∈ ((cfg0.win 19).blk t).view.set := by
  obtain ⟨n, l, rfl⟩ : ∃ (n : Fin 64) (l : Fin 1024), i = ix2 n l := ⟨i 0, i 1, eq_ix2 i⟩
  have hlt : 8 * (n.val / 8) + 7 < cfg0.N := lt_of_lt_of_eq (show 8 * (n.val / 8) + 7 < 64 by omega) (by decide +kernel : 64 = grid0.N)
  have e := where19 ⟨8 * (n.val / 8) + 7, hlt⟩
  refine ⟨⟨8 * (n.val / 8) + 7, hlt⟩, (flush0_19 _).mpr (by show (8 * (n.val / 8) + 7) % 8 = 7; omega), ?_⟩
  refine Finset.mem_map.mpr ⟨ix2 (⟨n.val % 8, by omega⟩ : Fin 8) l, Finset.mem_univ _, funext fun a => Fin.ext ?_⟩
  match a with
  | ⟨0, _⟩ =>
    show win0_19.index ⟨8 * (n.val / 8) + 7, hlt⟩ ⟨0, by decide⟩ * 8 + 1 * (n.val % 8) = n.val
    rw [e.1]; show (8 * (n.val / 8) + 7) / 8 * 8 + 1 * (n.val % 8) = n.val; omega
  | ⟨1, _⟩ =>
    show win0_19.index ⟨8 * (n.val / 8) + 7, hlt⟩ ⟨1, by decide⟩ * 1024 + 1 * l.val = l.val
    rw [e.2]; omega

/-! The kernel's output arrays after its run are the reference's results. -/

theorem resultR_eq : (dats m 0 c).arrAt 12 cfg0.N = expectedR m c :=
  (dats m 0 c).arrAt_eq_of_cover 12 (expectedR m c) (fun t _ => flushedR_eq m c t) (fun i => coverR i)
theorem resultK_eq : (dats m 0 c).arrAt 13 cfg0.N = expectedK m c :=
  (dats m 0 c).arrAt_eq_of_cover 13 (expectedK m c) (fun t _ => flushedK_eq m c t) (fun i => coverK i)
theorem resultA_eq : (dats m 0 c).arrAt 14 cfg0.N = expectedA m c :=
  (dats m 0 c).arrAt_eq_of_cover 14 (expectedA m c) (fun t _ => flushedA_eq m c t) (fun i => coverA i)
theorem resultB_eq : (dats m 0 c).arrAt 15 cfg0.N = expectedB m c :=
  (dats m 0 c).arrAt_eq_of_cover 15 (expectedB m c) (fun t _ => flushedB_eq m c t) (fun i => coverB i)
theorem resultV_eq : (dats m 0 c).arrAt 16 cfg0.N = expectedV m c :=
  (dats m 0 c).arrAt_eq_of_cover 16 (expectedV m c) (fun t _ => flushedV_eq m c t) (fun i => coverV i)
theorem resultG_eq : (dats m 0 c).arrAt 17 cfg0.N = expectedG m c :=
  (dats m 0 c).arrAt_eq_of_cover 17 (expectedG m c) (fun t _ => flushedG_eq m c t) (fun i => coverG i)
theorem resultL_eq : (dats m 0 c).arrAt 18 cfg0.N = expectedL m c :=
  (dats m 0 c).arrAt_eq_of_cover 18 (expectedL m c) (fun t _ => flushedL_eq m c t) (fun i => coverL i)
theorem resultH_eq : (dats m 0 c).arrAt 19 cfg0.N = expectedH m c :=
  (dats m 0 c).arrAt_eq_of_cover 19 (expectedH m c) (fun t ht => flushedH_eq m c t ((flush0_19 t).mp ht)) (fun i => coverH i)

/-- The value claim: at every argument, kernel and reference both run and end with the same eight results. -/
theorem algebraic : Cert.algebraic_RwkvFirstIdeal_RwkvFirstReferenceIdeal (hRwkvFirstIdeal := Cert.RwkvFirstIdeal.Gen.facts)
    (hRwkvFirstReferenceIdeal := Cert.RwkvFirstReferenceIdeal.Gen.facts) := by
  intro m g m' g' _ hargs
  refine ⟨fun c => expectedR m c, fun c => expectedK m c, fun c => expectedA m c, fun c => expectedB m c, fun c => expectedV m c, fun c => expectedG m c, fun c => expectedL m c, fun c => expectedH m c, ?_, ?_⟩
  · refine (θ_run _ _ _).mono (fun r h c => ?_) (Cert.RwkvFirstIdeal.Value.run_blocks m g)
    obtain ⟨h12, h13, h14, h15, h16, h17, h18, h19, hk⟩ := h c
    exact ⟨h12.trans (resultR_eq m c), h13.trans (resultK_eq m c), h14.trans (resultA_eq m c), h15.trans (resultB_eq m c), h16.trans (resultV_eq m c), h17.trans (resultG_eq m c), h18.trans (resultL_eq m c), h19.trans (resultH_eq m c), hk⟩
  · refine (θ_run _ _ _).mono (fun r h c => ?_) (Cert.RwkvFirstReferenceIdeal.Value.run m' g')
    obtain ⟨h12, h13, h14, h15, h16, h17, h18, h19, hk⟩ := h c
    obtain ⟨e0, e1, e2, e3, e4, e5, e6, e7, e8, e9⟩ := hargs c
    refine ⟨h12.trans ?_, h13.trans ?_, h14.trans ?_, h15.trans ?_, h16.trans ?_, h17.trans ?_, h18.trans ?_, h19.trans ?_, hk⟩
    · rw [val_main_v160_eq]
      show val_main_v160 (F := Ideal) (m' ((c.tc : Thread nD τ).loc Cert.RwkvFirstReferenceIdeal.main_arg0)) (m' ((c.tc : Thread nD τ).loc Cert.RwkvFirstReferenceIdeal.main_arg1)) (m' ((c.tc : Thread nD τ).loc Cert.RwkvFirstReferenceIdeal.main_arg2)) (m' ((c.tc : Thread nD τ).loc Cert.RwkvFirstReferenceIdeal.main_arg3)) (m' ((c.tc : Thread nD τ).loc Cert.RwkvFirstReferenceIdeal.main_arg4)) (m' ((c.tc : Thread nD τ).loc Cert.RwkvFirstReferenceIdeal.main_arg5)) = expectedR m c
      rw [e0, e1, e2, e3, e4, e5]
    · rw [val_main_v161_eq]
      show val_main_v161 (F := Ideal) (m' ((c.tc : Thread nD τ).loc Cert.RwkvFirstReferenceIdeal.main_arg0)) (m' ((c.tc : Thread nD τ).loc Cert.RwkvFirstReferenceIdeal.main_arg1)) (m' ((c.tc : Thread nD τ).loc Cert.RwkvFirstReferenceIdeal.main_arg2)) (m' ((c.tc : Thread nD τ).loc Cert.RwkvFirstReferenceIdeal.main_arg3)) (m' ((c.tc : Thread nD τ).loc Cert.RwkvFirstReferenceIdeal.main_arg4)) (m' ((c.tc : Thread nD τ).loc Cert.RwkvFirstReferenceIdeal.main_arg5)) (m' ((c.tc : Thread nD τ).loc Cert.RwkvFirstReferenceIdeal.main_arg6)) (m' ((c.tc : Thread nD τ).loc Cert.RwkvFirstReferenceIdeal.main_arg7)) = expectedK m c
      rw [e0, e1, e2, e3, e4, e5, e6, e7]
    · rw [val_main_v162_eq]
      show val_main_v162 (F := Ideal) (m' ((c.tc : Thread nD τ).loc Cert.RwkvFirstReferenceIdeal.main_arg0)) (m' ((c.tc : Thread nD τ).loc Cert.RwkvFirstReferenceIdeal.main_arg1)) (m' ((c.tc : Thread nD τ).loc Cert.RwkvFirstReferenceIdeal.main_arg2)) (m' ((c.tc : Thread nD τ).loc Cert.RwkvFirstReferenceIdeal.main_arg3)) (m' ((c.tc : Thread nD τ).loc Cert.RwkvFirstReferenceIdeal.main_arg4)) (m' ((c.tc : Thread nD τ).loc Cert.RwkvFirstReferenceIdeal.main_arg5)) = expectedA m c
      rw [e0, e1, e2, e3, e4, e5]
    · rw [val_main_v163_eq]
      show val_main_v163 (F := Ideal) (m' ((c.tc : Thread nD τ).loc Cert.RwkvFirstReferenceIdeal.main_arg0)) (m' ((c.tc : Thread nD τ).loc Cert.RwkvFirstReferenceIdeal.main_arg1)) (m' ((c.tc : Thread nD τ).loc Cert.RwkvFirstReferenceIdeal.main_arg2)) (m' ((c.tc : Thread nD τ).loc Cert.RwkvFirstReferenceIdeal.main_arg3)) (m' ((c.tc : Thread nD τ).loc Cert.RwkvFirstReferenceIdeal.main_arg4)) (m' ((c.tc : Thread nD τ).loc Cert.RwkvFirstReferenceIdeal.main_arg5)) (m' ((c.tc : Thread nD τ).loc Cert.RwkvFirstReferenceIdeal.main_arg6)) (m' ((c.tc : Thread nD τ).loc Cert.RwkvFirstReferenceIdeal.main_arg7)) = expectedB m c
      rw [e0, e1, e2, e3, e4, e5, e6, e7]
    · rw [val_main_v164_eq]
      show val_main_v164 (F := Ideal) (m' ((c.tc : Thread nD τ).loc Cert.RwkvFirstReferenceIdeal.main_arg0)) (m' ((c.tc : Thread nD τ).loc Cert.RwkvFirstReferenceIdeal.main_arg1)) (m' ((c.tc : Thread nD τ).loc Cert.RwkvFirstReferenceIdeal.main_arg2)) (m' ((c.tc : Thread nD τ).loc Cert.RwkvFirstReferenceIdeal.main_arg3)) = expectedV m c
      rw [e0, e1, e2, e3]
    · rw [val_main_v165_eq]
      show val_main_v165 (F := Ideal) (m' ((c.tc : Thread nD τ).loc Cert.RwkvFirstReferenceIdeal.main_arg0)) (m' ((c.tc : Thread nD τ).loc Cert.RwkvFirstReferenceIdeal.main_arg1)) (m' ((c.tc : Thread nD τ).loc Cert.RwkvFirstReferenceIdeal.main_arg2)) (m' ((c.tc : Thread nD τ).loc Cert.RwkvFirstReferenceIdeal.main_arg8)) (m' ((c.tc : Thread nD τ).loc Cert.RwkvFirstReferenceIdeal.main_arg9)) = expectedG m c
      rw [e0, e1, e2, e8, e9]
    · rw [val_main_v166_eq]
      show val_main_v166 (F := Ideal) (m' ((c.tc : Thread nD τ).loc Cert.RwkvFirstReferenceIdeal.main_arg0)) (m' ((c.tc : Thread nD τ).loc Cert.RwkvFirstReferenceIdeal.main_arg1)) (m' ((c.tc : Thread nD τ).loc Cert.RwkvFirstReferenceIdeal.main_arg2)) (m' ((c.tc : Thread nD τ).loc Cert.RwkvFirstReferenceIdeal.main_arg4)) (m' ((c.tc : Thread nD τ).loc Cert.RwkvFirstReferenceIdeal.main_arg5)) = expectedL m c
      rw [e0, e1, e2, e4, e5]
    · rw [val_main_v168_eq]
      show val_main_v168 (F := Ideal) (m' ((c.tc : Thread nD τ).loc Cert.RwkvFirstReferenceIdeal.main_arg0)) (m' ((c.tc : Thread nD τ).loc Cert.RwkvFirstReferenceIdeal.main_arg2)) = expectedH m c
      rw [e0, e2]

end Cert.RwkvFirstIdeal.Proj

end
-- ==== Proof.RwkvNextBlock.lean ====
/-
  What one grid point of the `rwkv` input projection leaves, stage by stage.
-/
module

public import proofs.«01_k».proof.Proof.Gen.RwkvNextIdeal.Value
public import Idealize.ShloMosaic.Lib.Tactic
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RwkvNextIdeal.Proj

open Cert.RwkvNextIdeal Cert.RwkvNextIdeal.Gen Idealize.ShloMosaic Idealize.ShloMosaic.TcCoe Idealize.SL.Sem

variable {F : FTy → Type} [FloatOps F]

/-- The normalised rows of a block. -/
def hid (x0 : Vec F S256x1024 .f32) (x3 : Vec F S16x1024 .f32) : FVec F S256x1024 .f32 :=
  k0_pay8 x0 (View.ld x3 (Rect.unit (s := S16x1024) ![10, 0] S1x1024.size inb_S16x1024_S1x1024_10_0))

/-- Each row's neighbour above, less the row. -/
def dif (x0 : Vec F S256x1024 .f32) (prev : Vec F S8x1024 .f32) (x3 : Vec F S16x1024 .f32) : FVec F S256x1024 .f32 :=
  k0_pay12 (hid x0 x3) (k0_pay9 x0 (View.ld x3 (Rect.unit (s := S16x1024) ![10, 0] S1x1024.size inb_S16x1024_S1x1024_10_0))) (k0_pay10 prev) k0_pay11 1#32

/-- The receptances. -/
def rr (x0 : Vec F S256x1024 .f32) (prev : Vec F S8x1024 .f32) (x3 : Vec F S16x1024 .f32) (x4 : Vec F S3x1024x1024 .bf16) : FVec F S256x1024 .f32 :=
  k0_pay15 (hid x0 x3) (k0_pay9 x0 (View.ld x3 (Rect.unit (s := S16x1024) ![10, 0] S1x1024.size inb_S16x1024_S1x1024_10_0))) (k0_pay10 prev) k0_pay11 1#32 (View.ld x3 (Rect.unit (s := S16x1024) ![0, 0] S1x1024.size inb_S16x1024_S1x1024_0_0)) (View.ld x4 (Rect.unit (s := S3x1024x1024) ![0, 0, 0] S1x1024x1024.size inb_S3x1024x1024_S1x1024x1024_0_0_0))

/-- The keys before their changes. -/
def kr (x0 : Vec F S256x1024 .f32) (prev : Vec F S8x1024 .f32) (x3 : Vec F S16x1024 .f32) (x4 : Vec F S3x1024x1024 .bf16) : FVec F S256x1024 .f32 :=
  k0_pay16 (hid x0 x3) (k0_pay9 x0 (View.ld x3 (Rect.unit (s := S16x1024) ![10, 0] S1x1024.size inb_S16x1024_S1x1024_10_0))) (k0_pay10 prev) k0_pay11 1#32 (View.ld x3 (Rect.unit (s := S16x1024) ![1, 0] S1x1024.size inb_S16x1024_S1x1024_1_0)) (View.ld x4 (Rect.unit (s := S3x1024x1024) ![1, 0, 0] S1x1024x1024.size inb_S3x1024x1024_S1x1024x1024_1_0_0))

/-- The values of this layer. -/
def v0 (x0 : Vec F S256x1024 .f32) (prev : Vec F S8x1024 .f32) (x3 : Vec F S16x1024 .f32) (x4 : Vec F S3x1024x1024 .bf16) : FVec F S256x1024 .f32 :=
  k0_pay18 (hid x0 x3) (k0_pay9 x0 (View.ld x3 (Rect.unit (s := S16x1024) ![10, 0] S1x1024.size inb_S16x1024_S1x1024_10_0))) (k0_pay10 prev) k0_pay11 1#32 (View.ld x3 (Rect.unit (s := S16x1024) ![2, 0] S1x1024.size inb_S16x1024_S1x1024_2_0)) (View.ld x4 (Rect.unit (s := S3x1024x1024) ![2, 0, 0] S1x1024x1024.size inb_S3x1024x1024_S1x1024x1024_2_0_0))

/-- The low rank part of the gate between the layer's values and the first layer's. -/
def vl (x0 : Vec F S256x1024 .f32) (prev : Vec F S8x1024 .f32) (x3 : Vec F S16x1024 .f32) (x9 : Vec F S1024x32 .bf16) (x10 : Vec F S32x1024 .bf16) : FVec F S256x1024 .f32 :=
  k0_pay20 (k0_pay17 (hid x0 x3) (k0_pay9 x0 (View.ld x3 (Rect.unit (s := S16x1024) ![10, 0] S1x1024.size inb_S16x1024_S1x1024_10_0))) (k0_pay10 prev) k0_pay11 1#32 (View.ld x3 (Rect.unit (s := S16x1024) ![2, 0] S1x1024.size inb_S16x1024_S1x1024_2_0))) x9 x10

/-- The values, drawn towards the first layer's. -/
def va (x0 : Vec F S256x1024 .f32) (prev : Vec F S8x1024 .f32) (x3 : Vec F S16x1024 .f32) (x2 : Vec F S256x1024 .f32) (x4 : Vec F S3x1024x1024 .bf16) (x9 : Vec F S1024x32 .bf16) (x10 : Vec F S32x1024 .bf16) : FVec F S256x1024 .f32 :=
  k0_pay21 (v0 x0 prev x3 x4) (View.ld x3 (Rect.unit (s := S16x1024) ![11, 0] S1x1024.size inb_S16x1024_S1x1024_11_0)) (vl x0 prev x3 x9 x10) x2

/-- The decays' exponents. -/
def dec (x0 : Vec F S256x1024 .f32) (prev : Vec F S8x1024 .f32) (x3 : Vec F S16x1024 .f32) (x5 : Vec F S1024x64 .bf16) (x6 : Vec F S64x1024 .bf16) : FVec F S256x1024 .f32 :=
  k0_pay19 (hid x0 x3) (dif x0 prev x3) (View.ld x3 (Rect.unit (s := S16x1024) ![6, 0] S1x1024.size inb_S16x1024_S1x1024_6_0)) (View.ld x3 (Rect.unit (s := S16x1024) ![3, 0] S1x1024.size inb_S16x1024_S1x1024_3_0)) x5 x6

/-- The rates in context. -/
def ai (x0 : Vec F S256x1024 .f32) (prev : Vec F S8x1024 .f32) (x3 : Vec F S16x1024 .f32) (x7 : Vec F S1024x64 .bf16) (x8 : Vec F S64x1024 .bf16) : FVec F S256x1024 .f32 :=
  k0_pay22 (hid x0 x3) (dif x0 prev x3) (View.ld x3 (Rect.unit (s := S16x1024) ![7, 0] S1x1024.size inb_S16x1024_S1x1024_7_0)) (View.ld x3 (Rect.unit (s := S16x1024) ![4, 0] S1x1024.size inb_S16x1024_S1x1024_4_0)) x7 x8

/-- The gates. -/
def ga (x0 : Vec F S256x1024 .f32) (prev : Vec F S8x1024 .f32) (x3 : Vec F S16x1024 .f32) (x11 : Vec F S1024x160 .bf16) (x12 : Vec F S160x1024 .bf16) : FVec F S256x1024 .f32 :=
  k0_pay24 (k0_pay23 (hid x0 x3) (dif x0 prev x3) (View.ld x3 (Rect.unit (s := S16x1024) ![5, 0] S1x1024.size inb_S16x1024_S1x1024_5_0))) x11 x12

/-- The keys over their heads' lengths. -/
def kk (k : FVec F S256x1024 .f32) (x3 : Vec F S16x1024 .f32) (x14 : Vec F S128x128 .f32) : FVec F S256x1024 .f32 :=
  k0_pay36 (k0_pay25 k (View.ld x3 (Rect.unit (s := S16x1024) ![8, 0] S1x1024.size inb_S16x1024_S1x1024_8_0))) (k0_pay27 x14) (k0_pay28 k (View.ld x3 (Rect.unit (s := S16x1024) ![8, 0] S1x1024.size inb_S16x1024_S1x1024_8_0)) x14) (k0_pay29 k (View.ld x3 (Rect.unit (s := S16x1024) ![8, 0] S1x1024.size inb_S16x1024_S1x1024_8_0)) x14) (k0_pay30 k (View.ld x3 (Rect.unit (s := S16x1024) ![8, 0] S1x1024.size inb_S16x1024_S1x1024_8_0)) x14) (k0_pay31 k (View.ld x3 (Rect.unit (s := S16x1024) ![8, 0] S1x1024.size inb_S16x1024_S1x1024_8_0)) x14) (k0_pay32 k (View.ld x3 (Rect.unit (s := S16x1024) ![8, 0] S1x1024.size inb_S16x1024_S1x1024_8_0)) x14) (k0_pay33 k (View.ld x3 (Rect.unit (s := S16x1024) ![8, 0] S1x1024.size inb_S16x1024_S1x1024_8_0)) x14) (k0_pay34 k (View.ld x3 (Rect.unit (s := S16x1024) ![8, 0] S1x1024.size inb_S16x1024_S1x1024_8_0)) x14) (k0_pay35 k (View.ld x3 (Rect.unit (s := S16x1024) ![8, 0] S1x1024.size inb_S16x1024_S1x1024_8_0))) (constant S256x128 .f32 0x00000000#32)

/-- The log decays. -/
def lw (w : FVec F S256x1024 .f32) : FVec F S256x1024 .f32 :=
  k0_pay37 w

/-- The log decays summed down each chunk. -/
def cu (w : FVec F S256x1024 .f32) (x13 : Vec F S64x64 .f32) : FVec F S256x1024 .f32 :=
  k0_pay38 w x13

/-- The receptances from a chunk's start. -/
def outR (r w : FVec F S256x1024 .f32) (x13 : Vec F S64x64 .f32) : FVec F S256x1024 .f32 :=
  k0_pay40 r w x13

/-- The keys back to a chunk's start. -/
def outK (k a w : FVec F S256x1024 .f32) (x3 : Vec F S16x1024 .f32) (x13 : Vec F S64x64 .f32) : FVec F S256x1024 .f32 :=
  k0_pay41 k w a (View.ld x3 (Rect.unit (s := S16x1024) ![9, 0] S1x1024.size inb_S16x1024_S1x1024_9_0)) x13

/-- The removal keys. -/
def outA (k w : FVec F S256x1024 .f32) (x3 : Vec F S16x1024 .f32) (x14 : Vec F S128x128 .f32) (x13 : Vec F S64x64 .f32) : FVec F S256x1024 .f32 :=
  k0_pay1 (k0_pay42 (k0_pay25 k (View.ld x3 (Rect.unit (s := S16x1024) ![8, 0] S1x1024.size inb_S16x1024_S1x1024_8_0))) (k0_pay27 x14) (k0_pay28 k (View.ld x3 (Rect.unit (s := S16x1024) ![8, 0] S1x1024.size inb_S16x1024_S1x1024_8_0)) x14) (k0_pay29 k (View.ld x3 (Rect.unit (s := S16x1024) ![8, 0] S1x1024.size inb_S16x1024_S1x1024_8_0)) x14) (k0_pay30 k (View.ld x3 (Rect.unit (s := S16x1024) ![8, 0] S1x1024.size inb_S16x1024_S1x1024_8_0)) x14) (k0_pay31 k (View.ld x3 (Rect.unit (s := S16x1024) ![8, 0] S1x1024.size inb_S16x1024_S1x1024_8_0)) x14) (k0_pay32 k (View.ld x3 (Rect.unit (s := S16x1024) ![8, 0] S1x1024.size inb_S16x1024_S1x1024_8_0)) x14) (k0_pay33 k (View.ld x3 (Rect.unit (s := S16x1024) ![8, 0] S1x1024.size inb_S16x1024_S1x1024_8_0)) x14) (k0_pay34 k (View.ld x3 (Rect.unit (s := S16x1024) ![8, 0] S1x1024.size inb_S16x1024_S1x1024_8_0)) x14) (k0_pay35 k (View.ld x3 (Rect.unit (s := S16x1024) ![8, 0] S1x1024.size inb_S16x1024_S1x1024_8_0))) (constant S256x128 .f32 0x00000000#32)) (k0_pay43 w x13)

/-- The replacement keys. -/
def outB (kn a w : FVec F S256x1024 .f32) (x13 : Vec F S64x64 .f32) : FVec F S256x1024 .f32 :=
  k0_pay2 a kn (k0_pay39 w x13)

/-- The last eight rows of a block. -/
def tails (h : FVec F S256x1024 .f32) : Vec F S8x1024 .f32 :=
  k0_pay13 h

/-- The rows kept for the next block. -/
def keep (h : FVec F S256x1024 .f32) : Vec F S8x1024 .f32 :=
  k0_pay14 h

/-- The decay over each chunk of a block. -/
def outL (u : FVec F S256x1024 .f32) : Vec F S4x1x1024 .f32 := fun y =>
  (exp u : FVec F S256x1024 .f32) (ix2 ⟨64 * (y 0).val + 63, by have : (y 0).val < 4 := (y 0).isLt; omega⟩ (y 2))

theorem l_at0 (w : FVec F S256x1024 .f32) (x13 : Vec F S64x64 .f32) (x : S1x1x1024.Idx) (y : S4x1x1024.Idx) (h0 : (y 0 : ℕ) = 0)
    (h2 : (y 2 : ℕ) = (x 2 : ℕ)) : k0_pay3 (cu w x13) x = outL (cu w x13) y := by
  have e : (⟨64 * (y 0).val + 63, by have : (y 0).val < 4 := (y 0).isLt; omega⟩ : Fin 256) = ⟨63, by omega⟩ := Fin.ext (by show 64 * (y 0 : ℕ) + 63 = 63; omega)
  unfold outL
  rw [e]
  unfold k0_pay3
  generalize cu w x13 = g
  pointwise
  refine congrArg _ (congrArg g (funext fun a => Fin.ext ?_))
  match a with
  | ⟨0, _⟩ => rfl
  | ⟨1, _⟩ => exact h2.symm

theorem l_at1 (w : FVec F S256x1024 .f32) (x13 : Vec F S64x64 .f32) (x : S1x1x1024.Idx) (y : S4x1x1024.Idx) (h0 : (y 0 : ℕ) = 1)
    (h2 : (y 2 : ℕ) = (x 2 : ℕ)) : k0_pay4 (cu w x13) x = outL (cu w x13) y := by
  have e : (⟨64 * (y 0).val + 63, by have : (y 0).val < 4 := (y 0).isLt; omega⟩ : Fin 256) = ⟨127, by omega⟩ := Fin.ext (by show 64 * (y 0 : ℕ) + 63 = 127; omega)
  unfold outL
  rw [e]
  unfold k0_pay4
  generalize cu w x13 = g
  pointwise
  refine congrArg _ (congrArg g (funext fun a => Fin.ext ?_))
  match a with
  | ⟨0, _⟩ => rfl
  | ⟨1, _⟩ => exact h2.symm

theorem l_at2 (w : FVec F S256x1024 .f32) (x13 : Vec F S64x64 .f32) (x : S1x1x1024.Idx) (y : S4x1x1024.Idx) (h0 : (y 0 : ℕ) = 2)
    (h2 : (y 2 : ℕ) = (x 2 : ℕ)) : k0_pay5 (cu w x13) x = outL (cu w x13) y := by
  have e : (⟨64 * (y 0).val + 63, by have : (y 0).val < 4 := (y 0).isLt; omega⟩ : Fin 256) = ⟨191, by omega⟩ := Fin.ext (by show 64 * (y 0 : ℕ) + 63 = 191; omega)
  unfold outL
  rw [e]
  unfold k0_pay5
  generalize cu w x13 = g
  pointwise
  refine congrArg _ (congrArg g (funext fun a => Fin.ext ?_))
  match a with
  | ⟨0, _⟩ => rfl
  | ⟨1, _⟩ => exact h2.symm

theorem l_at3 (w : FVec F S256x1024 .f32) (x13 : Vec F S64x64 .f32) (x : S1x1x1024.Idx) (y : S4x1x1024.Idx) (h0 : (y 0 : ℕ) = 3)
    (h2 : (y 2 : ℕ) = (x 2 : ℕ)) : k0_pay6 (cu w x13) x = outL (cu w x13) y := by
  have e : (⟨64 * (y 0).val + 63, by have : (y 0).val < 4 := (y 0).isLt; omega⟩ : Fin 256) = ⟨255, by omega⟩ := Fin.ext (by show 64 * (y 0 : ℕ) + 63 = 255; omega)
  unfold outL
  rw [e]
  unfold k0_pay6
  generalize cu w x13 = g
  pointwise
  refine congrArg _ (congrArg g (funext fun a => Fin.ext ?_))
  match a with
  | ⟨0, _⟩ => rfl
  | ⟨1, _⟩ => exact h2.symm

variable (c : Dev nD) (i : grid0.Coords)
  (arg2 : Memref sig .tc .vmem S256x1024 .f32) (harg2 : arg2.IsWhole) (arg3 : Memref sig .tc .vmem S8x1024 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S3x1024x1024 .bf16) (harg6 : arg6.IsWhole) (arg7 : Memref sig .tc .vmem S1024x64 .bf16) (harg7 : arg7.IsWhole) (arg8 : Memref sig .tc .vmem S64x1024 .bf16) (harg8 : arg8.IsWhole) (arg9 : Memref sig .tc .vmem S1024x64 .bf16) (harg9 : arg9.IsWhole) (arg10 : Memref sig .tc .vmem S64x1024 .bf16) (harg10 : arg10.IsWhole) (arg11 : Memref sig .tc .vmem S1024x32 .bf16) (harg11 : arg11.IsWhole) (arg12 : Memref sig .tc .vmem S32x1024 .bf16) (harg12 : arg12.IsWhole) (arg13 : Memref sig .tc .vmem S1024x160 .bf16) (harg13 : arg13.IsWhole) (arg14 : Memref sig .tc .vmem S160x1024 .bf16) (harg14 : arg14.IsWhole) (arg15 : Memref sig .tc .vmem S64x64 .f32) (harg15 : arg15.IsWhole) (arg16 : Memref sig .tc .vmem S128x128 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S4x1x1024 .f32) (harg23 : arg23.IsWhole) (arg24 : Memref sig .tc .vmem S8x1024 .f32) (harg24 : arg24.IsWhole) (arg25 : Memref sig .tc .vmem S8x1024 .f32) (harg25 : arg25.IsWhole)
  (x0 : Vec F S256x1024 .f32) (x1 : Vec F S8x1024 .f32) (x2 : Vec F S256x1024 .f32) (x3 : Vec F S16x1024 .f32) (x4 : Vec F S3x1024x1024 .bf16) (x5 : Vec F S1024x64 .bf16) (x6 : Vec F S64x1024 .bf16) (x7 : Vec F S1024x64 .bf16) (x8 : Vec F S64x1024 .bf16) (x9 : Vec F S1024x32 .bf16) (x10 : Vec F S32x1024 .bf16) (x11 : Vec F S1024x160 .bf16) (x12 : Vec F S160x1024 .bf16) (x13 : Vec F S64x64 .f32) (x14 : Vec F S128x128 .f32) (xs0 : Vec F S8x1024 .f32)

theorem rt_B (hc0) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = outR (rr x0 xs0 x3 x4) (dec x0 xs0 x3 x5 x6) x13 := by
  frame_out
  rfl

theorem kt_B (hc0) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = outK (kr x0 xs0 x3 x4) (ai x0 xs0 x3 x7 x8) (dec x0 xs0 x3 x5 x6) x3 x13 := by
  frame_out
  rfl

theorem at_B (hc0) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = outA (kr x0 xs0 x3 x4) (dec x0 xs0 x3 x5 x6) x3 x14 x13 := by
  frame_out
  rfl

theorem bt_B (hc0) : out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = outB (kk (kr x0 xs0 x3 x4) x3 x14) (ai x0 xs0 x3 x7 x8) (dec x0 xs0 x3 x5 x6) x13 := by
  frame_out
  rfl

theorem v_B (hc0) : out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = va x0 xs0 x3 x2 x4 x9 x10 := by
  frame_out
  rfl

theorem g_B (hc0) : out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = ga x0 xs0 x3 x11 x12 := by
  frame_out
  rfl

theorem gl_B (hc0) : out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = outL (cu (dec x0 xs0 x3 x5 x6) x13) := by
  funext y
  frame_out
  canon_tiles x h
  · exact l_at3 (dec x0 xs0 x3 x5 x6) x13 x y (by have hx : (x 0 : ℕ) < 1 := (x 0).isLt; omega) (by omega)
  · exact l_at2 (dec x0 xs0 x3 x5 x6) x13 x y (by have hx : (x 0 : ℕ) < 1 := (x 0).isLt; omega) (by omega)
  · exact l_at1 (dec x0 xs0 x3 x5 x6) x13 x y (by have hx : (x 0 : ℕ) < 1 := (x 0).isLt; omega) (by omega)
  · exact l_at0 (dec x0 xs0 x3 x5 x6) x13 x y (by have hx : (x 0 : ℕ) < 1 := (x 0).isLt; omega) (by omega)

theorem hl_B (hc0) : out0_B_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = tails (hid x0 x3) := by
  frame_out
  rfl

theorem carry_B (hc0) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0
    = keep (hid x0 x3) := by
  frame_out
  rfl

theorem rt_A (hc0) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = outR (rr x0 (k0_pay7 x1) x3 x4) (dec x0 (k0_pay7 x1) x3 x5 x6) x13 := by
  frame_out
  try simp (disch := decide) only [↓View.readCov_skip, ↓View.readCov_fill]
  rfl

theorem kt_A (hc0) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = outK (kr x0 (k0_pay7 x1) x3 x4) (ai x0 (k0_pay7 x1) x3 x7 x8) (dec x0 (k0_pay7 x1) x3 x5 x6) x3 x13 := by
  frame_out
  try simp (disch := decide) only [↓View.readCov_skip, ↓View.readCov_fill]
  rfl

theorem at_A (hc0) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = outA (kr x0 (k0_pay7 x1) x3 x4) (dec x0 (k0_pay7 x1) x3 x5 x6) x3 x14 x13 := by
  frame_out
  try simp (disch := decide) only [↓View.readCov_skip, ↓View.readCov_fill]
  rfl

theorem bt_A (hc0) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = outB (kk (kr x0 (k0_pay7 x1) x3 x4) x3 x14) (ai x0 (k0_pay7 x1) x3 x7 x8) (dec x0 (k0_pay7 x1) x3 x5 x6) x13 := by
  frame_out
  try simp (disch := decide) only [↓View.readCov_skip, ↓View.readCov_fill]
  rfl

theorem v_A (hc0) : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = va x0 (k0_pay7 x1) x3 x2 x4 x9 x10 := by
  frame_out
  try simp (disch := decide) only [↓View.readCov_skip, ↓View.readCov_fill]
  rfl

theorem g_A (hc0) : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = ga x0 (k0_pay7 x1) x3 x11 x12 := by
  frame_out
  try simp (disch := decide) only [↓View.readCov_skip, ↓View.readCov_fill]
  rfl

theorem gl_A (hc0) : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = outL (cu (dec x0 (k0_pay7 x1) x3 x5 x6) x13) := by
  funext y
  frame_out
  try simp (disch := decide) only [↓View.readCov_skip, ↓View.readCov_fill]
  canon_tiles x h
  · exact l_at3 (dec x0 (k0_pay7 x1) x3 x5 x6) x13 x y (by have hx : (x 0 : ℕ) < 1 := (x 0).isLt; omega) (by omega)
  · exact l_at2 (dec x0 (k0_pay7 x1) x3 x5 x6) x13 x y (by have hx : (x 0 : ℕ) < 1 := (x 0).isLt; omega) (by omega)
  · exact l_at1 (dec x0 (k0_pay7 x1) x3 x5 x6) x13 x y (by have hx : (x 0 : ℕ) < 1 := (x 0).isLt; omega) (by omega)
  · exact l_at0 (dec x0 (k0_pay7 x1) x3 x5 x6) x13 x y (by have hx : (x 0 : ℕ) < 1 := (x 0).isLt; omega) (by omega)

theorem hl_A (hc0) : out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = tails (hid x0 x3) := by
  frame_out
  rfl

theorem carry_A (hc0) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14
    = keep (hid x0 x3) := by
  frame_out
  rfl

end Cert.RwkvNextIdeal.Proj

end
-- ==== Proof.RwkvNextValue.lean ====
/-
  The blocks of the `rwkv` input projection read entry by entry, on the extended reals.
-/
module

public import proofs.«01_k».proof.Proof.RwkvNextBlock
public import proofs.«01_k».proof.Proof.FfnRow
public import proofs.«01_k».proof.Proof.RwkvRow

@[expose] public section

set_option maxRecDepth 16384

noncomputable section

namespace Cert.RwkvNextIdeal.Proj

open Cert.RwkvNextIdeal Cert.RwkvNextIdeal.Gen Idealize.ShloMosaic Idealize.ShloMosaic.TcCoe Idealize.SL.Sem
open Cert.Row

theorem pick1 (r : Fin 8) : IntOp.cmpi CmpIPredicate.slt
    (Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)))
    1#32 = BitVec.ofBool (decide (r.val < 1)) := by
  revert r; decide +kernel

theorem select_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

theorem hid_apply (x0 : Vec Ideal S256x1024 .f32) (x3 : Vec Ideal S16x1024 .f32) (r : Fin 256) (d : Fin 1024) :
    hid x0 x3 (ix2 r d) = normed (fun e => x0 (ix2 r e)) (x3 (ix2 10 d)) d := by
  pointwise [hid, k0_pay8]
  rfl

/-- The row above row `r` of a block: the block's own, or the last of the rows before it. -/
def above (h : FVec Ideal S256x1024 .f32) (prev : Vec Ideal S8x1024 .f32) (r : Fin 256) (d : Fin 1024) : EReal :=
  if r.val = 0 then prev (ix2 7 d) else h (ix2 ⟨r.val - 1, by omega⟩ d)

theorem dif_apply (x0 : Vec Ideal S256x1024 .f32) (prev : Vec Ideal S8x1024 .f32) (x3 : Vec Ideal S16x1024 .f32) (r : Fin 256) (d : Fin 1024) :
    dif x0 prev x3 (ix2 r d) = above (hid x0 x3) prev r d - hid x0 x3 (ix2 r d) := by
  unfold dif k0_pay9
  show k0_pay12 (hid x0 x3) (dynamicRotate 0 1#32 none (hid x0 x3) rotates_S256x1024_d0) (k0_pay10 prev) k0_pay11 1#32 (ix2 r d) = _
  generalize hid x0 x3 = h
  pointwise [k0_pay12, k0_pay10, k0_pay11]
  unfold above
  refine congrArg₂ (· - ·) ?_ rfl
  by_cases hr : r.val < 8
  · simp only [dif_pos hr]
    have p := pick1 ⟨r.val, hr⟩
    dsimp only at p
    rw [p, select_ofBool]
    by_cases h1 : r.val < 1
    · rw [if_pos h1, if_pos (show r.val = 0 by omega)]
      refine congrArg prev (congrArg₂ ix2 (Fin.ext ?_) rfl)
      show (r.val + 8 - 1) % 8 = 7
      omega
    · rw [if_neg h1, if_neg (show ¬ r.val = 0 by omega)]
      refine congrArg h (congrArg₂ ix2 (Fin.ext ?_) rfl)
      show (r.val + 256 - 1) % 256 = r.val - 1
      omega
  · simp only [dif_neg hr]
    rw [if_neg (show ¬ r.val = 0 by omega)]
    refine congrArg h (congrArg₂ ix2 (Fin.ext ?_) rfl)
    show (8 + (r.val - 8) + 256 - 1) % 256 = r.val - 1
    omega

theorem rr_apply (x0 : Vec Ideal S256x1024 .f32) (prev : Vec Ideal S8x1024 .f32) (x3 : Vec Ideal S16x1024 .f32) (x4 : Vec Ideal S3x1024x1024 .bf16) (r : Fin 256) (j : Fin 1024) :
    rr x0 prev x3 x4 (ix2 r j) = mixdot (fun d => hid x0 x3 (ix2 r d)) (fun d => above (hid x0 x3) prev r d) (fun d => x3 (ix2 0 d)) (fun d => x4 (ix3 0 d j)) := by
  have hD := fun d => (dif_apply x0 prev x3 r d).symm
  unfold mixdot
  simp only [hD]
  unfold rr k0_pay15
  unfold dif
  generalize k0_pay12 (hid x0 x3) _ _ _ _ = D
  generalize hid x0 x3 = H
  pointwise
  try rfl

theorem kr_apply (x0 : Vec Ideal S256x1024 .f32) (prev : Vec Ideal S8x1024 .f32) (x3 : Vec Ideal S16x1024 .f32) (x4 : Vec Ideal S3x1024x1024 .bf16) (r : Fin 256) (j : Fin 1024) :
    kr x0 prev x3 x4 (ix2 r j) = mixdot (fun d => hid x0 x3 (ix2 r d)) (fun d => above (hid x0 x3) prev r d) (fun d => x3 (ix2 1 d)) (fun d => x4 (ix3 1 d j)) := by
  have hD := fun d => (dif_apply x0 prev x3 r d).symm
  unfold mixdot
  simp only [hD]
  unfold kr k0_pay16
  unfold dif
  generalize k0_pay12 (hid x0 x3) _ _ _ _ = D
  generalize hid x0 x3 = H
  pointwise
  try rfl

theorem v0_apply (x0 : Vec Ideal S256x1024 .f32) (prev : Vec Ideal S8x1024 .f32) (x3 : Vec Ideal S16x1024 .f32) (x4 : Vec Ideal S3x1024x1024 .bf16) (r : Fin 256) (j : Fin 1024) :
    v0 x0 prev x3 x4 (ix2 r j) = mixdot (fun d => hid x0 x3 (ix2 r d)) (fun d => above (hid x0 x3) prev r d) (fun d => x3 (ix2 2 d)) (fun d => x4 (ix3 2 d j)) := by
  have hD := fun d => (dif_apply x0 prev x3 r d).symm
  unfold mixdot
  simp only [hD]
  unfold v0 k0_pay18 k0_pay17
  unfold dif
  generalize k0_pay12 (hid x0 x3) _ _ _ _ = D
  generalize hid x0 x3 = H
  pointwise
  try rfl

theorem vl_apply (x0 : Vec Ideal S256x1024 .f32) (prev : Vec Ideal S8x1024 .f32) (x3 : Vec Ideal S16x1024 .f32) (x9 : Vec Ideal S1024x32 .bf16) (x10 : Vec Ideal S32x1024 .bf16) (r : Fin 256) (j : Fin 1024) :
    vl x0 prev x3 x9 x10 (ix2 r j) = ∑ e : Fin 32, mixdot (fun d => hid x0 x3 (ix2 r d)) (fun d => above (hid x0 x3) prev r d) (fun d => x3 (ix2 2 d)) (fun d => x9 (ix2 d e)) * x10 (ix2 e j) := by
  have hD := fun d => (dif_apply x0 prev x3 r d).symm
  unfold mixdot
  simp only [hD]
  unfold vl k0_pay20 k0_pay17
  unfold dif
  generalize k0_pay12 (hid x0 x3) _ _ _ _ = D
  generalize hid x0 x3 = H
  pointwise
  try rfl

theorem va_apply (x0 : Vec Ideal S256x1024 .f32) (prev : Vec Ideal S8x1024 .f32) (x3 : Vec Ideal S16x1024 .f32) (x2 : Vec Ideal S256x1024 .f32) (x4 : Vec Ideal S3x1024x1024 .bf16) (x9 : Vec Ideal S1024x32 .bf16) (x10 : Vec Ideal S32x1024 .bf16) (r : Fin 256) (j : Fin 1024) :
    va x0 prev x3 x2 x4 x9 x10 (ix2 r j) = v0 x0 prev x3 x4 (ix2 r j) + (x2 (ix2 r j) - v0 x0 prev x3 x4 (ix2 r j)) * sigm (x3 (ix2 11 j) + vl x0 prev x3 x9 x10 (ix2 r j)) := by
  unfold va
  generalize v0 x0 prev x3 x4 = g
  generalize vl x0 prev x3 x9 x10 = s
  pointwise [k0_pay21]
  rfl

theorem dec_apply (x0 : Vec Ideal S256x1024 .f32) (prev : Vec Ideal S8x1024 .f32) (x3 : Vec Ideal S16x1024 .f32) (x5 : Vec Ideal S1024x64 .bf16) (x6 : Vec Ideal S64x1024 .bf16) (r : Fin 256) (j : Fin 1024) :
    dec x0 prev x3 x5 x6 (ix2 r j) = 0 - (max (0 - (x3 (ix2 6 j) + ∑ e : Fin 64, Ideal.tanh (mixdot (fun d => hid x0 x3 (ix2 r d)) (fun d => above (hid x0 x3) prev r d) (fun d => x3 (ix2 3 d)) (fun d => x5 (ix2 d e))) * x6 (ix2 e j))) 0
      + Ideal.log (1 + Ideal.exp (0 - max (0 - (x3 (ix2 6 j) + ∑ e : Fin 64, Ideal.tanh (mixdot (fun d => hid x0 x3 (ix2 r d)) (fun d => above (hid x0 x3) prev r d) (fun d => x3 (ix2 3 d)) (fun d => x5 (ix2 d e))) * x6 (ix2 e j)))
        (-(0 - (x3 (ix2 6 j) + ∑ e : Fin 64, Ideal.tanh (mixdot (fun d => hid x0 x3 (ix2 r d)) (fun d => above (hid x0 x3) prev r d) (fun d => x3 (ix2 3 d)) (fun d => x5 (ix2 d e))) * x6 (ix2 e j))))))) - Ideal.ofBits .f32 0x3F000000#32 := by
  unfold dec
  have hD := fun d => (dif_apply x0 prev x3 r d).symm
  unfold mixdot
  simp only [hD]
  generalize dif x0 prev x3 = D
  generalize hid x0 x3 = H
  pointwise [k0_pay19]
  rfl

theorem ai_apply (x0 : Vec Ideal S256x1024 .f32) (prev : Vec Ideal S8x1024 .f32) (x3 : Vec Ideal S16x1024 .f32) (x7 : Vec Ideal S1024x64 .bf16) (x8 : Vec Ideal S64x1024 .bf16) (r : Fin 256) (j : Fin 1024) :
    ai x0 prev x3 x7 x8 (ix2 r j) = sigm (x3 (ix2 7 j) + ∑ e : Fin 64, mixdot (fun d => hid x0 x3 (ix2 r d)) (fun d => above (hid x0 x3) prev r d) (fun d => x3 (ix2 4 d)) (fun d => x7 (ix2 d e)) * x8 (ix2 e j)) := by
  unfold ai
  have hD := fun d => (dif_apply x0 prev x3 r d).symm
  unfold mixdot
  simp only [hD]
  generalize dif x0 prev x3 = D
  generalize hid x0 x3 = H
  pointwise [k0_pay22]
  rfl

theorem ga_apply (x0 : Vec Ideal S256x1024 .f32) (prev : Vec Ideal S8x1024 .f32) (x3 : Vec Ideal S16x1024 .f32) (x11 : Vec Ideal S1024x160 .bf16) (x12 : Vec Ideal S160x1024 .bf16) (r : Fin 256) (j : Fin 1024) :
    ga x0 prev x3 x11 x12 (ix2 r j) = ∑ e : Fin 160, sigm (mixdot (fun d => hid x0 x3 (ix2 r d)) (fun d => above (hid x0 x3) prev r d) (fun d => x3 (ix2 5 d)) (fun d => x11 (ix2 d e))) * x12 (ix2 e j) := by
  unfold ga
  have hD := fun d => (dif_apply x0 prev x3 r d).symm
  unfold mixdot
  simp only [hD]
  generalize dif x0 prev x3 = D
  generalize hid x0 x3 = H
  pointwise [k0_pay24, k0_pay23]
  rfl

theorem kk_apply (k : FVec Ideal S256x1024 .f32) (x3 : Vec Ideal S16x1024 .f32) (x14 : Vec Ideal S128x128 .f32)
    (hon : ∀ i j : Fin 128, x14 (ix2 i j) = if i.val / 64 = j.val / 64 then (1 : EReal) else 0) (r : Fin 256) (j : Fin 1024) :
    kk k x3 x14 (ix2 r j) = headUnit (fun e => k (ix2 r e) * x3 (ix2 8 e)) j := by
  have key : ∀ (l : Fin 128) (n : Fin 128 → Fin 1024), l.val = j.val % 128 → (∀ q, (n q).val = 128 * (j.val / 128) + q.val) →
      ∑ q : Fin 128, (k (ix2 r (n q)) * x3 (ix2 8 (n q))) * (k (ix2 r (n q)) * x3 (ix2 8 (n q))) * x14 (ix2 q l)
        = ∑ d : Fin 64, (k (ix2 r (headCol j d)) * x3 (ix2 8 (headCol j d))) * (k (ix2 r (headCol j d)) * x3 (ix2 8 (headCol j d))) := by
    intro l n hl hn
    rw [half_sum _ l (fun q => x14 (ix2 q l)) (fun q => hon q l)]
    refine Finset.sum_congr rfl fun d _ => ?_
    have e : n ⟨64 * (l.val / 64) + d.val, by omega⟩ = headCol j d := Fin.ext (by
      rw [hn]; show 128 * (j.val / 128) + (64 * (l.val / 64) + d.val) = 64 * (j.val / 64) + d.val; omega)
    rw [e]
  pointwise [kk, k0_pay36, k0_pay25, k0_pay26, k0_pay27, k0_pay28, k0_pay29, k0_pay30, k0_pay31, k0_pay32, k0_pay33, k0_pay34, k0_pay35]
  unfold headUnit
  refine congrArg (fun s => k (ix2 r j) * x3 (ix2 8 j) * Ideal.rsqrt (s + Ideal.ofBits .f32 0x358637BD#32)) ?_
  split
  · exact key (⟨j.val, by omega⟩) (fun q => ⟨q.val, by omega⟩) (by dsimp only; omega) (fun q => by dsimp only; omega)
  · skip
    split
    · exact key (⟨j.val - 128, by omega⟩) (fun q => ⟨128 + q.val, by omega⟩) (by dsimp only; omega) (fun q => by dsimp only; omega)
    · skip
      split
      · exact key (⟨j.val - 128 - 128, by omega⟩) (fun q => ⟨256 + q.val, by omega⟩) (by dsimp only; omega) (fun q => by dsimp only; omega)
      · skip
        split
        · exact key (⟨j.val - 128 - 128 - 128, by omega⟩) (fun q => ⟨384 + q.val, by omega⟩) (by dsimp only; omega) (fun q => by dsimp only; omega)
        · skip
          split
          · exact key (⟨j.val - 128 - 128 - 128 - 128, by omega⟩) (fun q => ⟨512 + q.val, by omega⟩) (by dsimp only; omega) (fun q => by dsimp only; omega)
          · skip
            split
            · exact key (⟨j.val - 128 - 128 - 128 - 128 - 128, by omega⟩) (fun q => ⟨640 + q.val, by omega⟩) (by dsimp only; omega) (fun q => by dsimp only; omega)
            · skip
              split
              · exact key (⟨j.val - 128 - 128 - 128 - 128 - 128 - 128, by omega⟩) (fun q => ⟨768 + q.val, by omega⟩) (by dsimp only; omega) (fun q => by dsimp only; omega)
              · skip
                exact key (⟨j.val - 128 - 128 - 128 - 128 - 128 - 128 - 128, by omega⟩) (fun q => ⟨896 + q.val, by omega⟩) (by dsimp only; omega) (fun q => by dsimp only; omega)

theorem lw_apply (w : FVec Ideal S256x1024 .f32) (r : Fin 256) (j : Fin 1024) : lw w (ix2 r j) = 0 - Ideal.exp (w (ix2 r j)) := by
  pointwise [lw, k0_pay37]
  try rfl

theorem cu_apply (w : FVec Ideal S256x1024 .f32) (x13 : Vec Ideal S64x64 .f32)
    (htri : ∀ i j : Fin 64, x13 (ix2 i j) = if j ≤ i then (1 : EReal) else 0) (r : Fin 256) (j : Fin 1024) :
    cu w x13 (ix2 r j) = ∑ q : Fin 64, if q.val ≤ r.val % 64 then lw w (ix2 ⟨64 * (r.val / 64) + q.val, by omega⟩ j) else 0 := by
  unfold cu k0_pay38
  show _ = _
  have hl : k0_pay37 w = lw w := rfl
  rw [hl]
  generalize lw w = g
  have key : ∀ (i : Fin 64) (n : Fin 64 → Fin 256), i.val = r.val % 64 → (∀ q, (n q).val = 64 * (r.val / 64) + q.val) →
      ∑ q : Fin 64, x13 (ix2 i q) * g (ix2 (n q) j)
        = ∑ q : Fin 64, if q.val ≤ r.val % 64 then g (ix2 ⟨64 * (r.val / 64) + q.val, by omega⟩ j) else 0 := by
    intro i n hi hn
    refine Finset.sum_congr rfl fun q _ => ?_
    have e : n q = ⟨64 * (r.val / 64) + q.val, by omega⟩ := Fin.ext (hn q)
    rw [htri, e]
    by_cases hq : q.val ≤ r.val % 64
    · have hq' : q ≤ i := by show q.val ≤ i.val; omega
      rw [if_pos hq, if_pos hq', one_mul]
    · have hq' : ¬ q ≤ i := by show ¬ q.val ≤ i.val; omega
      rw [if_neg hq, if_neg hq', zero_mul]
  pointwise []
  split
  · exact key ⟨r.val, by omega⟩ (fun q => ⟨q.val, by omega⟩) (by dsimp only; omega) (fun q => by dsimp only; omega)
  · split
    · exact key ⟨r.val - 64, by omega⟩ (fun q => ⟨64 + q.val, by omega⟩) (by dsimp only; omega) (fun q => by dsimp only; omega)
    · split
      · exact key ⟨r.val - 64 - 64, by omega⟩ (fun q => ⟨128 + q.val, by omega⟩) (by dsimp only; omega) (fun q => by dsimp only; omega)
      · exact key ⟨r.val - 64 - 64 - 64, by omega⟩ (fun q => ⟨192 + q.val, by omega⟩) (by dsimp only; omega) (fun q => by dsimp only; omega)

theorem outR_apply (f w : FVec Ideal S256x1024 .f32) (x13 : Vec Ideal S64x64 .f32) (r : Fin 256) (j : Fin 1024) :
    outR f w x13 (ix2 r j) = f (ix2 r j) * Ideal.exp (cu w x13 (ix2 r j)) := by
  unfold outR k0_pay40
  have hc : k0_pay38 w x13 = cu w x13 := rfl
  try rw [hc]
  generalize cu w x13 = u
  pointwise
  try rfl

theorem outK_apply (k a w : FVec Ideal S256x1024 .f32) (x3 : Vec Ideal S16x1024 .f32) (x13 : Vec Ideal S64x64 .f32) (r : Fin 256) (j : Fin 1024) :
    outK k a w x3 x13 (ix2 r j) = keyAt (k (ix2 r j)) (a (ix2 r j)) (x3 (ix2 9 j)) * Ideal.exp (0 - cu w x13 (ix2 r j)) := by
  unfold outK k0_pay41 k0_pay39
  have hc : k0_pay38 w x13 = cu w x13 := rfl
  try rw [hc]
  generalize cu w x13 = u
  pointwise
  try rfl

theorem outA_apply (k w : FVec Ideal S256x1024 .f32) (x3 : Vec Ideal S16x1024 .f32) (x14 : Vec Ideal S128x128 .f32) (x13 : Vec Ideal S64x64 .f32) (r : Fin 256) (j : Fin 1024) :
    outA k w x3 x14 x13 (ix2 r j) = (0 - kk k x3 x14 (ix2 r j)) * Ideal.exp (cu w x13 (ix2 r j) - lw w (ix2 r j)) := by
  unfold outA k0_pay1 k0_pay42 k0_pay43
  have hc : k0_pay38 w x13 = cu w x13 := rfl
  try rw [hc]
  generalize cu w x13 = u
  have hk : k0_pay37 w = lw w := rfl
  rw [hk]
  generalize lw w = g
  change mulf (subf (broadcast S256x1024 (Scalar.ofBits .f32 0x00000000#32)) (kk k x3 x14)) _ _ = _
  generalize kk k x3 x14 = q
  pointwise
  try rfl

theorem outB_apply (kn a w : FVec Ideal S256x1024 .f32) (x13 : Vec Ideal S64x64 .f32) (r : Fin 256) (j : Fin 1024) :
    outB kn a w x13 (ix2 r j) = kn (ix2 r j) * a (ix2 r j) * Ideal.exp (0 - cu w x13 (ix2 r j)) := by
  unfold outB k0_pay2 k0_pay39
  have hc : k0_pay38 w x13 = cu w x13 := rfl
  try rw [hc]
  generalize cu w x13 = u
  pointwise
  try rfl

theorem outL_apply (u : FVec Ideal S256x1024 .f32) (n : Fin 4) (z : Fin 1) (j : Fin 1024) :
    outL u (ix3 n z j) = Ideal.exp (u (ix2 ⟨64 * n.val + 63, by omega⟩ j)) := by
  unfold outL
  pointwise
  try rfl

theorem tails_apply (h : FVec Ideal S256x1024 .f32) (q : Fin 8) (d : Fin 1024) : tails h (ix2 q d) = h (ix2 ⟨248 + q.val, by omega⟩ d) := by
  pointwise [tails, k0_pay13]

theorem keep_apply (h : FVec Ideal S256x1024 .f32) (q : Fin 8) (d : Fin 1024) : keep h (ix2 q d) = h (ix2 ⟨248 + q.val, by omega⟩ d) := by
  pointwise [keep, k0_pay14, k0_pay13]

theorem carry_apply (x1 : Vec Ideal S8x1024 .f32) (q : Fin 8) (d : Fin 1024) : k0_pay7 x1 (ix2 q d) = x1 (ix2 q d) := by
  pointwise [k0_pay7]

end Cert.RwkvNextIdeal.Proj

end
-- ==== Proof.RwkvNextMask.lean ====
module

public import proofs.«01_k».proof.Proof.Gen.RwkvNextIdeal.Value
public import Idealize.ShloMosaic.Lib.Pointwise

/-! The two masks of ones the projection kernel's host builds: for its sums over a chunk's rows, one on
and below the diagonal and zero above it; for its sums over a head, one where both columns are of the same half. -/

@[expose] public section

set_option maxRecDepth 16384

noncomputable section

namespace Cert.RwkvNextIdeal.Proj

open Cert.RwkvNextIdeal Cert.RwkvNextIdeal.Gen Idealize.ShloMosaic Idealize.ShloMosaic.TcCoe Idealize.SL.Sem Idealize.ShloMosaic.StableHlo

set_option maxHeartbeats 4000000 in
theorem mask_eq (m : (ℓ : Loc nD τ sig) → Buf (Elt Ideal) ℓ) (c : Dev nD) (i j : Fin 64) :
    (V m c main_v16 : S64x64.Idx → EReal) (ix2 i j) = if j ≤ i then (1 : EReal) else 0 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp
  generalize hX : andi _ _ = X
  have key : ∀ i j : Fin 64, (X (ix2 i j) : BitVec 1) = BitVec.ofBool (decide (j ≤ i)) := by
    subst hX
    decide +kernel
  show (((X (ix2 i j) : BitVec 1).toNat : ℝ) : EReal) = _
  rw [key]
  by_cases h : j ≤ i
  · simp [h]
  · simp [h]

set_option maxHeartbeats 4000000 in
theorem ones_eq (m : (ℓ : Loc nD τ sig) → Buf (Elt Ideal) ℓ) (c : Dev nD) (i j : Fin 128) :
    (V m c main_v25 : S128x128.Idx → EReal) (ix2 i j) = if i.val / 64 = j.val / 64 then (1 : EReal) else 0 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp
  generalize hX : cmpi _ _ _ = X
  have key : ∀ i j : Fin 128, (X (ix2 i j) : BitVec 1) = BitVec.ofBool (decide (i.val / 64 = j.val / 64)) := by
    subst hX
    decide +kernel
  show (((X (ix2 i j) : BitVec 1).toNat : ℝ) : EReal) = _
  rw [key]
  by_cases h : i.val / 64 = j.val / 64
  · simp [h]
  · simp [h]

end Cert.RwkvNextIdeal.Proj
-- ==== Proof.RwkvNextRef.lean ====
/-
  The reference of the `rwkv` input projection read entry by entry, on the extended reals.
-/
module

public import proofs.«01_k».proof.Proof.Gen.RwkvNextReferenceIdeal.Read
public import proofs.«01_k».proof.Proof.FfnRow
public import proofs.«01_k».proof.Proof.RwkvRow

@[expose] public section

set_option maxRecDepth 16384

noncomputable section

namespace Cert.RwkvNextReferenceIdeal.Proj

open Cert.Row
open Cert.RwkvNextReferenceIdeal Cert.RwkvNextReferenceIdeal.Gen Cert.RwkvNextReferenceIdeal.Read Idealize.ShloMosaic Idealize.ShloMosaic.TcCoe Idealize.SL.Sem

variable (x0 : (⟨S16384x1024, .f32⟩ : BufTy).Contents (Elt Ideal)) (x1 : (⟨S64x1024, .f32⟩ : BufTy).Contents (Elt Ideal)) (x2 : (⟨S16384x1024, .f32⟩ : BufTy).Contents (Elt Ideal)) (x3 : (⟨S16x1024, .f32⟩ : BufTy).Contents (Elt Ideal)) (x4 : (⟨S3x1024x1024, .bf16⟩ : BufTy).Contents (Elt Ideal)) (x5 : (⟨S1024x64, .bf16⟩ : BufTy).Contents (Elt Ideal)) (x6 : (⟨S64x1024, .bf16⟩ : BufTy).Contents (Elt Ideal)) (x7 : (⟨S1024x64, .bf16⟩ : BufTy).Contents (Elt Ideal)) (x8 : (⟨S64x1024, .bf16⟩ : BufTy).Contents (Elt Ideal)) (x9 : (⟨S1024x32, .bf16⟩ : BufTy).Contents (Elt Ideal)) (x10 : (⟨S32x1024, .bf16⟩ : BufTy).Contents (Elt Ideal)) (x11 : (⟨S1024x160, .bf16⟩ : BufTy).Contents (Elt Ideal)) (x12 : (⟨S160x1024, .bf16⟩ : BufTy).Contents (Elt Ideal))

/-- Row `p` of sequence `b`. -/
def at_ (b : Fin 8) (p : Fin 2048) : Fin 16384 := ⟨b.val * 2048 + p.val, by omega⟩

theorem at_div (b : Fin 8) (p : Fin 2048) (h : (at_ b p).val / 2048 < 8) : (⟨(at_ b p).val / 2048, h⟩ : Fin 8) = b :=
  Fin.ext (by show (b.val * 2048 + p.val) / 2048 = b.val; omega)

theorem at_mod (b : Fin 8) (p : Fin 2048) (h : (at_ b p).val % 2048 < 2048) : (⟨(at_ b p).val % 2048, h⟩ : Fin 2048) = p :=
  Fin.ext (by show (b.val * 2048 + p.val) % 2048 = p.val; omega)

theorem zneg (a : EReal) : -a = 0 - a := by rw [sub_eq_add_neg, zero_add]

theorem h_apply (b : Fin 8) (p : Fin 2048) (d : Fin 1024) :
    val_main_v15 (F := Ideal) x0 x3 (ix3 b p d) = normed (fun e => x0 (ix2 (at_ b p) e)) (x3 (ix2 10 d)) d := by
  pointwise [val_main_v15, val_main_v12, val_main_v14, val_main_v13, val_main_v2, val_main_v1, val_main_v0, val_main_v11, val_main_v10, val_main_v9, val_main_v7, val_main_v8, val_main_cst_1, val_main_v5, val_main_v6, val_main_cst_0, val_main_v4, val_main_v3, val_main_cst]
  rfl

/-- The row above row `p` of sequence `b`: the sequence's own, or the last one before it. -/
def above (g : FVec Ideal S8x2048x1024 .f32) (b : Fin 8) (p : Fin 2048) (d : Fin 1024) : EReal :=
  if p.val = 0 then x1 (ix2 ⟨b.val * 8 + 7, by omega⟩ d) else g (ix3 b ⟨p.val - 1, by omega⟩ d)

theorem s_apply (b : Fin 8) (p : Fin 2048) (d : Fin 1024) :
    val_main_v19 (F := Ideal) x0 x1 x3 (ix3 b p d) = above x1 (val_main_v15 (F := Ideal) x0 x3) b p d := by
  unfold val_main_v19 val_main_v18
  generalize val_main_v15 (F := Ideal) x0 x3 = g0
  pointwise [val_main_v17, val_main_v16]
  unfold above
  by_cases h : p.val = 0
  · first | rw [dif_pos (by omega), if_pos h] | rw [dif_neg (by omega), if_pos h]
    refine congrArg _ (congrArg₂ ix2 (Fin.ext ?_) rfl)
    dsimp only; omega
  · first | rw [dif_neg (by omega), if_neg h] | rw [dif_pos (by omega), if_neg h]
    try exact congrArg g0 (congrArg (fun q => ix3 b q d) (Fin.ext (by dsimp only; omega)))

theorem mix0_apply (b : Fin 8) (p : Fin 2048) (d : Fin 1024) :
    val_main_v26 (F := Ideal) x0 x1 x3 (ix3 b p d) = val_main_v15 (F := Ideal) x0 x3 (ix3 b p d) + (above x1 (val_main_v15 (F := Ideal) x0 x3) b p d - val_main_v15 (F := Ideal) x0 x3 (ix3 b p d)) * x3 (ix2 0 d) := by
  rw [← s_apply]
  unfold val_main_v26 val_main_v25 val_main_v20
  generalize val_main_v19 (F := Ideal) x0 x1 x3 = s
  generalize val_main_v15 (F := Ideal) x0 x3 = g
  pointwise [val_main_v24, val_main_v23, val_main_v22, val_main_v21]
  try rfl

theorem mix1_apply (b : Fin 8) (p : Fin 2048) (d : Fin 1024) :
    val_main_v33 (F := Ideal) x0 x1 x3 (ix3 b p d) = val_main_v15 (F := Ideal) x0 x3 (ix3 b p d) + (above x1 (val_main_v15 (F := Ideal) x0 x3) b p d - val_main_v15 (F := Ideal) x0 x3 (ix3 b p d)) * x3 (ix2 1 d) := by
  rw [← s_apply]
  unfold val_main_v33 val_main_v32 val_main_v27
  generalize val_main_v19 (F := Ideal) x0 x1 x3 = s
  generalize val_main_v15 (F := Ideal) x0 x3 = g
  pointwise [val_main_v31, val_main_v30, val_main_v29, val_main_v28]
  try rfl

theorem mix2_apply (b : Fin 8) (p : Fin 2048) (d : Fin 1024) :
    val_main_v40 (F := Ideal) x0 x1 x3 (ix3 b p d) = val_main_v15 (F := Ideal) x0 x3 (ix3 b p d) + (above x1 (val_main_v15 (F := Ideal) x0 x3) b p d - val_main_v15 (F := Ideal) x0 x3 (ix3 b p d)) * x3 (ix2 2 d) := by
  rw [← s_apply]
  unfold val_main_v40 val_main_v39 val_main_v34
  generalize val_main_v19 (F := Ideal) x0 x1 x3 = s
  generalize val_main_v15 (F := Ideal) x0 x3 = g
  pointwise [val_main_v38, val_main_v37, val_main_v36, val_main_v35]
  try rfl

theorem mix3_apply (b : Fin 8) (p : Fin 2048) (d : Fin 1024) :
    val_main_v47 (F := Ideal) x0 x1 x3 (ix3 b p d) = val_main_v15 (F := Ideal) x0 x3 (ix3 b p d) + (above x1 (val_main_v15 (F := Ideal) x0 x3) b p d - val_main_v15 (F := Ideal) x0 x3 (ix3 b p d)) * x3 (ix2 3 d) := by
  rw [← s_apply]
  unfold val_main_v47 val_main_v46 val_main_v41
  generalize val_main_v19 (F := Ideal) x0 x1 x3 = s
  generalize val_main_v15 (F := Ideal) x0 x3 = g
  pointwise [val_main_v45, val_main_v44, val_main_v43, val_main_v42]
  try rfl

theorem mix4_apply (b : Fin 8) (p : Fin 2048) (d : Fin 1024) :
    val_main_v54 (F := Ideal) x0 x1 x3 (ix3 b p d) = val_main_v15 (F := Ideal) x0 x3 (ix3 b p d) + (above x1 (val_main_v15 (F := Ideal) x0 x3) b p d - val_main_v15 (F := Ideal) x0 x3 (ix3 b p d)) * x3 (ix2 4 d) := by
  rw [← s_apply]
  unfold val_main_v54 val_main_v53 val_main_v48
  generalize val_main_v19 (F := Ideal) x0 x1 x3 = s
  generalize val_main_v15 (F := Ideal) x0 x3 = g
  pointwise [val_main_v52, val_main_v51, val_main_v50, val_main_v49]
  try rfl

theorem mix5_apply (b : Fin 8) (p : Fin 2048) (d : Fin 1024) :
    val_main_v61 (F := Ideal) x0 x1 x3 (ix3 b p d) = val_main_v15 (F := Ideal) x0 x3 (ix3 b p d) + (above x1 (val_main_v15 (F := Ideal) x0 x3) b p d - val_main_v15 (F := Ideal) x0 x3 (ix3 b p d)) * x3 (ix2 5 d) := by
  rw [← s_apply]
  unfold val_main_v61 val_main_v60 val_main_v55
  generalize val_main_v19 (F := Ideal) x0 x1 x3 = s
  generalize val_main_v15 (F := Ideal) x0 x3 = g
  pointwise [val_main_v59, val_main_v58, val_main_v57, val_main_v56]
  try rfl

theorem r_apply (b : Fin 8) (p : Fin 2048) (j : Fin 1024) :
    val_main_v65 (F := Ideal) x0 x1 x3 x4 (ix3 b p j) = mixdot (fun d => val_main_v15 (F := Ideal) x0 x3 (ix3 b p d)) (above x1 (val_main_v15 (F := Ideal) x0 x3) b p) (fun d => x3 (ix2 0 d)) (fun d => x4 (ix3 0 d j)) := by
  have hm := fun d => (mix0_apply x0 x1 x3 b p d).symm
  unfold mixdot
  simp only [hm]
  unfold val_main_v65
  generalize val_main_v26 (F := Ideal) x0 x1 x3 = g
  pointwise [val_main_v64, val_main_v63, val_main_v62]
  try rfl

theorem k_apply (b : Fin 8) (p : Fin 2048) (j : Fin 1024) :
    val_main_v69 (F := Ideal) x0 x1 x3 x4 (ix3 b p j) = mixdot (fun d => val_main_v15 (F := Ideal) x0 x3 (ix3 b p d)) (above x1 (val_main_v15 (F := Ideal) x0 x3) b p) (fun d => x3 (ix2 1 d)) (fun d => x4 (ix3 1 d j)) := by
  have hm := fun d => (mix1_apply x0 x1 x3 b p d).symm
  unfold mixdot
  simp only [hm]
  unfold val_main_v69
  generalize val_main_v33 (F := Ideal) x0 x1 x3 = g
  pointwise [val_main_v68, val_main_v67, val_main_v66]
  try rfl

theorem v_apply (b : Fin 8) (p : Fin 2048) (j : Fin 1024) :
    val_main_v73 (F := Ideal) x0 x1 x3 x4 (ix3 b p j) = mixdot (fun d => val_main_v15 (F := Ideal) x0 x3 (ix3 b p d)) (above x1 (val_main_v15 (F := Ideal) x0 x3) b p) (fun d => x3 (ix2 2 d)) (fun d => x4 (ix3 2 d j)) := by
  have hm := fun d => (mix2_apply x0 x1 x3 b p d).symm
  unfold mixdot
  simp only [hm]
  unfold val_main_v73
  generalize val_main_v40 (F := Ideal) x0 x1 x3 = g
  pointwise [val_main_v72, val_main_v71, val_main_v70]
  try rfl

theorem wl_apply (b : Fin 8) (p : Fin 2048) (j : Fin 64) :
    val_main_v77 (F := Ideal) x0 x1 x3 x5 (ix3 b p j) = mixdot (fun d => val_main_v15 (F := Ideal) x0 x3 (ix3 b p d)) (above x1 (val_main_v15 (F := Ideal) x0 x3) b p) (fun d => x3 (ix2 3 d)) (fun d => x5 (ix2 d j)) := by
  have hm := fun d => (mix3_apply x0 x1 x3 b p d).symm
  unfold mixdot
  simp only [hm]
  unfold val_main_v77
  generalize val_main_v47 (F := Ideal) x0 x1 x3 = g
  pointwise [val_main_v76]
  try rfl

theorem al_apply (b : Fin 8) (p : Fin 2048) (j : Fin 64) :
    val_main_v111 (F := Ideal) x0 x1 x3 x7 (ix3 b p j) = mixdot (fun d => val_main_v15 (F := Ideal) x0 x3 (ix3 b p d)) (above x1 (val_main_v15 (F := Ideal) x0 x3) b p) (fun d => x3 (ix2 4 d)) (fun d => x7 (ix2 d j)) := by
  have hm := fun d => (mix4_apply x0 x1 x3 b p d).symm
  unfold mixdot
  simp only [hm]
  unfold val_main_v111
  generalize val_main_v54 (F := Ideal) x0 x1 x3 = g
  pointwise [val_main_v110]
  try rfl

theorem gl_apply (b : Fin 8) (p : Fin 2048) (j : Fin 160) :
    val_main_v124 (F := Ideal) x0 x1 x3 x11 (ix3 b p j) = mixdot (fun d => val_main_v15 (F := Ideal) x0 x3 (ix3 b p d)) (above x1 (val_main_v15 (F := Ideal) x0 x3) b p) (fun d => x3 (ix2 5 d)) (fun d => x11 (ix2 d j)) := by
  have hm := fun d => (mix5_apply x0 x1 x3 b p d).symm
  unfold mixdot
  simp only [hm]
  unfold val_main_v124
  generalize val_main_v61 (F := Ideal) x0 x1 x3 = g
  pointwise [val_main_v123]
  try rfl

theorem vl_apply (b : Fin 8) (p : Fin 2048) (j : Fin 32) :
    val_main_v94 (F := Ideal) x0 x1 x3 x9 (ix3 b p j) = mixdot (fun d => val_main_v15 (F := Ideal) x0 x3 (ix3 b p d)) (above x1 (val_main_v15 (F := Ideal) x0 x3) b p) (fun d => x3 (ix2 2 d)) (fun d => x9 (ix2 d j)) := by
  have hm := fun d => (mix2_apply x0 x1 x3 b p d).symm
  unfold mixdot
  simp only [hm]
  unfold val_main_v94
  generalize val_main_v40 (F := Ideal) x0 x1 x3 = g
  pointwise [val_main_v93]
  try rfl

theorem w_apply (b : Fin 8) (p : Fin 2048) (j : Fin 1024) :
    val_main_v83 (F := Ideal) x0 x1 x3 x5 x6 (ix3 b p j) = x3 (ix2 6 j) + ∑ e : Fin 64, Ideal.tanh (val_main_v77 (F := Ideal) x0 x1 x3 x5 (ix3 b p e)) * x6 (ix2 e j) := by
  unfold val_main_v83 val_main_v80 val_main_v78
  generalize val_main_v77 (F := Ideal) x0 x1 x3 x5 = g0
  pointwise [val_main_v82, val_main_v79, val_main_v81, val_main_v75, val_main_v74]
  try rfl

theorem a_apply (b : Fin 8) (p : Fin 2048) (j : Fin 1024) :
    val_main_v122 (F := Ideal) x0 x1 x3 x7 x8 (ix3 b p j) = sigm (x3 (ix2 7 j) + ∑ e : Fin 64, val_main_v111 (F := Ideal) x0 x1 x3 x7 (ix3 b p e) * x8 (ix2 e j)) := by
  unfold val_main_v122 val_main_v120 val_main_v118 val_main_v117 val_main_v116 val_main_v113
  generalize val_main_v111 (F := Ideal) x0 x1 x3 x7 = g0
  pointwise [val_main_v121, val_main_v119, val_main_v115, val_main_v112, val_main_v114, val_main_v109, val_main_v108, val_main_cst_5, val_main_cst_6]
  unfold sigm
  simp only [← zneg]
  try rfl

theorem g_apply (b : Fin 8) (p : Fin 2048) (j : Fin 1024) :
    val_main_v132 (F := Ideal) x0 x1 x3 x11 x12 (ix3 b p j) = ∑ e : Fin 160, sigm (val_main_v124 (F := Ideal) x0 x1 x3 x11 (ix3 b p e)) * x12 (ix2 e j) := by
  unfold val_main_v132 val_main_v130 val_main_v128 val_main_v126 val_main_v125
  generalize val_main_v124 (F := Ideal) x0 x1 x3 x11 = g0
  pointwise [val_main_v131, val_main_v129, val_main_v127, val_main_cst_7, val_main_cst_8]
  unfold sigm
  simp only [← zneg]
  try rfl

theorem vx_apply (b : Fin 8) (p : Fin 2048) (j : Fin 1024) :
    val_main_v107 (F := Ideal) x0 x1 x2 x3 x4 x9 x10 (ix3 b p j) = val_main_v73 (F := Ideal) x0 x1 x3 x4 (ix3 b p j) + (x2 (ix2 (at_ b p) j) - val_main_v73 (F := Ideal) x0 x1 x3 x4 (ix3 b p j)) * sigm (x3 (ix2 11 j) + ∑ e : Fin 32, val_main_v94 (F := Ideal) x0 x1 x3 x9 (ix3 b p e) * x10 (ix2 e j)) := by
  unfold val_main_v107 val_main_v106 val_main_v90 val_main_v105 val_main_v103 val_main_v101 val_main_v100 val_main_v99 val_main_v96
  generalize val_main_v73 (F := Ideal) x0 x1 x3 x4 = g0
  generalize val_main_v94 (F := Ideal) x0 x1 x3 x9 = g1
  pointwise [val_main_v104, val_main_v102, val_main_v98, val_main_v95, val_main_v97, val_main_v92, val_main_v91, val_main_cst_3, val_main_cst_4, val_main_v89]
  unfold sigm
  simp only [← zneg]
  try rfl

theorem lw_apply (b : Fin 8) (p : Fin 2048) (j : Fin 1024) :
    val_main_v159 (F := Ideal) x0 x1 x3 x5 x6 (ix3 b p j) = rate (val_main_v83 (F := Ideal) x0 x1 x3 x5 x6 (ix3 b p j)) := by
  unfold val_main_v159 val_main_v158 val_main_v88 val_main_v86 val_main_v85 val_main_call0_v4 val_main_call0_v6 val_main_call0_v11 val_main_call0_v1 val_main_call0_v10 val_main_call0_v9 val_main_call0_v8 val_main_call0_v7 val_main_call0_v3 val_main_v84
  generalize val_main_v83 (F := Ideal) x0 x1 x3 x5 x6 = g
  pointwise [val_main_v87, val_main_cst_2, val_main_call0_v2, val_main_call0_cst, val_main_call0_v0, val_main_call0_v5]
  rw [if_neg (fun e => e rfl)]
  unfold rate Ideal.log1p
  simp only [sub_eq_add_neg, zero_add, sub_zero]
  try rfl

theorem kp_apply (b : Fin 8) (p : Fin 2048) (j : Fin 1024) :
    val_main_v137 (F := Ideal) x0 x1 x3 x4 (ix3 b p j) = val_main_v69 (F := Ideal) x0 x1 x3 x4 (ix3 b p j) * x3 (ix2 8 j) := by
  unfold val_main_v137
  generalize val_main_v69 (F := Ideal) x0 x1 x3 x4 = g0
  pointwise [val_main_v136, val_main_v135, val_main_v134, val_main_v133]
  try rfl

theorem kh_apply (b : Fin 8) (p : Fin 2048) (h : Fin 16) (d : Fin 64) :
    val_main_v138 (F := Ideal) x0 x1 x3 x4 (ix4 b p h d) = val_main_v137 (F := Ideal) x0 x1 x3 x4 (ix3 b p ⟨64 * h.val + d.val, by omega⟩) := by
  rw [val_main_v138_apply]
  refine congrArg _ (funext fun a => Fin.ext ?_)
  match a with
  | ⟨0, _⟩ => show (((b.val * 2048 + p.val) * 16 + h.val) * 64 + d.val) / 2097152 = b.val; omega
  | ⟨1, _⟩ => show (((b.val * 2048 + p.val) * 16 + h.val) * 64 + d.val) / 1024 % 2048 = p.val; omega
  | ⟨2, _⟩ => show (((b.val * 2048 + p.val) * 16 + h.val) * 64 + d.val) % 1024 = 64 * h.val + d.val; omega

theorem ke_apply (b : Fin 8) (p : Fin 2048) (h : Fin 16) (d : Fin 64) :
    val_main_v146 (F := Ideal) x0 x1 x3 x4 (ix4 b p h d) = headUnit (fun e => val_main_v137 (F := Ideal) x0 x1 x3 x4 (ix3 b p e)) ⟨64 * h.val + d.val, by omega⟩ := by
  have e : ∀ k : Fin 64, idx_main_v140 (idx_main_v141 (idx_main_v145 (ix4 b p h d))) k = ix4 b p h k := by
    intro k
    refine funext fun a => Fin.ext ?_
    match a with
    | ⟨0, _⟩ => rfl
    | ⟨1, _⟩ => rfl
    | ⟨2, _⟩ => rfl
    | ⟨3, _⟩ => rfl
  have s : ∑ k : Fin 64, val_main_v139 (F := Ideal) x0 x1 x3 x4 (idx_main_v140 (idx_main_v141 (idx_main_v145 (ix4 b p h d))) k)
      = ∑ k : Fin 64, val_main_v137 (F := Ideal) x0 x1 x3 x4 (ix3 b p (headCol ⟨64 * h.val + d.val, by omega⟩ k)) * val_main_v137 (F := Ideal) x0 x1 x3 x4 (ix3 b p (headCol ⟨64 * h.val + d.val, by omega⟩ k)) := by
    refine Finset.sum_congr rfl fun k _ => ?_
    have c : headCol ⟨64 * h.val + d.val, by omega⟩ k = ⟨64 * h.val + k.val, by omega⟩ := Fin.ext (by
      show 64 * ((64 * h.val + d.val) / 64) + k.val = 64 * h.val + k.val; omega)
    rw [val_main_v139_apply, e k, c, kh_apply]
    try rfl
  have z : (val_main_cst_9 (F := Ideal)) (Shape.Idx.first h_S_) = (0 : EReal) := by
    pointwise [val_main_cst_9]
  rw [val_main_v146_apply, val_main_v145_apply, val_main_v144_apply, val_main_v143_apply, val_main_v141_apply, val_main_v140_apply, val_main_v142_apply, s, z, zero_add, kh_apply]
  generalize val_main_v137 (F := Ideal) x0 x1 x3 x4 = g
  rfl

theorem kk_apply (b : Fin 8) (p : Fin 2048) (j : Fin 1024) :
    val_main_v147 (F := Ideal) x0 x1 x3 x4 (ix3 b p j) = headUnit (fun e => val_main_v69 (F := Ideal) x0 x1 x3 x4 (ix3 b p e) * x3 (ix2 8 e)) j := by
  have e : idx_main_v147 (ix3 b p j) = ix4 b p ⟨j.val / 64, by omega⟩ ⟨j.val % 64, by omega⟩ := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) / 64 % 16 = j.val / 64; omega
    | ⟨3, _⟩ => show ((b.val * 2048 + p.val) * 1024 + j.val) % 64 = j.val % 64; omega
  have c : (⟨64 * (j.val / 64) + j.val % 64, by omega⟩ : Fin 1024) = j := Fin.ext (by dsimp only; omega)
  have k := fun e => (kp_apply x0 x1 x3 x4 b p e).symm
  simp only [k]
  rw [val_main_v147_apply, e, ke_apply]
  exact congrArg _ c

theorem k2_apply (b : Fin 8) (p : Fin 2048) (j : Fin 1024) :
    val_main_v157 (F := Ideal) x0 x1 x3 x4 x7 x8 (ix3 b p j) = keyAt (val_main_v69 (F := Ideal) x0 x1 x3 x4 (ix3 b p j)) (val_main_v122 (F := Ideal) x0 x1 x3 x7 x8 (ix3 b p j)) (x3 (ix2 9 j)) := by
  unfold val_main_v157 val_main_v156 val_main_v154 val_main_v149
  generalize val_main_v69 (F := Ideal) x0 x1 x3 x4 = g0
  generalize val_main_v122 (F := Ideal) x0 x1 x3 x7 x8 = g1
  pointwise [val_main_v155, val_main_v153, val_main_v152, val_main_v151, val_main_v150, val_main_v148, val_main_cst_11, val_main_cst_12]
  try rfl

/-- Row `q` of the chunk of row `p`. -/
def chunkRow (p : Fin 2048) (q : Fin 64) : Fin 2048 := ⟨64 * (p.val / 64) + q.val, by omega⟩

theorem cs_apply (b : Fin 8) (n : Fin 32) (i : Fin 64) (j : Fin 1024) :
    val_main_v161 (F := Ideal) x0 x1 x3 x5 x6 (ix4 b n i j) = ∑ q : Fin 64, if q ≤ i then val_main_v159 (F := Ideal) x0 x1 x3 x5 x6 (ix3 b ⟨64 * n.val + q.val, by omega⟩ j) else 0 := by
  have e : ∀ q : Fin 64, val_main_v160 (F := Ideal) x0 x1 x3 x5 x6 (ix4 b n q j) = val_main_v159 (F := Ideal) x0 x1 x3 x5 x6 (ix3 b ⟨64 * n.val + q.val, by omega⟩ j) := by
    intro q
    rw [val_main_v160_apply]
    refine congrArg _ (funext fun a => Fin.ext ?_)
    match a with
    | ⟨0, _⟩ => show (((b.val * 32 + n.val) * 64 + q.val) * 1024 + j.val) / 2097152 = b.val; omega
    | ⟨1, _⟩ => show (((b.val * 32 + n.val) * 64 + q.val) * 1024 + j.val) / 1024 % 2048 = 64 * n.val + q.val; omega
    | ⟨2, _⟩ => show (((b.val * 32 + n.val) * 64 + q.val) * 1024 + j.val) % 1024 = j.val; omega
  simp only [← e]
  unfold val_main_v161 Host.reduceWindowAdd
  exact cumsum_apply _ _ _ (by pointwise [val_main_call1_call0_v0, val_main_call1_call0_cst]) b n i j

theorem cu_apply (b : Fin 8) (p : Fin 2048) (j : Fin 1024) :
    val_main_v165 (F := Ideal) x0 x1 x3 x5 x6 (ix3 b p j) = ∑ q : Fin 64, if q.val ≤ p.val % 64 then val_main_v159 (F := Ideal) x0 x1 x3 x5 x6 (ix3 b (chunkRow p q) j) else 0 := by
  have t : val_main_v165 (F := Ideal) x0 x1 x3 x5 x6 (ix3 b p j) = val_main_v161 (F := Ideal) x0 x1 x3 x5 x6 (ix4 b ⟨p.val / 64, by omega⟩ ⟨p.val % 64, by omega⟩ j) := by
    rw [val_main_v165_apply]
    refine congrArg _ (funext fun a => Fin.ext ?_)
    match a with
    | ⟨0, _⟩ => show ((b.val * 2048 + p.val) * 1024 + j.val) / 2097152 = b.val; omega
    | ⟨1, _⟩ => show ((b.val * 2048 + p.val) * 1024 + j.val) / 65536 % 32 = p.val / 64; omega
    | ⟨2, _⟩ => show ((b.val * 2048 + p.val) * 1024 + j.val) / 1024 % 64 = p.val % 64; omega
    | ⟨3, _⟩ => show ((b.val * 2048 + p.val) * 1024 + j.val) % 1024 = j.val; omega
  rw [t, cs_apply]
  rfl

theorem oR_apply (b : Fin 8) (p : Fin 2048) (j : Fin 1024) :
    val_main_v179 (F := Ideal) x0 x1 x3 x4 x5 x6 (ix2 (at_ b p) j) = val_main_v65 (F := Ideal) x0 x1 x3 x4 (ix3 b p j) * Ideal.exp (val_main_v165 (F := Ideal) x0 x1 x3 x5 x6 (ix3 b p j)) := by
  have e : idx_main_v179 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v179_apply, e]
  rw [val_main_v167_apply, val_main_v166_apply]
  rfl

theorem oK_apply (b : Fin 8) (p : Fin 2048) (j : Fin 1024) :
    val_main_v180 (F := Ideal) x0 x1 x3 x4 x5 x6 x7 x8 (ix2 (at_ b p) j) = val_main_v157 (F := Ideal) x0 x1 x3 x4 x7 x8 (ix3 b p j) * Ideal.exp (0 - val_main_v165 (F := Ideal) x0 x1 x3 x5 x6 (ix3 b p j)) := by
  have e : idx_main_v180 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v180_apply, e]
  rw [val_main_v170_apply, val_main_v169_apply, val_main_v168_apply]
  simp only [← zneg]
  rfl

theorem oA_apply (b : Fin 8) (p : Fin 2048) (j : Fin 1024) :
    val_main_v181 (F := Ideal) x0 x1 x3 x4 x5 x6 (ix2 (at_ b p) j) = (0 - val_main_v147 (F := Ideal) x0 x1 x3 x4 (ix3 b p j)) * Ideal.exp (val_main_v165 (F := Ideal) x0 x1 x3 x5 x6 (ix3 b p j) - val_main_v159 (F := Ideal) x0 x1 x3 x5 x6 (ix3 b p j)) := by
  have e : idx_main_v181 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v181_apply, e]
  rw [val_main_v174_apply, val_main_v171_apply, val_main_v173_apply, val_main_v172_apply]
  simp only [← zneg]
  rfl

theorem oB_apply (b : Fin 8) (p : Fin 2048) (j : Fin 1024) :
    val_main_v182 (F := Ideal) x0 x1 x3 x4 x5 x6 x7 x8 (ix2 (at_ b p) j) = val_main_v147 (F := Ideal) x0 x1 x3 x4 (ix3 b p j) * val_main_v122 (F := Ideal) x0 x1 x3 x7 x8 (ix3 b p j) * Ideal.exp (0 - val_main_v165 (F := Ideal) x0 x1 x3 x5 x6 (ix3 b p j)) := by
  have e : idx_main_v182 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v182_apply, e]
  rw [val_main_v178_apply, val_main_v175_apply, val_main_v177_apply, val_main_v176_apply]
  simp only [← zneg]
  rfl

theorem oV_apply (b : Fin 8) (p : Fin 2048) (j : Fin 1024) :
    val_main_v183 (F := Ideal) x0 x1 x2 x3 x4 x9 x10 (ix2 (at_ b p) j) = val_main_v107 (F := Ideal) x0 x1 x2 x3 x4 x9 x10 (ix3 b p j) := by
  have e : idx_main_v183 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v183_apply, e]

theorem oG_apply (b : Fin 8) (p : Fin 2048) (j : Fin 1024) :
    val_main_v184 (F := Ideal) x0 x1 x3 x11 x12 (ix2 (at_ b p) j) = val_main_v132 (F := Ideal) x0 x1 x3 x11 x12 (ix3 b p j) := by
  have e : idx_main_v184 (ix2 (at_ b p) j) = ix3 b p j := by
    refine funext fun a => Fin.ext ?_
    match a with
    | ⟨0, _⟩ => show ((b.val * 2048 + p.val) * 1024 + j.val) / 2097152 = b.val; omega
    | ⟨1, _⟩ => show ((b.val * 2048 + p.val) * 1024 + j.val) / 1024 % 2048 = p.val; omega
    | ⟨2, _⟩ => show ((b.val * 2048 + p.val) * 1024 + j.val) % 1024 = j.val; omega
  rw [val_main_v184_apply, e]

theorem oL_apply (n : Fin 256) (z : Fin 1) (j : Fin 1024) :
    val_main_v185 (F := Ideal) x0 x1 x3 x5 x6 (ix3 n z j) = Ideal.exp (∑ q : Fin 64, val_main_v159 (F := Ideal) x0 x1 x3 x5 x6 (ix3 ⟨n.val / 32, by omega⟩ ⟨64 * (n.val % 32) + q.val, by omega⟩ j)) := by
  have t : val_main_v185 (F := Ideal) x0 x1 x3 x5 x6 (ix3 n z j) = Ideal.exp (val_main_v161 (F := Ideal) x0 x1 x3 x5 x6 (ix4 ⟨n.val / 32, by omega⟩ ⟨n.val % 32, by omega⟩ 63 j)) := by
    unfold val_main_v185 val_main_v164 val_main_v163 val_main_v162
    generalize val_main_v161 (F := Ideal) x0 x1 x3 x5 x6 = g
    pointwise []
    try rfl
  rw [t, cs_apply]
  refine congrArg Ideal.exp (Finset.sum_congr rfl fun q _ => ?_)
  rw [if_pos (by show q.val ≤ 63; omega)]

theorem oH_apply (n : Fin 64) (d : Fin 1024) :
    val_main_v187 (F := Ideal) x0 x3 (ix2 n d) = val_main_v15 (F := Ideal) x0 x3 (ix3 ⟨n.val / 8, by omega⟩ ⟨2040 + n.val % 8, by omega⟩ d) := by
  unfold val_main_v187 val_main_v186
  generalize val_main_v15 (F := Ideal) x0 x3 = g
  pointwise []
  try rfl

end Cert.RwkvNextReferenceIdeal.Proj

end
-- ==== Proof.RwkvNextClaim.lean ====
/-
  The input projection of the `rwkv` layer against its reference over whole arrays: the blocks the grid points read and write,
  what a point leaves for the next, and the two runs with the same eight results.
-/
module

public import proofs.«01_k».proof.Defs
public import proofs.«01_k».proof.Proof.RwkvNextBlock
public import proofs.«01_k».proof.Proof.RwkvNextValue
public import proofs.«01_k».proof.Proof.RwkvNextMask
public import proofs.«01_k».proof.Proof.RwkvNextRef
public import proofs.«01_k».proof.Proof.Gen.RwkvNext.Frame
public import proofs.«01_k».proof.Proof.Gen.RwkvNextIdeal.Value
public import proofs.«01_k».proof.Proof.Gen.RwkvNextReferenceIdeal.Run
public import Idealize.ShloMosaic.Lib.Pipeline.ValueKit

@[expose] public section

set_option maxRecDepth 16384

noncomputable section

namespace Cert.RwkvNextIdeal.Proj

open Cert.RwkvNextIdeal Cert.RwkvNextIdeal.Gen Idealize.ShloMosaic Idealize.ShloMosaic.TcCoe Idealize.SL.Sem
open Idealize.ShloMosaic.Pipeline (Dat)
open Cert.RwkvNextReferenceIdeal.Proj (at_)
open Cert.RwkvNextReferenceIdeal.Read
open Cert.Row

theorem mixdot_congr {u u' p p' m m' w w' : Fin 1024 → EReal} (hu : ∀ d, u d = u' d) (hp : ∀ d, p d = p' d) (hm : ∀ d, m d = m' d)
    (hw : ∀ d, w d = w' d) : mixdot u p m w = mixdot u' p' m' w' := by
  rw [funext hu, funext hp, funext hm, funext hw]

theorem keyAt_congr {k k' a a' m m' : EReal} (hk : k = k') (ha : a = a') (hm : m = m') : keyAt k a m = keyAt k' a' m' := by
  rw [hk, ha, hm]

/-- Where point `t` finds its rows. -/
theorem where0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- Where point `t` finds its rows before. -/
theorem where1 : ∀ t : Fin cfg0.N, win0_1.index t ⟨0, by decide⟩ = t.val / 8 ∧ win0_1.index t ⟨1, by decide⟩ = 0 :=
  (by decide +kernel : ∀ t : Fin grid0.N, win0_1.index t ⟨0, by decide⟩ = t.val / 8 ∧ win0_1.index t ⟨1, by decide⟩ = 0)
/-- Where point `t` finds its first layer's values. -/
theorem where2 : ∀ t : Fin cfg0.N, win0_2.index t ⟨0, by decide⟩ = t.val ∧ win0_2.index t ⟨1, by decide⟩ = 0 :=
  (by decide +kernel : ∀ t : Fin grid0.N, win0_2.index t ⟨0, by decide⟩ = t.val ∧ win0_2.index t ⟨1, by decide⟩ = 0)
/-- Where point `t` finds its mixing weights. -/
theorem where3 : ∀ t : Fin cfg0.N, win0_3.index t ⟨0, by decide⟩ = 0 ∧ win0_3.index t ⟨1, by decide⟩ = 0 :=
  (by decide +kernel : ∀ t : Fin grid0.N, win0_3.index t ⟨0, by decide⟩ = 0 ∧ win0_3.index t ⟨1, by decide⟩ = 0)
/-- Where point `t` finds its square weights. -/
theorem where4 : ∀ t : Fin cfg0.N, win0_4.index t ⟨0, by decide⟩ = 0 ∧ win0_4.index t ⟨1, by decide⟩ = 0 ∧ win0_4.index t ⟨2, by decide⟩ = 0 :=
  (by decide +kernel : ∀ t : Fin grid0.N, win0_4.index t ⟨0, by decide⟩ = 0 ∧ win0_4.index t ⟨1, by decide⟩ = 0 ∧ win0_4.index t ⟨2, by decide⟩ = 0)
/-- Where point `t` finds its decay weights in. -/
theorem where5 : ∀ t : Fin cfg0.N, win0_5.index t ⟨0, by decide⟩ = 0 ∧ win0_5.index t ⟨1, by decide⟩ = 0 :=
  (by decide +kernel : ∀ t : Fin grid0.N, win0_5.index t ⟨0, by decide⟩ = 0 ∧ win0_5.index t ⟨1, by decide⟩ = 0)
/-- Where point `t` finds its decay weights out. -/
theorem where6 : ∀ t : Fin cfg0.N, win0_6.index t ⟨0, by decide⟩ = 0 ∧ win0_6.index t ⟨1, by decide⟩ = 0 :=
  (by decide +kernel : ∀ t : Fin grid0.N, win0_6.index t ⟨0, by decide⟩ = 0 ∧ win0_6.index t ⟨1, by decide⟩ = 0)
/-- Where point `t` finds its rate weights in. -/
theorem where7 : ∀ t : Fin cfg0.N, win0_7.index t ⟨0, by decide⟩ = 0 ∧ win0_7.index t ⟨1, by decide⟩ = 0 :=
  (by decide +kernel : ∀ t : Fin grid0.N, win0_7.index t ⟨0, by decide⟩ = 0 ∧ win0_7.index t ⟨1, by decide⟩ = 0)
/-- Where point `t` finds its rate weights out. -/
theorem where8 : ∀ t : Fin cfg0.N, win0_8.index t ⟨0, by decide⟩ = 0 ∧ win0_8.index t ⟨1, by decide⟩ = 0 :=
  (by decide +kernel : ∀ t : Fin grid0.N, win0_8.index t ⟨0, by decide⟩ = 0 ∧ win0_8.index t ⟨1, by decide⟩ = 0)
/-- Where point `t` finds its value weights in. -/
theorem where9 : ∀ t : Fin cfg0.N, win0_9.index t ⟨0, by decide⟩ = 0 ∧ win0_9.index t ⟨1, by decide⟩ = 0 :=
  (by decide +kernel : ∀ t : Fin grid0.N, win0_9.index t ⟨0, by decide⟩ = 0 ∧ win0_9.index t ⟨1, by decide⟩ = 0)
/-- Where point `t` finds its value weights out. -/
theorem where10 : ∀ t : Fin cfg0.N, win0_10.index t ⟨0, by decide⟩ = 0 ∧ win0_10.index t ⟨1, by decide⟩ = 0 :=
  (by decide +kernel : ∀ t : Fin grid0.N, win0_10.index t ⟨0, by decide⟩ = 0 ∧ win0_10.index t ⟨1, by decide⟩ = 0)
/-- Where point `t` finds its gate weights in. -/
theorem where11 : ∀ t : Fin cfg0.N, win0_11.index t ⟨0, by decide⟩ = 0 ∧ win0_11.index t ⟨1, by decide⟩ = 0 :=
  (by decide +kernel : ∀ t : Fin grid0.N, win0_11.index t ⟨0, by decide⟩ = 0 ∧ win0_11.index t ⟨1, by decide⟩ = 0)
/-- Where point `t` finds its gate weights out. -/
theorem where12 : ∀ t : Fin cfg0.N, win0_12.index t ⟨0, by decide⟩ = 0 ∧ win0_12.index t ⟨1, by decide⟩ = 0 :=
  (by decide +kernel : ∀ t : Fin grid0.N, win0_12.index t ⟨0, by decide⟩ = 0 ∧ win0_12.index t ⟨1, by decide⟩ = 0)
/-- Where point `t` finds its triangle. -/
theorem where13 : ∀ t : Fin cfg0.N, win0_13.index t ⟨0, by decide⟩ = 0 ∧ win0_13.index t ⟨1, by decide⟩ = 0 :=
  (by decide +kernel : ∀ t : Fin grid0.N, win0_13.index t ⟨0, by decide⟩ = 0 ∧ win0_13.index t ⟨1, by decide⟩ = 0)
/-- Where point `t` finds its head squares. -/
theorem where14 : ∀ t : Fin cfg0.N, win0_14.index t ⟨0, by decide⟩ = 0 ∧ win0_14.index t ⟨1, by decide⟩ = 0 :=
  (by decide +kernel : ∀ t : Fin grid0.N, win0_14.index t ⟨0, by decide⟩ = 0 ∧ win0_14.index t ⟨1, by decide⟩ = 0)
/-- Where point `t` finds its receptances. -/
theorem where15 : ∀ t : Fin cfg0.N, win0_15.index t ⟨0, by decide⟩ = t.val ∧ win0_15.index t ⟨1, by decide⟩ = 0 :=
  (by decide +kernel : ∀ t : Fin grid0.N, win0_15.index t ⟨0, by decide⟩ = t.val ∧ win0_15.index t ⟨1, by decide⟩ = 0)
/-- Where point `t` finds its keys. -/
theorem where16 : ∀ t : Fin cfg0.N, win0_16.index t ⟨0, by decide⟩ = t.val ∧ win0_16.index t ⟨1, by decide⟩ = 0 :=
  (by decide +kernel : ∀ t : Fin grid0.N, win0_16.index t ⟨0, by decide⟩ = t.val ∧ win0_16.index t ⟨1, by decide⟩ = 0)
/-- Where point `t` finds its removal keys. -/
theorem where17 : ∀ t : Fin cfg0.N, win0_17.index t ⟨0, by decide⟩ = t.val ∧ win0_17.index t ⟨1, by decide⟩ = 0 :=
  (by decide +kernel : ∀ t : Fin grid0.N, win0_17.index t ⟨0, by decide⟩ = t.val ∧ win0_17.index t ⟨1, by decide⟩ = 0)
/-- Where point `t` finds its replacement keys. -/
theorem where18 : ∀ t : Fin cfg0.N, win0_18.index t ⟨0, by decide⟩ = t.val ∧ win0_18.index t ⟨1, by decide⟩ = 0 :=
  (by decide +kernel : ∀ t : Fin grid0.N, win0_18.index t ⟨0, by decide⟩ = t.val ∧ win0_18.index t ⟨1, by decide⟩ = 0)
/-- Where point `t` finds its values. -/
theorem where19 : ∀ t : Fin cfg0.N, win0_19.index t ⟨0, by decide⟩ = t.val ∧ win0_19.index t ⟨1, by decide⟩ = 0 :=
  (by decide +kernel : ∀ t : Fin grid0.N, win0_19.index t ⟨0, by decide⟩ = t.val ∧ win0_19.index t ⟨1, by decide⟩ = 0)
/-- Where point `t` finds its gates. -/
theorem where20 : ∀ t : Fin cfg0.N, win0_20.index t ⟨0, by decide⟩ = t.val ∧ win0_20.index t ⟨1, by decide⟩ = 0 :=
  (by decide +kernel : ∀ t : Fin grid0.N, win0_20.index t ⟨0, by decide⟩ = t.val ∧ win0_20.index t ⟨1, by decide⟩ = 0)
/-- Where point `t` finds its chunk decays. -/
theorem where21 : ∀ t : Fin cfg0.N, win0_21.index t ⟨0, by decide⟩ = t.val ∧ win0_21.index t ⟨1, by decide⟩ = 0 ∧ win0_21.index t ⟨2, by decide⟩ = 0 :=
  (by decide +kernel : ∀ t : Fin grid0.N, win0_21.index t ⟨0, by decide⟩ = t.val ∧ win0_21.index t ⟨1, by decide⟩ = 0 ∧ win0_21.index t ⟨2, by decide⟩ = 0)
/-- Where point `t` finds its last rows. -/
theorem where22 : ∀ t : Fin cfg0.N, win0_22.index t ⟨0, by decide⟩ = t.val / 8 ∧ win0_22.index t ⟨1, by decide⟩ = 0 :=
  (by decide +kernel : ∀ t : Fin grid0.N, win0_22.index t ⟨0, by decide⟩ = t.val / 8 ∧ win0_22.index t ⟨1, by decide⟩ = 0)
theorem lt_N : ∀ t : Fin cfg0.N, t.val < 64 := (by decide +kernel : ∀ t : Fin grid0.N, t.val < 64)

/-- The sequence of point `t`. -/
def seq (t : Fin cfg0.N) : Fin 8 := ⟨t.val / 8, by have := lt_N t; omega⟩
/-- The position in its sequence of row `r` of point `t`. -/
def pos (t : Fin cfg0.N) (r : Fin 256) : Fin 2048 := ⟨256 * (t.val % 8) + r.val, by omega⟩

variable (m : (ℓ : Loc nD τ sig) → Buf (Elt Ideal) ℓ) (c : Dev nD)

/-- The rows, as an array. -/
abbrev a0 := m ((c.tc : Thread nD τ).loc main_arg0)
/-- The rows before, as an array. -/
abbrev a1 := m ((c.tc : Thread nD τ).loc main_arg1)
/-- The first layer's values, as an array. -/
abbrev a2 := m ((c.tc : Thread nD τ).loc main_arg2)
/-- The mixing weights, as an array. -/
abbrev a3 := m ((c.tc : Thread nD τ).loc main_arg3)
/-- The square weights, as an array. -/
abbrev a4 := m ((c.tc : Thread nD τ).loc main_arg4)
/-- The decay weights in, as an array. -/
abbrev a5 := m ((c.tc : Thread nD τ).loc main_arg5)
/-- The decay weights out, as an array. -/
abbrev a6 := m ((c.tc : Thread nD τ).loc main_arg6)
/-- The rate weights in, as an array. -/
abbrev a7 := m ((c.tc : Thread nD τ).loc main_arg7)
/-- The rate weights out, as an array. -/
abbrev a8 := m ((c.tc : Thread nD τ).loc main_arg8)
/-- The value weights in, as an array. -/
abbrev a9 := m ((c.tc : Thread nD τ).loc main_arg9)
/-- The value weights out, as an array. -/
abbrev a10 := m ((c.tc : Thread nD τ).loc main_arg10)
/-- The gate weights in, as an array. -/
abbrev a11 := m ((c.tc : Thread nD τ).loc main_arg11)
/-- The gate weights out, as an array. -/
abbrev a12 := m ((c.tc : Thread nD τ).loc main_arg12)

theorem iblk_0 (t : Fin cfg0.N) (r : Fin 256) (l : Fin 1024) : iblk m c 0 t (ix2 r l) = a0 m c (ix2 (at_ (seq t) (pos t r)) l) := by
  have e := where0 t
  refine (congrArg (V m c main_arg0) (funext fun a => Fin.ext ?_)).trans (congrFun (V_main_arg0 m c) _)
  match a with
  | ⟨0, _⟩ =>
    show win0_0.index t ⟨0, by decide⟩ * 256 + 1 * r.val = t.val / 8 * 2048 + (256 * (t.val % 8) + r.val)
    rw [e.1]; omega
  | ⟨1, _⟩ =>
    show win0_0.index t ⟨1, by decide⟩ * 1024 + 1 * l.val = l.val
    rw [e.2]; omega

theorem iblk_1 (t : Fin cfg0.N) (r : Fin 8) (l : Fin 1024) : iblk m c 1 t (ix2 r l) = a1 m c (ix2 (⟨8 * (t.val / 8) + r.val, by have := lt_N t; omega⟩) l) := by
  have e := where1 t
  refine (congrArg (V m c main_arg1) (funext fun a => Fin.ext ?_)).trans (congrFun (V_main_arg1 m c) _)
  match a with
  | ⟨0, _⟩ =>
    show win0_1.index t ⟨0, by decide⟩ * 8 + 1 * r.val = 8 * (t.val / 8) + r.val
    rw [e.1]; omega
  | ⟨1, _⟩ =>
    show win0_1.index t ⟨1, by decide⟩ * 1024 + 1 * l.val = l.val
    rw [e.2]; omega

theorem iblk_2 (t : Fin cfg0.N) (r : Fin 256) (l : Fin 1024) : iblk m c 2 t (ix2 r l) = a2 m c (ix2 (at_ (seq t) (pos t r)) l) := by
  have e := where2 t
  refine (congrArg (V m c main_arg2) (funext fun a => Fin.ext ?_)).trans (congrFun (V_main_arg2 m c) _)
  match a with
  | ⟨0, _⟩ =>
    show win0_2.index t ⟨0, by decide⟩ * 256 + 1 * r.val = t.val / 8 * 2048 + (256 * (t.val % 8) + r.val)
    rw [e.1]; omega
  | ⟨1, _⟩ =>
    show win0_2.index t ⟨1, by decide⟩ * 1024 + 1 * l.val = l.val
    rw [e.2]; omega

theorem iblk_3 (t : Fin cfg0.N) (r : Fin 16) (l : Fin 1024) : iblk m c 3 t (ix2 r l) = a3 m c (ix2 r l) := by
  have e := where3 t
  refine (congrArg (V m c main_arg3) (funext fun a => Fin.ext ?_)).trans (congrFun (V_main_arg3 m c) _)
  match a with
  | ⟨0, _⟩ =>
    show win0_3.index t ⟨0, by decide⟩ * 16 + 1 * r.val = r.val
    rw [e.1]; omega
  | ⟨1, _⟩ =>
    show win0_3.index t ⟨1, by decide⟩ * 1024 + 1 * l.val = l.val
    rw [e.2]; omega

theorem iblk_4 (t : Fin cfg0.N) (g : Fin 3) (r l : Fin 1024) : iblk m c 4 t (ix3 g r l) = a4 m c (ix3 g r l) := by
  have e := where4 t
  refine (congrArg (V m c main_arg4) (funext fun a => Fin.ext ?_)).trans (congrFun (V_main_arg4 m c) _)
  match a with
  | ⟨0, _⟩ =>
    show win0_4.index t ⟨0, by decide⟩ * 3 + 1 * g.val = g.val
    rw [e.1]; omega
  | ⟨1, _⟩ =>
    show win0_4.index t ⟨1, by decide⟩ * 1024 + 1 * r.val = r.val
    rw [e.2.1]; omega
  | ⟨2, _⟩ =>
    show win0_4.index t ⟨2, by decide⟩ * 1024 + 1 * l.val = l.val
    rw [e.2.2]; omega

theorem iblk_5 (t : Fin cfg0.N) (r : Fin 1024) (l : Fin 64) : iblk m c 5 t (ix2 r l) = a5 m c (ix2 r l) := by
  have e := where5 t
  refine (congrArg (V m c main_arg5) (funext fun a => Fin.ext ?_)).trans (congrFun (V_main_arg5 m c) _)
  match a with
  | ⟨0, _⟩ =>
    show win0_5.index t ⟨0, by decide⟩ * 1024 + 1 * r.val = r.val
    rw [e.1]; omega
  | ⟨1, _⟩ =>
    show win0_5.index t ⟨1, by decide⟩ * 64 + 1 * l.val = l.val
    rw [e.2]; omega

theorem iblk_6 (t : Fin cfg0.N) (r : Fin 64) (l : Fin 1024) : iblk m c 6 t (ix2 r l) = a6 m c (ix2 r l) := by
  have e := where6 t
  refine (congrArg (V m c main_arg6) (funext fun a => Fin.ext ?_)).trans (congrFun (V_main_arg6 m c) _)
  match a with
  | ⟨0, _⟩ =>
    show win0_6.index t ⟨0, by decide⟩ * 64 + 1 * r.val = r.val
    rw [e.1]; omega
  | ⟨1, _⟩ =>
    show win0_6.index t ⟨1, by decide⟩ * 1024 + 1 * l.val = l.val
    rw [e.2]; omega

theorem iblk_7 (t : Fin cfg0.N) (r : Fin 1024) (l : Fin 64) : iblk m c 7 t (ix2 r l) = a7 m c (ix2 r l) := by
  have e := where7 t
  refine (congrArg (V m c main_arg7) (funext fun a => Fin.ext ?_)).trans (congrFun (V_main_arg7 m c) _)
  match a with
  | ⟨0, _⟩ =>
    show win0_7.index t ⟨0, by decide⟩ * 1024 + 1 * r.val = r.val
    rw [e.1]; omega
  | ⟨1, _⟩ =>
    show win0_7.index t ⟨1, by decide⟩ * 64 + 1 * l.val = l.val
    rw [e.2]; omega

theorem iblk_8 (t : Fin cfg0.N) (r : Fin 64) (l : Fin 1024) : iblk m c 8 t (ix2 r l) = a8 m c (ix2 r l) := by
  have e := where8 t
  refine (congrArg (V m c main_arg8) (funext fun a => Fin.ext ?_)).trans (congrFun (V_main_arg8 m c) _)
  match a with
  | ⟨0, _⟩ =>
    show win0_8.index t ⟨0, by decide⟩ * 64 + 1 * r.val = r.val
    rw [e.1]; omega
  | ⟨1, _⟩ =>
    show win0_8.index t ⟨1, by decide⟩ * 1024 + 1 * l.val = l.val
    rw [e.2]; omega

theorem iblk_9 (t : Fin cfg0.N) (r : Fin 1024) (l : Fin 32) : iblk m c 9 t (ix2 r l) = a9 m c (ix2 r l) := by
  have e := where9 t
  refine (congrArg (V m c main_arg9) (funext fun a => Fin.ext ?_)).trans (congrFun (V_main_arg9 m c) _)
  match a with
  | ⟨0, _⟩ =>
    show win0_9.index t ⟨0, by decide⟩ * 1024 + 1 * r.val = r.val
    rw [e.1]; omega
  | ⟨1, _⟩ =>
    show win0_9.index t ⟨1, by decide⟩ * 32 + 1 * l.val = l.val
    rw [e.2]; omega

theorem iblk_10 (t : Fin cfg0.N) (r : Fin 32) (l : Fin 1024) : iblk m c 10 t (ix2 r l) = a10 m c (ix2 r l) := by
  have e := where10 t
  refine (congrArg (V m c main_arg10) (funext fun a => Fin.ext ?_)).trans (congrFun (V_main_arg10 m c) _)
  match a with
  | ⟨0, _⟩ =>
    show win0_10.index t ⟨0, by decide⟩ * 32 + 1 * r.val = r.val
    rw [e.1]; omega
  | ⟨1, _⟩ =>
    show win0_10.index t ⟨1, by decide⟩ * 1024 + 1 * l.val = l.val
    rw [e.2]; omega

theorem iblk_11 (t : Fin cfg0.N) (r : Fin 1024) (l : Fin 160) : iblk m c 11 t (ix2 r l) = a11 m c (ix2 r l) := by
  have e := where11 t
  refine (congrArg (V m c main_arg11) (funext fun a => Fin.ext ?_)).trans (congrFun (V_main_arg11 m c) _)
  match a with
  | ⟨0, _⟩ =>
    show win0_11.index t ⟨0, by decide⟩ * 1024 + 1 * r.val = r.val
    rw [e.1]; omega
  | ⟨1, _⟩ =>
    show win0_11.index t ⟨1, by decide⟩ * 160 + 1 * l.val = l.val
    rw [e.2]; omega

theorem iblk_12 (t : Fin cfg0.N) (r : Fin 160) (l : Fin 1024) : iblk m c 12 t (ix2 r l) = a12 m c (ix2 r l) := by
  have e := where12 t
  refine (congrArg (V m c main_arg12) (funext fun a => Fin.ext ?_)).trans (congrFun (V_main_arg12 m c) _)
  match a with
  | ⟨0, _⟩ =>
    show win0_12.index t ⟨0, by decide⟩ * 160 + 1 * r.val = r.val
    rw [e.1]; omega
  | ⟨1, _⟩ =>
    show win0_12.index t ⟨1, by decide⟩ * 1024 + 1 * l.val = l.val
    rw [e.2]; omega

theorem iblk_13 (t : Fin cfg0.N) (r : Fin 64) (l : Fin 64) : iblk m c 13 t (ix2 r l) = V m c main_v16 (ix2 r l) := by
  have e := where13 t
  refine congrArg (V m c main_v16) (funext fun a => Fin.ext ?_)
  match a with
  | ⟨0, _⟩ =>
    show win0_13.index t ⟨0, by decide⟩ * 64 + 1 * r.val = r.val
    rw [e.1]; omega
  | ⟨1, _⟩ =>
    show win0_13.index t ⟨1, by decide⟩ * 64 + 1 * l.val = l.val
    rw [e.2]; omega

theorem iblk_14 (t : Fin cfg0.N) (r : Fin 128) (l : Fin 128) : iblk m c 14 t (ix2 r l) = V m c main_v25 (ix2 r l) := by
  have e := where14 t
  refine congrArg (V m c main_v25) (funext fun a => Fin.ext ?_)
  match a with
  | ⟨0, _⟩ =>
    show win0_14.index t ⟨0, by decide⟩ * 128 + 1 * r.val = r.val
    rw [e.1]; omega
  | ⟨1, _⟩ =>
    show win0_14.index t ⟨1, by decide⟩ * 128 + 1 * l.val = l.val
    rw [e.2]; omega

/-- The block of an array of receptances that point `t` writes, entry by entry. -/
theorem read_15 (G : Buf (Elt Ideal) ((c.tc : Thread nD τ).loc main_v26_0)) (t : Fin cfg0.N) (r : Fin 256) (l : Fin 1024) :
    ((cfg0.win 15).blk t).view.read (Elt Ideal) G (ix2 r l) = G (ix2 (at_ (seq t) (pos t r)) l) := by
  have e := where15 t
  show G _ = _
  refine congrArg G (funext fun a => Fin.ext ?_)
  match a with
  | ⟨0, _⟩ =>
    show win0_15.index t ⟨0, by decide⟩ * 256 + 1 * r.val = t.val / 8 * 2048 + (256 * (t.val % 8) + r.val)
    rw [e.1]; omega
  | ⟨1, _⟩ =>
    show win0_15.index t ⟨1, by decide⟩ * 1024 + 1 * l.val = l.val
    rw [e.2]; omega

/-- The block of an array of keys that point `t` writes, entry by entry. -/
theorem read_16 (G : Buf (Elt Ideal) ((c.tc : Thread nD τ).loc main_v26_1)) (t : Fin cfg0.N) (r : Fin 256) (l : Fin 1024) :
    ((cfg0.win 16).blk t).view.read (Elt Ideal) G (ix2 r l) = G (ix2 (at_ (seq t) (pos t r)) l) := by
  have e := where16 t
  show G _ = _
  refine congrArg G (funext fun a => Fin.ext ?_)
  match a with
  | ⟨0, _⟩ =>
    show win0_16.index t ⟨0, by decide⟩ * 256 + 1 * r.val = t.val / 8 * 2048 + (256 * (t.val % 8) + r.val)
    rw [e.1]; omega
  | ⟨1, _⟩ =>
    show win0_16.index t ⟨1, by decide⟩ * 1024 + 1 * l.val = l.val
    rw [e.2]; omega

/-- The block of an array of removal keys that point `t` writes, entry by entry. -/
theorem read_17 (G : Buf (Elt Ideal) ((c.tc : Thread nD τ).loc main_v26_2)) (t : Fin cfg0.N) (r : Fin 256) (l : Fin 1024) :
    ((cfg0.win 17).blk t).view.read (Elt Ideal) G (ix2 r l) = G (ix2 (at_ (seq t) (pos t r)) l) := by
  have e := where17 t
  show G _ = _
  refine congrArg G (funext fun a => Fin.ext ?_)
  match a with
  | ⟨0, _⟩ =>
    show win0_17.index t ⟨0, by decide⟩ * 256 + 1 * r.val = t.val / 8 * 2048 + (256 * (t.val % 8) + r.val)
    rw [e.1]; omega
  | ⟨1, _⟩ =>
    show win0_17.index t ⟨1, by decide⟩ * 1024 + 1 * l.val = l.val
    rw [e.2]; omega

/-- The block of an array of replacement keys that point `t` writes, entry by entry. -/
theorem read_18 (G : Buf (Elt Ideal) ((c.tc : Thread nD τ).loc main_v26_3)) (t : Fin cfg0.N) (r : Fin 256) (l : Fin 1024) :
    ((cfg0.win 18).blk t).view.read (Elt Ideal) G (ix2 r l) = G (ix2 (at_ (seq t) (pos t r)) l) := by
  have e := where18 t
  show G _ = _
  refine congrArg G (funext fun a => Fin.ext ?_)
  match a with
  | ⟨0, _⟩ =>
    show win0_18.index t ⟨0, by decide⟩ * 256 + 1 * r.val = t.val / 8 * 2048 + (256 * (t.val % 8) + r.val)
    rw [e.1]; omega
  | ⟨1, _⟩ =>
    show win0_18.index t ⟨1, by decide⟩ * 1024 + 1 * l.val = l.val
    rw [e.2]; omega

/-- The block of an array of values that point `t` writes, entry by entry. -/
theorem read_19 (G : Buf (Elt Ideal) ((c.tc : Thread nD τ).loc main_v26_4)) (t : Fin cfg0.N) (r : Fin 256) (l : Fin 1024) :
    ((cfg0.win 19).blk t).view.read (Elt Ideal) G (ix2 r l) = G (ix2 (at_ (seq t) (pos t r)) l) := by
  have e := where19 t
  show G _ = _
  refine congrArg G (funext fun a => Fin.ext ?_)
  match a with
  | ⟨0, _⟩ =>
    show win0_19.index t ⟨0, by decide⟩ * 256 + 1 * r.val = t.val / 8 * 2048 + (256 * (t.val % 8) + r.val)
    rw [e.1]; omega
  | ⟨1, _⟩ =>
    show win0_19.index t ⟨1, by decide⟩ * 1024 + 1 * l.val = l.val
    rw [e.2]; omega

/-- The block of an array of gates that point `t` writes, entry by entry. -/
theorem read_20 (G : Buf (Elt Ideal) ((c.tc : Thread nD τ).loc main_v26_5)) (t : Fin cfg0.N) (r : Fin 256) (l : Fin 1024) :
    ((cfg0.win 20).blk t).view.read (Elt Ideal) G (ix2 r l) = G (ix2 (at_ (seq t) (pos t r)) l) := by
  have e := where20 t
  show G _ = _
  refine congrArg G (funext fun a => Fin.ext ?_)
  match a with
  | ⟨0, _⟩ =>
    show win0_20.index t ⟨0, by decide⟩ * 256 + 1 * r.val = t.val / 8 * 2048 + (256 * (t.val % 8) + r.val)
    rw [e.1]; omega
  | ⟨1, _⟩ =>
    show win0_20.index t ⟨1, by decide⟩ * 1024 + 1 * l.val = l.val
    rw [e.2]; omega

/-- The block of an array of chunk decays that point `t` writes, entry by entry. -/
theorem read_21 (G : Buf (Elt Ideal) ((c.tc : Thread nD τ).loc main_v26_6)) (t : Fin cfg0.N) (r : Fin 4) (z : Fin 1) (l : Fin 1024) :
    ((cfg0.win 21).blk t).view.read (Elt Ideal) G (ix3 r z l) = G (ix3 (⟨4 * t.val + r.val, by have := lt_N t; omega⟩) z l) := by
  have e := where21 t
  show G _ = _
  refine congrArg G (funext fun a => Fin.ext ?_)
  match a with
  | ⟨0, _⟩ =>
    show win0_21.index t ⟨0, by decide⟩ * 4 + 1 * r.val = 4 * t.val + r.val
    rw [e.1]; omega
  | ⟨1, _⟩ =>
    show win0_21.index t ⟨1, by decide⟩ * 1 + 1 * z.val = z.val
    rw [e.2.1]; omega
  | ⟨2, _⟩ =>
    show win0_21.index t ⟨2, by decide⟩ * 1024 + 1 * l.val = l.val
    rw [e.2.2]; omega

/-- The block of an array of last rows that point `t` writes, entry by entry. -/
theorem read_22 (G : Buf (Elt Ideal) ((c.tc : Thread nD τ).loc main_v26_7)) (t : Fin cfg0.N) (r : Fin 8) (l : Fin 1024) :
    ((cfg0.win 22).blk t).view.read (Elt Ideal) G (ix2 r l) = G (ix2 (⟨8 * (t.val / 8) + r.val, by have := lt_N t; omega⟩) l) := by
  have e := where22 t
  show G _ = _
  refine congrArg G (funext fun a => Fin.ext ?_)
  match a with
  | ⟨0, _⟩ =>
    show win0_22.index t ⟨0, by decide⟩ * 8 + 1 * r.val = 8 * (t.val / 8) + r.val
    rw [e.1]; omega
  | ⟨1, _⟩ =>
    show win0_22.index t ⟨1, by decide⟩ * 1024 + 1 * l.val = l.val
    rw [e.2]; omega

theorem tri_eq (t : Fin cfg0.N) (i j : Fin 64) : iblk m c 13 t (ix2 i j) = if j ≤ i then (1 : EReal) else 0 :=
  (iblk_13 m c t i j).trans (mask_eq m c i j)

theorem head_eq (t : Fin cfg0.N) (i j : Fin 128) : iblk m c 14 t (ix2 i j) = if i.val / 64 = j.val / 64 then (1 : EReal) else 0 :=
  (iblk_14 m c t i j).trans (ones_eq m c i j)

theorem hidden_eq (t : Fin cfg0.N) (r : Fin 256) (d : Fin 1024) :
    (hid (F := Ideal) (iblk m c 0 t) (iblk m c 3 t)) (ix2 r d) = val_main_v15 (F := Ideal) (a0 m c) (a3 m c) (ix3 (seq t) (pos t r) d) := by
  rw [Cert.RwkvNextReferenceIdeal.Proj.h_apply]
  refine (hid_apply (iblk m c 0 t) (iblk m c 3 t) r d).trans ?_
  simp only [iblk_0, iblk_3]

/-- What point `t` leaves for the next: its last eight normalised rows. -/
theorem carried_eq (t : Fin cfg0.N) : (outsAt0 m c t.val t.isLt).2.2.2.2.2.2.2.2 = keep (hid (F := Ideal) (iblk m c 0 t) (iblk m c 3 t)) := by
  by_cases h0 : t.val % 8 = 0
  · rw [outsAt0_A m c t h0]
    dsimp only
    rw [carry_A]
  · rw [outsAt0_B m c t h0]
    dsimp only
    rw [carry_B]

/-- The eight rows before point `t`: the caller's at the first point of a sequence, else what the point before left. -/
def prior (t : Fin cfg0.N) : Vec Ideal S8x1024 .f32 :=
  if t.val % 8 = 0 then k0_pay7 (F := Ideal) (iblk m c 1 t)
  else (outsAt0 m c (t.val - 1) (Nat.lt_of_le_of_lt (Nat.sub_le _ _) t.isLt)).2.2.2.2.2.2.2.2

theorem outR_eq (t : Fin cfg0.N) : (outsAt0 m c t.val t.isLt).1
    = outR (rr (F := Ideal) (iblk m c 0 t) (prior m c t) (iblk m c 3 t) (iblk m c 4 t)) (dec (F := Ideal) (iblk m c 0 t) (prior m c t) (iblk m c 3 t) (iblk m c 5 t) (iblk m c 6 t)) (iblk m c 13 t) := by
  unfold prior
  by_cases h0 : t.val % 8 = 0
  · rw [outsAt0_A m c t h0, if_pos h0]
    dsimp only
    rw [rt_A]
  · rw [outsAt0_B m c t h0, if_neg h0]
    dsimp only
    rw [rt_B]

theorem outK_eq (t : Fin cfg0.N) : (outsAt0 m c t.val t.isLt).2.1
    = outK (kr (F := Ideal) (iblk m c 0 t) (prior m c t) (iblk m c 3 t) (iblk m c 4 t)) (ai (F := Ideal) (iblk m c 0 t) (prior m c t) (iblk m c 3 t) (iblk m c 7 t) (iblk m c 8 t)) (dec (F := Ideal) (iblk m c 0 t) (prior m c t) (iblk m c 3 t) (iblk m c 5 t) (iblk m c 6 t)) (iblk m c 3 t) (iblk m c 13 t) := by
  unfold prior
  by_cases h0 : t.val % 8 = 0
  · rw [outsAt0_A m c t h0, if_pos h0]
    dsimp only
    rw [kt_A]
  · rw [outsAt0_B m c t h0, if_neg h0]
    dsimp only
    rw [kt_B]

theorem outA_eq (t : Fin cfg0.N) : (outsAt0 m c t.val t.isLt).2.2.1
    = outA (kr (F := Ideal) (iblk m c 0 t) (prior m c t) (iblk m c 3 t) (iblk m c 4 t)) (dec (F := Ideal) (iblk m c 0 t) (prior m c t) (iblk m c 3 t) (iblk m c 5 t) (iblk m c 6 t)) (iblk m c 3 t) (iblk m c 14 t) (iblk m c 13 t) := by
  unfold prior
  by_cases h0 : t.val % 8 = 0
  · rw [outsAt0_A m c t h0, if_pos h0]
    dsimp only
    rw [at_A]
  · rw [outsAt0_B m c t h0, if_neg h0]
    dsimp only
    rw [at_B]

theorem outB_eq (t : Fin cfg0.N) : (outsAt0 m c t.val t.isLt).2.2.2.1
    = outB (kk (F := Ideal) (kr (F := Ideal) (iblk m c 0 t) (prior m c t) (iblk m c 3 t) (iblk m c 4 t)) (iblk m c 3 t) (iblk m c 14 t)) (ai (F := Ideal) (iblk m c 0 t) (prior m c t) (iblk m c 3 t) (iblk m c 7 t) (iblk m c 8 t)) (dec (F := Ideal) (iblk m c 0 t) (prior m c t) (iblk m c 3 t) (iblk m c 5 t) (iblk m c 6 t)) (iblk m c 13 t) := by
  unfold prior
  by_cases h0 : t.val % 8 = 0
  · rw [outsAt0_A m c t h0, if_pos h0]
    dsimp only
    rw [bt_A]
  · rw [outsAt0_B m c t h0, if_neg h0]
    dsimp only
    rw [bt_B]

theorem outV_eq (t : Fin cfg0.N) : (outsAt0 m c t.val t.isLt).2.2.2.2.1
    = (va (F := Ideal) (iblk m c 0 t) (prior m c t) (iblk m c 3 t) (iblk m c 2 t) (iblk m c 4 t) (iblk m c 9 t) (iblk m c 10 t)) := by
  unfold prior
  by_cases h0 : t.val % 8 = 0
  · rw [outsAt0_A m c t h0, if_pos h0]
    dsimp only
    rw [v_A]
  · rw [outsAt0_B m c t h0, if_neg h0]
    dsimp only
    rw [v_B]

theorem outG_eq (t : Fin cfg0.N) : (outsAt0 m c t.val t.isLt).2.2.2.2.2.1
    = (ga (F := Ideal) (iblk m c 0 t) (prior m c t) (iblk m c 3 t) (iblk m c 11 t) (iblk m c 12 t)) := by
  unfold prior
  by_cases h0 : t.val % 8 = 0
  · rw [outsAt0_A m c t h0, if_pos h0]
    dsimp only
    rw [g_A]
  · rw [outsAt0_B m c t h0, if_neg h0]
    dsimp only
    rw [g_B]

theorem outL_eq (t : Fin cfg0.N) : (outsAt0 m c t.val t.isLt).2.2.2.2.2.2.1
    = outL (cu (F := Ideal) (dec (F := Ideal) (iblk m c 0 t) (prior m c t) (iblk m c 3 t) (iblk m c 5 t) (iblk m c 6 t)) (iblk m c 13 t)) := by
  unfold prior
  by_cases h0 : t.val % 8 = 0
  · rw [outsAt0_A m c t h0, if_pos h0]
    dsimp only
    rw [gl_A]
  · rw [outsAt0_B m c t h0, if_neg h0]
    dsimp only
    rw [gl_B]

theorem outH_eq (t : Fin cfg0.N) : (outsAt0 m c t.val t.isLt).2.2.2.2.2.2.2.1
    = tails (hid (F := Ideal) (iblk m c 0 t) (iblk m c 3 t)) := by
  skip
  by_cases h0 : t.val % 8 = 0
  · rw [outsAt0_A m c t h0]
    dsimp only
    rw [hl_A]
  · rw [outsAt0_B m c t h0]
    dsimp only
    rw [hl_B]

/-- The row above a row of point `t` is the row above it in its sequence. -/
theorem above_eq (t : Fin cfg0.N) (r : Fin 256) (d : Fin 1024) :
    above (hid (F := Ideal) (iblk m c 0 t) (iblk m c 3 t)) (prior m c t) r d
      = Cert.RwkvNextReferenceIdeal.Proj.above (a1 m c) (val_main_v15 (F := Ideal) (a0 m c) (a3 m c)) (seq t) (pos t r) d := by
  have hN := lt_N t
  unfold above Cert.RwkvNextReferenceIdeal.Proj.above
  by_cases hr : r.val = 0
  · rw [if_pos hr]
    unfold prior
    by_cases h0 : t.val % 8 = 0
    · have hp : (pos t r).val = 0 := by show 256 * (t.val % 8) + r.val = 0; omega
      rw [if_pos h0, if_pos hp]
      refine (carry_apply (iblk m c 1 t) _ _).trans ((iblk_1 m c t _ _).trans ?_)
      refine congrArg (a1 m c) (congrArg₂ ix2 (Fin.ext ?_) rfl)
      show 8 * (t.val / 8) + 7 = t.val / 8 * 8 + 7
      omega
    · have hp : ¬ (pos t r).val = 0 := by show ¬ 256 * (t.val % 8) + r.val = 0; omega
      rw [if_neg h0, if_neg hp]
      have ht : t.val - 1 < cfg0.N := Nat.lt_of_le_of_lt (Nat.sub_le _ _) t.isLt
      refine (congrFun (carried_eq m c ⟨t.val - 1, ht⟩) _).trans ((keep_apply _ _ _).trans ((hidden_eq m c ⟨t.val - 1, ht⟩ _ _).trans ?_))
      have e1 : seq ⟨t.val - 1, ht⟩ = seq t := Fin.ext (by show (t.val - 1) / 8 = t.val / 8; omega)
      rw [e1]
      refine congrArg _ (congrArg (fun q => ix3 (seq t) q d) (Fin.ext ?_))
      show 256 * ((t.val - 1) % 8) + (248 + 7) = 256 * (t.val % 8) + r.val - 1
      omega
  · have hp : ¬ (pos t r).val = 0 := by show ¬ 256 * (t.val % 8) + r.val = 0; omega
    rw [if_neg hr, if_neg hp]
    refine (hidden_eq m c t _ _).trans (congrArg _ (congrArg (fun q => ix3 (seq t) q d) (Fin.ext ?_)))
    show 256 * (t.val % 8) + (r.val - 1) = 256 * (t.val % 8) + r.val - 1
    omega

theorem r_eq (t : Fin cfg0.N) (r : Fin 256) (j : Fin 1024) :
    (rr (F := Ideal) (iblk m c 0 t) (prior m c t) (iblk m c 3 t) (iblk m c 4 t)) (ix2 r j) = val_main_v65 (F := Ideal) (a0 m c) (a1 m c) (a3 m c) (a4 m c) (ix3 (seq t) (pos t r) j) := by
  rw [Cert.RwkvNextReferenceIdeal.Proj.r_apply]
  exact (rr_apply (iblk m c 0 t) (prior m c t) (iblk m c 3 t) (iblk m c 4 t) r j).trans (mixdot_congr (hidden_eq m c t r) (above_eq m c t r) (iblk_3 m c t 0) (fun d => iblk_4 m c t 0 d j))

theorem k_eq (t : Fin cfg0.N) (r : Fin 256) (j : Fin 1024) :
    (kr (F := Ideal) (iblk m c 0 t) (prior m c t) (iblk m c 3 t) (iblk m c 4 t)) (ix2 r j) = val_main_v69 (F := Ideal) (a0 m c) (a1 m c) (a3 m c) (a4 m c) (ix3 (seq t) (pos t r) j) := by
  rw [Cert.RwkvNextReferenceIdeal.Proj.k_apply]
  exact (kr_apply (iblk m c 0 t) (prior m c t) (iblk m c 3 t) (iblk m c 4 t) r j).trans (mixdot_congr (hidden_eq m c t r) (above_eq m c t r) (iblk_3 m c t 1) (fun d => iblk_4 m c t 1 d j))

theorem v_eq (t : Fin cfg0.N) (r : Fin 256) (j : Fin 1024) :
    (v0 (F := Ideal) (iblk m c 0 t) (prior m c t) (iblk m c 3 t) (iblk m c 4 t)) (ix2 r j) = val_main_v73 (F := Ideal) (a0 m c) (a1 m c) (a3 m c) (a4 m c) (ix3 (seq t) (pos t r) j) := by
  rw [Cert.RwkvNextReferenceIdeal.Proj.v_apply]
  exact (v0_apply (iblk m c 0 t) (prior m c t) (iblk m c 3 t) (iblk m c 4 t) r j).trans (mixdot_congr (hidden_eq m c t r) (above_eq m c t r) (iblk_3 m c t 2) (fun d => iblk_4 m c t 2 d j))

theorem rate_eq (t : Fin cfg0.N) (r : Fin 256) (j : Fin 1024) :
    (lw (F := Ideal) (dec (F := Ideal) (iblk m c 0 t) (prior m c t) (iblk m c 3 t) (iblk m c 5 t) (iblk m c 6 t))) (ix2 r j) = val_main_v159 (F := Ideal) (a0 m c) (a1 m c) (a3 m c) (a5 m c) (a6 m c) (ix3 (seq t) (pos t r) j) := by
  rw [Cert.RwkvNextReferenceIdeal.Proj.lw_apply, Cert.RwkvNextReferenceIdeal.Proj.w_apply]
  refine (lw_apply (dec (F := Ideal) (iblk m c 0 t) (prior m c t) (iblk m c 3 t) (iblk m c 5 t) (iblk m c 6 t)) r j).trans ((congrArg (fun z => 0 - Ideal.exp z) (dec_apply (iblk m c 0 t) (prior m c t) (iblk m c 3 t) (iblk m c 5 t) (iblk m c 6 t) r j)).trans ?_)
  show rate _ = rate _
  refine congrArg rate (congrArg₂ (· + ·) (iblk_3 m c t 6 j) (Finset.sum_congr rfl fun e _ => congrArg₂ (· * ·) (congrArg Ideal.tanh ?_) (iblk_6 m c t e j)))
  rw [Cert.RwkvNextReferenceIdeal.Proj.wl_apply]
  exact mixdot_congr (hidden_eq m c t r) (above_eq m c t r) (iblk_3 m c t 3) (fun d => iblk_5 m c t d e)

theorem ai_eq (t : Fin cfg0.N) (r : Fin 256) (j : Fin 1024) :
    (ai (F := Ideal) (iblk m c 0 t) (prior m c t) (iblk m c 3 t) (iblk m c 7 t) (iblk m c 8 t)) (ix2 r j) = val_main_v122 (F := Ideal) (a0 m c) (a1 m c) (a3 m c) (a7 m c) (a8 m c) (ix3 (seq t) (pos t r) j) := by
  rw [Cert.RwkvNextReferenceIdeal.Proj.a_apply]
  refine (ai_apply (iblk m c 0 t) (prior m c t) (iblk m c 3 t) (iblk m c 7 t) (iblk m c 8 t) r j).trans ?_
  refine congrArg sigm (congrArg₂ (· + ·) (iblk_3 m c t 7 j) (Finset.sum_congr rfl fun e _ => congrArg₂ (· * ·) ?_ (iblk_8 m c t e j)))
  rw [Cert.RwkvNextReferenceIdeal.Proj.al_apply]
  exact mixdot_congr (hidden_eq m c t r) (above_eq m c t r) (iblk_3 m c t 4) (fun d => iblk_7 m c t d e)

theorem ga_eq (t : Fin cfg0.N) (r : Fin 256) (j : Fin 1024) :
    (ga (F := Ideal) (iblk m c 0 t) (prior m c t) (iblk m c 3 t) (iblk m c 11 t) (iblk m c 12 t)) (ix2 r j) = val_main_v132 (F := Ideal) (a0 m c) (a1 m c) (a3 m c) (a11 m c) (a12 m c) (ix3 (seq t) (pos t r) j) := by
  rw [Cert.RwkvNextReferenceIdeal.Proj.g_apply]
  refine (ga_apply (iblk m c 0 t) (prior m c t) (iblk m c 3 t) (iblk m c 11 t) (iblk m c 12 t) r j).trans ?_
  refine Finset.sum_congr rfl fun e _ => congrArg₂ (· * ·) (congrArg sigm ?_) (iblk_12 m c t e j)
  rw [Cert.RwkvNextReferenceIdeal.Proj.gl_apply]
  exact mixdot_congr (hidden_eq m c t r) (above_eq m c t r) (iblk_3 m c t 5) (fun d => iblk_11 m c t d e)

theorem kk_eq (t : Fin cfg0.N) (r : Fin 256) (j : Fin 1024) :
    (kk (F := Ideal) (kr (F := Ideal) (iblk m c 0 t) (prior m c t) (iblk m c 3 t) (iblk m c 4 t)) (iblk m c 3 t) (iblk m c 14 t)) (ix2 r j) = val_main_v147 (F := Ideal) (a0 m c) (a1 m c) (a3 m c) (a4 m c) (ix3 (seq t) (pos t r) j) := by
  rw [Cert.RwkvNextReferenceIdeal.Proj.kk_apply]
  refine (kk_apply (kr (F := Ideal) (iblk m c 0 t) (prior m c t) (iblk m c 3 t) (iblk m c 4 t)) (iblk m c 3 t) (iblk m c 14 t) (head_eq m c t) r j).trans ?_
  exact congrArg (fun f => headUnit f j) (funext fun e => congrArg₂ (· * ·) (k_eq m c t r e) (iblk_3 m c t 8 e))

theorem cu_eq (t : Fin cfg0.N) (r : Fin 256) (j : Fin 1024) :
    (cu (F := Ideal) (dec (F := Ideal) (iblk m c 0 t) (prior m c t) (iblk m c 3 t) (iblk m c 5 t) (iblk m c 6 t)) (iblk m c 13 t)) (ix2 r j) = val_main_v165 (F := Ideal) (a0 m c) (a1 m c) (a3 m c) (a5 m c) (a6 m c) (ix3 (seq t) (pos t r) j) := by
  rw [Cert.RwkvNextReferenceIdeal.Proj.cu_apply]
  refine (cu_apply (dec (F := Ideal) (iblk m c 0 t) (prior m c t) (iblk m c 3 t) (iblk m c 5 t) (iblk m c 6 t)) (iblk m c 13 t) (tri_eq m c t) r j).trans ?_
  refine Finset.sum_congr rfl fun q _ => ?_
  have hc : q.val ≤ (pos t r).val % 64 ↔ q.val ≤ r.val % 64 := by
    show q.val ≤ (256 * (t.val % 8) + r.val) % 64 ↔ q.val ≤ r.val % 64
    omega
  have e1 : Cert.RwkvNextReferenceIdeal.Proj.chunkRow (pos t r) q = pos t ⟨64 * (r.val / 64) + q.val, by omega⟩ :=
    Fin.ext (by show 64 * ((256 * (t.val % 8) + r.val) / 64) + q.val = 256 * (t.val % 8) + (64 * (r.val / 64) + q.val); omega)
  by_cases hq : q.val ≤ r.val % 64
  · rw [if_pos hq, if_pos (hc.mpr hq), e1]
    exact rate_eq m c t _ j
  · rw [if_neg hq, if_neg (fun e => hq (hc.mp e))]

theorem va_eq (t : Fin cfg0.N) (r : Fin 256) (j : Fin 1024) :
    (va (F := Ideal) (iblk m c 0 t) (prior m c t) (iblk m c 3 t) (iblk m c 2 t) (iblk m c 4 t) (iblk m c 9 t) (iblk m c 10 t)) (ix2 r j) = val_main_v107 (F := Ideal) (a0 m c) (a1 m c) (a2 m c) (a3 m c) (a4 m c) (a9 m c) (a10 m c) (ix3 (seq t) (pos t r) j) := by
  rw [Cert.RwkvNextReferenceIdeal.Proj.vx_apply]
  refine (va_apply (iblk m c 0 t) (prior m c t) (iblk m c 3 t) (iblk m c 2 t) (iblk m c 4 t) (iblk m c 9 t) (iblk m c 10 t) r j).trans ?_
  refine congrArg₂ (· + ·) (v_eq m c t r j) (congrArg₂ (· * ·) (congrArg₂ (· - ·) (iblk_2 m c t r j) (v_eq m c t r j)) (congrArg sigm ?_))
  refine congrArg₂ (· + ·) (iblk_3 m c t 11 j) ?_
  refine (vl_apply (iblk m c 0 t) (prior m c t) (iblk m c 3 t) (iblk m c 9 t) (iblk m c 10 t) r j).trans ?_
  refine Finset.sum_congr rfl fun e _ => congrArg₂ (· * ·) ?_ (iblk_10 m c t e j)
  rw [Cert.RwkvNextReferenceIdeal.Proj.vl_apply]
  exact mixdot_congr (hidden_eq m c t r) (above_eq m c t r) (iblk_3 m c t 2) (fun d => iblk_9 m c t d e)

/-- The receptances of the reference. -/
abbrev expectedR : Buf (Elt Ideal) ((c.tc : Thread nD τ).loc main_v26_0) :=
  val_main_v179 (F := Ideal) (a0 m c) (a1 m c) (a3 m c) (a4 m c) (a5 m c) (a6 m c)
/-- The keys of the reference. -/
abbrev expectedK : Buf (Elt Ideal) ((c.tc : Thread nD τ).loc main_v26_1) :=
  val_main_v180 (F := Ideal) (a0 m c) (a1 m c) (a3 m c) (a4 m c) (a5 m c) (a6 m c) (a7 m c) (a8 m c)
/-- The removal keys of the reference. -/
abbrev expectedA : Buf (Elt Ideal) ((c.tc : Thread nD τ).loc main_v26_2) :=
  val_main_v181 (F := Ideal) (a0 m c) (a1 m c) (a3 m c) (a4 m c) (a5 m c) (a6 m c)
/-- The replacement keys of the reference. -/
abbrev expectedB : Buf (Elt Ideal) ((c.tc : Thread nD τ).loc main_v26_3) :=
  val_main_v182 (F := Ideal) (a0 m c) (a1 m c) (a3 m c) (a4 m c) (a5 m c) (a6 m c) (a7 m c) (a8 m c)
/-- The values of the reference. -/
abbrev expectedV : Buf (Elt Ideal) ((c.tc : Thread nD τ).loc main_v26_4) :=
  val_main_v183 (F := Ideal) (a0 m c) (a1 m c) (a2 m c) (a3 m c) (a4 m c) (a9 m c) (a10 m c)
/-- The gates of the reference. -/
abbrev expectedG : Buf (Elt Ideal) ((c.tc : Thread nD τ).loc main_v26_5) :=
  val_main_v184 (F := Ideal) (a0 m c) (a1 m c) (a3 m c) (a11 m c) (a12 m c)
/-- The chunk decays of the reference. -/
abbrev expectedL : Buf (Elt Ideal) ((c.tc : Thread nD τ).loc main_v26_6) :=
  val_main_v185 (F := Ideal) (a0 m c) (a1 m c) (a3 m c) (a5 m c) (a6 m c)
/-- The last rows of the reference. -/
abbrev expectedH : Buf (Elt Ideal) ((c.tc : Thread nD τ).loc main_v26_7) :=
  val_main_v187 (F := Ideal) (a0 m c) (a3 m c)

/-- Point `t` writes back its block of the reference's receptances. -/
theorem flushedR_eq (t : Fin cfg0.N) :
    (dats m 0 c).flushed 15 t = ((cfg0.win 15).blk t).view.read (Elt Ideal) (expectedR m c) := by
  have hN := lt_N t
  rw [Cert.RwkvNextIdeal.Value.flushed15, outR_eq]
  funext x
  obtain ⟨r, K, rfl⟩ : ∃ (r : Fin 256) (K : Fin 1024), x = ix2 r K := ⟨x 0, x 1, eq_ix2 x⟩
  rw [read_15]
  unfold expectedR
  rw [Cert.RwkvNextReferenceIdeal.Proj.oR_apply]
  exact (outR_apply (rr (F := Ideal) (iblk m c 0 t) (prior m c t) (iblk m c 3 t) (iblk m c 4 t)) (dec (F := Ideal) (iblk m c 0 t) (prior m c t) (iblk m c 3 t) (iblk m c 5 t) (iblk m c 6 t)) (iblk m c 13 t) r K).trans (congrArg₂ (· * ·) (r_eq m c t r K) (congrArg Ideal.exp (cu_eq m c t r K)))

/-- Point `t` writes back its block of the reference's keys. -/
theorem flushedK_eq (t : Fin cfg0.N) :
    (dats m 0 c).flushed 16 t = ((cfg0.win 16).blk t).view.read (Elt Ideal) (expectedK m c) := by
  have hN := lt_N t
  rw [Cert.RwkvNextIdeal.Value.flushed16, outK_eq]
  funext x
  obtain ⟨r, K, rfl⟩ : ∃ (r : Fin 256) (K : Fin 1024), x = ix2 r K := ⟨x 0, x 1, eq_ix2 x⟩
  rw [read_16]
  unfold expectedK
  rw [Cert.RwkvNextReferenceIdeal.Proj.oK_apply]
  rw [Cert.RwkvNextReferenceIdeal.Proj.k2_apply]
  exact (outK_apply (kr (F := Ideal) (iblk m c 0 t) (prior m c t) (iblk m c 3 t) (iblk m c 4 t)) (ai (F := Ideal) (iblk m c 0 t) (prior m c t) (iblk m c 3 t) (iblk m c 7 t) (iblk m c 8 t)) (dec (F := Ideal) (iblk m c 0 t) (prior m c t) (iblk m c 3 t) (iblk m c 5 t) (iblk m c 6 t)) (iblk m c 3 t) (iblk m c 13 t) r K).trans (congrArg₂ (· * ·) (keyAt_congr (k_eq m c t r K) (ai_eq m c t r K) (iblk_3 m c t 9 K)) (congrArg (fun a => Ideal.exp (0 - a)) (cu_eq m c t r K)))

/-- Point `t` writes back its block of the reference's removal keys. -/
theorem flushedA_eq (t : Fin cfg0.N) :
    (dats m 0 c).flushed 17 t = ((cfg0.win 17).blk t).view.read (Elt Ideal) (expectedA m c) := by
  have hN := lt_N t
  rw [Cert.RwkvNextIdeal.Value.flushed17, outA_eq]
  funext x
  obtain ⟨r, K, rfl⟩ : ∃ (r : Fin 256) (K : Fin 1024), x = ix2 r K := ⟨x 0, x 1, eq_ix2 x⟩
  rw [read_17]
  unfold expectedA
  rw [Cert.RwkvNextReferenceIdeal.Proj.oA_apply]
  refine (outA_apply (kr (F := Ideal) (iblk m c 0 t) (prior m c t) (iblk m c 3 t) (iblk m c 4 t)) (dec (F := Ideal) (iblk m c 0 t) (prior m c t) (iblk m c 3 t) (iblk m c 5 t) (iblk m c 6 t)) (iblk m c 3 t) (iblk m c 14 t) (iblk m c 13 t) r K).trans ?_
  exact congrArg₂ (fun a b => (0 - a) * Ideal.exp b) (kk_eq m c t r K) (congrArg₂ (· - ·) (cu_eq m c t r K) (rate_eq m c t r K))

/-- Point `t` writes back its block of the reference's replacement keys. -/
theorem flushedB_eq (t : Fin cfg0.N) :
    (dats m 0 c).flushed 18 t = ((cfg0.win 18).blk t).view.read (Elt Ideal) (expectedB m c) := by
  have hN := lt_N t
  rw [Cert.RwkvNextIdeal.Value.flushed18, outB_eq]
  funext x
  obtain ⟨r, K, rfl⟩ : ∃ (r : Fin 256) (K : Fin 1024), x = ix2 r K := ⟨x 0, x 1, eq_ix2 x⟩
  rw [read_18]
  unfold expectedB
  rw [Cert.RwkvNextReferenceIdeal.Proj.oB_apply]
  exact (outB_apply (kk (F := Ideal) (kr (F := Ideal) (iblk m c 0 t) (prior m c t) (iblk m c 3 t) (iblk m c 4 t)) (iblk m c 3 t) (iblk m c 14 t)) (ai (F := Ideal) (iblk m c 0 t) (prior m c t) (iblk m c 3 t) (iblk m c 7 t) (iblk m c 8 t)) (dec (F := Ideal) (iblk m c 0 t) (prior m c t) (iblk m c 3 t) (iblk m c 5 t) (iblk m c 6 t)) (iblk m c 13 t) r K).trans (congrArg₂ (· * ·) (congrArg₂ (· * ·) (kk_eq m c t r K) (ai_eq m c t r K)) (congrArg (fun a => Ideal.exp (0 - a)) (cu_eq m c t r K)))

/-- Point `t` writes back its block of the reference's values. -/
theorem flushedV_eq (t : Fin cfg0.N) :
    (dats m 0 c).flushed 19 t = ((cfg0.win 19).blk t).view.read (Elt Ideal) (expectedV m c) := by
  have hN := lt_N t
  rw [Cert.RwkvNextIdeal.Value.flushed19, outV_eq]
  funext x
  obtain ⟨r, K, rfl⟩ : ∃ (r : Fin 256) (K : Fin 1024), x = ix2 r K := ⟨x 0, x 1, eq_ix2 x⟩
  rw [read_19]
  unfold expectedV
  rw [Cert.RwkvNextReferenceIdeal.Proj.oV_apply]
  exact va_eq m c t r K

/-- Point `t` writes back its block of the reference's gates. -/
theorem flushedG_eq (t : Fin cfg0.N) :
    (dats m 0 c).flushed 20 t = ((cfg0.win 20).blk t).view.read (Elt Ideal) (expectedG m c) := by
  have hN := lt_N t
  rw [Cert.RwkvNextIdeal.Value.flushed20, outG_eq]
  funext x
  obtain ⟨r, K, rfl⟩ : ∃ (r : Fin 256) (K : Fin 1024), x = ix2 r K := ⟨x 0, x 1, eq_ix2 x⟩
  rw [read_20]
  unfold expectedG
  rw [Cert.RwkvNextReferenceIdeal.Proj.oG_apply]
  exact ga_eq m c t r K

/-- Point `t` writes back its block of the reference's chunk decays. -/
theorem flushedL_eq (t : Fin cfg0.N) :
    (dats m 0 c).flushed 21 t = ((cfg0.win 21).blk t).view.read (Elt Ideal) (expectedL m c) := by
  have hN := lt_N t
  rw [Cert.RwkvNextIdeal.Value.flushed21, outL_eq]
  funext x
  obtain ⟨r, z, K, rfl⟩ : ∃ (r : Fin 4) (z : Fin 1) (K : Fin 1024), x = ix3 r z K := ⟨x 0, x 1, x 2, eq_ix3 x⟩
  rw [read_21]
  unfold expectedL
  rw [Cert.RwkvNextReferenceIdeal.Proj.oL_apply]
  refine (outL_apply (cu (F := Ideal) (dec (F := Ideal) (iblk m c 0 t) (prior m c t) (iblk m c 3 t) (iblk m c 5 t) (iblk m c 6 t)) (iblk m c 13 t)) r z K).trans (congrArg Ideal.exp ?_)
  refine (cu_apply (dec (F := Ideal) (iblk m c 0 t) (prior m c t) (iblk m c 3 t) (iblk m c 5 t) (iblk m c 6 t)) (iblk m c 13 t) (tri_eq m c t) _ K).trans (Finset.sum_congr rfl fun q _ => ?_)
  rw [if_pos (show q.val ≤ (64 * r.val + 63) % 64 by omega)]
  refine (rate_eq m c t _ K).trans ?_
  refine congrArg _ ?_
  have e1 : (⟨(4 * t.val + r.val) / 32, by omega⟩ : Fin 8) = seq t := Fin.ext (by show (4 * t.val + r.val) / 32 = t.val / 8; omega)
  have e2 : pos t ⟨64 * ((64 * r.val + 63) / 64) + q.val, by omega⟩ = ⟨64 * ((4 * t.val + r.val) % 32) + q.val, by omega⟩ :=
    Fin.ext (by show 256 * (t.val % 8) + (64 * ((64 * r.val + 63) / 64) + q.val) = 64 * ((4 * t.val + r.val) % 32) + q.val; omega)
  dsimp only
  rw [e1, e2]

/-- The last point of a sequence writes back its block of the reference's last rows. -/
theorem flushedH_eq (t : Fin cfg0.N) (ht : t.val % 8 = 7) :
    (dats m 0 c).flushed 22 t = ((cfg0.win 22).blk t).view.read (Elt Ideal) (expectedH m c) := by
  have hN := lt_N t
  rw [Cert.RwkvNextIdeal.Value.flushed22, outH_eq]
  funext x
  obtain ⟨r, K, rfl⟩ : ∃ (r : Fin 8) (K : Fin 1024), x = ix2 r K := ⟨x 0, x 1, eq_ix2 x⟩
  rw [read_22]
  unfold expectedH
  rw [Cert.RwkvNextReferenceIdeal.Proj.oH_apply]
  refine (tails_apply (hid (F := Ideal) (iblk m c 0 t) (iblk m c 3 t)) r K).trans ((hidden_eq m c t _ K).trans ?_)
  have e1 : (⟨(8 * (t.val / 8) + r.val) / 8, by omega⟩ : Fin 8) = seq t :=
    Fin.ext (by show (8 * (t.val / 8) + r.val) / 8 = t.val / 8; omega)
  have e2 : (⟨2040 + (8 * (t.val / 8) + r.val) % 8, by omega⟩ : Fin 2048) = pos t ⟨248 + r.val, by omega⟩ :=
    Fin.ext (by show 2040 + (8 * (t.val / 8) + r.val) % 8 = 256 * (t.val % 8) + (248 + r.val); omega)
  dsimp only
  rw [e1, e2]

theorem coverR (i : S16384x1024.Idx) : ∃ t : Fin cfg0.N, (cfg0.win 15).flush t = true ∧ i ∈ ((cfg0.win 15).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where15 ⟨n.val / 256, hlt⟩
  refine ⟨⟨n.val / 256, hlt⟩, flush0_15 _, ?_⟩
  refine Finset.mem_map.mpr ⟨ix2 (⟨n.val % 256, by omega⟩ : Fin 256) l, Finset.mem_univ _, funext fun a => Fin.ext ?_⟩
  match a with
  | ⟨0, _⟩ =>
    show win0_15.index ⟨n.val / 256, hlt⟩ ⟨0, by decide⟩ * 256 + 1 * (n.val % 256) = n.val
    rw [e.1]; show n.val / 256 * 256 + 1 * (n.val % 256) = n.val; omega
  | ⟨1, _⟩ =>
    show win0_15.index ⟨n.val / 256, hlt⟩ ⟨1, by decide⟩ * 1024 + 1 * l.val = l.val
    rw [e.2]; omega

theorem coverK (i : S16384x1024.Idx) : ∃ t : Fin cfg0.N, (cfg0.win 16).flush t = true ∧ i ∈ ((cfg0.win 16).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where16 ⟨n.val / 256, hlt⟩
  refine ⟨⟨n.val / 256, hlt⟩, flush0_16 _, ?_⟩
  refine Finset.mem_map.mpr ⟨ix2 (⟨n.val % 256, by omega⟩ : Fin 256) l, Finset.mem_univ _, funext fun a => Fin.ext ?_⟩
  match a with
  | ⟨0, _⟩ =>
    show win0_16.index ⟨n.val / 256, hlt⟩ ⟨0, by decide⟩ * 256 + 1 * (n.val % 256) = n.val
    rw [e.1]; show n.val / 256 * 256 + 1 * (n.val % 256) = n.val; omega
  | ⟨1, _⟩ =>
    show win0_16.index ⟨n.val / 256, hlt⟩ ⟨1, by decide⟩ * 1024 + 1 * l.val = l.val
    rw [e.2]; omega

theorem coverA (i : S16384x1024.Idx) : ∃ t : Fin cfg0.N, (cfg0.win 17).flush t = true ∧ i ∈ ((cfg0.win 17).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where17 ⟨n.val / 256, hlt⟩
  refine ⟨⟨n.val / 256, hlt⟩, flush0_17 _, ?_⟩
  refine Finset.mem_map.mpr ⟨ix2 (⟨n.val % 256, by omega⟩ : Fin 256) l, Finset.mem_univ _, funext fun a => Fin.ext ?_⟩
  match a with
  | ⟨0, _⟩ =>
    show win0_17.index ⟨n.val / 256, hlt⟩ ⟨0, by decide⟩ * 256 + 1 * (n.val % 256) = n.val
    rw [e.1]; show n.val / 256 * 256 + 1 * (n.val % 256) = n.val; omega
  | ⟨1, _⟩ =>
    show win0_17.index ⟨n.val / 256, hlt⟩ ⟨1, by decide⟩ * 1024 + 1 * l.val = l.val
    rw [e.2]; omega

theorem coverB (i : S16384x1024.Idx) : ∃ t : Fin cfg0.N, (cfg0.win 18).flush t = true ∧ i ∈ ((cfg0.win 18).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where18 ⟨n.val / 256, hlt⟩
  refine ⟨⟨n.val / 256, hlt⟩, flush0_18 _, ?_⟩
  refine Finset.mem_map.mpr ⟨ix2 (⟨n.val % 256, by omega⟩ : Fin 256) l, Finset.mem_univ _, funext fun a => Fin.ext ?_⟩
  match a with
  | ⟨0, _⟩ =>
    show win0_18.index ⟨n.val / 256, hlt⟩ ⟨0, by decide⟩ * 256 + 1 * (n.val % 256) = n.val
    rw [e.1]; show n.val / 256 * 256 + 1 * (n.val % 256) = n.val; omega
  | ⟨1, _⟩ =>
    show win0_18.index ⟨n.val / 256, hlt⟩ ⟨1, by decide⟩ * 1024 + 1 * l.val = l.val
    rw [e.2]; omega

theorem coverV (i : S16384x1024.Idx) : ∃ t : Fin cfg0.N, (cfg0.win 19).flush t = true ∧ i ∈ ((cfg0.win 19).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where19 ⟨n.val / 256, hlt⟩
  refine ⟨⟨n.val / 256, hlt⟩, flush0_19 _, ?_⟩
  refine Finset.mem_map.mpr ⟨ix2 (⟨n.val % 256, by omega⟩ : Fin 256) l, Finset.mem_univ _, funext fun a => Fin.ext ?_⟩
  match a with
  | ⟨0, _⟩ =>
    show win0_19.index ⟨n.val / 256, hlt⟩ ⟨0, by decide⟩ * 256 + 1 * (n.val % 256) = n.val
    rw [e.1]; show n.val / 256 * 256 + 1 * (n.val % 256) = n.val; omega
  | ⟨1, _⟩ =>
    show win0_19.index ⟨n.val / 256, hlt⟩ ⟨1, by decide⟩ * 1024 + 1 * l.val = l.val
    rw [e.2]; omega

theorem coverG (i : S16384x1024.Idx) : ∃ t : Fin cfg0.N, (cfg0.win 20).flush t = true ∧ i ∈ ((cfg0.win 20).blk t).view.set := by
  obtain ⟨n, l, rfl⟩ : ∃ (n : Fin 16384) (l : Fin 1024), i = ix2 n l := ⟨i 0, i 1, eq_ix2 i⟩
  have hlt : n.val / 256 < cfg0.N := lt_of_lt_of_eq (show n.val / 256 < 64 by omega) (by decide +kernel : 64 = grid0.N)
  have e := where20 ⟨n.val / 256, hlt⟩
  refine ⟨⟨n.val / 256, hlt⟩, flush0_20 _, ?_⟩
  refine Finset.mem_map.mpr ⟨ix2 (⟨n.val % 256, by omega⟩ : Fin 256) l, Finset.mem_univ _, funext fun a => Fin.ext ?_⟩
  match a with
  | ⟨0, _⟩ =>
    show win0_20.index ⟨n.val / 256, hlt⟩ ⟨0, by decide⟩ * 256 + 1 * (n.val % 256) = n.val
    rw [e.1]; show n.val / 256 * 256 + 1 * (n.val % 256) = n.val; omega
  | ⟨1, _⟩ =>
    show win0_20.index ⟨n.val / 256, hlt⟩ ⟨1, by decide⟩ * 1024 + 1 * l.val = l.val
    rw [e.2]; omega

theorem coverL (i : S256x1x1024.Idx) : ∃ t : Fin cfg0.N, (cfg0.win 21).flush t = true ∧ i ∈ ((cfg0.win 21).blk t).view.set := by
  obtain ⟨n, z, l, rfl⟩ : ∃ (n : Fin 256) (z : Fin 1) (l : Fin 1024), i = ix3 n z l := ⟨i 0, i 1, i 2, eq_ix3 i⟩
  have hlt : n.val / 4 < cfg0.N := lt_of_lt_of_eq (show n.val / 4 < 64 by omega) (by decide +kernel : 64 = grid0.N)
  have e := where21 ⟨n.val / 4, hlt⟩
  refine ⟨⟨n.val / 4, hlt⟩, flush0_21 _, ?_⟩
  refine Finset.mem_map.mpr ⟨ix3 (⟨n.val % 4, by omega⟩ : Fin 4) z l, Finset.mem_univ _, funext fun a => Fin.ext ?_⟩
  match a with
  | ⟨0, _⟩ =>
    show win0_21.index ⟨n.val / 4, hlt⟩ ⟨0, by decide⟩ * 4 + 1 * (n.val % 4) = n.val
    rw [e.1]; show n.val / 4 * 4 + 1 * (n.val % 4) = n.val; omega
  | ⟨1, _⟩ =>
    show win0_21.index ⟨n.val / 4, hlt⟩ ⟨1, by decide⟩ * 1 + 1 * z.val = z.val
    rw [e.2.1]; omega
  | ⟨2, _⟩ =>
    show win0_21.index ⟨n.val / 4, hlt⟩ ⟨2, by decide⟩ * 1024 + 1 * l.val = l.val
    rw [e.2.2]; omega

theorem coverH (i : S64x1024.Idx) : ∃ t : Fin cfg0.N, (cfg0.win 22).flush t = true ∧ i ∈ ((cfg0.win 22).blk t).view.set := by
  obtain ⟨n, l, rfl⟩ : ∃ (n : Fin 64) (l : Fin 1024), i = ix2 n l := ⟨i 0, i 1, eq_ix2 i⟩
  have hlt : 8 * (n.val / 8) + 7 < cfg0.N := lt_of_lt_of_eq (show 8 * (n.val / 8) + 7 < 64 by omega) (by decide +kernel : 64 = grid0.N)
  have e := where22 ⟨8 * (n.val / 8) + 7, hlt⟩
  refine ⟨⟨8 * (n.val / 8) + 7, hlt⟩, (flush0_22 _).mpr (by show (8 * (n.val / 8) + 7) % 8 = 7; omega), ?_⟩
  refine Finset.mem_map.mpr ⟨ix2 (⟨n.val % 8, by omega⟩ : Fin 8) l, Finset.mem_univ _, funext fun a => Fin.ext ?_⟩
  match a with
  | ⟨0, _⟩ =>
    show win0_22.index ⟨8 * (n.val / 8) + 7, hlt⟩ ⟨0, by decide⟩ * 8 + 1 * (n.val % 8) = n.val
    rw [e.1]; show (8 * (n.val / 8) + 7) / 8 * 8 + 1 * (n.val % 8) = n.val; omega
  | ⟨1, _⟩ =>
    show win0_22.index ⟨8 * (n.val / 8) + 7, hlt⟩ ⟨1, by decide⟩ * 1024 + 1 * l.val = l.val
    rw [e.2]; omega

/-! The kernel's output arrays after its run are the reference's results. -/

theorem resultR_eq : (dats m 0 c).arrAt 15 cfg0.N = expectedR m c :=
  (dats m 0 c).arrAt_eq_of_cover 15 (expectedR m c) (fun t _ => flushedR_eq m c t) (fun i => coverR i)
theorem resultK_eq : (dats m 0 c).arrAt 16 cfg0.N = expectedK m c :=
  (dats m 0 c).arrAt_eq_of_cover 16 (expectedK m c) (fun t _ => flushedK_eq m c t) (fun i => coverK i)
theorem resultA_eq : (dats m 0 c).arrAt 17 cfg0.N = expectedA m c :=
  (dats m 0 c).arrAt_eq_of_cover 17 (expectedA m c) (fun t _ => flushedA_eq m c t) (fun i => coverA i)
theorem resultB_eq : (dats m 0 c).arrAt 18 cfg0.N = expectedB m c :=
  (dats m 0 c).arrAt_eq_of_cover 18 (expectedB m c) (fun t _ => flushedB_eq m c t) (fun i => coverB i)
theorem resultV_eq : (dats m 0 c).arrAt 19 cfg0.N = expectedV m c :=
  (dats m 0 c).arrAt_eq_of_cover 19 (expectedV m c) (fun t _ => flushedV_eq m c t) (fun i => coverV i)
theorem resultG_eq : (dats m 0 c).arrAt 20 cfg0.N = expectedG m c :=
  (dats m 0 c).arrAt_eq_of_cover 20 (expectedG m c) (fun t _ => flushedG_eq m c t) (fun i => coverG i)
theorem resultL_eq : (dats m 0 c).arrAt 21 cfg0.N = expectedL m c :=
  (dats m 0 c).arrAt_eq_of_cover 21 (expectedL m c) (fun t _ => flushedL_eq m c t) (fun i => coverL i)
theorem resultH_eq : (dats m 0 c).arrAt 22 cfg0.N = expectedH m c :=
  (dats m 0 c).arrAt_eq_of_cover 22 (expectedH m c) (fun t ht => flushedH_eq m c t ((flush0_22 t).mp ht)) (fun i => coverH i)

/-- The value claim: at every argument, kernel and reference both run and end with the same eight results. -/
theorem algebraic : Cert.algebraic_RwkvNextIdeal_RwkvNextReferenceIdeal (hRwkvNextIdeal := Cert.RwkvNextIdeal.Gen.facts)
    (hRwkvNextReferenceIdeal := Cert.RwkvNextReferenceIdeal.Gen.facts) := by
  intro m g m' g' _ hargs
  refine ⟨fun c => expectedR m c, fun c => expectedK m c, fun c => expectedA m c, fun c => expectedB m c, fun c => expectedV m c, fun c => expectedG m c, fun c => expectedL m c, fun c => expectedH m c, ?_, ?_⟩
  · refine (θ_run _ _ _).mono (fun r h c => ?_) (Cert.RwkvNextIdeal.Value.run_blocks m g)
    obtain ⟨h15, h16, h17, h18, h19, h20, h21, h22, hk⟩ := h c
    exact ⟨h15.trans (resultR_eq m c), h16.trans (resultK_eq m c), h17.trans (resultA_eq m c), h18.trans (resultB_eq m c), h19.trans (resultV_eq m c), h20.trans (resultG_eq m c), h21.trans (resultL_eq m c), h22.trans (resultH_eq m c), hk⟩
  · refine (θ_run _ _ _).mono (fun r h c => ?_) (Cert.RwkvNextReferenceIdeal.Value.run m' g')
    obtain ⟨h15, h16, h17, h18, h19, h20, h21, h22, hk⟩ := h c
    obtain ⟨e0, e1, e2, e3, e4, e5, e6, e7, e8, e9, e10, e11, e12⟩ := hargs c
    refine ⟨h15.trans ?_, h16.trans ?_, h17.trans ?_, h18.trans ?_, h19.trans ?_, h20.trans ?_, h21.trans ?_, h22.trans ?_, hk⟩
    · rw [val_main_v179_eq]
      show val_main_v179 (F := Ideal) (m' ((c.tc : Thread nD τ).loc Cert.RwkvNextReferenceIdeal.main_arg0)) (m' ((c.tc : Thread nD τ).loc Cert.RwkvNextReferenceIdeal.main_arg1)) (m' ((c.tc : Thread nD τ).loc Cert.RwkvNextReferenceIdeal.main_arg3)) (m' ((c.tc : Thread nD τ).loc Cert.RwkvNextReferenceIdeal.main_arg4)) (m' ((c.tc : Thread nD τ).loc Cert.RwkvNextReferenceIdeal.main_arg5)) (m' ((c.tc : Thread nD τ).loc Cert.RwkvNextReferenceIdeal.main_arg6)) = expectedR m c
      rw [e0, e1, e3, e4, e5, e6]
    · rw [val_main_v180_eq]
      show val_main_v180 (F := Ideal) (m' ((c.tc : Thread nD τ).loc Cert.RwkvNextReferenceIdeal.main_arg0)) (m' ((c.tc : Thread nD τ).loc Cert.RwkvNextReferenceIdeal.main_arg1)) (m' ((c.tc : Thread nD τ).loc Cert.RwkvNextReferenceIdeal.main_arg3)) (m' ((c.tc : Thread nD τ).loc Cert.RwkvNextReferenceIdeal.main_arg4)) (m' ((c.tc : Thread nD τ).loc Cert.RwkvNextReferenceIdeal.main_arg5)) (m' ((c.tc : Thread nD τ).loc Cert.RwkvNextReferenceIdeal.main_arg6)) (m' ((c.tc : Thread nD τ).loc Cert.RwkvNextReferenceIdeal.main_arg7)) (m' ((c.tc : Thread nD τ).loc Cert.RwkvNextReferenceIdeal.main_arg8)) = expectedK m c
      rw [e0, e1, e3, e4, e5, e6, e7, e8]
    · rw [val_main_v181_eq]
      show val_main_v181 (F := Ideal) (m' ((c.tc : Thread nD τ).loc Cert.RwkvNextReferenceIdeal.main_arg0)) (m' ((c.tc : Thread nD τ).loc Cert.RwkvNextReferenceIdeal.main_arg1)) (m' ((c.tc : Thread nD τ).loc Cert.RwkvNextReferenceIdeal.main_arg3)) (m' ((c.tc : Thread nD τ).loc Cert.RwkvNextReferenceIdeal.main_arg4)) (m' ((c.tc : Thread nD τ).loc Cert.RwkvNextReferenceIdeal.main_arg5)) (m' ((c.tc : Thread nD τ).loc Cert.RwkvNextReferenceIdeal.main_arg6)) = expectedA m c
      rw [e0, e1, e3, e4, e5, e6]
    · rw [val_main_v182_eq]
      show val_main_v182 (F := Ideal) (m' ((c.tc : Thread nD τ).loc Cert.RwkvNextReferenceIdeal.main_arg0)) (m' ((c.tc : Thread nD τ).loc Cert.RwkvNextReferenceIdeal.main_arg1)) (m' ((c.tc : Thread nD τ).loc Cert.RwkvNextReferenceIdeal.main_arg3)) (m' ((c.tc : Thread nD τ).loc Cert.RwkvNextReferenceIdeal.main_arg4)) (m' ((c.tc : Thread nD τ).loc Cert.RwkvNextReferenceIdeal.main_arg5)) (m' ((c.tc : Thread nD τ).loc Cert.RwkvNextReferenceIdeal.main_arg6)) (m' ((c.tc : Thread nD τ).loc Cert.RwkvNextReferenceIdeal.main_arg7)) (m' ((c.tc : Thread nD τ).loc Cert.RwkvNextReferenceIdeal.main_arg8)) = expectedB m c
      rw [e0, e1, e3, e4, e5, e6, e7, e8]
    · rw [val_main_v183_eq]
      show val_main_v183 (F := Ideal) (m' ((c.tc : Thread nD τ).loc Cert.RwkvNextReferenceIdeal.main_arg0)) (m' ((c.tc : Thread nD τ).loc Cert.RwkvNextReferenceIdeal.main_arg1)) (m' ((c.tc : Thread nD τ).loc Cert.RwkvNextReferenceIdeal.main_arg2)) (m' ((c.tc : Thread nD τ).loc Cert.RwkvNextReferenceIdeal.main_arg3)) (m' ((c.tc : Thread nD τ).loc Cert.RwkvNextReferenceIdeal.main_arg4)) (m' ((c.tc : Thread nD τ).loc Cert.RwkvNextReferenceIdeal.main_arg9)) (m' ((c.tc : Thread nD τ).loc Cert.RwkvNextReferenceIdeal.main_arg10)) = expectedV m c
      rw [e0, e1, e2, e3, e4, e9, e10]
    · rw [val_main_v184_eq]
      show val_main_v184 (F := Ideal) (m' ((c.tc : Thread nD τ).loc Cert.RwkvNextReferenceIdeal.main_arg0)) (m' ((c.tc : Thread nD τ).loc Cert.RwkvNextReferenceIdeal.main_arg1)) (m' ((c.tc : Thread nD τ).loc Cert.RwkvNextReferenceIdeal.main_arg3)) (m' ((c.tc : Thread nD τ).loc Cert.RwkvNextReferenceIdeal.main_arg11)) (m' ((c.tc : Thread nD τ).loc Cert.RwkvNextReferenceIdeal.main_arg12)) = expectedG m c
      rw [e0, e1, e3, e11, e12]
    · rw [val_main_v185_eq]
      show val_main_v185 (F := Ideal) (m' ((c.tc : Thread nD τ).loc Cert.RwkvNextReferenceIdeal.main_arg0)) (m' ((c.tc : Thread nD τ).loc Cert.RwkvNextReferenceIdeal.main_arg1)) (m' ((c.tc : Thread nD τ).loc Cert.RwkvNextReferenceIdeal.main_arg3)) (m' ((c.tc : Thread nD τ).loc Cert.RwkvNextReferenceIdeal.main_arg5)) (m' ((c.tc : Thread nD τ).loc Cert.RwkvNextReferenceIdeal.main_arg6)) = expectedL m c
      rw [e0, e1, e3, e5, e6]
    · rw [val_main_v187_eq]
      show val_main_v187 (F := Ideal) (m' ((c.tc : Thread nD τ).loc Cert.RwkvNextReferenceIdeal.main_arg0)) (m' ((c.tc : Thread nD τ).loc Cert.RwkvNextReferenceIdeal.main_arg3)) = expectedH m c
      rw [e0, e3]

end Cert.RwkvNextIdeal.Proj

end
-- ==== Proof.MlaOutRef.lean ====
/-
  The reference of the attention's output projection read entry by entry, on the extended reals.
-/
module

public import proofs.«01_k».proof.Proof.Gen.MlaOutReferenceIdeal.Read
public import proofs.«01_k».proof.Proof.FfnRow

@[expose] public section

set_option maxRecDepth 16384

noncomputable section

namespace Cert.MlaOutReferenceIdeal.Out

open Cert.Row
open Cert.MlaOutReferenceIdeal Cert.MlaOutReferenceIdeal.Gen Cert.MlaOutReferenceIdeal.Read Idealize.ShloMosaic Idealize.ShloMosaic.TcCoe Idealize.SL.Sem

/-- Column `k` of a row's values: the latents of the column's head times the head's weights. -/
def valueAt (o : Fin 16 → Fin 256 → EReal) (w : Fin 256 → Fin 16 → Fin 64 → EReal) (k : Fin 1024) : EReal :=
  ∑ q : Fin 256, o ⟨k.val / 64, by omega⟩ q * w q ⟨k.val / 64, by omega⟩ ⟨k.val % 64, by omega⟩

variable (x0 : (⟨S16384x1024, .f32⟩ : BufTy).Contents (Elt Ideal)) (x1 : (⟨S16x16384x256, .bf16⟩ : BufTy).Contents (Elt Ideal))
  (x2 : (⟨S256x16x64, .f32⟩ : BufTy).Contents (Elt Ideal)) (x3 : (⟨S1024x1024, .bf16⟩ : BufTy).Contents (Elt Ideal))
  (x4 : (⟨S8x1024, .f32⟩ : BufTy).Contents (Elt Ideal))

theorem value_apply (r : Fin 16384) (k : Fin 1024) :
    val_main_v3 (F := Ideal) x1 x2 (ix2 r k) = valueAt (fun h q => x1 (ix3 h r q)) (fun q h v => x2 (ix3 q h v)) k := by
  rw [val_main_v3_apply, val_main_v2_apply, val_main_v1_apply]
  unfold valueAt
  refine Finset.sum_congr rfl fun q _ => ?_
  have eL : lidx_main_v1 (idx_main_v2 (idx_main_v3 (ix2 r k))) q = ix3 q (⟨k.val / 64, by omega⟩ : Fin 16) (⟨k.val % 64, by omega⟩ : Fin 64) := by
    refine funext fun a => Fin.ext ?_
    match a with
    | ⟨0, _⟩ => rfl
    | ⟨1, _⟩ => show (r.val * 1024 + k.val) / 64 % 16 = k.val / 64; omega
    | ⟨2, _⟩ => show (r.val * 1024 + k.val) % 64 = k.val % 64; omega
  have eR : ridx_main_v1 (idx_main_v2 (idx_main_v3 (ix2 r k))) q = ix3 (⟨k.val / 64, by omega⟩ : Fin 16) r q := by
    refine funext fun a => Fin.ext ?_
    match a with
    | ⟨0, _⟩ => show (r.val * 1024 + k.val) / 64 % 16 = k.val / 64; omega
    | ⟨1, _⟩ => show (r.val * 1024 + k.val) / 1024 = r.val; omega
    | ⟨2, _⟩ => rfl
  rw [eL, eR, val_main_v0_apply]
  exact mul_comm _ _

theorem ref_apply (r : Fin 16384) (d : Fin 1024) :
    val_main_v21 (F := Ideal) x0 x1 x2 x3 x4 (ix2 r d)
      = x0 (ix2 r d) + normed (fun e => ∑ k : Fin 1024, valueAt (fun h q => x1 (ix3 h r q)) (fun q h v => x2 (ix3 q h v)) k * x3 (ix2 k e))
          (x4 (ix2 0 d)) d := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [value_apply]
  rfl

end Cert.MlaOutReferenceIdeal.Out
-- ==== Proof.MlaOutBlock.lean ====
/-
  A block of the attention's output projection read entry by entry, on the extended reals.
-/
module

public import proofs.«01_k».proof.Proof.Gen.MlaOutIdeal.Value
public import proofs.«01_k».proof.Proof.FfnRow
public import Idealize.ShloMosaic.Lib.Pipeline.ValueKit

@[expose] public section

set_option maxRecDepth 16384

noncomputable section

namespace Cert.MlaOutIdeal.Out

open Cert.Row
open Cert.MlaOutIdeal Cert.MlaOutIdeal.Gen Idealize.ShloMosaic Idealize.ShloMosaic.TcCoe Idealize.SL.Sem

/-- Column `j` of the values of the two heads of pair `p`, from the pair's block of weights. -/
def pairAt (x1 : Vec Ideal S16x512x256 .bf16) (x2 : Vec Ideal S8x512x128 .bf16) (r : Fin 512) (p : Fin 8) (j : Fin 128) : EReal :=
  ∑ q : Fin 256, x1 (ix3 ⟨2 * p.val, by omega⟩ r q) * x2 (ix3 p ⟨q.val, by omega⟩ j)
    + ∑ q : Fin 256, x1 (ix3 ⟨2 * p.val + 1, by omega⟩ r q) * x2 (ix3 p ⟨256 + q.val, by omega⟩ j)

/-- The values of all heads, side by side. -/
abbrev values (x1 : Vec Ideal S16x512x256 .bf16) (x2 : Vec Ideal S8x512x128 .bf16) : FVec Ideal S512x1024 .bf16 :=
  k0_pay10 (k0_pay2 (View.ld x2 r0_0) (View.ld x1 r0_1) (View.ld x1 r0_2)) (k0_pay3 (View.ld x2 r0_3) (View.ld x1 r0_4) (View.ld x1 r0_5)) (k0_pay6 (k0_pay4 (View.ld x2 r0_6)) (k0_pay5 (View.ld x2 r0_6) (View.ld x1 r0_7)) (View.ld x1 r0_8)) (k0_pay7 (View.ld x2 r0_9) (View.ld x1 r0_10) (View.ld x1 r0_11)) (k0_pay8 (View.ld x2 r0_12) (View.ld x1 r0_13) (View.ld x1 r0_14)) (k0_pay9 (View.ld x2 r0_15)) (View.ld x1 r0_16) (View.ld x1 r0_17) (View.ld x2 r0_18) (View.ld x1 r0_19) (View.ld x1 r0_20) (View.ld x2 r0_21) (View.ld x1 r0_22) (View.ld x1 r0_23)

set_option maxHeartbeats 4000000 in
theorem values_apply (x1 : Vec Ideal S16x512x256 .bf16) (x2 : Vec Ideal S8x512x128 .bf16) (r : Fin 512) (k : Fin 1024) :
    values x1 x2 (ix2 r k) = pairAt x1 x2 r ⟨k.val / 128, by omega⟩ ⟨k.val % 128, by omega⟩ := by
  have key : ∀ (a b : Fin 16) (p : Fin 8) (l : Fin 128), a.val = 2 * (k.val / 128) → b.val = 2 * (k.val / 128) + 1 → p.val = k.val / 128 →
      l.val = k.val % 128 →
      ∑ q : Fin 256, x1 (ix3 a r q) * x2 (ix3 p ⟨q.val, by omega⟩ l) + ∑ q : Fin 256, x1 (ix3 b r q) * x2 (ix3 p ⟨256 + q.val, by omega⟩ l)
        = pairAt x1 x2 r ⟨k.val / 128, by omega⟩ ⟨k.val % 128, by omega⟩ := by
    intro a b p l ha hb hp hl
    exact congrArg₂ (fun u v : EReal => u + v)
      (Finset.sum_congr rfl fun q _ => congrArg₂ (fun u v : EReal => u * v) (congrArg x1 (congrArg (fun z => ix3 z r q) (Fin.ext ha)))
        (congrArg x2 (congrArg₂ (fun z y => ix3 z (⟨q.val, by omega⟩ : Fin 512) y) (Fin.ext hp) (Fin.ext hl))))
      (Finset.sum_congr rfl fun q _ => congrArg₂ (fun u v : EReal => u * v) (congrArg x1 (congrArg (fun z => ix3 z r q) (Fin.ext hb)))
        (congrArg x2 (congrArg₂ (fun z y => ix3 z (⟨256 + q.val, by omega⟩ : Fin 512) y) (Fin.ext hp) (Fin.ext hl))))
  pointwise [values, k0_pay2, k0_pay3, k0_pay4, k0_pay5, k0_pay6, k0_pay7, k0_pay8, k0_pay9, k0_pay10]
  split
  · exact key 0 1 0 ⟨k.val, by omega⟩ (by show 0 = _; omega) (by show 1 = _; omega) (by show 0 = _; omega) (by dsimp only; omega)
  · skip
    split
    · exact key 2 3 1 ⟨k.val - 128, by omega⟩ (by show 2 = _; omega) (by show 3 = _; omega) (by show 1 = _; omega) (by dsimp only; omega)
    · skip
      split
      · exact key 4 5 2 ⟨k.val - 128 - 128, by omega⟩ (by show 4 = _; omega) (by show 5 = _; omega) (by show 2 = _; omega) (by dsimp only; omega)
      · skip
        split
        · exact key 6 7 3 ⟨k.val - 128 - 128 - 128, by omega⟩ (by show 6 = _; omega) (by show 7 = _; omega) (by show 3 = _; omega) (by dsimp only; omega)
        · skip
          split
          · exact key 8 9 4 ⟨k.val - 128 - 128 - 128 - 128, by omega⟩ (by show 8 = _; omega) (by show 9 = _; omega) (by show 4 = _; omega) (by dsimp only; omega)
          · skip
            split
            · exact key 10 11 5 ⟨k.val - 128 - 128 - 128 - 128 - 128, by omega⟩ (by show 10 = _; omega) (by show 11 = _; omega) (by show 5 = _; omega) (by dsimp only; omega)
            · skip
              split
              · exact key 12 13 6 ⟨k.val - 128 - 128 - 128 - 128 - 128 - 128, by omega⟩ (by show 12 = _; omega) (by show 13 = _; omega) (by show 6 = _; omega) (by dsimp only; omega)
              · skip
                exact key 14 15 7 ⟨k.val - 128 - 128 - 128 - 128 - 128 - 128 - 128, by omega⟩ (by show 14 = _; omega) (by show 15 = _; omega) (by show 7 = _; omega) (by dsimp only; omega)

theorem block_apply (x0 : Vec Ideal S512x1024 .f32) (x1 : Vec Ideal S16x512x256 .bf16) (x2 : Vec Ideal S8x512x128 .bf16)
  (x3 : Vec Ideal S1024x1024 .bf16) (x4 : Vec Ideal S8x1024 .f32) (r : Fin 512) (d : Fin 1024) :
    out0_5 (F := Ideal) x0 x1 x2 x3 x4 (ix2 r d)
      = x0 (ix2 r d) + normed (fun e => ∑ k : Fin 1024, values x1 x2 (ix2 r k) * x3 (ix2 k e)) (x4 (ix2 0 d)) d := by
  frame_out
  show k0_pay1 (values x1 x2) _ _ _ (ix2 r d) = _
  generalize values x1 x2 = g
  pointwise [k0_pay1]
  rfl

end Cert.MlaOutIdeal.Out
-- ==== Proof.MlaOutWeights.lean ====
/-
  The weights the attention's output projection is given: the host lays two heads to a block, each on its own rows and columns,
  with zeros between.
-/
module

public import proofs.«01_k».proof.Proof.Gen.MlaOutIdeal.Value
public import Idealize.ShloMosaic.Lib.Pointwise

@[expose] public section

set_option maxRecDepth 16384

noncomputable section

namespace Cert.MlaOutIdeal.Out

open Cert.MlaOutIdeal Cert.MlaOutIdeal.Gen Idealize.ShloMosaic Idealize.ShloMosaic.TcCoe Idealize.SL.Sem Idealize.ShloMosaic.StableHlo

/-- The weights of the heads, as they are given. -/
abbrev given (m : (ℓ : Loc nD τ sig) → Buf (Elt Ideal) ℓ) (c : Dev nD) : S256x16x64.Idx → EReal := m ((c.tc : Thread nD τ).loc main_arg2)

set_option maxHeartbeats 4000000 in
theorem weights_eq (m : (ℓ : Loc nD τ sig) → Buf (Elt Ideal) ℓ) (c : Dev nD) (p : Fin 8) (i j : Fin 2) (q : Fin 256) (v : Fin 64) :
    (V m c main_v14 : S8x512x128.Idx → EReal) (ix3 p ⟨i.val * 256 + q.val, by omega⟩ ⟨j.val * 64 + v.val, by omega⟩)
      = given m c (ix3 q ⟨2 * p.val + i.val, by omega⟩ v) * (if i = j then (1 : EReal) else 0) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  generalize hX : cmpi _ _ _ = X
  have key : ∀ i j : Fin 2, (X (ix2 i j) : BitVec 1) = BitVec.ofBool (decide (i = j)) := by
    subst hX
    decide +kernel
  generalize hM : (mulf _ _ : FVec Ideal S8x2x256x2x64 .f32) = M
  show (shapeCast S8x512x128 M shapeCasts_S8x2x256x2x64_S8x512x128 (ix3 p ⟨i.val * 256 + q.val, by omega⟩ ⟨j.val * 64 + v.val, by omega⟩) : EReal) = _
  refine (shapeCast_apply _ shapeCasts_S8x2x256x2x64_S8x512x128 _ (ix5 p i q j v) ?_).trans ?_
  · rewrite [Shape.rowMajor_val_five, Shape.rowMajor_val_three]
    show (((p.val * 2 + i.val) * 256 + q.val) * 2 + j.val) * 64 + v.val = (p.val * 512 + (i.val * 256 + q.val)) * 128 + (j.val * 64 + v.val)
    omega
  subst hM
  pointwise
  rw [key]
  refine congrArg₂ (fun u v : EReal => u * v) (congrArg (given m c) (congrArg (fun z : Fin 16 => ix3 q z v) (Fin.ext ?_))) ?_
  · show p.val * 2 + i.val = 2 * p.val + i.val
    omega
  · by_cases h : i = j
    · rw [if_pos h, decide_eq_true h]
      show (((1 : ℕ) : ℝ) : EReal) = 1
      norm_num
    · rw [if_neg h, decide_eq_false h]
      show (((0 : ℕ) : ℝ) : EReal) = 0
      norm_num

end Cert.MlaOutIdeal.Out
-- ==== Proof.MlaOutClaim.lean ====
/-
  The attention's output projection against its reference.
-/
module

public import proofs.«01_k».proof.Defs
public import proofs.«01_k».proof.Proof.Gen.MlaOut.Frame
public import proofs.«01_k».proof.Proof.Gen.MlaOutIdeal.Value
public import proofs.«01_k».proof.Proof.Gen.MlaOutReferenceIdeal.Run
public import proofs.«01_k».proof.Proof.Gen.MlaOutReferenceIdeal.Read
public import proofs.«01_k».proof.Proof.MlaOutRef
public import proofs.«01_k».proof.Proof.MlaOutBlock
public import proofs.«01_k».proof.Proof.MlaOutWeights
public import Idealize.ShloMosaic.Lib.Pipeline.ValueKit

@[expose] public section

set_option maxRecDepth 16384

noncomputable section

namespace Cert.MlaOutIdeal.Out

open Cert.MlaOutIdeal Cert.MlaOutIdeal.Gen Idealize.ShloMosaic Idealize.ShloMosaic.TcCoe Idealize.SL.Sem
open Idealize.ShloMosaic.Pipeline (Dat)
open Cert.Row Cert.MlaOutReferenceIdeal.Read

theorem where0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
theorem where1 : ∀ t : Fin cfg0.N, win0_1.index t ⟨0, by decide⟩ = 0 ∧ win0_1.index t ⟨1, by decide⟩ = t.val ∧ win0_1.index t ⟨2, by decide⟩ = 0 :=
  (by decide +kernel : ∀ t : Fin grid0.N, win0_1.index t ⟨0, by decide⟩ = 0 ∧ win0_1.index t ⟨1, by decide⟩ = t.val ∧ win0_1.index t ⟨2, by decide⟩ = 0)
theorem where2 : ∀ t : Fin cfg0.N, win0_2.index t ⟨0, by decide⟩ = 0 ∧ win0_2.index t ⟨1, by decide⟩ = 0 ∧ win0_2.index t ⟨2, by decide⟩ = 0 :=
  (by decide +kernel : ∀ t : Fin grid0.N, win0_2.index t ⟨0, by decide⟩ = 0 ∧ win0_2.index t ⟨1, by decide⟩ = 0 ∧ win0_2.index t ⟨2, by decide⟩ = 0)
theorem where3 : ∀ t : Fin cfg0.N, win0_3.index t ⟨0, by decide⟩ = 0 ∧ win0_3.index t ⟨1, by decide⟩ = 0 :=
  (by decide +kernel : ∀ t : Fin grid0.N, win0_3.index t ⟨0, by decide⟩ = 0 ∧ win0_3.index t ⟨1, by decide⟩ = 0)
theorem where4 : ∀ t : Fin cfg0.N, win0_4.index t ⟨0, by decide⟩ = 0 ∧ win0_4.index t ⟨1, by decide⟩ = 0 :=
  (by decide +kernel : ∀ t : Fin grid0.N, win0_4.index t ⟨0, by decide⟩ = 0 ∧ win0_4.index t ⟨1, by decide⟩ = 0)
theorem where5 : ∀ t : Fin cfg0.N, win0_5.index t ⟨0, by decide⟩ = t.val ∧ win0_5.index t ⟨1, by decide⟩ = 0 :=
  (by decide +kernel : ∀ t : Fin grid0.N, win0_5.index t ⟨0, by decide⟩ = t.val ∧ win0_5.index t ⟨1, by decide⟩ = 0)
theorem lt_N : ∀ t : Fin cfg0.N, t.val < 32 := (by decide +kernel : ∀ t : Fin grid0.N, t.val < 32)

/-- Row `r` of point `t`. -/
def row (t : Fin cfg0.N) (r : Fin 512) : Fin 16384 := ⟨512 * t.val + r.val, by have := lt_N t; omega⟩

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)

theorem iblk_0 (t : Fin cfg0.N) (r : Fin 512) (l : Fin 1024) : iblk m c 0 t (ix2 r l) = a0 m c (ix2 (row t r) l) := by
  have e := where0 t
  refine (congrArg (V m c main_arg0) (funext fun a => Fin.ext ?_)).trans (congrFun (V_main_arg0 m c) _)
  match a with
  | ⟨0, _⟩ =>
    show win0_0.index t ⟨0, by decide⟩ * 512 + 1 * r.val = 512 * t.val + r.val
    rw [e.1]; omega
  | ⟨1, _⟩ =>
    show win0_0.index t ⟨1, by decide⟩ * 1024 + 1 * l.val = l.val
    rw [e.2]; omega

theorem iblk_1 (t : Fin cfg0.N) (h : Fin 16) (r : Fin 512) (q : Fin 256) : iblk m c 1 t (ix3 h r q) = a1 m c (ix3 h (row t r) q) := by
  have e := where1 t
  refine (congrArg (V m c main_arg1) (funext fun a => Fin.ext ?_)).trans (congrFun (V_main_arg1 m c) _)
  match a with
  | ⟨0, _⟩ =>
    show win0_1.index t ⟨0, by decide⟩ * 16 + 1 * h.val = h.val
    rw [e.1]; omega
  | ⟨1, _⟩ =>
    show win0_1.index t ⟨1, by decide⟩ * 512 + 1 * r.val = 512 * t.val + r.val
    rw [e.2.1]; omega
  | ⟨2, _⟩ =>
    show win0_1.index t ⟨2, by decide⟩ * 256 + 1 * q.val = q.val
    rw [e.2.2]; omega

theorem iblk_2 (t : Fin cfg0.N) (p : Fin 8) (k : Fin 512) (l : Fin 128) : iblk m c 2 t (ix3 p k l) = V m c main_v14 (ix3 p k l) := by
  have e := where2 t
  refine congrArg (V m c main_v14) (funext fun a => Fin.ext ?_)
  match a with
  | ⟨0, _⟩ =>
    show win0_2.index t ⟨0, by decide⟩ * 8 + 1 * p.val = p.val
    rw [e.1]; omega
  | ⟨1, _⟩ =>
    show win0_2.index t ⟨1, by decide⟩ * 512 + 1 * k.val = k.val
    rw [e.2.1]; omega
  | ⟨2, _⟩ =>
    show win0_2.index t ⟨2, by decide⟩ * 128 + 1 * l.val = l.val
    rw [e.2.2]; omega

theorem iblk_3 (t : Fin cfg0.N) (r : Fin 1024) (l : Fin 1024) : iblk m c 3 t (ix2 r l) = a3 m c (ix2 r l) := by
  have e := where3 t
  refine (congrArg (V m c main_arg3) (funext fun a => Fin.ext ?_)).trans (congrFun (V_main_arg3 m c) _)
  match a with
  | ⟨0, _⟩ =>
    show win0_3.index t ⟨0, by decide⟩ * 1024 + 1 * r.val = r.val
    rw [e.1]; omega
  | ⟨1, _⟩ =>
    show win0_3.index t ⟨1, by decide⟩ * 1024 + 1 * l.val = l.val
    rw [e.2]; omega

theorem iblk_4 (t : Fin cfg0.N) (r : Fin 8) (l : Fin 1024) : iblk m c 4 t (ix2 r l) = a4 m c (ix2 r l) := by
  have e := where4 t
  refine (congrArg (V m c main_arg4) (funext fun a => Fin.ext ?_)).trans (congrFun (V_main_arg4 m c) _)
  match a with
  | ⟨0, _⟩ =>
    show win0_4.index t ⟨0, by decide⟩ * 8 + 1 * r.val = r.val
    rw [e.1]; omega
  | ⟨1, _⟩ =>
    show win0_4.index t ⟨1, by decide⟩ * 1024 + 1 * l.val = l.val
    rw [e.2]; omega

theorem read_o (G : Buf (Elt Ideal) ((c.tc : Thread nD τ).loc main_v15)) (t : Fin cfg0.N) (r : Fin 512) (l : Fin 1024) :
    ((cfg0.win 5).blk t).view.read (Elt Ideal) G (ix2 r l) = G (ix2 (row t r) l) := by
  have e := where5 t
  show G _ = _
  refine congrArg G (funext fun a => Fin.ext ?_)
  match a with
  | ⟨0, _⟩ =>
    show win0_5.index t ⟨0, by decide⟩ * 512 + 1 * r.val = 512 * t.val + r.val
    rw [e.1]; omega
  | ⟨1, _⟩ =>
    show win0_5.index t ⟨1, by decide⟩ * 1024 + 1 * l.val = l.val
    rw [e.2]; omega

/-- The weight of row `i * 256 + q` and column `j` of pair `p`, as the block holds it. -/
theorem weight_at (t : Fin cfg0.N) (p : Fin 8) (i : Fin 2) (q : Fin 256) (k : Fin 512) (l : Fin 128) (hk : k.val = i.val * 256 + q.val) :
    iblk m c 2 t (ix3 p k l) = given m c (ix3 q ⟨2 * p.val + i.val, by omega⟩ ⟨l.val % 64, by omega⟩)
      * (if i = (⟨l.val / 64, by omega⟩ : Fin 2) then (1 : EReal) else 0) := by
  have ek : k = ⟨i.val * 256 + q.val, by omega⟩ := Fin.ext hk
  have el : l = ⟨(⟨l.val / 64, by omega⟩ : Fin 2).val * 64 + (⟨l.val % 64, by omega⟩ : Fin 64).val, by dsimp only; omega⟩ :=
    Fin.ext (by dsimp only; omega)
  refine (iblk_2 m c t p k l).trans (Eq.trans ?_ (weights_eq m c p i ⟨l.val / 64, by omega⟩ q ⟨l.val % 64, by omega⟩))
  exact congrArg₂ (fun y z => (V m c main_v14 : S8x512x128.Idx → EReal) (ix3 p y z)) ek el

/-- A row's values from the blocks: of a pair's two products one meets the zeros. -/
theorem values_eq (t : Fin cfg0.N) (r : Fin 512) (k : Fin 1024) :
    values (iblk m c 1 t) (iblk m c 2 t) (ix2 r k)
      = Cert.MlaOutReferenceIdeal.Out.valueAt (fun h q => a1 m c (ix3 h (row t r) q)) (fun q h v => a2 m c (ix3 q h v)) k := by
  rw [values_apply]
  unfold pairAt Cert.MlaOutReferenceIdeal.Out.valueAt
  have w0 := fun q : Fin 256 => weight_at m c t ⟨k.val / 128, by omega⟩ 0 q ⟨q.val, by omega⟩ ⟨k.val % 128, by omega⟩
    (by show q.val = 0 * 256 + q.val; omega)
  have w1 := fun q : Fin 256 => weight_at m c t ⟨k.val / 128, by omega⟩ 1 q ⟨256 + q.val, by omega⟩ ⟨k.val % 128, by omega⟩
    (by show 256 + q.val = 1 * 256 + q.val; omega)
  by_cases hj : k.val % 128 < 64
  · have d0 : (0 : Fin 2) = (⟨k.val % 128 / 64, by omega⟩ : Fin 2) := Fin.ext (by show 0 = k.val % 128 / 64; omega)
    have d1 : ¬ (1 : Fin 2) = (⟨k.val % 128 / 64, by omega⟩ : Fin 2) := fun h => by
      have h' : 1 = k.val % 128 / 64 := congrArg Fin.val h
      omega
    refine Eq.trans (congrArg₂ (fun u v : EReal => u + v) (Finset.sum_congr rfl fun q _ => ?_) (Finset.sum_eq_zero fun q _ => ?_)) (add_zero _)
    · rw [w0 q, if_pos d0, mul_one, iblk_1]
      exact congrArg₂ (fun u v : EReal => u * v)
        (congrArg (fun z : Fin 16 => a1 m c (ix3 z (row t r) q)) (Fin.ext (by show 2 * (k.val / 128) = k.val / 64; omega)))
        (congrArg₂ (fun (z : Fin 16) (y : Fin 64) => a2 m c (ix3 q z y)) (Fin.ext (by show 2 * (k.val / 128) + 0 = k.val / 64; omega))
          (Fin.ext (by show k.val % 128 % 64 = k.val % 64; omega)))
    · rw [w1 q, if_neg d1, mul_zero, mul_zero]
  · have d1 : (1 : Fin 2) = (⟨k.val % 128 / 64, by omega⟩ : Fin 2) := Fin.ext (by show 1 = k.val % 128 / 64; omega)
    have d0 : ¬ (0 : Fin 2) = (⟨k.val % 128 / 64, by omega⟩ : Fin 2) := fun h => by
      have h' : 0 = k.val % 128 / 64 := congrArg Fin.val h
      omega
    refine Eq.trans (congrArg₂ (fun u v : EReal => u + v) (Finset.sum_eq_zero fun q _ => ?_) (Finset.sum_congr rfl fun q _ => ?_)) (zero_add _)
    · rw [w0 q, if_neg d0, mul_zero, mul_zero]
    · rw [w1 q, if_pos d1, mul_one, iblk_1]
      exact congrArg₂ (fun u v : EReal => u * v)
        (congrArg (fun z : Fin 16 => a1 m c (ix3 z (row t r) q)) (Fin.ext (by show 2 * (k.val / 128) + 1 = k.val / 64; omega)))
        (congrArg₂ (fun (z : Fin 16) (y : Fin 64) => a2 m c (ix3 q z y)) (Fin.ext (by show 2 * (k.val / 128) + 1 = k.val / 64; omega))
          (Fin.ext (by show k.val % 128 % 64 = k.val % 64; omega)))

/-- The reference's result on the kernel's arguments. -/
abbrev expected : Buf (Elt Ideal) ((c.tc : Thread nD τ).loc main_v15) := val_main_v21 (F := Ideal) (a0 m c) (a1 m c) (a2 m c) (a3 m c) (a4 m c)

/-- Point `t` writes back its block of the reference's result. -/
theorem flushed_eq (t : Fin cfg0.N) : (dats m 0 c).flushed 5 t = ((cfg0.win 5).blk t).view.read (Elt Ideal) (expected m c) := by
  rw [Cert.MlaOutIdeal.Value.flushed5]
  funext x
  obtain ⟨r, d, rfl⟩ : ∃ (r : Fin 512) (d : Fin 1024), x = ix2 r d := ⟨x 0, x 1, eq_ix2 x⟩
  rw [read_o]
  unfold expected
  rw [Cert.MlaOutReferenceIdeal.Out.ref_apply]
  refine (block_apply (iblk m c 0 t) (iblk m c 1 t) (iblk m c 2 t) (iblk m c 3 t) (iblk m c 4 t) r d).trans ?_
  simp only [iblk_0, iblk_3, iblk_4, values_eq]

theorem cover (i : S16384x1024.Idx) : ∃ t : Fin cfg0.N, (cfg0.win 5).flush t = true ∧ i ∈ ((cfg0.win 5).blk t).view.set := by
  obtain ⟨n, l, rfl⟩ : ∃ (n : Fin 16384) (l : Fin 1024), i = ix2 n l := ⟨i 0, i 1, eq_ix2 i⟩
  have hlt : n.val / 512 < cfg0.N := lt_of_lt_of_eq (show n.val / 512 < 32 by omega) (by decide +kernel : 32 = grid0.N)
  have e := where5 ⟨n.val / 512, hlt⟩
  refine ⟨⟨n.val / 512, hlt⟩, flush0_5 _, ?_⟩
  refine Finset.mem_map.mpr ⟨ix2 (⟨n.val % 512, by omega⟩ : Fin 512) l, Finset.mem_univ _, funext fun a => Fin.ext ?_⟩
  match a with
  | ⟨0, _⟩ =>
    show win0_5.index ⟨n.val / 512, hlt⟩ ⟨0, by decide⟩ * 512 + 1 * (n.val % 512) = n.val
    rw [e.1]; show n.val / 512 * 512 + 1 * (n.val % 512) = n.val; omega
  | ⟨1, _⟩ =>
    show win0_5.index ⟨n.val / 512, hlt⟩ ⟨1, by decide⟩ * 1024 + 1 * l.val = l.val
    rw [e.2]; omega

theorem result_eq : (dats m 0 c).arrAt 5 cfg0.N = expected m c :=
  (dats m 0 c).arrAt_eq_of_cover 5 (expected m c) (fun t _ => flushed_eq m c t) (fun i => cover i)

/-- The value claim: at every argument, kernel and reference both run and end with the same result. -/
theorem algebraic : Cert.algebraic_MlaOutIdeal_MlaOutReferenceIdeal (hMlaOutIdeal := Cert.MlaOutIdeal.Gen.facts)
    (hMlaOutReferenceIdeal := Cert.MlaOutReferenceIdeal.Gen.facts) := by
  intro m g m' g' _ hargs
  refine ⟨fun c => expected m c, ?_, ?_⟩
  · refine (θ_run _ _ _).mono (fun r h c => ?_) (Cert.MlaOutIdeal.Value.run_blocks m g)
    obtain ⟨h0, hk⟩ := h c
    exact ⟨h0.trans (result_eq m c), hk⟩
  · refine (θ_run _ _ _).mono (fun r h c => ?_) (Cert.MlaOutReferenceIdeal.Value.run m' g')
    obtain ⟨h0, hk⟩ := h c
    obtain ⟨e0, e1, e2, e3, e4⟩ := hargs c
    refine ⟨h0.trans ?_, hk⟩
    rw [val_main_v21_eq, e0, e1, e2, e3, e4]

end Cert.MlaOutIdeal.Out
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.AttendClaim
public import proofs.«01_k».proof.Proof.FfnClaim
public import proofs.«01_k».proof.Proof.OutClaim
public import proofs.«01_k».proof.Proof.GdnProjClaim
public import proofs.«01_k».proof.Proof.RwkvFirstClaim
public import proofs.«01_k».proof.Proof.RwkvNextClaim
public import proofs.«01_k».proof.Proof.MlaOutClaim
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference runs at every argument, keeps both arguments, and ends with every semaphore at zero: it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run _ _ _).mono
    (fun r h => And.intro (fun c => (h c).2) (sem_eq_zero_of_no_sems (by decide) r.2))
    (Cert.ReferenceIdeal.Value.run (F := Ideal) m g)

/-- The feed-forward reference likewise. -/
theorem ffn_reference_frame (m : (ℓ : Loc Cert.FfnReferenceIdeal.nD Cert.FfnReferenceIdeal.τ Cert.FfnReferenceIdeal.sig) → Buf (Elt Ideal) ℓ)
    (g : Dev Cert.FfnReferenceIdeal.nD → PrngReg) :
    θ_run (Cert.FfnReferenceIdeal.defs (F := Ideal))
      (onTc (τ := Cert.FfnReferenceIdeal.τ) (Cert.FfnReferenceIdeal.main (F := Ideal))) ⟨m, fun _ => 0, g⟩
      (fun r => (∀ c : Dev Cert.FfnReferenceIdeal.nD,
        r.2.mem ((c.tc : Thread Cert.FfnReferenceIdeal.nD Cert.FfnReferenceIdeal.τ).loc Cert.FfnReferenceIdeal.main_arg0)
          = m ((c.tc : Thread Cert.FfnReferenceIdeal.nD Cert.FfnReferenceIdeal.τ).loc Cert.FfnReferenceIdeal.main_arg0)
        ∧ r.2.mem ((c.tc : Thread Cert.FfnReferenceIdeal.nD Cert.FfnReferenceIdeal.τ).loc Cert.FfnReferenceIdeal.main_arg1)
          = m ((c.tc : Thread Cert.FfnReferenceIdeal.nD Cert.FfnReferenceIdeal.τ).loc Cert.FfnReferenceIdeal.main_arg1)
        ∧ r.2.mem ((c.tc : Thread Cert.FfnReferenceIdeal.nD Cert.FfnReferenceIdeal.τ).loc Cert.FfnReferenceIdeal.main_arg2)
          = m ((c.tc : Thread Cert.FfnReferenceIdeal.nD Cert.FfnReferenceIdeal.τ).loc Cert.FfnReferenceIdeal.main_arg2)
        ∧ r.2.mem ((c.tc : Thread Cert.FfnReferenceIdeal.nD Cert.FfnReferenceIdeal.τ).loc Cert.FfnReferenceIdeal.main_arg3)
          = m ((c.tc : Thread Cert.FfnReferenceIdeal.nD Cert.FfnReferenceIdeal.τ).loc Cert.FfnReferenceIdeal.main_arg3)
        ∧ r.2.mem ((c.tc : Thread Cert.FfnReferenceIdeal.nD Cert.FfnReferenceIdeal.τ).loc Cert.FfnReferenceIdeal.main_arg4)
          = m ((c.tc : Thread Cert.FfnReferenceIdeal.nD Cert.FfnReferenceIdeal.τ).loc Cert.FfnReferenceIdeal.main_arg4)
        ∧ r.2.mem ((c.tc : Thread Cert.FfnReferenceIdeal.nD Cert.FfnReferenceIdeal.τ).loc Cert.FfnReferenceIdeal.main_arg5)
          = m ((c.tc : Thread Cert.FfnReferenceIdeal.nD Cert.FfnReferenceIdeal.τ).loc Cert.FfnReferenceIdeal.main_arg5))
        ∧ r.2.sem = fun _ => 0) :=
  (θ_run _ _ _).mono
    (fun r h => And.intro (fun c => (h c).2.2) (sem_eq_zero_of_no_sems (by decide) r.2))
    (Cert.FfnReferenceIdeal.Value.run (F := Ideal) m g)

/-- The reference of the first output projection likewise. -/
theorem rwkv_out_reference_frame (m : (ℓ : Loc Cert.RwkvOutReferenceIdeal.nD Cert.RwkvOutReferenceIdeal.τ Cert.RwkvOutReferenceIdeal.sig) → Buf (Elt Ideal) ℓ)
    (g : Dev Cert.RwkvOutReferenceIdeal.nD → PrngReg) :
    θ_run (Cert.RwkvOutReferenceIdeal.defs (F := Ideal))
      (onTc (τ := Cert.RwkvOutReferenceIdeal.τ) (Cert.RwkvOutReferenceIdeal.main (F := Ideal))) ⟨m, fun _ => 0, g⟩
      (fun r => (∀ c : Dev Cert.RwkvOutReferenceIdeal.nD,
        r.2.mem ((c.tc : Thread Cert.RwkvOutReferenceIdeal.nD Cert.RwkvOutReferenceIdeal.τ).loc Cert.RwkvOutReferenceIdeal.main_arg0)
          = m ((c.tc : Thread Cert.RwkvOutReferenceIdeal.nD Cert.RwkvOutReferenceIdeal.τ).loc Cert.RwkvOutReferenceIdeal.main_arg0)
        ∧ r.2.mem ((c.tc : Thread Cert.RwkvOutReferenceIdeal.nD Cert.RwkvOutReferenceIdeal.τ).loc Cert.RwkvOutReferenceIdeal.main_arg1)
          = m ((c.tc : Thread Cert.RwkvOutReferenceIdeal.nD Cert.RwkvOutReferenceIdeal.τ).loc Cert.RwkvOutReferenceIdeal.main_arg1)
        ∧ r.2.mem ((c.tc : Thread Cert.RwkvOutReferenceIdeal.nD Cert.RwkvOutReferenceIdeal.τ).loc Cert.RwkvOutReferenceIdeal.main_arg2)
          = m ((c.tc : Thread Cert.RwkvOutReferenceIdeal.nD Cert.RwkvOutReferenceIdeal.τ).loc Cert.RwkvOutReferenceIdeal.main_arg2)
        ∧ r.2.mem ((c.tc : Thread Cert.RwkvOutReferenceIdeal.nD Cert.RwkvOutReferenceIdeal.τ).loc Cert.RwkvOutReferenceIdeal.main_arg3)
          = m ((c.tc : Thread Cert.RwkvOutReferenceIdeal.nD Cert.RwkvOutReferenceIdeal.τ).loc Cert.RwkvOutReferenceIdeal.main_arg3)
        ∧ r.2.mem ((c.tc : Thread Cert.RwkvOutReferenceIdeal.nD Cert.RwkvOutReferenceIdeal.τ).loc Cert.RwkvOutReferenceIdeal.main_arg4)
          = m ((c.tc : Thread Cert.RwkvOutReferenceIdeal.nD Cert.RwkvOutReferenceIdeal.τ).loc Cert.RwkvOutReferenceIdeal.main_arg4))
        ∧ r.2.sem = fun _ => 0) :=
  (θ_run _ _ _).mono
    (fun r h => And.intro (fun c => (h c).2) (sem_eq_zero_of_no_sems (by decide) r.2))
    (Cert.RwkvOutReferenceIdeal.Value.run (F := Ideal) m g)

/-- The reference of the second output projection likewise. -/
theorem gdn_out_reference_frame (m : (ℓ : Loc Cert.GdnOutReferenceIdeal.nD Cert.GdnOutReferenceIdeal.τ Cert.GdnOutReferenceIdeal.sig) → Buf (Elt Ideal) ℓ)
    (g : Dev Cert.GdnOutReferenceIdeal.nD → PrngReg) :
    θ_run (Cert.GdnOutReferenceIdeal.defs (F := Ideal))
      (onTc (τ := Cert.GdnOutReferenceIdeal.τ) (Cert.GdnOutReferenceIdeal.main (F := Ideal))) ⟨m, fun _ => 0, g⟩
      (fun r => (∀ c : Dev Cert.GdnOutReferenceIdeal.nD,
        r.2.mem ((c.tc : Thread Cert.GdnOutReferenceIdeal.nD Cert.GdnOutReferenceIdeal.τ).loc Cert.GdnOutReferenceIdeal.main_arg0)
          = m ((c.tc : Thread Cert.GdnOutReferenceIdeal.nD Cert.GdnOutReferenceIdeal.τ).loc Cert.GdnOutReferenceIdeal.main_arg0)
        ∧ r.2.mem ((c.tc : Thread Cert.GdnOutReferenceIdeal.nD Cert.GdnOutReferenceIdeal.τ).loc Cert.GdnOutReferenceIdeal.main_arg1)
          = m ((c.tc : Thread Cert.GdnOutReferenceIdeal.nD Cert.GdnOutReferenceIdeal.τ).loc Cert.GdnOutReferenceIdeal.main_arg1)
        ∧ r.2.mem ((c.tc : Thread Cert.GdnOutReferenceIdeal.nD Cert.GdnOutReferenceIdeal.τ).loc Cert.GdnOutReferenceIdeal.main_arg2)
          = m ((c.tc : Thread Cert.GdnOutReferenceIdeal.nD Cert.GdnOutReferenceIdeal.τ).loc Cert.GdnOutReferenceIdeal.main_arg2)
        ∧ r.2.mem ((c.tc : Thread Cert.GdnOutReferenceIdeal.nD Cert.GdnOutReferenceIdeal.τ).loc Cert.GdnOutReferenceIdeal.main_arg3)
          = m ((c.tc : Thread Cert.GdnOutReferenceIdeal.nD Cert.GdnOutReferenceIdeal.τ).loc Cert.GdnOutReferenceIdeal.main_arg3))
        ∧ r.2.sem = fun _ => 0) :=
  (θ_run _ _ _).mono
    (fun r h => And.intro (fun c => (h c).2) (sem_eq_zero_of_no_sems (by decide) r.2))
    (Cert.GdnOutReferenceIdeal.Value.run (F := Ideal) m g)

/-- The reference of the `gdn` input projection likewise. -/
theorem gdn_proj_reference_frame (m : (ℓ : Loc Cert.GdnProjReferenceIdeal.nD Cert.GdnProjReferenceIdeal.τ Cert.GdnProjReferenceIdeal.sig) → Buf (Elt Ideal) ℓ)
    (g : Dev Cert.GdnProjReferenceIdeal.nD → PrngReg) :
    θ_run (Cert.GdnProjReferenceIdeal.defs (F := Ideal))
      (onTc (τ := Cert.GdnProjReferenceIdeal.τ) (Cert.GdnProjReferenceIdeal.main (F := Ideal))) ⟨m, fun _ => 0, g⟩
      (fun r => (∀ c : Dev Cert.GdnProjReferenceIdeal.nD,
        r.2.mem ((c.tc : Thread Cert.GdnProjReferenceIdeal.nD Cert.GdnProjReferenceIdeal.τ).loc Cert.GdnProjReferenceIdeal.main_arg0)
          = m ((c.tc : Thread Cert.GdnProjReferenceIdeal.nD Cert.GdnProjReferenceIdeal.τ).loc Cert.GdnProjReferenceIdeal.main_arg0)
        ∧ r.2.mem ((c.tc : Thread Cert.GdnProjReferenceIdeal.nD Cert.GdnProjReferenceIdeal.τ).loc Cert.GdnProjReferenceIdeal.main_arg1)
          = m ((c.tc : Thread Cert.GdnProjReferenceIdeal.nD Cert.GdnProjReferenceIdeal.τ).loc Cert.GdnProjReferenceIdeal.main_arg1)
        ∧ r.2.mem ((c.tc : Thread Cert.GdnProjReferenceIdeal.nD Cert.GdnProjReferenceIdeal.τ).loc Cert.GdnProjReferenceIdeal.main_arg2)
          = m ((c.tc : Thread Cert.GdnProjReferenceIdeal.nD Cert.GdnProjReferenceIdeal.τ).loc Cert.GdnProjReferenceIdeal.main_arg2)
        ∧ r.2.mem ((c.tc : Thread Cert.GdnProjReferenceIdeal.nD Cert.GdnProjReferenceIdeal.τ).loc Cert.GdnProjReferenceIdeal.main_arg3)
          = m ((c.tc : Thread Cert.GdnProjReferenceIdeal.nD Cert.GdnProjReferenceIdeal.τ).loc Cert.GdnProjReferenceIdeal.main_arg3)
        ∧ r.2.mem ((c.tc : Thread Cert.GdnProjReferenceIdeal.nD Cert.GdnProjReferenceIdeal.τ).loc Cert.GdnProjReferenceIdeal.main_arg4)
          = m ((c.tc : Thread Cert.GdnProjReferenceIdeal.nD Cert.GdnProjReferenceIdeal.τ).loc Cert.GdnProjReferenceIdeal.main_arg4)
        ∧ r.2.mem ((c.tc : Thread Cert.GdnProjReferenceIdeal.nD Cert.GdnProjReferenceIdeal.τ).loc Cert.GdnProjReferenceIdeal.main_arg5)
          = m ((c.tc : Thread Cert.GdnProjReferenceIdeal.nD Cert.GdnProjReferenceIdeal.τ).loc Cert.GdnProjReferenceIdeal.main_arg5)
        ∧ r.2.mem ((c.tc : Thread Cert.GdnProjReferenceIdeal.nD Cert.GdnProjReferenceIdeal.τ).loc Cert.GdnProjReferenceIdeal.main_arg6)
          = m ((c.tc : Thread Cert.GdnProjReferenceIdeal.nD Cert.GdnProjReferenceIdeal.τ).loc Cert.GdnProjReferenceIdeal.main_arg6)
        ∧ r.2.mem ((c.tc : Thread Cert.GdnProjReferenceIdeal.nD Cert.GdnProjReferenceIdeal.τ).loc Cert.GdnProjReferenceIdeal.main_arg7)
          = m ((c.tc : Thread Cert.GdnProjReferenceIdeal.nD Cert.GdnProjReferenceIdeal.τ).loc Cert.GdnProjReferenceIdeal.main_arg7))
        ∧ r.2.sem = fun _ => 0) :=
  (θ_run _ _ _).mono
    (fun r h => And.intro (fun c => (h c).2.2.2.2.2.2.2) (sem_eq_zero_of_no_sems (by decide) r.2))
    (Cert.GdnProjReferenceIdeal.Value.run (F := Ideal) m g)

/-- The reference of the first `rwkv` input projection likewise. -/
theorem rwkv_first_reference_frame (m : (ℓ : Loc Cert.RwkvFirstReferenceIdeal.nD Cert.RwkvFirstReferenceIdeal.τ Cert.RwkvFirstReferenceIdeal.sig) → Buf (Elt Ideal) ℓ)
    (g : Dev Cert.RwkvFirstReferenceIdeal.nD → PrngReg) :
    θ_run (Cert.RwkvFirstReferenceIdeal.defs (F := Ideal))
      (onTc (τ := Cert.RwkvFirstReferenceIdeal.τ) (Cert.RwkvFirstReferenceIdeal.main (F := Ideal))) ⟨m, fun _ => 0, g⟩
      (fun r => (∀ c : Dev Cert.RwkvFirstReferenceIdeal.nD,
        r.2.mem ((c.tc : Thread Cert.RwkvFirstReferenceIdeal.nD Cert.RwkvFirstReferenceIdeal.τ).loc Cert.RwkvFirstReferenceIdeal.main_arg0)
          = m ((c.tc : Thread Cert.RwkvFirstReferenceIdeal.nD Cert.RwkvFirstReferenceIdeal.τ).loc Cert.RwkvFirstReferenceIdeal.main_arg0)
        ∧ r.2.mem ((c.tc : Thread Cert.RwkvFirstReferenceIdeal.nD Cert.RwkvFirstReferenceIdeal.τ).loc Cert.RwkvFirstReferenceIdeal.main_arg1)
          = m ((c.tc : Thread Cert.RwkvFirstReferenceIdeal.nD Cert.RwkvFirstReferenceIdeal.τ).loc Cert.RwkvFirstReferenceIdeal.main_arg1)
        ∧ r.2.mem ((c.tc : Thread Cert.RwkvFirstReferenceIdeal.nD Cert.RwkvFirstReferenceIdeal.τ).loc Cert.RwkvFirstReferenceIdeal.main_arg2)
          = m ((c.tc : Thread Cert.RwkvFirstReferenceIdeal.nD Cert.RwkvFirstReferenceIdeal.τ).loc Cert.RwkvFirstReferenceIdeal.main_arg2)
        ∧ r.2.mem ((c.tc : Thread Cert.RwkvFirstReferenceIdeal.nD Cert.RwkvFirstReferenceIdeal.τ).loc Cert.RwkvFirstReferenceIdeal.main_arg3)
          = m ((c.tc : Thread Cert.RwkvFirstReferenceIdeal.nD Cert.RwkvFirstReferenceIdeal.τ).loc Cert.RwkvFirstReferenceIdeal.main_arg3)
        ∧ r.2.mem ((c.tc : Thread Cert.RwkvFirstReferenceIdeal.nD Cert.RwkvFirstReferenceIdeal.τ).loc Cert.RwkvFirstReferenceIdeal.main_arg4)
          = m ((c.tc : Thread Cert.RwkvFirstReferenceIdeal.nD Cert.RwkvFirstReferenceIdeal.τ).loc Cert.RwkvFirstReferenceIdeal.main_arg4)
        ∧ r.2.mem ((c.tc : Thread Cert.RwkvFirstReferenceIdeal.nD Cert.RwkvFirstReferenceIdeal.τ).loc Cert.RwkvFirstReferenceIdeal.main_arg5)
          = m ((c.tc : Thread Cert.RwkvFirstReferenceIdeal.nD Cert.RwkvFirstReferenceIdeal.τ).loc Cert.RwkvFirstReferenceIdeal.main_arg5)
        ∧ r.2.mem ((c.tc : Thread Cert.RwkvFirstReferenceIdeal.nD Cert.RwkvFirstReferenceIdeal.τ).loc Cert.RwkvFirstReferenceIdeal.main_arg6)
          = m ((c.tc : Thread Cert.RwkvFirstReferenceIdeal.nD Cert.RwkvFirstReferenceIdeal.τ).loc Cert.RwkvFirstReferenceIdeal.main_arg6)
        ∧ r.2.mem ((c.tc : Thread Cert.RwkvFirstReferenceIdeal.nD Cert.RwkvFirstReferenceIdeal.τ).loc Cert.RwkvFirstReferenceIdeal.main_arg7)
          = m ((c.tc : Thread Cert.RwkvFirstReferenceIdeal.nD Cert.RwkvFirstReferenceIdeal.τ).loc Cert.RwkvFirstReferenceIdeal.main_arg7)
        ∧ r.2.mem ((c.tc : Thread Cert.RwkvFirstReferenceIdeal.nD Cert.RwkvFirstReferenceIdeal.τ).loc Cert.RwkvFirstReferenceIdeal.main_arg8)
          = m ((c.tc : Thread Cert.RwkvFirstReferenceIdeal.nD Cert.RwkvFirstReferenceIdeal.τ).loc Cert.RwkvFirstReferenceIdeal.main_arg8)
        ∧ r.2.mem ((c.tc : Thread Cert.RwkvFirstReferenceIdeal.nD Cert.RwkvFirstReferenceIdeal.τ).loc Cert.RwkvFirstReferenceIdeal.main_arg9)
          = m ((c.tc : Thread Cert.RwkvFirstReferenceIdeal.nD Cert.RwkvFirstReferenceIdeal.τ).loc Cert.RwkvFirstReferenceIdeal.main_arg9))
        ∧ r.2.sem = fun _ => 0) :=
  (θ_run _ _ _).mono
    (fun r h => And.intro (fun c => (h c).2.2.2.2.2.2.2.2) (sem_eq_zero_of_no_sems (by decide) r.2))
    (Cert.RwkvFirstReferenceIdeal.Value.run (F := Ideal) m g)

/-- The reference of the later `rwkv` input projection likewise. -/
theorem rwkv_next_reference_frame (m : (ℓ : Loc Cert.RwkvNextReferenceIdeal.nD Cert.RwkvNextReferenceIdeal.τ Cert.RwkvNextReferenceIdeal.sig) → Buf (Elt Ideal) ℓ)
    (g : Dev Cert.RwkvNextReferenceIdeal.nD → PrngReg) :
    θ_run (Cert.RwkvNextReferenceIdeal.defs (F := Ideal))
      (onTc (τ := Cert.RwkvNextReferenceIdeal.τ) (Cert.RwkvNextReferenceIdeal.main (F := Ideal))) ⟨m, fun _ => 0, g⟩
      (fun r => (∀ c : Dev Cert.RwkvNextReferenceIdeal.nD,
        r.2.mem ((c.tc : Thread Cert.RwkvNextReferenceIdeal.nD Cert.RwkvNextReferenceIdeal.τ).loc Cert.RwkvNextReferenceIdeal.main_arg0)
          = m ((c.tc : Thread Cert.RwkvNextReferenceIdeal.nD Cert.RwkvNextReferenceIdeal.τ).loc Cert.RwkvNextReferenceIdeal.main_arg0)
        ∧ r.2.mem ((c.tc : Thread Cert.RwkvNextReferenceIdeal.nD Cert.RwkvNextReferenceIdeal.τ).loc Cert.RwkvNextReferenceIdeal.main_arg1)
          = m ((c.tc : Thread Cert.RwkvNextReferenceIdeal.nD Cert.RwkvNextReferenceIdeal.τ).loc Cert.RwkvNextReferenceIdeal.main_arg1)
        ∧ r.2.mem ((c.tc : Thread Cert.RwkvNextReferenceIdeal.nD Cert.RwkvNextReferenceIdeal.τ).loc Cert.RwkvNextReferenceIdeal.main_arg2)
          = m ((c.tc : Thread Cert.RwkvNextReferenceIdeal.nD Cert.RwkvNextReferenceIdeal.τ).loc Cert.RwkvNextReferenceIdeal.main_arg2)
        ∧ r.2.mem ((c.tc : Thread Cert.RwkvNextReferenceIdeal.nD Cert.RwkvNextReferenceIdeal.τ).loc Cert.RwkvNextReferenceIdeal.main_arg3)
          = m ((c.tc : Thread Cert.RwkvNextReferenceIdeal.nD Cert.RwkvNextReferenceIdeal.τ).loc Cert.RwkvNextReferenceIdeal.main_arg3)
        ∧ r.2.mem ((c.tc : Thread Cert.RwkvNextReferenceIdeal.nD Cert.RwkvNextReferenceIdeal.τ).loc Cert.RwkvNextReferenceIdeal.main_arg4)
          = m ((c.tc : Thread Cert.RwkvNextReferenceIdeal.nD Cert.RwkvNextReferenceIdeal.τ).loc Cert.RwkvNextReferenceIdeal.main_arg4)
        ∧ r.2.mem ((c.tc : Thread Cert.RwkvNextReferenceIdeal.nD Cert.RwkvNextReferenceIdeal.τ).loc Cert.RwkvNextReferenceIdeal.main_arg5)
          = m ((c.tc : Thread Cert.RwkvNextReferenceIdeal.nD Cert.RwkvNextReferenceIdeal.τ).loc Cert.RwkvNextReferenceIdeal.main_arg5)
        ∧ r.2.mem ((c.tc : Thread Cert.RwkvNextReferenceIdeal.nD Cert.RwkvNextReferenceIdeal.τ).loc Cert.RwkvNextReferenceIdeal.main_arg6)
          = m ((c.tc : Thread Cert.RwkvNextReferenceIdeal.nD Cert.RwkvNextReferenceIdeal.τ).loc Cert.RwkvNextReferenceIdeal.main_arg6)
        ∧ r.2.mem ((c.tc : Thread Cert.RwkvNextReferenceIdeal.nD Cert.RwkvNextReferenceIdeal.τ).loc Cert.RwkvNextReferenceIdeal.main_arg7)
          = m ((c.tc : Thread Cert.RwkvNextReferenceIdeal.nD Cert.RwkvNextReferenceIdeal.τ).loc Cert.RwkvNextReferenceIdeal.main_arg7)
        ∧ r.2.mem ((c.tc : Thread Cert.RwkvNextReferenceIdeal.nD Cert.RwkvNextReferenceIdeal.τ).loc Cert.RwkvNextReferenceIdeal.main_arg8)
          = m ((c.tc : Thread Cert.RwkvNextReferenceIdeal.nD Cert.RwkvNextReferenceIdeal.τ).loc Cert.RwkvNextReferenceIdeal.main_arg8)
        ∧ r.2.mem ((c.tc : Thread Cert.RwkvNextReferenceIdeal.nD Cert.RwkvNextReferenceIdeal.τ).loc Cert.RwkvNextReferenceIdeal.main_arg9)
          = m ((c.tc : Thread Cert.RwkvNextReferenceIdeal.nD Cert.RwkvNextReferenceIdeal.τ).loc Cert.RwkvNextReferenceIdeal.main_arg9)
        ∧ r.2.mem ((c.tc : Thread Cert.RwkvNextReferenceIdeal.nD Cert.RwkvNextReferenceIdeal.τ).loc Cert.RwkvNextReferenceIdeal.main_arg10)
          = m ((c.tc : Thread Cert.RwkvNextReferenceIdeal.nD Cert.RwkvNextReferenceIdeal.τ).loc Cert.RwkvNextReferenceIdeal.main_arg10)
        ∧ r.2.mem ((c.tc : Thread Cert.RwkvNextReferenceIdeal.nD Cert.RwkvNextReferenceIdeal.τ).loc Cert.RwkvNextReferenceIdeal.main_arg11)
          = m ((c.tc : Thread Cert.RwkvNextReferenceIdeal.nD Cert.RwkvNextReferenceIdeal.τ).loc Cert.RwkvNextReferenceIdeal.main_arg11)
        ∧ r.2.mem ((c.tc : Thread Cert.RwkvNextReferenceIdeal.nD Cert.RwkvNextReferenceIdeal.τ).loc Cert.RwkvNextReferenceIdeal.main_arg12)
          = m ((c.tc : Thread Cert.RwkvNextReferenceIdeal.nD Cert.RwkvNextReferenceIdeal.τ).loc Cert.RwkvNextReferenceIdeal.main_arg12))
        ∧ r.2.sem = fun _ => 0) :=
  (θ_run _ _ _).mono
    (fun r h => And.intro (fun c => (h c).2.2.2.2.2.2.2.2) (sem_eq_zero_of_no_sems (by decide) r.2))
    (Cert.RwkvNextReferenceIdeal.Value.run (F := Ideal) m g)

/-- The reference of the attention output projection likewise. -/
theorem mla_out_reference_frame (m : (ℓ : Loc Cert.MlaOutReferenceIdeal.nD Cert.MlaOutReferenceIdeal.τ Cert.MlaOutReferenceIdeal.sig) → Buf (Elt Ideal) ℓ)
    (g : Dev Cert.MlaOutReferenceIdeal.nD → PrngReg) :
    θ_run (Cert.MlaOutReferenceIdeal.defs (F := Ideal))
      (onTc (τ := Cert.MlaOutReferenceIdeal.τ) (Cert.MlaOutReferenceIdeal.main (F := Ideal))) ⟨m, fun _ => 0, g⟩
      (fun r => (∀ c : Dev Cert.MlaOutReferenceIdeal.nD,
        r.2.mem ((c.tc : Thread Cert.MlaOutReferenceIdeal.nD Cert.MlaOutReferenceIdeal.τ).loc Cert.MlaOutReferenceIdeal.main_arg0)
          = m ((c.tc : Thread Cert.MlaOutReferenceIdeal.nD Cert.MlaOutReferenceIdeal.τ).loc Cert.MlaOutReferenceIdeal.main_arg0)
        ∧ r.2.mem ((c.tc : Thread Cert.MlaOutReferenceIdeal.nD Cert.MlaOutReferenceIdeal.τ).loc Cert.MlaOutReferenceIdeal.main_arg1)
          = m ((c.tc : Thread Cert.MlaOutReferenceIdeal.nD Cert.MlaOutReferenceIdeal.τ).loc Cert.MlaOutReferenceIdeal.main_arg1)
        ∧ r.2.mem ((c.tc : Thread Cert.MlaOutReferenceIdeal.nD Cert.MlaOutReferenceIdeal.τ).loc Cert.MlaOutReferenceIdeal.main_arg2)
          = m ((c.tc : Thread Cert.MlaOutReferenceIdeal.nD Cert.MlaOutReferenceIdeal.τ).loc Cert.MlaOutReferenceIdeal.main_arg2)
        ∧ r.2.mem ((c.tc : Thread Cert.MlaOutReferenceIdeal.nD Cert.MlaOutReferenceIdeal.τ).loc Cert.MlaOutReferenceIdeal.main_arg3)
          = m ((c.tc : Thread Cert.MlaOutReferenceIdeal.nD Cert.MlaOutReferenceIdeal.τ).loc Cert.MlaOutReferenceIdeal.main_arg3)
        ∧ r.2.mem ((c.tc : Thread Cert.MlaOutReferenceIdeal.nD Cert.MlaOutReferenceIdeal.τ).loc Cert.MlaOutReferenceIdeal.main_arg4)
          = m ((c.tc : Thread Cert.MlaOutReferenceIdeal.nD Cert.MlaOutReferenceIdeal.τ).loc Cert.MlaOutReferenceIdeal.main_arg4))
        ∧ r.2.sem = fun _ => 0) :=
  (θ_run _ _ _).mono
    (fun r h => And.intro (fun c => (h c).2) (sem_eq_zero_of_no_sems (by decide) r.2))
    (Cert.MlaOutReferenceIdeal.Value.run (F := Ideal) m g)

/-- Everything claimed, of each call: the runs of the kernel, of its ideal form and of the reference, that the ideal form is
    the kernel's own text, and that it computes the reference's results. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.RwkvOut.Gen.facts, Cert.RwkvOutIdeal.Gen.facts, Cert.RwkvOutReferenceIdeal.Gen.facts,
    Cert.GdnOut.Gen.facts, Cert.GdnOutIdeal.Gen.facts, Cert.GdnOutReferenceIdeal.Gen.facts,
    Cert.GdnProj.Gen.facts, Cert.GdnProjIdeal.Gen.facts, Cert.GdnProjReferenceIdeal.Gen.facts,
    Cert.RwkvFirst.Gen.facts, Cert.RwkvFirstIdeal.Gen.facts, Cert.RwkvFirstReferenceIdeal.Gen.facts,
    Cert.RwkvNext.Gen.facts, Cert.RwkvNextIdeal.Gen.facts, Cert.RwkvNextReferenceIdeal.Gen.facts,
    Cert.MlaOut.Gen.facts, Cert.MlaOutIdeal.Gen.facts, Cert.MlaOutReferenceIdeal.Gen.facts,
    Cert.KernelIdeal.Attend.pre_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.Ffn.Gen.frame m ρ,
    fun m ρ _ => Cert.FfnIdeal.Gen.frame m ρ,
    fun m ρ _ => ffn_reference_frame m ρ,
    fun m ρ _ => Cert.RwkvOut.Gen.frame m ρ,
    fun m ρ _ => Cert.RwkvOutIdeal.Gen.frame m ρ,
    fun m ρ _ => rwkv_out_reference_frame m ρ,
    fun m ρ _ => Cert.GdnOut.Gen.frame m ρ,
    fun m ρ _ => Cert.GdnOutIdeal.Gen.frame m ρ,
    fun m ρ _ => gdn_out_reference_frame m ρ,
    fun m ρ _ => Cert.GdnProj.Gen.frame m ρ,
    fun m ρ _ => Cert.GdnProjIdeal.Gen.frame m ρ,
    fun m ρ _ => gdn_proj_reference_frame m ρ,
    fun m ρ _ => Cert.RwkvFirst.Gen.frame m ρ,
    fun m ρ _ => Cert.RwkvFirstIdeal.Gen.frame m ρ,
    fun m ρ _ => rwkv_first_reference_frame m ρ,
    fun m ρ _ => Cert.RwkvNext.Gen.frame m ρ,
    fun m ρ _ => Cert.RwkvNextIdeal.Gen.frame m ρ,
    fun m ρ _ => rwkv_next_reference_frame m ρ,
    fun m ρ _ => Cert.MlaOut.Gen.frame m ρ,
    fun m ρ _ => Cert.MlaOutIdeal.Gen.frame m ρ,
    fun m ρ _ => mla_out_reference_frame m ρ,
    trivial,
    Cert.KernelIdeal.Attend.algebraic,
    trivial,
    Cert.FfnIdeal.Ffn.algebraic,
    trivial,
    Cert.RwkvOutIdeal.Out.algebraic,
    trivial,
    Cert.GdnOutIdeal.Out.algebraic,
    trivial,
    Cert.GdnProjIdeal.Proj.algebraic,
    trivial,
    Cert.RwkvFirstIdeal.Proj.algebraic,
    trivial,
    Cert.RwkvNextIdeal.Proj.algebraic,
    trivial,
    Cert.MlaOutIdeal.Out.algebraic⟩

end Cert.Proof

end
